-- ==== Defs.lean ====
def Pre_ResBwd (m : (ℓ : Loc Cert.ResBwd.nD Cert.ResBwd.τ Cert.ResBwd.sig) → Buf (Elt Bits) ℓ) : Prop :=
  True

def Pre_ResBwdIdeal (m : (ℓ : Loc Cert.ResBwdIdeal.nD Cert.ResBwdIdeal.τ Cert.ResBwdIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).1 = (fun _ => 1#1)
    ∧ (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1))).2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).1 = (fun _ => 1#1)
    ∧ (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1))).2 = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_OutN (m : (ℓ : Loc Cert.OutN.nD Cert.OutN.τ Cert.OutN.sig) → Buf (Elt Bits) ℓ) : Prop :=
  True

def Pre_OutNIdeal (m : (ℓ : Loc Cert.OutNIdeal.nD Cert.OutNIdeal.τ Cert.OutNIdeal.sig) → Buf (Elt Ideal) ℓ) : Prop :=
  True

def Pre_OutNRefIdeal (m : (ℓ : Loc Cert.OutNRefIdeal.nD Cert.OutNRefIdeal.τ Cert.OutNRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpRefIdeal (m : (ℓ : Loc Cert.FfUpRefIdeal.nD Cert.FfUpRefIdeal.τ Cert.FfUpRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2.2.2.2.1 = (fun _ => 1#1)
    ∧ (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2.2.2.2.2 = (fun _ => 1#1)

def Pre_FoxPre (m : (ℓ : Loc Cert.FoxPre.nD Cert.FoxPre.τ Cert.FoxPre.sig) → Buf (Elt Bits) ℓ) : Prop :=
  True

def Pre_FoxPreIdeal (m : (ℓ : Loc Cert.FoxPreIdeal.nD Cert.FoxPreIdeal.τ Cert.FoxPreIdeal.sig) → Buf (Elt Ideal) ℓ) : Prop :=
  True

def Pre_FoxPreIdeal_pre_finite [hPre_pre_finite : Cert.Pre_pre_finite.Facts] (m : (ℓ : Loc Cert.FoxPreIdeal.nD Cert.FoxPreIdeal.τ Cert.FoxPreIdeal.sig) → Buf (Elt Ideal) ℓ) : Prop :=
  ∀ c : Dev Cert.FoxPreIdeal.nD,
    (Cert.Pre_pre_finite.fn (F := Ideal) (m ((c.tc : Thread Cert.FoxPreIdeal.nD Cert.FoxPreIdeal.τ).loc Cert.FoxPreIdeal.main_arg0)) (m ((c.tc : Thread Cert.FoxPreIdeal.nD Cert.FoxPreIdeal.τ).loc Cert.FoxPreIdeal.main_arg1)) (m ((c.tc : Thread Cert.FoxPreIdeal.nD Cert.FoxPreIdeal.τ).loc Cert.FoxPreIdeal.main_arg2))).1 = (fun _ => 1#1)
    ∧ (Cert.Pre_pre_finite.fn (F := Ideal) (m ((c.tc : Thread Cert.FoxPreIdeal.nD Cert.FoxPreIdeal.τ).loc Cert.FoxPreIdeal.main_arg0)) (m ((c.tc : Thread Cert.FoxPreIdeal.nD Cert.FoxPreIdeal.τ).loc Cert.FoxPreIdeal.main_arg1)) (m ((c.tc : Thread Cert.FoxPreIdeal.nD Cert.FoxPreIdeal.τ).loc Cert.FoxPreIdeal.main_arg2))).2 = (fun _ => 1#1)

def Pre_FoxPreRefIdeal (m : (ℓ : Loc Cert.FoxPreRefIdeal.nD Cert.FoxPreRefIdeal.τ Cert.FoxPreRefIdeal.sig) → Buf (Elt Ideal) ℓ) : Prop :=
  True

def Pre_FoxPreRefIdeal_pre_finite [hPre_pre_finite : Cert.Pre_pre_finite.Facts] (m : (ℓ : Loc Cert.FoxPreRefIdeal.nD Cert.FoxPreRefIdeal.τ Cert.FoxPreRefIdeal.sig) → Buf (Elt Ideal) ℓ) : Prop :=
  ∀ c : Dev Cert.FoxPreRefIdeal.nD,
    (Cert.Pre_pre_finite.fn (F := Ideal) (m ((c.tc : Thread Cert.FoxPreRefIdeal.nD Cert.FoxPreRefIdeal.τ).loc Cert.FoxPreRefIdeal.main_arg0)) (m ((c.tc : Thread Cert.FoxPreRefIdeal.nD Cert.FoxPreRefIdeal.τ).loc Cert.FoxPreRefIdeal.main_arg1)) (m ((c.tc : Thread Cert.FoxPreRefIdeal.nD Cert.FoxPreRefIdeal.τ).loc Cert.FoxPreRefIdeal.main_arg2))).1 = (fun _ => 1#1)
    ∧ (Cert.Pre_pre_finite.fn (F := Ideal) (m ((c.tc : Thread Cert.FoxPreRefIdeal.nD Cert.FoxPreRefIdeal.τ).loc Cert.FoxPreRefIdeal.main_arg0)) (m ((c.tc : Thread Cert.FoxPreRefIdeal.nD Cert.FoxPreRefIdeal.τ).loc Cert.FoxPreRefIdeal.main_arg1)) (m ((c.tc : Thread Cert.FoxPreRefIdeal.nD Cert.FoxPreRefIdeal.τ).loc Cert.FoxPreRefIdeal.main_arg2))).2 = (fun _ => 1#1)

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormRefIdeal (m : (ℓ : Loc Cert.OutNormRefIdeal.nD Cert.OutNormRefIdeal.τ Cert.OutNormRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownRefIdeal (m : (ℓ : Loc Cert.FfDownRefIdeal.nD Cert.FfDownRefIdeal.τ Cert.FfDownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def Pre_Dwup (m : (ℓ : Loc Cert.Dwup.nD Cert.Dwup.τ Cert.Dwup.sig) → Buf (Elt Bits) ℓ) : Prop :=
  True

def Pre_DwupIdeal (m : (ℓ : Loc Cert.DwupIdeal.nD Cert.DwupIdeal.τ Cert.DwupIdeal.sig) → Buf (Elt Ideal) ℓ) : Prop :=
  True

def Pre_DwupRefIdeal (m : (ℓ : Loc Cert.DwupRefIdeal.nD Cert.DwupRefIdeal.τ Cert.DwupRefIdeal.sig) → Buf (Elt Ideal) ℓ) : Prop :=
  True

def quiescent_ResBwd [hResBwd : Cert.ResBwd.Facts] : Prop :=
  ∀ (m : (ℓ : Loc Cert.ResBwd.nD Cert.ResBwd.τ Cert.ResBwd.sig) → Buf (Elt Bits) ℓ) (g : Dev Cert.ResBwd.nD → PrngReg), Pre_ResBwd m →
    θ_run (Cert.ResBwd.defs (F := Bits)) (onTc (τ := Cert.ResBwd.τ) (Cert.ResBwd.main (F := Bits))) ⟨m, fun _ => 0, g⟩ (fun r => (∀ c : Dev Cert.ResBwd.nD,
      r.2.mem ((c.tc : Thread Cert.ResBwd.nD Cert.ResBwd.τ).loc Cert.ResBwd.main_arg0) = m ((c.tc : Thread Cert.ResBwd.nD Cert.ResBwd.τ).loc Cert.ResBwd.main_arg0)
      ∧ r.2.mem ((c.tc : Thread Cert.ResBwd.nD Cert.ResBwd.τ).loc Cert.ResBwd.main_arg1) = m ((c.tc : Thread Cert.ResBwd.nD Cert.ResBwd.τ).loc Cert.ResBwd.main_arg1)
      ∧ r.2.mem ((c.tc : Thread Cert.ResBwd.nD Cert.ResBwd.τ).loc Cert.ResBwd.main_arg2) = m ((c.tc : Thread Cert.ResBwd.nD Cert.ResBwd.τ).loc Cert.ResBwd.main_arg2))
      ∧ r.2.sem = fun _ => 0)

def quiescent_ResBwdIdeal [hResBwdIdeal : Cert.ResBwdIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg), Pre_ResBwdIdeal m →
    θ_run (Cert.ResBwdIdeal.defs (F := Ideal)) (onTc (τ := Cert.ResBwdIdeal.τ) (Cert.ResBwdIdeal.main (F := Ideal))) ⟨m, fun _ => 0, g⟩ (fun r => (∀ c : Dev Cert.ResBwdIdeal.nD,
      r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
      ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
      ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1))
      ∧ r.2.sem = fun _ => 0)

def quiescent_OutN [hOutN : Cert.OutN.Facts] : Prop :=
  ∀ (m : (ℓ : Loc Cert.OutN.nD Cert.OutN.τ Cert.OutN.sig) → Buf (Elt Bits) ℓ) (g : Dev Cert.OutN.nD → PrngReg), Pre_OutN m →
    θ_run (Cert.OutN.defs (F := Bits)) (onTc (τ := Cert.OutN.τ) (Cert.OutN.main (F := Bits))) ⟨m, fun _ => 0, g⟩ (fun r => (∀ c : Dev Cert.OutN.nD,
      r.2.mem ((c.tc : Thread Cert.OutN.nD Cert.OutN.τ).loc Cert.OutN.main_arg0) = m ((c.tc : Thread Cert.OutN.nD Cert.OutN.τ).loc Cert.OutN.main_arg0)
      ∧ r.2.mem ((c.tc : Thread Cert.OutN.nD Cert.OutN.τ).loc Cert.OutN.main_arg1) = m ((c.tc : Thread Cert.OutN.nD Cert.OutN.τ).loc Cert.OutN.main_arg1)
      ∧ r.2.mem ((c.tc : Thread Cert.OutN.nD Cert.OutN.τ).loc Cert.OutN.main_arg2) = m ((c.tc : Thread Cert.OutN.nD Cert.OutN.τ).loc Cert.OutN.main_arg2)
      ∧ r.2.mem ((c.tc : Thread Cert.OutN.nD Cert.OutN.τ).loc Cert.OutN.main_arg3) = m ((c.tc : Thread Cert.OutN.nD Cert.OutN.τ).loc Cert.OutN.main_arg3)
      ∧ r.2.mem ((c.tc : Thread Cert.OutN.nD Cert.OutN.τ).loc Cert.OutN.main_arg4) = m ((c.tc : Thread Cert.OutN.nD Cert.OutN.τ).loc Cert.OutN.main_arg4)
      ∧ r.2.mem ((c.tc : Thread Cert.OutN.nD Cert.OutN.τ).loc Cert.OutN.main_arg5) = m ((c.tc : Thread Cert.OutN.nD Cert.OutN.τ).loc Cert.OutN.main_arg5))
      ∧ r.2.sem = fun _ => 0)

def quiescent_OutNIdeal [hOutNIdeal : Cert.OutNIdeal.Facts] : Prop :=
  ∀ (m : (ℓ : Loc Cert.OutNIdeal.nD Cert.OutNIdeal.τ Cert.OutNIdeal.sig) → Buf (Elt Ideal) ℓ) (g : Dev Cert.OutNIdeal.nD → PrngReg), Pre_OutNIdeal m →
    θ_run (Cert.OutNIdeal.defs (F := Ideal)) (onTc (τ := Cert.OutNIdeal.τ) (Cert.OutNIdeal.main (F := Ideal))) ⟨m, fun _ => 0, g⟩ (fun r => (∀ c : Dev Cert.OutNIdeal.nD,
      r.2.mem ((c.tc : Thread Cert.OutNIdeal.nD Cert.OutNIdeal.τ).loc Cert.OutNIdeal.main_arg0) = m ((c.tc : Thread Cert.OutNIdeal.nD Cert.OutNIdeal.τ).loc Cert.OutNIdeal.main_arg0)
      ∧ r.2.mem ((c.tc : Thread Cert.OutNIdeal.nD Cert.OutNIdeal.τ).loc Cert.OutNIdeal.main_arg1) = m ((c.tc : Thread Cert.OutNIdeal.nD Cert.OutNIdeal.τ).loc Cert.OutNIdeal.main_arg1)
      ∧ r.2.mem ((c.tc : Thread Cert.OutNIdeal.nD Cert.OutNIdeal.τ).loc Cert.OutNIdeal.main_arg2) = m ((c.tc : Thread Cert.OutNIdeal.nD Cert.OutNIdeal.τ).loc Cert.OutNIdeal.main_arg2)
      ∧ r.2.mem ((c.tc : Thread Cert.OutNIdeal.nD Cert.OutNIdeal.τ).loc Cert.OutNIdeal.main_arg3) = m ((c.tc : Thread Cert.OutNIdeal.nD Cert.OutNIdeal.τ).loc Cert.OutNIdeal.main_arg3)
      ∧ r.2.mem ((c.tc : Thread Cert.OutNIdeal.nD Cert.OutNIdeal.τ).loc Cert.OutNIdeal.main_arg4) = m ((c.tc : Thread Cert.OutNIdeal.nD Cert.OutNIdeal.τ).loc Cert.OutNIdeal.main_arg4)
      ∧ r.2.mem ((c.tc : Thread Cert.OutNIdeal.nD Cert.OutNIdeal.τ).loc Cert.OutNIdeal.main_arg5) = m ((c.tc : Thread Cert.OutNIdeal.nD Cert.OutNIdeal.τ).loc Cert.OutNIdeal.main_arg5))
      ∧ r.2.sem = fun _ => 0)

def quiescent_OutNRefIdeal [hOutNRefIdeal : Cert.OutNRefIdeal.Facts] : Prop :=
  ∀ (m : (ℓ : Loc Cert.OutNRefIdeal.nD Cert.OutNRefIdeal.τ Cert.OutNRefIdeal.sig) → Buf (Elt Ideal) ℓ) (g : Dev Cert.OutNRefIdeal.nD → PrngReg), Pre_OutNRefIdeal m →
    θ_run (Cert.OutNRefIdeal.defs (F := Ideal)) (onTc (τ := Cert.OutNRefIdeal.τ) (Cert.OutNRefIdeal.main (F := Ideal))) ⟨m, fun _ => 0, g⟩ (fun r => (∀ c : Dev Cert.OutNRefIdeal.nD,
      r.2.mem ((c.tc : Thread Cert.OutNRefIdeal.nD Cert.OutNRefIdeal.τ).loc Cert.OutNRefIdeal.main_arg0) = m ((c.tc : Thread Cert.OutNRefIdeal.nD Cert.OutNRefIdeal.τ).loc Cert.OutNRefIdeal.main_arg0)
      ∧ r.2.mem ((c.tc : Thread Cert.OutNRefIdeal.nD Cert.OutNRefIdeal.τ).loc Cert.OutNRefIdeal.main_arg1) = m ((c.tc : Thread Cert.OutNRefIdeal.nD Cert.OutNRefIdeal.τ).loc Cert.OutNRefIdeal.main_arg1)
      ∧ r.2.mem ((c.tc : Thread Cert.OutNRefIdeal.nD Cert.OutNRefIdeal.τ).loc Cert.OutNRefIdeal.main_arg2) = m ((c.tc : Thread Cert.OutNRefIdeal.nD Cert.OutNRefIdeal.τ).loc Cert.OutNRefIdeal.main_arg2)
      ∧ r.2.mem ((c.tc : Thread Cert.OutNRefIdeal.nD Cert.OutNRefIdeal.τ).loc Cert.OutNRefIdeal.main_arg3) = m ((c.tc : Thread Cert.OutNRefIdeal.nD Cert.OutNRefIdeal.τ).loc Cert.OutNRefIdeal.main_arg3)
      ∧ r.2.mem ((c.tc : Thread Cert.OutNRefIdeal.nD Cert.OutNRefIdeal.τ).loc Cert.OutNRefIdeal.main_arg4) = m ((c.tc : Thread Cert.OutNRefIdeal.nD Cert.OutNRefIdeal.τ).loc Cert.OutNRefIdeal.main_arg4)
      ∧ r.2.mem ((c.tc : Thread Cert.OutNRefIdeal.nD Cert.OutNRefIdeal.τ).loc Cert.OutNRefIdeal.main_arg5) = m ((c.tc : Thread Cert.OutNRefIdeal.nD Cert.OutNRefIdeal.τ).loc Cert.OutNRefIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2)
      ∧ r.2.mem ((c.tc : Thread Cert.FfUp.nD Cert.FfUp.τ).loc Cert.FfUp.main_arg3) = m ((c.tc : Thread Cert.FfUp.nD Cert.FfUp.τ).loc Cert.FfUp.main_arg3)
      ∧ r.2.mem ((c.tc : Thread Cert.FfUp.nD Cert.FfUp.τ).loc Cert.FfUp.main_arg4) = m ((c.tc : Thread Cert.FfUp.nD Cert.FfUp.τ).loc Cert.FfUp.main_arg4)
      ∧ r.2.mem ((c.tc : Thread Cert.FfUp.nD Cert.FfUp.τ).loc Cert.FfUp.main_arg5) = m ((c.tc : Thread Cert.FfUp.nD Cert.FfUp.τ).loc Cert.FfUp.main_arg5))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
      ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3)
      ∧ r.2.mem ((c.tc : Thread Cert.FfUpIdeal.nD Cert.FfUpIdeal.τ).loc Cert.FfUpIdeal.main_arg4) = m ((c.tc : Thread Cert.FfUpIdeal.nD Cert.FfUpIdeal.τ).loc Cert.FfUpIdeal.main_arg4)
      ∧ r.2.mem ((c.tc : Thread Cert.FfUpIdeal.nD Cert.FfUpIdeal.τ).loc Cert.FfUpIdeal.main_arg5) = m ((c.tc : Thread Cert.FfUpIdeal.nD Cert.FfUpIdeal.τ).loc Cert.FfUpIdeal.main_arg5))
      ∧ r.2.sem = fun _ => 0)

def quiescent_FfUpRefIdeal [hFfUpRefIdeal : Cert.FfUpRefIdeal.Facts] : Prop :=
  ∀ (m : (ℓ : Loc Cert.FfUpRefIdeal.nD Cert.FfUpRefIdeal.τ Cert.FfUpRefIdeal.sig) → Buf (Elt Ideal) ℓ) (g : Dev Cert.FfUpRefIdeal.nD → PrngReg), Pre_FfUpRefIdeal m →
    θ_run (Cert.FfUpRefIdeal.defs (F := Ideal)) (onTc (τ := Cert.FfUpRefIdeal.τ) (Cert.FfUpRefIdeal.main (F := Ideal))) ⟨m, fun _ => 0, g⟩ (fun r => (∀ c : Dev Cert.FfUpRefIdeal.nD,
      r.2.mem ((c.tc : Thread Cert.FfUpRefIdeal.nD Cert.FfUpRefIdeal.τ).loc Cert.FfUpRefIdeal.main_arg0) = m ((c.tc : Thread Cert.FfUpRefIdeal.nD Cert.FfUpRefIdeal.τ).loc Cert.FfUpRefIdeal.main_arg0)
      ∧ r.2.mem ((c.tc : Thread Cert.FfUpRefIdeal.nD Cert.FfUpRefIdeal.τ).loc Cert.FfUpRefIdeal.main_arg1) = m ((c.tc : Thread Cert.FfUpRefIdeal.nD Cert.FfUpRefIdeal.τ).loc Cert.FfUpRefIdeal.main_arg1)
      ∧ r.2.mem ((c.tc : Thread Cert.FfUpRefIdeal.nD Cert.FfUpRefIdeal.τ).loc Cert.FfUpRefIdeal.main_arg2) = m ((c.tc : Thread Cert.FfUpRefIdeal.nD Cert.FfUpRefIdeal.τ).loc Cert.FfUpRefIdeal.main_arg2)
      ∧ r.2.mem ((c.tc : Thread Cert.FfUpRefIdeal.nD Cert.FfUpRefIdeal.τ).loc Cert.FfUpRefIdeal.main_arg3) = m ((c.tc : Thread Cert.FfUpRefIdeal.nD Cert.FfUpRefIdeal.τ).loc Cert.FfUpRefIdeal.main_arg3)
      ∧ r.2.mem ((c.tc : Thread Cert.FfUpRefIdeal.nD Cert.FfUpRefIdeal.τ).loc Cert.FfUpRefIdeal.main_arg4) = m ((c.tc : Thread Cert.FfUpRefIdeal.nD Cert.FfUpRefIdeal.τ).loc Cert.FfUpRefIdeal.main_arg4)
      ∧ r.2.mem ((c.tc : Thread Cert.FfUpRefIdeal.nD Cert.FfUpRefIdeal.τ).loc Cert.FfUpRefIdeal.main_arg5) = m ((c.tc : Thread Cert.FfUpRefIdeal.nD Cert.FfUpRefIdeal.τ).loc Cert.FfUpRefIdeal.main_arg5))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_FoxPre [hFoxPre : Cert.FoxPre.Facts] : Prop :=
  ∀ (m : (ℓ : Loc Cert.FoxPre.nD Cert.FoxPre.τ Cert.FoxPre.sig) → Buf (Elt Bits) ℓ) (g : Dev Cert.FoxPre.nD → PrngReg), Pre_FoxPre m →
    θ_run (Cert.FoxPre.defs (F := Bits)) (onTc (τ := Cert.FoxPre.τ) (Cert.FoxPre.main (F := Bits))) ⟨m, fun _ => 0, g⟩ (fun r => (∀ c : Dev Cert.FoxPre.nD,
      r.2.mem ((c.tc : Thread Cert.FoxPre.nD Cert.FoxPre.τ).loc Cert.FoxPre.main_arg0) = m ((c.tc : Thread Cert.FoxPre.nD Cert.FoxPre.τ).loc Cert.FoxPre.main_arg0)
      ∧ r.2.mem ((c.tc : Thread Cert.FoxPre.nD Cert.FoxPre.τ).loc Cert.FoxPre.main_arg1) = m ((c.tc : Thread Cert.FoxPre.nD Cert.FoxPre.τ).loc Cert.FoxPre.main_arg1)
      ∧ r.2.mem ((c.tc : Thread Cert.FoxPre.nD Cert.FoxPre.τ).loc Cert.FoxPre.main_arg2) = m ((c.tc : Thread Cert.FoxPre.nD Cert.FoxPre.τ).loc Cert.FoxPre.main_arg2))
      ∧ r.2.sem = fun _ => 0)

def quiescent_FoxPreIdeal [hFoxPreIdeal : Cert.FoxPreIdeal.Facts] : Prop :=
  ∀ (m : (ℓ : Loc Cert.FoxPreIdeal.nD Cert.FoxPreIdeal.τ Cert.FoxPreIdeal.sig) → Buf (Elt Ideal) ℓ) (g : Dev Cert.FoxPreIdeal.nD → PrngReg), Pre_FoxPreIdeal m →
    θ_run (Cert.FoxPreIdeal.defs (F := Ideal)) (onTc (τ := Cert.FoxPreIdeal.τ) (Cert.FoxPreIdeal.main (F := Ideal))) ⟨m, fun _ => 0, g⟩ (fun r => (∀ c : Dev Cert.FoxPreIdeal.nD,
      r.2.mem ((c.tc : Thread Cert.FoxPreIdeal.nD Cert.FoxPreIdeal.τ).loc Cert.FoxPreIdeal.main_arg0) = m ((c.tc : Thread Cert.FoxPreIdeal.nD Cert.FoxPreIdeal.τ).loc Cert.FoxPreIdeal.main_arg0)
      ∧ r.2.mem ((c.tc : Thread Cert.FoxPreIdeal.nD Cert.FoxPreIdeal.τ).loc Cert.FoxPreIdeal.main_arg1) = m ((c.tc : Thread Cert.FoxPreIdeal.nD Cert.FoxPreIdeal.τ).loc Cert.FoxPreIdeal.main_arg1)
      ∧ r.2.mem ((c.tc : Thread Cert.FoxPreIdeal.nD Cert.FoxPreIdeal.τ).loc Cert.FoxPreIdeal.main_arg2) = m ((c.tc : Thread Cert.FoxPreIdeal.nD Cert.FoxPreIdeal.τ).loc Cert.FoxPreIdeal.main_arg2))
      ∧ r.2.sem = fun _ => 0)

def quiescent_FoxPreIdeal_pre_pre_finite [hFoxPreIdeal : Cert.FoxPreIdeal.Facts] [hPre_pre_finite : Cert.Pre_pre_finite.Facts] : Prop :=
  ∀ (m : (ℓ : Loc Cert.FoxPreIdeal.nD Cert.FoxPreIdeal.τ Cert.FoxPreIdeal.sig) → Buf (Elt Ideal) ℓ) (g : Dev Cert.FoxPreIdeal.nD → PrngReg), Pre_FoxPreIdeal_pre_finite m →
    θ_run (Cert.FoxPreIdeal.defs (F := Ideal)) (onTc (τ := Cert.FoxPreIdeal.τ) (Cert.FoxPreIdeal.main (F := Ideal))) ⟨m, fun _ => 0, g⟩ (fun r => (∀ c : Dev Cert.FoxPreIdeal.nD,
      r.2.mem ((c.tc : Thread Cert.FoxPreIdeal.nD Cert.FoxPreIdeal.τ).loc Cert.FoxPreIdeal.main_arg0) = m ((c.tc : Thread Cert.FoxPreIdeal.nD Cert.FoxPreIdeal.τ).loc Cert.FoxPreIdeal.main_arg0)
      ∧ r.2.mem ((c.tc : Thread Cert.FoxPreIdeal.nD Cert.FoxPreIdeal.τ).loc Cert.FoxPreIdeal.main_arg1) = m ((c.tc : Thread Cert.FoxPreIdeal.nD Cert.FoxPreIdeal.τ).loc Cert.FoxPreIdeal.main_arg1)
      ∧ r.2.mem ((c.tc : Thread Cert.FoxPreIdeal.nD Cert.FoxPreIdeal.τ).loc Cert.FoxPreIdeal.main_arg2) = m ((c.tc : Thread Cert.FoxPreIdeal.nD Cert.FoxPreIdeal.τ).loc Cert.FoxPreIdeal.main_arg2))
      ∧ r.2.sem = fun _ => 0)

def quiescent_FoxPreRefIdeal [hFoxPreRefIdeal : Cert.FoxPreRefIdeal.Facts] : Prop :=
  ∀ (m : (ℓ : Loc Cert.FoxPreRefIdeal.nD Cert.FoxPreRefIdeal.τ Cert.FoxPreRefIdeal.sig) → Buf (Elt Ideal) ℓ) (g : Dev Cert.FoxPreRefIdeal.nD → PrngReg), Pre_FoxPreRefIdeal m →
    θ_run (Cert.FoxPreRefIdeal.defs (F := Ideal)) (onTc (τ := Cert.FoxPreRefIdeal.τ) (Cert.FoxPreRefIdeal.main (F := Ideal))) ⟨m, fun _ => 0, g⟩ (fun r => (∀ c : Dev Cert.FoxPreRefIdeal.nD,
      r.2.mem ((c.tc : Thread Cert.FoxPreRefIdeal.nD Cert.FoxPreRefIdeal.τ).loc Cert.FoxPreRefIdeal.main_arg0) = m ((c.tc : Thread Cert.FoxPreRefIdeal.nD Cert.FoxPreRefIdeal.τ).loc Cert.FoxPreRefIdeal.main_arg0)
      ∧ r.2.mem ((c.tc : Thread Cert.FoxPreRefIdeal.nD Cert.FoxPreRefIdeal.τ).loc Cert.FoxPreRefIdeal.main_arg1) = m ((c.tc : Thread Cert.FoxPreRefIdeal.nD Cert.FoxPreRefIdeal.τ).loc Cert.FoxPreRefIdeal.main_arg1)
      ∧ r.2.mem ((c.tc : Thread Cert.FoxPreRefIdeal.nD Cert.FoxPreRefIdeal.τ).loc Cert.FoxPreRefIdeal.main_arg2) = m ((c.tc : Thread Cert.FoxPreRefIdeal.nD Cert.FoxPreRefIdeal.τ).loc Cert.FoxPreRefIdeal.main_arg2))
      ∧ r.2.sem = fun _ => 0)

def quiescent_FoxPreRefIdeal_pre_pre_finite [hFoxPreRefIdeal : Cert.FoxPreRefIdeal.Facts] [hPre_pre_finite : Cert.Pre_pre_finite.Facts] : Prop :=
  ∀ (m : (ℓ : Loc Cert.FoxPreRefIdeal.nD Cert.FoxPreRefIdeal.τ Cert.FoxPreRefIdeal.sig) → Buf (Elt Ideal) ℓ) (g : Dev Cert.FoxPreRefIdeal.nD → PrngReg), Pre_FoxPreRefIdeal_pre_finite m →
    θ_run (Cert.FoxPreRefIdeal.defs (F := Ideal)) (onTc (τ := Cert.FoxPreRefIdeal.τ) (Cert.FoxPreRefIdeal.main (F := Ideal))) ⟨m, fun _ => 0, g⟩ (fun r => (∀ c : Dev Cert.FoxPreRefIdeal.nD,
      r.2.mem ((c.tc : Thread Cert.FoxPreRefIdeal.nD Cert.FoxPreRefIdeal.τ).loc Cert.FoxPreRefIdeal.main_arg0) = m ((c.tc : Thread Cert.FoxPreRefIdeal.nD Cert.FoxPreRefIdeal.τ).loc Cert.FoxPreRefIdeal.main_arg0)
      ∧ r.2.mem ((c.tc : Thread Cert.FoxPreRefIdeal.nD Cert.FoxPreRefIdeal.τ).loc Cert.FoxPreRefIdeal.main_arg1) = m ((c.tc : Thread Cert.FoxPreRefIdeal.nD Cert.FoxPreRefIdeal.τ).loc Cert.FoxPreRefIdeal.main_arg1)
      ∧ r.2.mem ((c.tc : Thread Cert.FoxPreRefIdeal.nD Cert.FoxPreRefIdeal.τ).loc Cert.FoxPreRefIdeal.main_arg2) = m ((c.tc : Thread Cert.FoxPreRefIdeal.nD Cert.FoxPreRefIdeal.τ).loc Cert.FoxPreRefIdeal.main_arg2))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormRefIdeal [hOutNormRefIdeal : Cert.OutNormRefIdeal.Facts] : Prop :=
  ∀ (m : (ℓ : Loc Cert.OutNormRefIdeal.nD Cert.OutNormRefIdeal.τ Cert.OutNormRefIdeal.sig) → Buf (Elt Ideal) ℓ) (g : Dev Cert.OutNormRefIdeal.nD → PrngReg), Pre_OutNormRefIdeal m →
    θ_run (Cert.OutNormRefIdeal.defs (F := Ideal)) (onTc (τ := Cert.OutNormRefIdeal.τ) (Cert.OutNormRefIdeal.main (F := Ideal))) ⟨m, fun _ => 0, g⟩ (fun r => (∀ c : Dev Cert.OutNormRefIdeal.nD,
      r.2.mem ((c.tc : Thread Cert.OutNormRefIdeal.nD Cert.OutNormRefIdeal.τ).loc Cert.OutNormRefIdeal.main_arg0) = m ((c.tc : Thread Cert.OutNormRefIdeal.nD Cert.OutNormRefIdeal.τ).loc Cert.OutNormRefIdeal.main_arg0)
      ∧ r.2.mem ((c.tc : Thread Cert.OutNormRefIdeal.nD Cert.OutNormRefIdeal.τ).loc Cert.OutNormRefIdeal.main_arg1) = m ((c.tc : Thread Cert.OutNormRefIdeal.nD Cert.OutNormRefIdeal.τ).loc Cert.OutNormRefIdeal.main_arg1)
      ∧ r.2.mem ((c.tc : Thread Cert.OutNormRefIdeal.nD Cert.OutNormRefIdeal.τ).loc Cert.OutNormRefIdeal.main_arg2) = m ((c.tc : Thread Cert.OutNormRefIdeal.nD Cert.OutNormRefIdeal.τ).loc Cert.OutNormRefIdeal.main_arg2)
      ∧ r.2.mem ((c.tc : Thread Cert.OutNormRefIdeal.nD Cert.OutNormRefIdeal.τ).loc Cert.OutNormRefIdeal.main_arg3) = m ((c.tc : Thread Cert.OutNormRefIdeal.nD Cert.OutNormRefIdeal.τ).loc Cert.OutNormRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2)
      ∧ r.2.mem ((c.tc : Thread Cert.FfDown.nD Cert.FfDown.τ).loc Cert.FfDown.main_arg3) = m ((c.tc : Thread Cert.FfDown.nD Cert.FfDown.τ).loc Cert.FfDown.main_arg3)
      ∧ r.2.mem ((c.tc : Thread Cert.FfDown.nD Cert.FfDown.τ).loc Cert.FfDown.main_arg4) = m ((c.tc : Thread Cert.FfDown.nD Cert.FfDown.τ).loc Cert.FfDown.main_arg4)
      ∧ r.2.mem ((c.tc : Thread Cert.FfDown.nD Cert.FfDown.τ).loc Cert.FfDown.main_arg5) = m ((c.tc : Thread Cert.FfDown.nD Cert.FfDown.τ).loc Cert.FfDown.main_arg5)
      ∧ r.2.mem ((c.tc : Thread Cert.FfDown.nD Cert.FfDown.τ).loc Cert.FfDown.main_arg6) = m ((c.tc : Thread Cert.FfDown.nD Cert.FfDown.τ).loc Cert.FfDown.main_arg6))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
      ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3)
      ∧ r.2.mem ((c.tc : Thread Cert.FfDownIdeal.nD Cert.FfDownIdeal.τ).loc Cert.FfDownIdeal.main_arg4) = m ((c.tc : Thread Cert.FfDownIdeal.nD Cert.FfDownIdeal.τ).loc Cert.FfDownIdeal.main_arg4)
      ∧ r.2.mem ((c.tc : Thread Cert.FfDownIdeal.nD Cert.FfDownIdeal.τ).loc Cert.FfDownIdeal.main_arg5) = m ((c.tc : Thread Cert.FfDownIdeal.nD Cert.FfDownIdeal.τ).loc Cert.FfDownIdeal.main_arg5)
      ∧ r.2.mem ((c.tc : Thread Cert.FfDownIdeal.nD Cert.FfDownIdeal.τ).loc Cert.FfDownIdeal.main_arg6) = m ((c.tc : Thread Cert.FfDownIdeal.nD Cert.FfDownIdeal.τ).loc Cert.FfDownIdeal.main_arg6))
      ∧ r.2.sem = fun _ => 0)

def quiescent_FfDownRefIdeal [hFfDownRefIdeal : Cert.FfDownRefIdeal.Facts] : Prop :=
  ∀ (m : (ℓ : Loc Cert.FfDownRefIdeal.nD Cert.FfDownRefIdeal.τ Cert.FfDownRefIdeal.sig) → Buf (Elt Ideal) ℓ) (g : Dev Cert.FfDownRefIdeal.nD → PrngReg), Pre_FfDownRefIdeal m →
    θ_run (Cert.FfDownRefIdeal.defs (F := Ideal)) (onTc (τ := Cert.FfDownRefIdeal.τ) (Cert.FfDownRefIdeal.main (F := Ideal))) ⟨m, fun _ => 0, g⟩ (fun r => (∀ c : Dev Cert.FfDownRefIdeal.nD,
      r.2.mem ((c.tc : Thread Cert.FfDownRefIdeal.nD Cert.FfDownRefIdeal.τ).loc Cert.FfDownRefIdeal.main_arg0) = m ((c.tc : Thread Cert.FfDownRefIdeal.nD Cert.FfDownRefIdeal.τ).loc Cert.FfDownRefIdeal.main_arg0)
      ∧ r.2.mem ((c.tc : Thread Cert.FfDownRefIdeal.nD Cert.FfDownRefIdeal.τ).loc Cert.FfDownRefIdeal.main_arg1) = m ((c.tc : Thread Cert.FfDownRefIdeal.nD Cert.FfDownRefIdeal.τ).loc Cert.FfDownRefIdeal.main_arg1)
      ∧ r.2.mem ((c.tc : Thread Cert.FfDownRefIdeal.nD Cert.FfDownRefIdeal.τ).loc Cert.FfDownRefIdeal.main_arg2) = m ((c.tc : Thread Cert.FfDownRefIdeal.nD Cert.FfDownRefIdeal.τ).loc Cert.FfDownRefIdeal.main_arg2)
      ∧ r.2.mem ((c.tc : Thread Cert.FfDownRefIdeal.nD Cert.FfDownRefIdeal.τ).loc Cert.FfDownRefIdeal.main_arg3) = m ((c.tc : Thread Cert.FfDownRefIdeal.nD Cert.FfDownRefIdeal.τ).loc Cert.FfDownRefIdeal.main_arg3)
      ∧ r.2.mem ((c.tc : Thread Cert.FfDownRefIdeal.nD Cert.FfDownRefIdeal.τ).loc Cert.FfDownRefIdeal.main_arg4) = m ((c.tc : Thread Cert.FfDownRefIdeal.nD Cert.FfDownRefIdeal.τ).loc Cert.FfDownRefIdeal.main_arg4)
      ∧ r.2.mem ((c.tc : Thread Cert.FfDownRefIdeal.nD Cert.FfDownRefIdeal.τ).loc Cert.FfDownRefIdeal.main_arg5) = m ((c.tc : Thread Cert.FfDownRefIdeal.nD Cert.FfDownRefIdeal.τ).loc Cert.FfDownRefIdeal.main_arg5)
      ∧ r.2.mem ((c.tc : Thread Cert.FfDownRefIdeal.nD Cert.FfDownRefIdeal.τ).loc Cert.FfDownRefIdeal.main_arg6) = m ((c.tc : Thread Cert.FfDownRefIdeal.nD Cert.FfDownRefIdeal.τ).loc Cert.FfDownRefIdeal.main_arg6))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def quiescent_Dwup [hDwup : Cert.Dwup.Facts] : Prop :=
  ∀ (m : (ℓ : Loc Cert.Dwup.nD Cert.Dwup.τ Cert.Dwup.sig) → Buf (Elt Bits) ℓ) (g : Dev Cert.Dwup.nD → PrngReg), Pre_Dwup m →
    θ_run (Cert.Dwup.defs (F := Bits)) (onTc (τ := Cert.Dwup.τ) (Cert.Dwup.main (F := Bits))) ⟨m, fun _ => 0, g⟩ (fun r => (∀ c : Dev Cert.Dwup.nD,
      r.2.mem ((c.tc : Thread Cert.Dwup.nD Cert.Dwup.τ).loc Cert.Dwup.main_arg0) = m ((c.tc : Thread Cert.Dwup.nD Cert.Dwup.τ).loc Cert.Dwup.main_arg0)
      ∧ r.2.mem ((c.tc : Thread Cert.Dwup.nD Cert.Dwup.τ).loc Cert.Dwup.main_arg1) = m ((c.tc : Thread Cert.Dwup.nD Cert.Dwup.τ).loc Cert.Dwup.main_arg1))
      ∧ r.2.sem = fun _ => 0)

def quiescent_DwupIdeal [hDwupIdeal : Cert.DwupIdeal.Facts] : Prop :=
  ∀ (m : (ℓ : Loc Cert.DwupIdeal.nD Cert.DwupIdeal.τ Cert.DwupIdeal.sig) → Buf (Elt Ideal) ℓ) (g : Dev Cert.DwupIdeal.nD → PrngReg), Pre_DwupIdeal m →
    θ_run (Cert.DwupIdeal.defs (F := Ideal)) (onTc (τ := Cert.DwupIdeal.τ) (Cert.DwupIdeal.main (F := Ideal))) ⟨m, fun _ => 0, g⟩ (fun r => (∀ c : Dev Cert.DwupIdeal.nD,
      r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
      ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ r.2.sem = fun _ => 0)

def quiescent_DwupRefIdeal [hDwupRefIdeal : Cert.DwupRefIdeal.Facts] : Prop :=
  ∀ (m : (ℓ : Loc Cert.DwupRefIdeal.nD Cert.DwupRefIdeal.τ Cert.DwupRefIdeal.sig) → Buf (Elt Ideal) ℓ) (g : Dev Cert.DwupRefIdeal.nD → PrngReg), Pre_DwupRefIdeal m →
    θ_run (Cert.DwupRefIdeal.defs (F := Ideal)) (onTc (τ := Cert.DwupRefIdeal.τ) (Cert.DwupRefIdeal.main (F := Ideal))) ⟨m, fun _ => 0, g⟩ (fun r => (∀ c : Dev Cert.DwupRefIdeal.nD,
      r.2.mem ((c.tc : Thread Cert.DwupRefIdeal.nD Cert.DwupRefIdeal.τ).loc Cert.DwupRefIdeal.main_arg0) = m ((c.tc : Thread Cert.DwupRefIdeal.nD Cert.DwupRefIdeal.τ).loc Cert.DwupRefIdeal.main_arg0)
      ∧ r.2.mem ((c.tc : Thread Cert.DwupRefIdeal.nD Cert.DwupRefIdeal.τ).loc Cert.DwupRefIdeal.main_arg1) = m ((c.tc : Thread Cert.DwupRefIdeal.nD Cert.DwupRefIdeal.τ).loc Cert.DwupRefIdeal.main_arg1))
      ∧ r.2.sem = fun _ => 0)

def preserves_ResBwd_ResBwdIdeal : Prop :=
  True

def algebraic_ResBwdIdeal_ResRefIdeal [hResBwdIdeal : Cert.ResBwdIdeal.Facts] [hResRefIdeal : Cert.ResRefIdeal.Facts] : Prop :=
  ∀ (m : (ℓ : Loc Cert.ResBwdIdeal.nD Cert.ResBwdIdeal.τ Cert.ResBwdIdeal.sig) → Buf (Elt Ideal) ℓ) (g : Dev Cert.ResBwdIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResBwdIdeal m →
    (∀ c : Dev Cert.ResBwdIdeal.nD,
      m' ((c.tc : Thread Cert.ResRefIdeal.nD Cert.ResRefIdeal.τ).loc Cert.ResRefIdeal.main_arg0) = m ((c.tc : Thread Cert.ResBwdIdeal.nD Cert.ResBwdIdeal.τ).loc Cert.ResBwdIdeal.main_arg0)
      ∧ m' ((c.tc : Thread Cert.ResRefIdeal.nD Cert.ResRefIdeal.τ).loc Cert.ResRefIdeal.main_arg1) = m ((c.tc : Thread Cert.ResBwdIdeal.nD Cert.ResBwdIdeal.τ).loc Cert.ResBwdIdeal.main_arg1)
      ∧ m' ((c.tc : Thread Cert.ResRefIdeal.nD Cert.ResRefIdeal.τ).loc Cert.ResRefIdeal.main_arg2) = m ((c.tc : Thread Cert.ResBwdIdeal.nD Cert.ResBwdIdeal.τ).loc Cert.ResBwdIdeal.main_arg2)) →
    ∃ (v0 : (c : Dev Cert.ResBwdIdeal.nD) → Buf (Elt Ideal) ((c.tc : Thread Cert.ResBwdIdeal.nD Cert.ResBwdIdeal.τ).loc Cert.ResBwdIdeal.main_v1_0)) (v1 : (c : Dev Cert.ResBwdIdeal.nD) → Buf (Elt Ideal) ((c.tc : Thread Cert.ResBwdIdeal.nD Cert.ResBwdIdeal.τ).loc Cert.ResBwdIdeal.main_v5)),
      θ_run (Cert.ResBwdIdeal.defs (F := Ideal)) (onTc (τ := Cert.ResBwdIdeal.τ) (Cert.ResBwdIdeal.main (F := Ideal))) ⟨m, fun _ => 0, g⟩ (fun r => ∀ c : Dev Cert.ResBwdIdeal.nD,
          r.2.mem ((c.tc : Thread Cert.ResBwdIdeal.nD Cert.ResBwdIdeal.τ).loc Cert.ResBwdIdeal.main_v1_0) = v0 c
          ∧ r.2.mem ((c.tc : Thread Cert.ResBwdIdeal.nD Cert.ResBwdIdeal.τ).loc Cert.ResBwdIdeal.main_v5) = v1 c
          ∧ r.2.mem ((c.tc : Thread Cert.ResBwdIdeal.nD Cert.ResBwdIdeal.τ).loc Cert.ResBwdIdeal.main_arg0) = m ((c.tc : Thread Cert.ResBwdIdeal.nD Cert.ResBwdIdeal.τ).loc Cert.ResBwdIdeal.main_arg0)
          ∧ r.2.mem ((c.tc : Thread Cert.ResBwdIdeal.nD Cert.ResBwdIdeal.τ).loc Cert.ResBwdIdeal.main_arg1) = m ((c.tc : Thread Cert.ResBwdIdeal.nD Cert.ResBwdIdeal.τ).loc Cert.ResBwdIdeal.main_arg1)
          ∧ r.2.mem ((c.tc : Thread Cert.ResBwdIdeal.nD Cert.ResBwdIdeal.τ).loc Cert.ResBwdIdeal.main_arg2) = m ((c.tc : Thread Cert.ResBwdIdeal.nD Cert.ResBwdIdeal.τ).loc Cert.ResBwdIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v16) = v0 c
          ∧ r.2.mem ((c.tc : Thread Cert.ResRefIdeal.nD Cert.ResRefIdeal.τ).loc Cert.ResRefIdeal.main_v19) = v1 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_Sb_SbIdeal : Prop :=
  True

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)) →
    ∃ (v0 : (c : Dev Cert.SbIdeal.nD) → Buf (Elt Ideal) ((c.tc : Thread Cert.SbIdeal.nD Cert.SbIdeal.τ).loc Cert.SbIdeal.main_v2_0)) (v1 : (c : Dev Cert.SbIdeal.nD) → Buf (Elt Ideal) ((c.tc : Thread Cert.SbIdeal.nD Cert.SbIdeal.τ).loc Cert.SbIdeal.main_v4_0)) (v2 : (c : Dev Cert.SbIdeal.nD) → Buf (Elt Ideal) ((c.tc : Thread Cert.SbIdeal.nD Cert.SbIdeal.τ).loc Cert.SbIdeal.main_v4_1)) (v3 : (c : Dev Cert.SbIdeal.nD) → Buf (Elt Ideal) ((c.tc : Thread Cert.SbIdeal.nD Cert.SbIdeal.τ).loc Cert.SbIdeal.main_v4_2)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v2_0) = v0 c
          ∧ r.2.mem ((c.tc : Thread Cert.SbIdeal.nD Cert.SbIdeal.τ).loc Cert.SbIdeal.main_v4_0) = v1 c
          ∧ r.2.mem ((c.tc : Thread Cert.SbIdeal.nD Cert.SbIdeal.τ).loc Cert.SbIdeal.main_v4_1) = v2 c
          ∧ r.2.mem ((c.tc : Thread Cert.SbIdeal.nD Cert.SbIdeal.τ).loc Cert.SbIdeal.main_v4_2) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v55) = v0 c
          ∧ r.2.mem ((c.tc : Thread Cert.SbRefIdeal.nD Cert.SbRefIdeal.τ).loc Cert.SbRefIdeal.main_v56) = v1 c
          ∧ r.2.mem ((c.tc : Thread Cert.SbRefIdeal.nD Cert.SbRefIdeal.τ).loc Cert.SbRefIdeal.main_v52) = v2 c
          ∧ r.2.mem ((c.tc : Thread Cert.SbRefIdeal.nD Cert.SbRefIdeal.τ).loc Cert.SbRefIdeal.main_v50) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1))

def preserves_Fox_FoxIdeal : Prop :=
  IdealRules.named_const.Statement Cert.FoxIdeal.κ "no_key" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v11_0)) (v1 : (c : Dev Cert.FoxIdeal.nD) → Buf (Elt Ideal) ((c.tc : Thread Cert.FoxIdeal.nD Cert.FoxIdeal.τ).loc Cert.FoxIdeal.main_v13_0)) (v2 : (c : Dev Cert.FoxIdeal.nD) → Buf (Elt Ideal) ((c.tc : Thread Cert.FoxIdeal.nD Cert.FoxIdeal.τ).loc Cert.FoxIdeal.main_v13_1)) (v3 : (c : Dev Cert.FoxIdeal.nD) → Buf (Elt Ideal) ((c.tc : Thread Cert.FoxIdeal.nD Cert.FoxIdeal.τ).loc Cert.FoxIdeal.main_v13_2)) (v4 : (c : Dev Cert.FoxIdeal.nD) → Buf (Elt Ideal) ((c.tc : Thread Cert.FoxIdeal.nD Cert.FoxIdeal.τ).loc Cert.FoxIdeal.main_v22)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v11_0) = v0 c
          ∧ r.2.mem ((c.tc : Thread Cert.FoxIdeal.nD Cert.FoxIdeal.τ).loc Cert.FoxIdeal.main_v13_0) = v1 c
          ∧ r.2.mem ((c.tc : Thread Cert.FoxIdeal.nD Cert.FoxIdeal.τ).loc Cert.FoxIdeal.main_v13_1) = v2 c
          ∧ r.2.mem ((c.tc : Thread Cert.FoxIdeal.nD Cert.FoxIdeal.τ).loc Cert.FoxIdeal.main_v13_2) = v3 c
          ∧ r.2.mem ((c.tc : Thread Cert.FoxIdeal.nD Cert.FoxIdeal.τ).loc Cert.FoxIdeal.main_v22) = v4 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v92) = v0 c
          ∧ r.2.mem ((c.tc : Thread Cert.FoxRefIdeal.nD Cert.FoxRefIdeal.τ).loc Cert.FoxRefIdeal.main_v93) = v1 c
          ∧ r.2.mem ((c.tc : Thread Cert.FoxRefIdeal.nD Cert.FoxRefIdeal.τ).loc Cert.FoxRefIdeal.main_v89) = v2 c
          ∧ r.2.mem ((c.tc : Thread Cert.FoxRefIdeal.nD Cert.FoxRefIdeal.τ).loc Cert.FoxRefIdeal.main_v87) = v3 c
          ∧ r.2.mem ((c.tc : Thread Cert.FoxRefIdeal.nD Cert.FoxRefIdeal.τ).loc Cert.FoxRefIdeal.main_v95) = v4 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)) →
    ∃ (v0 : (c : Dev Cert.HeadIdeal.nD) → Buf (Elt Ideal) ((c.tc : Thread Cert.HeadIdeal.nD Cert.HeadIdeal.τ).loc Cert.HeadIdeal.main_v3)) (v1 : (c : Dev Cert.HeadIdeal.nD) → Buf (Elt Ideal) ((c.tc : Thread Cert.HeadIdeal.nD Cert.HeadIdeal.τ).loc Cert.HeadIdeal.main_v0_0)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v3) = v0 c
          ∧ r.2.mem ((c.tc : Thread Cert.HeadIdeal.nD Cert.HeadIdeal.τ).loc Cert.HeadIdeal.main_v0_0) = v1 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v8) = v0 c
          ∧ r.2.mem ((c.tc : Thread Cert.HeadRefIdeal.nD Cert.HeadRefIdeal.τ).loc Cert.HeadRefIdeal.main_v14) = v1 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1))

def preserves_OutN_OutNIdeal : Prop :=
  True

def algebraic_OutNIdeal_OutNRefIdeal [hOutNIdeal : Cert.OutNIdeal.Facts] [hOutNRefIdeal : Cert.OutNRefIdeal.Facts] : Prop :=
  ∀ (m : (ℓ : Loc Cert.OutNIdeal.nD Cert.OutNIdeal.τ Cert.OutNIdeal.sig) → Buf (Elt Ideal) ℓ) (g : Dev Cert.OutNIdeal.nD → PrngReg)
    (m' : (ℓ : Loc Cert.OutNRefIdeal.nD Cert.OutNRefIdeal.τ Cert.OutNRefIdeal.sig) → Buf (Elt Ideal) ℓ) (g' : Dev Cert.OutNRefIdeal.nD → PrngReg), Pre_OutNIdeal m →
    (∀ c : Dev Cert.OutNIdeal.nD,
      m' ((c.tc : Thread Cert.OutNRefIdeal.nD Cert.OutNRefIdeal.τ).loc Cert.OutNRefIdeal.main_arg0) = m ((c.tc : Thread Cert.OutNIdeal.nD Cert.OutNIdeal.τ).loc Cert.OutNIdeal.main_arg0)
      ∧ m' ((c.tc : Thread Cert.OutNRefIdeal.nD Cert.OutNRefIdeal.τ).loc Cert.OutNRefIdeal.main_arg1) = m ((c.tc : Thread Cert.OutNIdeal.nD Cert.OutNIdeal.τ).loc Cert.OutNIdeal.main_arg1)
      ∧ m' ((c.tc : Thread Cert.OutNRefIdeal.nD Cert.OutNRefIdeal.τ).loc Cert.OutNRefIdeal.main_arg2) = m ((c.tc : Thread Cert.OutNIdeal.nD Cert.OutNIdeal.τ).loc Cert.OutNIdeal.main_arg2)
      ∧ m' ((c.tc : Thread Cert.OutNRefIdeal.nD Cert.OutNRefIdeal.τ).loc Cert.OutNRefIdeal.main_arg3) = m ((c.tc : Thread Cert.OutNIdeal.nD Cert.OutNIdeal.τ).loc Cert.OutNIdeal.main_arg3)
      ∧ m' ((c.tc : Thread Cert.OutNRefIdeal.nD Cert.OutNRefIdeal.τ).loc Cert.OutNRefIdeal.main_arg4) = m ((c.tc : Thread Cert.OutNIdeal.nD Cert.OutNIdeal.τ).loc Cert.OutNIdeal.main_arg4)
      ∧ m' ((c.tc : Thread Cert.OutNRefIdeal.nD Cert.OutNRefIdeal.τ).loc Cert.OutNRefIdeal.main_arg5) = m ((c.tc : Thread Cert.OutNIdeal.nD Cert.OutNIdeal.τ).loc Cert.OutNIdeal.main_arg5)) →
    ∃ (v0 : (c : Dev Cert.OutNIdeal.nD) → Buf (Elt Ideal) ((c.tc : Thread Cert.OutNIdeal.nD Cert.OutNIdeal.τ).loc Cert.OutNIdeal.main_v2_0)) (v1 : (c : Dev Cert.OutNIdeal.nD) → Buf (Elt Ideal) ((c.tc : Thread Cert.OutNIdeal.nD Cert.OutNIdeal.τ).loc Cert.OutNIdeal.main_v2_1)) (v2 : (c : Dev Cert.OutNIdeal.nD) → Buf (Elt Ideal) ((c.tc : Thread Cert.OutNIdeal.nD Cert.OutNIdeal.τ).loc Cert.OutNIdeal.main_v2_2)) (v3 : (c : Dev Cert.OutNIdeal.nD) → Buf (Elt Ideal) ((c.tc : Thread Cert.OutNIdeal.nD Cert.OutNIdeal.τ).loc Cert.OutNIdeal.main_v5)),
      θ_run (Cert.OutNIdeal.defs (F := Ideal)) (onTc (τ := Cert.OutNIdeal.τ) (Cert.OutNIdeal.main (F := Ideal))) ⟨m, fun _ => 0, g⟩ (fun r => ∀ c : Dev Cert.OutNIdeal.nD,
          r.2.mem ((c.tc : Thread Cert.OutNIdeal.nD Cert.OutNIdeal.τ).loc Cert.OutNIdeal.main_v2_0) = v0 c
          ∧ r.2.mem ((c.tc : Thread Cert.OutNIdeal.nD Cert.OutNIdeal.τ).loc Cert.OutNIdeal.main_v2_1) = v1 c
          ∧ r.2.mem ((c.tc : Thread Cert.OutNIdeal.nD Cert.OutNIdeal.τ).loc Cert.OutNIdeal.main_v2_2) = v2 c
          ∧ r.2.mem ((c.tc : Thread Cert.OutNIdeal.nD Cert.OutNIdeal.τ).loc Cert.OutNIdeal.main_v5) = v3 c
          ∧ r.2.mem ((c.tc : Thread Cert.OutNIdeal.nD Cert.OutNIdeal.τ).loc Cert.OutNIdeal.main_arg0) = m ((c.tc : Thread Cert.OutNIdeal.nD Cert.OutNIdeal.τ).loc Cert.OutNIdeal.main_arg0)
          ∧ r.2.mem ((c.tc : Thread Cert.OutNIdeal.nD Cert.OutNIdeal.τ).loc Cert.OutNIdeal.main_arg1) = m ((c.tc : Thread Cert.OutNIdeal.nD Cert.OutNIdeal.τ).loc Cert.OutNIdeal.main_arg1)
          ∧ r.2.mem ((c.tc : Thread Cert.OutNIdeal.nD Cert.OutNIdeal.τ).loc Cert.OutNIdeal.main_arg2) = m ((c.tc : Thread Cert.OutNIdeal.nD Cert.OutNIdeal.τ).loc Cert.OutNIdeal.main_arg2)
          ∧ r.2.mem ((c.tc : Thread Cert.OutNIdeal.nD Cert.OutNIdeal.τ).loc Cert.OutNIdeal.main_arg3) = m ((c.tc : Thread Cert.OutNIdeal.nD Cert.OutNIdeal.τ).loc Cert.OutNIdeal.main_arg3)
          ∧ r.2.mem ((c.tc : Thread Cert.OutNIdeal.nD Cert.OutNIdeal.τ).loc Cert.OutNIdeal.main_arg4) = m ((c.tc : Thread Cert.OutNIdeal.nD Cert.OutNIdeal.τ).loc Cert.OutNIdeal.main_arg4)
          ∧ r.2.mem ((c.tc : Thread Cert.OutNIdeal.nD Cert.OutNIdeal.τ).loc Cert.OutNIdeal.main_arg5) = m ((c.tc : Thread Cert.OutNIdeal.nD Cert.OutNIdeal.τ).loc Cert.OutNIdeal.main_arg5))
      ∧ θ_run (Cert.OutNRefIdeal.defs (F := Ideal)) (onTc (τ := Cert.OutNRefIdeal.τ) (Cert.OutNRefIdeal.main (F := Ideal))) ⟨m', fun _ => 0, g'⟩ (fun r => ∀ c : Dev Cert.OutNRefIdeal.nD,
          r.2.mem ((c.tc : Thread Cert.OutNRefIdeal.nD Cert.OutNRefIdeal.τ).loc Cert.OutNRefIdeal.main_v96) = v0 c
          ∧ r.2.mem ((c.tc : Thread Cert.OutNRefIdeal.nD Cert.OutNRefIdeal.τ).loc Cert.OutNRefIdeal.main_v82) = v1 c
          ∧ r.2.mem ((c.tc : Thread Cert.OutNRefIdeal.nD Cert.OutNRefIdeal.τ).loc Cert.OutNRefIdeal.main_v68) = v2 c
          ∧ r.2.mem ((c.tc : Thread Cert.OutNRefIdeal.nD Cert.OutNRefIdeal.τ).loc Cert.OutNRefIdeal.main_v51) = v3 c
          ∧ r.2.mem ((c.tc : Thread Cert.OutNRefIdeal.nD Cert.OutNRefIdeal.τ).loc Cert.OutNRefIdeal.main_arg0) = m' ((c.tc : Thread Cert.OutNRefIdeal.nD Cert.OutNRefIdeal.τ).loc Cert.OutNRefIdeal.main_arg0)
          ∧ r.2.mem ((c.tc : Thread Cert.OutNRefIdeal.nD Cert.OutNRefIdeal.τ).loc Cert.OutNRefIdeal.main_arg1) = m' ((c.tc : Thread Cert.OutNRefIdeal.nD Cert.OutNRefIdeal.τ).loc Cert.OutNRefIdeal.main_arg1)
          ∧ r.2.mem ((c.tc : Thread Cert.OutNRefIdeal.nD Cert.OutNRefIdeal.τ).loc Cert.OutNRefIdeal.main_arg2) = m' ((c.tc : Thread Cert.OutNRefIdeal.nD Cert.OutNRefIdeal.τ).loc Cert.OutNRefIdeal.main_arg2)
          ∧ r.2.mem ((c.tc : Thread Cert.OutNRefIdeal.nD Cert.OutNRefIdeal.τ).loc Cert.OutNRefIdeal.main_arg3) = m' ((c.tc : Thread Cert.OutNRefIdeal.nD Cert.OutNRefIdeal.τ).loc Cert.OutNRefIdeal.main_arg3)
          ∧ r.2.mem ((c.tc : Thread Cert.OutNRefIdeal.nD Cert.OutNRefIdeal.τ).loc Cert.OutNRefIdeal.main_arg4) = m' ((c.tc : Thread Cert.OutNRefIdeal.nD Cert.OutNRefIdeal.τ).loc Cert.OutNRefIdeal.main_arg4)
          ∧ r.2.mem ((c.tc : Thread Cert.OutNRefIdeal.nD Cert.OutNRefIdeal.τ).loc Cert.OutNRefIdeal.main_arg5) = m' ((c.tc : Thread Cert.OutNRefIdeal.nD Cert.OutNRefIdeal.τ).loc Cert.OutNRefIdeal.main_arg5))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)) →
    ∃ (v0 : (c : Dev Cert.MixInIdeal.nD) → Buf (Elt Ideal) ((c.tc : Thread Cert.MixInIdeal.nD Cert.MixInIdeal.τ).loc Cert.MixInIdeal.main_v5_0)) (v1 : (c : Dev Cert.MixInIdeal.nD) → Buf (Elt Ideal) ((c.tc : Thread Cert.MixInIdeal.nD Cert.MixInIdeal.τ).loc Cert.MixInIdeal.main_v8)) (v2 : (c : Dev Cert.MixInIdeal.nD) → Buf (Elt Ideal) ((c.tc : Thread Cert.MixInIdeal.nD Cert.MixInIdeal.τ).loc Cert.MixInIdeal.main_v12)) (v3 : (c : Dev Cert.MixInIdeal.nD) → Buf (Elt Ideal) ((c.tc : Thread Cert.MixInIdeal.nD Cert.MixInIdeal.τ).loc Cert.MixInIdeal.main_v16)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v5_0) = v0 c
          ∧ r.2.mem ((c.tc : Thread Cert.MixInIdeal.nD Cert.MixInIdeal.τ).loc Cert.MixInIdeal.main_v8) = v1 c
          ∧ r.2.mem ((c.tc : Thread Cert.MixInIdeal.nD Cert.MixInIdeal.τ).loc Cert.MixInIdeal.main_v12) = v2 c
          ∧ r.2.mem ((c.tc : Thread Cert.MixInIdeal.nD Cert.MixInIdeal.τ).loc Cert.MixInIdeal.main_v16) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v61) = v0 c
          ∧ r.2.mem ((c.tc : Thread Cert.MixInRefIdeal.nD Cert.MixInRefIdeal.τ).loc Cert.MixInRefIdeal.main_v45) = v1 c
          ∧ r.2.mem ((c.tc : Thread Cert.MixInRefIdeal.nD Cert.MixInRefIdeal.τ).loc Cert.MixInRefIdeal.main_v39) = v2 c
          ∧ r.2.mem ((c.tc : Thread Cert.MixInRefIdeal.nD Cert.MixInRefIdeal.τ).loc Cert.MixInRefIdeal.main_v33) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5))

def preserves_FfUp_FfUpIdeal : Prop :=
  True

def algebraic_FfUpIdeal_FfUpRefIdeal [hFfUpIdeal : Cert.FfUpIdeal.Facts] [hFfUpRefIdeal : Cert.FfUpRefIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpRefIdeal.nD Cert.FfUpRefIdeal.τ Cert.FfUpRefIdeal.sig) → Buf (Elt Ideal) ℓ) (g' : Dev Cert.FfUpRefIdeal.nD → PrngReg), Pre_FfUpIdeal m →
    (∀ c : Dev Cert.FfUpIdeal.nD,
      m' ((c.tc : Thread Cert.FfUpRefIdeal.nD Cert.FfUpRefIdeal.τ).loc Cert.FfUpRefIdeal.main_arg0) = m ((c.tc : Thread Cert.FfUpIdeal.nD Cert.FfUpIdeal.τ).loc Cert.FfUpIdeal.main_arg0)
      ∧ m' ((c.tc : Thread Cert.FfUpRefIdeal.nD Cert.FfUpRefIdeal.τ).loc Cert.FfUpRefIdeal.main_arg1) = m ((c.tc : Thread Cert.FfUpIdeal.nD Cert.FfUpIdeal.τ).loc Cert.FfUpIdeal.main_arg1)
      ∧ m' ((c.tc : Thread Cert.FfUpRefIdeal.nD Cert.FfUpRefIdeal.τ).loc Cert.FfUpRefIdeal.main_arg2) = m ((c.tc : Thread Cert.FfUpIdeal.nD Cert.FfUpIdeal.τ).loc Cert.FfUpIdeal.main_arg2)
      ∧ m' ((c.tc : Thread Cert.FfUpRefIdeal.nD Cert.FfUpRefIdeal.τ).loc Cert.FfUpRefIdeal.main_arg3) = m ((c.tc : Thread Cert.FfUpIdeal.nD Cert.FfUpIdeal.τ).loc Cert.FfUpIdeal.main_arg3)
      ∧ m' ((c.tc : Thread Cert.FfUpRefIdeal.nD Cert.FfUpRefIdeal.τ).loc Cert.FfUpRefIdeal.main_arg4) = m ((c.tc : Thread Cert.FfUpIdeal.nD Cert.FfUpIdeal.τ).loc Cert.FfUpIdeal.main_arg4)
      ∧ m' ((c.tc : Thread Cert.FfUpRefIdeal.nD Cert.FfUpRefIdeal.τ).loc Cert.FfUpRefIdeal.main_arg5) = m ((c.tc : Thread Cert.FfUpIdeal.nD Cert.FfUpIdeal.τ).loc Cert.FfUpIdeal.main_arg5)) →
    ∃ (v0 : (c : Dev Cert.FfUpIdeal.nD) → Buf (Elt Ideal) ((c.tc : Thread Cert.FfUpIdeal.nD Cert.FfUpIdeal.τ).loc Cert.FfUpIdeal.main_v7_0)) (v1 : (c : Dev Cert.FfUpIdeal.nD) → Buf (Elt Ideal) ((c.tc : Thread Cert.FfUpIdeal.nD Cert.FfUpIdeal.τ).loc Cert.FfUpIdeal.main_v10)) (v2 : (c : Dev Cert.FfUpIdeal.nD) → Buf (Elt Ideal) ((c.tc : Thread Cert.FfUpIdeal.nD Cert.FfUpIdeal.τ).loc Cert.FfUpIdeal.main_v14)) (v3 : (c : Dev Cert.FfUpIdeal.nD) → Buf (Elt Ideal) ((c.tc : Thread Cert.FfUpIdeal.nD Cert.FfUpIdeal.τ).loc Cert.FfUpIdeal.main_v18)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v7_0) = v0 c
          ∧ r.2.mem ((c.tc : Thread Cert.FfUpIdeal.nD Cert.FfUpIdeal.τ).loc Cert.FfUpIdeal.main_v10) = v1 c
          ∧ r.2.mem ((c.tc : Thread Cert.FfUpIdeal.nD Cert.FfUpIdeal.τ).loc Cert.FfUpIdeal.main_v14) = v2 c
          ∧ r.2.mem ((c.tc : Thread Cert.FfUpIdeal.nD Cert.FfUpIdeal.τ).loc Cert.FfUpIdeal.main_v18) = v3 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2)
          ∧ r.2.mem ((c.tc : Thread Cert.FfUpIdeal.nD Cert.FfUpIdeal.τ).loc Cert.FfUpIdeal.main_arg3) = m ((c.tc : Thread Cert.FfUpIdeal.nD Cert.FfUpIdeal.τ).loc Cert.FfUpIdeal.main_arg3)
          ∧ r.2.mem ((c.tc : Thread Cert.FfUpIdeal.nD Cert.FfUpIdeal.τ).loc Cert.FfUpIdeal.main_arg4) = m ((c.tc : Thread Cert.FfUpIdeal.nD Cert.FfUpIdeal.τ).loc Cert.FfUpIdeal.main_arg4)
          ∧ r.2.mem ((c.tc : Thread Cert.FfUpIdeal.nD Cert.FfUpIdeal.τ).loc Cert.FfUpIdeal.main_arg5) = m ((c.tc : Thread Cert.FfUpIdeal.nD Cert.FfUpIdeal.τ).loc Cert.FfUpIdeal.main_arg5))
      ∧ θ_run (Cert.FfUpRefIdeal.defs (F := Ideal)) (onTc (τ := Cert.FfUpRefIdeal.τ) (Cert.FfUpRefIdeal.main (F := Ideal))) ⟨m', fun _ => 0, g'⟩ (fun r => ∀ c : Dev Cert.FfUpRefIdeal.nD,
          r.2.mem ((c.tc : Thread Cert.FfUpRefIdeal.nD Cert.FfUpRefIdeal.τ).loc Cert.FfUpRefIdeal.main_v61) = v0 c
          ∧ r.2.mem ((c.tc : Thread Cert.FfUpRefIdeal.nD Cert.FfUpRefIdeal.τ).loc Cert.FfUpRefIdeal.main_v45) = v1 c
          ∧ r.2.mem ((c.tc : Thread Cert.FfUpRefIdeal.nD Cert.FfUpRefIdeal.τ).loc Cert.FfUpRefIdeal.main_v39) = v2 c
          ∧ r.2.mem ((c.tc : Thread Cert.FfUpRefIdeal.nD Cert.FfUpRefIdeal.τ).loc Cert.FfUpRefIdeal.main_v33) = v3 c
          ∧ r.2.mem ((c.tc : Thread Cert.FfUpRefIdeal.nD Cert.FfUpRefIdeal.τ).loc Cert.FfUpRefIdeal.main_arg0) = m' ((c.tc : Thread Cert.FfUpRefIdeal.nD Cert.FfUpRefIdeal.τ).loc Cert.FfUpRefIdeal.main_arg0)
          ∧ r.2.mem ((c.tc : Thread Cert.FfUpRefIdeal.nD Cert.FfUpRefIdeal.τ).loc Cert.FfUpRefIdeal.main_arg1) = m' ((c.tc : Thread Cert.FfUpRefIdeal.nD Cert.FfUpRefIdeal.τ).loc Cert.FfUpRefIdeal.main_arg1)
          ∧ r.2.mem ((c.tc : Thread Cert.FfUpRefIdeal.nD Cert.FfUpRefIdeal.τ).loc Cert.FfUpRefIdeal.main_arg2) = m' ((c.tc : Thread Cert.FfUpRefIdeal.nD Cert.FfUpRefIdeal.τ).loc Cert.FfUpRefIdeal.main_arg2)
          ∧ r.2.mem ((c.tc : Thread Cert.FfUpRefIdeal.nD Cert.FfUpRefIdeal.τ).loc Cert.FfUpRefIdeal.main_arg3) = m' ((c.tc : Thread Cert.FfUpRefIdeal.nD Cert.FfUpRefIdeal.τ).loc Cert.FfUpRefIdeal.main_arg3)
          ∧ r.2.mem ((c.tc : Thread Cert.FfUpRefIdeal.nD Cert.FfUpRefIdeal.τ).loc Cert.FfUpRefIdeal.main_arg4) = m' ((c.tc : Thread Cert.FfUpRefIdeal.nD Cert.FfUpRefIdeal.τ).loc Cert.FfUpRefIdeal.main_arg4)
          ∧ r.2.mem ((c.tc : Thread Cert.FfUpRefIdeal.nD Cert.FfUpRefIdeal.τ).loc Cert.FfUpRefIdeal.main_arg5) = m' ((c.tc : Thread Cert.FfUpRefIdeal.nD Cert.FfUpRefIdeal.τ).loc Cert.FfUpRefIdeal.main_arg5))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v8)) (v1 : (c : Dev Cert.ActIdeal.nD) → Buf (Elt Ideal) ((c.tc : Thread Cert.ActIdeal.nD Cert.ActIdeal.τ).loc Cert.ActIdeal.main_v10)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v8) = v0 c
          ∧ r.2.mem ((c.tc : Thread Cert.ActIdeal.nD Cert.ActIdeal.τ).loc Cert.ActIdeal.main_v10) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v9) = v0 c
          ∧ r.2.mem ((c.tc : Thread Cert.ActRefIdeal.nD Cert.ActRefIdeal.τ).loc Cert.ActRefIdeal.main_v14) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v29_0)) (v1 : (c : Dev Cert.PostIdeal.nD) → Buf (Elt Ideal) ((c.tc : Thread Cert.PostIdeal.nD Cert.PostIdeal.τ).loc Cert.PostIdeal.main_v29_1)) (v2 : (c : Dev Cert.PostIdeal.nD) → Buf (Elt Ideal) ((c.tc : Thread Cert.PostIdeal.nD Cert.PostIdeal.τ).loc Cert.PostIdeal.main_v34)) (v3 : (c : Dev Cert.PostIdeal.nD) → Buf (Elt Ideal) ((c.tc : Thread Cert.PostIdeal.nD Cert.PostIdeal.τ).loc Cert.PostIdeal.main_v33)) (v4 : (c : Dev Cert.PostIdeal.nD) → Buf (Elt Ideal) ((c.tc : Thread Cert.PostIdeal.nD Cert.PostIdeal.τ).loc Cert.PostIdeal.main_v37)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v29_0) = v0 c
          ∧ r.2.mem ((c.tc : Thread Cert.PostIdeal.nD Cert.PostIdeal.τ).loc Cert.PostIdeal.main_v29_1) = v1 c
          ∧ r.2.mem ((c.tc : Thread Cert.PostIdeal.nD Cert.PostIdeal.τ).loc Cert.PostIdeal.main_v34) = v2 c
          ∧ r.2.mem ((c.tc : Thread Cert.PostIdeal.nD Cert.PostIdeal.τ).loc Cert.PostIdeal.main_v33) = v3 c
          ∧ r.2.mem ((c.tc : Thread Cert.PostIdeal.nD Cert.PostIdeal.τ).loc Cert.PostIdeal.main_v37) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v103) = v0 c
          ∧ r.2.mem ((c.tc : Thread Cert.PostRefIdeal.nD Cert.PostRefIdeal.τ).loc Cert.PostRefIdeal.main_v104) = v1 c
          ∧ r.2.mem ((c.tc : Thread Cert.PostRefIdeal.nD Cert.PostRefIdeal.τ).loc Cert.PostRefIdeal.main_v105) = v2 c
          ∧ r.2.mem ((c.tc : Thread Cert.PostRefIdeal.nD Cert.PostRefIdeal.τ).loc Cert.PostRefIdeal.main_v87) = v3 c
          ∧ r.2.mem ((c.tc : Thread Cert.PostRefIdeal.nD Cert.PostRefIdeal.τ).loc Cert.PostRefIdeal.main_v55) = v4 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_FoxPre_FoxPreIdeal : Prop :=
  True

def algebraic_FoxPreIdeal_FoxPreRefIdeal_pre_pre_finite [hFoxPreIdeal : Cert.FoxPreIdeal.Facts] [hFoxPreRefIdeal : Cert.FoxPreRefIdeal.Facts] [hPre_pre_finite : Cert.Pre_pre_finite.Facts] : Prop :=
  ∀ (m : (ℓ : Loc Cert.FoxPreIdeal.nD Cert.FoxPreIdeal.τ Cert.FoxPreIdeal.sig) → Buf (Elt Ideal) ℓ) (g : Dev Cert.FoxPreIdeal.nD → PrngReg)
    (m' : (ℓ : Loc Cert.FoxPreRefIdeal.nD Cert.FoxPreRefIdeal.τ Cert.FoxPreRefIdeal.sig) → Buf (Elt Ideal) ℓ) (g' : Dev Cert.FoxPreRefIdeal.nD → PrngReg), Pre_FoxPreIdeal_pre_finite m →
    (∀ c : Dev Cert.FoxPreIdeal.nD,
      m' ((c.tc : Thread Cert.FoxPreRefIdeal.nD Cert.FoxPreRefIdeal.τ).loc Cert.FoxPreRefIdeal.main_arg0) = m ((c.tc : Thread Cert.FoxPreIdeal.nD Cert.FoxPreIdeal.τ).loc Cert.FoxPreIdeal.main_arg0)
      ∧ m' ((c.tc : Thread Cert.FoxPreRefIdeal.nD Cert.FoxPreRefIdeal.τ).loc Cert.FoxPreRefIdeal.main_arg1) = m ((c.tc : Thread Cert.FoxPreIdeal.nD Cert.FoxPreIdeal.τ).loc Cert.FoxPreIdeal.main_arg1)
      ∧ m' ((c.tc : Thread Cert.FoxPreRefIdeal.nD Cert.FoxPreRefIdeal.τ).loc Cert.FoxPreRefIdeal.main_arg2) = m ((c.tc : Thread Cert.FoxPreIdeal.nD Cert.FoxPreIdeal.τ).loc Cert.FoxPreIdeal.main_arg2)) →
    ∃ (v0 : (c : Dev Cert.FoxPreIdeal.nD) → Buf (Elt Ideal) ((c.tc : Thread Cert.FoxPreIdeal.nD Cert.FoxPreIdeal.τ).loc Cert.FoxPreIdeal.main_v28_0)) (v1 : (c : Dev Cert.FoxPreIdeal.nD) → Buf (Elt Ideal) ((c.tc : Thread Cert.FoxPreIdeal.nD Cert.FoxPreIdeal.τ).loc Cert.FoxPreIdeal.main_v28_1)) (v2 : (c : Dev Cert.FoxPreIdeal.nD) → Buf (Elt Ideal) ((c.tc : Thread Cert.FoxPreIdeal.nD Cert.FoxPreIdeal.τ).loc Cert.FoxPreIdeal.main_v29)),
      θ_run (Cert.FoxPreIdeal.defs (F := Ideal)) (onTc (τ := Cert.FoxPreIdeal.τ) (Cert.FoxPreIdeal.main (F := Ideal))) ⟨m, fun _ => 0, g⟩ (fun r => ∀ c : Dev Cert.FoxPreIdeal.nD,
          r.2.mem ((c.tc : Thread Cert.FoxPreIdeal.nD Cert.FoxPreIdeal.τ).loc Cert.FoxPreIdeal.main_v28_0) = v0 c
          ∧ r.2.mem ((c.tc : Thread Cert.FoxPreIdeal.nD Cert.FoxPreIdeal.τ).loc Cert.FoxPreIdeal.main_v28_1) = v1 c
          ∧ r.2.mem ((c.tc : Thread Cert.FoxPreIdeal.nD Cert.FoxPreIdeal.τ).loc Cert.FoxPreIdeal.main_v29) = v2 c
          ∧ r.2.mem ((c.tc : Thread Cert.FoxPreIdeal.nD Cert.FoxPreIdeal.τ).loc Cert.FoxPreIdeal.main_arg0) = m ((c.tc : Thread Cert.FoxPreIdeal.nD Cert.FoxPreIdeal.τ).loc Cert.FoxPreIdeal.main_arg0)
          ∧ r.2.mem ((c.tc : Thread Cert.FoxPreIdeal.nD Cert.FoxPreIdeal.τ).loc Cert.FoxPreIdeal.main_arg1) = m ((c.tc : Thread Cert.FoxPreIdeal.nD Cert.FoxPreIdeal.τ).loc Cert.FoxPreIdeal.main_arg1)
          ∧ r.2.mem ((c.tc : Thread Cert.FoxPreIdeal.nD Cert.FoxPreIdeal.τ).loc Cert.FoxPreIdeal.main_arg2) = m ((c.tc : Thread Cert.FoxPreIdeal.nD Cert.FoxPreIdeal.τ).loc Cert.FoxPreIdeal.main_arg2))
      ∧ θ_run (Cert.FoxPreRefIdeal.defs (F := Ideal)) (onTc (τ := Cert.FoxPreRefIdeal.τ) (Cert.FoxPreRefIdeal.main (F := Ideal))) ⟨m', fun _ => 0, g'⟩ (fun r => ∀ c : Dev Cert.FoxPreRefIdeal.nD,
          r.2.mem ((c.tc : Thread Cert.FoxPreRefIdeal.nD Cert.FoxPreRefIdeal.τ).loc Cert.FoxPreRefIdeal.main_v43) = v0 c
          ∧ r.2.mem ((c.tc : Thread Cert.FoxPreRefIdeal.nD Cert.FoxPreRefIdeal.τ).loc Cert.FoxPreRefIdeal.main_v45) = v1 c
          ∧ r.2.mem ((c.tc : Thread Cert.FoxPreRefIdeal.nD Cert.FoxPreRefIdeal.τ).loc Cert.FoxPreRefIdeal.main_v47) = v2 c
          ∧ r.2.mem ((c.tc : Thread Cert.FoxPreRefIdeal.nD Cert.FoxPreRefIdeal.τ).loc Cert.FoxPreRefIdeal.main_arg0) = m' ((c.tc : Thread Cert.FoxPreRefIdeal.nD Cert.FoxPreRefIdeal.τ).loc Cert.FoxPreRefIdeal.main_arg0)
          ∧ r.2.mem ((c.tc : Thread Cert.FoxPreRefIdeal.nD Cert.FoxPreRefIdeal.τ).loc Cert.FoxPreRefIdeal.main_arg1) = m' ((c.tc : Thread Cert.FoxPreRefIdeal.nD Cert.FoxPreRefIdeal.τ).loc Cert.FoxPreRefIdeal.main_arg1)
          ∧ r.2.mem ((c.tc : Thread Cert.FoxPreRefIdeal.nD Cert.FoxPreRefIdeal.τ).loc Cert.FoxPreRefIdeal.main_arg2) = m' ((c.tc : Thread Cert.FoxPreRefIdeal.nD Cert.FoxPreRefIdeal.τ).loc Cert.FoxPreRefIdeal.main_arg2))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v3)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v3) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v23) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_OutNorm_OutNormIdeal : Prop :=
  True

def algebraic_OutNormIdeal_OutNormRefIdeal [hOutNormIdeal : Cert.OutNormIdeal.Facts] [hOutNormRefIdeal : Cert.OutNormRefIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormRefIdeal.nD Cert.OutNormRefIdeal.τ Cert.OutNormRefIdeal.sig) → Buf (Elt Ideal) ℓ) (g' : Dev Cert.OutNormRefIdeal.nD → PrngReg), Pre_OutNormIdeal m →
    (∀ c : Dev Cert.OutNormIdeal.nD,
      m' ((c.tc : Thread Cert.OutNormRefIdeal.nD Cert.OutNormRefIdeal.τ).loc Cert.OutNormRefIdeal.main_arg0) = m ((c.tc : Thread Cert.OutNormIdeal.nD Cert.OutNormIdeal.τ).loc Cert.OutNormIdeal.main_arg0)
      ∧ m' ((c.tc : Thread Cert.OutNormRefIdeal.nD Cert.OutNormRefIdeal.τ).loc Cert.OutNormRefIdeal.main_arg1) = m ((c.tc : Thread Cert.OutNormIdeal.nD Cert.OutNormIdeal.τ).loc Cert.OutNormIdeal.main_arg1)
      ∧ m' ((c.tc : Thread Cert.OutNormRefIdeal.nD Cert.OutNormRefIdeal.τ).loc Cert.OutNormRefIdeal.main_arg2) = m ((c.tc : Thread Cert.OutNormIdeal.nD Cert.OutNormIdeal.τ).loc Cert.OutNormIdeal.main_arg2)
      ∧ m' ((c.tc : Thread Cert.OutNormRefIdeal.nD Cert.OutNormRefIdeal.τ).loc Cert.OutNormRefIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v1) = v0 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormRefIdeal.defs (F := Ideal)) (onTc (τ := Cert.OutNormRefIdeal.τ) (Cert.OutNormRefIdeal.main (F := Ideal))) ⟨m', fun _ => 0, g'⟩ (fun r => ∀ c : Dev Cert.OutNormRefIdeal.nD,
          r.2.mem ((c.tc : Thread Cert.OutNormRefIdeal.nD Cert.OutNormRefIdeal.τ).loc Cert.OutNormRefIdeal.main_v34) = v0 c
          ∧ r.2.mem ((c.tc : Thread Cert.OutNormRefIdeal.nD Cert.OutNormRefIdeal.τ).loc Cert.OutNormRefIdeal.main_arg0) = m' ((c.tc : Thread Cert.OutNormRefIdeal.nD Cert.OutNormRefIdeal.τ).loc Cert.OutNormRefIdeal.main_arg0)
          ∧ r.2.mem ((c.tc : Thread Cert.OutNormRefIdeal.nD Cert.OutNormRefIdeal.τ).loc Cert.OutNormRefIdeal.main_arg1) = m' ((c.tc : Thread Cert.OutNormRefIdeal.nD Cert.OutNormRefIdeal.τ).loc Cert.OutNormRefIdeal.main_arg1)
          ∧ r.2.mem ((c.tc : Thread Cert.OutNormRefIdeal.nD Cert.OutNormRefIdeal.τ).loc Cert.OutNormRefIdeal.main_arg2) = m' ((c.tc : Thread Cert.OutNormRefIdeal.nD Cert.OutNormRefIdeal.τ).loc Cert.OutNormRefIdeal.main_arg2)
          ∧ r.2.mem ((c.tc : Thread Cert.OutNormRefIdeal.nD Cert.OutNormRefIdeal.τ).loc Cert.OutNormRefIdeal.main_arg3) = m' ((c.tc : Thread Cert.OutNormRefIdeal.nD Cert.OutNormRefIdeal.τ).loc Cert.OutNormRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)) (v2 : (c : Dev Cert.MixOutIdeal.nD) → Buf (Elt Ideal) ((c.tc : Thread Cert.MixOutIdeal.nD Cert.MixOutIdeal.τ).loc Cert.MixOutIdeal.main_v5_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_v5_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v31) = v0 c
          ∧ r.2.mem ((c.tc : Thread Cert.MixOutRefIdeal.nD Cert.MixOutRefIdeal.τ).loc Cert.MixOutRefIdeal.main_v32) = v1 c
          ∧ r.2.mem ((c.tc : Thread Cert.MixOutRefIdeal.nD Cert.MixOutRefIdeal.τ).loc Cert.MixOutRefIdeal.main_v34) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_FfDown_FfDownIdeal : Prop :=
  True

def algebraic_FfDownIdeal_FfDownRefIdeal [hFfDownIdeal : Cert.FfDownIdeal.Facts] [hFfDownRefIdeal : Cert.FfDownRefIdeal.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownRefIdeal.nD Cert.FfDownRefIdeal.τ Cert.FfDownRefIdeal.sig) → Buf (Elt Ideal) ℓ) (g' : Dev Cert.FfDownRefIdeal.nD → PrngReg), Pre_FfDownIdeal m →
    (∀ c : Dev Cert.FfDownIdeal.nD,
      m' ((c.tc : Thread Cert.FfDownRefIdeal.nD Cert.FfDownRefIdeal.τ).loc Cert.FfDownRefIdeal.main_arg0) = m ((c.tc : Thread Cert.FfDownIdeal.nD Cert.FfDownIdeal.τ).loc Cert.FfDownIdeal.main_arg0)
      ∧ m' ((c.tc : Thread Cert.FfDownRefIdeal.nD Cert.FfDownRefIdeal.τ).loc Cert.FfDownRefIdeal.main_arg1) = m ((c.tc : Thread Cert.FfDownIdeal.nD Cert.FfDownIdeal.τ).loc Cert.FfDownIdeal.main_arg1)
      ∧ m' ((c.tc : Thread Cert.FfDownRefIdeal.nD Cert.FfDownRefIdeal.τ).loc Cert.FfDownRefIdeal.main_arg2) = m ((c.tc : Thread Cert.FfDownIdeal.nD Cert.FfDownIdeal.τ).loc Cert.FfDownIdeal.main_arg2)
      ∧ m' ((c.tc : Thread Cert.FfDownRefIdeal.nD Cert.FfDownRefIdeal.τ).loc Cert.FfDownRefIdeal.main_arg3) = m ((c.tc : Thread Cert.FfDownIdeal.nD Cert.FfDownIdeal.τ).loc Cert.FfDownIdeal.main_arg3)
      ∧ m' ((c.tc : Thread Cert.FfDownRefIdeal.nD Cert.FfDownRefIdeal.τ).loc Cert.FfDownRefIdeal.main_arg4) = m ((c.tc : Thread Cert.FfDownIdeal.nD Cert.FfDownIdeal.τ).loc Cert.FfDownIdeal.main_arg4)
      ∧ m' ((c.tc : Thread Cert.FfDownRefIdeal.nD Cert.FfDownRefIdeal.τ).loc Cert.FfDownRefIdeal.main_arg5) = m ((c.tc : Thread Cert.FfDownIdeal.nD Cert.FfDownIdeal.τ).loc Cert.FfDownIdeal.main_arg5)
      ∧ m' ((c.tc : Thread Cert.FfDownRefIdeal.nD Cert.FfDownRefIdeal.τ).loc Cert.FfDownRefIdeal.main_arg6) = m ((c.tc : Thread Cert.FfDownIdeal.nD Cert.FfDownIdeal.τ).loc Cert.FfDownIdeal.main_arg6)) →
    ∃ (v0 : (c : Dev Cert.FfDownIdeal.nD) → Buf (Elt Ideal) ((c.tc : Thread Cert.FfDownIdeal.nD Cert.FfDownIdeal.τ).loc Cert.FfDownIdeal.main_v8_0)) (v1 : (c : Dev Cert.FfDownIdeal.nD) → Buf (Elt Ideal) ((c.tc : Thread Cert.FfDownIdeal.nD Cert.FfDownIdeal.τ).loc Cert.FfDownIdeal.main_v8_1)) (v2 : (c : Dev Cert.FfDownIdeal.nD) → Buf (Elt Ideal) ((c.tc : Thread Cert.FfDownIdeal.nD Cert.FfDownIdeal.τ).loc Cert.FfDownIdeal.main_v8_2)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v8_0) = v0 c
          ∧ r.2.mem ((c.tc : Thread Cert.FfDownIdeal.nD Cert.FfDownIdeal.τ).loc Cert.FfDownIdeal.main_v8_1) = v1 c
          ∧ r.2.mem ((c.tc : Thread Cert.FfDownIdeal.nD Cert.FfDownIdeal.τ).loc Cert.FfDownIdeal.main_v8_2) = v2 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
          ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3)
          ∧ r.2.mem ((c.tc : Thread Cert.FfDownIdeal.nD Cert.FfDownIdeal.τ).loc Cert.FfDownIdeal.main_arg4) = m ((c.tc : Thread Cert.FfDownIdeal.nD Cert.FfDownIdeal.τ).loc Cert.FfDownIdeal.main_arg4)
          ∧ r.2.mem ((c.tc : Thread Cert.FfDownIdeal.nD Cert.FfDownIdeal.τ).loc Cert.FfDownIdeal.main_arg5) = m ((c.tc : Thread Cert.FfDownIdeal.nD Cert.FfDownIdeal.τ).loc Cert.FfDownIdeal.main_arg5)
          ∧ r.2.mem ((c.tc : Thread Cert.FfDownIdeal.nD Cert.FfDownIdeal.τ).loc Cert.FfDownIdeal.main_arg6) = m ((c.tc : Thread Cert.FfDownIdeal.nD Cert.FfDownIdeal.τ).loc Cert.FfDownIdeal.main_arg6))
      ∧ θ_run (Cert.FfDownRefIdeal.defs (F := Ideal)) (onTc (τ := Cert.FfDownRefIdeal.τ) (Cert.FfDownRefIdeal.main (F := Ideal))) ⟨m', fun _ => 0, g'⟩ (fun r => ∀ c : Dev Cert.FfDownRefIdeal.nD,
          r.2.mem ((c.tc : Thread Cert.FfDownRefIdeal.nD Cert.FfDownRefIdeal.τ).loc Cert.FfDownRefIdeal.main_v33) = v0 c
          ∧ r.2.mem ((c.tc : Thread Cert.FfDownRefIdeal.nD Cert.FfDownRefIdeal.τ).loc Cert.FfDownRefIdeal.main_v34) = v1 c
          ∧ r.2.mem ((c.tc : Thread Cert.FfDownRefIdeal.nD Cert.FfDownRefIdeal.τ).loc Cert.FfDownRefIdeal.main_v36) = v2 c
          ∧ r.2.mem ((c.tc : Thread Cert.FfDownRefIdeal.nD Cert.FfDownRefIdeal.τ).loc Cert.FfDownRefIdeal.main_arg0) = m' ((c.tc : Thread Cert.FfDownRefIdeal.nD Cert.FfDownRefIdeal.τ).loc Cert.FfDownRefIdeal.main_arg0)
          ∧ r.2.mem ((c.tc : Thread Cert.FfDownRefIdeal.nD Cert.FfDownRefIdeal.τ).loc Cert.FfDownRefIdeal.main_arg1) = m' ((c.tc : Thread Cert.FfDownRefIdeal.nD Cert.FfDownRefIdeal.τ).loc Cert.FfDownRefIdeal.main_arg1)
          ∧ r.2.mem ((c.tc : Thread Cert.FfDownRefIdeal.nD Cert.FfDownRefIdeal.τ).loc Cert.FfDownRefIdeal.main_arg2) = m' ((c.tc : Thread Cert.FfDownRefIdeal.nD Cert.FfDownRefIdeal.τ).loc Cert.FfDownRefIdeal.main_arg2)
          ∧ r.2.mem ((c.tc : Thread Cert.FfDownRefIdeal.nD Cert.FfDownRefIdeal.τ).loc Cert.FfDownRefIdeal.main_arg3) = m' ((c.tc : Thread Cert.FfDownRefIdeal.nD Cert.FfDownRefIdeal.τ).loc Cert.FfDownRefIdeal.main_arg3)
          ∧ r.2.mem ((c.tc : Thread Cert.FfDownRefIdeal.nD Cert.FfDownRefIdeal.τ).loc Cert.FfDownRefIdeal.main_arg4) = m' ((c.tc : Thread Cert.FfDownRefIdeal.nD Cert.FfDownRefIdeal.τ).loc Cert.FfDownRefIdeal.main_arg4)
          ∧ r.2.mem ((c.tc : Thread Cert.FfDownRefIdeal.nD Cert.FfDownRefIdeal.τ).loc Cert.FfDownRefIdeal.main_arg5) = m' ((c.tc : Thread Cert.FfDownRefIdeal.nD Cert.FfDownRefIdeal.τ).loc Cert.FfDownRefIdeal.main_arg5)
          ∧ r.2.mem ((c.tc : Thread Cert.FfDownRefIdeal.nD Cert.FfDownRefIdeal.τ).loc Cert.FfDownRefIdeal.main_arg6) = m' ((c.tc : Thread Cert.FfDownRefIdeal.nD Cert.FfDownRefIdeal.τ).loc Cert.FfDownRefIdeal.main_arg6))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def preserves_Dwup_DwupIdeal : Prop :=
  True

def algebraic_DwupIdeal_DwupRefIdeal [hDwupIdeal : Cert.DwupIdeal.Facts] [hDwupRefIdeal : Cert.DwupRefIdeal.Facts] : Prop :=
  ∀ (m : (ℓ : Loc Cert.DwupIdeal.nD Cert.DwupIdeal.τ Cert.DwupIdeal.sig) → Buf (Elt Ideal) ℓ) (g : Dev Cert.DwupIdeal.nD → PrngReg)
    (m' : (ℓ : Loc Cert.DwupRefIdeal.nD Cert.DwupRefIdeal.τ Cert.DwupRefIdeal.sig) → Buf (Elt Ideal) ℓ) (g' : Dev Cert.DwupRefIdeal.nD → PrngReg), Pre_DwupIdeal m →
    (∀ c : Dev Cert.DwupIdeal.nD,
      m' ((c.tc : Thread Cert.DwupRefIdeal.nD Cert.DwupRefIdeal.τ).loc Cert.DwupRefIdeal.main_arg0) = m ((c.tc : Thread Cert.DwupIdeal.nD Cert.DwupIdeal.τ).loc Cert.DwupIdeal.main_arg0)
      ∧ m' ((c.tc : Thread Cert.DwupRefIdeal.nD Cert.DwupRefIdeal.τ).loc Cert.DwupRefIdeal.main_arg1) = m ((c.tc : Thread Cert.DwupIdeal.nD Cert.DwupIdeal.τ).loc Cert.DwupIdeal.main_arg1)) →
    ∃ (v0 : (c : Dev Cert.DwupIdeal.nD) → Buf (Elt Ideal) ((c.tc : Thread Cert.DwupIdeal.nD Cert.DwupIdeal.τ).loc Cert.DwupIdeal.main_v0)),
      θ_run (Cert.DwupIdeal.defs (F := Ideal)) (onTc (τ := Cert.DwupIdeal.τ) (Cert.DwupIdeal.main (F := Ideal))) ⟨m, fun _ => 0, g⟩ (fun r => ∀ c : Dev Cert.DwupIdeal.nD,
          r.2.mem ((c.tc : Thread Cert.DwupIdeal.nD Cert.DwupIdeal.τ).loc Cert.DwupIdeal.main_v0) = v0 c
          ∧ r.2.mem ((c.tc : Thread Cert.DwupIdeal.nD Cert.DwupIdeal.τ).loc Cert.DwupIdeal.main_arg0) = m ((c.tc : Thread Cert.DwupIdeal.nD Cert.DwupIdeal.τ).loc Cert.DwupIdeal.main_arg0)
          ∧ r.2.mem ((c.tc : Thread Cert.DwupIdeal.nD Cert.DwupIdeal.τ).loc Cert.DwupIdeal.main_arg1) = m ((c.tc : Thread Cert.DwupIdeal.nD Cert.DwupIdeal.τ).loc Cert.DwupIdeal.main_arg1))
      ∧ θ_run (Cert.DwupRefIdeal.defs (F := Ideal)) (onTc (τ := Cert.DwupRefIdeal.τ) (Cert.DwupRefIdeal.main (F := Ideal))) ⟨m', fun _ => 0, g'⟩ (fun r => ∀ c : Dev Cert.DwupRefIdeal.nD,
          r.2.mem ((c.tc : Thread Cert.DwupRefIdeal.nD Cert.DwupRefIdeal.τ).loc Cert.DwupRefIdeal.main_v2) = v0 c
          ∧ r.2.mem ((c.tc : Thread Cert.DwupRefIdeal.nD Cert.DwupRefIdeal.τ).loc Cert.DwupRefIdeal.main_arg0) = m' ((c.tc : Thread Cert.DwupRefIdeal.nD Cert.DwupRefIdeal.τ).loc Cert.DwupRefIdeal.main_arg0)
          ∧ r.2.mem ((c.tc : Thread Cert.DwupRefIdeal.nD Cert.DwupRefIdeal.τ).loc Cert.DwupRefIdeal.main_arg1) = m' ((c.tc : Thread Cert.DwupRefIdeal.nD Cert.DwupRefIdeal.τ).loc Cert.DwupRefIdeal.main_arg1))

def Claim : Prop :=
  ∃ (hResBwd : Cert.ResBwd.Facts) (hResBwdIdeal : Cert.ResBwdIdeal.Facts) (hResRefIdeal : Cert.ResRefIdeal.Facts) (hSb : Cert.Sb.Facts) (hSbIdeal : Cert.SbIdeal.Facts) (hSbRefIdeal : Cert.SbRefIdeal.Facts) (hFox : Cert.Fox.Facts) (hFoxIdeal : Cert.FoxIdeal.Facts) (hFoxRefIdeal : Cert.FoxRefIdeal.Facts) (hHead : Cert.Head.Facts) (hHeadIdeal : Cert.HeadIdeal.Facts) (hHeadRefIdeal : Cert.HeadRefIdeal.Facts) (hOutN : Cert.OutN.Facts) (hOutNIdeal : Cert.OutNIdeal.Facts) (hOutNRefIdeal : Cert.OutNRefIdeal.Facts) (hMixIn : Cert.MixIn.Facts) (hMixInIdeal : Cert.MixInIdeal.Facts) (hMixInRefIdeal : Cert.MixInRefIdeal.Facts) (hFfUp : Cert.FfUp.Facts) (hFfUpIdeal : Cert.FfUpIdeal.Facts) (hFfUpRefIdeal : Cert.FfUpRefIdeal.Facts) (hAct : Cert.Act.Facts) (hActIdeal : Cert.ActIdeal.Facts) (hActRefIdeal : Cert.ActRefIdeal.Facts) (hPost : Cert.Post.Facts) (hPostIdeal : Cert.PostIdeal.Facts) (hPostRefIdeal : Cert.PostRefIdeal.Facts) (hFoxPre : Cert.FoxPre.Facts) (hFoxPreIdeal : Cert.FoxPreIdeal.Facts) (hFoxPreRefIdeal : Cert.FoxPreRefIdeal.Facts) (hNormMod : Cert.NormMod.Facts) (hNormModIdeal : Cert.NormModIdeal.Facts) (hNormModRefIdeal : Cert.NormModRefIdeal.Facts) (hOutNorm : Cert.OutNorm.Facts) (hOutNormIdeal : Cert.OutNormIdeal.Facts) (hOutNormRefIdeal : Cert.OutNormRefIdeal.Facts) (hMixOut : Cert.MixOut.Facts) (hMixOutIdeal : Cert.MixOutIdeal.Facts) (hMixOutRefIdeal : Cert.MixOutRefIdeal.Facts) (hFfDown : Cert.FfDown.Facts) (hFfDownIdeal : Cert.FfDownIdeal.Facts) (hFfDownRefIdeal : Cert.FfDownRefIdeal.Facts) (hAdam : Cert.Adam.Facts) (hAdamIdeal : Cert.AdamIdeal.Facts) (hAdamRefIdeal : Cert.AdamRefIdeal.Facts) (hSums : Cert.Sums.Facts) (hSumsIdeal : Cert.SumsIdeal.Facts) (hSumsRefIdeal : Cert.SumsRefIdeal.Facts) (hDwup : Cert.Dwup.Facts) (hDwupIdeal : Cert.DwupIdeal.Facts) (hDwupRefIdeal : Cert.DwupRefIdeal.Facts) (hPre_sb_finite : Cert.Pre_sb_finite.Facts) (hPre_fox_finite : Cert.Pre_fox_finite.Facts) (hPre_act_finite : Cert.Pre_act_finite.Facts) (hPre_post_finite : Cert.Pre_post_finite.Facts) (hPre_pre_finite : Cert.Pre_pre_finite.Facts),
    quiescent_ResBwd (hResBwd := hResBwd)
    ∧ quiescent_ResBwdIdeal (hResBwdIdeal := hResBwdIdeal)
    ∧ quiescent_ResRefIdeal (hResRefIdeal := hResRefIdeal)
    ∧ quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_Head (hHead := hHead)
    ∧ quiescent_HeadIdeal (hHeadIdeal := hHeadIdeal)
    ∧ quiescent_HeadRefIdeal (hHeadRefIdeal := hHeadRefIdeal)
    ∧ quiescent_OutN (hOutN := hOutN)
    ∧ quiescent_OutNIdeal (hOutNIdeal := hOutNIdeal)
    ∧ quiescent_OutNRefIdeal (hOutNRefIdeal := hOutNRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfUp (hFfUp := hFfUp)
    ∧ quiescent_FfUpIdeal (hFfUpIdeal := hFfUpIdeal)
    ∧ quiescent_FfUpRefIdeal (hFfUpRefIdeal := hFfUpRefIdeal)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_FoxPre (hFoxPre := hFoxPre)
    ∧ quiescent_FoxPreIdeal (hFoxPreIdeal := hFoxPreIdeal)
    ∧ quiescent_FoxPreIdeal_pre_pre_finite (hFoxPreIdeal := hFoxPreIdeal) (hPre_pre_finite := hPre_pre_finite)
    ∧ quiescent_FoxPreRefIdeal (hFoxPreRefIdeal := hFoxPreRefIdeal)
    ∧ quiescent_FoxPreRefIdeal_pre_pre_finite (hFoxPreRefIdeal := hFoxPreRefIdeal) (hPre_pre_finite := hPre_pre_finite)
    ∧ quiescent_NormMod (hNormMod := hNormMod)
    ∧ quiescent_NormModIdeal (hNormModIdeal := hNormModIdeal)
    ∧ quiescent_NormModRefIdeal (hNormModRefIdeal := hNormModRefIdeal)
    ∧ quiescent_OutNorm (hOutNorm := hOutNorm)
    ∧ quiescent_OutNormIdeal (hOutNormIdeal := hOutNormIdeal)
    ∧ quiescent_OutNormRefIdeal (hOutNormRefIdeal := hOutNormRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfDown (hFfDown := hFfDown)
    ∧ quiescent_FfDownIdeal (hFfDownIdeal := hFfDownIdeal)
    ∧ quiescent_FfDownRefIdeal (hFfDownRefIdeal := hFfDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_Sums (hSums := hSums)
    ∧ quiescent_SumsIdeal (hSumsIdeal := hSumsIdeal)
    ∧ quiescent_SumsRefIdeal (hSumsRefIdeal := hSumsRefIdeal)
    ∧ quiescent_Dwup (hDwup := hDwup)
    ∧ quiescent_DwupIdeal (hDwupIdeal := hDwupIdeal)
    ∧ quiescent_DwupRefIdeal (hDwupRefIdeal := hDwupRefIdeal)
    ∧ preserves_ResBwd_ResBwdIdeal
    ∧ algebraic_ResBwdIdeal_ResRefIdeal (hResBwdIdeal := hResBwdIdeal) (hResRefIdeal := hResRefIdeal)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_Head_HeadIdeal
    ∧ algebraic_HeadIdeal_HeadRefIdeal (hHeadIdeal := hHeadIdeal) (hHeadRefIdeal := hHeadRefIdeal)
    ∧ preserves_OutN_OutNIdeal
    ∧ algebraic_OutNIdeal_OutNRefIdeal (hOutNIdeal := hOutNIdeal) (hOutNRefIdeal := hOutNRefIdeal)
    ∧ preserves_MixIn_MixInIdeal
    ∧ algebraic_MixInIdeal_MixInRefIdeal (hMixInIdeal := hMixInIdeal) (hMixInRefIdeal := hMixInRefIdeal)
    ∧ preserves_FfUp_FfUpIdeal
    ∧ algebraic_FfUpIdeal_FfUpRefIdeal (hFfUpIdeal := hFfUpIdeal) (hFfUpRefIdeal := hFfUpRefIdeal)
    ∧ preserves_Act_ActIdeal
    ∧ algebraic_ActIdeal_ActRefIdeal_pre_act_finite (hActIdeal := hActIdeal) (hActRefIdeal := hActRefIdeal) (hPre_act_finite := hPre_act_finite)
    ∧ preserves_Post_PostIdeal
    ∧ algebraic_PostIdeal_PostRefIdeal_pre_post_finite (hPostIdeal := hPostIdeal) (hPostRefIdeal := hPostRefIdeal) (hPre_post_finite := hPre_post_finite)
    ∧ preserves_FoxPre_FoxPreIdeal
    ∧ algebraic_FoxPreIdeal_FoxPreRefIdeal_pre_pre_finite (hFoxPreIdeal := hFoxPreIdeal) (hFoxPreRefIdeal := hFoxPreRefIdeal) (hPre_pre_finite := hPre_pre_finite)
    ∧ preserves_NormMod_NormModIdeal
    ∧ algebraic_NormModIdeal_NormModRefIdeal (hNormModIdeal := hNormModIdeal) (hNormModRefIdeal := hNormModRefIdeal)
    ∧ preserves_OutNorm_OutNormIdeal
    ∧ algebraic_OutNormIdeal_OutNormRefIdeal (hOutNormIdeal := hOutNormIdeal) (hOutNormRefIdeal := hOutNormRefIdeal)
    ∧ preserves_MixOut_MixOutIdeal
    ∧ algebraic_MixOutIdeal_MixOutRefIdeal (hMixOutIdeal := hMixOutIdeal) (hMixOutRefIdeal := hMixOutRefIdeal)
    ∧ preserves_FfDown_FfDownIdeal
    ∧ algebraic_FfDownIdeal_FfDownRefIdeal (hFfDownIdeal := hFfDownIdeal) (hFfDownRefIdeal := hFfDownRefIdeal)
    ∧ preserves_Adam_AdamIdeal
    ∧ algebraic_AdamIdeal_AdamRefIdeal (hAdamIdeal := hAdamIdeal) (hAdamRefIdeal := hAdamRefIdeal)
    ∧ preserves_Sums_SumsIdeal
    ∧ algebraic_SumsIdeal_SumsRefIdeal (hSumsIdeal := hSumsIdeal) (hSumsRefIdeal := hSumsRefIdeal)
    ∧ preserves_Dwup_DwupIdeal
    ∧ algebraic_DwupIdeal_DwupRefIdeal (hDwupIdeal := hDwupIdeal) (hDwupRefIdeal := hDwupRefIdeal)
-- ==== Pre_act_finite.lean ====
abbrev S8192x1024 : Shape := ⟨2, ![8192, 1024]⟩
abbrev S1024x5632 : Shape := ⟨2, ![1024, 5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .bf16) (main_arg1 : FVec F S8192x1024 .bf16) (main_arg2 : FVec F S1024x5632 .f32) (main_arg3 : FVec F S2816x1024 .f32) : IVec S8192x1024 1 × IVec S8192x1024 1 × IVec S1024x5632 1 × IVec S2816x1024 1 :=
  let main_v0 : FVec F S8192x1024 .f32 := (extf .f32 · bitsLt_bf16_f32) main_arg1
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x1024 .f32 := Host.absf main_v0
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S1024x5632 .f32 := Host.absf main_arg2
  let main_cst_1 : FVec F S_ .f32 := constant S_ .f32 0x7F800000#32
  let main_v9 : FVec F S1024x5632 .f32 := broadcastInDim S1024x5632 ![] bcast_S_S1024x5632 main_cst_1
  let main_v10 : IVec S1024x5632 1 := cmpf .olt main_v8 main_v9
  let main_v11 : FVec F S2816x1024 .f32 := Host.absf main_arg3
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  (main_v4, main_v7, main_v10, main_v13)
-- ==== Pre_fox_finite.lean ====
abbrev S2x4096x256 : Shape := ⟨3, ![2, 4096, 256]⟩
abbrev S2x4096x2564 : Shape := ⟨3, ![2, 4096, 2564]⟩
abbrev S2x4096x4 : Shape := ⟨3, ![2, 4096, 4]⟩
abbrev S_ : Shape := ⟨0, ![]⟩

class Facts : Prop where
  bcast_S_S2x4096x256 : S_.BroadcastsInDim S2x4096x256 (![] : Fin 0 → Fin S2x4096x256.rank)
  bcast_S_S2x4096x2564 : S_.BroadcastsInDim S2x4096x2564 (![] : Fin 0 → Fin S2x4096x2564.rank)
  bcast_S_S2x4096x4 : S_.BroadcastsInDim S2x4096x4 (![] : Fin 0 → Fin S2x4096x4.rank)

variable [Facts]

def fn {F : FTy → Type} [FloatOps F] (main_arg0 : FVec F S2x4096x256 .f32) (main_arg1 : FVec F S2x4096x256 .f32) (main_arg2 : FVec F S2x4096x256 .f32) (main_arg3 : FVec F S2x4096x2564 .f32) (main_arg4 : FVec F S2x4096x4 .f32) : IVec S2x4096x256 1 × IVec S2x4096x256 1 × IVec S2x4096x256 1 × IVec S2x4096x2564 1 × IVec S2x4096x4 1 :=
  let main_v0 : FVec F S2x4096x256 .f32 := Host.absf main_arg0
  let main_cst : FVec F S_ .f32 := constant S_ .f32 0x7F800000#32
  let main_v1 : FVec F S2x4096x256 .f32 := broadcastInDim S2x4096x256 ![] bcast_S_S2x4096x256 main_cst
  let main_v2 : IVec S2x4096x256 1 := cmpf .olt main_v0 main_v1
  let main_v3 : FVec F S2x4096x256 .f32 := Host.absf main_arg1
  let main_cst_0 : FVec F S_ .f32 := constant S_ .f32 0x7F800000#32
  let main_v4 : FVec F S2x4096x256 .f32 := broadcastInDim S2x4096x256 ![] bcast_S_S2x4096x256 main_cst_0
  let main_v5 : IVec S2x4096x256 1 := cmpf .olt main_v3 main_v4
  let main_v6 : FVec F S2x4096x256 .f32 := Host.absf main_arg2
  let main_cst_1 : FVec F S_ .f32 := constant S_ .f32 0x7F800000#32
  let main_v7 : FVec F S2x4096x256 .f32 := broadcastInDim S2x4096x256 ![] bcast_S_S2x4096x256 main_cst_1
  let main_v8 : IVec S2x4096x256 1 := cmpf .olt main_v6 main_v7
  let main_v9 : FVec F S2x4096x2564 .f32 := Host.absf main_arg3
  let main_cst_2 : FVec F S_ .f32 := constant S_ .f32 0x7F800000#32
  let main_v10 : FVec F S2x4096x2564 .f32 := broadcastInDim S2x4096x2564 ![] bcast_S_S2x4096x2564 main_cst_2
  let main_v11 : IVec S2x4096x2564 1 := cmpf .olt main_v9 main_v10
  let main_v12 : FVec F S2x4096x4 .f32 := Host.absf main_arg4
  let main_cst_3 : FVec F S_ .f32 := constant S_ .f32 0x7F800000#32
  let main_v13 : FVec F S2x4096x4 .f32 := broadcastInDim S2x4096x4 ![] bcast_S_S2x4096x4 main_cst_3
  let main_v14 : IVec S2x4096x4 1 := cmpf .olt main_v12 main_v13
  (main_v2, main_v5, main_v8, main_v11, main_v14)
-- ==== Pre_post_finite.lean ====
abbrev S8192x256 : Shape := ⟨2, ![8192, 256]⟩
abbrev S8192x4 : Shape := ⟨2, ![8192, 4]⟩
abbrev S8192x2564 : Shape := ⟨2, ![8192, 2564]⟩
abbrev S2x64 : Shape := ⟨2, ![2, 64]⟩
abbrev S4 : Shape := ⟨1, ![4]⟩
abbrev S_ : Shape := ⟨0, ![]⟩

class Facts : Prop where
  bcast_S_S8192x256 : S_.BroadcastsInDim S8192x256 (![] : Fin 0 → Fin S8192x256.rank)
  bcast_S_S8192x4 : S_.BroadcastsInDim S8192x4 (![] : Fin 0 → Fin S8192x4.rank)
  bcast_S_S8192x2564 : S_.BroadcastsInDim S8192x2564 (![] : Fin 0 → Fin S8192x2564.rank)
  bcast_S_S2x64 : S_.BroadcastsInDim S2x64 (![] : Fin 0 → Fin S2x64.rank)
  bcast_S_S4 : S_.BroadcastsInDim S4 (![] : Fin 0 → Fin S4.rank)

variable [Facts]

def fn {F : FTy → Type} [FloatOps F] (main_arg0 : FVec F S8192x256 .f32) (main_arg1 : FVec F S8192x256 .f32) (main_arg2 : FVec F S8192x4 .f32) (main_arg3 : FVec F S8192x2564 .f32) (main_arg4 : FVec F S2x64 .f32) (main_arg5 : FVec F S4 .f32) : IVec S8192x256 1 × IVec S8192x256 1 × IVec S8192x4 1 × IVec S8192x2564 1 × IVec S2x64 1 × IVec S4 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x4 .f32 := Host.absf main_arg2
  let main_cst_1 : FVec F S_ .f32 := constant S_ .f32 0x7F800000#32
  let main_v7 : FVec F S8192x4 .f32 := broadcastInDim S8192x4 ![] bcast_S_S8192x4 main_cst_1
  let main_v8 : IVec S8192x4 1 := cmpf .olt main_v6 main_v7
  let main_v9 : FVec F S8192x2564 .f32 := Host.absf main_arg3
  let main_cst_2 : FVec F S_ .f32 := constant S_ .f32 0x7F800000#32
  let main_v10 : FVec F S8192x2564 .f32 := broadcastInDim S8192x2564 ![] bcast_S_S8192x2564 main_cst_2
  let main_v11 : IVec S8192x2564 1 := cmpf .olt main_v9 main_v10
  let main_v12 : FVec F S2x64 .f32 := Host.absf main_arg4
  let main_cst_3 : FVec F S_ .f32 := constant S_ .f32 0x7F800000#32
  let main_v13 : FVec F S2x64 .f32 := broadcastInDim S2x64 ![] bcast_S_S2x64 main_cst_3
  let main_v14 : IVec S2x64 1 := cmpf .olt main_v12 main_v13
  let main_v15 : FVec F S4 .f32 := Host.absf main_arg5
  let main_cst_4 : FVec F S_ .f32 := constant S_ .f32 0x7F800000#32
  let main_v16 : FVec F S4 .f32 := broadcastInDim S4 ![] bcast_S_S4 main_cst_4
  let main_v17 : IVec S4 1 := cmpf .olt main_v15 main_v16
  (main_v2, main_v5, main_v8, main_v11, main_v14, main_v17)
-- ==== Pre_pre_finite.lean ====
abbrev S8192x2564 : Shape := ⟨2, ![8192, 2564]⟩
abbrev S2x64 : Shape := ⟨2, ![2, 64]⟩
abbrev S4 : Shape := ⟨1, ![4]⟩
abbrev S_ : Shape := ⟨0, ![]⟩

class Facts : Prop where
  bcast_S_S8192x2564 : S_.BroadcastsInDim S8192x2564 (![] : Fin 0 → Fin S8192x2564.rank)
  bcast_S_S4 : S_.BroadcastsInDim S4 (![] : Fin 0 → Fin S4.rank)

variable [Facts]

def fn {F : FTy → Type} [FloatOps F] (main_arg0 : FVec F S8192x2564 .f32) (main_arg1 : FVec F S2x64 .f32) (main_arg2 : FVec F S4 .f32) : IVec S8192x2564 1 × IVec S4 1 :=
  let main_v0 : FVec F S8192x2564 .f32 := Host.absf main_arg0
  let main_cst : FVec F S_ .f32 := constant S_ .f32 0x7F800000#32
  let main_v1 : FVec F S8192x2564 .f32 := broadcastInDim S8192x2564 ![] bcast_S_S8192x2564 main_cst
  let main_v2 : IVec S8192x2564 1 := cmpf .olt main_v0 main_v1
  let main_v3 : FVec F S4 .f32 := Host.absf main_arg2
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  (main_v2, main_v5)
-- ==== Pre_sb_finite.lean ====
abbrev S2x4096x256 : Shape := ⟨3, ![2, 4096, 256]⟩
abbrev S2x4096x2564 : Shape := ⟨3, ![2, 4096, 2564]⟩
abbrev S_ : Shape := ⟨0, ![]⟩

class Facts : Prop where
  bcast_S_S2x4096x256 : S_.BroadcastsInDim S2x4096x256 (![] : Fin 0 → Fin S2x4096x256.rank)
  bcast_S_S2x4096x2564 : S_.BroadcastsInDim S2x4096x2564 (![] : Fin 0 → Fin S2x4096x2564.rank)

variable [Facts]

def fn {F : FTy → Type} [FloatOps F] (main_arg0 : FVec F S2x4096x256 .f32) (main_arg1 : FVec F S2x4096x2564 .f32) : IVec S2x4096x256 1 × IVec S2x4096x2564 1 :=
  let main_v0 : FVec F S2x4096x256 .f32 := Host.absf main_arg0
  let main_cst : FVec F S_ .f32 := constant S_ .f32 0x7F800000#32
  let main_v1 : FVec F S2x4096x256 .f32 := broadcastInDim S2x4096x256 ![] bcast_S_S2x4096x256 main_cst
  let main_v2 : IVec S2x4096x256 1 := cmpf .olt main_v0 main_v1
  let main_v3 : FVec F S2x4096x2564 .f32 := Host.absf main_arg1
  let main_cst_0 : FVec F S_ .f32 := constant S_ .f32 0x7F800000#32
  let main_v4 : FVec F S2x4096x2564 .f32 := broadcastInDim S2x4096x2564 ![] bcast_S_S2x4096x2564 main_cst_0
  let main_v5 : IVec S2x4096x2564 1 := cmpf .olt main_v3 main_v4
  (main_v2, main_v5)
-- ==== ResBwd.lean ====
abbrev S8192x1024 : Shape := ⟨2, ![8192, 1024]⟩
abbrev S2x1024 : Shape := ⟨2, ![2, 1024]⟩
abbrev S2x1x1024 : Shape := ⟨3, ![2, 1, 1024]⟩
abbrev S16x8x1024 : Shape := ⟨3, ![16, 8, 1024]⟩
abbrev S512x1024 : Shape := ⟨2, ![512, 1024]⟩
abbrev S1x1x1024 : Shape := ⟨3, ![1, 1, 1024]⟩
abbrev S1x8x1024 : Shape := ⟨3, ![1, 8, 1024]⟩
abbrev S1x1024 : Shape := ⟨2, ![1, 1024]⟩
abbrev S1024 : Shape := ⟨1, ![1024]⟩
abbrev S8x1024 : Shape := ⟨2, ![8, 1024]⟩
abbrev S16x1x1024 : Shape := ⟨3, ![16, 1, 1024]⟩
abbrev S16x1024 : Shape := ⟨2, ![16, 1024]⟩
abbrev S2x8x1024 : Shape := ⟨3, ![2, 8, 1024]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x1024, .f32⟩
  | .hbm, ⟨3, _⟩ => ⟨S2x1x1024, .f32⟩
  | .hbm, ⟨4, _⟩ => ⟨S8192x1024, .bf16⟩
  | .hbm, ⟨5, _⟩ => ⟨S16x8x1024, .f32⟩
  | .hbm, ⟨6, _⟩ => ⟨S16x1x1024, .f32⟩
  | .hbm, ⟨7, _⟩ => ⟨S16x1024, .f32⟩
  | .hbm, ⟨8, _⟩ => ⟨S2x8x1024, .f32⟩
  | .hbm, ⟨9, _⟩ => ⟨S_, .f32⟩
  | .hbm, ⟨10, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S512x1024, .bf16⟩
  | .local _ .vmem, ⟨7, _⟩ => ⟨S512x1024, .bf16⟩
  | .local _ .vmem, ⟨8, _⟩ => ⟨S1x8x1024, .f32⟩
  | .local _ .vmem, ⟨9, _⟩ => ⟨S1x8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ResRefIdeal.lean ====
abbrev S8192x1024 : Shape := ⟨2, ![8192, 1024]⟩
abbrev S2x1024 : Shape := ⟨2, ![2, 1024]⟩
abbrev S_ : Shape := ⟨0, ![]⟩
abbrev S2x1x1024 : Shape := ⟨3, ![2, 1, 1024]⟩
abbrev S2x4096x1024 : Shape := ⟨3, ![2, 4096, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S2x1024, .f32⟩
  | .hbm, ⟨3, _⟩ => ⟨S_, .f32⟩
  | .hbm, ⟨4, _⟩ => ⟨S2x1024, .f32⟩
  | .hbm, ⟨5, _⟩ => ⟨S2x1024, .f32⟩
  | .hbm, ⟨6, _⟩ => ⟨S2x1x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S8192x1024, .f32⟩
  | .hbm, ⟨11, _⟩ => ⟨S2x4096x1024, .f32⟩
  | .hbm, ⟨12, _⟩ => ⟨S2x4096x1024, .f32⟩
  | .hbm, ⟨13, _⟩ => ⟨S2x4096x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x1024, .f32⟩
  | .hbm, ⟨20, _⟩ => ⟨S2x1x1024, .f32⟩
  | .hbm, ⟨21, _⟩ => ⟨S8192x1024, .f32⟩
  | .hbm, ⟨22, _⟩ => ⟨S8192x1024, .bf16⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S_, .f32⟩
  | .hbm, ⟨27, _⟩ => ⟨S2x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Sb.lean ====
abbrev S2x4096x256 : Shape := ⟨3, ![2, 4096, 256]⟩
abbrev S2x4096x2564 : Shape := ⟨3, ![2, 4096, 2564]⟩
abbrev S_ : Shape := ⟨0, ![]⟩
abbrev S2x4096x2688 : Shape := ⟨3, ![2, 4096, 2688]⟩
abbrev S8192x256 : Shape := ⟨2, ![8192, 256]⟩
abbrev S2x8192x128 : Shape := ⟨3, ![2, 8192, 128]⟩
abbrev S1x512x128 : Shape := ⟨3, ![1, 512, 128]⟩
abbrev S1x4096x128 : Shape := ⟨3, ![1, 4096, 128]⟩
abbrev S512x128 : Shape := ⟨2, ![512, 128]⟩
abbrev S1x128 : Shape := ⟨2, ![1, 128]⟩
abbrev S1024x128 : Shape := ⟨2, ![1024, 128]⟩
abbrev S256x256 : Shape := ⟨2, ![256, 256]⟩
abbrev S1024x1 : Shape := ⟨2, ![1024, 1]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S512x1 : Shape := ⟨2, ![512, 1]⟩

abbrev nBuf : Space → Nat
  | .hbm => 12
  | .vmem => 26
  | .smem => 0
  | _ => 0

abbrev bufTy : (tb : Table) → Fin (tcTables nBuf tb) → BufTy
  | .hbm, ⟨0, _⟩ => ⟨S2x4096x256, .f32⟩
  | .hbm, ⟨1, _⟩ => ⟨S2x4096x2564, .f32⟩
  | .hbm, ⟨2, _⟩ => ⟨S_, .i32⟩
  | .hbm, ⟨3, _⟩ => ⟨S_, .f32⟩
  | .hbm, ⟨4, _⟩ => ⟨S2x4096x2688, .f32⟩
  | .hbm, ⟨5, _⟩ => ⟨S2x4096x2688, .bf16⟩
  | .hbm, ⟨6, _⟩ => ⟨S8192x256, .f32⟩
  | .hbm, ⟨7, _⟩ => ⟨S2x8192x128, .f32⟩
  | .hbm, ⟨8, _⟩ => ⟨S8192x256, .f32⟩
  | .hbm, ⟨9, _⟩ => ⟨S8192x256, .f32⟩
  | .hbm, ⟨10, _⟩ => ⟨S2x4096x256, .f32⟩
  | .hbm, ⟨11, _⟩ => ⟨S2x4096x256, .f32⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S512x128, .f32⟩
  | .local _ .vmem, ⟨7, _⟩ => ⟨S512x128, .f32⟩
  | .local _ .vmem, ⟨8, _⟩ => ⟨S1x512x128, .f32⟩
  | .local _ .vmem, ⟨9, _⟩ => ⟨S1x512x128, .f32⟩
  | .local _ .vmem, ⟨10, _⟩ => ⟨S512x128, .f32⟩
  | .local _ .vmem, ⟨11, _⟩ => ⟨S512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .bf16⟩
  | .local _ .vmem, ⟨15, _⟩ => ⟨S1x512x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S512x128, .f32⟩
  | .local _ .vmem, ⟨21, _⟩ => ⟨S512x128, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x128, .f32⟩
  | .local _ .vmem, ⟨25, _⟩ => ⟨S1x4096x128, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨3, ![2, 2, 8], ![false, false, false]⟩

def k0_mult1 (i : grid0.Coords) : BitVec 32 :=
  let arg2 : BitVec 32 := BitVec.ofNat 32 (i 2).val
  let c2_i32 : BitVec 32 := 2#32
  let v21 : BitVec 32 := Scalar.muli arg2 c2_i32
  let c1_i32 : BitVec 32 := 1#32
  let v22 : BitVec 32 := Scalar.addi v21 c1_i32
  let c256_i32 : BitVec 32 := 256#32
  let v23 : BitVec 32 := Scalar.muli v22 c256_i32
  v23
def k0_off1 (i : grid0.Coords) (c1_i32 : BitVec 32) : Fin 3 → Nat :=
  let c0_4 : Index := 0#32
  let arg2 : BitVec 32 := BitVec.ofNat 32 (i 2).val
  let c2_i32 : BitVec 32 := 2#32
  let v21 : BitVec 32 := Scalar.muli arg2 c2_i32
  let v22 : BitVec 32 := Scalar.addi v21 c1_i32
  let c256_i32 : BitVec 32 := 256#32
  let v23 : BitVec 32 := Scalar.muli v22 c256_i32
  let v24 : BitVec 32 := v23
  let v25 : Index := Scalar.indexCast v24
  let c0_5 : Index := 0#32
  ![0, v25.toNat, 0]
def k0_mult2 (i : grid0.Coords) : BitVec 32 :=
  let arg2 : BitVec 32 := BitVec.ofNat 32 (i 2).val
  let c2_i32 : BitVec 32 := 2#32
  let v21 : BitVec 32 := Scalar.muli arg2 c2_i32
  let c0_i32 : BitVec 32 := 0#32
  let v79 : BitVec 32 := Scalar.addi v21 c0_i32
  let c256_i32_21 : BitVec 32 := 256#32
  let v80 : BitVec 32 := Scalar.muli v79 c256_i32_21
  v80
@[reducible] def k0_t1_loop (i : grid0.Coords) : Scf.Loop 32 :=
  let c0_i32_41 : BitVec 32 := 0#32
  let arg2 : BitVec 32 := BitVec.ofNat 32 (i 2).val
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_43 : BitVec 32 := 1#32
  ⟨c0_i32_41, v140, c1_i32_43⟩
def k0_mult3 (i : grid0.Coords) (k0_t1 : Fin (k0_t1_loop i).trips) : BitVec 32 :=
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let c1_i32_43 : BitVec 32 := 1#32
  let arg8 : BitVec 32 := Scf.iv c0_i32_41 c1_i32_43 k0_t1
  let c2_i32_52 : BitVec 32 := 2#32
  let v165 : BitVec 32 := Scalar.muli arg8 c2_i32_52
  let c0_i32_53 : BitVec 32 := 0#32
  let v166 : BitVec 32 := Scalar.addi v165 c0_i32_53
  let v171 : BitVec 32 := Scalar.subi v170 v166
  let c256_i32_60 : BitVec 32 := 256#32
  let v175 : BitVec 32 := Scalar.muli v171 c256_i32_60
  v175
def k0_off2 (i : grid0.Coords) (k0_t1 : Fin (k0_t1_loop i).trips) (c0_i32_53 : BitVec 32) : Fin 3 → Nat :=
  let c0_61 : Index := 0#32
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let c1_i32_43 : BitVec 32 := 1#32
  let arg8 : BitVec 32 := Scf.iv c0_i32_41 c1_i32_43 k0_t1
  let c2_i32_52 : BitVec 32 := 2#32
  let v165 : BitVec 32 := Scalar.muli arg8 c2_i32_52
  let v166 : BitVec 32 := Scalar.addi v165 c0_i32_53
  let v171 : BitVec 32 := Scalar.subi v170 v166
  let c256_i32_60 : BitVec 32 := 256#32
  let v175 : BitVec 32 := Scalar.muli v171 c256_i32_60
  let v176 : BitVec 32 := v175
  let v177 : Index := Scalar.indexCast v176
  let c0_62 : Index := 0#32
  ![0, v177.toNat, 0]
def k0_mult4 (i : grid0.Coords) (k0_t1 : Fin (k0_t1_loop i).trips) : BitVec 32 :=
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let c1_i32_43 : BitVec 32 := 1#32
  let arg8 : BitVec 32 := Scf.iv c0_i32_41 c1_i32_43 k0_t1
  let c2_i32_52 : BitVec 32 := 2#32
  let v165 : BitVec 32 := Scalar.muli arg8 c2_i32_52
  let c0_i32_53 : BitVec 32 := 0#32
  let v166 : BitVec 32 := Scalar.addi v165 c0_i32_53
  let v171 : BitVec 32 := Scalar.subi v170 v166
  let c256_i32_63 : BitVec 32 := 256#32
  let v180 : BitVec 32 := Scalar.muli v171 c256_i32_63
  v180
def k0_mult5 (i : grid0.Coords) (k0_t1 : Fin (k0_t1_loop i).trips) : BitVec 32 :=
  let arg2 : BitVec 32 := BitVec.ofNat 32 (i 2).val
  let c2_i32_58 : BitVec 32 := 2#32
  let v172 : BitVec 32 := Scalar.muli arg2 c2_i32_58
  let c1_i32_59 : BitVec 32 := 1#32
  let v173 : BitVec 32 := Scalar.subi v172 c1_i32_59
  let c0_i32_41 : BitVec 32 := 0#32
  let c1_i32_43 : BitVec 32 := 1#32
  let arg8 : BitVec 32 := Scf.iv c0_i32_41 c1_i32_43 k0_t1
  let c2_i32_54 : BitVec 32 := 2#32
  let v167 : BitVec 32 := Scalar.muli arg8 c2_i32_54
  let c1_i32_55 : BitVec 32 := 1#32
  let v168 : BitVec 32 := Scalar.addi v167 c1_i32_55
  let v174 : BitVec 32 := Scalar.subi v173 v168
  let c256_i32_66 : BitVec 32 := 256#32
  let v185 : BitVec 32 := Scalar.muli v174 c256_i32_66
  v185
def k0_mult6 (i : grid0.Coords) (k0_t1 : Fin (k0_t1_loop i).trips) : BitVec 32 :=
  let arg2 : BitVec 32 := BitVec.ofNat 32 (i 2).val
  let c2_i32_58 : BitVec 32 := 2#32
  let v172 : BitVec 32 := Scalar.muli arg2 c2_i32_58
  let c1_i32_59 : BitVec 32 := 1#32
  let v173 : BitVec 32 := Scalar.subi v172 c1_i32_59
  let c0_i32_41 : BitVec 32 := 0#32
  let c1_i32_43 : BitVec 32 := 1#32
  let arg8 : BitVec 32 := Scf.iv c0_i32_41 c1_i32_43 k0_t1
  let c2_i32_54 : BitVec 32 := 2#32
  let v167 : BitVec 32 := Scalar.muli arg8 c2_i32_54
  let c1_i32_55 : BitVec 32 := 1#32
  let v168 : BitVec 32 := Scalar.addi v167 c1_i32_55
  let v174 : BitVec 32 := Scalar.subi v173 v168
  let c256_i32_69 : BitVec 32 := 256#32
  let v190 : BitVec 32 := Scalar.muli v174 c256_i32_69
  v190
@[reducible] def k0_t2_loop (i : grid0.Coords) : Scf.Loop 32 :=
  let c0_i32_41 : BitVec 32 := 0#32
  let arg2 : BitVec 32 := BitVec.ofNat 32 (i 2).val
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let v137 : BitVec 32 := Scalar.addi c0_i32_41 v136
  let c1_i32_44 : BitVec 32 := 1#32
  ⟨v140, v137, c1_i32_44⟩
def k0_mult7 (i : grid0.Coords) (k0_t2 : Fin (k0_t2_loop i).trips) : BitVec 32 :=
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_44 : BitVec 32 := 1#32
  let arg8 : BitVec 32 := Scf.iv v140 c1_i32_44 k0_t2
  let c2_i32_52 : BitVec 32 := 2#32
  let v165 : BitVec 32 := Scalar.muli arg8 c2_i32_52
  let c0_i32_53 : BitVec 32 := 0#32
  let v166 : BitVec 32 := Scalar.addi v165 c0_i32_53
  let v171 : BitVec 32 := Scalar.subi v170 v166
  let c256_i32_60 : BitVec 32 := 256#32
  let v175 : BitVec 32 := Scalar.muli v171 c256_i32_60
  v175
def k0_off3 (i : grid0.Coords) (k0_t2 : Fin (k0_t2_loop i).trips) (c0_i32_53 : BitVec 32) : Fin 3 → Nat :=
  let c0_61 : Index := 0#32
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_44 : BitVec 32 := 1#32
  let arg8 : BitVec 32 := Scf.iv v140 c1_i32_44 k0_t2
  let c2_i32_52 : BitVec 32 := 2#32
  let v165 : BitVec 32 := Scalar.muli arg8 c2_i32_52
  let v166 : BitVec 32 := Scalar.addi v165 c0_i32_53
  let v171 : BitVec 32 := Scalar.subi v170 v166
  let c256_i32_60 : BitVec 32 := 256#32
  let v175 : BitVec 32 := Scalar.muli v171 c256_i32_60
  let v176 : BitVec 32 := v175
  let v177 : Index := Scalar.indexCast v176
  let c0_62 : Index := 0#32
  ![0, v177.toNat, 0]
def k0_mult8 (i : grid0.Coords) (k0_t2 : Fin (k0_t2_loop i).trips) : BitVec 32 :=
  let arg2 : BitVec 32 := BitVec.ofNat 32 (i 2).val
  let c2_i32_56 : BitVec 32 := 2#32
  let v169 : BitVec 32 := Scalar.muli arg2 c2_i32_56
  let c1_i32_57 : BitVec 32 := 1#32
  let v170 : BitVec 32 := Scalar.subi v169 c1_i32_57
  let c0_i32_41 : BitVec 32 := 0#32
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_44 : BitVec 32 := 1#32
  let arg8 : BitVec 32 := Scf.iv v140 c1_i32_44 k0_t2
  let c2_i32_52 : BitVec 32 := 2#32
  let v165 : BitVec 32 := Scalar.muli arg8 c2_i32_52
  let c0_i32_53 : BitVec 32 := 0#32
  let v166 : BitVec 32 := Scalar.addi v165 c0_i32_53
  let v171 : BitVec 32 := Scalar.subi v170 v166
  let c256_i32_63 : BitVec 32 := 256#32
  let v180 : BitVec 32 := Scalar.muli v171 c256_i32_63
  v180
def k0_mult9 (i : grid0.Coords) (k0_t2 : Fin (k0_t2_loop i).trips) : BitVec 32 :=
  let arg2 : BitVec 32 := BitVec.ofNat 32 (i 2).val
  let c2_i32_58 : BitVec 32 := 2#32
  let v172 : BitVec 32 := Scalar.muli arg2 c2_i32_58
  let c1_i32_59 : BitVec 32 := 1#32
  let v173 : BitVec 32 := Scalar.subi v172 c1_i32_59
  let c0_i32_41 : BitVec 32 := 0#32
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_44 : BitVec 32 := 1#32
  let arg8 : BitVec 32 := Scf.iv v140 c1_i32_44 k0_t2
  let c2_i32_54 : BitVec 32 := 2#32
  let v167 : BitVec 32 := Scalar.muli arg8 c2_i32_54
  let c1_i32_55 : BitVec 32 := 1#32
  let v168 : BitVec 32 := Scalar.addi v167 c1_i32_55
  let v174 : BitVec 32 := Scalar.subi v173 v168
  let c256_i32_66 : BitVec 32 := 256#32
  let v185 : BitVec 32 := Scalar.muli v174 c256_i32_66
  v185
def k0_mult10 (i : grid0.Coords) (k0_t2 : Fin (k0_t2_loop i).trips) : BitVec 32 :=
  let arg2 : BitVec 32 := BitVec.ofNat 32 (i 2).val
  let c2_i32_58 : BitVec 32 := 2#32
  let v172 : BitVec 32 := Scalar.muli arg2 c2_i32_58
  let c1_i32_59 : BitVec 32 := 1#32
  let v173 : BitVec 32 := Scalar.subi v172 c1_i32_59
  let c0_i32_41 : BitVec 32 := 0#32
  let v136 : BitVec 32 := Scalar.subi arg2 c0_i32_41
  let c1_i32_42 : BitVec 32 := 1#32
  let v138 : BitVec 32 := Scalar.divsi v136 c1_i32_42
  let v139 : BitVec 32 := Scalar.muli v138 c1_i32_42
  let v140 : BitVec 32 := Scalar.addi c0_i32_41 v139
  let c1_i32_44 : BitVec 32 := 1#32
  let arg8 : BitVec 32 := Scf.iv v140 c1_i32_44 k0_t2
  let c2_i32_54 : BitVec 32 := 2#32
  let v167 : BitVec 32 := Scalar.muli arg8 c2_i32_54
  let c1_i32_55 : BitVec 32 := 1#32
  let v168 : BitVec 32 := Scalar.addi v167 c1_i32_55
  let v174 : BitVec 32 := Scalar.subi v173 v168
  let c256_i32_69 : BitVec 32 := 256#32
  let v190 : BitVec 32 := Scalar.muli v174 c256_i32_69
  v190
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 2, 8], ![false, false, false]⟩

@[reducible] def k1_t1_loop (i : grid1.Coords) : Scf.Loop 32 :=
  let c0_i32_12 : BitVec 32 := 0#32
  let arg2 : BitVec 32 := BitVec.ofNat 32 (i 2).val
  let v50 : BitVec 32 := Scalar.subi arg2 c0_i32_12
  let c1_i32 : BitVec 32 := 1#32
  let v52 : BitVec 32 := Scalar.divsi v50 c1_i32
  let v53 : BitVec 32 := Scalar.muli v52 c1_i32
  let v54 : BitVec 32 := Scalar.addi c0_i32_12 v53
  let c1_i32_13 : BitVec 32 := 1#32
  ⟨c0_i32_12, v54, c1_i32_13⟩
def k1_mult1 (i : grid1.Coords) (k1_t1 : Fin (k1_t1_loop i).trips) : BitVec 32 :=
  let c0_i32_12 : BitVec 32 := 0#32
  let c1_i32_13 : BitVec 32 := 1#32
  let arg11 : BitVec 32 := Scf.iv c0_i32_12 c1_i32_13 k1_t1
  let c2_i32_89 : BitVec 32 := 2#32
  let v264 : BitVec 32 := Scalar.muli arg11 c2_i32_89
  let c0_i32_90 : BitVec 32 := 0#32
  let v265 : BitVec 32 := Scalar.addi v264 c0_i32_90
  let c256_i32_93 : BitVec 32 := 256#32
  let v268 : BitVec 32 := Scalar.muli v265 c256_i32_93
  v268
def k1_mult2 (i : grid1.Coords) (k1_t1 : Fin (k1_t1_loop i).trips) : BitVec 32 :=
  let c0_i32_12 : BitVec 32 := 0#32
  let c1_i32_13 : BitVec 32 := 1#32
  let arg11 : BitVec 32 := Scf.iv c0_i32_12 c1_i32_13 k1_t1
  let c2_i32_91 : BitVec 32 := 2#32
  let v266 : BitVec 32 := Scalar.muli arg11 c2_i32_91
  let c1_i32_92 : BitVec 32 := 1#32
  let v267 : BitVec 32 := Scalar.addi v266 c1_i32_92
  let c256_i32_94 : BitVec 32 := 256#32
  let v270 : BitVec 32 := Scalar.muli v267 c256_i32_94
  v270
def k1_off1 (i : grid1.Coords) (k1_t1 : Fin (k1_t1_loop i).trips) (c0_i32_90 : BitVec 32) : Fin 3 → Nat :=
  let c0_95 : Index := 0#32
  let c0_i32_12 : BitVec 32 := 0#32
  let c1_i32_13 : BitVec 32 := 1#32
  let arg11 : BitVec 32 := Scf.iv c0_i32_12 c1_i32_13 k1_t1
  let c2_i32_89 : BitVec 32 := 2#32
  let v264 : BitVec 32 := Scalar.muli arg11 c2_i32_89
  let v265 : BitVec 32 := Scalar.addi v264 c0_i32_90
  let c256_i32_93 : BitVec 32 := 256#32
  let v268 : BitVec 32 := Scalar.muli v265 c256_i32_93
  let v269 : BitVec 32 := v268
  let v272 : Index := Scalar.indexCast v269
  let c0_96 : Index := 0#32
  ![0, v272.toNat, 0]
@[reducible] def k1_t2_loop (i : grid1.Coords) : Scf.Loop 32 :=
  let c0_i32_12 : BitVec 32 := 0#32
  let arg2 : BitVec 32 := BitVec.ofNat 32 (i 2).val
  let v50 : BitVec 32 := Scalar.subi arg2 c0_i32_12
  let c1_i32 : BitVec 32 := 1#32
  let v52 : BitVec 32 := Scalar.divsi v50 c1_i32
  let v53 : BitVec 32 := Scalar.muli v52 c1_i32
  let v54 : BitVec 32 := Scalar.addi c0_i32_12 v53
  let v51 : BitVec 32 := Scalar.addi c0_i32_12 v50
  let c1_i32_14 : BitVec 32 := 1#32
  ⟨v54, v51, c1_i32_14⟩
def k1_mult3 (i : grid1.Coords) (k1_t2 : Fin (k1_t2_loop i).trips) : BitVec 32 :=
  let c0_i32_12 : BitVec 32 := 0#32
  let arg2 : BitVec 32 := BitVec.ofNat 32 (i 2).val
  let v50 : BitVec 32 := Scalar.subi arg2 c0_i32_12
  let c1_i32 : BitVec 32 := 1#32
  let v52 : BitVec 32 := Scalar.divsi v50 c1_i32
  let v53 : BitVec 32 := Scalar.muli v52 c1_i32
  let v54 : BitVec 32 := Scalar.addi c0_i32_12 v53
  let c1_i32_14 : BitVec 32 := 1#32
  let arg11 : BitVec 32 := Scf.iv v54 c1_i32_14 k1_t2
  let c2_i32_89 : BitVec 32 := 2#32
  let v264 : BitVec 32 := Scalar.muli arg11 c2_i32_89
  let c0_i32_90 : BitVec 32 := 0#32
  let v265 : BitVec 32 := Scalar.addi v264 c0_i32_90
  let c256_i32_93 : BitVec 32 := 256#32
  let v268 : BitVec 32 := Scalar.muli v265 c256_i32_93
  v268
def k1_mult4 (i : grid1.Coords) (k1_t2 : Fin (k1_t2_loop i).trips) : BitVec 32 :=
  let c0_i32_12 : BitVec 32 := 0#32
  let arg2 : BitVec 32 := BitVec.ofNat 32 (i 2).val
  let v50 : BitVec 32 := Scalar.subi arg2 c0_i32_12
  let c1_i32 : BitVec 32 := 1#32
  let v52 : BitVec 32 := Scalar.divsi v50 c1_i32
  let v53 : BitVec 32 := Scalar.muli v52 c1_i32
  let v54 : BitVec 32 := Scalar.addi c0_i32_12 v53
  let c1_i32_14 : BitVec 32 := 1#32
  let arg11 : BitVec 32 := Scf.iv v54 c1_i32_14 k1_t2
  let c2_i32_91 : BitVec 32 := 2#32
  let v266 : BitVec 32 := Scalar.muli arg11 c2_i32_91
  let c1_i32_92 : BitVec 32 := 1#32
  let v267 : BitVec 32 := Scalar.addi v266 c1_i32_92
  let c256_i32_94 : BitVec 32 := 256#32
  let v270 : BitVec 32 := Scalar.muli v267 c256_i32_94
  v270
def k1_off2 (i : grid1.Coords) (k1_t2 : Fin (k1_t2_loop i).trips) (c0_i32_90 : BitVec 32) : Fin 3 → Nat :=
  let c0_95 : Index := 0#32
  let c0_i32_12 : BitVec 32 := 0#32
  let arg2 : BitVec 32 := BitVec.ofNat 32 (i 2).val
  let v50 : BitVec 32 := Scalar.subi arg2 c0_i32_12
  let c1_i32 : BitVec 32 := 1#32
  let v52 : BitVec 32 := Scalar.divsi v50 c1_i32
  let v53 : BitVec 32 := Scalar.muli v52 c1_i32
  let v54 : BitVec 32 := Scalar.addi c0_i32_12 v53
  let c1_i32_14 : BitVec 32 := 1#32
  let arg11 : BitVec 32 := Scf.iv v54 c1_i32_14 k1_t2
  let c2_i32_89 : BitVec 32 := 2#32
  let v264 : BitVec 32 := Scalar.muli arg11 c2_i32_89
  let v265 : BitVec 32 := Scalar.addi v264 c0_i32_90
  let c256_i32_93 : BitVec 32 := 256#32
  let v268 : BitVec 32 := Scalar.muli v265 c256_i32_93
  let v269 : BitVec 32 := v268
  let v272 : Index := Scalar.indexCast v269
  let c0_96 : Index := 0#32
  ![0, v272.toNat, 0]
def k1_mult5 (i : grid1.Coords) : BitVec 32 :=
  let arg2 : BitVec 32 := BitVec.ofNat 32 (i 2).val
  let c2_i32 : BitVec 32 := 2#32
  let v48 : BitVec 32 := Scalar.muli arg2 c2_i32
  let c0_i32_15 : BitVec 32 := 0#32
  let v57 : BitVec 32 := Scalar.addi v48 c0_i32_15
  let c256_i32 : BitVec 32 := 256#32
  let v58 : BitVec 32 := Scalar.muli v57 c256_i32
  v58
def k1_off3 (i : grid1.Coords) (c0_i32_15 : BitVec 32) : Fin 3 → Nat :=
  let c0_16 : Index := 0#32
  let arg2 : BitVec 32 := BitVec.ofNat 32 (i 2).val
  let c2_i32 : BitVec 32 := 2#32
  let v48 : BitVec 32 := Scalar.muli arg2 c2_i32
  let v57 : BitVec 32 := Scalar.addi v48 c0_i32_15
  let c256_i32 : BitVec 32 := 256#32
  let v58 : BitVec 32 := Scalar.muli v57 c256_i32
  let v59 : BitVec 32 := v58
  let v60 : Index := Scalar.indexCast v59
  let c0_17 : Index := 0#32
  ![0, v60.toNat, 0]
def k1_mult6 (i : grid1.Coords) : BitVec 32 :=
  let arg2 : BitVec 32 := BitVec.ofNat 32 (i 2).val
  let c2_i32 : BitVec 32 := 2#32
  let v48 : BitVec 32 := Scalar.muli arg2 c2_i32
  let c1_i32_50 : BitVec 32 := 1#32
  let v159 : BitVec 32 := Scalar.addi v48 c1_i32_50
  let c256_i32_51 : BitVec 32 := 256#32
  let v160 : BitVec 32 := Scalar.muli v159 c256_i32_51
  v160
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1x4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]
-- ==== SbRefIdeal.lean ====
abbrev S2x4096x256 : Shape := ⟨3, ![2, 4096, 256]⟩
abbrev S2x4096x2564 : Shape := ⟨3, ![2, 4096, 2564]⟩
abbrev S2x4096x4x64 : Shape := ⟨4, ![2, 4096, 4, 64]⟩
abbrev S2x4x4096x64 : Shape := ⟨4, ![2, 4, 4096, 64]⟩
abbrev S2x4x4096x4096 : Shape := ⟨4, ![2, 4, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x64x4096 : Shape := ⟨4, ![2, 4, 64, 4096]⟩
abbrev S8192x256 : Shape := ⟨2, ![8192, 256]⟩

abbrev nBuf : Space → Nat
  | .hbm => 179
  | .vmem => 0
  | .smem => 0
  | _ => 0

abbrev hbmTy0_0 (i : Nat) : BufTy := match i % 128 with
  | 0 => ⟨S2x4096x256, .f32⟩
  | 1 => ⟨S2x4096x2564, .f32⟩
  | 2 => ⟨S2x4096x256, .f32⟩
  | 3 => ⟨S2x4096x256, .f32⟩
  | 4 => ⟨S2x4096x256, .f32⟩
  | 5 => ⟨S2x4096x4x64, .f32⟩
  | 6 => ⟨S2x4x4096x64, .f32⟩
  | 7 => ⟨S2x4096x4x64, .f32⟩
  | 8 => ⟨S2x4x4096x64, .f32⟩
  | 9 => ⟨S2x4096x4x64, .f32⟩
  | 10 => ⟨S2x4x4096x64, .f32⟩
  | 11 => ⟨S2x4x4096x4096, .f32⟩
  | 12 => ⟨S_, .f32⟩
  | 13 => ⟨S2x4x4096x4096, .f32⟩
  | 14 => ⟨S2x4x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S2x4x4096x4096, .f32⟩
  | 22 => ⟨S_, .f32⟩
  | 23 => ⟨S2x4x4096x4096, .f32⟩
  | 24 => ⟨S2x4x4096x4096, .f32⟩
  | 25 => ⟨S2x4x4096x4096, .f32⟩
  | 26 => ⟨S2x4x4096x4096, .f32⟩
  | 27 => ⟨S2x4x4096x4096, .i1⟩
  | 28 => ⟨S2x4x4096x4096, .f32⟩
  | 29 => ⟨S2x4x4096x4096, .f32⟩
  | 30 => ⟨S2x4x4096x4096, .f32⟩
  | 31 => ⟨S2x4x4096x4096, .f32⟩
  | 32 => ⟨S2x4x4096x4096, .f32⟩
  | 33 => ⟨S2x4x4096x4096, .f32⟩
  | 34 => ⟨S2x4x4096x4096, .f32⟩
  | 35 => ⟨S2x4x4096x4096, .f32⟩
  | 36 => ⟨S_, .f32⟩
  | 37 => ⟨S2x4x4096x4096, .f32⟩
  | 38 => ⟨S2x4x4096x4096, .i1⟩
  | 39 => ⟨S_, .f32⟩
  | 40 => ⟨S2x4x4096x4096, .f32⟩
  | 41 => ⟨S2x4x4096x4096, .f32⟩
  | 42 => ⟨S_, .f32⟩
  | 43 => ⟨S2x4x4096x4096, .f32⟩
  | 44 => ⟨S2x4x4096x4096, .i1⟩
  | 45 => ⟨S_, .f32⟩
  | 46 => ⟨S2x4x4096x4096, .f32⟩
  | 47 => ⟨S2x4x4096x4096, .f32⟩
  | 48 => ⟨S2x4x4096x4096, .f32⟩
  | 49 => ⟨S2x4x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S2x4x4096x4096, .f32⟩
  | 58 => ⟨S2x4x4096x4096, .i1⟩
  | 59 => ⟨S_, .f32⟩
  | 60 => ⟨S2x4x4096x4096, .f32⟩
  | 61 => ⟨S2x4x4096x4096, .f32⟩
  | 62 => ⟨S2x4x4096x4096, .f32⟩
  | 63 => ⟨S2x4x4096x4096, .f32⟩
  | 64 => ⟨S2x4x4096x4096, .f32⟩
  | 65 => ⟨S_, .f32⟩
  | 66 => ⟨S2x4x4096x4096, .f32⟩
  | 67 => ⟨S2x4x4096x4096, .f32⟩
  | 68 => ⟨S2x4x4096x4096, .f32⟩
  | 69 => ⟨S2x4x4096x4096, .f32⟩
  | 70 => ⟨S2x4x4096x4096, .f32⟩
  | 71 => ⟨S_, .f32⟩
  | 72 => ⟨S2x4x4096x4096, .f32⟩
  | 73 => ⟨S2x4x4096x4096, .f32⟩
  | 74 => ⟨S2x4x4096x4096, .f32⟩
  | 75 => ⟨S2x4x4096x4096, .f32⟩
  | 76 => ⟨S2x4x4096x4096, .i1⟩
  | 77 => ⟨S2x4x4096x4096, .f32⟩
  | 78 => ⟨S2x4x4096x4096, .f32⟩
  | 79 => ⟨S2x4x4096x4096, .f32⟩
  | 80 => ⟨S2x4x4096x4096, .f32⟩
  | 81 => ⟨S2x4x4096x4096, .f32⟩
  | 82 => ⟨S2x4x4096x4096, .f32⟩
  | 83 => ⟨S2x4x4096x4096, .f32⟩
  | 84 => ⟨S2x4x4096x4096, .f32⟩
  | 85 => ⟨S_, .f32⟩
  | 86 => ⟨S2x4x4096x4096, .f32⟩
  | 87 => ⟨S2x4x4096x4096, .i1⟩
  | 88 => ⟨S_, .f32⟩
  | 89 => ⟨S2x4x4096x4096, .f32⟩
  | 90 => ⟨S2x4x4096x4096, .f32⟩
  | 91 => ⟨S_, .f32⟩
  | 92 => ⟨S2x4x4096x4096, .f32⟩
  | 93 => ⟨S2x4x4096x4096, .i1⟩
  | 94 => ⟨S_, .f32⟩
  | 95 => ⟨S2x4x4096x4096, .f32⟩
  | 96 => ⟨S2x4x4096x4096, .f32⟩
  | 97 => ⟨S2x4x4096x4096, .f32⟩
  | 98 => ⟨S2x4x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S2x4x4096x4096, .f32⟩
  | 107 => ⟨S2x4x4096x4096, .i1⟩
  | 108 => ⟨S_, .f32⟩
  | 109 => ⟨S2x4x4096x4096, .f32⟩
  | 110 => ⟨S2x4x4096x4096, .f32⟩
  | 111 => ⟨S2x4x4096x4096, .f32⟩
  | 112 => ⟨S2x4x4096x4096, .f32⟩
  | 113 => ⟨S2x4x4096x4096, .f32⟩
  | 114 => ⟨S_, .f32⟩
  | 115 => ⟨S2x4x4096x4096, .f32⟩
  | 116 => ⟨S2x4x4096x4096, .f32⟩
  | 117 => ⟨S2x4x4096x4096, .f32⟩
  | 118 => ⟨S_, .f32⟩
  | 119 => ⟨S_, .f32⟩
  | 120 => ⟨S2x4x4096x4096, .i1⟩
  | 121 => ⟨S2x4x4096x4096, .f32⟩
  | 122 => ⟨S2x4x4096x4096, .f32⟩
  | 123 => ⟨S_, .f32⟩
  | 124 => ⟨S2x4x4096x4096, .f32⟩
  | 125 => ⟨S_, .f32⟩
  | 126 => ⟨S_, .f32⟩
  | 127 => ⟨S2x4x4096x4096, .f32⟩
  | _ => ⟨S2x4096x256, .f32⟩

abbrev hbmTy0_1 (i : Nat) : BufTy := match i % 128 with
  | 0 => ⟨S2x4x4096x4096, .f32⟩
  | 1 => ⟨S2x4x4096x4096, .f32⟩
  | 2 => ⟨S2x4x4096x4096, .f32⟩
  | 3 => ⟨S_, .f32⟩
  | 4 => ⟨S_, .f32⟩
  | 5 => ⟨S2x4x4096x4096, .i1⟩
  | 6 => ⟨S2x4x4096x4096, .f32⟩
  | 7 => ⟨S2x4x4096x4096, .f32⟩
  | 8 => ⟨S_, .f32⟩
  | 9 => ⟨S2x4x4096x4096, .f32⟩
  | 10 => ⟨S2x4x4096x64, .f32⟩
  | 11 => ⟨S2x4096x4x64, .f32⟩
  | 12 => ⟨S2x4096x256, .f32⟩
  | 13 => ⟨S2x4096x4x64, .f32⟩
  | 14 => ⟨S2x4x4096x64, .f32⟩
  | 15 => ⟨S2x4x64x4096, .f32⟩
  | 16 => ⟨S2x4x4096x64, .f32⟩
  | 17 => ⟨S2x4x4096x4096, .f32⟩
  | 18 => ⟨S_, .f32⟩
  | 19 => ⟨S2x4x4096x4096, .f32⟩
  | 20 => ⟨S2x4x4096x4096, .f32⟩
  | 21 => ⟨S2x4x4096x4096, .f32⟩
  | 22 => ⟨S2x4x4096x4096, .f32⟩
  | 23 => ⟨S_, .f32⟩
  | 24 => ⟨S_, .f32⟩
  | 25 => ⟨S2x4x4096x4096, .f32⟩
  | 26 => ⟨S2x4x4096x4096, .f32⟩
  | 27 => ⟨S_, .f32⟩
  | 28 => ⟨S2x4x4096x4096, .f32⟩
  | 29 => ⟨S2x4x4096x4096, .f32⟩
  | 30 => ⟨S2x4x4096x4096, .f32⟩
  | 31 => ⟨S2x4x4096x4096, .f32⟩
  | 32 => ⟨S2x4x4096x4096, .f32⟩
  | 33 => ⟨S2x4x4096x4096, .f32⟩
  | 34 => ⟨S2x4x4096x4096, .f32⟩
  | 35 => ⟨S2x4x4096x4096, .f32⟩
  | 36 => ⟨S2x4x4096x4096, .f32⟩
  | 37 => ⟨S2x4x4096x4096, .f32⟩
  | 38 => ⟨S_, .f32⟩
  | 39 => ⟨S2x4x4096x4096, .f32⟩
  | 40 => ⟨S2x4x4096x4096, .f32⟩
  | 41 => ⟨S2x4x4096x64, .f32⟩
  | 42 => ⟨S2x4x4096x64, .f32⟩
  | 43 => ⟨S2x4096x4x64, .f32⟩
  | 44 => ⟨S2x4096x256, .f32⟩
  | 45 => ⟨S2x4096x4x64, .f32⟩
  | 46 => ⟨S2x4096x256, .f32⟩
  | 47 => ⟨S2x4096x4x64, .f32⟩
  | 48 => ⟨S2x4096x256, .f32⟩
  | 49 => ⟨S8192x256, .f32⟩
  | 50 => ⟨S8192x256, .f32⟩
  | _ => ⟨S2x4096x256, .f32⟩

abbrev hbmTy (i : Nat) : BufTy := match i / 128 with
  | 0 => hbmTy0_0 i
  | 1 => hbmTy0_1 i
  | _ => ⟨S2x4096x256, .f32⟩

abbrev bufTy : (tb : Table) → Fin (tcTables nBuf tb) → BufTy
  | .hbm, ⟨i, _⟩ => hbmTy i
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== Fox.lean ====
abbrev S2x4096x256 : Shape := ⟨3, ![2, 4096, 256]⟩
abbrev S2x4096x2564 : Shape := ⟨3, ![2, 4096, 2564]⟩
abbrev S2x4096x4 : Shape := ⟨3, ![2, 4096, 4]⟩
abbrev S_ : Shape := ⟨0, ![]⟩
abbrev S2x4096x2688 : Shape := ⟨3, ![2, 4096, 2688]⟩
abbrev S2x4x4096 : Shape := ⟨3, ![2, 4, 4096]⟩
abbrev S8192x4 : Shape := ⟨2, ![8192, 4]⟩
abbrev S2x4096x2x2 : Shape := ⟨4, ![2, 4096, 2, 2]⟩
abbrev S2x2x4096x2 : Shape := ⟨4, ![2, 2, 4096, 2]⟩
abbrev S2x2x2x4096 : Shape := ⟨4, ![2, 2, 2, 4096]⟩
abbrev S8192x256 : Shape := ⟨2, ![8192, 256]⟩
abbrev S2x8192x128 : Shape := ⟨3, ![2, 8192, 128]⟩
abbrev S1x512x128 : Shape := ⟨3, ![1, 512, 128]⟩
abbrev S1x4096x128 : Shape := ⟨3, ![1, 4096, 128]⟩
abbrev S1x1x512x2 : Shape := ⟨4, ![1, 1, 512, 2]⟩
abbrev S1x1x2x4096 : Shape := ⟨4, ![1, 1, 2, 4096]⟩
abbrev S512x128 : Shape := ⟨2, ![512, 128]⟩
abbrev S1x128 : Shape := ⟨2, ![1, 128]⟩
abbrev S1024x128 : Shape := ⟨2, ![1024, 128]⟩
abbrev S512x2 : Shape := ⟨2, ![512, 2]⟩
abbrev S512x1 : Shape := ⟨2, ![512, 1]⟩
abbrev S1024x1 : Shape := ⟨2, ![1024, 1]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S1024x256 : Shape := ⟨2, ![1024, 256]⟩
abbrev S1024 : Shape := ⟨1, ![1024]⟩
abbrev S2x2x8x4096 : Shape := ⟨4, ![2, 2, 8, 4096]⟩
abbrev S1x1x8x4096 : Shape := ⟨4, ![1, 1, 8, 4096]⟩
abbrev S512 : Shape := ⟨1, ![512]⟩
abbrev S512x256 : Shape := ⟨2, ![512, 256]⟩
abbrev S256 : Shape := ⟨1, ![256]⟩
abbrev S2x8192x2 : Shape := ⟨3, ![2, 8192, 2]⟩
abbrev S8192x2x2 : Shape := ⟨3, ![8192, 2, 2]⟩
abbrev S8192x128 : Shape := ⟨2, ![8192, 128]⟩

abbrev nBuf : Space → Nat
  | .hbm => 39
  | .vmem => 40
  | .smem => 0
  | _ => 0

abbrev bufTy : (tb : Table) → Fin (tcTables nBuf tb) → BufTy
  | .hbm, ⟨0, _⟩ => ⟨S2x4096x256, .f32⟩
  | .hbm, ⟨1, _⟩ => ⟨S2x4096x256, .f32⟩
  | .hbm, ⟨2, _⟩ => ⟨S2x4096x256, .f32⟩
  | .hbm, ⟨3, _⟩ => ⟨S2x4096x2564, .f32⟩
  | .hbm, ⟨4, _⟩ => ⟨S2x4096x4, .f32⟩
  | .hbm, ⟨5, _⟩ => ⟨S_, .i32⟩
  | .hbm, ⟨6, _⟩ => ⟨S_, .f32⟩
  | .hbm, ⟨7, _⟩ => ⟨S2x4096x2688, .f32⟩
  | .hbm, ⟨8, _⟩ => ⟨S2x4096x2688, .bf16⟩
  | .hbm, ⟨9, _⟩ => ⟨S2x4x4096, .f32⟩
  | .hbm, ⟨10, _⟩ => ⟨S_, .f32⟩
  | .hbm, ⟨11, _⟩ => ⟨S_, .f32⟩
  | .hbm, ⟨12, _⟩ => ⟨S2x4x4096, .f32⟩
  | .hbm, ⟨13, _⟩ => ⟨S2x4096x4, .f32⟩
  | .hbm, ⟨14, _⟩ => ⟨S8192x4, .f32⟩
  | .hbm, ⟨15, _⟩ => ⟨S2x4096x2x2, .f32⟩
  | .hbm, ⟨16, _⟩ => ⟨S2x2x4096x2, .f32⟩
  | .hbm, ⟨17, _⟩ => ⟨S2x2x2x4096, .f32⟩
  | .hbm, ⟨18, _⟩ => ⟨S2x4096x256, .bf16⟩
  | .hbm, ⟨19, _⟩ => ⟨S2x4096x256, .bf16⟩
  | .hbm, ⟨20, _⟩ => ⟨S8192x256, .f32⟩
  | .hbm, ⟨21, _⟩ => ⟨S2x8192x128, .f32⟩
  | .hbm, ⟨22, _⟩ => ⟨S8192x256, .f32⟩
  | .hbm, ⟨23, _⟩ => ⟨S8192x256, .f32⟩
  | .hbm, ⟨24, _⟩ => ⟨S2x4096x256, .f32⟩
  | .hbm, ⟨25, _⟩ => ⟨S2x4096x256, .f32⟩
  | .hbm, ⟨26, _⟩ => ⟨S2x2x8x4096, .f32⟩
  | .hbm, ⟨27, _⟩ => ⟨S2x8192x128, .f32⟩
  | .hbm, ⟨28, _⟩ => ⟨S2x2x2x4096, .f32⟩
  | .hbm, ⟨29, _⟩ => ⟨S2x4096x2x2, .f32⟩
  | .hbm, ⟨30, _⟩ => ⟨S8192x4, .f32⟩
  | .hbm, ⟨31, _⟩ => ⟨S2x8192x2, .f32⟩
  | .hbm, ⟨32, _⟩ => ⟨S8192x2x2, .f32⟩
  | .hbm, ⟨33, _⟩ => ⟨S8192x4, .f32⟩
  | .hbm, ⟨34, _⟩ => ⟨S8192x4, .f32⟩
  | .hbm, ⟨35, _⟩ => ⟨S_, .i32⟩
  | .hbm, ⟨36, _⟩ => ⟨S_, .f32⟩
  | .hbm, ⟨37, _⟩ => ⟨S8192x128, .f32⟩
  | .hbm, ⟨38, _⟩ => ⟨S8192x4, .f32⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x512x2, .f32⟩
  | .local _ .vmem, ⟨7, _⟩ => ⟨S1x1x512x2, .f32⟩
  | .local _ .vmem, ⟨8, _⟩ => ⟨S1x1x2x4096, .f32⟩
  | .local _ .vmem, ⟨9, _⟩ => ⟨S1x1x2x4096, .f32⟩
  | .local _ .vmem, ⟨10, _⟩ => ⟨S512x128, .f32⟩
  | .local _ .vmem, ⟨11, _⟩ => ⟨S512x128, .f32⟩
  | .local _ .vmem, ⟨12, _⟩ => ⟨S1x512x128, .f32⟩
  | .local _ .vmem, ⟨13, _⟩ => ⟨S1x512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .bf16⟩
  | .local _ .vmem, ⟨21, _⟩ => ⟨S1x512x128, .bf16⟩
  | .local _ .vmem, ⟨22, _⟩ => ⟨S1x4096x128, .bf16⟩
  | .local _ .vmem, ⟨23, _⟩ => ⟨S1x4096x128, .bf16⟩
  | .local _ .vmem, ⟨24, _⟩ => ⟨S1x4096x128, .bf16⟩
  | .local _ .vmem, ⟨25, _⟩ => ⟨S1x4096x128, .bf16⟩
  | .local _ .vmem, ⟨26, _⟩ => ⟨S1x1x512x2, .f32⟩
  | .local _ .vmem, ⟨27, _⟩ => ⟨S1x1x512x2, .f32⟩
  | .local _ .vmem, ⟨28, _⟩ => ⟨S1x1x2x4096, .f32⟩
  | .local _ .vmem, ⟨29, _⟩ => ⟨S1x1x2x4096, .f32⟩
  | .local _ .vmem, ⟨30, _⟩ => ⟨S512x128, .f32⟩
  | .local _ .vmem, ⟨31, _⟩ => ⟨S512x128, .f32⟩
  | .local _ .vmem, ⟨32, _⟩ => ⟨S1x4096x128, .f32⟩
  | .local _ .vmem, ⟨33, _⟩ => ⟨S1x4096x128, .f32⟩
  | .local _ .vmem, ⟨34, _⟩ => ⟨S1x4096x128, .f32⟩
  | .local _ .vmem, ⟨35, _⟩ => ⟨S1x4096x128, .f32⟩
  | .local _ .vmem, ⟨36, _⟩ => ⟨S1x1x8x4096, .f32⟩
  | .local _ .vmem, ⟨37, _⟩ => ⟨S1x1x8x4096, .f32⟩
  | .local _ .vmem, ⟨38, _⟩ => ⟨S1x512x128, .f32⟩
  | .local _ .vmem, ⟨39, _⟩ => ⟨S1x512x128, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_call0_cst : Ref sig .tc := ⟨.hbm, 10, rfl⟩
abbrev main_call1_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_0 : Ref sig .tc := ⟨.hbm, 35, rfl⟩
abbrev main_call2_v0 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_9 : BitVec 32 := 1#32
  ⟨c0_i32, v29, c1_i32_9⟩
def k0_mult1 (i : grid0.Coords) (k0_t1 : Fin (k0_t1_loop i).trips) : BitVec 32 :=
  let c0_i32 : BitVec 32 := 0#32
  let c1_i32_9 : BitVec 32 := 1#32
  let arg10 : BitVec 32 := Scf.iv c0_i32 c1_i32_9 k0_t1
  let c2_i32_57 : BitVec 32 := 2#32
  let v174 : BitVec 32 := Scalar.muli arg10 c2_i32_57
  let c0_i32_58 : BitVec 32 := 0#32
  let v175 : BitVec 32 := Scalar.addi v174 c0_i32_58
  let c256_i32_61 : BitVec 32 := 256#32
  let v178 : BitVec 32 := Scalar.muli v175 c256_i32_61
  v178
def k0_off1 (i : grid0.Coords) (k0_t1 : Fin (k0_t1_loop i).trips) (c0_i32_58 : BitVec 32) : Fin 3 → Nat :=
  let c0_62 : Index := 0#32
  let c0_i32 : BitVec 32 := 0#32
  let c1_i32_9 : BitVec 32 := 1#32
  let arg10 : BitVec 32 := Scf.iv c0_i32 c1_i32_9 k0_t1
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v180 : Index := Scalar.indexCast v179
  let c0_63 : Index := 0#32
  ![0, v180.toNat, 0]
def k0_off2 (i : grid0.Coords) (k0_t1 : Fin (k0_t1_loop i).trips) (c0_i32_58 : BitVec 32) : Fin 4 → Nat :=
  let c0_66 : Index := 0#32
  let c0_67 : Index := 0#32
  let c0_68 : Index := 0#32
  let c0_i32 : BitVec 32 := 0#32
  let c1_i32_9 : BitVec 32 := 1#32
  let arg10 : BitVec 32 := Scf.iv c0_i32 c1_i32_9 k0_t1
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v186 : Index := Scalar.indexCast v179
  ![0, 0, 0, v186.toNat]
def k0_off3 (i : grid0.Coords) (k0_t1 : Fin (k0_t1_loop i).trips) (c0_i32_58 : BitVec 32) : Fin 4 → Nat :=
  let c0_69 : Index := 0#32
  let c0_70 : Index := 0#32
  let c1_71 : Index := 1#32
  let c0_i32 : BitVec 32 := 0#32
  let c1_i32_9 : BitVec 32 := 1#32
  let arg10 : BitVec 32 := Scf.iv c0_i32 c1_i32_9 k0_t1
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v189 : Index := Scalar.indexCast v179
  ![0, 0, 1, v189.toNat]
def k0_mult2 (i : grid0.Coords) (k0_t1 : Fin (k0_t1_loop i).trips) : BitVec 32 :=
  let c0_i32 : BitVec 32 := 0#32
  let c1_i32_9 : BitVec 32 := 1#32
  let arg10 : BitVec 32 := Scf.iv c0_i32 c1_i32_9 k0_t1
  let c2_i32_59 : BitVec 32 := 2#32
  let v176 : BitVec 32 := Scalar.muli arg10 c2_i32_59
  let c1_i32_60 : BitVec 32 := 1#32
  let v177 : BitVec 32 := Scalar.addi v176 c1_i32_60
  let c256_i32_77 : BitVec 32 := 256#32
  let v222 : BitVec 32 := Scalar.muli v177 c256_i32_77
  v222
@[reducible] def k0_t2_loop (i : grid0.Coords) : Scf.Loop 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let v26 : BitVec 32 := Scalar.addi c0_i32 v25
  let c1_i32_10 : BitVec 32 := 1#32
  ⟨v29, v26, c1_i32_10⟩
def k0_mult3 (i : grid0.Coords) (k0_t2 : Fin (k0_t2_loop i).trips) : BitVec 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_10 : BitVec 32 := 1#32
  let arg10 : BitVec 32 := Scf.iv v29 c1_i32_10 k0_t2
  let c2_i32_57 : BitVec 32 := 2#32
  let v174 : BitVec 32 := Scalar.muli arg10 c2_i32_57
  let c0_i32_58 : BitVec 32 := 0#32
  let v175 : BitVec 32 := Scalar.addi v174 c0_i32_58
  let c256_i32_61 : BitVec 32 := 256#32
  let v178 : BitVec 32 := Scalar.muli v175 c256_i32_61
  v178
def k0_off4 (i : grid0.Coords) (k0_t2 : Fin (k0_t2_loop i).trips) (c0_i32_58 : BitVec 32) : Fin 3 → Nat :=
  let c0_62 : Index := 0#32
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_10 : BitVec 32 := 1#32
  let arg10 : BitVec 32 := Scf.iv v29 c1_i32_10 k0_t2
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v180 : Index := Scalar.indexCast v179
  let c0_63 : Index := 0#32
  ![0, v180.toNat, 0]
def k0_off5 (i : grid0.Coords) (k0_t2 : Fin (k0_t2_loop i).trips) (c0_i32_58 : BitVec 32) : Fin 4 → Nat :=
  let c0_66 : Index := 0#32
  let c0_67 : Index := 0#32
  let c0_68 : Index := 0#32
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_10 : BitVec 32 := 1#32
  let arg10 : BitVec 32 := Scf.iv v29 c1_i32_10 k0_t2
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v186 : Index := Scalar.indexCast v179
  ![0, 0, 0, v186.toNat]
def k0_off6 (i : grid0.Coords) (k0_t2 : Fin (k0_t2_loop i).trips) (c0_i32_58 : BitVec 32) : Fin 4 → Nat :=
  let c0_69 : Index := 0#32
  let c0_70 : Index := 0#32
  let c1_71 : Index := 1#32
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_10 : BitVec 32 := 1#32
  let arg10 : BitVec 32 := Scf.iv v29 c1_i32_10 k0_t2
  let c2_i32_57 : BitVec 32 := 2#32
  let v174 : BitVec 32 := Scalar.muli arg10 c2_i32_57
  let v175 : BitVec 32 := Scalar.addi v174 c0_i32_58
  let c256_i32_61 : BitVec 32 := 256#32
  let v178 : BitVec 32 := Scalar.muli v175 c256_i32_61
  let v179 : BitVec 32 := v178
  let v189 : Index := Scalar.indexCast v179
  ![0, 0, 1, v189.toNat]
def k0_mult4 (i : grid0.Coords) (k0_t2 : Fin (k0_t2_loop i).trips) : BitVec 32 :=
  let c0_i32 : BitVec 32 := 0#32
  let arg2 : BitVec 32 := BitVec.ofNat 32 (i 2).val
  let v25 : BitVec 32 := Scalar.subi arg2 c0_i32
  let c1_i32 : BitVec 32 := 1#32
  let v27 : BitVec 32 := Scalar.divsi v25 c1_i32
  let v28 : BitVec 32 := Scalar.muli v27 c1_i32
  let v29 : BitVec 32 := Scalar.addi c0_i32 v28
  let c1_i32_10 : BitVec 32 := 1#32
  let arg10 : BitVec 32 := Scf.iv v29 c1_i32_10 k0_t2
  let c2_i32_59 : BitVec 32 := 2#32
  let v176 : BitVec 32 := Scalar.muli arg10 c2_i32_59
  let c1_i32_60 : BitVec 32 := 1#32
  let v177 : BitVec 32 := Scalar.addi v176 c1_i32_60
  let c256_i32_77 : BitVec 32 := 256#32
  let v222 : BitVec 32 := Scalar.muli v177 c256_i32_77
  v222
def k0_mult5 (i : grid0.Coords) : BitVec 32 :=
  let arg2 : BitVec 32 := BitVec.ofNat 32 (i 2).val
  let c2_i32 : BitVec 32 := 2#32
  let v21 : BitVec 32 := Scalar.muli arg2 c2_i32
  let c0_i32_11 : BitVec 32 := 0#32
  let v32 : BitVec 32 := Scalar.addi v21 c0_i32_11
  let c256_i32 : BitVec 32 := 256#32
  let v33 : BitVec 32 := Scalar.muli v32 c256_i32
  v33
def k0_off7 (i : grid0.Coords) (c0_i32_11 : BitVec 32) : Fin 3 → Nat :=
  let c0_12 : Index := 0#32
  let arg2 : BitVec 32 := BitVec.ofNat 32 (i 2).val
  let c2_i32 : BitVec 32 := 2#32
  let v21 : BitVec 32 := Scalar.muli arg2 c2_i32
  let v32 : BitVec 32 := Scalar.addi v21 c0_i32_11
  let c256_i32 : BitVec 32 := 256#32
  let v33 : BitVec 32 := Scalar.muli v32 c256_i32
  let v34 : BitVec 32 := v33
  let v35 : Index := Scalar.indexCast v34
  let c0_13 : Index := 0#32
  ![0, v35.toNat, 0]
def k0_off8 (i : grid0.Coords) (c0_i32_11 : BitVec 32) : Fin 4 → Nat :=
  let c0_16 : Index := 0#32
  let c0_17 : Index := 0#32
  let c0_18 : Index := 0#32
  let arg2 : BitVec 32 := BitVec.ofNat 32 (i 2).val
  let c2_i32 : BitVec 32 := 2#32
  let v21 : BitVec 32 := Scalar.muli arg2 c2_i32
  let v32 : BitVec 32 := Scalar.addi v21 c0_i32_11
  let c256_i32 : BitVec 32 := 256#32
  let v33 : BitVec 32 := Scalar.muli v32 c256_i32
  let v34 : BitVec 32 := v33
  let v41 : Index := Scalar.indexCast v34
  ![0, 0, 0, v41.toNat]
def k0_off9 (i : grid0.Coords) (c0_i32_11 : BitVec 32) : Fin 4 → Nat :=
  let c0_19 : Index := 0#32
  let c0_20 : Index := 0#32
  let c1 : Index := 1#32
  let arg2 : BitVec 32 := BitVec.ofNat 32 (i 2).val
  let c2_i32 : BitVec 32 := 2#32
  let v21 : BitVec 32 := Scalar.muli arg2 c2_i32
  let v32 : BitVec 32 := Scalar.addi v21 c0_i32_11
  let c256_i32 : BitVec 32 := 256#32
  let v33 : BitVec 32 := Scalar.muli v32 c256_i32
  let v34 : BitVec 32 := v33
  let v44 : Index := Scalar.indexCast v34
  ![0, 0, 1, v44.toNat]
def k0_mult6 (i : grid0.Coords) : BitVec 32 :=
  let arg2 : BitVec 32 := BitVec.ofNat 32 (i 2).val
  let c2_i32 : BitVec 32 := 2#32
  let v21 : BitVec 32 := Scalar.muli arg2 c2_i32
  let c1_i32_29 : BitVec 32 := 1#32
  let v90 : BitVec 32 := Scalar.addi v21 c1_i32_29
  let c256_i32_30 : BitVec 32 := 256#32
  let v91 : BitVec 32 := Scalar.muli v90 c256_i32_30
  v91
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev grid1 : Pipeline.Grid := ⟨3, ![2, 2, 8], ![false, false, false]⟩

@[reducible] def k1_t1_loop (i : grid1.Coords) : Scf.Loop 32 :=
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_24 : BitVec 32 := 1#32
  ⟨c0_i32_23, v70, c1_i32_24⟩
def k1_mult1 (i : grid1.Coords) (k1_t1 : Fin (k1_t1_loop i).trips) : BitVec 32 :=
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let c0_i32_125 : BitVec 32 := 0#32
  let v297 : BitVec 32 := Scalar.addi v296 c0_i32_125
  let c256_i32_128 : BitVec 32 := 256#32
  let v300 : BitVec 32 := Scalar.muli v297 c256_i32_128
  v300
def k1_mult2 (i : grid1.Coords) (k1_t1 : Fin (k1_t1_loop i).trips) : BitVec 32 :=
  let c0_i32_23 : BitVec 32 := 0#32
  let c1_i32_24 : BitVec 32 := 1#32
  let arg16 : BitVec 32 := Scf.iv c0_i32_23 c1_i32_24 k1_t1
  let c2_i32_126 : BitVec 32 := 2#32
  let v298 : BitVec 32 := Scalar.muli arg16 c2_i32_126
  let c1_i32_127 : BitVec 32 := 1#32
  let v299 : BitVec 32 := Scalar.addi v298 c1_i32_127
  let c256_i32_129 : BitVec 32 := 256#32
  let v302 : BitVec 32 := Scalar.muli v299 c256_i32_129
  v302
def k1_off1 (i : grid1.Coords) (k1_t1 : Fin (k1_t1_loop i).trips) (c0_i32_125 : BitVec 32) : Fin 3 → Nat :=
  let c0_130 : Index := 0#32
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v304 : Index := Scalar.indexCast v301
  let c0_131 : Index := 0#32
  ![0, v304.toNat, 0]
def k1_off2 (i : grid1.Coords) (k1_t1 : Fin (k1_t1_loop i).trips) (c0_i32_125 : BitVec 32) : Fin 4 → Nat :=
  let c0_138 : Index := 0#32
  let c0_139 : Index := 0#32
  let c0_140 : Index := 0#32
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v316 : Index := Scalar.indexCast v301
  ![0, 0, 0, v316.toNat]
def k1_off3 (i : grid1.Coords) (k1_t1 : Fin (k1_t1_loop i).trips) (c0_i32_125 : BitVec 32) : Fin 4 → Nat :=
  let c0_141 : Index := 0#32
  let c0_142 : Index := 0#32
  let c1_143 : Index := 1#32
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v319 : Index := Scalar.indexCast v301
  ![0, 0, 1, v319.toNat]
def k1_off4 (i : grid1.Coords) (k1_t1 : Fin (k1_t1_loop i).trips) (c0_i32_125 : BitVec 32) : Fin 4 → Nat :=
  let c0_167 : Index := 0#32
  let c0_168 : Index := 0#32
  let c0_169 : Index := 0#32
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v390 : Index := Scalar.indexCast v301
  ![0, 0, 0, v390.toNat]
def k1_off5 (i : grid1.Coords) (k1_t1 : Fin (k1_t1_loop i).trips) (c0_i32_125 : BitVec 32) : Fin 4 → Nat :=
  let c0_174 : Index := 0#32
  let c0_175 : Index := 0#32
  let c1_176 : Index := 1#32
  let c0_i32_23 : BitVec 32 := 0#32
  let c1_i32_24 : BitVec 32 := 1#32
  let arg16 : BitVec 32 := Scf.iv c0_i32_23 c1_i32_24 k1_t1
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v401 : Index := Scalar.indexCast v301
  ![0, 0, 1, v401.toNat]
@[reducible] def k1_t2_loop (i : grid1.Coords) : Scf.Loop 32 :=
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let v67 : BitVec 32 := Scalar.addi c0_i32_23 v66
  let c1_i32_25 : BitVec 32 := 1#32
  ⟨v70, v67, c1_i32_25⟩
def k1_mult3 (i : grid1.Coords) (k1_t2 : Fin (k1_t2_loop i).trips) : BitVec 32 :=
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let c0_i32_125 : BitVec 32 := 0#32
  let v297 : BitVec 32 := Scalar.addi v296 c0_i32_125
  let c256_i32_128 : BitVec 32 := 256#32
  let v300 : BitVec 32 := Scalar.muli v297 c256_i32_128
  v300
def k1_mult4 (i : grid1.Coords) (k1_t2 : Fin (k1_t2_loop i).trips) : BitVec 32 :=
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_126 : BitVec 32 := 2#32
  let v298 : BitVec 32 := Scalar.muli arg16 c2_i32_126
  let c1_i32_127 : BitVec 32 := 1#32
  let v299 : BitVec 32 := Scalar.addi v298 c1_i32_127
  let c256_i32_129 : BitVec 32 := 256#32
  let v302 : BitVec 32 := Scalar.muli v299 c256_i32_129
  v302
def k1_off6 (i : grid1.Coords) (k1_t2 : Fin (k1_t2_loop i).trips) (c0_i32_125 : BitVec 32) : Fin 3 → Nat :=
  let c0_130 : Index := 0#32
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v304 : Index := Scalar.indexCast v301
  let c0_131 : Index := 0#32
  ![0, v304.toNat, 0]
def k1_off7 (i : grid1.Coords) (k1_t2 : Fin (k1_t2_loop i).trips) (c0_i32_125 : BitVec 32) : Fin 4 → Nat :=
  let c0_138 : Index := 0#32
  let c0_139 : Index := 0#32
  let c0_140 : Index := 0#32
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v316 : Index := Scalar.indexCast v301
  ![0, 0, 0, v316.toNat]
def k1_off8 (i : grid1.Coords) (k1_t2 : Fin (k1_t2_loop i).trips) (c0_i32_125 : BitVec 32) : Fin 4 → Nat :=
  let c0_141 : Index := 0#32
  let c0_142 : Index := 0#32
  let c1_143 : Index := 1#32
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v319 : Index := Scalar.indexCast v301
  ![0, 0, 1, v319.toNat]
def k1_off9 (i : grid1.Coords) (k1_t2 : Fin (k1_t2_loop i).trips) (c0_i32_125 : BitVec 32) : Fin 4 → Nat :=
  let c0_167 : Index := 0#32
  let c0_168 : Index := 0#32
  let c0_169 : Index := 0#32
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v390 : Index := Scalar.indexCast v301
  ![0, 0, 0, v390.toNat]
def k1_off10 (i : grid1.Coords) (k1_t2 : Fin (k1_t2_loop i).trips) (c0_i32_125 : BitVec 32) : Fin 4 → Nat :=
  let c0_174 : Index := 0#32
  let c0_175 : Index := 0#32
  let c1_176 : Index := 1#32
  let c0_i32_23 : BitVec 32 := 0#32
  let arg2 : BitVec 32 := BitVec.ofNat 32 (i 2).val
  let v66 : BitVec 32 := Scalar.subi arg2 c0_i32_23
  let c1_i32 : BitVec 32 := 1#32
  let v68 : BitVec 32 := Scalar.divsi v66 c1_i32
  let v69 : BitVec 32 := Scalar.muli v68 c1_i32
  let v70 : BitVec 32 := Scalar.addi c0_i32_23 v69
  let c1_i32_25 : BitVec 32 := 1#32
  let arg16 : BitVec 32 := Scf.iv v70 c1_i32_25 k1_t2
  let c2_i32_124 : BitVec 32 := 2#32
  let v296 : BitVec 32 := Scalar.muli arg16 c2_i32_124
  let v297 : BitVec 32 := Scalar.addi v296 c0_i32_125
  let c256_i32_128 : BitVec 32 := 256#32
  let v300 : BitVec 32 := Scalar.muli v297 c256_i32_128
  let v301 : BitVec 32 := v300
  let v401 : Index := Scalar.indexCast v301
  ![0, 0, 1, v401.toNat]
def k1_mult5 (i : grid1.Coords) : BitVec 32 :=
  let arg2 : BitVec 32 := BitVec.ofNat 32 (i 2).val
  let c2_i32 : BitVec 32 := 2#32
  let v63 : BitVec 32 := Scalar.muli arg2 c2_i32
  let c0_i32_26 : BitVec 32 := 0#32
  let v73 : BitVec 32 := Scalar.addi v63 c0_i32_26
  let c256_i32 : BitVec 32 := 256#32
  let v74 : BitVec 32 := Scalar.muli v73 c256_i32
  v74
def k1_off11 (i : grid1.Coords) (c0_i32_26 : BitVec 32) : Fin 3 → Nat :=
  let c0_27 : Index := 0#32
  let arg2 : BitVec 32 := BitVec.ofNat 32 (i 2).val
  let c2_i32 : BitVec 32 := 2#32
  let v63 : BitVec 32 := Scalar.muli arg2 c2_i32
  let v73 : BitVec 32 := Scalar.addi v63 c0_i32_26
  let c256_i32 : BitVec 32 := 256#32
  let v74 : BitVec 32 := Scalar.muli v73 c256_i32
  let v75 : BitVec 32 := v74
  let v76 : Index := Scalar.indexCast v75
  let c0_28 : Index := 0#32
  ![0, v76.toNat, 0]
def k1_off12 (i : grid1.Coords) (c0_i32_26 : BitVec 32) : Fin 4 → Nat :=
  let c0_31 : Index := 0#32
  let c0_32 : Index := 0#32
  let c0_33 : Index := 0#32
  let arg2 : BitVec 32 := BitVec.ofNat 32 (i 2).val
  let c2_i32 : BitVec 32 := 2#32
  let v63 : BitVec 32 := Scalar.muli arg2 c2_i32
  let v73 : BitVec 32 := Scalar.addi v63 c0_i32_26
  let c256_i32 : BitVec 32 := 256#32
  let v74 : BitVec 32 := Scalar.muli v73 c256_i32
  let v75 : BitVec 32 := v74
  let v82 : Index := Scalar.indexCast v75
  ![0, 0, 0, v82.toNat]
def k1_off13 (i : grid1.Coords) (c0_i32_26 : BitVec 32) : Fin 4 → Nat :=
  let c0_34 : Index := 0#32
  let c0_35 : Index := 0#32
  let c1 : Index := 1#32
  let arg2 : BitVec 32 := BitVec.ofNat 32 (i 2).val
  let c2_i32 : BitVec 32 := 2#32
  let v63 : BitVec 32 := Scalar.muli arg2 c2_i32
  let v73 : BitVec 32 := Scalar.addi v63 c0_i32_26
  let c256_i32 : BitVec 32 := 256#32
  let v74 : BitVec 32 := Scalar.muli v73 c256_i32
  let v75 : BitVec 32 := v74
  let v85 : Index := Scalar.indexCast v75
  ![0, 0, 1, v85.toNat]
def k1_off14 (i : grid1.Coords) (c0_i32_26 : BitVec 32) : Fin 4 → Nat :=
  let c0_53 : Index := 0#32
  let c0_54 : Index := 0#32
  let c0_55 : Index := 0#32
  let arg2 : BitVec 32 := BitVec.ofNat 32 (i 2).val
  let c2_i32 : BitVec 32 := 2#32
  let v63 : BitVec 32 := Scalar.muli arg2 c2_i32
  let v73 : BitVec 32 := Scalar.addi v63 c0_i32_26
  let c256_i32 : BitVec 32 := 256#32
  let v74 : BitVec 32 := Scalar.muli v73 c256_i32
  let v75 : BitVec 32 := v74
  let v143 : Index := Scalar.indexCast v75
  ![0, 0, 0, v143.toNat]
def k1_off15 (i : grid1.Coords) (c0_i32_26 : BitVec 32) : Fin 4 → Nat :=
  let c0_60 : Index := 0#32
  let c0_61 : Index := 0#32
  let c1_62 : Index := 1#32
  let arg2 : BitVec 32 := BitVec.ofNat 32 (i 2).val
  let c2_i32 : BitVec 32 := 2#32
  let v63 : BitVec 32 := Scalar.muli arg2 c2_i32
  let v73 : BitVec 32 := Scalar.addi v63 c0_i32_26
  let c256_i32 : BitVec 32 := 256#32
  let v74 : BitVec 32 := Scalar.muli v73 c256_i32
  let v75 : BitVec 32 := v74
  let v154 : Index := Scalar.indexCast v75
  ![0, 0, 1, v154.toNat]
def k1_mult6 (i : grid1.Coords) : BitVec 32 :=
  let arg2 : BitVec 32 := BitVec.ofNat 32 (i 2).val
  let c2_i32 : BitVec 32 := 2#32
  let v63 : BitVec 32 := Scalar.muli arg2 c2_i32
  let c1_i32_69 : BitVec 32 := 1#32
  let v170 : BitVec 32 := Scalar.addi v63 c1_i32_69
  let c256_i32_70 : BitVec 32 := 256#32
  let v171 : BitVec 32 := Scalar.muli v170 c256_i32_70
  v171
def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S1x4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x1x512x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x1x2x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, false]

abbrev stage1_10 : Fin 2 → Memref sig .tc .vmem S1x4096x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]

abbrev stage1_11 : Fin 2 → Memref sig .tc .vmem S1x1x8x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, false]

abbrev stage1_12 : Fin 2 → Memref sig .tc .vmem S1x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]
-- ==== FoxIdeal.lean ====
variable {F : FTy → Type} [FloatOps F] [Named F]
def κ : String → Option EReal := fun
  | "no_key" => some ⊥
  | _ => none
-- ==== FoxRefIdeal.lean ====
abbrev S2x4096x256 : Shape := ⟨3, ![2, 4096, 256]⟩
abbrev S2x4096x2564 : Shape := ⟨3, ![2, 4096, 2564]⟩
abbrev S2x4096x4 : Shape := ⟨3, ![2, 4096, 4]⟩
abbrev S2x4x4096 : Shape := ⟨3, ![2, 4, 4096]⟩
abbrev S_ : Shape := ⟨0, ![]⟩
abbrev S2x4096x4x64 : Shape := ⟨4, ![2, 4096, 4, 64]⟩
abbrev S2x4x4096x64 : Shape := ⟨4, ![2, 4, 4096, 64]⟩
abbrev S2x4x4096x4096 : Shape := ⟨4, ![2, 4, 4096, 4096]⟩
abbrev S2x4x4096x1 : Shape := ⟨4, ![2, 4, 4096, 1]⟩
abbrev S2x4x1x4096 : Shape := ⟨4, ![2, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x64x4096 : Shape := ⟨4, ![2, 4, 64, 4096]⟩
abbrev S8192x256 : Shape := ⟨2, ![8192, 256]⟩
abbrev S8192x4 : Shape := ⟨2, ![8192, 4]⟩

abbrev nBuf : Space → Nat
  | .hbm => 129
  | .vmem => 0
  | .smem => 0
  | _ => 0

abbrev hbmTy0_0 (i : Nat) : BufTy := match i % 128 with
  | 0 => ⟨S2x4096x256, .f32⟩
  | 1 => ⟨S2x4096x256, .f32⟩
  | 2 => ⟨S2x4096x256, .f32⟩
  | 3 => ⟨S2x4096x2564, .f32⟩
  | 4 => ⟨S2x4096x4, .f32⟩
  | 5 => ⟨S2x4x4096, .f32⟩
  | 6 => ⟨S_, .f32⟩
  | 7 => ⟨S_, .f32⟩
  | 8 => ⟨S2x4x4096, .f32⟩
  | 9 => ⟨S2x4096x256, .f32⟩
  | 10 => ⟨S2x4096x4x64, .f32⟩
  | 11 => ⟨S2x4x4096x64, .f32⟩
  | 12 => ⟨S2x4096x4x64, .f32⟩
  | 13 => ⟨S2x4x4096x64, .f32⟩
  | 14 => ⟨S2x4096x4x64, .f32⟩
  | 15 => ⟨S2x4x4096x64, .f32⟩
  | 16 => ⟨S2x4x4096x4096, .f32⟩
  | 17 => ⟨S_, .f32⟩
  | 18 => ⟨S2x4x4096x4096, .f32⟩
  | 19 => ⟨S2x4x4096x4096, .f32⟩
  | 20 => ⟨S2x4x4096x1, .f32⟩
  | 21 => ⟨S2x4x4096x4096, .f32⟩
  | 22 => ⟨S2x4x4096x4096, .f32⟩
  | 23 => ⟨S2x4x1x4096, .f32⟩
  | 24 => ⟨S2x4x4096x4096, .f32⟩
  | 25 => ⟨S2x4x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S2x4x4096x4096, .i1⟩
  | 35 => ⟨S2x4x4096x4096, .f32⟩
  | 36 => ⟨S2x4x4096x4096, .f32⟩
  | 37 => ⟨S_, .f32⟩
  | 38 => ⟨S2x4x4096x4096, .f32⟩
  | 39 => ⟨S_, .f32⟩
  | 40 => ⟨S2x4x4096, .f32⟩
  | 41 => ⟨S2x4x4096x1, .f32⟩
  | 42 => ⟨S2x4x4096x4096, .f32⟩
  | 43 => ⟨S2x4x4096x4096, .i1⟩
  | 44 => ⟨S2x4x4096x4096, .f32⟩
  | 45 => ⟨S_, .f32⟩
  | 46 => ⟨S2x4x4096, .f32⟩
  | 47 => ⟨S_, .f32⟩
  | 48 => ⟨S2x4x4096, .f32⟩
  | 49 => ⟨S2x4x4096, .f32⟩
  | 50 => ⟨S_, .f32⟩
  | 51 => ⟨S2x4x4096, .f32⟩
  | 52 => ⟨S2x4x4096, .i1⟩
  | 53 => ⟨S_, .f32⟩
  | 54 => ⟨S2x4x4096, .f32⟩
  | 55 => ⟨S2x4x4096, .i1⟩
  | 56 => ⟨S_, .f32⟩
  | 57 => ⟨S2x4x4096, .f32⟩
  | 58 => ⟨S_, .f32⟩
  | 59 => ⟨S2x4x4096, .f32⟩
  | 60 => ⟨S_, .f32⟩
  | 61 => ⟨S2x4x4096, .f32⟩
  | 62 => ⟨S2x4x4096, .f32⟩
  | 63 => ⟨S2x4x4096, .f32⟩
  | 64 => ⟨S2x4x4096x1, .f32⟩
  | 65 => ⟨S2x4x4096x4096, .f32⟩
  | 66 => ⟨S2x4x4096x4096, .f32⟩
  | 67 => ⟨S2x4x4096x4096, .f32⟩
  | 68 => ⟨S_, .f32⟩
  | 69 => ⟨S2x4x4096, .f32⟩
  | 70 => ⟨S2x4x4096x1, .f32⟩
  | 71 => ⟨S2x4x4096x4096, .f32⟩
  | 72 => ⟨S2x4x4096x4096, .f32⟩
  | 73 => ⟨S2x4x4096x1, .f32⟩
  | 74 => ⟨S_, .f32⟩
  | 75 => ⟨S2x4x4096x1, .f32⟩
  | 76 => ⟨S2x4x4096x1, .f32⟩
  | 77 => ⟨S2x4x4096x64, .f32⟩
  | 78 => ⟨S2x4096x4x64, .f32⟩
  | 79 => ⟨S2x4096x256, .f32⟩
  | 80 => ⟨S2x4096x4x64, .f32⟩
  | 81 => ⟨S2x4x4096x64, .f32⟩
  | 82 => ⟨S2x4x64x4096, .f32⟩
  | 83 => ⟨S2x4x4096x64, .f32⟩
  | 84 => ⟨S2x4x4096x4096, .f32⟩
  | 85 => ⟨S2x4x4096x4096, .f32⟩
  | 86 => ⟨S2x4x4096x4096, .f32⟩
  | 87 => ⟨S2x4x4096x4096, .f32⟩
  | 88 => ⟨S_, .f32⟩
  | 89 => ⟨S2x4x4096, .f32⟩
  | 90 => ⟨S2x4x4096x1, .f32⟩
  | 91 => ⟨S2x4x4096x1, .f32⟩
  | 92 => ⟨S2x4x4096x4096, .f32⟩
  | 93 => ⟨S2x4x4096x4096, .f32⟩
  | 94 => ⟨S_, .f32⟩
  | 95 => ⟨S2x4x4096, .f32⟩
  | 96 => ⟨S2x4x4096x4096, .f32⟩
  | 97 => ⟨S2x4x4096x4096, .f32⟩
  | 98 => ⟨S2x4x4096x4096, .f32⟩
  | 99 => ⟨S_, .f32⟩
  | 100 => ⟨S2x4x4096x4096, .f32⟩
  | 101 => ⟨S2x4x4096x4096, .f32⟩
  | 102 => ⟨S2x4x4096x4096, .f32⟩
  | 103 => ⟨S_, .f32⟩
  | 104 => ⟨S2x4x4096, .f32⟩
  | 105 => ⟨S2x4x1x4096, .f32⟩
  | 106 => ⟨S_, .f32⟩
  | 107 => ⟨S2x4x4096, .f32⟩
  | 108 => ⟨S_, .f32⟩
  | 109 => ⟨S2x4x4096, .f32⟩
  | 110 => ⟨S2x4x4096x1, .f32⟩
  | 111 => ⟨S_, .f32⟩
  | 112 => ⟨S2x4x4096, .f32⟩
  | 113 => ⟨S2x4x4096, .f32⟩
  | 114 => ⟨S_, .f32⟩
  | 115 => ⟨S2x4x4096x4096, .f32⟩
  | 116 => ⟨S2x4x4096x4096, .f32⟩
  | 117 => ⟨S2x4x4096x64, .f32⟩
  | 118 => ⟨S2x4x4096x64, .f32⟩
  | 119 => ⟨S2x4096x4x64, .f32⟩
  | 120 => ⟨S2x4096x256, .f32⟩
  | 121 => ⟨S2x4096x4x64, .f32⟩
  | 122 => ⟨S2x4096x256, .f32⟩
  | 123 => ⟨S2x4096x4x64, .f32⟩
  | 124 => ⟨S2x4096x256, .f32⟩
  | 125 => ⟨S8192x256, .f32⟩
  | 126 => ⟨S8192x256, .f32⟩
  | 127 => ⟨S2x4096x4, .f32⟩
  | _ => ⟨S2x4096x256, .f32⟩

abbrev hbmTy0_1 (i : Nat) : BufTy := match i % 128 with
  | 0 => ⟨S8192x4, .f32⟩
  | _ => ⟨S2x4096x256, .f32⟩

abbrev hbmTy (i : Nat) : BufTy := match i / 128 with
  | 0 => hbmTy0_0 i
  | 1 => hbmTy0_1 i
  | _ => ⟨S2x4096x256, .f32⟩

abbrev bufTy : (tb : Table) → Fin (tcTables nBuf tb) → BufTy
  | .hbm, ⟨i, _⟩ => hbmTy i
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_call1_v0 : Ref sig .tc := ⟨.hbm, 33, rfl⟩
abbrev main_v24_1 : Ref sig .tc := ⟨.hbm, 34, rfl⟩
abbrev main_call1_v2 : Ref sig .tc := ⟨.hbm, 35, rfl⟩
abbrev main_v24_0 : Ref sig .tc := ⟨.hbm, 36, rfl⟩
abbrev main_call1_cst : Ref sig .tc := ⟨.hbm, 37, rfl⟩
abbrev main_v24_2 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call2_cst : Ref sig .tc := ⟨.hbm, 99, rfl⟩
abbrev main_call2_v0 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]
-- ==== Head.lean ====
abbrev S8192x1024 : Shape := ⟨2, ![8192, 1024]⟩
abbrev S16x8x128 : Shape := ⟨3, ![16, 8, 128]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S16x8x128, .f32⟩
  | .hbm, ⟨4, _⟩ => ⟨S16x1x1, .f32⟩
  | .hbm, ⟨5, _⟩ => ⟨S16, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x8x128, .f32⟩
  | .local _ .vmem, ⟨7, _⟩ => ⟨S1x8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HeadRefIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== OutN.lean ====
abbrev S8192x1024 : Shape := ⟨2, ![8192, 1024]⟩
abbrev S1024x1024 : Shape := ⟨2, ![1024, 1024]⟩
abbrev S8192x512 : Shape := ⟨2, ![8192, 512]⟩
abbrev S8192x256 : Shape := ⟨2, ![8192, 256]⟩
abbrev S1024 : Shape := ⟨1, ![1024]⟩
abbrev S1x1024 : Shape := ⟨2, ![1, 1024]⟩
abbrev S16x8x1024 : Shape := ⟨3, ![16, 8, 1024]⟩
abbrev S512x1024 : Shape := ⟨2, ![512, 1024]⟩
abbrev S512x512 : Shape := ⟨2, ![512, 512]⟩
abbrev S512x256 : Shape := ⟨2, ![512, 256]⟩
abbrev S1x8x1024 : Shape := ⟨3, ![1, 8, 1024]⟩
abbrev S512 : Shape := ⟨1, ![512]⟩
abbrev S512x1 : Shape := ⟨2, ![512, 1]⟩
abbrev S1x512 : Shape := ⟨2, ![1, 512]⟩
abbrev S256 : Shape := ⟨1, ![256]⟩
abbrev S1x256 : Shape := ⟨2, ![1, 256]⟩
abbrev S8x1024 : Shape := ⟨2, ![8, 1024]⟩
abbrev S16x1x1024 : Shape := ⟨3, ![16, 1, 1024]⟩
abbrev S16x1024 : Shape := ⟨2, ![16, 1024]⟩
abbrev S_ : Shape := ⟨0, ![]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S8192x512, .f32⟩
  | .hbm, ⟨9, _⟩ => ⟨S8192x256, .f32⟩
  | .hbm, ⟨10, _⟩ => ⟨S8192x256, .f32⟩
  | .hbm, ⟨11, _⟩ => ⟨S16x8x1024, .f32⟩
  | .hbm, ⟨12, _⟩ => ⟨S16x1x1024, .f32⟩
  | .hbm, ⟨13, _⟩ => ⟨S16x1024, .f32⟩
  | .hbm, ⟨14, _⟩ => ⟨S_, .f32⟩
  | .hbm, ⟨15, _⟩ => ⟨S1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S1x1024, .f32⟩
  | .local _ .vmem, ⟨10, _⟩ => ⟨S512x512, .f32⟩
  | .local _ .vmem, ⟨11, _⟩ => ⟨S512x512, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x8x1024, .f32⟩
  | .local _ .vmem, ⟨17, _⟩ => ⟨S1x8x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== OutNRefIdeal.lean ====
abbrev S8192x1024 : Shape := ⟨2, ![8192, 1024]⟩
abbrev S1024x1024 : Shape := ⟨2, ![1024, 1024]⟩
abbrev S8192x512 : Shape := ⟨2, ![8192, 512]⟩
abbrev S8192x256 : Shape := ⟨2, ![8192, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x512, .f32⟩
  | .hbm, ⟨3, _⟩ => ⟨S8192x256, .f32⟩
  | .hbm, ⟨4, _⟩ => ⟨S8192x256, .f32⟩
  | .hbm, ⟨5, _⟩ => ⟨S1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x256, .f32⟩
  | .hbm, ⟨56, _⟩ => ⟨S8192x256, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x512, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x256, .f32⟩
  | .hbm, ⟨80, _⟩ => ⟨S8192x256, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S8192x256, .f32⟩
  | .hbm, ⟨91, _⟩ => ⟨S8192x256, .f32⟩
  | .hbm, ⟨92, _⟩ => ⟨S8192x256, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x256, .f32⟩
  | .hbm, ⟨97, _⟩ => ⟨S8192x256, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x256, .f32⟩
  | .hbm, ⟨105, _⟩ => ⟨S8192x256, .f32⟩
  | .hbm, ⟨106, _⟩ => ⟨S8192x256, .f32⟩
  | .hbm, ⟨107, _⟩ => ⟨S8192x256, .f32⟩
  | .hbm, ⟨108, _⟩ => ⟨S8192x256, .f32⟩
  | .hbm, ⟨109, _⟩ => ⟨S8192x512, .f32⟩
  | .hbm, ⟨110, _⟩ => ⟨S_, .f32⟩
  | .hbm, ⟨111, _⟩ => ⟨S8192, .f32⟩
  | .hbm, ⟨112, _⟩ => ⟨S8192x1, .f32⟩
  | .hbm, ⟨113, _⟩ => ⟨S8192x512, .f32⟩
  | .hbm, ⟨114, _⟩ => ⟨S8192x512, .f32⟩
  | .hbm, ⟨115, _⟩ => ⟨S8192x1, .f32⟩
  | .hbm, ⟨116, _⟩ => ⟨S_, .f32⟩
  | .hbm, ⟨117, _⟩ => ⟨S8192x1, .f32⟩
  | .hbm, ⟨118, _⟩ => ⟨S8192x1, .f32⟩
  | .hbm, ⟨119, _⟩ => ⟨S_, .f32⟩
  | .hbm, ⟨120, _⟩ => ⟨S8192, .f32⟩
  | .hbm, ⟨121, _⟩ => ⟨S8192x512, .f32⟩
  | .hbm, ⟨122, _⟩ => ⟨S8192x512, .f32⟩
  | .hbm, ⟨123, _⟩ => ⟨S8192x512, .f32⟩
  | .hbm, ⟨124, _⟩ => ⟨S8192x512, .f32⟩
  | .hbm, ⟨125, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_16 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_17 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_19 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_20 : Ref sig .tc := ⟨.hbm, 116, rfl⟩
abbrev main_v89 : Ref sig .tc := ⟨.hbm, 117, rfl⟩
abbrev main_v90 : Ref sig .tc := ⟨.hbm, 118, rfl⟩
abbrev main_cst_21 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== MixIn.lean ====
abbrev S8192x2564 : Shape := ⟨2, ![8192, 2564]⟩
abbrev S1024x2564 : Shape := ⟨2, ![1024, 2564]⟩
abbrev S8192x1024 : Shape := ⟨2, ![8192, 1024]⟩
abbrev S1024 : Shape := ⟨1, ![1024]⟩
abbrev S2x1024 : Shape := ⟨2, ![2, 1024]⟩
abbrev S_ : Shape := ⟨0, ![]⟩
abbrev S8192x2688 : Shape := ⟨2, ![8192, 2688]⟩
abbrev S1024x2688 : Shape := ⟨2, ![1024, 2688]⟩
abbrev S1x1024 : Shape := ⟨2, ![1, 1024]⟩
abbrev S2x1x1024 : Shape := ⟨3, ![2, 1, 1024]⟩
abbrev S16x8x1024 : Shape := ⟨3, ![16, 8, 1024]⟩
abbrev S512x896 : Shape := ⟨2, ![512, 896]⟩
abbrev S1024x896 : Shape := ⟨2, ![1024, 896]⟩
abbrev S512x1024 : Shape := ⟨2, ![512, 1024]⟩
abbrev S1x1x1024 : Shape := ⟨3, ![1, 1, 1024]⟩
abbrev S1x8x1024 : Shape := ⟨3, ![1, 8, 1024]⟩
abbrev S512 : Shape := ⟨1, ![512]⟩
abbrev S512x1 : Shape := ⟨2, ![512, 1]⟩
abbrev S8x1024 : Shape := ⟨2, ![8, 1024]⟩
abbrev S16x1x1024 : Shape := ⟨3, ![16, 1, 1024]⟩
abbrev S16x1024 : Shape := ⟨2, ![16, 1024]⟩
abbrev S2x8x1024 : Shape := ⟨3, ![2, 8, 1024]⟩

abbrev nBuf : Space → Nat
  | .hbm => 31
  | .vmem => 16
  | .smem => 0
  | _ => 0

abbrev bufTy : (tb : Table) → Fin (tcTables nBuf tb) → BufTy
  | .hbm, ⟨0, _⟩ => ⟨S8192x2564, .bf16⟩
  | .hbm, ⟨1, _⟩ => ⟨S1024x2564, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x1024, .f32⟩
  | .hbm, ⟨6, _⟩ => ⟨S_, .i32⟩
  | .hbm, ⟨7, _⟩ => ⟨S_, .bf16⟩
  | .hbm, ⟨8, _⟩ => ⟨S8192x2688, .bf16⟩
  | .hbm, ⟨9, _⟩ => ⟨S_, .i32⟩
  | .hbm, ⟨10, _⟩ => ⟨S_, .f32⟩
  | .hbm, ⟨11, _⟩ => ⟨S1024x2688, .f32⟩
  | .hbm, ⟨12, _⟩ => ⟨S1024x2688, .bf16⟩
  | .hbm, ⟨13, _⟩ => ⟨S1x1024, .f32⟩
  | .hbm, ⟨14, _⟩ => ⟨S2x1x1024, .f32⟩
  | .hbm, ⟨15, _⟩ => ⟨S8192x1024, .f32⟩
  | .hbm, ⟨16, _⟩ => ⟨S16x8x1024, .f32⟩
  | .hbm, ⟨17, _⟩ => ⟨S16x1x1024, .f32⟩
  | .hbm, ⟨18, _⟩ => ⟨S16x1024, .f32⟩
  | .hbm, ⟨19, _⟩ => ⟨S_, .f32⟩
  | .hbm, ⟨20, _⟩ => ⟨S1024, .f32⟩
  | .hbm, ⟨21, _⟩ => ⟨S16x1x1024, .f32⟩
  | .hbm, ⟨22, _⟩ => ⟨S16x1024, .f32⟩
  | .hbm, ⟨23, _⟩ => ⟨S2x8x1024, .f32⟩
  | .hbm, ⟨24, _⟩ => ⟨S_, .f32⟩
  | .hbm, ⟨25, _⟩ => ⟨S2x1024, .f32⟩
  | .hbm, ⟨26, _⟩ => ⟨S16x1x1024, .f32⟩
  | .hbm, ⟨27, _⟩ => ⟨S16x1024, .f32⟩
  | .hbm, ⟨28, _⟩ => ⟨S2x8x1024, .f32⟩
  | .hbm, ⟨29, _⟩ => ⟨S_, .f32⟩
  | .hbm, ⟨30, _⟩ => ⟨S2x1024, .f32⟩
  | .local _ .vmem, ⟨0, _⟩ => ⟨S512x896, .bf16⟩
  | .local _ .vmem, ⟨1, _⟩ => ⟨S512x896, .bf16⟩
  | .local _ .vmem, ⟨2, _⟩ => ⟨S1024x896, .bf16⟩
  | .local _ .vmem, ⟨3, _⟩ => ⟨S1024x896, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x8x1024, .f32⟩
  | .local _ .vmem, ⟨14, _⟩ => ⟨S1x8x1024, .f32⟩
  | .local _ .vmem, ⟨15, _⟩ => ⟨S512x1024, .f32⟩
  | _, _ => ⟨S8192x2564, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 1, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== MixInRefIdeal.lean ====
abbrev S8192x2564 : Shape := ⟨2, ![8192, 2564]⟩
abbrev S1024x2564 : Shape := ⟨2, ![1024, 2564]⟩
abbrev S8192x1024 : Shape := ⟨2, ![8192, 1024]⟩
abbrev S1024 : Shape := ⟨1, ![1024]⟩
abbrev S2x1024 : Shape := ⟨2, ![2, 1024]⟩
abbrev S_ : Shape := ⟨0, ![]⟩
abbrev S8192 : Shape := ⟨1, ![8192]⟩
abbrev S8192x1 : Shape := ⟨2, ![8192, 1]⟩
abbrev S2x4096x1024 : Shape := ⟨3, ![2, 4096, 1024]⟩
abbrev S1x1x1024 : Shape := ⟨3, ![1, 1, 1024]⟩
abbrev S2x1x1024 : Shape := ⟨3, ![2, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x2564, .bf16⟩
  | .hbm, ⟨1, _⟩ => ⟨S1024x2564, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x2564, .f32⟩
  | .hbm, ⟨40, _⟩ => ⟨S8192x2564, .f32⟩
  | .hbm, ⟨41, _⟩ => ⟨S8192x1024, .f32⟩
  | .hbm, ⟨42, _⟩ => ⟨S2x4096x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S2x1024, .f32⟩
  | .hbm, ⟨56, _⟩ => ⟨S2x4096x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x4096x1024, .f32⟩
  | .hbm, ⟨61, _⟩ => ⟨S2x4096x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S8192x2564, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== FfUp.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S2x1024 : Shape := ⟨2, ![2, 1024]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S1x1024 : Shape := ⟨2, ![1, 1024]⟩
abbrev S2x1x1024 : Shape := ⟨3, ![2, 1, 1024]⟩
abbrev S16x8x1024 : Shape := ⟨3, ![16, 8, 1024]⟩
abbrev S4x512x704 : Shape := ⟨3, ![4, 512, 704]⟩
abbrev S4x1024x704 : Shape := ⟨3, ![4, 1024, 704]⟩
abbrev S512x1024 : Shape := ⟨2, ![512, 1024]⟩
abbrev S1x1x1024 : Shape := ⟨3, ![1, 1, 1024]⟩
abbrev S1x8x1024 : Shape := ⟨3, ![1, 8, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S8x1024 : Shape := ⟨2, ![8, 1024]⟩
abbrev S16x1x1024 : Shape := ⟨3, ![16, 1, 1024]⟩
abbrev S16x1024 : Shape := ⟨2, ![16, 1024]⟩
abbrev S_ : Shape := ⟨0, ![]⟩
abbrev S2x8x1024 : Shape := ⟨3, ![2, 8, 1024]⟩

abbrev nBuf : Space → Nat
  | .hbm => 29
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x1024, .f32⟩
  | .hbm, ⟨6, _⟩ => ⟨S8192x8x704, .bf16⟩
  | .hbm, ⟨7, _⟩ => ⟨S8x8192x704, .bf16⟩
  | .hbm, ⟨8, _⟩ => ⟨S1024x5632, .bf16⟩
  | .hbm, ⟨9, _⟩ => ⟨S1024x8x704, .bf16⟩
  | .hbm, ⟨10, _⟩ => ⟨S8x1024x704, .bf16⟩
  | .hbm, ⟨11, _⟩ => ⟨S1x1024, .f32⟩
  | .hbm, ⟨12, _⟩ => ⟨S2x1x1024, .f32⟩
  | .hbm, ⟨13, _⟩ => ⟨S8192x1024, .f32⟩
  | .hbm, ⟨14, _⟩ => ⟨S16x8x1024, .f32⟩
  | .hbm, ⟨15, _⟩ => ⟨S16x1x1024, .f32⟩
  | .hbm, ⟨16, _⟩ => ⟨S16x1024, .f32⟩
  | .hbm, ⟨17, _⟩ => ⟨S_, .f32⟩
  | .hbm, ⟨18, _⟩ => ⟨S1024, .f32⟩
  | .hbm, ⟨19, _⟩ => ⟨S16x1x1024, .f32⟩
  | .hbm, ⟨20, _⟩ => ⟨S16x1024, .f32⟩
  | .hbm, ⟨21, _⟩ => ⟨S2x8x1024, .f32⟩
  | .hbm, ⟨22, _⟩ => ⟨S_, .f32⟩
  | .hbm, ⟨23, _⟩ => ⟨S2x1024, .f32⟩
  | .hbm, ⟨24, _⟩ => ⟨S16x1x1024, .f32⟩
  | .hbm, ⟨25, _⟩ => ⟨S16x1024, .f32⟩
  | .hbm, ⟨26, _⟩ => ⟨S2x8x1024, .f32⟩
  | .hbm, ⟨27, _⟩ => ⟨S_, .f32⟩
  | .hbm, ⟨28, _⟩ => ⟨S2x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1024x704, .bf16⟩
  | .local _ .vmem, ⟨3, _⟩ => ⟨S4x1024x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x8x1024, .f32⟩
  | .local _ .vmem, ⟨14, _⟩ => ⟨S1x8x1024, .f32⟩
  | .local _ .vmem, ⟨15, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_26 : BitVec 32 := 0#32
  let v31 : BitVec 1 := Scalar.cmpi .ne v30 c0_i32_26
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfUpRefIdeal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S2x1024 : Shape := ⟨2, ![2, 1024]⟩
abbrev S_ : Shape := ⟨0, ![]⟩
abbrev S8192 : Shape := ⟨1, ![8192]⟩
abbrev S8192x1 : Shape := ⟨2, ![8192, 1]⟩
abbrev S2x4096x1024 : Shape := ⟨3, ![2, 4096, 1024]⟩
abbrev S1x1x1024 : Shape := ⟨3, ![1, 1, 1024]⟩
abbrev S2x1x1024 : Shape := ⟨3, ![2, 1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S2x1024, .f32⟩
  | .hbm, ⟨6, _⟩ => ⟨S_, .f32⟩
  | .hbm, ⟨7, _⟩ => ⟨S2x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S2x4096x1024, .f32⟩
  | .hbm, ⟨26, _⟩ => ⟨S1x1x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x1024, .f32⟩
  | .hbm, ⟨31, _⟩ => ⟨S2x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x1x1024, .f32⟩
  | .hbm, ⟨36, _⟩ => ⟨S2x4096x1024, .f32⟩
  | .hbm, ⟨37, _⟩ => ⟨S2x4096x1024, .f32⟩
  | .hbm, ⟨38, _⟩ => ⟨S8192x1024, .f32⟩
  | .hbm, ⟨39, _⟩ => ⟨S8192x5632, .f32⟩
  | .hbm, ⟨40, _⟩ => ⟨S8192x5632, .f32⟩
  | .hbm, ⟨41, _⟩ => ⟨S8192x1024, .f32⟩
  | .hbm, ⟨42, _⟩ => ⟨S2x4096x1024, .f32⟩
  | .hbm, ⟨43, _⟩ => ⟨S_, .f32⟩
  | .hbm, ⟨44, _⟩ => ⟨S2x1024, .f32⟩
  | .hbm, ⟨45, _⟩ => ⟨S2x1x1024, .f32⟩
  | .hbm, ⟨46, _⟩ => ⟨S_, .f32⟩
  | .hbm, ⟨47, _⟩ => ⟨S2x1024, .f32⟩
  | .hbm, ⟨48, _⟩ => ⟨S2x4096x1024, .f32⟩
  | .hbm, ⟨49, _⟩ => ⟨S_, .f32⟩
  | .hbm, ⟨50, _⟩ => ⟨S2x1024, .f32⟩
  | .hbm, ⟨51, _⟩ => ⟨S2x1x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S2x1024, .f32⟩
  | .hbm, ⟨56, _⟩ => ⟨S2x4096x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S2x4096x1024, .f32⟩
  | .hbm, ⟨61, _⟩ => ⟨S2x4096x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Act.lean ====
abbrev S8192x1024 : Shape := ⟨2, ![8192, 1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S4x8192x704 : Shape := ⟨3, ![4, 8192, 704]⟩
abbrev S2x4x8192x704 : Shape := ⟨4, ![2, 4, 8192, 704]⟩
abbrev S512x1024 : Shape := ⟨2, ![512, 1024]⟩
abbrev S1x1024x704 : Shape := ⟨3, ![1, 1024, 704]⟩
abbrev S1x512x704 : Shape := ⟨3, ![1, 512, 704]⟩
abbrev S2x1x512x704 : Shape := ⟨4, ![2, 1, 512, 704]⟩
abbrev S1024x704 : Shape := ⟨2, ![1024, 704]⟩
abbrev S512x704 : Shape := ⟨2, ![512, 704]⟩
abbrev S1x1x512x704 : Shape := ⟨4, ![1, 1, 512, 704]⟩
abbrev S704x1024 : Shape := ⟨2, ![704, 1024]⟩
abbrev S8x8192x704 : Shape := ⟨3, ![8, 8192, 704]⟩
abbrev S8192x4x704 : Shape := ⟨3, ![8192, 4, 704]⟩
abbrev S8192x2816 : Shape := ⟨2, ![8192, 2816]⟩
abbrev S8192x8x704 : Shape := ⟨3, ![8192, 8, 704]⟩
abbrev S8192x5632 : Shape := ⟨2, ![8192, 5632]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S1024x8x704, .bf16⟩
  | .hbm, ⟨6, _⟩ => ⟨S8x1024x704, .bf16⟩
  | .hbm, ⟨7, _⟩ => ⟨S4x8192x704, .bf16⟩
  | .hbm, ⟨8, _⟩ => ⟨S2x4x8192x704, .bf16⟩
  | .hbm, ⟨9, _⟩ => ⟨S2816x1024, .bf16⟩
  | .hbm, ⟨10, _⟩ => ⟨S2x4x8192x704, .bf16⟩
  | .hbm, ⟨11, _⟩ => ⟨S8x8192x704, .bf16⟩
  | .hbm, ⟨12, _⟩ => ⟨S8192x4x704, .bf16⟩
  | .hbm, ⟨13, _⟩ => ⟨S8192x2816, .bf16⟩
  | .hbm, ⟨14, _⟩ => ⟨S8192x8x704, .bf16⟩
  | .hbm, ⟨15, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S2x1x512x704, .bf16⟩
  | .local _ .vmem, ⟨9, _⟩ => ⟨S2x1x512x704, .bf16⟩
  | .local _ .vmem, ⟨10, _⟩ => ⟨S512x1024, .bf16⟩
  | .local _ .vmem, ⟨11, _⟩ => ⟨S512x1024, .bf16⟩
  | .local _ .vmem, ⟨12, _⟩ => ⟨S704x1024, .bf16⟩
  | .local _ .vmem, ⟨13, _⟩ => ⟨S704x1024, .bf16⟩
  | .local _ .vmem, ⟨14, _⟩ => ⟨S2x1x512x704, .bf16⟩
  | .local _ .vmem, ⟨15, _⟩ => ⟨S2x1x512x704, .bf16⟩
  | .local _ .vmem, ⟨16, _⟩ => ⟨S2x1x512x704, .bf16⟩
  | .local _ .vmem, ⟨17, _⟩ => ⟨S2x1x512x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![16, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S704x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S2x1x512x704 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x1x512x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== ActRefIdeal.lean ====
abbrev S8192x1024 : Shape := ⟨2, ![8192, 1024]⟩
abbrev S1024x5632 : Shape := ⟨2, ![1024, 5632]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .bf16⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x5632, .f32⟩
  | .hbm, ⟨33, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Post.lean ====
abbrev S8192x256 : Shape := ⟨2, ![8192, 256]⟩
abbrev S8192x4 : Shape := ⟨2, ![8192, 4]⟩
abbrev S8192x2564 : Shape := ⟨2, ![8192, 2564]⟩
abbrev S2x64 : Shape := ⟨2, ![2, 64]⟩
abbrev S4 : Shape := ⟨1, ![4]⟩
abbrev S_ : Shape := ⟨0, ![]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1x128 : Shape := ⟨2, ![1, 128]⟩
abbrev S8192x2688 : Shape := ⟨2, ![8192, 2688]⟩
abbrev S8192x128 : Shape := ⟨2, ![8192, 128]⟩
abbrev S16x8x256 : Shape := ⟨3, ![16, 8, 256]⟩
abbrev S16x8x128 : Shape := ⟨3, ![16, 8, 128]⟩
abbrev S512x256 : Shape := ⟨2, ![512, 256]⟩
abbrev S512x128 : Shape := ⟨2, ![512, 128]⟩
abbrev S1x8x256 : Shape := ⟨3, ![1, 8, 256]⟩
abbrev S1x8x128 : Shape := ⟨3, ![1, 8, 128]⟩
abbrev S8x256 : Shape := ⟨2, ![8, 256]⟩
abbrev S512x512 : Shape := ⟨2, ![512, 512]⟩
abbrev S8x128 : Shape := ⟨2, ![8, 128]⟩
abbrev S16x2x256 : Shape := ⟨3, ![16, 2, 256]⟩
abbrev S2x256 : Shape := ⟨2, ![2, 256]⟩
abbrev S2x4x64 : Shape := ⟨3, ![2, 4, 64]⟩
abbrev S16x1x4 : Shape := ⟨3, ![16, 1, 4]⟩
abbrev S16x4 : Shape := ⟨2, ![16, 4]⟩

abbrev nBuf : Space → Nat
  | .hbm => 59
  | .vmem => 27
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x4, .f32⟩
  | .hbm, ⟨3, _⟩ => ⟨S8192x2564, .f32⟩
  | .hbm, ⟨4, _⟩ => ⟨S2x64, .f32⟩
  | .hbm, ⟨5, _⟩ => ⟨S4, .f32⟩
  | .hbm, ⟨6, _⟩ => ⟨S_, .bf16⟩
  | .hbm, ⟨7, _⟩ => ⟨S4x64x64, .bf16⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .bf16⟩
  | .hbm, ⟨15, _⟩ => ⟨S4x1x4x1, .bf16⟩
  | .hbm, ⟨16, _⟩ => ⟨S4x64x1x64, .bf16⟩
  | .hbm, ⟨17, _⟩ => ⟨S4x64x4x64, .bf16⟩
  | .hbm, ⟨18, _⟩ => ⟨S4x64x4x64, .bf16⟩
  | .hbm, ⟨19, _⟩ => ⟨S4x64x4x64, .bf16⟩
  | .hbm, ⟨20, _⟩ => ⟨S256x256, .bf16⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S4x64, .f32⟩
  | .hbm, ⟨25, _⟩ => ⟨S256, .f32⟩
  | .hbm, ⟨26, _⟩ => ⟨S1x256, .f32⟩
  | .hbm, ⟨27, _⟩ => ⟨S1x64, .f32⟩
  | .hbm, ⟨28, _⟩ => ⟨S64, .f32⟩
  | .hbm, ⟨29, _⟩ => ⟨S1x64, .f32⟩
  | .hbm, ⟨30, _⟩ => ⟨S4x64, .f32⟩
  | .hbm, ⟨31, _⟩ => ⟨S256, .f32⟩
  | .hbm, ⟨32, _⟩ => ⟨S1x256, .f32⟩
  | .hbm, ⟨33, _⟩ => ⟨S_, .i32⟩
  | .hbm, ⟨34, _⟩ => ⟨S_, .f32⟩
  | .hbm, ⟨35, _⟩ => ⟨S128, .f32⟩
  | .hbm, ⟨36, _⟩ => ⟨S1x128, .f32⟩
  | .hbm, ⟨37, _⟩ => ⟨S_, .i32⟩
  | .hbm, ⟨38, _⟩ => ⟨S_, .f32⟩
  | .hbm, ⟨39, _⟩ => ⟨S8192x2688, .f32⟩
  | .hbm, ⟨40, _⟩ => ⟨S_, .i32⟩
  | .hbm, ⟨41, _⟩ => ⟨S_, .f32⟩
  | .hbm, ⟨42, _⟩ => ⟨S8192x128, .f32⟩
  | .hbm, ⟨43, _⟩ => ⟨S8192x256, .bf16⟩
  | .hbm, ⟨44, _⟩ => ⟨S8192x256, .bf16⟩
  | .hbm, ⟨45, _⟩ => ⟨S8192x128, .bf16⟩
  | .hbm, ⟨46, _⟩ => ⟨S16x8x256, .f32⟩
  | .hbm, ⟨47, _⟩ => ⟨S16x8x128, .f32⟩
  | .hbm, ⟨48, _⟩ => ⟨S16x2x256, .f32⟩
  | .hbm, ⟨49, _⟩ => ⟨S_, .f32⟩
  | .hbm, ⟨50, _⟩ => ⟨S2x256, .f32⟩
  | .hbm, ⟨51, _⟩ => ⟨S2x4x64, .f32⟩
  | .hbm, ⟨52, _⟩ => ⟨S_, .f32⟩
  | .hbm, ⟨53, _⟩ => ⟨S2x64, .f32⟩
  | .hbm, ⟨54, _⟩ => ⟨S8192x4, .bf16⟩
  | .hbm, ⟨55, _⟩ => ⟨S16x1x4, .f32⟩
  | .hbm, ⟨56, _⟩ => ⟨S16x4, .f32⟩
  | .hbm, ⟨57, _⟩ => ⟨S_, .f32⟩
  | .hbm, ⟨58, _⟩ => ⟨S4, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x128, .f32⟩
  | .local _ .vmem, ⟨11, _⟩ => ⟨S512x128, .f32⟩
  | .local _ .vmem, ⟨12, _⟩ => ⟨S1x256, .f32⟩
  | .local _ .vmem, ⟨13, _⟩ => ⟨S1x256, .f32⟩
  | .local _ .vmem, ⟨14, _⟩ => ⟨S1x128, .f32⟩
  | .local _ .vmem, ⟨15, _⟩ => ⟨S256x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x128, .bf16⟩
  | .local _ .vmem, ⟨21, _⟩ => ⟨S512x128, .bf16⟩
  | .local _ .vmem, ⟨22, _⟩ => ⟨S1x8x256, .f32⟩
  | .local _ .vmem, ⟨23, _⟩ => ⟨S1x8x256, .f32⟩
  | .local _ .vmem, ⟨24, _⟩ => ⟨S1x8x128, .f32⟩
  | .local _ .vmem, ⟨25, _⟩ => ⟨S1x8x128, .f32⟩
  | .local _ .vmem, ⟨26, _⟩ => ⟨S1x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_0 : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_c_1 : Ref sig .tc := ⟨.hbm, 37, rfl⟩
abbrev main_call1_v0 : Ref sig .tc := ⟨.hbm, 38, rfl⟩
abbrev main_v27 : Ref sig .tc := ⟨.hbm, 39, rfl⟩
abbrev main_c_2 : Ref sig .tc := ⟨.hbm, 40, rfl⟩
abbrev main_call2_v0 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev main_v29_4 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c7_i32_0 : BitVec 32 := 7#32
  let c0_i32 : BitVec 32 := 0#32
  ![v2.toNat, c7_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c8_i32_0 : BitVec 32 := 8#32
  let c0_i32 : BitVec 32 := 0#32
  ![v2.toNat, c8_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c20_i32 : BitVec 32 := 20#32
  let c0_i32 : BitVec 32 := 0#32
  ![v2.toNat, c20_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  ![v2.toNat, c0_i32.toNat]

def cc0_transform_13 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.subi c7_i32 arg1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PostRefIdeal.lean ====
abbrev S8192x256 : Shape := ⟨2, ![8192, 256]⟩
abbrev S8192x4 : Shape := ⟨2, ![8192, 4]⟩
abbrev S8192x2564 : Shape := ⟨2, ![8192, 2564]⟩
abbrev S2x64 : Shape := ⟨2, ![2, 64]⟩
abbrev S4 : Shape := ⟨1, ![4]⟩
abbrev S8192x4x64 : Shape := ⟨3, ![8192, 4, 64]⟩
abbrev S2x4096x4 : Shape := ⟨3, ![2, 4096, 4]⟩
abbrev S_ : Shape := ⟨0, ![]⟩
abbrev S8192x4x1 : Shape := ⟨3, ![8192, 4, 1]⟩
abbrev S1x64 : Shape := ⟨2, ![1, 64]⟩
abbrev S64 : Shape := ⟨1, ![64]⟩
abbrev S1x1x64 : Shape := ⟨3, ![1, 1, 64]⟩
abbrev S1x4 : Shape := ⟨2, ![1, 4]⟩

abbrev nBuf : Space → Nat
  | .hbm => 187
  | .vmem => 0
  | .smem => 0
  | _ => 0

abbrev hbmTy0_0 (i : Nat) : BufTy := match i % 128 with
  | 0 => ⟨S8192x256, .f32⟩
  | 1 => ⟨S8192x256, .f32⟩
  | 2 => ⟨S8192x4, .f32⟩
  | 3 => ⟨S8192x2564, .f32⟩
  | 4 => ⟨S2x64, .f32⟩
  | 5 => ⟨S4, .f32⟩
  | 6 => ⟨S8192x4x64, .f32⟩
  | 7 => ⟨S8192x4x64, .f32⟩
  | 8 => ⟨S2x4096x4, .f32⟩
  | 9 => ⟨S8192x256, .f32⟩
  | 10 => ⟨S8192x256, .f32⟩
  | 11 => ⟨S8192x4, .f32⟩
  | 12 => ⟨S8192x4x64, .f32⟩
  | 13 => ⟨S8192x4x64, .f32⟩
  | 14 => ⟨S_, .f32⟩
  | 15 => ⟨S8192x4, .f32⟩
  | 16 => ⟨S8192x4x1, .f32⟩
  | 17 => ⟨S_, .f32⟩
  | 18 => ⟨S8192x4x1, .f32⟩
  | 19 => ⟨S8192x4x1, .f32⟩
  | 20 => ⟨S_, .f32⟩
  | 21 => ⟨S8192x4x1, .f32⟩
  | 22 => ⟨S8192x4x1, .f32⟩
  | 23 => ⟨S8192x4x1, .f32⟩
  | 24 => ⟨S8192x4x1, .f32⟩
  | 25 => ⟨S_, .f32⟩
  | 26 => ⟨S8192x4x1, .f32⟩
  | 27 => ⟨S8192x4x1, .f32⟩
  | 28 => ⟨S8192x4x64, .f32⟩
  | 29 => ⟨S8192x4x64, .f32⟩
  | 30 => ⟨S1x64, .f32⟩
  | 31 => ⟨S64, .f32⟩
  | 32 => ⟨S1x1x64, .f32⟩
  | 33 => ⟨S8192x4x64, .f32⟩
  | 34 => ⟨S8192x4x64, .f32⟩
  | 35 => ⟨S8192x4x64, .f32⟩
  | 36 => ⟨S8192x4x64, .f32⟩
  | 37 => ⟨S_, .f32⟩
  | 38 => ⟨S8192x4, .f32⟩
  | 39 => ⟨S8192x4x1, .f32⟩
  | 40 => ⟨S_, .f32⟩
  | 41 => ⟨S8192x4x1, .f32⟩
  | 42 => ⟨S8192x4x1, .f32⟩
  | 43 => ⟨S_, .f32⟩
  | 44 => ⟨S8192x4x1, .f32⟩
  | 45 => ⟨S8192x4x1, .f32⟩
  | 46 => ⟨S8192x4x1, .f32⟩
  | 47 => ⟨S8192x4x1, .f32⟩
  | 48 => ⟨S_, .f32⟩
  | 49 => ⟨S8192x4x1, .f32⟩
  | 50 => ⟨S8192x4x1, .f32⟩
  | 51 => ⟨S8192x4x64, .f32⟩
  | 52 => ⟨S8192x4x64, .f32⟩
  | 53 => ⟨S1x64, .f32⟩
  | 54 => ⟨S64, .f32⟩
  | 55 => ⟨S1x1x64, .f32⟩
  | 56 => ⟨S8192x4x64, .f32⟩
  | 57 => ⟨S8192x4x64, .f32⟩
  | 58 => ⟨S1x4, .f32⟩
  | 59 => ⟨S8192x4, .f32⟩
  | 60 => ⟨S8192x4, .f32⟩
  | 61 => ⟨S8192x4, .f32⟩
  | 62 => ⟨S_, .f32⟩
  | 63 => ⟨S8192x4, .f32⟩
  | 64 => ⟨S8192x4, .f32⟩
  | 65 => ⟨S8192x4, .f32⟩
  | 66 => ⟨S8192x4, .f32⟩
  | 67 => ⟨S8192x4, .i1⟩
  | 68 => ⟨S8192x4, .f32⟩
  | 69 => ⟨S8192x4, .f32⟩
  | 70 => ⟨S8192x4, .f32⟩
  | 71 => ⟨S8192x4, .f32⟩
  | 72 => ⟨S8192x4, .f32⟩
  | 73 => ⟨S8192x4, .f32⟩
  | 74 => ⟨S8192x4, .f32⟩
  | 75 => ⟨S8192x4, .f32⟩
  | 76 => ⟨S_, .f32⟩
  | 77 => ⟨S8192x4, .f32⟩
  | 78 => ⟨S8192x4, .i1⟩
  | 79 => ⟨S_, .f32⟩
  | 80 => ⟨S8192x4, .f32⟩
  | 81 => ⟨S8192x4, .f32⟩
  | 82 => ⟨S_, .f32⟩
  | 83 => ⟨S8192x4, .f32⟩
  | 84 => ⟨S8192x4, .i1⟩
  | 85 => ⟨S_, .f32⟩
  | 86 => ⟨S8192x4, .f32⟩
  | 87 => ⟨S8192x4, .f32⟩
  | 88 => ⟨S8192x4, .f32⟩
  | 89 => ⟨S8192x4, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S8192x4, .f32⟩
  | 98 => ⟨S8192x4, .i1⟩
  | 99 => ⟨S_, .f32⟩
  | 100 => ⟨S8192x4, .f32⟩
  | 101 => ⟨S8192x4, .f32⟩
  | 102 => ⟨S8192x4, .f32⟩
  | 103 => ⟨S8192x4, .f32⟩
  | 104 => ⟨S8192x4, .f32⟩
  | 105 => ⟨S_, .f32⟩
  | 106 => ⟨S8192x4, .f32⟩
  | 107 => ⟨S8192x4, .f32⟩
  | 108 => ⟨S8192x4, .f32⟩
  | 109 => ⟨S2x4096x4, .f32⟩
  | 110 => ⟨S_, .f32⟩
  | 111 => ⟨S_, .f32⟩
  | 112 => ⟨S2x4096x4, .f32⟩
  | 113 => ⟨S_, .f32⟩
  | 114 => ⟨S_, .f32⟩
  | 115 => ⟨S2x4096x4, .f32⟩
  | 116 => ⟨S8192x4, .f32⟩
  | 117 => ⟨S8192x4, .f32⟩
  | 118 => ⟨S8192x4, .f32⟩
  | 119 => ⟨S8192x4, .f32⟩
  | 120 => ⟨S_, .f32⟩
  | 121 => ⟨S4, .f32⟩
  | 122 => ⟨S1x4, .f32⟩
  | 123 => ⟨S_, .f32⟩
  | 124 => ⟨S4, .f32⟩
  | 125 => ⟨S8192x4x64, .f32⟩
  | 126 => ⟨S_, .f32⟩
  | 127 => ⟨S64, .f32⟩
  | _ => ⟨S8192x256, .f32⟩

abbrev hbmTy0_1 (i : Nat) : BufTy := match i % 128 with
  | 0 => ⟨S1x1x64, .f32⟩
  | 1 => ⟨S8192x4x64, .f32⟩
  | 2 => ⟨S8192x4x64, .f32⟩
  | 3 => ⟨S_, .f32⟩
  | 4 => ⟨S64, .f32⟩
  | 5 => ⟨S1x64, .f32⟩
  | 6 => ⟨S_, .f32⟩
  | 7 => ⟨S2x64, .f32⟩
  | 8 => ⟨S8192x4x64, .f32⟩
  | 9 => ⟨S_, .f32⟩
  | 10 => ⟨S8192x4, .f32⟩
  | 11 => ⟨S8192x4x1, .f32⟩
  | 12 => ⟨S8192x4x64, .f32⟩
  | 13 => ⟨S8192x4x64, .f32⟩
  | 14 => ⟨S8192x4x1, .f32⟩
  | 15 => ⟨S_, .f32⟩
  | 16 => ⟨S8192x4x1, .f32⟩
  | 17 => ⟨S8192x4x1, .f32⟩
  | 18 => ⟨S_, .f32⟩
  | 19 => ⟨S8192x4, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S8192x256, .f32⟩
  | 26 => ⟨S8192x4x64, .f32⟩
  | 27 => ⟨S_, .f32⟩
  | 28 => ⟨S64, .f32⟩
  | 29 => ⟨S1x1x64, .f32⟩
  | 30 => ⟨S8192x4x64, .f32⟩
  | 31 => ⟨S8192x4x64, .f32⟩
  | 32 => ⟨S_, .f32⟩
  | 33 => ⟨S64, .f32⟩
  | 34 => ⟨S1x64, .f32⟩
  | 35 => ⟨S_, .f32⟩
  | 36 => ⟨S2x64, .f32⟩
  | 37 => ⟨S2x64, .f32⟩
  | 38 => ⟨S8192x4x64, .f32⟩
  | 39 => ⟨S_, .f32⟩
  | 40 => ⟨S8192x4, .f32⟩
  | 41 => ⟨S8192x4x1, .f32⟩
  | 42 => ⟨S8192x4x64, .f32⟩
  | 43 => ⟨S8192x4x64, .f32⟩
  | 44 => ⟨S8192x4x1, .f32⟩
  | 45 => ⟨S_, .f32⟩
  | 46 => ⟨S8192x4x1, .f32⟩
  | 47 => ⟨S8192x4x1, .f32⟩
  | 48 => ⟨S_, .f32⟩
  | 49 => ⟨S8192x4, .f32⟩
  | 50 => ⟨S8192x4x64, .f32⟩
  | 51 => ⟨S8192x4x64, .f32⟩
  | 52 => ⟨S8192x4x64, .f32⟩
  | 53 => ⟨S8192x4x64, .f32⟩
  | 54 => ⟨S8192x4x64, .f32⟩
  | 55 => ⟨S8192x256, .f32⟩
  | 56 => ⟨S8192x256, .bf16⟩
  | 57 => ⟨S8192x256, .bf16⟩
  | 58 => ⟨S8192x4, .bf16⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1_0 : Ref sig .tc := ⟨.hbm, 75, rfl⟩
abbrev main_call0_call0_cst_0 : Ref sig .tc := ⟨.hbm, 76, rfl⟩
abbrev main_call0_call0_v13 : Ref sig .tc := ⟨.hbm, 77, rfl⟩
abbrev main_call0_call0_v14 : Ref sig .tc := ⟨.hbm, 78, rfl⟩
abbrev main_call0_call0_cst_1 : Ref sig .tc := ⟨.hbm, 79, rfl⟩
abbrev main_call0_call0_v15 : Ref sig .tc := ⟨.hbm, 80, rfl⟩
abbrev main_call0_call0_v16 : Ref sig .tc := ⟨.hbm, 81, rfl⟩
abbrev main_call0_call0_cst_2 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_cst_3 : Ref sig .tc := ⟨.hbm, 85, rfl⟩
abbrev main_call0_call0_v19 : Ref sig .tc := ⟨.hbm, 86, rfl⟩
abbrev main_call0_call0_v20 : Ref sig .tc := ⟨.hbm, 87, rfl⟩
abbrev main_call0_call0_v21 : Ref sig .tc := ⟨.hbm, 88, rfl⟩
abbrev main_v47_1 : Ref sig .tc := ⟨.hbm, 89, rfl⟩
abbrev main_call0_call0_cst_4 : Ref sig .tc := ⟨.hbm, 90, rfl⟩
abbrev main_call0_call0_cst_5 : Ref sig .tc := ⟨.hbm, 91, rfl⟩
abbrev main_call0_call0_v23 : Ref sig .tc := ⟨.hbm, 92, rfl⟩
abbrev main_call0_call0_cst_6 : Ref sig .tc := ⟨.hbm, 93, rfl⟩
abbrev main_call0_call0_cst_7 : Ref sig .tc := ⟨.hbm, 94, rfl⟩
abbrev main_call0_call0_v24 : Ref sig .tc := ⟨.hbm, 95, rfl⟩
abbrev main_call0_call0_cst_8 : Ref sig .tc := ⟨.hbm, 96, rfl⟩
abbrev main_call0_call0_v25 : Ref sig .tc := ⟨.hbm, 97, rfl⟩
abbrev main_call0_call0_v26 : Ref sig .tc := ⟨.hbm, 98, rfl⟩
abbrev main_call0_call0_cst_9 : Ref sig .tc := ⟨.hbm, 99, rfl⟩
abbrev main_call0_call0_v27 : Ref sig .tc := ⟨.hbm, 100, rfl⟩
abbrev main_call0_call0_v28 : Ref sig .tc := ⟨.hbm, 101, rfl⟩
abbrev main_call0_call0_v29 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_cst_10 : Ref sig .tc := ⟨.hbm, 105, rfl⟩
abbrev main_call0_call0_v32 : Ref sig .tc := ⟨.hbm, 106, rfl⟩
abbrev main_v47_2 : Ref sig .tc := ⟨.hbm, 107, rfl⟩
abbrev main_v47_0 : Ref sig .tc := ⟨.hbm, 108, rfl⟩
abbrev main_v48 : Ref sig .tc := ⟨.hbm, 109, rfl⟩
abbrev main_call1_call0_cst : Ref sig .tc := ⟨.hbm, 110, rfl⟩
abbrev main_call1_call0_v0 : Ref sig .tc := ⟨.hbm, 111, rfl⟩
abbrev main_v49 : Ref sig .tc := ⟨.hbm, 112, rfl⟩
abbrev main_call2_call0_cst : Ref sig .tc := ⟨.hbm, 113, rfl⟩
abbrev main_call2_call0_v0 : Ref sig .tc := ⟨.hbm, 114, rfl⟩
abbrev main_v50 : Ref sig .tc := ⟨.hbm, 115, rfl⟩
abbrev main_v51 : Ref sig .tc := ⟨.hbm, 116, rfl⟩
abbrev main_call3_v0 : Ref sig .tc := ⟨.hbm, 117, rfl⟩
abbrev main_call3_v1 : Ref sig .tc := ⟨.hbm, 118, rfl⟩
abbrev main_v52 : Ref sig .tc := ⟨.hbm, 119, rfl⟩
abbrev main_cst_7 : Ref sig .tc := ⟨.hbm, 120, rfl⟩
abbrev main_v53 : Ref sig .tc := ⟨.hbm, 121, rfl⟩
abbrev main_v54 : Ref sig .tc := ⟨.hbm, 122, rfl⟩
abbrev main_cst_8 : Ref sig .tc := ⟨.hbm, 123, rfl⟩
abbrev main_v55 : Ref sig .tc := ⟨.hbm, 124, rfl⟩
abbrev main_v56 : Ref sig .tc := ⟨.hbm, 125, rfl⟩
abbrev main_cst_9 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_10 : Ref sig .tc := ⟨.hbm, 131, rfl⟩
abbrev main_v61 : Ref sig .tc := ⟨.hbm, 132, rfl⟩
abbrev main_v62 : Ref sig .tc := ⟨.hbm, 133, rfl⟩
abbrev main_cst_11 : Ref sig .tc := ⟨.hbm, 134, rfl⟩
abbrev main_v63 : Ref sig .tc := ⟨.hbm, 135, rfl⟩
abbrev main_v64 : Ref sig .tc := ⟨.hbm, 136, rfl⟩
abbrev main_cst_12 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_cst_13 : Ref sig .tc := ⟨.hbm, 143, rfl⟩
abbrev main_v70 : Ref sig .tc := ⟨.hbm, 144, rfl⟩
abbrev main_v71 : Ref sig .tc := ⟨.hbm, 145, rfl⟩
abbrev main_cst_14 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_15 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_cst_16 : Ref sig .tc := ⟨.hbm, 160, rfl⟩
abbrev main_v84 : Ref sig .tc := ⟨.hbm, 161, rfl⟩
abbrev main_v85 : Ref sig .tc := ⟨.hbm, 162, rfl⟩
abbrev main_cst_17 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_cst_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_19 : Ref sig .tc := ⟨.hbm, 173, rfl⟩
abbrev main_v94 : Ref sig .tc := ⟨.hbm, 174, rfl⟩
abbrev main_v95 : Ref sig .tc := ⟨.hbm, 175, rfl⟩
abbrev main_cst_20 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩

abbrev nD : Nat := 1
abbrev τ : Topo := Topo.v7x

variable {F : FTy → Type} [FloatOps F]
-- ==== FoxPre.lean ====
abbrev S8192x2564 : Shape := ⟨2, ![8192, 2564]⟩
abbrev S2x64 : Shape := ⟨2, ![2, 64]⟩
abbrev S4 : Shape := ⟨1, ![4]⟩
abbrev S_ : Shape := ⟨0, ![]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S128 : Shape := ⟨1, ![128]⟩
abbrev S1x128 : Shape := ⟨2, ![1, 128]⟩
abbrev S8192x2688 : Shape := ⟨2, ![8192, 2688]⟩
abbrev S8192x256 : Shape := ⟨2, ![8192, 256]⟩
abbrev S8192x128 : Shape := ⟨2, ![8192, 128]⟩
abbrev S512x256 : Shape := ⟨2, ![512, 256]⟩
abbrev S512x128 : Shape := ⟨2, ![512, 128]⟩
abbrev S512x512 : Shape := ⟨2, ![512, 512]⟩
abbrev S8192x4 : Shape := ⟨2, ![8192, 4]⟩

abbrev nBuf : Space → Nat
  | .hbm => 41
  | .vmem => 17
  | .smem => 0
  | _ => 0

abbrev bufTy : (tb : Table) → Fin (tcTables nBuf tb) → BufTy
  | .hbm, ⟨0, _⟩ => ⟨S8192x2564, .f32⟩
  | .hbm, ⟨1, _⟩ => ⟨S2x64, .f32⟩
  | .hbm, ⟨2, _⟩ => ⟨S4, .f32⟩
  | .hbm, ⟨3, _⟩ => ⟨S_, .bf16⟩
  | .hbm, ⟨4, _⟩ => ⟨S4x64x64, .bf16⟩
  | .hbm, ⟨5, _⟩ => ⟨S4x4, .i32⟩
  | .hbm, ⟨6, _⟩ => ⟨S4x4, .i32⟩
  | .hbm, ⟨7, _⟩ => ⟨S_, .i32⟩
  | .hbm, ⟨8, _⟩ => ⟨S4x4, .i32⟩
  | .hbm, ⟨9, _⟩ => ⟨S4x4, .i32⟩
  | .hbm, ⟨10, _⟩ => ⟨S4x4, .i1⟩
  | .hbm, ⟨11, _⟩ => ⟨S4x4, .bf16⟩
  | .hbm, ⟨12, _⟩ => ⟨S4x1x4x1, .bf16⟩
  | .hbm, ⟨13, _⟩ => ⟨S4x64x1x64, .bf16⟩
  | .hbm, ⟨14, _⟩ => ⟨S4x64x4x64, .bf16⟩
  | .hbm, ⟨15, _⟩ => ⟨S4x64x4x64, .bf16⟩
  | .hbm, ⟨16, _⟩ => ⟨S4x64x4x64, .bf16⟩
  | .hbm, ⟨17, _⟩ => ⟨S256x256, .bf16⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S4x64, .f32⟩
  | .hbm, ⟨28, _⟩ => ⟨S256, .f32⟩
  | .hbm, ⟨29, _⟩ => ⟨S1x256, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S_, .i32⟩
  | .hbm, ⟨35, _⟩ => ⟨S_, .f32⟩
  | .hbm, ⟨36, _⟩ => ⟨S8192x2688, .f32⟩
  | .hbm, ⟨37, _⟩ => ⟨S8192x256, .bf16⟩
  | .hbm, ⟨38, _⟩ => ⟨S8192x256, .bf16⟩
  | .hbm, ⟨39, _⟩ => ⟨S8192x128, .f32⟩
  | .hbm, ⟨40, _⟩ => ⟨S8192x4, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x256, .f32⟩
  | .local _ .vmem, ⟨8, _⟩ => ⟨S1x128, .f32⟩
  | .local _ .vmem, ⟨9, _⟩ => ⟨S256x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .f32⟩
  | .local _ .vmem, ⟨15, _⟩ => ⟨S512x128, .f32⟩
  | .local _ .vmem, ⟨16, _⟩ => ⟨S1x128, .f32⟩
  | _, _ => ⟨S8192x2564, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c_0 : Ref sig .tc := ⟨.hbm, 30, rfl⟩
abbrev main_call0_v0 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_call1_v0 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c20_i32 : BitVec 32 := 20#32
  let c0_i32 : BitVec 32 := 0#32
  ![v1.toNat, c20_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FoxPreRefIdeal.lean ====
abbrev S8192x2564 : Shape := ⟨2, ![8192, 2564]⟩
abbrev S2x64 : Shape := ⟨2, ![2, 64]⟩
abbrev S4 : Shape := ⟨1, ![4]⟩
abbrev S8192x256 : Shape := ⟨2, ![8192, 256]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩
abbrev S1x64 : Shape := ⟨2, ![1, 64]⟩
abbrev S64 : Shape := ⟨1, ![64]⟩
abbrev S1x1x64 : Shape := ⟨3, ![1, 1, 64]⟩
abbrev S1x4 : Shape := ⟨2, ![1, 4]⟩
abbrev S1x2x4096x4 : Shape := ⟨4, ![1, 2, 4096, 4]⟩
abbrev S1x2x4x4096 : Shape := ⟨4, ![1, 2, 4, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x2564, .f32⟩
  | .hbm, ⟨1, _⟩ => ⟨S2x64, .f32⟩
  | .hbm, ⟨2, _⟩ => ⟨S4, .f32⟩
  | .hbm, ⟨3, _⟩ => ⟨S8192x256, .f32⟩
  | .hbm, ⟨4, _⟩ => ⟨S8192x4x64, .f32⟩
  | .hbm, ⟨5, _⟩ => ⟨S8192x4x64, .f32⟩
  | .hbm, ⟨6, _⟩ => ⟨S_, .f32⟩
  | .hbm, ⟨7, _⟩ => ⟨S8192x4, .f32⟩
  | .hbm, ⟨8, _⟩ => ⟨S8192x4x1, .f32⟩
  | .hbm, ⟨9, _⟩ => ⟨S_, .f32⟩
  | .hbm, ⟨10, _⟩ => ⟨S8192x4x1, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S8192x4x1, .f32⟩
  | .hbm, ⟨16, _⟩ => ⟨S8192x4x64, .f32⟩
  | .hbm, ⟨17, _⟩ => ⟨S8192x4x64, .f32⟩
  | .hbm, ⟨18, _⟩ => ⟨S1x64, .f32⟩
  | .hbm, ⟨19, _⟩ => ⟨S64, .f32⟩
  | .hbm, ⟨20, _⟩ => ⟨S1x1x64, .f32⟩
  | .hbm, ⟨21, _⟩ => ⟨S8192x4x64, .f32⟩
  | .hbm, ⟨22, _⟩ => ⟨S8192x4x64, .f32⟩
  | .hbm, ⟨23, _⟩ => ⟨S8192x256, .f32⟩
  | .hbm, ⟨24, _⟩ => ⟨S8192x4x64, .f32⟩
  | .hbm, ⟨25, _⟩ => ⟨S8192x4x64, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x64, .f32⟩
  | .hbm, ⟨37, _⟩ => ⟨S8192x4x64, .f32⟩
  | .hbm, ⟨38, _⟩ => ⟨S1x64, .f32⟩
  | .hbm, ⟨39, _⟩ => ⟨S64, .f32⟩
  | .hbm, ⟨40, _⟩ => ⟨S1x1x64, .f32⟩
  | .hbm, ⟨41, _⟩ => ⟨S8192x4x64, .f32⟩
  | .hbm, ⟨42, _⟩ => ⟨S8192x4x64, .f32⟩
  | .hbm, ⟨43, _⟩ => ⟨S8192x4, .f32⟩
  | .hbm, ⟨44, _⟩ => ⟨S1x4, .f32⟩
  | .hbm, ⟨45, _⟩ => ⟨S8192x4, .f32⟩
  | .hbm, ⟨46, _⟩ => ⟨S8192x4, .f32⟩
  | .hbm, ⟨47, _⟩ => ⟨S8192x4, .f32⟩
  | .hbm, ⟨48, _⟩ => ⟨S_, .f32⟩
  | .hbm, ⟨49, _⟩ => ⟨S8192x4, .f32⟩
  | .hbm, ⟨50, _⟩ => ⟨S8192x4, .f32⟩
  | .hbm, ⟨51, _⟩ => ⟨S8192x4, .f32⟩
  | .hbm, ⟨52, _⟩ => ⟨S8192x4, .f32⟩
  | .hbm, ⟨53, _⟩ => ⟨S8192x4, .i1⟩
  | .hbm, ⟨54, _⟩ => ⟨S8192x4, .f32⟩
  | .hbm, ⟨55, _⟩ => ⟨S8192x4, .f32⟩
  | .hbm, ⟨56, _⟩ => ⟨S8192x4, .f32⟩
  | .hbm, ⟨57, _⟩ => ⟨S8192x4, .f32⟩
  | .hbm, ⟨58, _⟩ => ⟨S8192x4, .f32⟩
  | .hbm, ⟨59, _⟩ => ⟨S8192x4, .f32⟩
  | .hbm, ⟨60, _⟩ => ⟨S8192x4, .f32⟩
  | .hbm, ⟨61, _⟩ => ⟨S8192x4, .f32⟩
  | .hbm, ⟨62, _⟩ => ⟨S8192x4, .f32⟩
  | .hbm, ⟨63, _⟩ => ⟨S1x2x4096x4, .f32⟩
  | .hbm, ⟨64, _⟩ => ⟨S1x2x4x4096, .f32⟩
  | .hbm, ⟨65, _⟩ => ⟨S_, .f32⟩
  | .hbm, ⟨66, _⟩ => ⟨S_, .f32⟩
  | .hbm, ⟨67, _⟩ => ⟨S1x2x4x4096, .f32⟩
  | .hbm, ⟨68, _⟩ => ⟨S8192x256, .f32⟩
  | .hbm, ⟨69, _⟩ => ⟨S8192x256, .bf16⟩
  | .hbm, ⟨70, _⟩ => ⟨S8192x256, .f32⟩
  | .hbm, ⟨71, _⟩ => ⟨S8192x256, .bf16⟩
  | .hbm, ⟨72, _⟩ => ⟨S1x2x4096x4, .f32⟩
  | .hbm, ⟨73, _⟩ => ⟨S8192x4, .f32⟩
  | _, _ => ⟨S8192x2564, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call1_call0_cst : Ref sig .tc := ⟨.hbm, 65, rfl⟩
abbrev main_call1_call0_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== NormMod.lean ====
abbrev S8192x1024 : Shape := ⟨2, ![8192, 1024]⟩
abbrev S1024 : Shape := ⟨1, ![1024]⟩
abbrev S2x1024 : Shape := ⟨2, ![2, 1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S8192x1024 : Shape := ⟨2, ![8192, 1024]⟩
abbrev S1024 : Shape := ⟨1, ![1024]⟩
abbrev S2x1024 : Shape := ⟨2, ![2, 1024]⟩
abbrev S_ : Shape := ⟨0, ![]⟩
abbrev S8192 : Shape := ⟨1, ![8192]⟩
abbrev S8192x1 : Shape := ⟨2, ![8192, 1]⟩
abbrev S2x4096x1024 : Shape := ⟨3, ![2, 4096, 1024]⟩
abbrev S1x1x1024 : Shape := ⟨3, ![1, 1, 1024]⟩
abbrev S2x1x1024 : Shape := ⟨3, ![2, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S2x1x1024, .f32⟩
  | .hbm, ⟨25, _⟩ => ⟨S2x4096x1024, .f32⟩
  | .hbm, ⟨26, _⟩ => ⟨S2x4096x1024, .f32⟩
  | .hbm, ⟨27, _⟩ => ⟨S2x1x1024, .f32⟩
  | .hbm, ⟨28, _⟩ => ⟨S2x4096x1024, .f32⟩
  | .hbm, ⟨29, _⟩ => ⟨S2x4096x1024, .f32⟩
  | .hbm, ⟨30, _⟩ => ⟨S8192x1024, .f32⟩
  | .hbm, ⟨31, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutNorm.lean ====
abbrev S8192x512 : Shape := ⟨2, ![8192, 512]⟩
abbrev S8192x256 : Shape := ⟨2, ![8192, 256]⟩
abbrev S1024 : Shape := ⟨1, ![1024]⟩
abbrev S1x1024 : Shape := ⟨2, ![1, 1024]⟩
abbrev S8192x1024 : Shape := ⟨2, ![8192, 1024]⟩
abbrev S512x512 : Shape := ⟨2, ![512, 512]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S1024, .f32⟩
  | .hbm, ⟨4, _⟩ => ⟨S1x1024, .f32⟩
  | .hbm, ⟨5, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutNormRefIdeal.lean ====
abbrev S8192x512 : Shape := ⟨2, ![8192, 512]⟩
abbrev S8192x256 : Shape := ⟨2, ![8192, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x256, .f32⟩
  | .hbm, ⟨3, _⟩ => ⟨S1024, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S2x1024 : Shape := ⟨2, ![2, 1024]⟩
abbrev S1024 : Shape := ⟨1, ![1024]⟩
abbrev S1x1024 : Shape := ⟨2, ![1, 1024]⟩
abbrev S2x1x1024 : Shape := ⟨3, ![2, 1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S1024x1024, .bf16⟩
  | .hbm, ⟨11, _⟩ => ⟨S2x1x1024, .f32⟩
  | .hbm, ⟨12, _⟩ => ⟨S8192x1024, .f32⟩
  | .hbm, ⟨13, _⟩ => ⟨S8192x1024, .bf16⟩
  | .hbm, ⟨14, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== MixOutRefIdeal.lean ====
abbrev S8192x1024 : Shape := ⟨2, ![8192, 1024]⟩
abbrev S1024x1024 : Shape := ⟨2, ![1024, 1024]⟩
abbrev S2x1024 : Shape := ⟨2, ![2, 1024]⟩
abbrev S1024 : Shape := ⟨1, ![1024]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S8192x1024, .f32⟩
  | .hbm, ⟨8, _⟩ => ⟨S8192x1024, .f32⟩
  | .hbm, ⟨9, _⟩ => ⟨S2x4096x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S2x4096x1024, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x1024, .f32⟩
  | .hbm, ⟨30, _⟩ => ⟨S2x4096x1024, .f32⟩
  | .hbm, ⟨31, _⟩ => ⟨S1x1x1024, .f32⟩
  | .hbm, ⟨32, _⟩ => ⟨S2x4096x1024, .f32⟩
  | .hbm, ⟨33, _⟩ => ⟨S2x4096x1024, .f32⟩
  | .hbm, ⟨34, _⟩ => ⟨S2x1x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x4096x1024, .f32⟩
  | .hbm, ⟨39, _⟩ => ⟨S2x4096x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S8192x1024, .f32⟩
  | .hbm, ⟨44, _⟩ => ⟨S8192x1024, .bf16⟩
  | .hbm, ⟨45, _⟩ => ⟨S8192x1024, .f32⟩
  | .hbm, ⟨46, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== FfDown.lean ====
abbrev S8192x2816 : Shape := ⟨2, ![8192, 2816]⟩
abbrev S2816x1024 : Shape := ⟨2, ![2816, 1024]⟩
abbrev S8192x1024 : Shape := ⟨2, ![8192, 1024]⟩
abbrev S2x1024 : Shape := ⟨2, ![2, 1024]⟩
abbrev S1024 : Shape := ⟨1, ![1024]⟩
abbrev S1x1024 : Shape := ⟨2, ![1, 1024]⟩
abbrev S2x1x1024 : Shape := ⟨3, ![2, 1, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S4x512x704 : Shape := ⟨3, ![4, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S1x1024, .f32⟩
  | .hbm, ⟨8, _⟩ => ⟨S2x1x1024, .f32⟩
  | .hbm, ⟨9, _⟩ => ⟨S2x1x1024, .f32⟩
  | .hbm, ⟨10, _⟩ => ⟨S8192x4x704, .bf16⟩
  | .hbm, ⟨11, _⟩ => ⟨S4x8192x704, .bf16⟩
  | .hbm, ⟨12, _⟩ => ⟨S2816x1024, .bf16⟩
  | .hbm, ⟨13, _⟩ => ⟨S2x1x1024, .f32⟩
  | .hbm, ⟨14, _⟩ => ⟨S4x704x1024, .bf16⟩
  | .hbm, ⟨15, _⟩ => ⟨S8192x1024, .f32⟩
  | .hbm, ⟨16, _⟩ => ⟨S8192x1024, .bf16⟩
  | .hbm, ⟨17, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== FfDownRefIdeal.lean ====
abbrev S8192x2816 : Shape := ⟨2, ![8192, 2816]⟩
abbrev S2816x1024 : Shape := ⟨2, ![2816, 1024]⟩
abbrev S8192x1024 : Shape := ⟨2, ![8192, 1024]⟩
abbrev S2x1024 : Shape := ⟨2, ![2, 1024]⟩
abbrev S1024 : Shape := ⟨1, ![1024]⟩
abbrev S2x4096x1024 : Shape := ⟨3, ![2, 4096, 1024]⟩
abbrev S_ : Shape := ⟨0, ![]⟩
abbrev S2x1x1024 : Shape := ⟨3, ![2, 1, 1024]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S2x1024, .f32⟩
  | .hbm, ⟨4, _⟩ => ⟨S1024, .f32⟩
  | .hbm, ⟨5, _⟩ => ⟨S2x1024, .f32⟩
  | .hbm, ⟨6, _⟩ => ⟨S2x1024, .f32⟩
  | .hbm, ⟨7, _⟩ => ⟨S8192x2816, .f32⟩
  | .hbm, ⟨8, _⟩ => ⟨S8192x1024, .f32⟩
  | .hbm, ⟨9, _⟩ => ⟨S2x4096x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S2x1x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S2x4096x1024, .f32⟩
  | .hbm, ⟨18, _⟩ => ⟨S2x4096x1024, .f32⟩
  | .hbm, ⟨19, _⟩ => ⟨S2x4096x1024, .f32⟩
  | .hbm, ⟨20, _⟩ => ⟨S2x4096x1024, .f32⟩
  | .hbm, ⟨21, _⟩ => ⟨S2x4096x1024, .f32⟩
  | .hbm, ⟨22, _⟩ => ⟨S_, .f32⟩
  | .hbm, ⟨23, _⟩ => ⟨S2x4096, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x1, .f32⟩
  | .hbm, ⟨32, _⟩ => ⟨S2x4096x1024, .f32⟩
  | .hbm, ⟨33, _⟩ => ⟨S2x4096x1024, .f32⟩
  | .hbm, ⟨34, _⟩ => ⟨S1x1x1024, .f32⟩
  | .hbm, ⟨35, _⟩ => ⟨S2x4096x1024, .f32⟩
  | .hbm, ⟨36, _⟩ => ⟨S2x4096x1024, .f32⟩
  | .hbm, ⟨37, _⟩ => ⟨S2x1x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x4096x1024, .f32⟩
  | .hbm, ⟨42, _⟩ => ⟨S2x4096x1024, .f32⟩
  | .hbm, ⟨43, _⟩ => ⟨S2x1x1024, .f32⟩
  | .hbm, ⟨44, _⟩ => ⟨S2x4096x1024, .f32⟩
  | .hbm, ⟨45, _⟩ => ⟨S2x4096x1024, .f32⟩
  | .hbm, ⟨46, _⟩ => ⟨S8192x1024, .f32⟩
  | .hbm, ⟨47, _⟩ => ⟨S8192x1024, .bf16⟩
  | .hbm, ⟨48, _⟩ => ⟨S8192x1024, .f32⟩
  | .hbm, ⟨49, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Adam.lean ====
abbrev S4x8x1024x704 : Shape := ⟨4, ![4, 8, 1024, 704]⟩
abbrev S4x1024x704 : Shape := ⟨3, ![4, 1024, 704]⟩
abbrev S1x8x128x704 : Shape := ⟨4, ![1, 8, 128, 704]⟩
abbrev S1x128x704 : Shape := ⟨3, ![1, 128, 704]⟩
abbrev S1x1x128x704 : Shape := ⟨4, ![1, 1, 128, 704]⟩
abbrev S128x704 : Shape := ⟨2, ![128, 704]⟩

abbrev nBuf : Space → Nat
  | .hbm => 8
  | .vmem => 16
  | .smem => 0
  | _ => 0

abbrev bufTy : (tb : Table) → Fin (tcTables nBuf tb) → BufTy
  | .hbm, ⟨0, _⟩ => ⟨S4x8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x1024x704, .f32⟩
  | .hbm, ⟨5, _⟩ => ⟨S4x1024x704, .f32⟩
  | .hbm, ⟨6, _⟩ => ⟨S4x1024x704, .f32⟩
  | .hbm, ⟨7, _⟩ => ⟨S4x1024x704, .f32⟩
  | .local _ .vmem, ⟨0, _⟩ => ⟨S1x8x128x704, .bf16⟩
  | .local _ .vmem, ⟨1, _⟩ => ⟨S1x8x128x704, .bf16⟩
  | .local _ .vmem, ⟨2, _⟩ => ⟨S1x128x704, .f32⟩
  | .local _ .vmem, ⟨3, _⟩ => ⟨S1x128x704, .f32⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S1x128x704, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | _, _ => ⟨S4x8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S4x8x1024x704 : Shape := ⟨4, ![4, 8, 1024, 704]⟩
abbrev S4x1024x704 : Shape := ⟨3, ![4, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x1024x704, .bf16⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4x8x1024x704, .f32⟩
  | .hbm, ⟨5, _⟩ => ⟨S_, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S_, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .hbm, ⟨14, _⟩ => ⟨S_, .f32⟩
  | .hbm, ⟨15, _⟩ => ⟨S4x1024x704, .f32⟩
  | .hbm, ⟨16, _⟩ => ⟨S4x1024x704, .f32⟩
  | .hbm, ⟨17, _⟩ => ⟨S4x1024x704, .f32⟩
  | .hbm, ⟨18, _⟩ => ⟨S_, .f32⟩
  | .hbm, ⟨19, _⟩ => ⟨S4x1024x704, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S_, .f32⟩
  | .hbm, ⟨26, _⟩ => ⟨S4x1024x704, .f32⟩
  | .hbm, ⟨27, _⟩ => ⟨S4x1024x704, .f32⟩
  | .hbm, ⟨28, _⟩ => ⟨S4x1024x704, .f32⟩
  | .hbm, ⟨29, _⟩ => ⟨S_, .f32⟩
  | .hbm, ⟨30, _⟩ => ⟨S4x1024x704, .f32⟩
  | .hbm, ⟨31, _⟩ => ⟨S4x1024x704, .f32⟩
  | .hbm, ⟨32, _⟩ => ⟨S4x1024x704, .f32⟩
  | .hbm, ⟨33, _⟩ => ⟨S_, .f32⟩
  | .hbm, ⟨34, _⟩ => ⟨S4x1024x704, .f32⟩
  | .hbm, ⟨35, _⟩ => ⟨S4x1024x704, .f32⟩
  | .hbm, ⟨36, _⟩ => ⟨S4x1024x704, .f32⟩
  | .hbm, ⟨37, _⟩ => ⟨S_, .f32⟩
  | .hbm, ⟨38, _⟩ => ⟨S4x1024x704, .f32⟩
  | .hbm, ⟨39, _⟩ => ⟨S4x1024x704, .f32⟩
  | _, _ => ⟨S4x8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Sums.lean ====
abbrev S8x1376x128 : Shape := ⟨3, ![8, 1376, 128]⟩
abbrev S1376x128 : Shape := ⟨2, ![1376, 128]⟩
abbrev S1x1376x128 : Shape := ⟨3, ![1, 1376, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1376x128, .f32⟩
  | .hbm, ⟨1, _⟩ => ⟨S1376x128, .f32⟩
  | .local _ .vmem, ⟨0, _⟩ => ⟨S8x1376x128, .f32⟩
  | .local _ .vmem, ⟨1, _⟩ => ⟨S1376x128, .f32⟩
  | _, _ => ⟨S8x1376x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1376x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1376x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumsRefIdeal.lean ====
abbrev S8x1376x128 : Shape := ⟨3, ![8, 1376, 128]⟩
abbrev S_ : Shape := ⟨0, ![]⟩
abbrev S1376x128 : Shape := ⟨2, ![1376, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1376x128, .f32⟩
  | .hbm, ⟨1, _⟩ => ⟨S_, .f32⟩
  | .hbm, ⟨2, _⟩ => ⟨S1376x128, .f32⟩
  | _, _ => ⟨S8x1376x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Dwup.lean ====
abbrev S8192x1024 : Shape := ⟨2, ![8192, 1024]⟩
abbrev S8x8192x704 : Shape := ⟨3, ![8, 8192, 704]⟩
abbrev S8x1024x704 : Shape := ⟨3, ![8, 1024, 704]⟩
abbrev S4096x1024 : Shape := ⟨2, ![4096, 1024]⟩
abbrev S1x4096x704 : Shape := ⟨3, ![1, 4096, 704]⟩
abbrev S1x1024x704 : Shape := ⟨3, ![1, 1024, 704]⟩
abbrev S1024x704 : Shape := ⟨2, ![1024, 704]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x1024x704, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwupRefIdeal.lean ====
abbrev S8192x1024 : Shape := ⟨2, ![8192, 1024]⟩
abbrev S8x8192x704 : Shape := ⟨3, ![8, 8192, 704]⟩
abbrev S8x704x1024 : Shape := ⟨3, ![8, 704, 1024]⟩
abbrev S8x1024x704 : Shape := ⟨3, ![8, 1024, 704]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x704x1024, .f32⟩
  | .hbm, ⟨3, _⟩ => ⟨S8x1024x704, .f32⟩
  | .hbm, ⟨4, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Kit.lean ====
module

public import Idealize.ShloMosaic.Lib.Pipeline.ValueKit

@[expose] public section

noncomputable section

open Idealize.ShloMosaic

namespace Cert.Kit

/-- The f32 literal one half. -/
theorem half_f32 : Ideal.ofBits .f32 1056964608#32 = (((1 : ℝ) / 2 : ℝ) : EReal) := by
  simp [Ideal.ofBits, Ideal.ieee, -EReal.coe_mul]; norm_num

/-- A nonnegative real factor may be taken into a sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

end Cert.Kit

end
-- ==== Proof.Res.lean ====
module

public import proofs.«01_k».proof.Proof.Gen.ResBwdIdeal.Frame
public import proofs.«01_k».proof.Proof.Gen.ResRefIdeal.Read
public import proofs.«01_k».proof.Proof.Gen.ResRefIdeal.Run
public import proofs.«01_k».proof.Proof.Kit

@[expose] public section

set_option maxRecDepth 16384

noncomputable section

open Idealize.ShloMosaic Idealize.ShloMosaic.TcCoe Idealize.SL.Sem
open Idealize.ShloMosaic.Pipeline (Dat)

namespace Cert.ResBwdIdeal.Val

open Cert.ResBwdIdeal Cert.ResBwdIdeal.Gen Cert.ResRefIdeal.Read

variable (m : (ℓ : Loc nD τ sig) → Buf (Elt Ideal) ℓ)

theorem idx : ∀ t : Fin cfg0.N, win0_0.index t = ![t.val, 0] ∧ win0_1.index t = ![t.val, 0]
    ∧ win0_2.index t = ![t.val / 8, 0, 0] ∧ win0_3.index t = ![t.val, 0] ∧ win0_4.index t = ![t.val, 0, 0] :=
  (by decide +kernel : ∀ t : Fin grid0.N, _)

theorem V_v0 (c : Dev nD) : V m c main_v0 = (broadcastInDim S2x1x1024 ![0, 2] bcast_S2x1024_S2x1x1024_0_2
    (m (c.tc.loc main_arg2) : FVec Ideal S2x1024 .f32) : FVec Ideal S2x1x1024 .f32) := by
  show StableHlo.after (List.flatten [hostOps0]) _ _ = _
  simp only [hostOps0, List.flatten_cons, List.flatten_nil, List.append_nil]
  after_results

theorem point3 (c : Dev nD) (t : Fin cfg0.N) (y) : k0_pay1 (iblk m c 0 t) (iblk m c 2 t) y
    = val_main_v16 (F := Ideal) (m (c.tc.loc main_arg0)) (m (c.tc.loc main_arg2))
      (((cfg0.win 3).blk t).view.emb y) := by
  unfold val_main_v16 val_main_v15 val_main_v11 val_main_v10 val_main_v9 val_main_v4 val_main_v3 val_main_v2 val_main_v1 val_main_v0 val_main_cst_0 val_main_cst
  pointwise [k0_pay1]
  reads_congr
  · blk_simp [iblk]
    rw [V_v0]
    pointwise
    blk_ext [idx t]
  · blk_ext! [iblk, V, idx t]

theorem final3 (c : Dev nD) : (dats m 0 c).arrAt 3 (cfgs 0).N
    = val_main_v16 (F := Ideal) (m (c.tc.loc main_arg0)) (m (c.tc.loc main_arg2)) := by
  refine (dats m 0 c).arrAt_eq_of_covers 3 _ (by decide +kernel) fun t _ y => ?_
  blk_simp
  rw [after0_3]; frame_out
  exact point3 m c t y

/-- Row `r` of tile `t` of the product whose column sums are the gate's gradient. -/
def term (X : FVec Ideal S8192x1024 .f32) (Y : FVec Ideal S8192x1024 .bf16) (n : Fin 8192) (d : Fin 1024) : EReal :=
  Ideal.ofBits .f32 1056964608#32 * X (ix2 n d) * Y (ix2 n d)

theorem point4 (c : Dev nD) (t : Fin cfg0.N) (d : Fin 1024) (n : Fin 16) (hn : n.val = t.val) : k0_pay2 (iblk m c 0 t) (iblk m c 1 t) (ix3 0 0 d)
    = ∑ r : Fin 512, term (m (c.tc.loc main_arg0)) (m (c.tc.loc main_arg1)) ⟨n.val * 512 + r.val, by omega⟩ d := by
  unfold term
  pointwise [k0_pay2]
  blk_point [iblk, V, idx t]

theorem point4y (c : Dev nD) (t : Fin cfg0.N) (y : S1x8x1024.Idx) (n : Fin 16) (d : Fin 1024) (hn : n.val = t.val) (h1 : (y 1).val = 0) (hd : (y 2).val = d.val) :
    k0_pay2 (iblk m c 0 t) (iblk m c 1 t) y
    = ∑ r : Fin 512, term (m (c.tc.loc main_arg0)) (m (c.tc.loc main_arg1)) ⟨n.val * 512 + r.val, by omega⟩ d := by
  have hy : y = ix3 (0 : Fin 1) (0 : Fin 8) d := by
    funext a
    refine Fin.ext ?_
    match a with
    | ⟨0, _⟩ => exact Nat.lt_one_iff.mp (y 0).isLt
    | ⟨1, _⟩ => exact h1
    | ⟨2, _⟩ => exact hd
  rw [hy]
  exact point4 m c t d n hn

/-- The array of per-tile sums: row 0 of tile `n` holds the column sums of the tile's product. -/
theorem arr4 (c : Dev nD) (n : Fin 16) (d : Fin 1024) : ((dats m 0 c).arrAt 4 (cfgs 0).N : FVec Ideal S16x8x1024 .f32) (ix3 n 0 d)
    = ∑ r : Fin 512, term (m (c.tc.loc main_arg0)) (m (c.tc.loc main_arg1)) ⟨n.val * 512 + r.val, by omega⟩ d := by
  refine ((dats m 0 c).arrAt_forall_of_covers 4 (fun (i : S16x8x1024.Idx) (v : EReal) => (i 1).val = 0 → ∀ (n : Fin 16) (d : Fin 1024), (i 0).val = n.val → (i 2).val = d.val →
    v = ∑ r : Fin 512, term (m (c.tc.loc main_arg0)) (m (c.tc.loc main_arg1)) ⟨n.val * 512 + r.val, by omega⟩ d)
    (by decide +kernel) (fun t hf y => ?_) (ix3 n 0 d)) rfl n d rfl rfl
  blk_simp [idx t]
  rw [after0_4]; frame_out
  intro h1 n' d' hn hd
  exact point4y m c t y n' d' (by rw [← hn]) h1 (by rw [← hd])

/-- The host lines after the grid: the first row of every tile's block, summed over the tiles of a batch. -/
def tailTerm (X : FVec Ideal S16x8x1024 .f32) : FVec Ideal S2x1024 .f32 :=
  Host.reduceAdd (shapeCast S2x8x1024 (shapeCast S16x1024 (extractStridedSlice S16x1x1024 ![0, 0, 0] X slices_S16x8x1024_S16x1x1024_0_0_0)
    shapeCasts_S16x1x1024_S16x1024) shapeCasts_S16x1024_S2x8x1024) (constant S_ FTy.f32 0#32) reducesTo_S2x8x1024_S2x1024_d1 h_S_

theorem tail5 (c : Dev nD) : Pipeline.afterTail₀ cfgs (dats m) 0 (V0 m) [hostOps1] c main_v5 = tailTerm ((dats m 0 c).arrAt 4 (cfgs 0).N) := by
  unfold Pipeline.afterTail₀
  simp only [hostOps1, List.flatten_cons, List.flatten_nil, List.append_nil]
  after_results
  exact congrArg tailTerm (Pipeline.withArrays_arr spec0 (by decide) c (V0 m c) (fun w => (dats m 0 c).arrAt w (cfgs 0).N) 4)

theorem tail_eq (X : FVec Ideal S8192x1024 .f32) (Y : FVec Ideal S8192x1024 .bf16) (A : FVec Ideal S16x8x1024 .f32)
    (ha : ∀ (n : Fin 16) (d : Fin 1024), A (ix3 n 0 d) = ∑ r : Fin 512, term X Y ⟨n.val * 512 + r.val, by omega⟩ d) :
    tailTerm A = val_main_v19 (F := Ideal) X Y := by
  funext i
  obtain ⟨b, d, rfl⟩ : ∃ (b : Fin 2) (d : Fin 1024), i = ix2 b d := ⟨i 0, i 1, eq_ix2 i⟩
  unfold val_main_v19 val_main_v18 val_main_v17 val_main_v14 val_main_v13 val_main_v12 val_main_v9 val_main_v6 val_main_v5 val_main_cst_1 val_main_cst_2 val_main_cst_3
  pointwise [tailTerm]
  rw [Finset.sum_congr rfl fun x _ => ha _ _]
  simp only [Finset.sum_const, Finset.card_univ, Fintype.card_fin, one_smul]
  rw [Kit.half_f32, Kit.coe_mul_sum _ _ (by norm_num)]
  refine Fin.sum_mul_add_congr (S := 8) (n := 512) (L := 4096) (fun s k hl => ?_) (by norm_num)
  unfold term
  rw [Kit.half_f32, mul_assoc]
  have e : ∀ (h1 : (b.val * 8 + s.val) * 512 + k.val < 8192) (h2 : b.val * 4096 + (s.val * 512 + k.val) < 8192),
      (⟨(b.val * 8 + s.val) * 512 + k.val, h1⟩ : Fin 8192) = ⟨b.val * 4096 + (s.val * 512 + k.val), h2⟩ := fun _ _ => by
    rw [Fin.mk.injEq]; omega
  rw [e]

theorem final5 (c : Dev nD) : Pipeline.afterTail₀ cfgs (dats m) 0 (V0 m) [hostOps1] c main_v5
    = val_main_v19 (F := Ideal) (m (c.tc.loc main_arg0)) (m (c.tc.loc main_arg1)) :=
  (tail5 m c).trans (tail_eq _ _ _ (arr4 m c))

/-- The kernel's run: both results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v1_0) = val_main_v16 (F := Ideal) (m (c.tc.loc main_arg0)) (m (c.tc.loc main_arg2))
      ∧ r.2.mem (c.tc.loc main_v5) = val_main_v19 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run defs _ _).mono (fun r h c => ?_) (θ_run_and (run_main m g) (unchanged m g))
  exact ⟨((h.1 c).1 3).trans (final3 m c), ((h.1 c).2 main_v5 (Pipeline.mem_restRefs_of main_v5 (by decide) (by decide))).trans (final5 m c), h.2 c⟩

end Cert.ResBwdIdeal.Val

end
-- ==== Proof.SbSpec.lean ====
/-
  Stick-breaking attention and its gradient over the real numbers, as functions of natural-number
  positions: the softplus and logistic of one logit, one query row's stick-breaking weights and the
  gradient of its logits, and the four results of the whole call.
-/
module

public import Idealize.ShloMosaic.Lib.Pipeline.ValueKit

@[expose] public section

noncomputable section

open Idealize.ShloMosaic

namespace Cert.SbSpec

/-- The softplus of a real. -/
def sp (x : ℝ) : ℝ := max x 0 + Real.log (1 + Real.exp (-|x|))

/-- The logistic function, as the exponential of a logit minus its softplus. -/
def sg (x : ℝ) : ℝ := Real.exp (x - sp x)

theorem exp_sp (x : ℝ) : Real.exp (sp x) = 1 + Real.exp x := by
  have hp : (0 : ℝ) < 1 + Real.exp (-|x|) := by positivity
  unfold sp
  rw [Real.exp_add, Real.exp_log hp]
  rcases le_total 0 x with h | h
  · rw [max_eq_left h, abs_of_nonneg h, mul_add, ← Real.exp_add]; simp; ring
  · rw [max_eq_right h, abs_of_nonpos h]; simp

theorem sp_neg (x : ℝ) : sp (-x) = sp x - x := by
  apply Real.exp_injective
  rw [Real.exp_sub, exp_sp, exp_sp, Real.exp_neg]
  have := Real.exp_pos x
  field_simp
  ring

theorem sg_eq (x : ℝ) : sg x = Real.exp x / (1 + Real.exp x) := by
  unfold sg; rw [Real.exp_sub, exp_sp]

theorem sg_neg (x : ℝ) : sg (-x) = 1 - sg x := by
  rw [sg_eq, sg_eq, Real.exp_neg]
  have := Real.exp_pos x
  field_simp
  ring

/-- A finite sum of reals, read in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem coe_max (x y : ℝ) : max (x : EReal) (y : EReal) = ((max x y : ℝ) : EReal) :=
  (EReal.coe_strictMono.monotone.map_max (a := x) (b := y)).symm

/-- The softplus of a real, computed in the extended reals. -/
theorem sp_coe (x : ℝ) :
    max (x : EReal) 0 + Ideal.log (1 + Ideal.exp (0 - max (x : EReal) (-(x : EReal)))) = ((sp x : ℝ) : EReal) := by
  have hp : (0 : ℝ) < 1 + Real.exp (-|x|) := by positivity
  rw [show (0 : EReal) = ((0 : ℝ) : EReal) from rfl, ← EReal.coe_neg, coe_max, coe_max, ← EReal.coe_sub, Ideal.exp_coe,
    show (1 : EReal) = ((1 : ℝ) : EReal) from rfl, ← EReal.coe_add,
    show (0 : ℝ) - max x (-x) = -|x| by rw [zero_sub]; rfl, Ideal.log_coe, if_neg (not_le.mpr hp), ← EReal.coe_add]
  rfl

section Row

variable (z g : ℕ → ℝ) (t s : ℕ)

/-- The logarithm of one minus the logistic of a key before the query's place, zero elsewhere. -/
def ld : ℝ := if s < t then -sp (z s) else 0

/-- The sum of `ld` over the later keys. -/
def aft : ℝ := ∑ j ∈ Finset.Ioo s 4096, ld z t j

/-- The stick-breaking weight of a key. -/
def wt : ℝ := if s < t then Real.exp (z s - sp (z s) + aft z t s) else 0

/-- The weight times the derivative by it. -/
def ew : ℝ := g s * wt z t s

/-- The sum of `ew` over the earlier keys. -/
def pre : ℝ := ∑ j ∈ Finset.range s, ew z g t j

/-- The derivative by a key's logit. -/
def dz : ℝ := if s < t then ew z g t s * (1 - sg (z s)) - pre z g t s * sg (z s) else 0

end Row

section Arrays

variable (P D : ℕ → ℕ → ℕ → ℝ) (b : ℕ)

/-- A head's logit of a query at a key. -/
def zr (h t s : ℕ) : ℝ := (∑ d ∈ Finset.range 64, P b t (1024 + 64 * h + d) * P b s (1280 + 64 * h + d)) * (1 / 8)

/-- A head's derivative by the weight of a query at a key. -/
def gr (h t s : ℕ) : ℝ := ∑ d ∈ Finset.range 64, D b t (64 * h + d) * P b s (1536 + 64 * h + d)

/-- The weight of a query (at the head of a column) at a key. -/
def wc (c t s : ℕ) : ℝ := wt (zr P b (c / 64) t) t s

/-- The derivative by the logit of a query (at the head of a column) at a key. -/
def dzc (c t s : ℕ) : ℝ := dz (zr P b (c / 64) t) (gr P D b (c / 64) t) t s

/-- The output. -/
def y (t c : ℕ) : ℝ := ∑ s ∈ Finset.range 4096, wc P b c t s * P b s (1536 + c)

/-- The derivative by the queries. -/
def dq (t c : ℕ) : ℝ := ∑ s ∈ Finset.range 4096, dzc P D b c t s * (1 / 8) * P b s (1280 + c)

/-- The derivative by the keys. -/
def dk (s c : ℕ) : ℝ := ∑ t ∈ Finset.range 4096, dzc P D b c t s * (1 / 8) * P b t (1024 + c)

/-- The derivative by the values. -/
def dv (s c : ℕ) : ℝ := ∑ t ∈ Finset.range 4096, wc P b c t s * D b t c

end Arrays

end Cert.SbSpec

end
-- ==== Proof.SbReal.lean ====
/-
  Sums over keys taken in blocks of 256, and a pair of heads side by side in 128 lanes: the real
  arithmetic of the stick-breaking kernels.
-/
module

public import proofs.«01_k».proof.Proof.SbSpec

@[expose] public section

noncomputable section

namespace Cert.SbSpec

section Blocks

variable (F : ℕ → ℝ) (n j : ℕ)

theorem block_mask_ge (hj : j ≤ 256) :
    ∑ i ∈ Finset.range 256, F (256 * n + i) * (if j ≤ i then 1 else 0) = ∑ s ∈ Finset.Ico (256 * n + j) (256 * n + 256), F s := by
  rw [← Finset.sum_range_add_sum_Ico _ hj, Finset.sum_eq_zero (s := Finset.range j), zero_add,
    add_comm (256 * n) j, add_comm (256 * n) 256, ← Finset.sum_Ico_add (fun s => F s) j 256 (256 * n)]
  · refine Finset.sum_congr rfl fun i hi => ?_
    rw [if_pos (Finset.mem_Ico.mp hi).1, mul_one]
  · intro i hi
    rw [if_neg (by have := Finset.mem_range.mp hi; omega), mul_zero]

theorem block_mask_lt (hj : j ≤ 256) :
    ∑ i ∈ Finset.range 256, F (256 * n + i) * (if i < j then 1 else 0) = ∑ s ∈ Finset.Ico (256 * n) (256 * n + j), F s := by
  rw [← Finset.sum_range_add_sum_Ico _ hj, Finset.sum_eq_zero (s := Finset.Ico j 256), add_zero,
    Finset.sum_Ico_eq_sum_range, Nat.add_sub_cancel_left]
  · refine Finset.sum_congr rfl fun i hi => ?_
    rw [if_pos (Finset.mem_range.mp hi), mul_one]
  · intro i hi
    rw [if_neg (by have := Finset.mem_Ico.mp hi; omega), mul_zero]

theorem block_after (hj : j < 256) (hn : n < 16) :
    ∑ s ∈ Finset.Ioo (256 * n + j) 4096, F s
      = (∑ i ∈ Finset.range 256, F (256 * n + i) * (if j < i then 1 else 0)) + ∑ s ∈ Finset.Ico (256 * (n + 1)) 4096, F s := by
  have h1 : Finset.Ioo (256 * n + j) 4096 = Finset.Ico (256 * n + (j + 1)) 4096 := by ext x; simp; omega
  have h := block_mask_ge F n (j + 1) (by omega)
  simp only [Nat.succ_le_iff] at h
  rw [h1, h, ← Finset.sum_Ico_consecutive F (show 256 * n + (j + 1) ≤ 256 * n + 256 by omega) (by omega), show 256 * (n + 1) = 256 * n + 256 by ring]

theorem block_before (hj : j ≤ 256) :
    ∑ s ∈ Finset.range (256 * n + j), F s
      = (∑ s ∈ Finset.range (256 * n), F s) + ∑ i ∈ Finset.range 256, F (256 * n + i) * (if i < j then 1 else 0) := by
  rw [block_mask_lt F n j hj, Finset.sum_range_add_sum_Ico _ (by omega)]

theorem block_Ico (hn : n < 16) :
    ∑ s ∈ Finset.Ico (256 * n) 4096, F s
      = (∑ i ∈ Finset.range 256, F (256 * n + i)) + ∑ s ∈ Finset.Ico (256 * (n + 1)) 4096, F s := by
  rw [← Finset.sum_Ico_consecutive F (show 256 * n ≤ 256 * n + 256 by omega) (by omega), Finset.sum_Ico_eq_sum_range F (256 * n) (256 * n + 256),
    Nat.add_sub_cancel_left, show 256 * (n + 1) = 256 * n + 256 by ring]

theorem block_range :
    ∑ s ∈ Finset.range (256 * (n + 1)), F s
      = (∑ s ∈ Finset.range (256 * n), F s) + ∑ i ∈ Finset.range 256, F (256 * n + i) := by
  rw [show 256 * (n + 1) = 256 * n + 256 by ring, Finset.sum_range_add]

theorem total_sub (hj : j < 256) (hn : n < 16) :
    (∑ s ∈ Finset.range 4096, F s) - ((∑ s ∈ Finset.range (256 * n), F s) + ∑ i ∈ Finset.range 256, F (256 * n + i) * (if i ≤ j then 1 else 0))
      = ∑ s ∈ Finset.Ioo (256 * n + j) 4096, F s := by
  have h := block_before F n (j + 1) (by omega)
  simp only [Nat.lt_succ_iff] at h
  have h1 : Finset.Ioo (256 * n + j) 4096 = Finset.Ico (256 * n + (j + 1)) 4096 := by ext x; simp; omega
  rw [← h, h1, ← Finset.sum_range_add_sum_Ico F (show 256 * n + (j + 1) ≤ 4096 by omega)]
  ring

end Blocks

/-! ### Two heads stacked -/

/-- A matrix of two heads side by side, stacked: the first head's lanes over the second's, the other lanes zero. -/
def stk (f : ℕ → ℕ → ℝ) (r d : ℕ) : ℝ :=
  if r < 512 then (if d < 64 then f r d else 0) else (if d < 64 then 0 else f (r - 512) d)

theorem stk_dot (f : ℕ → ℕ → ℝ) (g : ℕ → ℝ) (r : ℕ) (hr : r < 1024) :
    ∑ d ∈ Finset.range 128, stk f r d * g d
      = ∑ e ∈ Finset.range 64, f (r % 512) (64 * (r / 512) + e) * g (64 * (r / 512) + e) := by
  rw [show (128 : ℕ) = 64 + 64 from rfl, Finset.sum_range_add]
  rcases Nat.lt_or_ge r 512 with h | h
  · rw [show r % 512 = r by omega, show r / 512 = 0 by omega, Finset.sum_eq_zero (s := Finset.range 64) (f := fun x => stk f r (64 + x) * g (64 + x)), add_zero]
    · refine Finset.sum_congr rfl fun e he => ?_
      rw [stk, if_pos h, if_pos (Finset.mem_range.mp he), mul_zero, zero_add]
    · intro e _
      rw [stk, if_pos h, if_neg (by omega), zero_mul]
  · rw [show r % 512 = r - 512 by omega, show r / 512 = 1 by omega, Finset.sum_eq_zero (s := Finset.range 64) (f := fun x => stk f r x * g x), zero_add]
    · refine Finset.sum_congr rfl fun e he => ?_
      rw [stk, if_neg (by omega), if_neg (by omega), mul_one]
    · intro e he
      rw [stk, if_neg (by omega), if_pos (Finset.mem_range.mp he), zero_mul]

/-- A column of a product over the stacked rows: only the rows of the lane's head count. -/
theorem stk_col (f : ℕ → ℕ → ℝ) (g : ℕ → ℝ) (d : ℕ) (hd : d < 128) :
    ∑ r ∈ Finset.range 1024, g r * stk f r d = ∑ r ∈ Finset.range 512, g (512 * (d / 64) + r) * f r d := by
  rw [show (1024 : ℕ) = 512 + 512 from rfl, Finset.sum_range_add]
  rcases Nat.lt_or_ge d 64 with h | h
  · rw [show d / 64 = 0 by omega, Finset.sum_eq_zero (s := Finset.range 512) (f := fun x => g (512 + x) * stk f (512 + x) d), add_zero]
    · refine Finset.sum_congr rfl fun e he => ?_
      rw [stk, if_pos (Finset.mem_range.mp he), if_pos h, mul_zero, zero_add]
    · intro e _
      rw [stk, if_neg (by omega), if_pos h, mul_zero]
  · rw [show d / 64 = 1 by omega, Finset.sum_eq_zero (s := Finset.range 512) (f := fun x => g x * stk f x d), zero_add]
    · refine Finset.sum_congr rfl fun e he => ?_
      rw [stk, if_neg (by omega), if_neg (by omega), mul_one, Nat.add_sub_cancel_left]
    · intro e he
      rw [stk, if_pos (Finset.mem_range.mp he), if_neg (by omega), mul_zero]

theorem dz_zero (z g : ℕ → ℝ) {t s : ℕ} (h : t ≤ s) : dz z g t s = 0 := by rw [dz, if_neg (by omega)]
theorem wt_zero (z : ℕ → ℝ) {t s : ℕ} (h : t ≤ s) : wt z t s = 0 := by rw [wt, if_neg (by omega)]
theorem ld_zero (z : ℕ → ℝ) {t s : ℕ} (h : t ≤ s) : ld z t s = 0 := by rw [ld, if_neg (by omega)]

end Cert.SbSpec

end
-- ==== Proof.Vals.lean ====
/-
  Arrays of extended reals that hold real numbers: an array is described by a real function of its
  coordinates (read as natural numbers), and each operation of a kernel body acts on the description.
-/
module

public import Idealize.ShloMosaic.Lib.Pipeline.ValueKit
public import Idealize.ShloMosaic.Lib.WordCmp

@[expose] public section

noncomputable section

open Idealize.ShloMosaic

namespace Cert.Vals

/-- A matrix holds the real numbers `f`. -/
def Is2 {A B : ℕ} {φ : FTy} (X : FVec Ideal ⟨2, ![A, B]⟩ φ) (f : ℕ → ℕ → ℝ) : Prop :=
  ∀ (a : Fin A) (b : Fin B), (X (ix2 a b) : EReal) = ((f a.val b.val : ℝ) : EReal)

/-- An array of three axes holds the real numbers `f`. -/
def Is3 {A B C : ℕ} {φ : FTy} (X : FVec Ideal ⟨3, ![A, B, C]⟩ φ) (f : ℕ → ℕ → ℕ → ℝ) : Prop :=
  ∀ (a : Fin A) (b : Fin B) (c : Fin C), (X (ix3 a b c) : EReal) = ((f a.val b.val c.val : ℝ) : EReal)

/-- A mask holds where `p` does. -/
def IsM {A B : ℕ} (M : IVec ⟨2, ![A, B]⟩ 1) (p : ℕ → ℕ → Prop) [∀ a b, Decidable (p a b)] : Prop :=
  ∀ (a : Fin A) (b : Fin B), M (ix2 a b) = BitVec.ofBool (decide (p a.val b.val))

theorem coe_max (x y : ℝ) : max (x : EReal) (y : EReal) = ((max x y : ℝ) : EReal) :=
  (EReal.coe_strictMono.monotone.map_max (a := x) (b := y)).symm

/-- A finite sum of reals, read in the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

theorem sum_fin_coe {n : ℕ} (f : ℕ → ℝ) : ∑ k : Fin n, ((f k.val : ℝ) : EReal) = ((∑ k ∈ Finset.range n, f k : ℝ) : EReal) := by
  rw [Fin.sum_univ_eq_sum_range (fun k => ((f k : ℝ) : EReal)) n, coe_sum]

namespace Is2

variable {A B : ℕ} {φ : FTy} {X Y : FVec Ideal ⟨2, ![A, B]⟩ φ} {f g : ℕ → ℕ → ℝ}

theorem congr (h : Is2 X f) (e : ∀ a b, a < A → b < B → f a b = g a b) : Is2 X g := fun a b => by
  rw [h a b, e a.val b.val a.isLt b.isLt]

theorem add (hX : Is2 X f) (hY : Is2 Y g) : Is2 (addf X Y) (fun a b => f a b + g a b) := fun a b => by
  have h : ((addf X Y) (ix2 a b) : EReal) = (X (ix2 a b) : EReal) + (Y (ix2 a b) : EReal) := rfl
  rw [h, hX, hY, ← EReal.coe_add]

theorem sub (hX : Is2 X f) (hY : Is2 Y g) : Is2 (subf X Y) (fun a b => f a b - g a b) := fun a b => by
  have h : ((subf X Y) (ix2 a b) : EReal) = (X (ix2 a b) : EReal) - (Y (ix2 a b) : EReal) := rfl
  rw [h, hX, hY, ← EReal.coe_sub]

theorem mul (hX : Is2 X f) (hY : Is2 Y g) : Is2 (mulf X Y) (fun a b => f a b * g a b) := fun a b => by
  have h : ((mulf X Y) (ix2 a b) : EReal) = (X (ix2 a b) : EReal) * (Y (ix2 a b) : EReal) := rfl
  rw [h, hX, hY, ← EReal.coe_mul]

theorem max (hX : Is2 X f) (hY : Is2 Y g) : Is2 (maximumf X Y) (fun a b => Max.max (f a b) (g a b)) := fun a b => by
  have h : ((maximumf X Y) (ix2 a b) : EReal) = Max.max (X (ix2 a b) : EReal) (Y (ix2 a b) : EReal) := rfl
  rw [h, hX, hY, coe_max]

theorem abs (hX : Is2 X f) : Is2 (absf X) (fun a b => |f a b|) := fun a b => by
  have h : ((absf X) (ix2 a b) : EReal) = Max.max (X (ix2 a b) : EReal) (-(X (ix2 a b) : EReal)) := rfl
  rw [h, hX, ← EReal.coe_neg, coe_max]; rfl

theorem exp (hX : Is2 X f) : Is2 (Idealize.ShloMosaic.exp X) (fun a b => Real.exp (f a b)) := fun a b => by
  have h : ((Idealize.ShloMosaic.exp X) (ix2 a b) : EReal) = Ideal.exp (X (ix2 a b) : EReal) := rfl
  rw [h, hX, Ideal.exp_coe]

theorem log (hX : Is2 X f) (hp : ∀ a b, 0 < f a b) : Is2 (Idealize.ShloMosaic.log X) (fun a b => Real.log (f a b)) := fun a b => by
  have h : ((Idealize.ShloMosaic.log X) (ix2 a b) : EReal) = Ideal.log (X (ix2 a b) : EReal) := rfl
  rw [h, hX, Ideal.log_coe, if_neg (not_le.mpr (hp _ _))]

theorem trunc {ψ : FTy} (hX : Is2 X f) (h : ψ.bits < φ.bits) : Is2 (truncf ψ X h) f := fun a b => hX a b

theorem ext {ψ : FTy} (hX : Is2 X f) (h : φ.bits < ψ.bits) : Is2 (extf ψ X h) f := fun a b => hX a b

theorem splat {c : Ideal φ} {r : ℝ} (hc : (c : EReal) = ((r : ℝ) : EReal)) : Is2 (broadcast (⟨2, ![A, B]⟩ : Shape) c : FVec Ideal ⟨2, ![A, B]⟩ φ) (fun _ _ => r) :=
  fun _ _ => hc

theorem const {bits : BitVec φ.bits} {r : ℝ} (hc : (FloatOps.ofBits (F := Ideal) φ bits : EReal) = ((r : ℝ) : EReal)) :
    Is2 (constant (F := Ideal) (⟨2, ![A, B]⟩ : Shape) φ bits) (fun _ _ => r) :=
  fun _ _ => hc

theorem sel {M : IVec ⟨2, ![A, B]⟩ 1} {p : ℕ → ℕ → Prop} [∀ a b, Decidable (p a b)] (hM : IsM M p) (hX : Is2 X f) (hY : Is2 Y g) :
    Is2 (select M X Y) (fun a b => if p a b then f a b else g a b) := fun a b => by
  have h : ((select M X Y) (ix2 a b) : EReal) = Scalar.select (M (ix2 a b)) (X (ix2 a b) : EReal) (Y (ix2 a b) : EReal) := rfl
  rw [h, hM a b, hX, hY]
  by_cases hp : p a.val b.val <;> simp [Scalar.select, hp]

/-- A product contracting the left operand's lanes with the right operand's rows. -/
theorem mm {M K N : ℕ} {φ₁ φ₂ : FTy} {D : DotDims ⟨2, ![M, K]⟩ ⟨2, ![K, N]⟩ ⟨2, ![M, N]⟩}
    {L : FVec Ideal ⟨2, ![M, K]⟩ φ₁} {R : FVec Ideal ⟨2, ![K, N]⟩ φ₂} {acc : FVec Ideal ⟨2, ![M, N]⟩ .f32} {l r a : ℕ → ℕ → ℝ}
    (hD : ∀ (l : (⟨2, ![M, K]⟩ : Shape).Idx → EReal) (r : (⟨2, ![K, N]⟩ : Shape).Idx → EReal) (acc : (⟨2, ![M, N]⟩ : Shape).Idx → EReal) (i : Fin M) (j : Fin N),
      Ideal.matmul D l r acc (ix2 i j) = acc (ix2 i j) + ∑ k : Fin K, l (ix2 i k) * r (ix2 k j))
    (hL : Is2 L l) (hR : Is2 R r) (ha : Is2 acc a) :
    Is2 (matmul D none L R acc) (fun i j => a i j + ∑ k ∈ Finset.range K, l i k * r k j) := fun i j => by
  refine (hD L R acc i j).trans ?_
  rw [ha i j, EReal.coe_add, ← sum_fin_coe]
  refine congrArg _ (Finset.sum_congr rfl fun k _ => ?_)
  rw [hL i k, hR k j, ← EReal.coe_mul]

/-- A product contracting the two operands' lanes. -/
theorem mmT {M K N : ℕ} {φ₁ φ₂ : FTy} {D : DotDims ⟨2, ![M, K]⟩ ⟨2, ![N, K]⟩ ⟨2, ![M, N]⟩}
    {L : FVec Ideal ⟨2, ![M, K]⟩ φ₁} {R : FVec Ideal ⟨2, ![N, K]⟩ φ₂} {acc : FVec Ideal ⟨2, ![M, N]⟩ .f32} {l r a : ℕ → ℕ → ℝ}
    (hD : ∀ (l : (⟨2, ![M, K]⟩ : Shape).Idx → EReal) (r : (⟨2, ![N, K]⟩ : Shape).Idx → EReal) (acc : (⟨2, ![M, N]⟩ : Shape).Idx → EReal) (i : Fin M) (j : Fin N),
      Ideal.matmul D l r acc (ix2 i j) = acc (ix2 i j) + ∑ k : Fin K, l (ix2 i k) * r (ix2 j k))
    (hL : Is2 L l) (hR : Is2 R r) (ha : Is2 acc a) :
    Is2 (matmul D none L R acc) (fun i j => a i j + ∑ k ∈ Finset.range K, l i k * r j k) := fun i j => by
  refine (hD L R acc i j).trans ?_
  rw [ha i j, EReal.coe_add, ← sum_fin_coe]
  refine congrArg _ (Finset.sum_congr rfl fun k _ => ?_)
  rw [hL i k, hR j k, ← EReal.coe_mul]

/-- A product contracting the two operands' rows. -/
theorem Tmm {M K N : ℕ} {φ₁ φ₂ : FTy} {D : DotDims ⟨2, ![K, M]⟩ ⟨2, ![K, N]⟩ ⟨2, ![M, N]⟩}
    {L : FVec Ideal ⟨2, ![K, M]⟩ φ₁} {R : FVec Ideal ⟨2, ![K, N]⟩ φ₂} {acc : FVec Ideal ⟨2, ![M, N]⟩ .f32} {l r a : ℕ → ℕ → ℝ}
    (hD : ∀ (l : (⟨2, ![K, M]⟩ : Shape).Idx → EReal) (r : (⟨2, ![K, N]⟩ : Shape).Idx → EReal) (acc : (⟨2, ![M, N]⟩ : Shape).Idx → EReal) (i : Fin M) (j : Fin N),
      Ideal.matmul D l r acc (ix2 i j) = acc (ix2 i j) + ∑ k : Fin K, l (ix2 k i) * r (ix2 k j))
    (hL : Is2 L l) (hR : Is2 R r) (ha : Is2 acc a) :
    Is2 (matmul D none L R acc) (fun i j => a i j + ∑ k ∈ Finset.range K, l k i * r k j) := fun i j => by
  refine (hD L R acc i j).trans ?_
  rw [ha i j, EReal.coe_add, ← sum_fin_coe]
  refine congrArg _ (Finset.sum_congr rfl fun k _ => ?_)
  rw [hL k i, hR k j, ← EReal.coe_mul]

end Is2

/-! ### Shapes of the attention kernels -/

/-- A matrix read off an array with a unit axis. -/
theorem of_drop {A B : ℕ} {φ : FTy} {X : FVec Ideal ⟨3, ![1, A, B]⟩ φ} {Y : FVec Ideal ⟨2, ![A, B]⟩ φ} {f : ℕ → ℕ → ℝ}
    (hX : Is3 X (fun _ a b => f a b)) (h : ∀ a b, Y (ix2 a b) = X (ix3 0 a b)) : Is2 Y f := fun a b => by
  rw [h]; exact hX 0 a b

/-- A matrix whose lanes all hold a column. -/
theorem of_col {A B : ℕ} {φ : FTy} {X : FVec Ideal ⟨2, ![A, 1]⟩ φ} {Y : FVec Ideal ⟨2, ![A, B]⟩ φ} {f : ℕ → ℝ}
    (hX : Is2 X (fun a _ => f a)) (h : ∀ a b, Y (ix2 a b) = X (ix2 a 0)) : Is2 Y (fun a _ => f a) := fun a b => by
  rw [h]; exact hX a 0

/-- A column holding a matrix's row sums. -/
theorem of_rowsum {A B : ℕ} {φ : FTy} {X : FVec Ideal ⟨2, ![A, B]⟩ φ} {Y : FVec Ideal ⟨2, ![A, 1]⟩ φ} {f : ℕ → ℕ → ℝ}
    (hX : Is2 X f) (h : ∀ a b, (Y (ix2 a b) : EReal) = ∑ k : Fin B, (X (ix2 a k) : EReal)) :
    Is2 Y (fun a _ => ∑ j ∈ Finset.range B, f a j) := fun a b => by
  rw [h, ← sum_fin_coe]
  exact Finset.sum_congr rfl fun k _ => hX a k

theorem zero_f32 : (FloatOps.ofBits (F := Ideal) .f32 0x00000000#32 : EReal) = ((0 : ℝ) : EReal) := by
  rw [Ideal.ofBits_def, Ideal.ofBits_zero_f32]; rfl
theorem zero_bf16 : (FloatOps.ofBits (F := Ideal) .bf16 0x0000#16 : EReal) = ((0 : ℝ) : EReal) := by
  rw [Ideal.ofBits_def]; simp [Ideal.ofBits, Ideal.ieee, -EReal.coe_mul]
theorem one_f32 : (FloatOps.ofBits (F := Ideal) .f32 0x3F800000#32 : EReal) = ((1 : ℝ) : EReal) := by
  rw [Ideal.ofBits_def]; simp [Ideal.ofBits, Ideal.ieee, -EReal.coe_mul]; try norm_num
theorem eighth_f32 : (FloatOps.ofBits (F := Ideal) .f32 0x3E000000#32 : EReal) = ((1 / 8 : ℝ) : EReal) := by
  rw [Ideal.ofBits_def]; simp [Ideal.ofBits, Ideal.ieee, -EReal.coe_mul]; norm_num

end Cert.Vals

end
-- ==== Proof.SbFwd.lean ====
/-
  The forward kernel of stick-breaking attention over the real numbers: what each block of keys adds to
  a query row's weighted sum and to its running log-remainder.
-/
module

public import proofs.«01_k».proof.Proof.Gen.SbIdeal.Frame
public import proofs.«01_k».proof.Proof.SbReal
public import proofs.«01_k».proof.Proof.Vals

@[expose] public section

set_option maxRecDepth 16384

noncomputable section

open Idealize.ShloMosaic Idealize.ShloMosaic.TcCoe Idealize.SL.Sem

namespace Cert.SbIdeal.Fwd

open Cert.SbIdeal.Gen Cert.SbSpec Cert.Vals

theorem nt_ok (l : (⟨2, ![1024, 128]⟩ : Shape).Idx → EReal) (r : (⟨2, ![256, 128]⟩ : Shape).Idx → EReal) (acc : (⟨2, ![1024, 256]⟩ : Shape).Idx → EReal) (i : Fin 1024) (j : Fin 256) :
    Ideal.matmul dot_S1024x128_S256x128_S1024x256_1_1_0_0_n_n l r acc (ix2 i j) = acc (ix2 i j) + ∑ k : Fin 128, l (ix2 i k) * r (ix2 j k) := by
  simp only [pointwise]
theorem tri_ok (l : (⟨2, ![1024, 256]⟩ : Shape).Idx → EReal) (r : (⟨2, ![256, 256]⟩ : Shape).Idx → EReal) (acc : (⟨2, ![1024, 256]⟩ : Shape).Idx → EReal) (i : Fin 1024) (j : Fin 256) :
    Ideal.matmul dot_S1024x256_S256x256_S1024x256_1_0_0_1_n_n l r acc (ix2 i j) = acc (ix2 i j) + ∑ k : Fin 256, l (ix2 i k) * r (ix2 k j) := by
  simp only [pointwise]
theorem nn_ok (l : (⟨2, ![1024, 256]⟩ : Shape).Idx → EReal) (r : (⟨2, ![256, 128]⟩ : Shape).Idx → EReal) (acc : (⟨2, ![1024, 128]⟩ : Shape).Idx → EReal) (i : Fin 1024) (j : Fin 128) :
    Ideal.matmul dot_S1024x256_S256x128_S1024x128_1_0_0_1_n_n l r acc (ix2 i j) = acc (ix2 i j) + ∑ k : Fin 256, l (ix2 i k) * r (ix2 k j) := by
  simp only [pointwise]

theorem slt_words {a b c d : ℕ} (ha : a < 1024) (hb : b < 16) (hc : c < 1024) (hd : d < 8) :
    IntOp.cmpi .slt (IntOp.addi (BitVec.ofNat 32 a) (Scalar.muli (BitVec.ofNat 32 b) 256#32))
      (IntOp.addi (IntOp.andi (BitVec.ofNat 32 c) 511#32) (Scalar.muli (BitVec.ofNat 32 d) 512#32))
      = BitVec.ofBool (decide (256 * b + a < 512 * d + c % 512)) := by
  have h1 : IntOp.addi (BitVec.ofNat 32 a) (Scalar.muli (BitVec.ofNat 32 b) 256#32) = BitVec.ofNat 32 (256 * b + a) := by
    show BitVec.ofNat 32 a + BitVec.ofNat 32 b * BitVec.ofNat 32 256 = _
    rw [← BitVec.ofNat_mul, ← BitVec.ofNat_add]; congr 1; ring
  have h2 : IntOp.addi (IntOp.andi (BitVec.ofNat 32 c) 511#32) (Scalar.muli (BitVec.ofNat 32 d) 512#32) = BitVec.ofNat 32 (512 * d + c % 512) := by
    have h3 : IntOp.andi (BitVec.ofNat 32 c) 511#32 = BitVec.ofNat 32 (c % 512) := by
      show BitVec.ofNat 32 c &&& 511#32 = _
      apply BitVec.eq_of_toNat_eq
      rw [BitVec.toNat_and, BitVec.toNat_ofNat, BitVec.toNat_ofNat, BitVec.toNat_ofNat, Nat.mod_eq_of_lt (by omega : c < 2 ^ 32),
        Nat.mod_eq_of_lt (by omega : c % 512 < 2 ^ 32)]
      exact Nat.and_two_pow_sub_one_eq_mod c 9
    rw [h3]
    show BitVec.ofNat 32 (c % 512) + BitVec.ofNat 32 d * BitVec.ofNat 32 512 = _
    rw [← BitVec.ofNat_mul, ← BitVec.ofNat_add]; congr 1; ring
  rw [h1, h2, WordCmp.cmpi_slt_ofNat (by omega) (by omega)]

theorem mask40 {q n : ℕ} (hq : q < 8) (hn : n < 16) :
    IsM (k0_pay40 (BitVec.ofNat 32 q) (BitVec.ofNat 32 n)) (fun r j => 256 * n + j < 512 * q + r % 512) := fun r j => by
  simp only [k0_pay40, pointwise]
  have h := slt_words (a := j.val) (c := r.val) (by omega) hn r.isLt hq
  rw [← h]
  show IntOp.cmpi .slt (IntOp.addi (BitVec.ofNat 32 (0 * 256 + j.val)) (Scalar.muli (BitVec.ofNat 32 n) 256#32))
      (IntOp.addi (IntOp.andi (BitVec.ofNat 32 (0 * 1024 + r.val)) 511#32) (Scalar.muli (BitVec.ofNat 32 q) 512#32)) = _
  rw [zero_mul, zero_mul, zero_add, zero_add]

theorem mask47 {q n : ℕ} (hq : q < 8) (hn : n < 16) :
    IsM (k0_pay47 (BitVec.ofNat 32 q) (BitVec.ofNat 32 n)) (fun r j => 256 * n + j < 512 * q + r % 512) :=
  mask40 hq hn

theorem tri32 : Is2 (k0_pay32 (F := Ideal)) (fun i j => if j < i then 1 else 0) := fun r j => by
  simp only [k0_pay32, pointwise]
  have h : IntOp.cmpi .sgt (BitVec.ofNat 32 (0 * 256 + r.val)) (BitVec.ofNat 32 (0 * 256 + j.val)) = BitVec.ofBool (decide (j.val < r.val)) := by
    rw [zero_mul, zero_add, zero_add]
    exact WordCmp.cmpi_slt_ofNat (by omega) (by omega)
  show (FloatOps.sitofp (F := Ideal) FTy.f32 (BitVec.setWidth 32 (IntOp.cmpi .sgt (BitVec.ofNat 32 (0 * 256 + r.val)) (BitVec.ofNat 32 (0 * 256 + j.val)))) : EReal) = _
  rw [h]
  by_cases hp : j.val < r.val
  · rw [decide_eq_true hp, if_pos hp]
    show ((((BitVec.setWidth 32 (BitVec.ofBool true)).toInt : ℤ) : ℝ) : EReal) = _
    rw [show (BitVec.setWidth 32 (BitVec.ofBool true)).toInt = 1 by decide, Int.cast_one]
  · rw [decide_eq_false hp, if_neg hp]
    show ((((BitVec.setWidth 32 (BitVec.ofBool false)).toInt : ℤ) : ℝ) : EReal) = _
    rw [show (BitVec.setWidth 32 (BitVec.ofBool false)).toInt = 0 by decide, Int.cast_zero]

theorem lane_words {d : ℕ} (hd : d < 128) : IntOp.cmpi .slt (BitVec.ofNat 32 d) 64#32 = BitVec.ofBool (decide (d < 64)) :=
  WordCmp.cmpi_slt_ofNat (by omega) (by omega)

theorem qs_at {v0 : Vec Ideal S1x512x128 .bf16} {f : ℕ → ℕ → ℝ} (h : Is3 (φ := .bf16) (A := 1) (B := 512) (C := 128) v0 (fun _ a b => f a b)) :
   Is2 (k0_pay31 v0) (stk f) := fun r d => by
  simp only [k0_pay31, pointwise]
  have e := lane_words d.isLt
  by_cases hr : r.val < 512
  · rw [dif_pos hr]
    have hh : (v0 (ix3 0 ⟨r.val, hr⟩ d) : EReal) = _ := h 0 ⟨r.val, hr⟩ d
    show (Scalar.select (IntOp.cmpi .slt (BitVec.ofNat 32 (0 * 128 + d.val)) 64#32) (v0 (ix3 0 ⟨r.val, hr⟩ d)) (0 : EReal) : EReal) = _
    rw [show 0 * 128 + d.val = d.val by omega, e, hh, stk, if_pos hr]
    by_cases hd : d.val < 64 <;> simp [Scalar.select, hd]
  · rw [dif_neg hr]
    have hh : (v0 (ix3 0 ⟨r.val - 512, by omega⟩ d) : EReal) = _ := h 0 ⟨r.val - 512, by omega⟩ d
    show (Scalar.select (IntOp.cmpi .slt (BitVec.ofNat 32 (0 * 128 + d.val)) 64#32) (0 : EReal) (v0 (ix3 0 ⟨r.val - 512, by omega⟩ d)) : EReal) = _
    rw [show 0 * 128 + d.val = d.val by omega, e, hh, stk, if_neg hr]
    by_cases hd : d.val < 64 <;> simp [Scalar.select, hd]

theorem bcol {c : FVec Ideal S1024x1 .f32} {f : ℕ → ℝ} (h : Is2 c (fun a _ => f a)) :
    Is2 (broadcastTo S1024x256 c broadcasts_S1024x1_S1024x256 : FVec Ideal S1024x256 .f32) (fun a _ => f a) :=
  of_col h fun a b => by simp only [pointwise]; rfl

theorem rsum {X : FVec Ideal S1024x256 .f32} {f : ℕ → ℕ → ℝ} (h : Is2 X f) :
    Is2 (shapeCast S1024x1 (multiReduction .add [1] S1024 X 0x00000000#32 reduces_S1024x256_S1024 (.inl rfl) rfl) shapeCasts_S1024_S1024x1 : FVec Ideal S1024x1 .f32)
      (fun a _ => ∑ j ∈ Finset.range 256, f a j) :=
  of_rowsum h fun a b => by simp only [pointwise]

/-- The softplus of a block of logits, as the kernel writes it. -/
theorem soft {Z : FVec Ideal S1024x256 .f32} {z : ℕ → ℕ → ℝ} (hz : Is2 Z z) : Is2 (k0_pay17 Z) (fun r j => sp (z r j)) :=
  ((hz.max (Is2.splat zero_f32)).add
    (((Is2.splat one_f32).add ((Is2.splat zero_f32).sub hz.abs).exp).log fun _ _ => by positivity)).congr fun r j _ _ => by
      rw [sp, zero_sub]

/-- The product with the triangle, the operand split in two. -/
theorem split_tri {L : FVec Ideal S1024x256 .f32} {T : FVec Ideal S256x256 .bf16} {l t : ℕ → ℕ → ℝ} (hl : Is2 L l) (ht : Is2 T t)
    (h1 : FTy.bits .bf16 < FTy.bits .f32) :
    Is2 (addf (matmul dot_S1024x256_S256x256_S1024x256_1_0_0_1_n_n none (truncf .bf16 L h1) T (constant S1024x256 .f32 0x00000000#32))
      (matmul dot_S1024x256_S256x256_S1024x256_1_0_0_1_n_n none (truncf .bf16 (subf L (extf .f32 (truncf .bf16 L h1) h1)) h1) T (constant S1024x256 .f32 0x00000000#32)))
      (fun r j => ∑ i ∈ Finset.range 256, l r i * t i j) :=
  ((Is2.mm tri_ok (hl.trunc h1) ht (Is2.const zero_f32)).add
    (Is2.mm tri_ok ((hl.sub ((hl.trunc h1).ext h1)).trunc h1) ht (Is2.const zero_f32))).congr fun r j _ _ => by
      simp

/-- The logits of a block of keys. -/
theorem logits {Q : FVec Ideal S1024x128 .bf16} {K : Vec Ideal S1x256x128 .bf16} {f k : ℕ → ℕ → ℝ} (hQ : Is2 Q (stk f))
    (hK : Is3 (φ := .bf16) (A := 1) (B := 256) (C := 128) K (fun _ a b => k a b)) :
    Is2 (k0_pay13 Q K) (fun r j => (∑ e ∈ Finset.range 64, f (r % 512) (64 * (r / 512) + e) * k j (64 * (r / 512) + e)) * (1 / 8)) :=
  ((Is2.mmT nt_ok hQ (of_drop hK fun a b => by simp only [pointwise]) (Is2.const zero_f32)).mul (Is2.splat eighth_f32)).congr fun r j hr _ => by
    rw [zero_add, stk_dot _ _ r hr]

theorem drop_at {K : Vec Ideal S1x256x128 .bf16} {k : ℕ → ℕ → ℝ}
    (hK : Is3 (φ := .bf16) (A := 1) (B := 256) (C := 128) K (fun _ a b => k a b)) :
    Is2 (k0_pay11 K) k := of_drop hK fun a b => by simp only [k0_pay11, pointwise]

section Step

variable {Z : ℕ → ℕ → ℝ} {V : ℕ → ℕ → ℝ} {T : ℕ → ℕ} {n : ℕ} (hn : n < 16)
  {zb : FVec Ideal S1024x256 .f32} {vb : FVec Ideal S256x128 .bf16} {tri : FVec Ideal S256x256 .bf16}
  (hz : Is2 zb (fun r j => Z r (256 * n + j))) (hv : Is2 vb (fun j d => V (256 * n + j) d))
  (ht : Is2 tri (fun i j => if j < i then 1 else 0))
  {acc : FVec Ideal S1024x128 .f32} {c : FVec Ideal S1024x1 .f32}
  (ha : Is2 acc (fun r d => ∑ s ∈ Finset.Ico (256 * (n + 1)) 4096, wt (Z r) (T r) s * V s d))
  (hc : Is2 c (fun r _ => ∑ s ∈ Finset.Ico (256 * (n + 1)) 4096, ld (Z r) (T r) s))
  {M : IVec S1024x256 1} (hM : IsM M (fun r j => 256 * n + j < T r))

/-- The sum of the logarithms over a block's later keys and the blocks after it. -/
theorem after_eq (hn : n < 16) (r j : ℕ) (hj : j < 256) :
    aft (Z r) (T r) (256 * n + j)
      = (∑ i ∈ Finset.range 256, ld (Z r) (T r) (256 * n + i) * (if j < i then 1 else 0)) + ∑ s ∈ Finset.Ico (256 * (n + 1)) 4096, ld (Z r) (T r) s :=
  block_after _ n j hj hn

omit hn in
include hz hM in
/-- The masked logarithms of a block. -/
theorem logs : Is2 (select M (subf (broadcast S1024x256 (Scalar.ofBits .f32 0x00000000#32)) (k0_pay17 zb)) (broadcast S1024x256 (Scalar.ofBits .f32 0x00000000#32)) : FVec Ideal S1024x256 .f32)
    (fun r j => ld (Z r) (T r) (256 * n + j)) :=
  (Is2.sel hM ((Is2.splat zero_f32).sub (soft hz)) (Is2.splat zero_f32)).congr fun r j _ _ => by rw [ld, zero_sub]

include hn hz hv ht ha hc hM in
theorem step_masked {q : BitVec 32} {w : BitVec 32} (hM' : M = k0_pay40 q w) :
    Is2 (k0_pay42 q tri acc c w vb zb (maximumf zb (broadcast S1024x256 (Scalar.ofBits .f32 0x00000000#32))) (subf (broadcast S1024x256 (Scalar.ofBits .f32 0x00000000#32)) (absf zb)))
      (fun r d => ∑ s ∈ Finset.Ico (256 * n) 4096, wt (Z r) (T r) s * V s d) := by
  subst hM'
  have hl := logs hz hM
  have hw := Is2.sel hM ((((hz.sub (soft hz)).add (split_tri hl ht bitsLt_bf16_f32)).add (bcol hc)).exp) (Is2.splat zero_f32)
  refine (ha.add (Is2.mm nn_ok (hw.trunc bitsLt_bf16_f32) hv (Is2.const zero_f32))).congr fun r d _ _ => ?_
  rw [block_Ico _ n hn, zero_add, add_comm]
  refine congrArg (· + _) (Finset.sum_congr rfl fun j hj => congrArg (· * _) ?_)
  rw [wt, after_eq hn r j (Finset.mem_range.mp hj), ← add_assoc]

include hn hz hc hM in
theorem logs_masked {q : BitVec 32} {w : BitVec 32} (hM' : M = k0_pay40 q w) :
    Is2 (k0_pay43 q c w (maximumf zb (broadcast S1024x256 (Scalar.ofBits .f32 0x00000000#32))) (subf (broadcast S1024x256 (Scalar.ofBits .f32 0x00000000#32)) (absf zb)))
      (fun r _ => ∑ s ∈ Finset.Ico (256 * n) 4096, ld (Z r) (T r) s) := by
  subst hM'
  refine (hc.add (rsum (logs hz hM))).congr fun r d _ _ => ?_
  rw [block_Ico _ n hn, add_comm]

section Open

variable (ho : ∀ r j, r < 1024 → j < 256 → 256 * n + j < T r)
include hn ho

include hz hv ht ha hc in
theorem step_open :
    Is2 (k0_pay20 tri acc c vb zb) (fun r d => ∑ s ∈ Finset.Ico (256 * n) 4096, wt (Z r) (T r) s * V s d) := by
  have hl := ((Is2.splat zero_f32).sub (soft hz)).congr (g := fun r j => ld (Z r) (T r) (256 * n + j)) fun r j hr hj => by rw [ld, if_pos (ho r j hr hj), zero_sub]
  have hw := ((((hz.sub (soft hz)).add (split_tri hl ht bitsLt_bf16_f32)).add (bcol hc)).exp)
  refine (ha.add (Is2.mm nn_ok (hw.trunc bitsLt_bf16_f32) hv (Is2.const zero_f32))).congr fun r d hr _ => ?_
  rw [block_Ico _ n hn, zero_add, add_comm]
  refine congrArg (· + _) (Finset.sum_congr rfl fun j hj => congrArg (· * _) ?_)
  rw [wt, after_eq hn r j (Finset.mem_range.mp hj), ← add_assoc, if_pos (ho r j hr (Finset.mem_range.mp hj))]

include hz hc in
theorem logs_open :
    Is2 (k0_pay3 c (k0_pay17 zb)) (fun r _ => ∑ s ∈ Finset.Ico (256 * n) 4096, ld (Z r) (T r) s) := by
  refine (hc.sub (rsum (soft hz))).congr fun r d hr _ => ?_
  rw [block_Ico _ n hn, sub_eq_neg_add, ← Finset.sum_neg_distrib]
  refine congrArg (· + _) (Finset.sum_congr rfl fun j hj => ?_)
  rw [ld, if_pos (ho r j hr (Finset.mem_range.mp hj))]

end Open

end Step

end Cert.SbIdeal.Fwd

end
-- ==== Proof.SbFwdRun.lean ====
/-
  The forward kernel's loop over the key blocks, and what a grid point leaves in its two output blocks.
-/
module

public import proofs.«01_k».proof.Proof.SbFwd

@[expose] public section

set_option maxRecDepth 16384

noncomputable section

open Idealize.ShloMosaic Idealize.ShloMosaic.TcCoe Idealize.SL.Sem

namespace Cert.SbIdeal.Fwd

open Cert.SbIdeal.Gen Cert.SbSpec Cert.Vals

/-- The rows of a block read at a place. -/
theorem ld_rows {X : Vec Ideal S1x4096x128 .bf16} {f : ℕ → ℕ → ℝ} (hX : Is3 (φ := .bf16) (A := 1) (B := 4096) (C := 128) X (fun _ a b => f a b))
    {off : Fin 3 → ℕ} {o : ℕ} (ho : off = ![0, o, 0]) (h) :
    Is3 (φ := .bf16) (A := 1) (B := 256) (C := 128) (View.ld X (Rect.unit off ![1, 256, 128] h)) (fun _ a b => f (o + a) b) := by
  subst ho
  intro a b d
  have ha : a = 0 := Subsingleton.elim _ _
  subst ha
  have hb : o + b.val < 4096 := by have := h 1; simp at this; omega
  refine Eq.trans (?_ : _ = (X (ix3 0 ⟨o + b.val, hb⟩ d) : EReal)) (hX 0 ⟨o + b.val, hb⟩ d)
  refine congrArg X (funext fun e => Fin.ext ?_)
  fin_cases e <;> simp [Rect.unit]

theorem off1_0 (i : grid0.Coords) : k0_off1 i 0#32 = ![0, 256 * (2 * (i 2).val), 0] :=
  congrArg (fun n => ![0, n, 0]) ((by decide +kernel : ∀ a : Fin 8, (Scalar.indexCast (Scalar.muli (Scalar.addi (Scalar.muli (BitVec.ofNat 32 a.val) 2#32) 0#32) 256#32)).toNat = 256 * (2 * a.val)) (i 2))
theorem off1_1 (i : grid0.Coords) : k0_off1 i 1#32 = ![0, 256 * (2 * (i 2).val + 1), 0] :=
  congrArg (fun n => ![0, n, 0]) ((by decide +kernel : ∀ a : Fin 8, (Scalar.indexCast (Scalar.muli (Scalar.addi (Scalar.muli (BitVec.ofNat 32 a.val) 2#32) 1#32) 256#32)).toNat = 256 * (2 * a.val + 1)) (i 2))

theorem trips1 (i : grid0.Coords) : (k0_t1_loop i).trips = (i 2).val :=
  (by decide +kernel : ∀ a : Fin 8, (Scf.trips 0#32 (Scalar.addi 0#32 (Scalar.muli (Scalar.divsi (Scalar.subi (BitVec.ofNat 32 a.val) 0#32) 1#32) 1#32)) 1#32) = a.val) (i 2)
theorem trips2 (i : grid0.Coords) : (k0_t2_loop i).trips = 0 :=
  (by decide +kernel : ∀ a : Fin 8, (Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32) = 0) (i 2)

theorem off2_0 (i : grid0.Coords) (k : Fin (k0_t1_loop i).trips) : k0_off2 i k 0#32 = ![0, 256 * (2 * ((i 2).val - 1 - k.val) + 1), 0] :=
  congrArg (fun n => ![0, n, 0]) ((by decide +kernel : ∀ a k : Fin 8, k.val < a.val →
    (Scalar.indexCast (Scalar.muli (Scalar.subi (Scalar.subi (Scalar.muli (BitVec.ofNat 32 a.val) 2#32) 1#32) (Scalar.addi (Scalar.muli (Scf.iv 0#32 1#32 k.val) 2#32) 0#32)) 256#32)).toNat = 256 * (2 * (a.val - 1 - k.val) + 1))
    (i 2) ⟨k.val, ((k.isLt.trans_eq (trips1 i) : k.val < (i 2).val)).trans (i 2).isLt⟩ (k.isLt.trans_eq (trips1 i) : k.val < (i 2).val))
theorem off2_1 (i : grid0.Coords) (k : Fin (k0_t1_loop i).trips) : k0_off2 i k 1#32 = ![0, 256 * (2 * ((i 2).val - 1 - k.val)), 0] :=
  congrArg (fun n => ![0, n, 0]) ((by decide +kernel : ∀ a k : Fin 8, k.val < a.val →
    (Scalar.indexCast (Scalar.muli (Scalar.subi (Scalar.subi (Scalar.muli (BitVec.ofNat 32 a.val) 2#32) 1#32) (Scalar.addi (Scalar.muli (Scf.iv 0#32 1#32 k.val) 2#32) 1#32)) 256#32)).toNat = 256 * (2 * (a.val - 1 - k.val)))
    (i 2) ⟨k.val, ((k.isLt.trans_eq (trips1 i) : k.val < (i 2).val)).trans (i 2).isLt⟩ (k.isLt.trans_eq (trips1 i) : k.val < (i 2).val))

section Point

variable (P : ℕ → ℕ → ℕ → ℝ) (b p : ℕ) (i : grid0.Coords)

/-- The logits of a stacked row of a pair of heads. -/
def Zr (P : ℕ → ℕ → ℕ → ℝ) (b p q r s : ℕ) : ℝ := zr P b (2 * p + r / 512) (512 * q + r % 512) s

/-- The place of a stacked row. -/
def Tr (q r : ℕ) : ℕ := 512 * q + r % 512

theorem logits_at {q n : ℕ} {Q : FVec Ideal S1024x128 .bf16} {K : Vec Ideal S1x256x128 .bf16} (hQ : Is2 Q (stk fun a d => P b (512 * q + a) (1024 + 128 * p + d)))
    (hK : Is3 (φ := .bf16) (A := 1) (B := 256) (C := 128) K (fun _ a d => P b (256 * n + a) (1280 + 128 * p + d))) :
    Is2 (k0_pay13 Q K) (fun r j => Zr P b p q r (256 * n + j)) :=
  (logits (k := fun a d => P b (256 * n + a) (1280 + 128 * p + d)) hQ hK).congr fun r j hr hj => by
    rw [Zr, zr]
    refine congrArg (· * _) (Finset.sum_congr rfl fun e he => ?_)
    rw [show 1024 + 128 * p + (64 * (r / 512) + e) = 1024 + 64 * (2 * p + r / 512) + e by ring, show 1280 + 128 * p + (64 * (r / 512) + e) = 1280 + 64 * (2 * p + r / 512) + e by ring]

/-- What the carried pair holds when the keys from `256 n` on have been added. -/
def Inv (P : ℕ → ℕ → ℕ → ℝ) (b p q n : ℕ) (st : FVec Ideal S1024x128 .f32 × FVec Ideal S1024x1 .f32) : Prop :=
  Is2 st.1 (fun r d => ∑ s ∈ Finset.Ico (256 * n) 4096, wt (Zr P b p q r) (Tr q r) s * P b s (1536 + 128 * p + d)) ∧
  Is2 st.2 (fun r _ => ∑ s ∈ Finset.Ico (256 * n) 4096, ld (Zr P b p q r) (Tr q r) s)

variable {P b p}
variable {x0 : Vec Ideal S1x512x128 .bf16} {x1 x2 : Vec Ideal S1x4096x128 .bf16}
  (h0 : Is3 (φ := .bf16) (A := 1) (B := 512) (C := 128) x0 (fun _ a d => P b (512 * (i 2).val + a) (1024 + 128 * p + d)))
  (h1 : Is3 (φ := .bf16) (A := 1) (B := 4096) (C := 128) x1 (fun _ a d => P b a (1280 + 128 * p + d)))
  (h2 : Is3 (φ := .bf16) (A := 1) (B := 4096) (C := 128) x2 (fun _ a d => P b a (1536 + 128 * p + d)))

include h0 h1 h2

theorem init_inv (hb0 hb1 hb2 hb3) :
    Inv P b p (i 2).val (2 * (i 2).val)
      (k0_pay1
        (k0_pay42 (BitVec.ofNat 32 (i 2).val) k0_pay32 k0_pay33 k0_pay34 (Scalar.addi (Scalar.muli (BitVec.ofNat 32 (i 2).val) 2#32) 1#32)
          (k0_pay35 (View.ld x2 (Rect.unit (k0_off1 i 1#32) ![1, 256, 128] hb0)))
          (k0_pay36 x0 (View.ld x1 (Rect.unit (k0_off1 i 1#32) ![1, 256, 128] hb1)))
          (k0_pay37 x0 (View.ld x1 (Rect.unit (k0_off1 i 1#32) ![1, 256, 128] hb1)))
          (k0_pay38 x0 (View.ld x1 (Rect.unit (k0_off1 i 1#32) ![1, 256, 128] hb1))))
        (k0_pay44 (View.ld x2 (Rect.unit (k0_off1 i 0#32) ![1, 256, 128] hb2)))
        (k0_pay47 (BitVec.ofNat 32 (i 2).val) (Scalar.addi (Scalar.muli (BitVec.ofNat 32 (i 2).val) 2#32) 0#32))
        (k0_pay49 (BitVec.ofNat 32 (i 2).val) (k0_pay31 x0) k0_pay32
          (k0_pay43 (BitVec.ofNat 32 (i 2).val) k0_pay34 (Scalar.addi (Scalar.muli (BitVec.ofNat 32 (i 2).val) 2#32) 1#32)
            (k0_pay37 x0 (View.ld x1 (Rect.unit (k0_off1 i 1#32) ![1, 256, 128] hb1)))
            (k0_pay38 x0 (View.ld x1 (Rect.unit (k0_off1 i 1#32) ![1, 256, 128] hb1))))
          (Scalar.addi (Scalar.muli (BitVec.ofNat 32 (i 2).val) 2#32) 0#32)
          (View.ld x1 (Rect.unit (k0_off1 i 0#32) ![1, 256, 128] hb3)))
        k0_pay50,
      k0_pay2
        (k0_pay43 (BitVec.ofNat 32 (i 2).val) k0_pay34 (Scalar.addi (Scalar.muli (BitVec.ofNat 32 (i 2).val) 2#32) 1#32)
          (k0_pay37 x0 (View.ld x1 (Rect.unit (k0_off1 i 1#32) ![1, 256, 128] hb1)))
          (k0_pay38 x0 (View.ld x1 (Rect.unit (k0_off1 i 1#32) ![1, 256, 128] hb1))))
        (k0_pay48 (BitVec.ofNat 32 (i 2).val) (k0_pay31 x0) (Scalar.addi (Scalar.muli (BitVec.ofNat 32 (i 2).val) 2#32) 0#32)
          (View.ld x1 (Rect.unit (k0_off1 i 0#32) ![1, 256, 128] hb3)))) := by
  have hq : (i 2).val < 8 := (i 2).isLt
  have e1 : Scalar.addi (Scalar.muli (BitVec.ofNat 32 (i 2).val) 2#32) 1#32 = BitVec.ofNat 32 (2 * (i 2).val + 1) := by
    show BitVec.ofNat 32 (i 2).val * BitVec.ofNat 32 2 + BitVec.ofNat 32 1 = _
    rw [← BitVec.ofNat_mul, ← BitVec.ofNat_add]; congr 1; ring
  have e0 : Scalar.addi (Scalar.muli (BitVec.ofNat 32 (i 2).val) 2#32) 0#32 = BitVec.ofNat 32 (2 * (i 2).val) := by
    show BitVec.ofNat 32 (i 2).val * BitVec.ofNat 32 2 + BitVec.ofNat 32 0 = _
    rw [← BitVec.ofNat_mul, ← BitVec.ofNat_add]; congr 1; ring
  rw [e1, e0]
  have hQ := qs_at h0
  have hz1 := logits_at P b p (n := 2 * (i 2).val + 1) hQ (ld_rows h1 (off1_1 i) hb1)
  have hz0 := logits_at P b p (n := 2 * (i 2).val) hQ (ld_rows h1 (off1_0 i) hb3)
  have hv1 := drop_at (ld_rows h2 (off1_1 i) hb0)
  have hv0 := drop_at (ld_rows h2 (off1_0 i) hb2)
  have hT : ∀ r s, s ∈ Finset.Ico (256 * (2 * (i 2).val + 1 + 1)) 4096 → Tr (i 2).val r ≤ s := fun r s hs => by
    have := (Finset.mem_Ico.mp hs).1; rw [Tr]; omega
  have ha : Is2 (k0_pay33 (F := Ideal)) (fun r d => ∑ s ∈ Finset.Ico (256 * (2 * (i 2).val + 1 + 1)) 4096, wt (Zr P b p (i 2).val r) (Tr (i 2).val r) s * P b s (1536 + 128 * p + d)) :=
    (Is2.splat zero_f32).congr fun r d _ _ => (Finset.sum_eq_zero fun s hs => by rw [wt_zero _ (hT r s hs), zero_mul]).symm
  have hc : Is2 (k0_pay34 (F := Ideal)) (fun r _ => ∑ s ∈ Finset.Ico (256 * (2 * (i 2).val + 1 + 1)) 4096, ld (Zr P b p (i 2).val r) (Tr (i 2).val r) s) :=
    (Is2.splat zero_f32).congr fun r d _ _ => (Finset.sum_eq_zero fun s hs => by rw [ld_zero _ (hT r s hs)]).symm
  have hM1 := mask40 hq (n := 2 * (i 2).val + 1) (by omega)
  have hM0 := mask40 hq (n := 2 * (i 2).val) (by omega)
  have ha1 := step_masked (V := fun s d => P b s (1536 + 128 * p + d)) (T := Tr (i 2).val) (by omega) hz1 hv1 tri32 ha hc hM1 rfl
  have hc1 := logs_masked (T := Tr (i 2).val) (by omega) hz1 hc hM1 rfl
  exact ⟨step_masked (V := fun s d => P b s (1536 + 128 * p + d)) (T := Tr (i 2).val) (by omega) hz0 hv0 tri32 ha1 hc1 hM0 rfl, logs_masked (T := Tr (i 2).val) (by omega) hz0 hc1 hM0 rfl⟩

omit h0 in
theorem loop_inv (𝒱 : Variants) (c : Dev nD) (bd : Option 𝒱.V) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S512x128 .f32) (harg6 : arg6.IsWhole) (arg7 : Memref sig .tc .vmem S1x512x128 .f32) (harg7 : arg7.IsWhole)
    (arg2 : BitVec 32) {v12 : FVec Ideal S1024x128 .bf16} {v18 : FVec Ideal S256x256 .bf16}
    (hQ : Is2 v12 (stk fun a d => P b (512 * (i 2).val + a) (1024 + 128 * p + d)))
    (ht : Is2 v18 (fun i j => if j < i then 1 else 0)) {init : FVec Ideal S1024x128 .f32 × FVec Ideal S1024x1 .f32}
    (hi : Inv P b p (i 2).val (2 * (i 2).val) init) :
    ∀ k, k ≤ (i 2).val → Inv P b p (i 2).val (2 * ((i 2).val - k))
      (st_k0_t1 (F := Ideal) 𝒱 c bd i arg3 harg3 arg4 harg4 arg5 harg5 arg6 harg6 arg7 harg7 arg2 v12 v18 (harg4.unread x1) (harg5.unread x2) init k)
  | 0, _ => hi
  | k + 1, hk => by
    have hq : (i 2).val < 8 := (i 2).isLt
    have hlt : k < (k0_t1_loop i).trips := by rw [trips1]; omega
    have ih := loop_inv 𝒱 c bd arg3 harg3 arg4 harg4 arg5 harg5 arg6 harg6 arg7 harg7 arg2 hQ ht hi k (by omega)
    rw [st_k0_t1_succ 𝒱 c bd i arg3 harg3 arg4 harg4 arg5 harg5 arg6 harg6 arg7 harg7 arg2 v12 v18 (harg4.unread x1) (harg5.unread x2) init ⟨k, hlt⟩]
    generalize st_k0_t1 (F := Ideal) 𝒱 c bd i arg3 harg3 arg4 harg4 arg5 harg5 arg6 harg6 arg7 harg7 arg2 v12 v18 (harg4.unread x1) (harg5.unread x2) init k = acc at ih ⊢
    unfold tripR_k0_t1 trip_k0_t1
    dsimp only
    frame_out
    have hz1 := logits_at P b p (n := 2 * ((i 2).val - 1 - k) + 1) hQ (ld_rows h1 (off2_0 i ⟨k, hlt⟩) (k0_off2_inb i ⟨k, hlt⟩ 0))
    have hz0 := logits_at P b p (n := 2 * ((i 2).val - 1 - k)) hQ (ld_rows h1 (off2_1 i ⟨k, hlt⟩) (k0_off2_inb i ⟨k, hlt⟩ 1))
    have hv1 := drop_at (ld_rows h2 (off2_0 i ⟨k, hlt⟩) (k0_off2_inb i ⟨k, hlt⟩ 0))
    have hv0 := drop_at (ld_rows h2 (off2_1 i ⟨k, hlt⟩) (k0_off2_inb i ⟨k, hlt⟩ 1))
    have ho1 : ∀ r j, r < 1024 → j < 256 → 256 * (2 * ((i 2).val - 1 - k) + 1) + j < Tr (i 2).val r := fun r j _ _ => by rw [Tr]; omega
    have ho0 : ∀ r j, r < 1024 → j < 256 → 256 * (2 * ((i 2).val - 1 - k)) + j < Tr (i 2).val r := fun r j _ _ => by rw [Tr]; omega
    rw [show 2 * ((i 2).val - k) = 2 * ((i 2).val - 1 - k) + 1 + 1 by omega] at ih
    rw [show 2 * ((i 2).val - (k + 1)) = 2 * ((i 2).val - 1 - k) by omega]
    have ha1 := step_open (V := fun s d => P b s (1536 + 128 * p + d)) (T := Tr (i 2).val) (by omega) hz1 hv1 ht ih.1 ih.2 ho1
    have hc1 := logs_open (T := Tr (i 2).val) (by omega) hz1 ih.2 ho1
    exact ⟨step_open (V := fun s d => P b s (1536 + 128 * p + d)) (T := Tr (i 2).val) (by omega) hz0 hv0 ht ha1 hc1 ho0, logs_open (T := Tr (i 2).val) (by omega) hz0 hc1 ho0⟩

omit h0 h1 h2 in
/-- The columns of the two heads taken from the two stacked halves. -/
theorem pick_y {A : FVec Ideal S1024x128 .f32} {f : ℕ → ℕ → ℝ} (h : Is2 A f) : Is2 (k0_pay9 A) (fun r d => f (512 * (d / 64) + r) d) := fun r d => by
  simp only [k0_pay9, pointwise]
  show (Scalar.select (IntOp.cmpi .slt (BitVec.ofNat 32 (0 * 128 + d.val)) 64#32) (A (ix2 ⟨0 + r.val, by omega⟩ ⟨0 + d.val, by omega⟩)) (A (ix2 ⟨512 + r.val, by omega⟩ ⟨0 + d.val, by omega⟩)) : EReal) = _
  rw [h, h]; simp only [zero_mul, zero_add]; rw [lane_words d.isLt]
  by_cases hd : d.val < 64
  · rw [show d.val / 64 = 0 by omega]; simp [Scalar.select, hd]
  · rw [show d.val / 64 = 1 by omega]; simp [Scalar.select, hd]

omit h0 h1 h2 in
theorem pick_t {A : FVec Ideal S1024x1 .f32} {f : ℕ → ℝ} (h : Is2 A (fun r _ => f r)) : Is3 (A := 1) (B := 512) (C := 128) (k0_pay10 A) (fun _ r d => f (512 * (d / 64) + r)) := fun a r d => by
  simp only [k0_pay10, pointwise]
  show (Scalar.select (IntOp.cmpi .slt (BitVec.ofNat 32 (0 * 128 + d.val)) 64#32) (A (ix2 ⟨0 + r.val, by omega⟩ 0)) (A (ix2 ⟨512 + r.val, by omega⟩ 0)) : EReal) = _
  rw [h, h]; simp only [zero_mul, zero_add]; rw [lane_words d.isLt]
  by_cases hd : d.val < 64
  · rw [show d.val / 64 = 0 by omega]; simp [Scalar.select, hd]
  · rw [show d.val / 64 = 1 by omega]; simp [Scalar.select, hd]

omit h0 h1 h2 in
theorem out_y {q : ℕ} {st : FVec Ideal S1024x128 .f32 × FVec Ideal S1024x1 .f32} (h : Inv P b p q 0 st) :
    Is2 (k0_pay9 st.1) (fun r d => y P b (512 * q + r) (128 * p + d)) :=
  (pick_y h.1).congr fun r d hr hd => by
    rw [y, mul_zero, ← Finset.range_eq_Ico]
    refine Finset.sum_congr rfl fun s _ => ?_
    rw [wc, Tr, show (512 * (d / 64) + r) % 512 = r by omega, show (128 * p + d) / 64 = 2 * p + d / 64 by omega, ← add_assoc 1536]
    refine congrArg (· * _) (congrArg (wt · _ _) (funext fun s => ?_))
    rw [Zr, show (512 * (d / 64) + r) % 512 = r by omega, show (512 * (d / 64) + r) / 512 = d / 64 by omega]

/-- The sum of a row's logarithms, at a column's head. -/
def tot (P : ℕ → ℕ → ℕ → ℝ) (b c t : ℕ) : ℝ := ∑ s ∈ Finset.range 4096, ld (zr P b (c / 64) t) t s

omit h0 h1 h2 in
theorem out_t {q : ℕ} {st : FVec Ideal S1024x128 .f32 × FVec Ideal S1024x1 .f32} (h : Inv P b p q 0 st) :
    Is3 (A := 1) (B := 512) (C := 128) (k0_pay10 st.2) (fun _ r d => tot P b (128 * p + d) (512 * q + r)) :=
  fun a r d => by
    refine (pick_t h.2 a r d).trans (congrArg _ ?_)
    dsimp only
    rw [tot, mul_zero, ← Finset.range_eq_Ico]
    refine Finset.sum_congr rfl fun s _ => ?_
    rw [Tr, show (512 * (d.val / 64) + r.val) % 512 = r.val by omega, show (128 * p + d.val) / 64 = 2 * p + d.val / 64 by omega]
    refine congrArg (ld · _ _) (funext fun s => ?_)
    rw [Zr, show (512 * (d.val / 64) + r.val) % 512 = r.val by omega, show (512 * (d.val / 64) + r.val) / 512 = d.val / 64 by omega]

variable (c : Dev nD) (V : (c : Dev nD) → (b : Ref sig .tc) → Buf (Elt Ideal) ((c : Thread nD τ).loc b)) (t : Fin cfg0.N)

omit h0 h1 h2 in
theorem point_y (g0 : Is3 (φ := .bf16) (A := 1) (B := 512) (C := 128) (iblk0 V c 0 t) (fun _ a d => P b (512 * (grid0.coords t 2).val + a) (1024 + 128 * p + d)))
    (g1 : Is3 (φ := .bf16) (A := 1) (B := 4096) (C := 128) (iblk0 V c 1 t) (fun _ a d => P b a (1280 + 128 * p + d)))
    (g2 : Is3 (φ := .bf16) (A := 1) (B := 4096) (C := 128) (iblk0 V c 2 t) (fun _ a d => P b a (1536 + 128 * p + d))) :
    Is2 (A := 512) (B := 128) (φ := .f32) ((dat0 V c).after 3 t) (fun r d => y P b (512 * (grid0.coords t 2).val + r) (128 * p + d)) := by
  rw [after0_3]
  frame_out
  refine out_y ?_
  have e2 := trips2 (grid0.coords t)
  have e1 := trips1 (grid0.coords t)
  unfold Scf.Loop.trips at e1 e2
  simp only [k0_t1_loop, k0_t2_loop] at e1 e2
  rw [e2, st_k0_t2_zero, e1]
  clear e1 e2
  have := loop_inv (grid0.coords t) g1 g2 Variants.none c none (ms0_0 t) (hs0_0 t) (ms0_1 t) (hs0_1 t) (ms0_2 t) (hs0_2 t) (ms0_3 t) (hs0_3 t) (ms0_4 t) (hs0_4 t) (BitVec.ofNat 32 (grid0.coords t 2).val) (qs_at g0) tri32 (init_inv (grid0.coords t) g0 g1 g2 (k0_off1_inb (grid0.coords t) 1) (k0_off1_inb (grid0.coords t) 1) (k0_off1_inb (grid0.coords t) 0) (k0_off1_inb (grid0.coords t) 0)) _ le_rfl
  rw [Nat.sub_self, mul_zero] at this
  exact this

omit h0 h1 h2 in
theorem point_t (g0 : Is3 (φ := .bf16) (A := 1) (B := 512) (C := 128) (iblk0 V c 0 t) (fun _ a d => P b (512 * (grid0.coords t 2).val + a) (1024 + 128 * p + d)))
    (g1 : Is3 (φ := .bf16) (A := 1) (B := 4096) (C := 128) (iblk0 V c 1 t) (fun _ a d => P b a (1280 + 128 * p + d)))
    (g2 : Is3 (φ := .bf16) (A := 1) (B := 4096) (C := 128) (iblk0 V c 2 t) (fun _ a d => P b a (1536 + 128 * p + d))) :
    Is3 (A := 1) (B := 512) (C := 128) (φ := .f32) ((dat0 V c).after 4 t) (fun _ r d => tot P b (128 * p + d) (512 * (grid0.coords t 2).val + r)) := by
  rw [after0_4]
  frame_out
  refine out_t ?_
  have e2 := trips2 (grid0.coords t)
  have e1 := trips1 (grid0.coords t)
  unfold Scf.Loop.trips at e1 e2
  simp only [k0_t1_loop, k0_t2_loop] at e1 e2
  rw [e2, st_k0_t2_zero, e1]
  clear e1 e2
  have := loop_inv (grid0.coords t) g1 g2 Variants.none c none (ms0_0 t) (hs0_0 t) (ms0_1 t) (hs0_1 t) (ms0_2 t) (hs0_2 t) (ms0_3 t) (hs0_3 t) (ms0_4 t) (hs0_4 t) (BitVec.ofNat 32 (grid0.coords t 2).val) (qs_at g0) tri32 (init_inv (grid0.coords t) g0 g1 g2 (k0_off1_inb (grid0.coords t) 1) (k0_off1_inb (grid0.coords t) 1) (k0_off1_inb (grid0.coords t) 0) (k0_off1_inb (grid0.coords t) 0)) _ le_rfl
  rw [Nat.sub_self, mul_zero] at this
  exact this

end Point

end Cert.SbIdeal.Fwd

end
-- ==== Proof.SbArr0.lean ====
/-
  What the forward kernel's grid leaves in its two arrays.
-/
module

public import proofs.«01_k».proof.Proof.SbFwdRun

@[expose] public section

set_option maxRecDepth 16384

noncomputable section

open Idealize.ShloMosaic Idealize.ShloMosaic.TcCoe Idealize.SL.Sem
open Idealize.ShloMosaic.Pipeline (Dat)

namespace Cert.SbIdeal.Fwd

open Cert.SbIdeal.Gen Cert.SbSpec Cert.Vals

theorem idx : ∀ t : Fin cfg0.N, win0_0.index t = ![t.val / 16, t.val % 8, 8 + t.val / 8 % 2] ∧ win0_1.index t = ![t.val / 16, 0, 10 + t.val / 8 % 2]
    ∧ win0_2.index t = ![t.val / 16, 0, 12 + t.val / 8 % 2] ∧ win0_3.index t = ![8 * (t.val / 16) + t.val % 8, t.val / 8 % 2]
    ∧ win0_4.index t = ![t.val / 8 % 2, 8 * (t.val / 16) + t.val % 8, 0] :=
  (by decide +kernel : ∀ t : Fin grid0.N, _)

theorem coord2 : ∀ t : Fin cfg0.N, (grid0.coords t 2).val = t.val % 8 := (by decide +kernel : ∀ t : Fin grid0.N, (grid0.coords t 2).val = t.val % 8)

variable (c : Dev nD) (V : (c : Dev nD) → (b : Ref sig .tc) → Buf (Elt Ideal) ((c : Thread nD τ).loc b)) (t : Fin cfg0.N)
variable {P : ℕ → ℕ → ℕ → ℝ} (hX : ∀ (a : Fin 2) (b : Fin 4096) (d : Fin 2688), d.val < 2048 → ((V c main_v1 : FVec Ideal S2x4096x2688 .bf16) (ix3 a b d) : EReal) = ((P a.val b.val d.val : ℝ) : EReal))

include hX

theorem blk0 : Is3 (φ := .bf16) (A := 1) (B := 512) (C := 128) (iblk0 V c 0 t) (fun _ a d => P (t.val / 16) (512 * (t.val % 8) + a) (1024 + 128 * (t.val / 8 % 2) + d)) := fun a r d => by
  have ht : t.val < 32 := t.isLt
  refine Eq.trans ?_ (hX ⟨t.val / 16, by omega⟩ ⟨512 * (t.val % 8) + r.val, by omega⟩ ⟨1024 + 128 * (t.val / 8 % 2) + d.val, by omega⟩ (by dsimp only; omega))
  blk_simp [iblk0, idx t]
  blk_ext [idx t]

theorem blk1 : Is3 (φ := .bf16) (A := 1) (B := 4096) (C := 128) (iblk0 V c 1 t) (fun _ a d => P (t.val / 16) a (1280 + 128 * (t.val / 8 % 2) + d)) := fun a r d => by
  have ht : t.val < 32 := t.isLt
  refine Eq.trans ?_ (hX ⟨t.val / 16, by omega⟩ ⟨r.val, by omega⟩ ⟨1280 + 128 * (t.val / 8 % 2) + d.val, by omega⟩ (by dsimp only; omega))
  blk_simp [iblk0, idx t]
  blk_ext [idx t]

theorem blk2 : Is3 (φ := .bf16) (A := 1) (B := 4096) (C := 128) (iblk0 V c 2 t) (fun _ a d => P (t.val / 16) a (1536 + 128 * (t.val / 8 % 2) + d)) := fun a r d => by
  have ht : t.val < 32 := t.isLt
  refine Eq.trans ?_ (hX ⟨t.val / 16, by omega⟩ ⟨r.val, by omega⟩ ⟨1536 + 128 * (t.val / 8 % 2) + d.val, by omega⟩ (by dsimp only; omega))
  blk_simp [iblk0, idx t]
  blk_ext [idx t]

/-- The output array: the reference's output at every token and column. -/
theorem arr_y (r : Fin 8192) (d : Fin 256) : ((dat0 V c).arrAt 3 cfg0.N : FVec Ideal S8192x256 .f32) (ix2 r d) = ((y P (r.val / 4096) (r.val % 4096) d.val : ℝ) : EReal) := by
  refine (dat0 V c).arrAt_forall_of_covers 3 (fun (i : S8192x256.Idx) (v : EReal) => v = ((y P ((i 0).val / 4096) ((i 0).val % 4096) (i 1).val : ℝ) : EReal))
    (by decide +kernel) (fun t hf z => ?_) (ix2 r d)
  have ht : t.val < 32 := t.isLt
  obtain ⟨a, b, rfl⟩ : ∃ (a : Fin 512) (b : Fin 128), z = ix2 a b := ⟨z 0, z 1, eq_ix2 z⟩
  have h := point_y (b := t.val / 16) (p := t.val / 8 % 2) (P := P) c V t (by rw [coord2]; exact blk0 c V t hX) (blk1 c V t hX) (blk2 c V t hX) a b
  rw [coord2] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega,
    show t.val / 8 % 2 * 128 + b.val = 128 * (t.val / 8 % 2) + b.val by ring]

/-- The array of the rows' sums of logarithms, one plane per pair of heads. -/
theorem arr_t (p : Fin 2) (r : Fin 8192) (d : Fin 128) : ((dat0 V c).arrAt 4 cfg0.N : FVec Ideal S2x8192x128 .f32) (ix3 p r d) = ((tot P (r.val / 4096) (128 * p.val + d.val) (r.val % 4096) : ℝ) : EReal) := by
  refine (dat0 V c).arrAt_forall_of_covers 4 (fun (i : S2x8192x128.Idx) (v : EReal) => v = ((tot P ((i 1).val / 4096) (128 * (i 0).val + (i 2).val) ((i 1).val % 4096) : ℝ) : EReal))
    (by decide +kernel) (fun t hf z => ?_) (ix3 p r d)
  have ht : t.val < 32 := t.isLt
  obtain ⟨e, a, b, rfl⟩ : ∃ (e : Fin 1) (a : Fin 512) (b : Fin 128), z = ix3 e a b := ⟨z 0, z 1, z 2, eq_ix3 z⟩
  have h := point_t (b := t.val / 16) (p := t.val / 8 % 2) (P := P) c V t (by rw [coord2]; exact blk0 c V t hX) (blk1 c V t hX) (blk2 c V t hX) e a b
  rw [coord2] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega]
  done

end Cert.SbIdeal.Fwd

end
-- ==== Proof.SbBwd.lean ====
/-
  The backward kernel of stick-breaking attention over the real numbers: what each block of keys adds to
  the derivatives and to the running sums.
-/
module

public import proofs.«01_k».proof.Proof.SbFwdRun

@[expose] public section

set_option maxRecDepth 16384

noncomputable section

open Idealize.ShloMosaic Idealize.ShloMosaic.TcCoe Idealize.SL.Sem

namespace Cert.SbIdeal.Bwd

open Cert.SbIdeal.Gen Cert.SbSpec Cert.Vals Cert.SbIdeal.Fwd

theorem tn_ok (l : (⟨2, ![1024, 256]⟩ : Shape).Idx → EReal) (r : (⟨2, ![1024, 128]⟩ : Shape).Idx → EReal) (acc : (⟨2, ![256, 128]⟩ : Shape).Idx → EReal) (i : Fin 256) (j : Fin 128) :
    Ideal.matmul dot_S1024x256_S1024x128_S256x128_0_0_1_1_n_n l r acc (ix2 i j) = acc (ix2 i j) + ∑ k : Fin 1024, l (ix2 k i) * r (ix2 k j) := by
  simp only [pointwise]

theorem sitofp_bool (p : Prop) [Decidable p] :
    (FloatOps.sitofp (F := Ideal) FTy.f32 (BitVec.setWidth 32 (BitVec.ofBool (decide p))) : EReal) = (((if p then 1 else 0 : ℝ)) : EReal) := by
  by_cases hp : p
  · rw [decide_eq_true hp, if_pos hp]
    show ((((BitVec.setWidth 32 (BitVec.ofBool true)).toInt : ℤ) : ℝ) : EReal) = _
    rw [show (BitVec.setWidth 32 (BitVec.ofBool true)).toInt = 1 by decide, Int.cast_one]
  · rw [decide_eq_false hp, if_neg hp]
    show ((((BitVec.setWidth 32 (BitVec.ofBool false)).toInt : ℤ) : ℝ) : EReal) = _
    rw [show (BitVec.setWidth 32 (BitVec.ofBool false)).toInt = 0 by decide, Int.cast_zero]

theorem tri_incl : Is2 (k1_pay71 (F := Ideal)) (fun i j => if i ≤ j then 1 else 0) := fun r j => by
  simp only [k1_pay71, pointwise]
  show (FloatOps.sitofp (F := Ideal) FTy.f32 (BitVec.setWidth 32 (IntOp.cmpi .sle (BitVec.ofNat 32 (0 * 256 + r.val)) (BitVec.ofNat 32 (0 * 256 + j.val)))) : EReal) = _
  rw [zero_mul, zero_add, zero_add, WordCmp.cmpi_sle_ofNat (by omega) (by omega)]
  exact sitofp_bool _

theorem tri_excl : Is2 (k1_pay72 (F := Ideal) (iota .tc S256x256 32 [0] iota_S256x256_d0_w32)) (fun i j => if i < j then 1 else 0) := fun r j => by
  simp only [k1_pay72, pointwise]
  show (FloatOps.sitofp (F := Ideal) FTy.f32 (BitVec.setWidth 32 (IntOp.cmpi .slt (BitVec.ofNat 32 (0 * 256 + r.val)) (BitVec.ofNat 32 (0 * 256 + j.val)))) : EReal) = _
  rw [zero_mul, zero_add, zero_add, WordCmp.cmpi_slt_ofNat (by omega) (by omega)]
  exact sitofp_bool _

theorem dys_at {v : Vec Ideal S512x128 .f32} {f : ℕ → ℕ → ℝ} (h : Is2 (φ := .f32) (A := 512) (B := 128) v f) :
    Is2 (k1_pay69 v) (stk f) := fun r d => by
  simp only [k1_pay69, pointwise]
  have e := lane_words d.isLt
  by_cases hr : r.val < 512
  · rw [dif_pos hr]
    have hh : (v (ix2 ⟨r.val, hr⟩ d) : EReal) = _ := h ⟨r.val, hr⟩ d
    show (Scalar.select (IntOp.cmpi .slt (BitVec.ofNat 32 (0 * 128 + d.val)) 64#32) (v (ix2 ⟨r.val, hr⟩ d)) (0 : EReal) : EReal) = _
    rw [show 0 * 128 + d.val = d.val by omega, e, hh, stk, if_pos hr]
    by_cases hd : d.val < 64 <;> simp [Scalar.select, hd]
  · rw [dif_neg hr]
    have hh : (v (ix2 ⟨r.val - 512, by omega⟩ d) : EReal) = _ := h ⟨r.val - 512, by omega⟩ d
    show (Scalar.select (IntOp.cmpi .slt (BitVec.ofNat 32 (0 * 128 + d.val)) 64#32) (0 : EReal) (v (ix2 ⟨r.val - 512, by omega⟩ d)) : EReal) = _
    rw [show 0 * 128 + d.val = d.val by omega, e, hh, stk, if_neg hr]
    by_cases hd : d.val < 64 <;> simp [Scalar.select, hd]

/-- The two heads' totals, stacked. -/
theorem tot_at {v : Vec Ideal S1x512x128 .f32} {f : ℕ → ℕ → ℝ} (h : Is3 (φ := .f32) (A := 1) (B := 512) (C := 128) v (fun _ a b => f a b)) :
    Is2 (k1_pay70 v) (fun r _ => f (r % 512) (64 * (r / 512))) := fun r d => by
  simp only [k1_pay70, pointwise]
  by_cases hr : r.val < 512
  · rw [dif_pos hr]
    refine (h 0 ⟨0 + r.val, by omega⟩ ⟨0, by omega⟩).trans ?_
    dsimp only
    rw [zero_add, show r.val % 512 = r.val by omega, show r.val / 512 = 0 by omega]
  · rw [dif_neg hr]
    refine (h 0 ⟨0 + (r.val - 512), by omega⟩ ⟨64, by omega⟩).trans ?_
    dsimp only
    rw [zero_add, show r.val % 512 = r.val - 512 by omega, show r.val / 512 = 1 by omega]

/-- A block of a derivative of the weights. -/
theorem grads {Q : FVec Ideal S1024x128 .bf16} {K : FVec Ideal S256x128 .bf16} {f k : ℕ → ℕ → ℝ} (hQ : Is2 Q (stk f)) (hK : Is2 K k) :
    Is2 (matmul dot_S1024x128_S256x128_S1024x256_1_1_0_0_n_n none Q K (constant S1024x256 .f32 0x00000000#32))
      (fun r j => ∑ e ∈ Finset.range 64, f (r % 512) (64 * (r / 512) + e) * k j (64 * (r / 512) + e)) :=
  (Is2.mmT nt_ok hQ hK (Is2.const zero_f32)).congr fun r j hr _ => by rw [zero_add, stk_dot _ _ r hr]

/-- A block of a result, with a stacked product added. -/
theorem add_block {L : FVec Ideal S1024x256 .bf16} {Q : FVec Ideal S1024x128 .bf16} {O : Vec Ideal S1x256x128 .f32} {l f o : ℕ → ℕ → ℝ}
    (hL : Is2 L l) (hQ : Is2 Q (stk f)) (hO : Is3 (φ := .f32) (A := 1) (B := 256) (C := 128) O (fun _ a d => o a d)) :
    Is3 (φ := .f32) (A := 1) (B := 256) (C := 128)
      (shapeCast S1x256x128 (addf (shapeCast S256x128 O shapeCasts_S1x256x128_S256x128)
        (matmul dot_S1024x256_S1024x128_S256x128_0_0_1_1_n_n none L Q (constant S256x128 .f32 0x00000000#32))) shapeCasts_S256x128_S1x256x128)
      (fun _ a d => o a d + ∑ r ∈ Finset.range 512, l (512 * (d / 64) + r) a * f r d) := fun u a d => by
  have h : Is2 (addf (shapeCast S256x128 O shapeCasts_S1x256x128_S256x128)
        (matmul dot_S1024x256_S1024x128_S256x128_0_0_1_1_n_n none L Q (constant S256x128 .f32 0x00000000#32)) : FVec Ideal S256x128 .f32)
      (fun a d => o a d + ∑ r ∈ Finset.range 512, l (512 * (d / 64) + r) a * f r d) :=
    ((of_drop hO fun a b => by simp only [pointwise]).add (Is2.Tmm tn_ok hL hQ (Is2.const zero_f32))).congr fun a d _ hd => by
      rw [zero_add, stk_col _ _ d hd]
  refine Eq.trans ?_ (h a d)
  generalize (addf (shapeCast S256x128 O shapeCasts_S1x256x128_S256x128)
        (matmul dot_S1024x256_S1024x128_S256x128_0_0_1_1_n_n none L Q (constant S256x128 .f32 0x00000000#32)) : FVec Ideal S256x128 .f32) = X
  simp only [pointwise]

section Step

variable {Z G : ℕ → ℕ → ℝ} {K : ℕ → ℕ → ℝ} {T : ℕ → ℕ} {n : ℕ} (hn : n < 16)
  {zb gb : FVec Ideal S1024x256 .f32} {kb : FVec Ideal S256x128 .bf16} {ti te : FVec Ideal S256x256 .bf16}
  (hz : Is2 zb (fun r j => Z r (256 * n + j))) (hg : Is2 gb (fun r j => G r (256 * n + j))) (hk : Is2 kb (fun j d => K (256 * n + j) d))
  (hti : Is2 ti (fun i j => if i ≤ j then 1 else 0)) (hte : Is2 te (fun i j => if i < j then 1 else 0))
  {tc pc ec : FVec Ideal S1024x1 .f32} {acc : FVec Ideal S1024x128 .f32}
  (ht : Is2 tc (fun r _ => ∑ s ∈ Finset.range 4096, ld (Z r) (T r) s))
  (hp : Is2 pc (fun r _ => ∑ s ∈ Finset.range (256 * n), ld (Z r) (T r) s))
  (he : Is2 ec (fun r _ => ∑ s ∈ Finset.range (256 * n), ew (Z r) (G r) (T r) s))
  (ha : Is2 acc (fun r d => ∑ s ∈ Finset.range (256 * n), dz (Z r) (G r) (T r) s * (1 / 8) * K s d))
  {M : IVec S1024x256 1} (hM : IsM M (fun r j => 256 * n + j < T r))
  (ho : ∀ r j, r < 1024 → j < 256 → 256 * n + j < T r)

/-- The greater of a logit and nothing. -/
abbrev mx (z : FVec Ideal S1024x256 .f32) : FVec Ideal S1024x256 .f32 := maximumf z (broadcast S1024x256 (Scalar.ofBits .f32 0x00000000#32))
/-- One and the exponential of minus a logit's size. -/
abbrev op (z : FVec Ideal S1024x256 .f32) : FVec Ideal S1024x256 .f32 :=
  addf (broadcast S1024x256 (Scalar.ofBits .f32 0x3F800000#32)) (exp (subf (broadcast S1024x256 (Scalar.ofBits .f32 0x00000000#32)) (absf z)))
/-- A block's logarithms where the mask holds. -/
abbrev lb (M : IVec S1024x256 1) (z : FVec Ideal S1024x256 .f32) : FVec Ideal S1024x256 .f32 :=
  select M (subf (broadcast S1024x256 (Scalar.ofBits .f32 0x00000000#32)) (k0_pay17 z)) (broadcast S1024x256 (Scalar.ofBits .f32 0x00000000#32))

include hz in
theorem sig_at : Is2 (k1_pay16 zb (mx zb) (op zb)) (fun r j => sg (Z r (256 * n + j))) :=
  (hz.sub (soft hz)).exp

omit hn in
/-- The running sum and the block's own part, taken from the total. -/
theorem after_tot (hn : n < 16) (r j : ℕ) (hj : j < 256) :
    (∑ s ∈ Finset.range 4096, ld (Z r) (T r) s) - ((∑ s ∈ Finset.range (256 * n), ld (Z r) (T r) s)
        + ∑ i ∈ Finset.range 256, ld (Z r) (T r) (256 * n + i) * (if i ≤ j then 1 else 0)) = aft (Z r) (T r) (256 * n + j) :=
  total_sub _ n j hj hn

omit hn in
theorem before_eq (r j : ℕ) (hj : j < 256) :
    (∑ s ∈ Finset.range (256 * n), ew (Z r) (G r) (T r) s) + ∑ i ∈ Finset.range 256, ew (Z r) (G r) (T r) (256 * n + i) * (if i < j then 1 else 0)
      = pre (Z r) (G r) (T r) (256 * n + j) :=
  (block_before _ n j hj.le).symm

include hn hz hti ht hp

include ho in
theorem w_open : Is2 (k1_pay13 tc ti pc zb (mx zb) (op zb)) (fun r j => wt (Z r) (T r) (256 * n + j)) := by
  have hl := ((Is2.splat zero_f32).sub (soft hz)).congr (g := fun r j => ld (Z r) (T r) (256 * n + j)) fun r j hr hj => by rw [ld, if_pos (ho r j hr hj), zero_sub]
  refine Is2.congr ((hz.sub (soft hz)).add ((bcol ht).sub ((bcol hp).add (split_tri hl hti bitsLt_bf16_f32)))).exp fun r j hr hj => ?_
  rw [wt, if_pos (ho r j hr hj), after_tot hn r j hj]

include hM in
theorem w_masked {q w : BitVec 32} (hM' : M = k1_pay102 q w) :
    Is2 (k1_pay86 q tc ti pc w (subf (broadcast S1024x256 (Scalar.ofBits .f32 0x00000000#32)) (k0_pay17 zb)) (subf zb (k0_pay17 zb))) (fun r j => wt (Z r) (T r) (256 * n + j)) := by
  subst hM'
  have hl := logs hz hM
  refine Is2.congr (Is2.sel hM ((hz.sub (soft hz)).add ((bcol ht).sub ((bcol hp).add (split_tri hl hti bitsLt_bf16_f32)))).exp (Is2.splat zero_f32)) fun r j hr hj => ?_
  rw [wt, after_tot hn r j hj]

omit hn hz hti ht hp

variable {W E S : FVec Ideal S1024x256 .f32} {Dz : FVec Ideal S1024x256 .bf16}
  (hW : Is2 W (fun r j => wt (Z r) (T r) (256 * n + j)))
  (hE : Is2 E (fun r j => ew (Z r) (G r) (T r) (256 * n + j))) (hS : Is2 S (fun r j => sg (Z r (256 * n + j))))
  (hD : Is2 Dz (fun r j => dz (Z r) (G r) (T r) (256 * n + j) * (1 / 8)))

include hg hW in
theorem e_at : Is2 (mulf gb W) (fun r j => ew (Z r) (G r) (T r) (256 * n + j)) := hg.mul hW

include hE hS hte he ho in
theorem dz_open : Is2 (k1_pay23 te ec E S) (fun r j => dz (Z r) (G r) (T r) (256 * n + j) * (1 / 8)) :=
  Is2.congr (((((hE.mul ((Is2.splat one_f32).sub hS)).sub (((bcol he).add (split_tri hE hte bitsLt_bf16_f32)).mul hS)).mul (Is2.splat eighth_f32))).trunc bitsLt_bf16_f32)
    fun r j hr hj => by rw [dz, if_pos (ho r j hr hj), before_eq r j hj]

include hE hS hte he hM in
theorem dz_masked : Is2 (k1_pay105 te ec S M E) (fun r j => dz (Z r) (G r) (T r) (256 * n + j) * (1 / 8)) :=
  Is2.congr ((((Is2.sel hM ((hE.mul ((Is2.splat one_f32).sub hS)).sub (((bcol he).add (split_tri hE hte bitsLt_bf16_f32)).mul hS)) (Is2.splat zero_f32)).mul (Is2.splat eighth_f32))).trunc bitsLt_bf16_f32)
    fun r j hr hj => by rw [dz, before_eq r j hj]

include hz hp ho in
theorem pc_open : Is2 (k1_pay14 pc (mx zb) (op zb)) (fun r _ => ∑ s ∈ Finset.range (256 * (n + 1)), ld (Z r) (T r) s) := by
  refine Is2.congr (hp.sub (rsum (soft hz))) fun r d hr _ => ?_
  rw [block_range, sub_eq_add_neg, ← Finset.sum_neg_distrib]
  refine congrArg _ (Finset.sum_congr rfl fun j hj => ?_)
  rw [ld, if_pos (ho r j hr (Finset.mem_range.mp hj))]

include hz hp hM in
theorem pc_masked : Is2 (k1_pay94 pc (lb M zb)) (fun r _ => ∑ s ∈ Finset.range (256 * (n + 1)), ld (Z r) (T r) s) :=
  Is2.congr (hp.add (rsum (logs hz hM))) fun r d hr _ => by rw [block_range]

include hE he in
theorem ec_next : Is2 (k1_pay95 ec E) (fun r _ => ∑ s ∈ Finset.range (256 * (n + 1)), ew (Z r) (G r) (T r) s) :=
  Is2.congr (he.add (rsum hE)) fun r d hr _ => by rw [block_range]

include ha hk hD in
theorem acc_next : Is2 (k1_pay29 acc kb Dz) (fun r d => ∑ s ∈ Finset.range (256 * (n + 1)), dz (Z r) (G r) (T r) s * (1 / 8) * K s d) :=
  Is2.congr (ha.add (Is2.mm nn_ok hD hk (Is2.const zero_f32))) fun r d hr _ => by rw [block_range, zero_add]

end Step

end Cert.SbIdeal.Bwd

end
-- ==== Proof.SbBwdRun.lean ====
/-
  The backward kernel's loop over the key blocks, and what a grid point adds to the derivatives by the keys and the values.
-/
module

public import proofs.«01_k».proof.Proof.SbBwd

@[expose] public section

set_option maxRecDepth 16384

noncomputable section

open Idealize.ShloMosaic Idealize.ShloMosaic.TcCoe Idealize.SL.Sem

namespace Cert.SbIdeal.Bwd

open Cert.SbIdeal.Gen Cert.SbSpec Cert.Vals Cert.SbIdeal.Fwd

/-- The rows of a block read at a place. -/
theorem ld_rows32 {X : Vec Ideal S1x4096x128 .f32} {f : ℕ → ℕ → ℝ} (hX : Is3 (φ := .f32) (A := 1) (B := 4096) (C := 128) X (fun _ a b => f a b))
    {off : Fin 3 → ℕ} {o : ℕ} (ho : off = ![0, o, 0]) (h) :
    Is3 (φ := .f32) (A := 1) (B := 256) (C := 128) (View.ld X (Rect.unit off ![1, 256, 128] h)) (fun _ a b => f (o + a) b) := by
  subst ho
  intro a b d
  have ha : a = 0 := Subsingleton.elim _ _
  subst ha
  have hb : o + b.val < 4096 := by have := h 1; simp at this; omega
  refine Eq.trans (?_ : _ = (X (ix3 0 ⟨o + b.val, hb⟩ d) : EReal)) (hX 0 ⟨o + b.val, hb⟩ d)
  refine congrArg X (funext fun e => Fin.ext ?_)
  fin_cases e <;> simp [Rect.unit]

/-- The pieces of a result's stores. -/
abbrev Pcs : Type := List (View.Piece (Elt Ideal) S1x4096x128 .f32)
/-- How stores are laid over each other. -/
def Lay (R : Pcs → Vec Ideal S1x4096x128 .f32) : Prop := ∀ p L, R (p :: L) = p.1.overlay (R L) p.2

theorem lay_canon : Lay (View.canon (Val := Elt Ideal) (s := S1x4096x128) (e := .f32)) := fun p L => View.canon_cons p L

theorem lay_read {κ : Kind} {sp : Space} (v : View sig κ sp S1x4096x128 .f32) (f : v.ty.Contents (Elt Ideal)) : Lay (fun L => v.read (Elt Ideal) (v.writes (Elt Ideal) f L)) := fun p L => by
  funext y
  by_cases hy : y ∈ p.1.set
  · obtain ⟨x, rfl⟩ : ∃ x, p.1.emb x = y := p.1.exists_idx_of_mem hy
    rw [Rect.overlay_emb]
    exact View.read_writes_cons_emb v f p.1 p.2 L x
  · rw [Rect.overlay_of_not_mem _ _ _ hy]
    dsimp only
    rw [View.writes_cons]
    exact View.read_slice_write_of_not_mem _ _ _ _ (by rwa [Rect.map_emb_univ])

/-- What an array holds when a tile's part has been added to its rows before a block. -/
abbrev Upto (X : Vec Ideal S1x4096x128 .f32) (o g : ℕ → ℕ → ℝ) (n : ℕ) : Prop :=
  Is3 (φ := .f32) (A := 1) (B := 4096) (C := 128) X (fun _ a d => o a d + if a < 256 * n then g a d else 0)

/-- A block's store. -/
theorem stored {R : Pcs → Vec Ideal S1x4096x128 .f32} (hR : Lay R) {L : Pcs} {o g : ℕ → ℕ → ℝ} {n : ℕ} (h0 : Upto (R L) o g n)
    {off : Fin 3 → ℕ} (ho : off = ![0, 256 * n, 0]) (h) {w : Vec Ideal S1x256x128 .f32}
    (hw : Is3 (φ := .f32) (A := 1) (B := 256) (C := 128) w (fun _ a d => o (256 * n + a) d + g (256 * n + a) d)) :
    Upto (R (⟨Rect.unit off ![1, 256, 128] h, w⟩ :: L)) o g (n + 1) := by
  subst ho
  intro u a d
  rw [hR]
  have hu : u = 0 := Subsingleton.elim _ _
  subst hu
  by_cases ha : 256 * n ≤ a.val ∧ a.val < 256 * n + 256
  · have e : (ix3 0 a d : S1x4096x128.Idx) = (Rect.unit ![0, 256 * n, 0] ![1, 256, 128] h).emb (ix3 (0 : Fin 1) (⟨a.val - 256 * n, by omega⟩ : Fin 256) d) := by
      refine funext fun e => Fin.ext ?_
      fin_cases e <;> simp [Rect.unit, Rect.emb]
      omega
    rw [e, Rect.overlay_emb]
    refine (hw 0 ⟨a.val - 256 * n, by omega⟩ d).trans ?_
    dsimp only
    rw [if_pos (by omega), show 256 * n + (a.val - 256 * n) = a.val by omega]
  · rw [Rect.overlay_of_not_mem]
    · refine (h0 0 a d).trans ?_
      by_cases h1 : a.val < 256 * n
      · dsimp only
        rw [if_pos h1, if_pos (by omega)]
      · dsimp only
        rw [if_neg h1, if_neg (by omega)]
    · rw [Rect.mem_set_unit]
      intro hall
      have := hall 1
      exact ha this

theorem Upto.block {X : Vec Ideal S1x4096x128 .f32} {o g : ℕ → ℕ → ℝ} {n m : ℕ} (h : Upto X o g n) (hm : n ≤ m) {off : Fin 3 → ℕ} (ho : off = ![0, 256 * m, 0]) (hb) :
    Is3 (φ := .f32) (A := 1) (B := 256) (C := 128) (View.ld X (Rect.unit off ![1, 256, 128] hb)) (fun _ a d => o (256 * m + a) d) := fun u a d => by
  refine (ld_rows32 (f := fun a d => o a d + if a < 256 * n then g a d else 0) h ho hb u a d).trans ?_
  dsimp only
  rw [if_neg (by have := Nat.mul_le_mul_left 256 hm; omega), add_zero]

theorem trips1 (i : grid1.Coords) : (k1_t1_loop i).trips = (i 2).val :=
  (by decide +kernel : ∀ a : Fin 8, (Scf.trips 0#32 (Scalar.addi 0#32 (Scalar.muli (Scalar.divsi (Scalar.subi (BitVec.ofNat 32 a.val) 0#32) 1#32) 1#32)) 1#32) = a.val) (i 2)
theorem trips2 (i : grid1.Coords) : (k1_t2_loop i).trips = 0 := Nat.le_zero.mp (k1_t2_abs i).2.1

theorem off1_0 (i : grid1.Coords) (k : Fin (k1_t1_loop i).trips) : k1_off1 i k 0#32 = ![0, 256 * (2 * k.val), 0] := by
  refine (k1_off1_eq i k 0).trans (congrArg (fun n => ![0, n, 0]) ?_); show 512 * k.val + 256 * 0 = _; ring
theorem off1_1 (i : grid1.Coords) (k : Fin (k1_t1_loop i).trips) : k1_off1 i k 1#32 = ![0, 256 * (2 * k.val + 1), 0] := by
  refine (k1_off1_eq i k 1).trans (congrArg (fun n => ![0, n, 0]) ?_); show 512 * k.val + 256 * 1 = _; ring
theorem off3_0 (i : grid1.Coords) : k1_off3 i 0#32 = ![0, 256 * (2 * (i 2).val), 0] := by
  refine (k1_off3_eq i 0).trans (congrArg (fun n => ![0, n, 0]) ?_); show 512 * (i 2).val + 256 * 0 = _; ring
theorem off3_1 (i : grid1.Coords) : k1_off3 i 1#32 = ![0, 256 * (2 * (i 2).val + 1), 0] := by
  refine (k1_off3_eq i 1).trans (congrArg (fun n => ![0, n, 0]) ?_); show 512 * (i 2).val + 256 * 1 = _; ring

section Point

variable (P D : ℕ → ℕ → ℕ → ℝ) (b p : ℕ) (i : grid1.Coords)

/-- The derivatives by a stacked row's weights. -/
def Gr (q r s : ℕ) : ℝ := gr P D b (2 * p + r / 512) (512 * q + r % 512) s

/-- A query tile's part of the derivative by the keys. -/
def DK (q s d : ℕ) : ℝ := ∑ r ∈ Finset.range 512, dzc P D b (128 * p + d) (512 * q + r) s * (1 / 8) * P b (512 * q + r) (1024 + 128 * p + d)
/-- A query tile's part of the derivative by the values. -/
def DV (q s d : ℕ) : ℝ := ∑ r ∈ Finset.range 512, wc P b (128 * p + d) (512 * q + r) s * D b (512 * q + r) (128 * p + d)

theorem z_row (q d r : ℕ) (hr : r < 512) : Zr P b p q (512 * (d / 64) + r) = zr P b ((128 * p + d) / 64) (512 * q + r) := funext fun s => by
  rw [Zr, show (512 * (d / 64) + r) % 512 = r by omega, show (512 * (d / 64) + r) / 512 = d / 64 by omega, show (128 * p + d) / 64 = 2 * p + d / 64 by omega]
theorem g_row (q d r : ℕ) (hr : r < 512) : Gr P D b p q (512 * (d / 64) + r) = gr P D b ((128 * p + d) / 64) (512 * q + r) := funext fun s => by
  rw [Gr, show (512 * (d / 64) + r) % 512 = r by omega, show (512 * (d / 64) + r) / 512 = d / 64 by omega, show (128 * p + d) / 64 = 2 * p + d / 64 by omega]
theorem t_row (q d r : ℕ) (hr : r < 512) : Tr q (512 * (d / 64) + r) = 512 * q + r := by
  rw [Tr, show (512 * (d / 64) + r) % 512 = r by omega]

variable {P D b p}

theorem dk_block {q n : ℕ} {L : FVec Ideal S1024x256 .bf16} {Q : FVec Ideal S1024x128 .bf16} {O : Vec Ideal S1x256x128 .f32} {o : ℕ → ℕ → ℝ}
    (hL : Is2 L (fun r j => dz (Zr P b p q r) (Gr P D b p q r) (Tr q r) (256 * n + j) * (1 / 8))) (hQ : Is2 Q (stk fun a d => P b (512 * q + a) (1024 + 128 * p + d)))
    (hO : Is3 (φ := .f32) (A := 1) (B := 256) (C := 128) O (fun _ a d => o (256 * n + a) d)) :
    Is3 (φ := .f32) (A := 1) (B := 256) (C := 128)
      (shapeCast S1x256x128 (addf (shapeCast S256x128 O shapeCasts_S1x256x128_S256x128)
        (matmul dot_S1024x256_S1024x128_S256x128_0_0_1_1_n_n none L Q (constant S256x128 .f32 0x00000000#32))) shapeCasts_S256x128_S1x256x128)
      (fun _ a d => o (256 * n + a) d + DK P D b p q (256 * n + a) d) := fun u a d => by
  refine (add_block hL hQ (o := fun a d => o (256 * n + a) d) hO u a d).trans (congrArg _ (congrArg _ (Finset.sum_congr rfl fun r hr => ?_)))
  have hr := Finset.mem_range.mp hr
  rw [z_row P b p q _ r hr, g_row P D b p q _ r hr, t_row q _ r hr, dzc]

theorem dv_block {q n : ℕ} {L : FVec Ideal S1024x256 .bf16} {Q : FVec Ideal S1024x128 .bf16} {O : Vec Ideal S1x256x128 .f32} {o : ℕ → ℕ → ℝ}
    (hL : Is2 L (fun r j => wt (Zr P b p q r) (Tr q r) (256 * n + j))) (hQ : Is2 Q (stk fun a d => D b (512 * q + a) (128 * p + d)))
    (hO : Is3 (φ := .f32) (A := 1) (B := 256) (C := 128) O (fun _ a d => o (256 * n + a) d)) :
    Is3 (φ := .f32) (A := 1) (B := 256) (C := 128)
      (shapeCast S1x256x128 (addf (shapeCast S256x128 O shapeCasts_S1x256x128_S256x128)
        (matmul dot_S1024x256_S1024x128_S256x128_0_0_1_1_n_n none L Q (constant S256x128 .f32 0x00000000#32))) shapeCasts_S256x128_S1x256x128)
      (fun _ a d => o (256 * n + a) d + DV P D b p q (256 * n + a) d) := fun u a d => by
  refine (add_block hL hQ (o := fun a d => o (256 * n + a) d) hO u a d).trans (congrArg _ (congrArg _ (Finset.sum_congr rfl fun r hr => ?_)))
  have hr := Finset.mem_range.mp hr
  rw [z_row P b p q _ r hr, t_row q _ r hr, wc]

theorem grads_at {q n : ℕ} {Q : FVec Ideal S1024x128 .bf16} {K : Vec Ideal S1x256x128 .bf16} (hQ : Is2 Q (stk fun a d => D b (512 * q + a) (128 * p + d)))
    (hK : Is3 (φ := .bf16) (A := 1) (B := 256) (C := 128) K (fun _ a d => P b (256 * n + a) (1536 + 128 * p + d))) :
    Is2 (k1_pay6 Q K) (fun r j => Gr P D b p q r (256 * n + j)) :=
  Is2.congr (grads (k := fun a d => P b (256 * n + a) (1536 + 128 * p + d)) hQ (drop_at hK)) fun r j hr hj => by
    rw [Gr, gr]
    refine Finset.sum_congr rfl fun e he => ?_
    rw [show 128 * p + (64 * (r / 512) + e) = 64 * (2 * p + r / 512) + e by ring, show 1536 + 128 * p + (64 * (r / 512) + e) = 1536 + 64 * (2 * p + r / 512) + e by ring]

/-- What the carried values hold when the keys before `256 n` have been added. -/
def Inv (P D : ℕ → ℕ → ℕ → ℝ) (b p q n : ℕ) (st : FVec Ideal S1024x128 .f32 × FVec Ideal S1024x1 .f32 × FVec Ideal S1024x1 .f32) : Prop :=
  Is2 st.1 (fun r d => ∑ s ∈ Finset.range (256 * n), dz (Zr P b p q r) (Gr P D b p q r) (Tr q r) s * (1 / 8) * P b s (1280 + 128 * p + d)) ∧
  Is2 st.2.1 (fun r _ => ∑ s ∈ Finset.range (256 * n), ld (Zr P b p q r) (Tr q r) s) ∧
  Is2 st.2.2 (fun r _ => ∑ s ∈ Finset.range (256 * n), ew (Zr P b p q r) (Gr P D b p q r) (Tr q r) s)

theorem inv_zero (q : ℕ) : Inv P D b p q 0 (k1_pay74, k1_pay73, k1_pay73) :=
  ⟨(Is2.splat zero_f32).congr fun _ _ _ _ => by simp, (Is2.splat zero_f32).congr fun _ _ _ _ => by simp, (Is2.splat zero_f32).congr fun _ _ _ _ => by simp⟩

variable {x3 x4 : Vec Ideal S1x4096x128 .bf16}
  (h3 : Is3 (φ := .bf16) (A := 1) (B := 4096) (C := 128) x3 (fun _ a d => P b a (1280 + 128 * p + d)))
  (h4 : Is3 (φ := .bf16) (A := 1) (B := 4096) (C := 128) x4 (fun _ a d => P b a (1536 + 128 * p + d)))
  {v17 v31 : FVec Ideal S1024x128 .bf16} {v34 : FVec Ideal S1024x1 .f32} {v40 : FVec Ideal S256x256 .bf16}
  (hQ : Is2 v17 (stk fun a d => P b (512 * (i 2).val + a) (1024 + 128 * p + d)))
  (hG : Is2 v31 (stk fun a d => D b (512 * (i 2).val + a) (128 * p + d)))
  (hT : Is2 v34 (fun r _ => ∑ s ∈ Finset.range 4096, ld (Zr P b p (i 2).val r) (Tr (i 2).val r) s))
  (hti : Is2 v40 (fun i j => if i ≤ j then 1 else 0))
  {o9 o10 : ℕ → ℕ → ℝ}

include h3 h4 hQ hG hT hti

theorem loop_inv (𝒱 : Variants) (c : Dev nD) (bd : Option 𝒱.V) (arg3 : Memref sig .tc .vmem S512x128 .f32) (harg3 : arg3.IsWhole) (arg4 : Memref sig .tc .vmem S1x512x128 .f32) (harg4 : arg4.IsWhole) (arg5 : Memref sig .tc .vmem S1x512x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S512x128 .f32) (harg8 : arg8.IsWhole) (arg9 : Memref sig .tc .vmem S1x4096x128 .f32) (harg9 : arg9.IsWhole) (arg10 : Memref sig .tc .vmem S1x4096x128 .f32) (harg10 : arg10.IsWhole)
    (arg2 : BitVec 32) (f9 : BufTy.Contents (Elt Ideal) arg9.view.ty) (f10 : BufTy.Contents (Elt Ideal) arg10.view.ty)
    (g9 : Upto (arg9.view.read (Elt Ideal) f9) o9 (DK P D b p (i 2).val) 0) (g10 : Upto (arg10.view.read (Elt Ideal) f10) o10 (DV P D b p (i 2).val) 0) :
    ∀ k, k ≤ (i 2).val →
      Inv P D b p (i 2).val (2 * k) (st_k1_t1 (F := Ideal) 𝒱 c bd i arg3 harg3 arg4 harg4 arg5 harg5 arg6 harg6 arg7 harg7 arg8 harg8 arg9 harg9 arg10 harg10 arg2 v17 v31 v34 v40 (iota .tc S256x256 32 [0] iota_S256x256_d0_w32) (harg6.unread x3) (harg7.unread x4) f9 f10 (k1_pay74, k1_pay73, k1_pay73) k).1 ∧
      Upto (arg9.view.read (Elt Ideal) (arg9.view.writes (Elt Ideal) f9 (st_k1_t1 (F := Ideal) 𝒱 c bd i arg3 harg3 arg4 harg4 arg5 harg5 arg6 harg6 arg7 harg7 arg8 harg8 arg9 harg9 arg10 harg10 arg2 v17 v31 v34 v40 (iota .tc S256x256 32 [0] iota_S256x256_d0_w32) (harg6.unread x3) (harg7.unread x4) f9 f10 (k1_pay74, k1_pay73, k1_pay73) k).2.1)) o9 (DK P D b p (i 2).val) (2 * k) ∧
      Upto (arg10.view.read (Elt Ideal) (arg10.view.writes (Elt Ideal) f10 (st_k1_t1 (F := Ideal) 𝒱 c bd i arg3 harg3 arg4 harg4 arg5 harg5 arg6 harg6 arg7 harg7 arg8 harg8 arg9 harg9 arg10 harg10 arg2 v17 v31 v34 v40 (iota .tc S256x256 32 [0] iota_S256x256_d0_w32) (harg6.unread x3) (harg7.unread x4) f9 f10 (k1_pay74, k1_pay73, k1_pay73) k).2.2)) o10 (DV P D b p (i 2).val) (2 * k)
  | 0, _ => ⟨inv_zero _, g9, g10⟩
  | k + 1, hk => by
    have hq : (i 2).val < 8 := (i 2).isLt
    have hlt : k < (k1_t1_loop i).trips := by rw [trips1]; omega
    have ih := loop_inv 𝒱 c bd arg3 harg3 arg4 harg4 arg5 harg5 arg6 harg6 arg7 harg7 arg8 harg8 arg9 harg9 arg10 harg10 arg2 f9 f10 g9 g10 k (by omega)
    rw [st_k1_t1_succ 𝒱 c bd i arg3 harg3 arg4 harg4 arg5 harg5 arg6 harg6 arg7 harg7 arg8 harg8 arg9 harg9 arg10 harg10 arg2 v17 v31 v34 v40 (iota .tc S256x256 32 [0] iota_S256x256_d0_w32) (harg6.unread x3) (harg7.unread x4) f9 f10 (k1_pay74, k1_pay73, k1_pay73) ⟨k, hlt⟩]
    generalize st_k1_t1 (F := Ideal) 𝒱 c bd i arg3 harg3 arg4 harg4 arg5 harg5 arg6 harg6 arg7 harg7 arg8 harg8 arg9 harg9 arg10 harg10 arg2 v17 v31 v34 v40 (iota .tc S256x256 32 [0] iota_S256x256_d0_w32) (harg6.unread x3) (harg7.unread x4) f9 f10 (k1_pay74, k1_pay73, k1_pay73) k = st at ih ⊢
    obtain ⟨⟨ia, ip, ie⟩, i9, i10⟩ := ih
    dsimp only
    rw [View.writes_append, View.writes_append]
    generalize arg9.view.writes (Elt Ideal) f9 st.2.1 = w9 at i9 ⊢
    generalize arg10.view.writes (Elt Ideal) f10 st.2.2 = w10 at i10 ⊢
    unfold tripR_k1_t1 trip_k1_t1
    dsimp only
    frame_out
    have hk0 := ld_rows h3 (off1_0 i ⟨k, hlt⟩) (k1_off1_inb i ⟨k, hlt⟩ 0)
    have hk1 := ld_rows h3 (off1_1 i ⟨k, hlt⟩) (k1_off1_inb i ⟨k, hlt⟩ 1)
    have hz0 := logits_at P b p (n := 2 * k) hQ hk0
    have hz1 := logits_at P b p (n := 2 * k + 1) hQ hk1
    have hg0 := grads_at (n := 2 * k) hG (ld_rows h4 (off1_0 i ⟨k, hlt⟩) (k1_off1_inb i ⟨k, hlt⟩ 0))
    have hg1 := grads_at (n := 2 * k + 1) hG (ld_rows h4 (off1_1 i ⟨k, hlt⟩) (k1_off1_inb i ⟨k, hlt⟩ 1))
    have ho0 : ∀ r j, r < 1024 → j < 256 → 256 * (2 * k) + j < Tr (i 2).val r := fun r j _ _ => by rw [Tr]; omega
    have ho1 : ∀ r j, r < 1024 → j < 256 → 256 * (2 * k + 1) + j < Tr (i 2).val r := fun r j _ _ => by rw [Tr]; omega
    have hw0 := w_open (by omega) hz0 hti hT ip ho0
    have he0 := e_at hg0 hw0
    have hd0 := dz_open tri_excl ie ho0 he0 (sig_at hz0)
    have ip1 := pc_open hz0 ip ho0
    have ie1 := ec_next ie he0
    have ia1 := acc_next (K := fun s d => P b s (1280 + 128 * p + d)) (drop_at hk0) ia hd0
    have hw1 := w_open (by omega) hz1 hti hT ip1 ho1
    have he1 := e_at hg1 hw1
    have hd1 := dz_open tri_excl ie1 ho1 he1 (sig_at hz1)
    rw [show 2 * (k + 1) = 2 * k + 1 + 1 by ring]
    refine ⟨⟨acc_next (K := fun s d => P b s (1280 + 128 * p + d)) (drop_at hk1) ia1 hd1, pc_open hz1 ip1 ho1, ec_next ie1 he1⟩, ?_, ?_⟩
    · refine stored (lay_read _ w9) (stored (lay_read _ w9) (L := []) i9 (off1_0 i ⟨k, hlt⟩) _ ?_) (off1_1 i ⟨k, hlt⟩) _ ?_
      · exact dk_block hd0 hQ (i9.block le_rfl (off1_0 i ⟨k, hlt⟩) _)
      · exact dk_block hd1 hQ (i9.block (Nat.le_succ _) (off1_1 i ⟨k, hlt⟩) _)
    · refine stored (lay_read _ w10) (stored (lay_read _ w10) (L := []) i10 (off1_0 i ⟨k, hlt⟩) _ ?_) (off1_1 i ⟨k, hlt⟩) _ ?_
      · exact dv_block (hw0.trunc bitsLt_bf16_f32) hG (i10.block le_rfl (off1_0 i ⟨k, hlt⟩) _)
      · exact dv_block (hw1.trunc bitsLt_bf16_f32) hG (i10.block (Nat.le_succ _) (off1_1 i ⟨k, hlt⟩) _)

omit h3 h4 in
/-- The two blocks the mask cuts. -/
theorem tail {st : FVec Ideal S1024x128 .f32 × FVec Ideal S1024x1 .f32 × FVec Ideal S1024x1 .f32} (hst : Inv P D b p (i 2).val (2 * (i 2).val) st)
    {K0 V0 K1 V1 : Vec Ideal S1x256x128 .bf16}
    (hk0 : Is3 (φ := .bf16) (A := 1) (B := 256) (C := 128) K0 (fun _ a d => P b (256 * (2 * (i 2).val) + a) (1280 + 128 * p + d)))
    (hv0 : Is3 (φ := .bf16) (A := 1) (B := 256) (C := 128) V0 (fun _ a d => P b (256 * (2 * (i 2).val) + a) (1536 + 128 * p + d)))
    (hk1 : Is3 (φ := .bf16) (A := 1) (B := 256) (C := 128) K1 (fun _ a d => P b (256 * (2 * (i 2).val + 1) + a) (1280 + 128 * p + d)))
    (hv1 : Is3 (φ := .bf16) (A := 1) (B := 256) (C := 128) V1 (fun _ a d => P b (256 * (2 * (i 2).val + 1) + a) (1536 + 128 * p + d)))
    {R9 R10 : Pcs → Vec Ideal S1x4096x128 .f32} (l9 : Lay R9) (l10 : Lay R10) {L9 L10 : Pcs}
    (g9 : Upto (R9 L9) o9 (DK P D b p (i 2).val) (2 * (i 2).val)) (g10 : Upto (R10 L10) o10 (DV P D b p (i 2).val) (2 * (i 2).val)) (b0) (b1) :
    Is2 (k1_pay108 (k1_pay72 (iota .tc S256x256 32 [0] iota_S256x256_d0_w32)) (k1_pay93 st.1 (k1_pay77 K0) (k1_pay88 (BitVec.ofNat 32 (i 2).val) v31 v34 v40 (k1_pay72 (iota .tc S256x256 32 [0] iota_S256x256_d0_w32)) st.2.1 st.2.2 (Scalar.addi (Scalar.muli (BitVec.ofNat 32 (i 2).val) 2#32) 0#32) (k1_pay78 V0) (k1_pay81 v17 K0) (k1_pay82 v17 K0) (k1_pay83 v17 K0)) k1_pay89) (k1_pay95 st.2.2 (k1_pay87 (BitVec.ofNat 32 (i 2).val) v31 v34 v40 st.2.1 (Scalar.addi (Scalar.muli (BitVec.ofNat 32 (i 2).val) 2#32) 0#32) (k1_pay78 V0) (k1_pay81 v17 K0) (k1_pay82 v17 K0))) (k1_pay96 K1) (k1_pay101 v17 (k1_pay96 K1) (constant S1024x256 .f32 0#32)) (k1_pay102 (BitVec.ofNat 32 (i 2).val) (Scalar.addi (Scalar.muli (BitVec.ofNat 32 (i 2).val) 2#32) 1#32)) (k1_pay104 (BitVec.ofNat 32 (i 2).val) v17 v31 v34 v40 (k1_pay94 st.2.1 (k1_pay85 (BitVec.ofNat 32 (i 2).val) (Scalar.addi (Scalar.muli (BitVec.ofNat 32 (i 2).val) 2#32) 0#32) (k1_pay81 v17 K0))) (Scalar.addi (Scalar.muli (BitVec.ofNat 32 (i 2).val) 2#32) 1#32) (k1_pay96 K1) (k1_pay97 V1) (constant S1024x256 .f32 0#32)))
      (fun r d => ∑ s ∈ Finset.range (256 * (2 * (i 2).val + 1 + 1)), dz (Zr P b p (i 2).val r) (Gr P D b p (i 2).val r) (Tr (i 2).val r) s * (1 / 8) * P b s (1280 + 128 * p + d)) ∧
    Upto (R9 (⟨Rect.unit (k1_off3 i 1#32) ![1, 256, 128] b1, k1_pay106 v17 (k1_pay72 (iota .tc S256x256 32 [0] iota_S256x256_d0_w32)) (k1_pay95 st.2.2 (k1_pay87 (BitVec.ofNat 32 (i 2).val) v31 v34 v40 st.2.1 (Scalar.addi (Scalar.muli (BitVec.ofNat 32 (i 2).val) 2#32) 0#32) (k1_pay78 V0) (k1_pay81 v17 K0) (k1_pay82 v17 K0))) (k1_pay101 v17 (k1_pay96 K1) (constant S1024x256 .f32 0#32)) (k1_pay102 (BitVec.ofNat 32 (i 2).val) (Scalar.addi (Scalar.muli (BitVec.ofNat 32 (i 2).val) 2#32) 1#32)) (k1_pay104 (BitVec.ofNat 32 (i 2).val) v17 v31 v34 v40 (k1_pay94 st.2.1 (k1_pay85 (BitVec.ofNat 32 (i 2).val) (Scalar.addi (Scalar.muli (BitVec.ofNat 32 (i 2).val) 2#32) 0#32) (k1_pay81 v17 K0))) (Scalar.addi (Scalar.muli (BitVec.ofNat 32 (i 2).val) 2#32) 1#32) (k1_pay96 K1) (k1_pay97 V1) (constant S1024x256 .f32 0#32)) (View.ld (R9 (⟨Rect.unit (k1_off3 i 0#32) ![1, 256, 128] b0, k1_pay91 v17 (k1_pay88 (BitVec.ofNat 32 (i 2).val) v31 v34 v40 (k1_pay72 (iota .tc S256x256 32 [0] iota_S256x256_d0_w32)) st.2.1 st.2.2 (Scalar.addi (Scalar.muli (BitVec.ofNat 32 (i 2).val) 2#32) 0#32) (k1_pay78 V0) (k1_pay81 v17 K0) (k1_pay82 v17 K0) (k1_pay83 v17 K0)) k1_pay89 (View.ld (R9 L9) (Rect.unit (k1_off3 i 0#32) ![1, 256, 128] b0))⟩ :: L9)) (Rect.unit (k1_off3 i 1#32) ![1, 256, 128] b1))⟩ ::
      ⟨Rect.unit (k1_off3 i 0#32) ![1, 256, 128] b0, k1_pay91 v17 (k1_pay88 (BitVec.ofNat 32 (i 2).val) v31 v34 v40 (k1_pay72 (iota .tc S256x256 32 [0] iota_S256x256_d0_w32)) st.2.1 st.2.2 (Scalar.addi (Scalar.muli (BitVec.ofNat 32 (i 2).val) 2#32) 0#32) (k1_pay78 V0) (k1_pay81 v17 K0) (k1_pay82 v17 K0) (k1_pay83 v17 K0)) k1_pay89 (View.ld (R9 L9) (Rect.unit (k1_off3 i 0#32) ![1, 256, 128] b0))⟩ :: L9)) o9 (DK P D b p (i 2).val) (2 * (i 2).val + 1 + 1) ∧
    Upto (R10 (⟨Rect.unit (k1_off3 i 1#32) ![1, 256, 128] b1, k1_pay107 v31 (k1_pay103 (BitVec.ofNat 32 (i 2).val) v17 v34 v40 (k1_pay94 st.2.1 (k1_pay85 (BitVec.ofNat 32 (i 2).val) (Scalar.addi (Scalar.muli (BitVec.ofNat 32 (i 2).val) 2#32) 0#32) (k1_pay81 v17 K0))) (Scalar.addi (Scalar.muli (BitVec.ofNat 32 (i 2).val) 2#32) 1#32) (k1_pay96 K1) (constant S1024x256 .f32 0#32)) (View.ld (R10 (⟨Rect.unit (k1_off3 i 0#32) ![1, 256, 128] b0, k1_pay92 v31 (k1_pay86 (BitVec.ofNat 32 (i 2).val) v34 v40 st.2.1 (Scalar.addi (Scalar.muli (BitVec.ofNat 32 (i 2).val) 2#32) 0#32) (k1_pay81 v17 K0) (k1_pay82 v17 K0)) (View.ld (R10 L10) (Rect.unit (k1_off3 i 0#32) ![1, 256, 128] b0))⟩ :: L10)) (Rect.unit (k1_off3 i 1#32) ![1, 256, 128] b1))⟩ ::
      ⟨Rect.unit (k1_off3 i 0#32) ![1, 256, 128] b0, k1_pay92 v31 (k1_pay86 (BitVec.ofNat 32 (i 2).val) v34 v40 st.2.1 (Scalar.addi (Scalar.muli (BitVec.ofNat 32 (i 2).val) 2#32) 0#32) (k1_pay81 v17 K0) (k1_pay82 v17 K0)) (View.ld (R10 L10) (Rect.unit (k1_off3 i 0#32) ![1, 256, 128] b0))⟩ :: L10)) o10 (DV P D b p (i 2).val) (2 * (i 2).val + 1 + 1) := by
  have hq : (i 2).val < 8 := (i 2).isLt
  have e1 : (Scalar.addi (Scalar.muli (BitVec.ofNat 32 (i 2).val) 2#32) 1#32) = BitVec.ofNat 32 (2 * (i 2).val + 1) := by
    show BitVec.ofNat 32 (i 2).val * BitVec.ofNat 32 2 + BitVec.ofNat 32 1 = _
    rw [← BitVec.ofNat_mul, ← BitVec.ofNat_add]; congr 1; ring
  have e0 : (Scalar.addi (Scalar.muli (BitVec.ofNat 32 (i 2).val) 2#32) 0#32) = BitVec.ofNat 32 (2 * (i 2).val) := by
    show BitVec.ofNat 32 (i 2).val * BitVec.ofNat 32 2 + BitVec.ofNat 32 0 = _
    rw [← BitVec.ofNat_mul, ← BitVec.ofNat_add]; congr 1; ring
  rw [e1, e0]
  obtain ⟨ia, ip, ie⟩ := hst
  have hz0 := logits_at P b p (n := 2 * (i 2).val) hQ hk0
  have hz1 := logits_at P b p (n := 2 * (i 2).val + 1) hQ hk1
  have hg0 := grads_at (n := 2 * (i 2).val) hG hv0
  have hg1 := grads_at (n := 2 * (i 2).val + 1) hG hv1
  have hM0 : IsM (k1_pay102 (BitVec.ofNat 32 (i 2).val) (BitVec.ofNat 32 (2 * (i 2).val))) (fun r j => 256 * (2 * (i 2).val) + j < Tr (i 2).val r) := mask40 hq (by omega)
  have hM1 : IsM (k1_pay102 (BitVec.ofNat 32 (i 2).val) (BitVec.ofNat 32 (2 * (i 2).val + 1))) (fun r j => 256 * (2 * (i 2).val + 1) + j < Tr (i 2).val r) := mask40 hq (by omega)
  have hw0 := w_masked (by omega) hz0 hti hT ip hM0 rfl
  have he0 := e_at hg0 hw0
  have hd0 := dz_masked tri_excl ie hM0 he0 (sig_at hz0)
  have ip1 := pc_masked hz0 ip hM0
  have ie1 := ec_next ie he0
  have ia1 := acc_next (K := fun s d => P b s (1280 + 128 * p + d)) (drop_at hk0) ia hd0
  have hw1 := w_masked (by omega) hz1 hti hT ip1 hM1 rfl
  have he1 := e_at hg1 hw1
  have hd1 := dz_masked tri_excl ie1 hM1 he1 (sig_at hz1)
  refine ⟨acc_next (K := fun s d => P b s (1280 + 128 * p + d)) (drop_at hk1) ia1 hd1, ?_, ?_⟩
  · have s0 := stored l9 g9 (off3_0 i) b0 (dk_block hd0 hQ (g9.block le_rfl (off3_0 i) b0))
    exact stored l9 s0 (off3_1 i) b1 (dk_block hd1 hQ (s0.block le_rfl (off3_1 i) b1))
  · have s0 := stored l10 g10 (off3_0 i) b0 (dv_block (hw0.trunc bitsLt_bf16_f32) hG (g10.block le_rfl (off3_0 i) b0))
    exact stored l10 s0 (off3_1 i) b1 (dv_block (hw1.trunc bitsLt_bf16_f32) hG (s0.block le_rfl (off3_1 i) b1))

omit h3 h4 hQ hG hT hti

theorem init_zero {κ : Kind} {sp : Space} (v : View sig κ sp S1x4096x128 .f32) (g : ℕ → ℕ → ℝ) {hs} {w : Vec Ideal S1x4096x128 .f32}
    (hw : Is3 (φ := .f32) (A := 1) (B := 4096) (C := 128) w (fun _ _ _ => 0)) :
    Upto (v.read (Elt Ideal) (v.writes (Elt Ideal) v.junk [⟨Rect.unit ![0, 0, 0] ![1, 4096, 128] hs, w⟩])) (fun _ _ => 0) g 0 := fun u a d => by
  have e : (ix3 u a d : S1x4096x128.Idx) = (Rect.unit ![0, 0, 0] ![1, 4096, 128] hs).emb (ix3 u a d) := by
    refine funext fun e => Fin.ext ?_
    fin_cases e <;> simp [Rect.unit, Rect.emb]
  rw [View.read_writes_junk_eq_canon, View.canon_cons, e, Rect.overlay_emb]
  refine (hw u a d).trans ?_
  simp

theorem zero_out {w : FVec Ideal S1x4096x128 .f32} (h : ∀ i, w i = ((0 : ℝ) : EReal)) : Is3 (φ := .f32) (A := 1) (B := 4096) (C := 128) w (fun _ _ _ => 0) := fun _ _ _ => h _

theorem init_prev {κ : Kind} {sp : Space} {m : Memref sig κ sp S1x4096x128 .f32} (hm : m.IsWhole) (g : ℕ → ℕ → ℝ) {w : Vec Ideal S1x4096x128 .f32} {o : ℕ → ℕ → ℝ}
    (hw : Is3 (φ := .f32) (A := 1) (B := 4096) (C := 128) w (fun _ a d => o a d)) :
    Upto (m.view.read (Elt Ideal) (hm.unread w)) o g 0 := fun u a d => by
  rw [hm.read_unread]
  refine (hw u a d).trans ?_
  simp

theorem tot_row {q : ℕ} {v : Vec Ideal S1x512x128 .f32} (h : Is3 (φ := .f32) (A := 1) (B := 512) (C := 128) v (fun _ a d => tot P b (128 * p + d) (512 * q + a))) :
    Is2 (k1_pay70 v) (fun r _ => ∑ s ∈ Finset.range 4096, ld (Zr P b p q r) (Tr q r) s) :=
  (tot_at (f := fun a d => tot P b (128 * p + d) (512 * q + a)) h).congr fun r _ hr _ => by
    rw [tot, Tr, show (128 * p + 64 * (r / 512)) / 64 = 2 * p + r / 512 by omega]
    rfl

theorem out_dq {q : ℕ} {A : FVec Ideal S1024x128 .f32}
    (h : Is2 A (fun r d => ∑ s ∈ Finset.range (256 * (2 * q + 1 + 1)), dz (Zr P b p q r) (Gr P D b p q r) (Tr q r) s * (1 / 8) * P b s (1280 + 128 * p + d))) (hq : q < 8) :
    Is2 (k1_pay1 A (iota .tc S1x128 32 [1] iota_S1x128_d1_w32) 64#32) (fun r d => dq P D b (512 * q + r) (128 * p + d)) :=
  Is2.congr (pick_y h) fun r d hr hd => by
    rw [dq, ← Finset.sum_subset (Finset.range_mono (show 256 * (2 * q + 1 + 1) ≤ 4096 by omega)) fun s _ hs => ?_]
    · refine Finset.sum_congr rfl fun s _ => ?_
      rw [z_row P b p q _ r hr, g_row P D b p q _ r hr, t_row q _ r hr, dzc, ← add_assoc 1280]
    · rw [dzc, dz_zero _ _ (by have := Finset.mem_range.not.mp hs; omega), zero_mul, zero_mul]

variable (P D b p) in
/-- What a grid point leaves in its three arrays. -/
def Pt (c : Dev nD) (V : (c : Dev nD) → (b : Ref sig .tc) → Buf (Elt Ideal) ((c : Thread nD τ).loc b)) (t : Fin cfg1.N) (o9 o10 : ℕ → ℕ → ℝ) : Prop :=
  Is2 (A := 512) (B := 128) (φ := .f32) (outsAt1 V c t.val t.isLt).1 (fun r d => dq P D b (512 * (grid1.coords t 2).val + r) (128 * p + d)) ∧
  Upto (outsAt1 V c t.val t.isLt).2.1 o9 (DK P D b p (grid1.coords t 2).val) (2 * (grid1.coords t 2).val + 1 + 1) ∧
  Upto (outsAt1 V c t.val t.isLt).2.2 o10 (DV P D b p (grid1.coords t 2).val) (2 * (grid1.coords t 2).val + 1 + 1)

variable (c : Dev nD) (V : (c : Dev nD) → (b : Ref sig .tc) → Buf (Elt Ideal) ((c : Thread nD τ).loc b)) (t : Fin cfg1.N)
  (g0 : Is2 (φ := .f32) (A := 512) (B := 128) (iblk1 V c 0 t) (fun a d => D b (512 * (grid1.coords t 2).val + a) (128 * p + d)))
  (g1 : Is3 (φ := .f32) (A := 1) (B := 512) (C := 128) (iblk1 V c 1 t) (fun _ a d => tot P b (128 * p + d) (512 * (grid1.coords t 2).val + a)))
  (g2 : Is3 (φ := .bf16) (A := 1) (B := 512) (C := 128) (iblk1 V c 2 t) (fun _ a d => P b (512 * (grid1.coords t 2).val + a) (1024 + 128 * p + d)))
  (g3 : Is3 (φ := .bf16) (A := 1) (B := 4096) (C := 128) (iblk1 V c 3 t) (fun _ a d => P b a (1280 + 128 * p + d)))
  (g4 : Is3 (φ := .bf16) (A := 1) (B := 4096) (C := 128) (iblk1 V c 4 t) (fun _ a d => P b a (1536 + 128 * p + d)))

include g0 g1 g2 g3 g4

theorem point_A (h : t.val % 8 = 0) :
    Pt P D b p c V t (fun _ _ => 0) (fun _ _ => 0) := by
  rw [Pt, outsAt1_A V c t h]
  frame_out
  have e2 := trips2 (grid1.coords t)
  have e1 := trips1 (grid1.coords t)
  unfold Scf.Loop.trips at e1 e2
  simp only [k1_t1_loop, k1_t2_loop] at e1 e2
  rw [e2, e1]
  clear e1 e2
  have i9 := init_zero (hs := inb_S1x4096x128_S1x4096x128_0_0_0) (ms1_6 t).view (DK P D b p (grid1.coords t 2).val) (zero_out (w := k1_pay66 (F := Ideal)) fun _ => zero_f32)
  have i10 := init_zero (hs := inb_S1x4096x128_S1x4096x128_0_0_0) (ms1_7 t).view (DV P D b p (grid1.coords t 2).val) (zero_out (w := k1_pay67 (F := Ideal)) fun _ => zero_f32)
  have hQ := qs_at g2
  have hG := dys_at g0
  have hT := tot_row g1
  obtain ⟨iv, r9, r10⟩ := loop_inv (grid1.coords t) g3 g4 hQ hG hT tri_incl Variants.none c none (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)
    (BitVec.ofNat 32 (grid1.coords t 2).val) ((ms1_6 t).view.writes (Elt Ideal) (ms1_6 t).view.junk [⟨Rect.unit ![0, 0, 0] ![1, 4096, 128] inb_S1x4096x128_S1x4096x128_0_0_0, k1_pay66 (F := Ideal)⟩]) ((ms1_7 t).view.writes (Elt Ideal) (ms1_7 t).view.junk [⟨Rect.unit ![0, 0, 0] ![1, 4096, 128] inb_S1x4096x128_S1x4096x128_0_0_0, k1_pay67 (F := Ideal)⟩]) i9 i10 _ le_rfl
  rw [← View.writes_append, View.read_writes_junk_eq_canon] at r9 r10
  obtain ⟨ha, hb, hc⟩ := tail (grid1.coords t) hQ hG hT tri_incl iv
    (ld_rows g3 (off3_0 (grid1.coords t)) (k1_off3_inb (grid1.coords t) 0)) (ld_rows g4 (off3_0 (grid1.coords t)) (k1_off3_inb (grid1.coords t) 0))
    (ld_rows g3 (off3_1 (grid1.coords t)) (k1_off3_inb (grid1.coords t) 1)) (ld_rows g4 (off3_1 (grid1.coords t)) (k1_off3_inb (grid1.coords t) 1))
    lay_canon lay_canon r9 r10 (k1_off3_inb (grid1.coords t) 0) (k1_off3_inb (grid1.coords t) 1)
  exact ⟨out_dq ha (grid1.coords t 2).isLt, hb, hc⟩

theorem point_B (h : ¬ t.val % 8 = 0)
    (w9 : Is3 (φ := .f32) (A := 1) (B := 4096) (C := 128) (outsAt1 V c (t.val - 1) (Nat.lt_of_le_of_lt (Nat.sub_le _ _) t.isLt)).2.1 (fun _ a d => o9 a d))
    (w10 : Is3 (φ := .f32) (A := 1) (B := 4096) (C := 128) (outsAt1 V c (t.val - 1) (Nat.lt_of_le_of_lt (Nat.sub_le _ _) t.isLt)).2.2 (fun _ a d => o10 a d)) :
    Pt P D b p c V t o9 o10 := by
  rw [Pt, outsAt1_B V c t h]
  frame_out
  have e2 := trips2 (grid1.coords t)
  have e1 := trips1 (grid1.coords t)
  unfold Scf.Loop.trips at e1 e2
  simp only [k1_t1_loop, k1_t2_loop] at e1 e2
  rw [e2, e1]
  clear e1 e2
  have i9 := init_prev (hs1_6 t) (DK P D b p (grid1.coords t 2).val) w9
  have i10 := init_prev (hs1_7 t) (DV P D b p (grid1.coords t 2).val) w10
  have hQ := qs_at g2
  have hG := dys_at g0
  have hT := tot_row g1
  obtain ⟨iv, r9, r10⟩ := loop_inv (grid1.coords t) g3 g4 hQ hG hT tri_incl Variants.none c none (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t)
    (BitVec.ofNat 32 (grid1.coords t 2).val) ((hs1_6 t).unread (outsAt1 V c (t.val - 1) (Nat.lt_of_le_of_lt (Nat.sub_le _ _) t.isLt)).2.1) ((hs1_7 t).unread (outsAt1 V c (t.val - 1) (Nat.lt_of_le_of_lt (Nat.sub_le _ _) t.isLt)).2.2) i9 i10 _ le_rfl
  obtain ⟨ha, hb, hc⟩ := tail (grid1.coords t) hQ hG hT tri_incl iv
    (ld_rows g3 (off3_0 (grid1.coords t)) (k1_off3_inb (grid1.coords t) 0)) (ld_rows g4 (off3_0 (grid1.coords t)) (k1_off3_inb (grid1.coords t) 0))
    (ld_rows g3 (off3_1 (grid1.coords t)) (k1_off3_inb (grid1.coords t) 1)) (ld_rows g4 (off3_1 (grid1.coords t)) (k1_off3_inb (grid1.coords t) 1))
    (lay_read (ms1_6 t).view ((hs1_6 t).unread (outsAt1 V c (t.val - 1) (Nat.lt_of_le_of_lt (Nat.sub_le _ _) t.isLt)).2.1)) (lay_read (ms1_7 t).view ((hs1_7 t).unread (outsAt1 V c (t.val - 1) (Nat.lt_of_le_of_lt (Nat.sub_le _ _) t.isLt)).2.2)) r9 r10 (k1_off3_inb (grid1.coords t) 0) (k1_off3_inb (grid1.coords t) 1)
  exact ⟨out_dq ha (grid1.coords t 2).isLt, hb, hc⟩

end Point

end Cert.SbIdeal.Bwd

end
-- ==== Proof.SbArr1.lean ====
/-
  What the backward kernel's grid leaves in its three arrays.
-/
module

public import proofs.«01_k».proof.Proof.SbBwdRun

@[expose] public section

set_option maxRecDepth 16384

noncomputable section

open Idealize.ShloMosaic Idealize.ShloMosaic.TcCoe Idealize.SL.Sem
open Idealize.ShloMosaic.Pipeline (Dat)

namespace Cert.SbIdeal.Bwd

open Cert.SbIdeal.Gen Cert.SbSpec Cert.Vals Cert.SbIdeal.Fwd

theorem idx : ∀ t : Fin cfg1.N, win1_0.index t = ![8 * (t.val / 16) + t.val % 8, t.val / 8 % 2] ∧ win1_1.index t = ![t.val / 8 % 2, 8 * (t.val / 16) + t.val % 8, 0]
    ∧ win1_2.index t = ![t.val / 16, t.val % 8, 8 + t.val / 8 % 2] ∧ win1_3.index t = ![t.val / 16, 0, 10 + t.val / 8 % 2]
    ∧ win1_4.index t = ![t.val / 16, 0, 12 + t.val / 8 % 2] ∧ win1_5.index t = ![8 * (t.val / 16) + t.val % 8, t.val / 8 % 2]
    ∧ win1_6.index t = ![t.val / 16, 0, t.val / 8 % 2] ∧ win1_7.index t = ![t.val / 16, 0, t.val / 8 % 2] :=
  (by decide +kernel : ∀ t : Fin grid1.N, _)

theorem coord2 : ∀ t : Fin cfg1.N, (grid1.coords t 2).val = t.val % 8 := (by decide +kernel : ∀ t : Fin grid1.N, (grid1.coords t 2).val = t.val % 8)

/-- A pair's later points are not where a result is written back. -/
theorem flush6 : ∀ t : Fin cfg1.N, win1_6.flush t = true → t.val % 8 = 7 := (by decide +kernel : ∀ t : Fin grid1.N, win1_6.flush t = true → t.val % 8 = 7)
theorem flush7 : ∀ t : Fin cfg1.N, win1_7.flush t = true → t.val % 8 = 7 := (by decide +kernel : ∀ t : Fin grid1.N, win1_7.flush t = true → t.val % 8 = 7)

variable (P D : ℕ → ℕ → ℕ → ℝ)

/-- A sum over tiles of 512. -/
theorem tiles (f : ℕ → ℝ) : ∀ n, ∑ q ∈ Finset.range n, ∑ r ∈ Finset.range 512, f (512 * q + r) = ∑ t ∈ Finset.range (512 * n), f t
  | 0 => by simp
  | n + 1 => by rw [Finset.sum_range_succ, tiles f n, show 512 * (n + 1) = 512 * n + 512 by ring, Finset.sum_range_add]

/-- The part of the tiles before `n`. -/
def sumK (b p n s d : ℕ) : ℝ := ∑ q ∈ Finset.range n, DK P D b p q s d
def sumV (b p n s d : ℕ) : ℝ := ∑ q ∈ Finset.range n, DV P D b p q s d

theorem sumK_all (b p s d : ℕ) : sumK P D b p 8 s d = dk P D b s (128 * p + d) := by
  refine (tiles (fun t => dzc P D b (128 * p + d) t s * (1 / 8) * P b t (1024 + 128 * p + d)) 8).trans ?_
  rw [dk, ← add_assoc 1024]
theorem sumV_all (b p s d : ℕ) : sumV P D b p 8 s d = dv P D b s (128 * p + d) :=
  tiles (fun t => wc P b (128 * p + d) t s * D b t (128 * p + d)) 8

theorem DK_zero (b p q s d : ℕ) (h : 512 * (q + 1) ≤ s) : DK P D b p q s d = 0 :=
  Finset.sum_eq_zero fun r hr => by rw [dzc, dz_zero _ _ (by have := Finset.mem_range.mp hr; omega), zero_mul, zero_mul]
theorem DV_zero (b p q s d : ℕ) (h : 512 * (q + 1) ≤ s) : DV P D b p q s d = 0 :=
  Finset.sum_eq_zero fun r hr => by rw [wc, wt_zero _ (by have := Finset.mem_range.mp hr; omega), zero_mul]

variable {P D}

theorem Upto.all {X : Vec Ideal S1x4096x128 .f32} {o g : ℕ → ℕ → ℝ} {q : ℕ} (h : Upto X o g (2 * q + 1 + 1)) (hg : ∀ s d, 512 * (q + 1) ≤ s → g s d = 0) :
    Is3 (φ := .f32) (A := 1) (B := 4096) (C := 128) X (fun _ a d => o a d + g a d) := fun u a d => by
  refine (h u a d).trans ?_
  dsimp only
  by_cases ha : a.val < 256 * (2 * q + 1 + 1)
  · rw [if_pos ha]
  · rw [if_neg ha, hg _ _ (by omega)]

variable (c : Dev nD) (V : (c : Dev nD) → (b : Ref sig .tc) → Buf (Elt Ideal) ((c : Thread nD τ).loc b)) (t : Fin cfg1.N)
variable (hX : ∀ (a : Fin 2) (b : Fin 4096) (d : Fin 2688), d.val < 2048 → ((V c main_v1 : FVec Ideal S2x4096x2688 .bf16) (ix3 a b d) : EReal) = ((P a.val b.val d.val : ℝ) : EReal))
  (hY : ∀ (r : Fin 8192) (d : Fin 256), ((V c main_v3 : FVec Ideal S8192x256 .f32) (ix2 r d) : EReal) = ((D (r.val / 4096) (r.val % 4096) d.val : ℝ) : EReal))
  (hT : ∀ (p : Fin 2) (r : Fin 8192) (d : Fin 128), ((V c main_v2_1 : FVec Ideal S2x8192x128 .f32) (ix3 p r d) : EReal) = ((tot P (r.val / 4096) (128 * p.val + d.val) (r.val % 4096) : ℝ) : EReal))

include hY in
theorem blk0 : Is2 (φ := .f32) (A := 512) (B := 128) (iblk1 V c 0 t) (fun a d => D (t.val / 16) (512 * (t.val % 8) + a) (128 * (t.val / 8 % 2) + d)) := fun r d => by
  have ht : t.val < 32 := t.isLt
  refine Eq.trans ?_ ((hY ⟨4096 * (t.val / 16) + (512 * (t.val % 8) + r.val), by omega⟩ ⟨128 * (t.val / 8 % 2) + d.val, by omega⟩).trans ?_)
  · blk_simp [iblk1, idx t]
    blk_ext [idx t]
  · dsimp only
    rw [show (4096 * (t.val / 16) + (512 * (t.val % 8) + r.val)) / 4096 = t.val / 16 by omega, show (4096 * (t.val / 16) + (512 * (t.val % 8) + r.val)) % 4096 = 512 * (t.val % 8) + r.val by omega]

include hT in
theorem blk1 : Is3 (φ := .f32) (A := 1) (B := 512) (C := 128) (iblk1 V c 1 t) (fun _ a d => tot P (t.val / 16) (128 * (t.val / 8 % 2) + d) (512 * (t.val % 8) + a)) := fun a r d => by
  have ht : t.val < 32 := t.isLt
  refine Eq.trans ?_ ((hT ⟨t.val / 8 % 2, by omega⟩ ⟨4096 * (t.val / 16) + (512 * (t.val % 8) + r.val), by omega⟩ d).trans ?_)
  · blk_simp [iblk1, idx t]
    blk_ext [idx t]
  · dsimp only
    rw [show (4096 * (t.val / 16) + (512 * (t.val % 8) + r.val)) / 4096 = t.val / 16 by omega, show (4096 * (t.val / 16) + (512 * (t.val % 8) + r.val)) % 4096 = 512 * (t.val % 8) + r.val by omega]

include hX

theorem blk2 : Is3 (φ := .bf16) (A := 1) (B := 512) (C := 128) (iblk1 V c 2 t) (fun _ a d => P (t.val / 16) (512 * (t.val % 8) + a) (1024 + 128 * (t.val / 8 % 2) + d)) := fun a r d => by
  have ht : t.val < 32 := t.isLt
  refine Eq.trans ?_ (hX ⟨t.val / 16, by omega⟩ ⟨512 * (t.val % 8) + r.val, by omega⟩ ⟨1024 + 128 * (t.val / 8 % 2) + d.val, by omega⟩ (by dsimp only; omega))
  blk_simp [iblk1, idx t]
  blk_ext [idx t]

theorem blk3 : Is3 (φ := .bf16) (A := 1) (B := 4096) (C := 128) (iblk1 V c 3 t) (fun _ a d => P (t.val / 16) a (1280 + 128 * (t.val / 8 % 2) + d)) := fun a r d => by
  have ht : t.val < 32 := t.isLt
  refine Eq.trans ?_ (hX ⟨t.val / 16, by omega⟩ ⟨r.val, by omega⟩ ⟨1280 + 128 * (t.val / 8 % 2) + d.val, by omega⟩ (by dsimp only; omega))
  blk_simp [iblk1, idx t]
  blk_ext [idx t]

theorem blk4 : Is3 (φ := .bf16) (A := 1) (B := 4096) (C := 128) (iblk1 V c 4 t) (fun _ a d => P (t.val / 16) a (1536 + 128 * (t.val / 8 % 2) + d)) := fun a r d => by
  have ht : t.val < 32 := t.isLt
  refine Eq.trans ?_ (hX ⟨t.val / 16, by omega⟩ ⟨r.val, by omega⟩ ⟨1536 + 128 * (t.val / 8 % 2) + d.val, by omega⟩ (by dsimp only; omega))
  blk_simp [iblk1, idx t]
  blk_ext [idx t]

include hY hT

/-- What every grid point leaves: its own tile of the queries' derivative, and the tiles up to its own in the other two. -/
theorem point : ∀ (n : ℕ) (hn : n < cfg1.N),
    Is2 (A := 512) (B := 128) (φ := .f32) (outsAt1 V c n hn).1 (fun r d => dq P D (n / 16) (512 * (n % 8) + r) (128 * (n / 8 % 2) + d)) ∧
    Is3 (φ := .f32) (A := 1) (B := 4096) (C := 128) (outsAt1 V c n hn).2.1 (fun _ a d => sumK P D (n / 16) (n / 8 % 2) (n % 8 + 1) a d) ∧
    Is3 (φ := .f32) (A := 1) (B := 4096) (C := 128) (outsAt1 V c n hn).2.2 (fun _ a d => sumV P D (n / 16) (n / 8 % 2) (n % 8 + 1) a d) := fun n => by
  induction n with
  | zero => intro hn; exact step 0 hn (fun h => absurd rfl h)
  | succ n ih =>
    intro hn
    exact step (n + 1) hn fun h => by
      obtain ⟨-, h1, h2⟩ := ih (by omega)
      rw [show (n + 1) / 16 = n / 16 by omega, show (n + 1) / 8 % 2 = n / 8 % 2 by omega, show (n + 1) % 8 = n % 8 + 1 by omega]
      exact ⟨h1, h2⟩
where
  step (n : ℕ) (hn : n < cfg1.N) (ih : n % 8 ≠ 0 →
      Is3 (φ := .f32) (A := 1) (B := 4096) (C := 128) (outsAt1 V c (n - 1) (Nat.lt_of_le_of_lt (Nat.sub_le _ _) hn)).2.1 (fun _ a d => sumK P D (n / 16) (n / 8 % 2) (n % 8) a d) ∧
      Is3 (φ := .f32) (A := 1) (B := 4096) (C := 128) (outsAt1 V c (n - 1) (Nat.lt_of_le_of_lt (Nat.sub_le _ _) hn)).2.2 (fun _ a d => sumV P D (n / 16) (n / 8 % 2) (n % 8) a d)) :
      Is2 (A := 512) (B := 128) (φ := .f32) (outsAt1 V c n hn).1 (fun r d => dq P D (n / 16) (512 * (n % 8) + r) (128 * (n / 8 % 2) + d)) ∧
      Is3 (φ := .f32) (A := 1) (B := 4096) (C := 128) (outsAt1 V c n hn).2.1 (fun _ a d => sumK P D (n / 16) (n / 8 % 2) (n % 8 + 1) a d) ∧
      Is3 (φ := .f32) (A := 1) (B := 4096) (C := 128) (outsAt1 V c n hn).2.2 (fun _ a d => sumV P D (n / 16) (n / 8 % 2) (n % 8 + 1) a d) := by
    have q0 := blk0 c V ⟨n, hn⟩ hY
    have q1 := blk1 c V ⟨n, hn⟩ hT
    have q2 := blk2 c V ⟨n, hn⟩ hX
    have q3 := blk3 c V ⟨n, hn⟩ hX
    have q4 := blk4 c V ⟨n, hn⟩ hX
    rw [← coord2 ⟨n, hn⟩] at q0 q1 q2
    by_cases h : n % 8 = 0
    · obtain ⟨ha, hb, hc⟩ := point_A c V ⟨n, hn⟩ q0 q1 q2 q3 q4 h
      rw [coord2 ⟨n, hn⟩] at ha hb hc
      refine ⟨ha, fun u a d => (Upto.all hb (fun s d => DK_zero P D _ _ _ s d) u a d).trans ?_, fun u a d => (Upto.all hc (fun s d => DV_zero P D _ _ _ s d) u a d).trans ?_⟩
      · dsimp only
        rw [sumK, Finset.sum_range_succ, h, Finset.sum_range_zero]
      · dsimp only
        rw [sumV, Finset.sum_range_succ, h, Finset.sum_range_zero]
    · obtain ⟨w9, w10⟩ := ih h
      obtain ⟨ha, hb, hc⟩ := point_B c V ⟨n, hn⟩ q0 q1 q2 q3 q4 h w9 w10
      rw [coord2 ⟨n, hn⟩] at ha hb hc
      refine ⟨ha, fun u a d => (Upto.all hb (fun s d => DK_zero P D _ _ _ s d) u a d).trans ?_, fun u a d => (Upto.all hc (fun s d => DV_zero P D _ _ _ s d) u a d).trans ?_⟩
      · dsimp only
        rw [sumK, sumK, Finset.sum_range_succ]
      · dsimp only
        rw [sumV, sumV, Finset.sum_range_succ]

/-- The derivative by the queries. -/
theorem arr_dq (r : Fin 8192) (d : Fin 256) : ((dat1 V c).arrAt 5 cfg1.N : FVec Ideal S8192x256 .f32) (ix2 r d) = ((dq P D (r.val / 4096) (r.val % 4096) d.val : ℝ) : EReal) := by
  refine (dat1 V c).arrAt_forall_of_covers 5 (fun (i : S8192x256.Idx) (v : EReal) => v = ((dq P D ((i 0).val / 4096) ((i 0).val % 4096) (i 1).val : ℝ) : EReal))
    (by decide +kernel) (fun t hf z => ?_) (ix2 r d)
  have ht : t.val < 32 := t.isLt
  obtain ⟨a, b, rfl⟩ : ∃ (a : Fin 512) (b : Fin 128), z = ix2 a b := ⟨z 0, z 1, eq_ix2 z⟩
  have h := (point c V hX hY hT t.val t.isLt).1 a b
  rw [← after1_5] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega,
    show t.val / 8 % 2 * 128 + b.val = 128 * (t.val / 8 % 2) + b.val by ring]

/-- The derivative by the keys. -/
theorem arr_dk (b : Fin 2) (s : Fin 4096) (d : Fin 256) : ((dat1 V c).arrAt 6 cfg1.N : FVec Ideal S2x4096x256 .f32) (ix3 b s d) = ((dk P D b.val s.val d.val : ℝ) : EReal) := by
  refine (dat1 V c).arrAt_forall_of_covers 6 (fun (i : S2x4096x256.Idx) (v : EReal) => v = ((dk P D (i 0).val (i 1).val (i 2).val : ℝ) : EReal))
    (by decide +kernel) (fun t hf z => ?_) (ix3 b s d)
  have ht : t.val < 32 := t.isLt
  obtain ⟨e, a, b, rfl⟩ : ∃ (e : Fin 1) (a : Fin 4096) (b : Fin 128), z = ix3 e a b := ⟨z 0, z 1, z 2, eq_ix3 z⟩
  have h := (point c V hX hY hT t.val t.isLt).2.1 e a b
  rw [← after1_6] at h
  dsimp only at h
  rw [flush6 t hf, sumK_all] at h
  blk_simp [idx t]
  refine h.trans ?_
  rw [show t.val / 8 % 2 * 128 + b.val = 128 * (t.val / 8 % 2) + b.val by ring]

/-- The derivative by the values. -/
theorem arr_dv (b : Fin 2) (s : Fin 4096) (d : Fin 256) : ((dat1 V c).arrAt 7 cfg1.N : FVec Ideal S2x4096x256 .f32) (ix3 b s d) = ((dv P D b.val s.val d.val : ℝ) : EReal) := by
  refine (dat1 V c).arrAt_forall_of_covers 7 (fun (i : S2x4096x256.Idx) (v : EReal) => v = ((dv P D (i 0).val (i 1).val (i 2).val : ℝ) : EReal))
    (by decide +kernel) (fun t hf z => ?_) (ix3 b s d)
  have ht : t.val < 32 := t.isLt
  obtain ⟨e, a, b, rfl⟩ : ∃ (e : Fin 1) (a : Fin 4096) (b : Fin 128), z = ix3 e a b := ⟨z 0, z 1, z 2, eq_ix3 z⟩
  have h := (point c V hX hY hT t.val t.isLt).2.2 e a b
  rw [← after1_7] at h
  dsimp only at h
  rw [flush7 t hf, sumV_all] at h
  blk_simp [idx t]
  refine h.trans ?_
  rw [show t.val / 8 % 2 * 128 + b.val = 128 * (t.val / 8 % 2) + b.val by ring]

end Cert.SbIdeal.Bwd

end
-- ==== Proof.Cumsum.lean ====
/-
  The host's running sum along the last of four axes, as a window sum of the whole length padded by one
  less on one side: at the extended reals it is the sum of a prefix, or of a suffix.
-/
module

public import Idealize.ShloMosaic.Lib.Pipeline.ValueKit

@[expose] public section

noncomputable section

open Idealize.ShloMosaic

namespace Cert.Cumsum

theorem foldl_add {ι : Type*} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The one row of indices of a window one wide on three axes. -/
def row (N : ℕ) : Fin N ≃ Shape.Idx ⟨4, ![1, 1, 1, N]⟩ where
  toFun k := ix4 (0 : Fin 1) (0 : Fin 1) (0 : Fin 1) k
  invFun q := q 3
  left_inv k := rfl
  right_inv q := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window sum along the last axis, at any padding. -/
theorem window_sum {A B C N lo hi : ℕ} (x : FVec Ideal ⟨4, ![A, B, C, N]⟩ .f32) (init : (⟨0, ![]⟩ : Shape).Idx → Ideal .f32)
    (h : (⟨4, ![A, B, C, N]⟩ : Shape).ReduceWindows (![1, 1, 1, N] : Fin 4 → ℕ) ![1, 1, 1, 1] ![0, 0, 0, lo] ![0, 0, 0, hi] ⟨4, ![A, B, C, N]⟩)
    (hu : 0 < (⟨0, ![]⟩ : Shape).numel) (hinit : ∀ i, init i = (0 : EReal)) (a : Fin A) (b : Fin B) (c : Fin C) (j : Fin N) :
    Host.reduceWindowAdd ![1, 1, 1, N] ![1, 1, 1, 1] ![0, 0, 0, lo] ![0, 0, 0, hi] x init h hu (ix4 a b c j)
      = ∑ k : Fin N, if hk : lo ≤ j.val + k.val ∧ j.val + k.val - lo < N then x (ix4 a b c ⟨j.val + k.val - lo, hk.2⟩) else (0 : EReal) := by
  unfold Host.reduceWindowAdd
  rw [Ideal.hostReduceWindowAdd_def, hinit]
  unfold Ideal.hostReduceWindowAdd Host.reduceWindow
  dsimp only
  rw [foldl_add, zero_add, ← Fin.sum_univ_def]
  rw [← Equiv.sum_comp ((row N).trans (Shape.rowMajor ⟨4, ![1, 1, 1, N]⟩))]
  refine Finset.sum_congr rfl fun k _ => ?_
  have e := Equiv.symm_apply_apply (Shape.rowMajor ⟨4, ![1, 1, 1, N]⟩) (row N k)
  rw [Equiv.trans_apply]
  set q := (Shape.rowMajor ⟨4, ![1, 1, 1, N]⟩).symm ((Shape.rowMajor ⟨4, ![1, 1, 1, N]⟩) (row N k)) with hq
  have e0 : (q 0).val = 0 := by rw [e]; rfl
  have e1 : (q 1).val = 0 := by rw [e]; rfl
  have e2 : (q 2).val = 0 := by rw [e]; rfl
  have e3 : (q 3).val = k.val := by rw [e]; rfl
  have ha := a.isLt
  have hb := b.isLt
  have hc := c.isLt
  by_cases hk : lo ≤ j.val + k.val ∧ j.val + k.val - lo < N
  · rw [dif_pos hk, dif_pos (fun e => by
      match e with
      | ⟨0, _⟩ => show 0 ≤ a.val * 1 + (q 0).val ∧ a.val * 1 + (q 0).val - 0 < A; omega
      | ⟨1, _⟩ => show 0 ≤ b.val * 1 + (q 1).val ∧ b.val * 1 + (q 1).val - 0 < B; omega
      | ⟨2, _⟩ => show 0 ≤ c.val * 1 + (q 2).val ∧ c.val * 1 + (q 2).val - 0 < C; omega
      | ⟨3, _⟩ => show lo ≤ j.val * 1 + (q 3).val ∧ j.val * 1 + (q 3).val - lo < N; omega)]
    refine congrArg x (funext fun e => Fin.ext ?_)
    match e with
    | ⟨0, _⟩ => show a.val * 1 + (q 0).val - 0 = a.val; omega
    | ⟨1, _⟩ => show b.val * 1 + (q 1).val - 0 = b.val; omega
    | ⟨2, _⟩ => show c.val * 1 + (q 2).val - 0 = c.val; omega
    | ⟨3, _⟩ => show j.val * 1 + (q 3).val - lo = j.val + k.val - lo; omega
  · rw [dif_neg hk, dif_neg fun hin => hk (by
      have h3 : lo ≤ j.val * 1 + (q 3).val ∧ j.val * 1 + (q 3).val - lo < N := hin 3
      omega)]

/-- The running sum from the last place down: the sum of a suffix. -/
theorem suffix {A B C N hi : ℕ} (x : FVec Ideal ⟨4, ![A, B, C, N]⟩ .f32) (init : (⟨0, ![]⟩ : Shape).Idx → Ideal .f32)
    (h : (⟨4, ![A, B, C, N]⟩ : Shape).ReduceWindows (![1, 1, 1, N] : Fin 4 → ℕ) ![1, 1, 1, 1] ![0, 0, 0, 0] ![0, 0, 0, hi] ⟨4, ![A, B, C, N]⟩)
    (hu : 0 < (⟨0, ![]⟩ : Shape).numel) (hinit : ∀ i, init i = (0 : EReal)) (a : Fin A) (b : Fin B) (c : Fin C) (j : Fin N)
    (f : ℕ → ℝ) (hf : ∀ k : Fin N, x (ix4 a b c k) = ((f k.val : ℝ) : EReal)) :
    Host.reduceWindowAdd ![1, 1, 1, N] ![1, 1, 1, 1] ![0, 0, 0, 0] ![0, 0, 0, hi] x init h hu (ix4 a b c j)
      = ((∑ k ∈ Finset.Ico j.val N, f k : ℝ) : EReal) := by
  rw [window_sum x init h hu hinit]
  have e : ∀ k : Fin N, (if hk : 0 ≤ j.val + k.val ∧ j.val + k.val - 0 < N then x (ix4 a b c ⟨j.val + k.val - 0, hk.2⟩) else (0 : EReal))
      = (((fun k => if j.val + k < N then f (j.val + k) else 0) k.val : ℝ) : EReal) := fun k => by
    by_cases hk : j.val + k.val < N
    · rw [dif_pos ⟨Nat.zero_le _, hk⟩, hf]; simp [hk]
    · rw [dif_neg fun hh => hk hh.2]; simp [hk]
  rw [Finset.sum_congr rfl fun k _ => e k, Fin.sum_univ_eq_sum_range (fun n => (((if j.val + n < N then f (j.val + n) else 0 : ℝ)) : EReal)) N]
  have hs : ∀ (s : Finset ℕ) (g : ℕ → ℝ), ∑ i ∈ s, ((g i : ℝ) : EReal) = ((∑ i ∈ s, g i : ℝ) : EReal) := fun s g => by
    induction s using Finset.induction_on with
    | empty => simp
    | insert a s ha ih => rw [Finset.sum_insert ha, Finset.sum_insert ha, EReal.coe_add, ih]
  rw [hs, ← Finset.sum_filter, Finset.sum_Ico_eq_sum_range]
  congr 1
  refine Finset.sum_congr (Finset.ext fun n => ?_) fun _ _ => rfl
  rw [Finset.mem_filter, Finset.mem_range, Finset.mem_range]
  have := j.isLt
  omega

/-- The running sum: the sum of a prefix. -/
theorem prefix_sum {A B C N lo : ℕ} (hN : lo + 1 = N) (x : FVec Ideal ⟨4, ![A, B, C, N]⟩ .f32) (init : (⟨0, ![]⟩ : Shape).Idx → Ideal .f32)
    (h : (⟨4, ![A, B, C, N]⟩ : Shape).ReduceWindows (![1, 1, 1, N] : Fin 4 → ℕ) ![1, 1, 1, 1] ![0, 0, 0, lo] ![0, 0, 0, 0] ⟨4, ![A, B, C, N]⟩)
    (hu : 0 < (⟨0, ![]⟩ : Shape).numel) (hinit : ∀ i, init i = (0 : EReal)) (a : Fin A) (b : Fin B) (c : Fin C) (j : Fin N)
    (f : ℕ → ℝ) (hf : ∀ k : Fin N, x (ix4 a b c k) = ((f k.val : ℝ) : EReal)) :
    Host.reduceWindowAdd ![1, 1, 1, N] ![1, 1, 1, 1] ![0, 0, 0, lo] ![0, 0, 0, 0] x init h hu (ix4 a b c j)
      = ((∑ k ∈ Finset.range (j.val + 1), f k : ℝ) : EReal) := by
  have hj := j.isLt
  rw [window_sum x init h hu hinit]
  have e : ∀ k : Fin N, (if hk : lo ≤ j.val + k.val ∧ j.val + k.val - lo < N then x (ix4 a b c ⟨j.val + k.val - lo, hk.2⟩) else (0 : EReal))
      = (((fun k => if lo ≤ j.val + k then f (j.val + k - lo) else 0) k.val : ℝ) : EReal) := fun k => by
    have hk' := k.isLt
    by_cases hk : lo ≤ j.val + k.val
    · rw [dif_pos ⟨hk, by omega⟩, hf]; simp [hk]
    · rw [dif_neg fun hh => hk hh.1]; simp [hk]
  rw [Finset.sum_congr rfl fun k _ => e k, Fin.sum_univ_eq_sum_range (fun n => (((if lo ≤ j.val + n then f (j.val + n - lo) else 0 : ℝ)) : EReal)) N]
  have hs : ∀ (s : Finset ℕ) (g : ℕ → ℝ), ∑ i ∈ s, ((g i : ℝ) : EReal) = ((∑ i ∈ s, g i : ℝ) : EReal) := fun s g => by
    induction s using Finset.induction_on with
    | empty => simp
    | insert a s ha ih => rw [Finset.sum_insert ha, Finset.sum_insert ha, EReal.coe_add, ih]
  rw [hs, ← Finset.sum_filter]
  congr 1
  refine Finset.sum_nbij' (fun n => j.val + n - lo) (fun n => n + lo - j.val) ?_ ?_ ?_ ?_ ?_
  · intro n hn; rw [Finset.mem_filter, Finset.mem_range] at hn; rw [Finset.mem_range]; omega
  · intro n hn; rw [Finset.mem_range] at hn; rw [Finset.mem_filter, Finset.mem_range]; omega
  · intro n hn; rw [Finset.mem_filter, Finset.mem_range] at hn; omega
  · intro n hn; rw [Finset.mem_range] at hn; omega
  · intro n hn; rfl

end Cert.Cumsum

end
-- ==== Proof.SbRef.lean ====
/-
  The reference of stick-breaking attention: its output and three gradients, at finite arguments, are
  the real functions of `SbSpec`.
-/
module

public import proofs.«01_k».proof.Proof.Gen.SbRefIdeal.Read
public import proofs.«01_k».proof.Proof.SbSpec
public import proofs.«01_k».proof.Proof.Cumsum
public import Idealize.ShloMosaic.Lib.WordCmp

@[expose] public section

set_option maxRecDepth 16384

noncomputable section

open Idealize.ShloMosaic

namespace Cert.SbRefIdeal.At

open Cert.SbRefIdeal.Read Cert.SbSpec

/-- A host softplus at one element. -/
theorem softplus_elem (x : ℝ) :
    (Scalar.select (FloatOps.cmpf (F := Ideal) (φ := .f32) .une (FloatOps.subf (F := Ideal) (φ := .f32) (x : EReal) (FloatOps.ofBits .f32 0x00000000#32)) (FloatOps.subf (F := Ideal) (φ := .f32) (x : EReal) (FloatOps.ofBits .f32 0x00000000#32)))
      (FloatOps.addf (F := Ideal) (φ := .f32) (x : EReal) (FloatOps.ofBits .f32 0x00000000#32))
      (FloatOps.addf (F := Ideal) (φ := .f32) (FloatOps.maximumf (F := Ideal) (φ := .f32) (x : EReal) (FloatOps.ofBits .f32 0x00000000#32))
        (FloatOps.hostUnary (F := Ideal) (φ := .f32) .log1p (FloatOps.hostUnary (F := Ideal) (φ := .f32) .exp (FloatOps.hostNegf (F := Ideal) (φ := .f32) (FloatOps.hostAbsf (F := Ideal) (φ := .f32) (FloatOps.subf (F := Ideal) (φ := .f32) (x : EReal) (FloatOps.ofBits .f32 0x00000000#32))))))) : EReal)
    = ((sp x : ℝ) : EReal) := by
  rw [Ideal.cmpf_def, Ideal.cmp_une, Ideal.ofBits_def, Ideal.ofBits_zero_f32]
  simp only [ne_eq, not_true_eq_false, decide_false]
  show max (x : EReal) 0 + Ideal.log (1 + Ideal.exp (-(max ((x : EReal) - 0) (-((x : EReal) - 0))))) = _
  rw [sub_zero, ← zero_sub]
  exact sp_coe x

/-- A number replaced by zero where it is infinite, at a finite number. -/
theorem drop_inf (x : ℝ) :
    (Scalar.select (FloatOps.cmpf (F := Ideal) (φ := .f32) .oeq (x : EReal) (FloatOps.ofBits .f32 0x7F800000#32)) (FloatOps.ofBits (F := Ideal) .f32 0x00000000#32) (x : EReal) : EReal)
    = (x : EReal) := by
  rw [Ideal.cmpf_def, Ideal.cmp_oeq, Ideal.ofBits_def, show Ideal.ofBits .f32 0x7F800000#32 = (⊤ : EReal) by simp [Ideal.ofBits, Ideal.ieee], decide_eq_false (EReal.coe_ne_top x)]
  rfl

theorem eighth : (FloatOps.ofBits (F := Ideal) .f32 0x3E000000#32 : EReal) = (((1 / 8 : ℝ)) : EReal) := by
  rw [Ideal.ofBits_def]; simp [Ideal.ofBits, Ideal.ieee, -EReal.coe_mul]; norm_num

theorem at3 (f : ℕ → ℕ → ℕ → ℝ) {a b c a' b' c' : ℕ} (ha : a = a') (hb : b = b') (hc : c = c') :
    ((f a b c : ℝ) : EReal) = ((f a' b' c' : ℝ) : EReal) := by rw [ha, hb, hc]

theorem at4 (f : ℕ → ℕ → ℕ → ℕ → ℝ) {a b c d a' b' c' d' : ℕ} (ha : a = a') (hb : b = b') (hc : c = c') (hd : d = d') :
    ((f a b c d : ℝ) : EReal) = ((f a' b' c' d' : ℝ) : EReal) := by rw [ha, hb, hc, hd]

theorem dot_coe {n : ℕ} (f g : ℕ → ℝ) :
    ∑ k : Fin n, ((f k.val : ℝ) : EReal) * ((g k.val : ℝ) : EReal) = ((∑ k ∈ Finset.range n, f k * g k : ℝ) : EReal) := by
  simp only [← EReal.coe_mul]
  rw [Fin.sum_univ_eq_sum_range (fun k => ((f k * g k : ℝ) : EReal)) n, coe_sum]

variable {x0 : (⟨S2x4096x256, .f32⟩ : BufTy).Contents (Elt Ideal)} {x1 : (⟨S2x4096x2564, .f32⟩ : BufTy).Contents (Elt Ideal)}
variable {P D : ℕ → ℕ → ℕ → ℝ}

section Proj

variable (hP : ∀ i : S2x4096x2564.Idx, (x1 i : EReal) = ((P (i 0).val (i 1).val (i 2).val : ℝ) : EReal))
include hP

theorem q_at (i : S2x4x4096x64.Idx) :
    (val_main_v4 (F := Ideal) x1 i : EReal) = ((P (i 0).val (i 2).val (1024 + 64 * (i 1).val + (i 3).val) : ℝ) : EReal) := by
  have h0 : (i 0).val < 2 := (i 0).isLt
  have h1 : (i 1).val < 4 := (i 1).isLt
  have h2 : (i 2).val < 4096 := (i 2).isLt
  have h3 : (i 3).val < 64 := (i 3).isLt
  rw [val_main_v4_apply, val_main_v3_apply, val_main_v0_apply, hP]
  exact at3 P
    (show ((((i 0).val * 4096 + (i 2).val) * 4 + (i 1).val) * 64 + (i 3).val) / 1048576 = (i 0).val by omega)
    (show ((((i 0).val * 4096 + (i 2).val) * 4 + (i 1).val) * 64 + (i 3).val) / 256 % 4096 = (i 2).val by omega)
    (show 1024 + ((((i 0).val * 4096 + (i 2).val) * 4 + (i 1).val) * 64 + (i 3).val) % 256 = _ by omega)

theorem k_at (i : S2x4x4096x64.Idx) :
    (val_main_v6 (F := Ideal) x1 i : EReal) = ((P (i 0).val (i 2).val (1280 + 64 * (i 1).val + (i 3).val) : ℝ) : EReal) := by
  have h0 : (i 0).val < 2 := (i 0).isLt
  have h1 : (i 1).val < 4 := (i 1).isLt
  have h2 : (i 2).val < 4096 := (i 2).isLt
  have h3 : (i 3).val < 64 := (i 3).isLt
  rw [val_main_v6_apply, val_main_v5_apply, val_main_v1_apply, hP]
  exact at3 P
    (show ((((i 0).val * 4096 + (i 2).val) * 4 + (i 1).val) * 64 + (i 3).val) / 1048576 = (i 0).val by omega)
    (show ((((i 0).val * 4096 + (i 2).val) * 4 + (i 1).val) * 64 + (i 3).val) / 256 % 4096 = (i 2).val by omega)
    (show 1280 + ((((i 0).val * 4096 + (i 2).val) * 4 + (i 1).val) * 64 + (i 3).val) % 256 = _ by omega)

theorem v_at (i : S2x4x4096x64.Idx) :
    (val_main_v8 (F := Ideal) x1 i : EReal) = ((P (i 0).val (i 2).val (1536 + 64 * (i 1).val + (i 3).val) : ℝ) : EReal) := by
  have h0 : (i 0).val < 2 := (i 0).isLt
  have h1 : (i 1).val < 4 := (i 1).isLt
  have h2 : (i 2).val < 4096 := (i 2).isLt
  have h3 : (i 3).val < 64 := (i 3).isLt
  rw [val_main_v8_apply, val_main_v7_apply, val_main_v2_apply, hP]
  exact at3 P
    (show ((((i 0).val * 4096 + (i 2).val) * 4 + (i 1).val) * 64 + (i 3).val) / 1048576 = (i 0).val by omega)
    (show ((((i 0).val * 4096 + (i 2).val) * 4 + (i 1).val) * 64 + (i 3).val) / 256 % 4096 = (i 2).val by omega)
    (show 1536 + ((((i 0).val * 4096 + (i 2).val) * 4 + (i 1).val) * 64 + (i 3).val) % 256 = _ by omega)

/-- The logits. -/
theorem z_at (i : S2x4x4096x4096.Idx) :
    (val_main_v11 (F := Ideal) x1 i : EReal) = ((zr P (i 0).val (i 1).val (i 2).val (i 3).val : ℝ) : EReal) := by
  rw [val_main_v11_apply, val_main_v10_apply, val_main_cst_apply, eighth, val_main_v9_apply]
  have e : ∀ k : Fin 64, (val_main_v4 (F := Ideal) x1 (lidx_main_v9 i k) : EReal) * (val_main_v6 (F := Ideal) x1 (ridx_main_v9 i k) : EReal)
      = ((P (i 0).val (i 2).val (1024 + 64 * (i 1).val + k.val) : ℝ) : EReal) * ((P (i 0).val (i 3).val (1280 + 64 * (i 1).val + k.val) : ℝ) : EReal) :=
    fun k => Ideal.mul_congr (q_at hP _) (k_at hP _)
  show (∑ k : Fin 64, (val_main_v4 (F := Ideal) x1 (lidx_main_v9 i k) : EReal) * (val_main_v6 (F := Ideal) x1 (ridx_main_v9 i k) : EReal)) * _ = _
  rw [Finset.sum_congr rfl fun k _ => e k, dot_coe (fun k => P (i 0).val (i 2).val (1024 + 64 * (i 1).val + k)) (fun k => P (i 0).val (i 3).val (1280 + 64 * (i 1).val + k)), ← EReal.coe_mul]
  rfl

/-- The softplus of the logits' negation. -/
theorem sp0_at (i : S2x4x4096x4096.Idx) :
    (val_main_call0_v1_0 (F := Ideal) x1 i : EReal) = ((sp (-zr P (i 0).val (i 1).val (i 2).val (i 3).val) : ℝ) : EReal) := by
  have hz : (val_main_call0_v0 (F := Ideal) x1 i : EReal) = ((-zr P (i 0).val (i 1).val (i 2).val (i 3).val : ℝ) : EReal) := by
    rw [EReal.coe_neg, ← z_at hP i]; rfl
  simp only [val_main_call0_v1_0_apply, val_main_call0_call0_v4_apply, val_main_call0_call0_v6_apply, val_main_call0_call0_v11_apply,
    val_main_call0_call0_v3_apply, val_main_call0_call0_v1_apply, val_main_call0_call0_v10_apply, val_main_call0_call0_v9_apply,
    val_main_call0_call0_v8_apply, val_main_call0_call0_v7_apply, val_main_call0_call0_v5_apply, val_main_call0_call0_v2_apply,
    val_main_call0_call0_v0_apply, val_main_call0_call0_cst_apply]
  rw [hz]
  exact softplus_elem _

/-- The softplus of the logits. -/
theorem sp1_at (i : S2x4x4096x4096.Idx) :
    (val_main_call1_v1_0 (F := Ideal) x1 i : EReal) = ((sp (zr P (i 0).val (i 1).val (i 2).val (i 3).val) : ℝ) : EReal) := by
  have hz : (val_main_call1_v0 (F := Ideal) x1 i : EReal) = ((zr P (i 0).val (i 1).val (i 2).val (i 3).val : ℝ) : EReal) := by
    rw [← z_at hP i]; exact neg_neg (val_main_v11 (F := Ideal) x1 i : EReal)
  simp only [val_main_call1_v1_0_apply, val_main_call1_call0_v4_apply, val_main_call1_call0_v6_apply, val_main_call1_call0_v11_apply,
    val_main_call1_call0_v3_apply, val_main_call1_call0_v1_apply, val_main_call1_call0_v10_apply, val_main_call1_call0_v9_apply,
    val_main_call1_call0_v8_apply, val_main_call1_call0_v7_apply, val_main_call1_call0_v5_apply, val_main_call1_call0_v2_apply,
    val_main_call1_call0_v0_apply, val_main_call1_call0_cst_apply]
  rw [hz]
  exact softplus_elem _

/-- The logistic of the logits' negation, the saved factor of the first logarithm's derivative. -/
theorem sg0_at (i : S2x4x4096x4096.Idx) :
    (val_main_v18_1 (F := Ideal) x1 i : EReal) = ((sg (-zr P (i 0).val (i 1).val (i 2).val (i 3).val) : ℝ) : EReal) := by
  have hz : (val_main_call0_v0 (F := Ideal) x1 i : EReal) = ((-zr P (i 0).val (i 1).val (i 2).val (i 3).val : ℝ) : EReal) := by
    rw [EReal.coe_neg, ← z_at hP i]; rfl
  simp only [val_main_v18_1_apply, val_main_call0_call0_v21_apply, val_main_call0_call0_v20_apply, val_main_call0_call0_v16_apply,
    val_main_call0_call0_v14_apply, val_main_call0_call0_v18_apply, val_main_call0_call0_v13_apply, val_main_call0_call0_v17_apply,
    val_main_call0_call0_v15_apply, val_main_call0_call0_v19_apply, val_main_call0_call0_cst_0_apply, val_main_call0_call0_cst_1_apply,
    val_main_call0_call0_cst_2_apply, val_main_call0_call0_cst_3_apply]
  rw [sp0_at hP i, hz]
  refine (congrArg Ideal.exp (congrArg₂ (fun a b : EReal => a - b) (drop_inf _) (drop_inf _))).trans ?_
  rw [← EReal.coe_sub, Ideal.exp_coe]
  rfl

theorem sg1_at (i : S2x4x4096x4096.Idx) :
    (val_main_v20_1 (F := Ideal) x1 i : EReal) = ((sg (zr P (i 0).val (i 1).val (i 2).val (i 3).val) : ℝ) : EReal) := by
  have hz : (val_main_call1_v0 (F := Ideal) x1 i : EReal) = ((zr P (i 0).val (i 1).val (i 2).val (i 3).val : ℝ) : EReal) := by
    rw [← z_at hP i]; exact neg_neg (val_main_v11 (F := Ideal) x1 i : EReal)
  simp only [val_main_v20_1_apply, val_main_call1_call0_v21_apply, val_main_call1_call0_v20_apply, val_main_call1_call0_v16_apply,
    val_main_call1_call0_v14_apply, val_main_call1_call0_v18_apply, val_main_call1_call0_v13_apply, val_main_call1_call0_v17_apply,
    val_main_call1_call0_v15_apply, val_main_call1_call0_v19_apply, val_main_call1_call0_cst_0_apply, val_main_call1_call0_cst_1_apply,
    val_main_call1_call0_cst_2_apply, val_main_call1_call0_cst_3_apply]
  rw [sp1_at hP i, hz]
  refine (congrArg Ideal.exp (congrArg₂ (fun a b : EReal => a - b) (drop_inf _) (drop_inf _))).trans ?_
  rw [← EReal.coe_sub, Ideal.exp_coe]
  rfl

omit hP in
/-- The mask of the keys before the query. -/
theorem mask_at {α : Type} (i : S2x4x4096x4096.Idx) (a b : α) :
    Scalar.select (val_main_v21_1 (F := Ideal) i) a b
      = if (i 3).val < (i 2).val then a else b := by
  have h2 : (i 2).val < 4096 := (i 2).isLt
  have h3 : (i 3).val < 4096 := (i 3).isLt
  rw [val_main_v21_1_apply, val_main_v17_apply, val_main_v16_apply, val_main_v15_apply, val_main_v13_apply, val_main_v14_apply, val_main_v12_apply, val_main_v12_apply]
  show Scalar.select (IntOp.cmpi .slt (BitVec.ofNat 32 (i 3).val) (BitVec.ofNat 32 (i 2).val)) a b = _
  rw [WordCmp.cmpi_slt_ofNat (by omega) (by omega)]
  by_cases h : (i 3).val < (i 2).val <;> simp [h, Scalar.select]

omit hP in
theorem zero_bits : (FloatOps.ofBits (F := Ideal) .f32 0x00000000#32 : EReal) = ((0 : ℝ) : EReal) := by
  rw [Ideal.ofBits_def, Ideal.ofBits_zero_f32]; rfl

omit hP in
theorem ite_coe (p : Prop) [Decidable p] (a b : ℝ) : (if p then (a : EReal) else (b : EReal)) = ((if p then a else b : ℝ) : EReal) := by
  split_ifs <;> rfl

/-- The logarithms, zero outside the mask. -/
theorem ld_at (i : S2x4x4096x4096.Idx) :
    (val_main_v21_0 (F := Ideal) x1 i : EReal) = ((ld (zr P (i 0).val (i 1).val (i 2).val) (i 2).val (i 3).val : ℝ) : EReal) := by
  rw [val_main_v21_0_apply, mask_at, val_main_call2_v2_apply, val_main_v20_0_apply]
  show (if _ then -(val_main_call1_v1_0 (F := Ideal) x1 i : EReal) else (FloatOps.ofBits (F := Ideal) .f32 0x00000000#32 : EReal)) = _
  rw [sp1_at hP, zero_bits, ← EReal.coe_neg, ite_coe]
  rfl

/-- The sum of the later logarithms. -/
theorem aft_at (i : S2x4x4096x4096.Idx) :
    (val_main_v23 (F := Ideal) x1 i : EReal) = ((aft (zr P (i 0).val (i 1).val (i 2).val) (i 2).val (i 3).val : ℝ) : EReal) := by
  obtain ⟨b, h, t, s, rfl⟩ : ∃ (b : Fin 2) (h : Fin 4) (t s : Fin 4096), i = ix4 b h t s := ⟨i 0, i 1, i 2, i 3, eq_ix4 i⟩
  have hs := s.isLt
  have e : (val_main_v22 (F := Ideal) x1 (ix4 b h t s) : EReal) = _ :=
    Cumsum.suffix _ _ _ _ (fun _ => by rw [val_main_call3_v0_apply, val_main_call3_cst_apply, zero_bits]; rfl) b h t s
      (fun k => ld (zr P b.val h.val t.val) t.val k) (fun k => ld_at hP (ix4 b h t k))
  rw [val_main_v23_apply]
  show (val_main_v22 (F := Ideal) x1 (ix4 b h t s) : EReal) - (val_main_v21_0 (F := Ideal) x1 (ix4 b h t s) : EReal) = _
  rw [e, ld_at hP, ← EReal.coe_sub, Finset.sum_eq_sum_Ico_succ_bot hs]
  refine congrArg _ ?_
  show ld (zr P b.val h.val t.val) t.val s.val + _ - ld (zr P b.val h.val t.val) t.val s.val = _
  rw [add_sub_cancel_left]
  rfl

/-- The exponentials. -/
theorem ex_at (i : S2x4x4096x4096.Idx) :
    (val_main_v25 (F := Ideal) x1 i : EReal)
      = ((Real.exp (zr P (i 0).val (i 1).val (i 2).val (i 3).val - sp (zr P (i 0).val (i 1).val (i 2).val (i 3).val)
          + aft (zr P (i 0).val (i 1).val (i 2).val) (i 2).val (i 3).val) : ℝ) : EReal) := by
  rw [val_main_v25_apply, val_main_v24_apply, val_main_v18_0_apply]
  show Ideal.exp (-(val_main_call0_v1_0 (F := Ideal) x1 i : EReal) + (val_main_v23 (F := Ideal) x1 i : EReal)) = _
  rw [sp0_at hP, aft_at hP, ← EReal.coe_neg, ← EReal.coe_add, Ideal.exp_coe, sp_neg, neg_sub]

/-- The weights. -/
theorem wt_at (i : S2x4x4096x4096.Idx) :
    (val_main_v26_0 (F := Ideal) x1 i : EReal) = ((wt (zr P (i 0).val (i 1).val (i 2).val) (i 2).val (i 3).val : ℝ) : EReal) := by
  rw [val_main_v26_0_apply, show val_main_v26_1 (F := Ideal) i = val_main_v21_1 (F := Ideal) i from rfl, mask_at, val_main_call4_v2_apply]
  show (if _ then (val_main_v25 (F := Ideal) x1 i : EReal) else (FloatOps.ofBits (F := Ideal) .f32 0x00000000#32 : EReal)) = _
  rw [ex_at hP, zero_bits, ite_coe]
  rfl

/-- The output, by heads. -/
def yh (P : ℕ → ℕ → ℕ → ℝ) (b h t d : ℕ) : ℝ := ∑ s ∈ Finset.range 4096, wt (zr P b h t) t s * P b s (1536 + 64 * h + d)

/-- The output of the heads. -/
theorem yh_at (i : S2x4x4096x64.Idx) :
    (val_main_v27 (F := Ideal) x1 i : EReal) = ((yh P (i 0).val (i 1).val (i 2).val (i 3).val : ℝ) : EReal) := by
  rw [val_main_v27_apply]
  exact (Finset.sum_congr rfl fun k _ => Ideal.mul_congr (wt_at hP _) (v_at hP _)).trans
    (dot_coe (fun k => wt (zr P (i 0).val (i 1).val (i 2).val) (i 2).val k) (fun k => P (i 0).val k (1536 + 64 * (i 1).val + (i 3).val)))

omit hP in
theorem y_eq (b t c : ℕ) : yh P b (c / 64) t (c % 64) = y P b t c :=
  Finset.sum_congr rfl fun s _ => by unfold wc; rw [show 1536 + 64 * (c / 64) + c % 64 = 1536 + c by omega]

/-- The output. -/
theorem y_at (i : S8192x256.Idx) :
    (val_main_v55 (F := Ideal) x1 i : EReal) = ((y P ((i 0).val / 4096) ((i 0).val % 4096) (i 1).val : ℝ) : EReal) := by
  have h0 : (i 0).val < 8192 := (i 0).isLt
  have h1 : (i 1).val < 256 := (i 1).isLt
  rw [← y_eq]
  rw [val_main_v55_apply, val_main_v29_apply, val_main_v28_apply, yh_at hP]
  exact at4 (yh P)
    (show (((((i 0).val * 256 + (i 1).val) / 1048576) * 4096 + (((i 0).val * 256 + (i 1).val) / 256 % 4096)) * 256 + (((i 0).val * 256 + (i 1).val) % 256)) / 1048576 = (i 0).val / 4096 by omega)
    (show (((((i 0).val * 256 + (i 1).val) / 1048576) * 4096 + (((i 0).val * 256 + (i 1).val) / 256 % 4096)) * 256 + (((i 0).val * 256 + (i 1).val) % 256)) / 64 % 4 = (i 1).val / 64 by omega)
    (show (((((i 0).val * 256 + (i 1).val) / 1048576) * 4096 + (((i 0).val * 256 + (i 1).val) / 256 % 4096)) * 256 + (((i 0).val * 256 + (i 1).val) % 256)) / 256 % 4096 = (i 0).val % 4096 by omega)
    (show (((((i 0).val * 256 + (i 1).val) / 1048576) * 4096 + (((i 0).val * 256 + (i 1).val) / 256 % 4096)) * 256 + (((i 0).val * 256 + (i 1).val) % 256)) % 64 = (i 1).val % 64 by omega)

omit hP in
/-- The derivative by the output, by heads. -/
theorem do_at (hD : ∀ i : S2x4096x256.Idx, (x0 i : EReal) = ((D (i 0).val (i 1).val (i 2).val : ℝ) : EReal)) (i : S2x4x4096x64.Idx) :
    (val_main_v31 (F := Ideal) x0 i : EReal) = ((D (i 0).val (i 2).val (64 * (i 1).val + (i 3).val) : ℝ) : EReal) := by
  have h0 : (i 0).val < 2 := (i 0).isLt
  have h1 : (i 1).val < 4 := (i 1).isLt
  have h2 : (i 2).val < 4096 := (i 2).isLt
  have h3 : (i 3).val < 64 := (i 3).isLt
  rw [val_main_v31_apply, val_main_v30_apply, hD]
  exact at3 D
    (show ((((i 0).val * 4096 + (i 2).val) * 4 + (i 1).val) * 64 + (i 3).val) / 1048576 = (i 0).val by omega)
    (show ((((i 0).val * 4096 + (i 2).val) * 4 + (i 1).val) * 64 + (i 3).val) / 256 % 4096 = (i 2).val by omega)
    (show ((((i 0).val * 4096 + (i 2).val) * 4 + (i 1).val) * 64 + (i 3).val) % 256 = _ by omega)

variable (hD : ∀ i : S2x4096x256.Idx, (x0 i : EReal) = ((D (i 0).val (i 1).val (i 2).val : ℝ) : EReal))
include hD

/-- The derivative by the weights. -/
theorem gr_at (i : S2x4x4096x4096.Idx) :
    (val_main_v34 (F := Ideal) x0 x1 i : EReal) = ((gr P D (i 0).val (i 1).val (i 2).val (i 3).val : ℝ) : EReal) := by
  rw [val_main_v34_apply]
  exact (Finset.sum_congr rfl fun k _ => Ideal.mul_congr (do_at hD _) (v_at hP _)).trans
    (dot_coe (fun k => D (i 0).val (i 2).val (64 * (i 1).val + k)) (fun k => P (i 0).val (i 3).val (1536 + 64 * (i 1).val + k)))

/-- The weights times the derivatives by them. -/
theorem ew_at (i : S2x4x4096x4096.Idx) :
    (val_main_v36 (F := Ideal) x0 x1 i : EReal)
      = ((ew (zr P (i 0).val (i 1).val (i 2).val) (gr P D (i 0).val (i 1).val (i 2).val) (i 2).val (i 3).val : ℝ) : EReal) := by
  rw [val_main_v36_apply, val_main_v35_apply, show val_main_v26_1 (F := Ideal) i = val_main_v21_1 (F := Ideal) i from rfl, mask_at, val_main_call5_v0_apply]
  show (if _ then (val_main_v34 (F := Ideal) x0 x1 i : EReal) else (FloatOps.ofBits (F := Ideal) .f32 0x00000000#32 : EReal)) * (val_main_v25 (F := Ideal) x1 i : EReal) = _
  rw [gr_at hP hD, ex_at hP, zero_bits, ite_coe, ← EReal.coe_mul]
  refine congrArg _ ?_
  unfold ew wt
  split_ifs <;> simp

/-- The sum of the earlier ones. -/
theorem pre_at (i : S2x4x4096x4096.Idx) :
    (val_main_v39 (F := Ideal) x0 x1 i : EReal)
      = ((pre (zr P (i 0).val (i 1).val (i 2).val) (gr P D (i 0).val (i 1).val (i 2).val) (i 2).val (i 3).val : ℝ) : EReal) := by
  obtain ⟨b, h, t, s, rfl⟩ : ∃ (b : Fin 2) (h : Fin 4) (t s : Fin 4096), i = ix4 b h t s := ⟨i 0, i 1, i 2, i 3, eq_ix4 i⟩
  have e : (val_main_v38 (F := Ideal) x0 x1 (ix4 b h t s) : EReal) = _ :=
    Cumsum.prefix_sum (by norm_num) _ _ _ _ (fun _ => by rw [val_main_call6_v0_apply, val_main_call6_cst_apply, zero_bits]; rfl) b h t s
      (fun k => ew (zr P b.val h.val t.val) (gr P D b.val h.val t.val) t.val k) (fun k => ew_at hP hD (ix4 b h t k))
  rw [val_main_v39_apply, val_main_v37_apply]
  show -(val_main_v36 (F := Ideal) x0 x1 (ix4 b h t s) : EReal) + (val_main_v38 (F := Ideal) x0 x1 (ix4 b h t s) : EReal) = _
  rw [e, ew_at hP hD, ← EReal.coe_neg, ← EReal.coe_add, Finset.sum_range_succ]
  refine congrArg _ ?_
  show -ew (zr P b.val h.val t.val) (gr P D b.val h.val t.val) t.val s.val + (_ + ew (zr P b.val h.val t.val) (gr P D b.val h.val t.val) t.val s.val) = _
  rw [neg_add_cancel_comm_assoc]
  rfl

/-- The derivative by the logits, times the scale. -/
theorem dz_at (i : S2x4x4096x4096.Idx) :
    (val_main_v46 (F := Ideal) x0 x1 i : EReal)
      = ((dz (zr P (i 0).val (i 1).val (i 2).val) (gr P D (i 0).val (i 1).val (i 2).val) (i 2).val (i 3).val * (1 / 8) : ℝ) : EReal) := by
  have e40 : (val_main_v40 (F := Ideal) x0 x1 i : EReal) = ((if (i 3).val < (i 2).val then
      pre (zr P (i 0).val (i 1).val (i 2).val) (gr P D (i 0).val (i 1).val (i 2).val) (i 2).val (i 3).val else 0 : ℝ) : EReal) := by
    rw [val_main_v40_apply, mask_at, val_main_call7_v0_apply]
    show (if _ then (val_main_v39 (F := Ideal) x0 x1 i : EReal) else (FloatOps.ofBits (F := Ideal) .f32 0x00000000#32 : EReal)) = _
    rw [pre_at hP hD, zero_bits, ite_coe]
  rw [val_main_v46_apply, val_main_v45_apply, val_main_cst_2_apply, eighth]
  show (-(-(-(val_main_v40 (F := Ideal) x0 x1 i : EReal) * (val_main_v20_1 (F := Ideal) x1 i : EReal)))
    + -(-(val_main_v36 (F := Ideal) x0 x1 i : EReal) * (val_main_v18_1 (F := Ideal) x1 i : EReal))) * _ = _
  rw [e40, ew_at hP hD, sg0_at hP, sg1_at hP]
  simp only [← EReal.coe_neg, ← EReal.coe_mul, ← EReal.coe_add]
  refine congrArg _ ?_
  rw [sg_neg]
  unfold dz
  by_cases h : (i 3).val < (i 2).val
  · simp only [if_pos h]; ring
  · simp only [if_neg h, ew, wt]; ring

/-- The derivative by the queries, by heads. -/
def dqh (P D : ℕ → ℕ → ℕ → ℝ) (b h t d : ℕ) : ℝ :=
  ∑ s ∈ Finset.range 4096, dz (zr P b h t) (gr P D b h t) t s * (1 / 8) * P b s (1280 + 64 * h + d)

/-- The derivative by the keys, by heads. -/
def dkh (P D : ℕ → ℕ → ℕ → ℝ) (b h s d : ℕ) : ℝ :=
  ∑ t ∈ Finset.range 4096, dz (zr P b h t) (gr P D b h t) t s * (1 / 8) * P b t (1024 + 64 * h + d)

/-- The derivative by the values, by heads. -/
def dvh (P D : ℕ → ℕ → ℕ → ℝ) (b h s d : ℕ) : ℝ :=
  ∑ t ∈ Finset.range 4096, D b t (64 * h + d) * wt (zr P b h t) t s

/-- The derivative by the queries of the heads. -/
theorem dqh_at (i : S2x4x4096x64.Idx) :
    (val_main_v48 (F := Ideal) x0 x1 i : EReal) = ((dqh P D (i 0).val (i 1).val (i 2).val (i 3).val : ℝ) : EReal) := by
  rw [val_main_v48_apply]
  exact (Finset.sum_congr rfl fun k _ => Ideal.mul_congr (dz_at hP hD _) (k_at hP _)).trans
    (dot_coe (fun k => dz (zr P (i 0).val (i 1).val (i 2).val) (gr P D (i 0).val (i 1).val (i 2).val) (i 2).val k * (1 / 8)) (fun k => P (i 0).val k (1280 + 64 * (i 1).val + (i 3).val)))

/-- The derivative by the keys of the heads. -/
theorem dkh_at (i : S2x4x4096x64.Idx) :
    (val_main_v47 (F := Ideal) x0 x1 i : EReal) = ((dkh P D (i 0).val (i 1).val (i 2).val (i 3).val : ℝ) : EReal) := by
  rw [val_main_v47_apply]
  exact (Finset.sum_congr rfl fun k _ => Ideal.mul_congr (dz_at hP hD _) (q_at hP _)).trans
    (dot_coe (fun k => dz (zr P (i 0).val (i 1).val k) (gr P D (i 0).val (i 1).val k) k (i 2).val * (1 / 8)) (fun k => P (i 0).val k (1024 + 64 * (i 1).val + (i 3).val)))

/-- The derivative by the values of the heads. -/
theorem dvh_at (i : S2x4x4096x64.Idx) :
    (val_main_v33 (F := Ideal) x0 x1 i : EReal) = ((dvh P D (i 0).val (i 1).val (i 2).val (i 3).val : ℝ) : EReal) := by
  rw [val_main_v33_apply, val_main_v32_apply]
  exact (Finset.sum_congr rfl fun k _ => Ideal.mul_congr (do_at hD _) (wt_at hP _)).trans
    (dot_coe (fun k => D (i 0).val k (64 * (i 1).val + (i 3).val)) (fun k => wt (zr P (i 0).val (i 1).val k) k (i 2).val))

omit hP hD in
theorem dq_eq (b t c : ℕ) : dqh P D b (c / 64) t (c % 64) = dq P D b t c :=
  Finset.sum_congr rfl fun s _ => by unfold dzc; rw [show 1280 + 64 * (c / 64) + c % 64 = 1280 + c by omega]

omit hP hD in
theorem dk_eq (b s c : ℕ) : dkh P D b (c / 64) s (c % 64) = dk P D b s c :=
  Finset.sum_congr rfl fun t _ => by unfold dzc; rw [show 1024 + 64 * (c / 64) + c % 64 = 1024 + c by omega]

omit hP hD in
theorem dv_eq (b s c : ℕ) : dvh P D b (c / 64) s (c % 64) = dv P D b s c :=
  Finset.sum_congr rfl fun t _ => by unfold wc; rw [show 64 * (c / 64) + c % 64 = c by omega, mul_comm]

/-- The derivative by the queries. -/
theorem dq_at (i : S8192x256.Idx) :
    (val_main_v56 (F := Ideal) x0 x1 i : EReal) = ((dq P D ((i 0).val / 4096) ((i 0).val % 4096) (i 1).val : ℝ) : EReal) := by
  have h0 : (i 0).val < 8192 := (i 0).isLt
  have h1 : (i 1).val < 256 := (i 1).isLt
  rw [← dq_eq]
  rw [val_main_v56_apply, val_main_v54_apply, val_main_v53_apply, dqh_at hP hD]
  exact at4 (dqh P D)
    (show (((((i 0).val * 256 + (i 1).val) / 1048576) * 4096 + (((i 0).val * 256 + (i 1).val) / 256 % 4096)) * 256 + (((i 0).val * 256 + (i 1).val) % 256)) / 1048576 = (i 0).val / 4096 by omega)
    (show (((((i 0).val * 256 + (i 1).val) / 1048576) * 4096 + (((i 0).val * 256 + (i 1).val) / 256 % 4096)) * 256 + (((i 0).val * 256 + (i 1).val) % 256)) / 64 % 4 = (i 1).val / 64 by omega)
    (show (((((i 0).val * 256 + (i 1).val) / 1048576) * 4096 + (((i 0).val * 256 + (i 1).val) / 256 % 4096)) * 256 + (((i 0).val * 256 + (i 1).val) % 256)) / 256 % 4096 = (i 0).val % 4096 by omega)
    (show (((((i 0).val * 256 + (i 1).val) / 1048576) * 4096 + (((i 0).val * 256 + (i 1).val) / 256 % 4096)) * 256 + (((i 0).val * 256 + (i 1).val) % 256)) % 64 = (i 1).val % 64 by omega)

/-- The derivative by the keys. -/
theorem dk_at (i : S2x4096x256.Idx) :
    (val_main_v52 (F := Ideal) x0 x1 i : EReal) = ((dk P D (i 0).val (i 1).val (i 2).val : ℝ) : EReal) := by
  have h0 : (i 0).val < 2 := (i 0).isLt
  have h1 : (i 1).val < 4096 := (i 1).isLt
  have h2 : (i 2).val < 256 := (i 2).isLt
  rw [← dk_eq]
  rw [val_main_v52_apply, val_main_v51_apply, dkh_at hP hD]
  exact at4 (dkh P D)
    (show (((i 0).val * 4096 + (i 1).val) * 256 + (i 2).val) / 1048576 = (i 0).val by omega)
    (show (((i 0).val * 4096 + (i 1).val) * 256 + (i 2).val) / 64 % 4 = (i 2).val / 64 by omega)
    (show (((i 0).val * 4096 + (i 1).val) * 256 + (i 2).val) / 256 % 4096 = (i 1).val by omega)
    (show (((i 0).val * 4096 + (i 1).val) * 256 + (i 2).val) % 64 = (i 2).val % 64 by omega)

/-- The derivative by the values. -/
theorem dv_at (i : S2x4096x256.Idx) :
    (val_main_v50 (F := Ideal) x0 x1 i : EReal) = ((dv P D (i 0).val (i 1).val (i 2).val : ℝ) : EReal) := by
  have h0 : (i 0).val < 2 := (i 0).isLt
  have h1 : (i 1).val < 4096 := (i 1).isLt
  have h2 : (i 2).val < 256 := (i 2).isLt
  rw [← dv_eq]
  rw [val_main_v50_apply, val_main_v49_apply, dvh_at hP hD]
  exact at4 (dvh P D)
    (show (((i 0).val * 4096 + (i 1).val) * 256 + (i 2).val) / 1048576 = (i 0).val by omega)
    (show (((i 0).val * 4096 + (i 1).val) * 256 + (i 2).val) / 64 % 4 = (i 2).val / 64 by omega)
    (show (((i 0).val * 4096 + (i 1).val) * 256 + (i 2).val) / 256 % 4096 = (i 1).val by omega)
    (show (((i 0).val * 4096 + (i 1).val) * 256 + (i 2).val) % 64 = (i 2).val % 64 by omega)

end Proj

end Cert.SbRefIdeal.At

end
-- ==== Proof.SbRun.lean ====
/-
  The stick-breaking pair of calls, run: its four results as functions of the two arguments.
-/
module

public import proofs.«01_k».proof.Proof.SbArr0
public import proofs.«01_k».proof.Proof.SbArr1
public import proofs.«01_k».proof.Proof.SbRef
public import proofs.«01_k».proof.Pre_sb_finite
public import Idealize.ShloMosaic.Lib.KernelVsHost

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

namespace Cert.SbIdeal.Val

open Idealize.ShloMosaic.Rounds
local notation "𝕄" => MT nD τ sig Unit (Elt Ideal) ℕ (UR sig nD τ) ℕ

open Cert.SbIdeal.Gen Cert.SbSpec Cert.Vals Cert.SbIdeal.Fwd Cert.SbIdeal.Bwd Cert.SbRefIdeal.Read

variable (m : (ℓ : Loc nD τ sig) → Buf (Elt Ideal) ℓ) (ρ : Dev nD → PrngReg)

/-- The arguments as the kernel finds them. -/
abbrev A0 (c : Dev nD) : FVec Ideal S2x4096x256 .f32 := m (c.tc.loc main_arg0)
abbrev A1 (c : Dev nD) : FVec Ideal S2x4096x2564 .f32 := m (c.tc.loc main_arg1)

set_option backward.isDefEq.respectTransparency.types false in
/-- Every unscoped buffer at the end of the run. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

/-- An extended real of magnitude below infinity is a real. -/
theorem real_of {x : EReal} (h : Ideal.cmp .olt (max x (-x)) ⊤ = 1) : x = ((x.toReal : ℝ) : EReal) := by
  have h := (Ideal.cmp_olt_eq_one (max x (-x)) ⊤).mp h
  refine (EReal.coe_toReal ?_ ?_).symm
  · rintro rfl; simp at h
  · rintro rfl; simp at h

theorem top_f32 : Ideal.ofBits .f32 0x7F800000#32 = ⊤ := by simp [Ideal.ofBits, Ideal.ieee]

/-- The packed projection as reals. -/
def proj (X : FVec Ideal S2x4096x2564 .f32) (b t c : ℕ) : ℝ :=
  if h : b < 2 ∧ t < 4096 ∧ c < 2564 then EReal.toReal (X (ix3 ⟨b, h.1⟩ ⟨t, h.2.1⟩ ⟨c, h.2.2⟩)) else 0
/-- The cotangent as reals. -/
def cot (X : FVec Ideal S2x4096x256 .f32) (b t c : ℕ) : ℝ :=
  if h : b < 2 ∧ t < 4096 ∧ c < 256 then EReal.toReal (X (ix3 ⟨b, h.1⟩ ⟨t, h.2.1⟩ ⟨c, h.2.2⟩)) else 0

variable [hPre : Cert.Pre_sb_finite.Facts] {X0 : FVec Ideal S2x4096x256 .f32} {X1 : FVec Ideal S2x4096x2564 .f32}

theorem cot_eq (h : (Cert.Pre_sb_finite.fn (F := Ideal) X0 X1).1 = fun _ => 1#1) (i : S2x4096x256.Idx) :
    (X0 i : EReal) = ((cot X0 (i 0).val (i 1).val (i 2).val : ℝ) : EReal) := by
  have h := congrFun h i
  have h : Ideal.cmp .olt (max (X0 i) (-(X0 i))) (Ideal.ofBits .f32 0x7F800000#32) = 1 := h
  rw [top_f32] at h
  refine (real_of h).trans ?_
  obtain ⟨a, b, d, rfl⟩ : ∃ (a : Fin 2) (b : Fin 4096) (d : Fin 256), i = ix3 a b d := ⟨i 0, i 1, i 2, eq_ix3 i⟩
  rw [cot, dif_pos ⟨a.isLt, b.isLt, d.isLt⟩]
  rfl

theorem proj_eq (h : (Cert.Pre_sb_finite.fn (F := Ideal) X0 X1).2 = fun _ => 1#1) (i : S2x4096x2564.Idx) :
    (X1 i : EReal) = ((proj X1 (i 0).val (i 1).val (i 2).val : ℝ) : EReal) := by
  have h := congrFun h i
  have h : Ideal.cmp .olt (max (X1 i) (-(X1 i))) (Ideal.ofBits .f32 0x7F800000#32) = 1 := h
  rw [top_f32] at h
  refine (real_of h).trans ?_
  obtain ⟨a, b, d, rfl⟩ : ∃ (a : Fin 2) (b : Fin 4096) (d : Fin 2564), i = ix3 a b d := ⟨i 0, i 1, i 2, eq_ix3 i⟩
  rw [proj, dif_pos ⟨a.isLt, b.isLt, d.isLt⟩]
  rfl

variable (c : Dev nD)

omit hPre in
/-- The padded projection, before both calls. -/
theorem packed (a : Fin 2) (b : Fin 4096) (d : Fin 2688) (hd : d.val < 2048) {P : ℕ → ℕ → ℕ → ℝ}
    (hP : ∀ i : S2x4096x2564.Idx, ((A1 m c) i : EReal) = ((P (i 0).val (i 1).val (i 2).val : ℝ) : EReal)) :
    ((V3 m ρ c main_v1 : FVec Ideal S2x4096x2688 .bf16) (ix3 a b d) : EReal) = ((P a.val b.val d.val : ℝ) : EReal) := by
  have e : (V3 m ρ c main_v1 : FVec Ideal S2x4096x2688 .bf16) = (truncf (F := Ideal) .bf16 ((pad S2x4096x2688 ![0, 0, 0] ![0, 0, 124] ![0, 0, 0]
      (A1 m c) (sitofp (F := Ideal) .f32 (constantI S_ 32 0#32)) pads_S2x4096x2564_S2x4096x2688_000_000_01240 h_S_ : FVec Ideal S2x4096x2688 .f32)) bitsLt_bf16_f32 : FVec Ideal S2x4096x2688 .bf16) := by
    show StableHlo.after hostOps0_2 (StableHlo.after hostOps0_1 (StableHlo.after hostOps0 (W0 m ρ c))) main_v1 = _
    simp only [hostOps0, hostOps0_1, hostOps0_2]
    after_results
    rfl
  rw [e]
  refine Eq.trans ?_ (hP (ix3 a b ⟨d.val, by omega⟩))
  show pad S2x4096x2688 ![0, 0, 0] ![0, 0, 124] ![0, 0, 0] (A1 m c) (sitofp (F := Ideal) .f32 (constantI S_ 32 0#32)) pads_S2x4096x2564_S2x4096x2688_000_000_01240 h_S_ (ix3 a b d) = _
  exact pad_apply_of_inside _ _ _ _ _ _ _ _ (ix3 a b ⟨d.val, by omega⟩) (fun e => by fin_cases e <;> simp [ix3])

omit hPre in
omit m ρ c in
theorem rows_pos (r : Fin 8192) (d : Fin 256) :
    (Shape.rowMajor S2x4096x256 (ix3 (⟨r.val / 4096, by omega⟩ : Fin 2) (⟨r.val % 4096, by omega⟩ : Fin 4096) d)).val = (Shape.rowMajor S8192x256 (ix2 r d)).val := by
  refine (Shape.rowMajor_val_three _).trans (Eq.trans ?_ (Shape.rowMajor_val_two _).symm)
  show (r.val / 4096 * 4096 + r.val % 4096) * 256 + d.val = r.val * 256 + d.val
  omega

omit hPre in
/-- The cotangent's rows, before the second call. -/
theorem rows (D : ℕ → ℕ → ℕ → ℝ)
    (hD : ∀ i : S2x4096x256.Idx, ((A0 m c) i : EReal) = ((D (i 0).val (i 1).val (i 2).val : ℝ) : EReal))
    (r : Fin 8192) (d : Fin 256) :
    ((V5 m ρ c main_v3 : FVec Ideal S8192x256 .f32) (ix2 r d) : EReal) = ((D (r.val / 4096) (r.val % 4096) d.val : ℝ) : EReal) := by
  have e : (V5 m ρ c main_v3 : FVec Ideal S8192x256 .f32) = shapeCast S8192x256 (m (c.tc.loc main_arg0) : FVec Ideal S2x4096x256 .f32) shapeCasts_S2x4096x256_S8192x256 := by
    rw [← W4_args m ρ c main_arg0 (by decide)]
    show StableHlo.after hostOps1 (W4 m ρ c) main_v3 = _
    simp only [hostOps1]
    after_results
    rfl
  rw [e]
  have hr : r.val < 8192 := r.isLt
  have hd : d.val < 256 := d.isLt
  refine Eq.trans ?_ (hD (ix3 ⟨r.val / 4096, by omega⟩ ⟨r.val % 4096, by omega⟩ d))
  exact shapeCast_apply (s := S2x4096x256) (t := S8192x256) _ _ _ _ (rows_pos r d)

omit hPre in
theorem packed5 (a : Fin 2) (b : Fin 4096) (d : Fin 2688) (hd : d.val < 2048) {P : ℕ → ℕ → ℕ → ℝ}
    (hP : ∀ i : S2x4096x2564.Idx, ((A1 m c) i : EReal) = ((P (i 0).val (i 1).val (i 2).val : ℝ) : EReal)) :
    ((V5 m ρ c main_v1 : FVec Ideal S2x4096x2688 .bf16) (ix3 a b d) : EReal) = ((P a.val b.val d.val : ℝ) : EReal) := by
  have e : (V5 m ρ c main_v1 : FVec Ideal S2x4096x2688 .bf16) = (V3 m ρ c main_v1 : FVec Ideal S2x4096x2688 .bf16) :=
    (W5_of m ρ c main_v1 (by decide)).trans (W4_of m ρ c main_v1 (by decide))
  rw [e]
  exact packed m ρ c a b d hd hP

omit hPre in
theorem totals (p : Fin 2) (r : Fin 8192) (d : Fin 128) {P : ℕ → ℕ → ℕ → ℝ}
    (hP : ∀ i : S2x4096x2564.Idx, ((A1 m c) i : EReal) = ((P (i 0).val (i 1).val (i 2).val : ℝ) : EReal)) :
    ((V5 m ρ c main_v2_1 : FVec Ideal S2x8192x128 .f32) (ix3 p r d) : EReal) = ((tot P (r.val / 4096) (128 * p.val + d.val) (r.val % 4096) : ℝ) : EReal) := by
  have e : (V5 m ρ c main_v2_1 : FVec Ideal S2x8192x128 .f32) = ((dat0 (V3 m ρ) c).arrAt 4 cfg0.N : FVec Ideal S2x8192x128 .f32) :=
    (W5_of m ρ c main_v2_1 (by decide)).trans (W4_arr m ρ c 4)
  rw [e]
  exact arr_t c (V3 m ρ) (fun a b d hd => packed m ρ c a b d hd hP) p r d

variable (h0 : (Cert.Pre_sb_finite.fn (F := Ideal) (A0 m c) (A1 m c)).1 = fun _ => 1#1)
  (h1 : (Cert.Pre_sb_finite.fn (F := Ideal) (A0 m c) (A1 m c)).2 = fun _ => 1#1)

include h1 in
theorem end_y : (W6 m ρ c main_v2_0 : FVec Ideal S8192x256 .f32) = val_main_v55 (F := Ideal) (A1 m c) := by
  have e : (W6 m ρ c main_v2_0 : FVec Ideal S8192x256 .f32) = ((dat0 (V3 m ρ) c).arrAt 3 cfg0.N : FVec Ideal S8192x256 .f32) :=
    (W6_of m ρ c main_v2_0 (by decide)).trans ((W5_of m ρ c main_v2_0 (by decide)).trans (W4_arr m ρ c 3))
  rw [e]
  funext i
  refine Eq.trans ?_ (Cert.SbRefIdeal.At.y_at (proj_eq h1) i).symm
  obtain ⟨r, d, rfl⟩ : ∃ (r : Fin 8192) (d : Fin 256), i = ix2 r d := ⟨i 0, i 1, eq_ix2 i⟩
  exact arr_y c (V3 m ρ) (fun a b d hd => packed m ρ c a b d hd (proj_eq h1)) r d

include h0 h1 in
theorem end_dq : (W6 m ρ c main_v4_0 : FVec Ideal S8192x256 .f32) = val_main_v56 (F := Ideal) (A0 m c) (A1 m c) := by
  have e : (W6 m ρ c main_v4_0 : FVec Ideal S8192x256 .f32) = ((dat1 (V5 m ρ) c).arrAt 5 cfg1.N : FVec Ideal S8192x256 .f32) := W6_arr m ρ c 5
  rw [e]
  funext i
  refine Eq.trans ?_ (Cert.SbRefIdeal.At.dq_at (proj_eq h1) (cot_eq h0) i).symm
  obtain ⟨r, d, rfl⟩ : ∃ (r : Fin 8192) (d : Fin 256), i = ix2 r d := ⟨i 0, i 1, eq_ix2 i⟩
  exact arr_dq c (V5 m ρ) (fun a b d hd => packed5 m ρ c a b d hd (proj_eq h1)) (rows m ρ c _ (cot_eq h0)) (fun p r d => totals m ρ c p r d (proj_eq h1)) r d

include h0 h1 in
theorem end_dk : (W6 m ρ c main_v4_1 : FVec Ideal S2x4096x256 .f32) = val_main_v52 (F := Ideal) (A0 m c) (A1 m c) := by
  have e : (W6 m ρ c main_v4_1 : FVec Ideal S2x4096x256 .f32) = ((dat1 (V5 m ρ) c).arrAt 6 cfg1.N : FVec Ideal S2x4096x256 .f32) := W6_arr m ρ c 6
  rw [e]
  funext i
  refine Eq.trans ?_ (Cert.SbRefIdeal.At.dk_at (proj_eq h1) (cot_eq h0) i).symm
  obtain ⟨b, r, d, rfl⟩ : ∃ (b : Fin 2) (r : Fin 4096) (d : Fin 256), i = ix3 b r d := ⟨i 0, i 1, i 2, eq_ix3 i⟩
  exact arr_dk c (V5 m ρ) (fun a b d hd => packed5 m ρ c a b d hd (proj_eq h1)) (rows m ρ c _ (cot_eq h0)) (fun p r d => totals m ρ c p r d (proj_eq h1)) b r d

include h0 h1 in
theorem end_dv : (W6 m ρ c main_v4_2 : FVec Ideal S2x4096x256 .f32) = val_main_v50 (F := Ideal) (A0 m c) (A1 m c) := by
  have e : (W6 m ρ c main_v4_2 : FVec Ideal S2x4096x256 .f32) = ((dat1 (V5 m ρ) c).arrAt 7 cfg1.N : FVec Ideal S2x4096x256 .f32) := W6_arr m ρ c 7
  rw [e]
  funext i
  refine Eq.trans ?_ (Cert.SbRefIdeal.At.dv_at (proj_eq h1) (cot_eq h0) i).symm
  obtain ⟨b, r, d, rfl⟩ : ∃ (b : Fin 2) (r : Fin 4096) (d : Fin 256), i = ix3 b r d := ⟨i 0, i 1, i 2, eq_ix3 i⟩
  exact arr_dv c (V5 m ρ) (fun a b d hd => packed5 m ρ c a b d hd (proj_eq h1)) (rows m ρ c _ (cot_eq h0)) (fun p r d => totals m ρ c p r d (proj_eq h1)) b r d

/-- The pair of calls ends with the reference's four terms in its results, and its arguments as they were. -/
theorem run (h : ∀ c : Dev nD, (Cert.Pre_sb_finite.fn (F := Ideal) (A0 m c) (A1 m c)).1 = (fun _ => 1#1)
      ∧ (Cert.Pre_sb_finite.fn (F := Ideal) (A0 m c) (A1 m c)).2 = (fun _ => 1#1)) :
    θ_run (defs (F := Ideal)) (onTc (τ := τ) (main (F := Ideal))) ⟨m, fun _ => 0, ρ⟩ (fun r => ∀ c : Dev nD,
      r.2.mem (c.tc.loc main_v2_0) = val_main_v55 (F := Ideal) (A1 m c)
      ∧ r.2.mem (c.tc.loc main_v4_0) = val_main_v56 (F := Ideal) (A0 m c) (A1 m c)
      ∧ r.2.mem (c.tc.loc main_v4_1) = val_main_v52 (F := Ideal) (A0 m c) (A1 m c)
      ∧ r.2.mem (c.tc.loc main_v4_2) = val_main_v50 (F := Ideal) (A0 m c) (A1 m c)
      ∧ r.2.mem (c.tc.loc main_arg0) = m (c.tc.loc main_arg0)
      ∧ r.2.mem (c.tc.loc main_arg1) = m (c.tc.loc main_arg1)) :=
  (θ_run (defs (F := Ideal)) _ _).mono (fun r k c =>
    ⟨(k c _ (mem_uc main_v2_0 (by decide))).trans (end_y m ρ c (h c).2),
     (k c _ (mem_uc main_v4_0 (by decide))).trans (end_dq m ρ c (h c).1 (h c).2),
     (k c _ (mem_uc main_v4_1 (by decide))).trans (end_dk m ρ c (h c).1 (h c).2),
     (k c _ (mem_uc main_v4_2 (by decide))).trans (end_dv m ρ c (h c).1 (h c).2),
     (k c _ (mem_uc main_arg0 (by decide))).trans (W6_main_arg0 m ρ c),
     (k c _ (mem_uc main_arg1 (by decide))).trans (W6_main_arg1 m ρ c)⟩) (ends m ρ)

end Cert.SbIdeal.Val

end
-- ==== Proof.FoxSpec.lean ====
/-
  Forgetting attention and its gradients as real functions of a batch element, a position and a column,
  or of a batch element, a head and a position.
-/
module

public import proofs.«01_k».proof.Proof.Vals
public import Mathlib.Analysis.SpecialFunctions.Log.Basic

@[expose] public section

noncomputable section

namespace Cert.FoxSpec

/-- The arguments: queries, keys, values and the output's derivative by batch element, position and column;
    the running sum of the forget logarithms by batch element, head and position. -/
structure In where
  Q : ℕ → ℕ → ℕ → ℝ
  K : ℕ → ℕ → ℕ → ℝ
  V : ℕ → ℕ → ℕ → ℝ
  D : ℕ → ℕ → ℕ → ℝ
  F : ℕ → ℕ → ℕ → ℝ

variable (A : In)

/-- The logit of a query and a key. -/
def zr (b h t s : ℕ) : ℝ := (∑ e ∈ Finset.range 64, A.Q b t (64 * h + e) * A.K b s (64 * h + e)) * (1 / 8) + A.F b h t - A.F b h s
/-- The derivative by the weight of a query and a key. -/
def gr (b h t s : ℕ) : ℝ := ∑ e ∈ Finset.range 64, A.D b t (64 * h + e) * A.V b s (64 * h + e)
/-- The exponential of a logit of a key that is not after the query. -/
def ex (z : ℕ → ℝ) (t s : ℕ) : ℝ := if s ≤ t then Real.exp (z s) else 0
/-- A row's sum of exponentials. -/
def den (z : ℕ → ℝ) (t : ℕ) : ℝ := ∑ s ∈ Finset.range 4096, ex z t s
/-- The weights. -/
def pw (z : ℕ → ℝ) (t s : ℕ) : ℝ := ex z t s / den z t
/-- A row's sum of the weights times their derivatives. -/
def del (z g : ℕ → ℝ) (t : ℕ) : ℝ := ∑ s ∈ Finset.range 4096, pw z t s * g s
/-- The derivative by a logit. -/
def ds (z g : ℕ → ℝ) (t s : ℕ) : ℝ := pw z t s * (g s - del z g t)

/-- The weights and the logits' derivatives of a column's head. -/
def wc (b c t s : ℕ) : ℝ := pw (zr A b (c / 64) t) t s
def dc (b c t s : ℕ) : ℝ := ds (zr A b (c / 64) t) (gr A b (c / 64) t) t s

def y (b t c : ℕ) : ℝ := ∑ s ∈ Finset.range 4096, wc A b c t s * A.V b s c
def dq (b t c : ℕ) : ℝ := ∑ s ∈ Finset.range 4096, dc A b c t s * (1 / 8) * A.K b s c
def dk (b s c : ℕ) : ℝ := ∑ t ∈ Finset.range 4096, dc A b c t s * (1 / 8) * A.Q b t c
def dv (b s c : ℕ) : ℝ := ∑ t ∈ Finset.range 4096, wc A b c t s * A.D b t c
/-- The derivative by the running sum: a query's row sum less a key's column sum. -/
def df (b h t : ℕ) : ℝ := (∑ s ∈ Finset.range 4096, ds (zr A b h t) (gr A b h t) t s)
  - ∑ u ∈ Finset.range 4096, ds (zr A b h u) (gr A b h u) u t

theorem ex_nonneg (z : ℕ → ℝ) (t s : ℕ) : 0 ≤ ex z t s := by rw [ex]; split_ifs <;> positivity

theorem den_pos (z : ℕ → ℝ) {t : ℕ} (h : t < 4096) : 0 < den z t :=
  Finset.sum_pos' (fun s _ => ex_nonneg z t s) ⟨t, Finset.mem_range.mpr h, by rw [ex, if_pos le_rfl]; positivity⟩

/-- The sum of a row's derivatives times the output is the sum of its weights times their derivatives. -/
theorem del_eq (b h t : ℕ) :
    ∑ e ∈ Finset.range 64, A.D b t (64 * h + e) * y A b t (64 * h + e) = del (zr A b h t) (gr A b h t) t := by
  have hh : ∀ e ∈ Finset.range 64, A.D b t (64 * h + e) * y A b t (64 * h + e)
      = ∑ s ∈ Finset.range 4096, pw (zr A b h t) t s * (A.D b t (64 * h + e) * A.V b s (64 * h + e)) := fun e he => by
    have he := Finset.mem_range.mp he
    rw [y, Finset.mul_sum]
    refine Finset.sum_congr rfl fun s _ => ?_
    rw [wc, show (64 * h + e) / 64 = h by omega]; ring
  rw [Finset.sum_congr rfl hh, Finset.sum_comm, del]
  refine Finset.sum_congr rfl fun s _ => ?_
  rw [← Finset.mul_sum, gr]

/-- The greatest of finitely many extended reals from the least, none of them the greatest and one not the least, is a real number. -/
theorem fold_real {n : ℕ} (f : Fin n → EReal) (h : ∀ k, f k ≠ ⊤) (k : Fin n) (hk : f k ≠ ⊥) :
    ∃ m : ℝ, (Finset.univ : Finset (Fin n)).fold max (⊥ : EReal) f = (m : EReal) := by
  have h1 : (Finset.univ : Finset (Fin n)).fold max (⊥ : EReal) f ≠ ⊤ :=
    ((Finset.fold_max_lt ⊤).mpr ⟨bot_lt_top, fun x _ => lt_top_iff_ne_top.mpr (h x)⟩).ne
  have h2 : (Finset.univ : Finset (Fin n)).fold max (⊥ : EReal) f ≠ ⊥ := fun e => by
    have := (Finset.le_fold_max (f k)).mpr (Or.inr ⟨k, Finset.mem_univ k, le_rfl⟩ : f k ≤ (⊥ : EReal) ∨ ∃ x ∈ (Finset.univ : Finset (Fin n)), f k ≤ f x)
    rw [e] at this
    exact hk (le_bot_iff.mp this)
  exact ⟨_, (EReal.coe_toReal h1 h2).symm⟩

theorem neg_inf : (Idealize.ShloMosaic.FloatOps.ofBits (F := Idealize.ShloMosaic.Ideal) .f32 0xFF800000#32 : EReal) = ⊥ := by
  rw [Idealize.ShloMosaic.Ideal.ofBits_def]; simp [Idealize.ShloMosaic.Ideal.ofBits, Idealize.ShloMosaic.Ideal.ieee]

end Cert.FoxSpec

end
-- ==== Proof.FoxReal.lean ====
/-
  The real arithmetic of the forgetting kernels: sums over the keys a row sees, the greatest of a row
  as a real number, and a pair of heads stacked in 128 lanes.
-/
module

public import proofs.«01_k».proof.Proof.FoxSpec
public import proofs.«01_k».proof.Proof.SbReal

@[expose] public section

noncomputable section

namespace Cert.FoxSpec

open Finset

/-- Keys after the row add nothing. -/
theorem sum_ex (z : ℕ → ℝ) (g : ℕ → ℝ) {t n : ℕ} (ht : t < n) (hn : n ≤ 4096) :
    ∑ s ∈ range n, ex z t s * g s = ∑ s ∈ range 4096, ex z t s * g s := by
  refine sum_subset (fun s hs => mem_range.mpr (by have := mem_range.mp hs; omega)) fun s _ hs => ?_
  have h : ¬ s < n := fun h => hs (mem_range.mpr h)
  rw [ex, if_neg (by omega), zero_mul]

theorem sum_ex' (z : ℕ → ℝ) {t n : ℕ} (ht : t < n) (hn : n ≤ 4096) : ∑ s ∈ range n, ex z t s = den z t := by
  have := sum_ex z (fun _ => 1) ht hn
  simpa [den] using this

/-- The greatest of a value and a row is a real number. -/
theorem max_real {n : ℕ} (a : EReal) (f : Fin n → EReal) (ha : a ≠ ⊤) (h : ∀ k, f k ≠ ⊤) (hb : a ≠ ⊥ ∨ ∃ k, f k ≠ ⊥) :
    ∃ m : ℝ, max a ((univ : Finset (Fin n)).fold max ⊥ f) = (m : EReal) := by
  have h1 : max a ((univ : Finset (Fin n)).fold max ⊥ f) ≠ ⊤ := by
    refine (max_lt (lt_top_iff_ne_top.mpr ha) ?_).ne
    rw [fold_max_lt]
    exact ⟨bot_lt_top, fun k _ => lt_top_iff_ne_top.mpr (h k)⟩
  have h2 : max a ((univ : Finset (Fin n)).fold max ⊥ f) ≠ ⊥ := by
    rcases hb with hb | ⟨k, hk⟩
    · exact ((bot_lt_iff_ne_bot.mpr hb).trans_le (le_max_left _ _)).ne'
    · exact ((bot_lt_iff_ne_bot.mpr hk).trans_le (((le_fold_max _).mpr (.inr ⟨k, mem_univ k, le_rfl⟩)).trans (le_max_right _ _))).ne'
  exact ⟨_, (EReal.coe_toReal h1 h2).symm⟩

/-- The logits and their derivatives' factors of a stacked row of a pair of heads, and its place. -/
def Zr (A : In) (b p q r s : ℕ) : ℝ := zr A b (2 * p + r / 512) (512 * q + r % 512) s
def Gr (A : In) (b p q r s : ℕ) : ℝ := gr A b (2 * p + r / 512) (512 * q + r % 512) s
def Tr (q r : ℕ) : ℕ := 512 * q + r % 512

/-- A row's logarithm of its sum of exponentials, at a head. -/
def lse (A : In) (b h t : ℕ) : ℝ := Real.log (den (zr A b h t) t)

theorem quot_cancel {e n d : ℝ} (he : e ≠ 0) : e * n / (e * d) = n / d := mul_div_mul_left _ _ he

theorem y_eq (A : In) (b t c : ℕ) : y A b t c = (∑ s ∈ range 4096, ex (zr A b (c / 64) t) t s * A.V b s c) / den (zr A b (c / 64) t) t := by
  rw [y, sum_div]
  exact sum_congr rfl fun s _ => by rw [wc, pw]; ring

end Cert.FoxSpec

end
-- ==== Proof.FoxFwd.lean ====
/-
  The forward kernel of forgetting attention over the real numbers: what each block of keys adds to a
  row's weighted sum, its greatest logit and its sum of exponentials.
-/
module

public import proofs.«01_k».proof.Proof.Gen.FoxIdeal.Frame
public import proofs.«01_k».proof.Proof.FoxReal

@[expose] public section

set_option maxRecDepth 16384

noncomputable section

open Idealize.ShloMosaic Idealize.ShloMosaic.TcCoe Idealize.SL.Sem

namespace Cert.FoxIdeal.Fwd

open Cert.FoxIdeal.Gen Cert.FoxSpec Cert.Vals
open Cert.SbSpec (stk stk_dot stk_col block_range)

theorem nt_ok (l : (⟨2, ![1024, 128]⟩ : Shape).Idx → EReal) (r : (⟨2, ![256, 128]⟩ : Shape).Idx → EReal) (acc : (⟨2, ![1024, 256]⟩ : Shape).Idx → EReal) (i : Fin 1024) (j : Fin 256) :
    Ideal.matmul dot_S1024x128_S256x128_S1024x256_1_1_0_0_n_n l r acc (ix2 i j) = acc (ix2 i j) + ∑ k : Fin 128, l (ix2 i k) * r (ix2 j k) := by
  simp only [pointwise]
theorem nn_ok (l : (⟨2, ![1024, 256]⟩ : Shape).Idx → EReal) (r : (⟨2, ![256, 128]⟩ : Shape).Idx → EReal) (acc : (⟨2, ![1024, 128]⟩ : Shape).Idx → EReal) (i : Fin 1024) (j : Fin 128) :
    Ideal.matmul dot_S1024x256_S256x128_S1024x128_1_0_0_1_n_n l r acc (ix2 i j) = acc (ix2 i j) + ∑ k : Fin 256, l (ix2 i k) * r (ix2 k j) := by
  simp only [pointwise]

theorem no_key : (Named.named (F := Ideal) κ "no_key" (φ := .f32) 0xF149F2CA#32 : EReal) = ⊥ := rfl

theorem sle_words {a b c d : ℕ} (ha : a < 1024) (hb : b < 16) (hc : c < 1024) (hd : d < 8) :
    IntOp.cmpi .sle (IntOp.addi (BitVec.ofNat 32 a) (Scalar.muli (BitVec.ofNat 32 b) 256#32))
      (IntOp.addi (IntOp.andi (BitVec.ofNat 32 c) 511#32) (Scalar.muli (BitVec.ofNat 32 d) 512#32))
      = BitVec.ofBool (decide (256 * b + a ≤ 512 * d + c % 512)) := by
  have h1 : IntOp.addi (BitVec.ofNat 32 a) (Scalar.muli (BitVec.ofNat 32 b) 256#32) = BitVec.ofNat 32 (256 * b + a) := by
    show BitVec.ofNat 32 a + BitVec.ofNat 32 b * BitVec.ofNat 32 256 = _
    rw [← BitVec.ofNat_mul, ← BitVec.ofNat_add]; congr 1; ring
  have h2 : IntOp.addi (IntOp.andi (BitVec.ofNat 32 c) 511#32) (Scalar.muli (BitVec.ofNat 32 d) 512#32) = BitVec.ofNat 32 (512 * d + c % 512) := by
    have h3 : IntOp.andi (BitVec.ofNat 32 c) 511#32 = BitVec.ofNat 32 (c % 512) := by
      show BitVec.ofNat 32 c &&& 511#32 = _
      apply BitVec.eq_of_toNat_eq
      rw [BitVec.toNat_and, BitVec.toNat_ofNat, BitVec.toNat_ofNat, BitVec.toNat_ofNat, Nat.mod_eq_of_lt (by omega : c < 2 ^ 32),
        Nat.mod_eq_of_lt (by omega : c % 512 < 2 ^ 32)]
      exact Nat.and_two_pow_sub_one_eq_mod c 9
    rw [h3]
    show BitVec.ofNat 32 (c % 512) + BitVec.ofNat 32 d * BitVec.ofNat 32 512 = _
    rw [← BitVec.ofNat_mul, ← BitVec.ofNat_add]; congr 1; ring
  rw [h1, h2, WordCmp.cmpi_sle_ofNat (by omega) (by omega)]

theorem lane_words {d : ℕ} (hd : d < 128) : IntOp.cmpi .slt (BitVec.ofNat 32 d) 64#32 = BitVec.ofBool (decide (d < 64)) :=
  WordCmp.cmpi_slt_ofNat (by omega) (by omega)

theorem qs_at {v0 : Vec Ideal S1x512x128 .bf16} {f : ℕ → ℕ → ℝ} (h : Is3 (φ := .bf16) (A := 1) (B := 512) (C := 128) v0 (fun _ a b => f a b)) :
   Is2 (k0_pay28 v0) (stk f) := fun r d => by
  simp only [k0_pay28, pointwise]
  have e := lane_words d.isLt
  by_cases hr : r.val < 512
  · rw [dif_pos hr]
    have hh : (v0 (ix3 0 ⟨r.val, hr⟩ d) : EReal) = _ := h 0 ⟨r.val, hr⟩ d
    show (Scalar.select (IntOp.cmpi .slt (BitVec.ofNat 32 (0 * 128 + d.val)) 64#32) (v0 (ix3 0 ⟨r.val, hr⟩ d)) (0 : EReal) : EReal) = _
    rw [show 0 * 128 + d.val = d.val by omega, e, hh, stk, if_pos hr]
    by_cases hd : d.val < 64 <;> simp [Scalar.select, hd]
  · rw [dif_neg hr]
    have hh : (v0 (ix3 0 ⟨r.val - 512, by omega⟩ d) : EReal) = _ := h 0 ⟨r.val - 512, by omega⟩ d
    show (Scalar.select (IntOp.cmpi .slt (BitVec.ofNat 32 (0 * 128 + d.val)) 64#32) (0 : EReal) (v0 (ix3 0 ⟨r.val - 512, by omega⟩ d)) : EReal) = _
    rw [show 0 * 128 + d.val = d.val by omega, e, hh, stk, if_neg hr]
    by_cases hd : d.val < 64 <;> simp [Scalar.select, hd]

/-- The queries' running sums, stacked. -/
theorem fcol_at {v : Vec Ideal S1x1x512x2 .f32} {f : ℕ → ℕ → ℝ} (h : ∀ (a : Fin 512) (e : Fin 2), (v (ix4 0 0 a e) : EReal) = ((f e.val a.val : ℝ) : EReal)) :
    Is2 (k0_pay29 v) (fun r _ => f (r / 512) (r % 512)) := fun r d => by
  simp only [k0_pay29, pointwise]
  by_cases hr : r.val < 512
  · rw [dif_pos hr]
    refine (congrArg v (congrArg₂ (fun a b => ix4 0 0 a b) (Fin.ext (by simp)) rfl)).trans ((h ⟨r.val, hr⟩ 0).trans ?_)
    show ((f 0 r.val : ℝ) : EReal) = _
    rw [show r.val / 512 = 0 by omega, show r.val % 512 = r.val by omega]
  · rw [dif_neg hr]
    refine (congrArg v (congrArg₂ (fun a b => ix4 0 0 a b) (Fin.ext (by simp)) rfl)).trans ((h ⟨r.val - 512, by omega⟩ 1).trans ?_)
    show ((f 1 (r.val - 512) : ℝ) : EReal) = _
    rw [show r.val / 512 = 1 by omega, show r.val % 512 = r.val - 512 by omega]

/-- The keys' running sums, each stacked half taking its head's. -/
theorem frow_at {v w : Vec Ideal S1x1x1x256 .f32} {f : ℕ → ℕ → ℝ} (h0 : ∀ j : Fin 256, (v (ix4 0 0 0 j) : EReal) = ((f 0 j.val : ℝ) : EReal))
    (h1 : ∀ j : Fin 256, (w (ix4 0 0 0 j) : EReal) = ((f 1 j.val : ℝ) : EReal)) :
    Is2 (select (broadcastTo S1024x256 (shapeCast S1024x1 (k0_pay30) shapeCasts_S1024x1_S1024x1) broadcasts_S1024x1_S1024x256)
      (broadcastTo S1024x256 (shapeCast S1x256 (shapeCast S1x256 v shapeCasts_S1x1x1x256_S1x256) shapeCasts_S1x256_S1x256) broadcasts_S1x256_S1024x256)
      (broadcastTo S1024x256 (shapeCast S1x256 (shapeCast S1x256 w shapeCasts_S1x1x1x256_S1x256) shapeCasts_S1x256_S1x256) broadcasts_S1x256_S1024x256) : FVec Ideal S1024x256 .f32)
      (fun r j => f (r / 512) j) := fun r j => by
  simp only [k0_pay30, pointwise]
  show (Scalar.select (IntOp.cmpi .slt (BitVec.ofNat 32 (0 * 1024 + r.val)) 512#32) (v (ix4 0 0 0 j)) (w (ix4 0 0 0 j)) : EReal) = _
  rw [h0, h1, show 0 * 1024 + r.val = r.val by omega, show IntOp.cmpi .slt (BitVec.ofNat 32 r.val) 512#32 = BitVec.ofBool (decide (r.val < 512)) from WordCmp.cmpi_slt_ofNat (by omega) (by omega)]
  by_cases hr : r.val < 512
  · rw [show r.val / 512 = 0 by omega]; simp [Scalar.select, hr]
  · rw [show r.val / 512 = 1 by omega]; simp [Scalar.select, hr]

theorem bcol {c : FVec Ideal S1024x1 .f32} {f : ℕ → ℝ} (h : Is2 c (fun a _ => f a)) :
    Is2 (broadcastTo S1024x256 c broadcasts_S1024x1_S1024x256 : FVec Ideal S1024x256 .f32) (fun a _ => f a) :=
  of_col h fun a b => by simp only [pointwise]; rfl
theorem bcol128 {c : FVec Ideal S1024x1 .f32} {f : ℕ → ℝ} (h : Is2 c (fun a _ => f a)) :
    Is2 (broadcastTo S1024x128 c broadcasts_S1024x1_S1024x128 : FVec Ideal S1024x128 .f32) (fun a _ => f a) :=
  of_col h fun a b => by simp only [pointwise]; rfl

theorem rsum {X : FVec Ideal S1024x256 .f32} {f : ℕ → ℕ → ℝ} (h : Is2 X f) :
    Is2 (shapeCast S1024x1 (multiReduction .add [1] S1024 X 0x00000000#32 reduces_S1024x256_S1024 (.inl rfl) rfl) shapeCasts_S1024_S1024x1 : FVec Ideal S1024x1 .f32)
      (fun a _ => ∑ j ∈ Finset.range 256, f a j) :=
  of_rowsum h fun a b => by simp only [pointwise]

theorem drop_at {K : Vec Ideal S1x256x128 .bf16} {k : ℕ → ℕ → ℝ}
    (hK : Is3 (φ := .bf16) (A := 1) (B := 256) (C := 128) K (fun _ a b => k a b)) :
    Is2 (k0_pay2 K) k := of_drop hK fun a b => by simp only [k0_pay2, pointwise]

/-- The logits of a block of keys. -/
theorem logits {Q : FVec Ideal S1024x128 .bf16} {c : FVec Ideal S1024x1 .f32} {K : Vec Ideal S1x256x128 .bf16} {v w : Vec Ideal S1x1x1x256 .f32} {f k : ℕ → ℕ → ℝ} {u g : ℕ → ℕ → ℝ}
    (hQ : Is2 Q (stk f)) (hc : Is2 c (fun r _ => u (r / 512) (r % 512)))
    (hK : Is3 (φ := .bf16) (A := 1) (B := 256) (C := 128) K (fun _ a b => k a b))
    (h0 : ∀ j : Fin 256, (v (ix4 0 0 0 j) : EReal) = ((g 0 j.val : ℝ) : EReal)) (h1 : ∀ j : Fin 256, (w (ix4 0 0 0 j) : EReal) = ((g 1 j.val : ℝ) : EReal)) :
    Is2 (k0_pay3 Q c k0_pay30 K v w) (fun r j => (∑ e ∈ Finset.range 64, f (r % 512) (64 * (r / 512) + e) * k j (64 * (r / 512) + e)) * (1 / 8) + u (r / 512) (r % 512) - g (r / 512) j) :=
  ((((Is2.mmT nt_ok hQ (drop_at hK) (Is2.const zero_f32)).mul (Is2.splat eighth_f32)).add (bcol hc)).sub (frow_at h0 h1)).congr fun r j hr _ => by
    rw [zero_add, stk_dot _ _ r hr]

section Step

/-- The new greatest logits, and what the block leaves. -/
def mxN (S : FVec Ideal S1024x256 .f32) (mx : FVec Ideal S1024x1 .f32) : FVec Ideal S1024x1 .f32 :=
  maximumf mx (shapeCast S1024x1 (multiReduction .maximumf [1] S1024 S 0xFF800000#32 reduces_S1024x256_S1024 (.inl rfl) rfl) shapeCasts_S1024_S1024x1)
def pN (S : FVec Ideal S1024x256 .f32) (mx : FVec Ideal S1024x1 .f32) : FVec Ideal S1024x256 .f32 :=
  exp (subf S (broadcastTo S1024x256 (mxN S mx) broadcasts_S1024x1_S1024x256))
def alN (S : FVec Ideal S1024x256 .f32) (mx : FVec Ideal S1024x1 .f32) : FVec Ideal S1024x1 .f32 := exp (subf mx (mxN S mx))
def accN (S : FVec Ideal S1024x256 .f32) (mx : FVec Ideal S1024x1 .f32) (acc : FVec Ideal S1024x128 .f32) (vb : FVec Ideal S256x128 .bf16) : FVec Ideal S1024x128 .f32 :=
  addf (mulf (broadcastTo S1024x128 (alN S mx) broadcasts_S1024x1_S1024x128) acc)
    (matmul dot_S1024x256_S256x128_S1024x128_1_0_0_1_n_n none (truncf .bf16 (pN S mx) bitsLt_bf16_f32) vb (constant S1024x128 .f32 0x00000000#32))
def denN (S : FVec Ideal S1024x256 .f32) (mx dn : FVec Ideal S1024x1 .f32) : FVec Ideal S1024x1 .f32 :=
  addf (mulf (alN S mx) dn) (shapeCast S1024x1 (multiReduction .add [1] S1024 (pN S mx) 0x00000000#32 reduces_S1024x256_S1024 (.inl rfl) rfl) shapeCasts_S1024_S1024x1)

/-- The masked logits of the block `n`. -/
def Lg (S : FVec Ideal S1024x256 .f32) (Z : ℕ → ℕ → ℝ) (T : ℕ → ℕ) (n : ℕ) : Prop :=
  ∀ (r : Fin 1024) (j : Fin 256), (S (ix2 r j) : EReal) = if 256 * n + j.val ≤ T r.val then ((Z r.val (256 * n + j.val) : ℝ) : EReal) else ⊥

/-- What is carried when the first `n` blocks of keys have been added. -/
def Inv (Z V : ℕ → ℕ → ℝ) (T : ℕ → ℕ) (n : ℕ) (st : FVec Ideal S1024x128 .f32 × FVec Ideal S1024x1 .f32 × FVec Ideal S1024x1 .f32) : Prop :=
  (n = 0 ∧ Is2 st.1 (fun _ _ => 0) ∧ (∀ r : Fin 1024, (st.2.1 (ix2 r 0) : EReal) = ⊥) ∧ Is2 st.2.2 (fun _ _ => 0)) ∨
  ∃ μ : ℕ → ℝ, Is2 st.1 (fun r d => Real.exp (-μ r) * ∑ s ∈ Finset.range (256 * n), ex (Z r) (T r) s * V s d) ∧ Is2 st.2.1 (fun r _ => μ r) ∧
    Is2 st.2.2 (fun r _ => Real.exp (-μ r) * ∑ s ∈ Finset.range (256 * n), ex (Z r) (T r) s)

variable {Z V : ℕ → ℕ → ℝ} {T : ℕ → ℕ} {n : ℕ} {S : FVec Ideal S1024x256 .f32} {acc : FVec Ideal S1024x128 .f32} {mx dn : FVec Ideal S1024x1 .f32} {vb : FVec Ideal S256x128 .bf16}

theorem init : Inv Z V T 0 (k0_pay31, k0_pay32, k0_pay33) :=
  .inl ⟨rfl, Is2.splat zero_f32, fun _ => no_key, Is2.splat zero_f32⟩

theorem mxN_at (S : FVec Ideal S1024x256 .f32) (mx : FVec Ideal S1024x1 .f32) (r : Fin 1024) (b : Fin 1) :
    (mxN S mx (ix2 r b) : EReal) = max (mx (ix2 r b) : EReal) ((Finset.univ : Finset (Fin 256)).fold max ⊥ fun k => (S (ix2 r k) : EReal)) := by
  have h : (shapeCast S1024x1 (multiReduction .maximumf [1] S1024 S 0xFF800000#32 reduces_S1024x256_S1024 (.inl rfl) rfl) shapeCasts_S1024_S1024x1 (ix2 r b) : EReal)
      = (Finset.univ : Finset (Fin 256)).fold max ⊥ fun k => (S (ix2 r k) : EReal) := by
    simp only [pointwise]
    exact congrArg (fun b => (Finset.univ : Finset (Fin 256)).fold max b fun k => (S (ix2 r k) : EReal)) neg_inf
  rw [← h]
  rfl

/-- The new greatest logits are real numbers. -/
theorem mxN_real (hS : Lg S Z T n) (hb : ∀ r : Fin 1024, (mx (ix2 r 0) : EReal) ≠ ⊤) (h : (∀ r : Fin 1024, (mx (ix2 r 0) : EReal) ≠ ⊥) ∨ n = 0) :
    ∃ μ : ℕ → ℝ, Is2 (mxN S mx) (fun r _ => μ r) := by
  have key : ∀ r : Fin 1024, ∃ m : ℝ, (mxN S mx (ix2 r 0) : EReal) = (m : EReal) := fun r => by
    rw [mxN_at]
    refine max_real _ _ (hb r) (fun k => ?_) ?_
    · rw [hS]; split_ifs
      · exact EReal.coe_ne_top _
      · exact bot_ne_top
    · rcases h with h | h
      · exact .inl (h r)
      · subst h
        refine .inr ⟨0, ?_⟩
        rw [hS, if_pos (show 256 * 0 + (0 : Fin 256).val ≤ T r.val from Nat.zero_le _)]
        exact EReal.coe_ne_bot _
  refine ⟨fun r => if h : r < 1024 then (key ⟨r, h⟩).choose else 0, fun r b => ?_⟩
  have hb : b = 0 := Subsingleton.elim _ _
  subst hb
  dsimp only
  rw [dif_pos r.isLt]
  exact (key r).choose_spec

/-- A block of keys added. -/
theorem step (hS : Lg S Z T n) (hv : Is2 vb (fun j d => V (256 * n + j) d)) (hI : Inv Z V T n (acc, mx, dn)) :
    Inv Z V T (n + 1) (accN S mx acc vb, mxN S mx, denN S mx dn) := by
  obtain ⟨μ, hμ⟩ : ∃ μ : ℕ → ℝ, Is2 (mxN S mx) (fun r _ => μ r) := by
    refine mxN_real hS (fun r => ?_) ?_
    · rcases hI with ⟨_, _, h, _⟩ | ⟨μ, _, h, _⟩
      · rw [show (mx (ix2 r 0) : EReal) = ⊥ from h r]; exact bot_ne_top
      · rw [show (mx (ix2 r 0) : EReal) = _ from h r 0]; exact EReal.coe_ne_top _
    · rcases hI with ⟨h, _⟩ | ⟨μ, _, h, _⟩
      · exact .inr h
      · exact .inl fun r => by rw [show (mx (ix2 r 0) : EReal) = _ from h r 0]; exact EReal.coe_ne_bot _
  have hp : Is2 (pN S mx) (fun r j => Real.exp (-μ r) * ex (Z r) (T r) (256 * n + j)) := fun r j => by
    have e : (pN S mx (ix2 r j) : EReal) = Ideal.exp ((S (ix2 r j) : EReal) - (broadcastTo S1024x256 (mxN S mx) broadcasts_S1024x1_S1024x256 (ix2 r j) : EReal)) := rfl
    rw [e, bcol hμ r j, hS r j]
    unfold ex
    beta_reduce
    split_ifs with h
    · rw [← EReal.coe_sub, Ideal.exp_coe, sub_eq_neg_add, Real.exp_add]
    · rw [EReal.bot_sub, mul_zero]; rfl
  have key : ∃ a : ℕ → ℝ, Is2 (alN S mx) (fun r _ => a r) ∧
      Is2 (mulf (broadcastTo S1024x128 (alN S mx) broadcasts_S1024x1_S1024x128) acc) (fun r d => Real.exp (-μ r) * ∑ s ∈ Finset.range (256 * n), ex (Z r) (T r) s * V s d) ∧
      Is2 (mulf (alN S mx) dn) (fun r d => Real.exp (-μ r) * ∑ s ∈ Finset.range (256 * n), ex (Z r) (T r) s) := by
    rcases hI with ⟨h, ha, hm, hd⟩ | ⟨ν, ha, hm, hd⟩
    · subst h
      have hal : Is2 (alN S mx) (fun _ _ => 0) := fun r b => by
        have hb : b = 0 := Subsingleton.elim _ _
        subst hb
        have e : (alN S mx (ix2 r 0) : EReal) = Ideal.exp ((mx (ix2 r 0) : EReal) - (mxN S mx (ix2 r 0) : EReal)) := rfl
        rw [e, show (mx (ix2 r 0) : EReal) = ⊥ from hm r, hμ r 0, EReal.bot_sub]; rfl
      exact ⟨_, hal, ((bcol128 hal).mul ha).congr fun r d _ _ => by simp, (hal.mul hd).congr fun r d _ _ => by simp⟩
    · have hal : Is2 (alN S mx) (fun r _ => Real.exp (ν r - μ r)) := (hm.sub hμ).exp
      have e : ∀ r x, Real.exp (ν r - μ r) * (Real.exp (-ν r) * x) = Real.exp (-μ r) * x := fun r x => by
        rw [← mul_assoc, ← Real.exp_add]; congr 2; ring
      exact ⟨_, hal, ((bcol128 hal).mul ha).congr fun r d _ _ => e r _, (hal.mul hd).congr fun r d _ _ => e r _⟩
  obtain ⟨a, _, h1, h2⟩ := key
  refine .inr ⟨μ, ?_, hμ, ?_⟩
  · refine (h1.add (Is2.mm nn_ok (hp.trunc bitsLt_bf16_f32) hv (Is2.const zero_f32))).congr fun r d _ _ => ?_
    rw [block_range, mul_add, zero_add, Finset.mul_sum (s := Finset.range 256)]
    exact congrArg _ (Finset.sum_congr rfl fun j _ => mul_assoc _ _ _)
  · refine (h2.add (rsum hp)).congr fun r d _ _ => ?_
    rw [block_range, mul_add, Finset.mul_sum (s := Finset.range 256)]

end Step

theorem open_logits {X : FVec Ideal S1024x256 .f32} {Z : ℕ → ℕ → ℝ} {T : ℕ → ℕ} {n : ℕ} (h : Is2 X (fun r j => Z r (256 * n + j))) (ho : ∀ r j, r < 1024 → j < 256 → 256 * n + j ≤ T r) : Lg X Z T n :=
  fun r j => by rw [if_pos (ho _ _ r.isLt j.isLt)]; exact h r j

theorem masked_logits {X : FVec Ideal S1024x256 .f32} {Z : ℕ → ℕ → ℝ} {q n : ℕ} (hq : q < 8) (hn : n < 16) (h : Is2 X (fun r j => Z r (256 * n + j))) :
    Lg (k0_pay49 (BitVec.ofNat 32 n) X k0_pay48 (Scalar.muli (BitVec.ofNat 32 q) 512#32)) Z (fun r => 512 * q + r % 512) n := fun r j => by
  simp only [k0_pay49, k0_pay48, pointwise]
  have e := sle_words (a := j.val) (c := r.val) (by omega) hn r.isLt hq
  show (Scalar.select (IntOp.cmpi .sle (IntOp.addi (BitVec.ofNat 32 (0 * 256 + j.val)) (Scalar.muli (BitVec.ofNat 32 n) 256#32))
      (IntOp.addi (IntOp.andi (BitVec.ofNat 32 (0 * 1024 + r.val)) 511#32) (Scalar.muli (BitVec.ofNat 32 q) 512#32))) (X (ix2 r j)) (Named.named (F := Ideal) κ "no_key" (φ := .f32) 0xF149F2CA#32) : EReal) = _
  rw [show 0 * 256 + j.val = j.val by omega, show 0 * 1024 + r.val = r.val by omega, e, no_key, h]
  by_cases hp : 256 * n + j.val ≤ 512 * q + r.val % 512 <;> simp [Scalar.select, hp]

end Cert.FoxIdeal.Fwd

end
-- ==== Proof.FoxFwdRun.lean ====
/-
  The forward kernel's loop over the key blocks, and what a grid point leaves in its two output blocks.
-/
module

public import proofs.«01_k».proof.Proof.FoxFwd

@[expose] public section

set_option maxRecDepth 16384

noncomputable section

open Idealize.ShloMosaic Idealize.ShloMosaic.TcCoe Idealize.SL.Sem

namespace Cert.FoxIdeal.Fwd

open Cert.FoxIdeal.Gen Cert.FoxSpec Cert.Vals
open Cert.SbSpec (stk stk_dot stk_col block_range)

/-- The rows of a block read at a place. -/
theorem ld_rows {X : Vec Ideal S1x4096x128 .bf16} {f : ℕ → ℕ → ℝ} (hX : Is3 (φ := .bf16) (A := 1) (B := 4096) (C := 128) X (fun _ a b => f a b))
    {off : Fin 3 → ℕ} {o : ℕ} (ho : off = ![0, o, 0]) (h) :
    Is3 (φ := .bf16) (A := 1) (B := 256) (C := 128) (View.ld X (Rect.unit off ![1, 256, 128] h)) (fun _ a b => f (o + a) b) := by
  subst ho
  intro a b d
  have ha : a = 0 := Subsingleton.elim _ _
  subst ha
  have hb : o + b.val < 4096 := by have := h 1; simp at this; omega
  refine Eq.trans (?_ : _ = (X (ix3 0 ⟨o + b.val, hb⟩ d) : EReal)) (hX 0 ⟨o + b.val, hb⟩ d)
  refine congrArg X (funext fun e => Fin.ext ?_)
  fin_cases e <;> simp [Rect.unit]

/-- The running sums of one head's block of keys. -/
theorem ld_sums {X : Vec Ideal S1x1x2x4096 .f32} {f : ℕ → ℕ → ℝ} (hX : ∀ (e : Fin 2) (j : Fin 4096), (X (ix4 0 0 e j) : EReal) = ((f e.val j.val : ℝ) : EReal))
    {off : Fin 4 → ℕ} {o : ℕ} (e : Fin 2) (ho : off = ![0, 0, e.val, o]) (h) (j : Fin 256) :
    (View.ld X (Rect.unit off ![1, 1, 1, 256] h) (ix4 0 0 0 j) : EReal) = ((f e.val (o + j.val) : ℝ) : EReal) := by
  subst ho
  have hb : o + j.val < 4096 := by have := h 3; simp at this; omega
  refine Eq.trans (?_ : _ = (X (ix4 0 0 e ⟨o + j.val, hb⟩) : EReal)) (hX e ⟨o + j.val, hb⟩)
  refine congrArg X (funext fun a => Fin.ext ?_)
  fin_cases a <;> simp [Rect.unit]

theorem trips1 (i : grid0.Coords) : (k0_t1_loop i).trips = (i 2).val :=
  (by decide +kernel : ∀ a : Fin 8, (Scf.trips 0#32 (Scalar.addi 0#32 (Scalar.muli (Scalar.divsi (Scalar.subi (BitVec.ofNat 32 a.val) 0#32) 1#32) 1#32)) 1#32) = a.val) (i 2)
theorem trips2 (i : grid0.Coords) : (k0_t2_loop i).trips = 0 :=
  (by decide +kernel : ∀ a : Fin 8, (Scf.trips (Scalar.addi 0#32 (Scalar.muli (Scalar.divsi (Scalar.subi (BitVec.ofNat 32 a.val) 0#32) 1#32) 1#32)) (Scalar.addi 0#32 (Scalar.subi (BitVec.ofNat 32 a.val) 0#32)) 1#32) = 0) (i 2)

theorem place (r : Fin 2) (k : Fin 8) : (Scalar.indexCast (Scalar.muli (Scalar.addi (Scalar.muli (BitVec.ofNat 32 k.val) 2#32) (BitVec.ofNat 32 r.val)) 256#32)).toNat = 256 * (2 * k.val + r.val) := by
  revert r k; decide +kernel
theorem place_iv (r : Fin 2) (k : Fin 8) : (Scalar.indexCast (Scalar.muli (Scalar.addi (Scalar.muli (Scf.iv 0#32 1#32 k.val) 2#32) (BitVec.ofNat 32 r.val)) 256#32)).toNat = 256 * (2 * k.val + r.val) := by
  revert r k; decide +kernel

theorem off7 (i : grid0.Coords) (r : Fin 2) : k0_off7 i (BitVec.ofNat 32 r.val) = ![0, 256 * (2 * (i 2).val + r.val), 0] := congrArg (fun n => ![0, n, 0]) (place r (i 2))
theorem off8 (i : grid0.Coords) (r : Fin 2) : k0_off8 i (BitVec.ofNat 32 r.val) = ![0, 0, 0, 256 * (2 * (i 2).val + r.val)] := congrArg (fun n => ![0, 0, 0, n]) (place r (i 2))
theorem off9 (i : grid0.Coords) (r : Fin 2) : k0_off9 i (BitVec.ofNat 32 r.val) = ![0, 0, 1, 256 * (2 * (i 2).val + r.val)] := congrArg (fun n => ![0, 0, 1, n]) (place r (i 2))

theorem trip_lt {i : grid0.Coords} (k : Fin (k0_t1_loop i).trips) : k.val < 8 := ((k.isLt.trans_eq (trips1 i) : k.val < (i 2).val)).trans (i 2).isLt

theorem off1 (i : grid0.Coords) (k : Fin (k0_t1_loop i).trips) (r : Fin 2) : k0_off1 i k (BitVec.ofNat 32 r.val) = ![0, 256 * (2 * k.val + r.val), 0] :=
  congrArg (fun n => ![0, n, 0]) (place_iv r ⟨k.val, trip_lt k⟩)
theorem off2 (i : grid0.Coords) (k : Fin (k0_t1_loop i).trips) (r : Fin 2) : k0_off2 i k (BitVec.ofNat 32 r.val) = ![0, 0, 0, 256 * (2 * k.val + r.val)] :=
  congrArg (fun n => ![0, 0, 0, n]) (place_iv r ⟨k.val, trip_lt k⟩)
theorem off3 (i : grid0.Coords) (k : Fin (k0_t1_loop i).trips) (r : Fin 2) : k0_off3 i k (BitVec.ofNat 32 r.val) = ![0, 0, 1, 256 * (2 * k.val + r.val)] :=
  congrArg (fun n => ![0, 0, 1, n]) (place_iv r ⟨k.val, trip_lt k⟩)

section Point

variable (A : In) (b p : ℕ) (i : grid0.Coords)

theorem logits_at {q n : ℕ} {Q : FVec Ideal S1024x128 .bf16} {u : FVec Ideal S1024x1 .f32} {K : Vec Ideal S1x256x128 .bf16} {v w : Vec Ideal S1x1x1x256 .f32}
    (hQ : Is2 Q (stk fun a d => A.Q b (512 * q + a) (128 * p + d))) (hu : Is2 u (fun r _ => A.F b (2 * p + r / 512) (512 * q + r % 512)))
    (hK : Is3 (φ := .bf16) (A := 1) (B := 256) (C := 128) K (fun _ a d => A.K b (256 * n + a) (128 * p + d)))
    (hv : ∀ j : Fin 256, (v (ix4 0 0 0 j) : EReal) = ((A.F b (2 * p + 0) (256 * n + j.val) : ℝ) : EReal))
    (hw : ∀ j : Fin 256, (w (ix4 0 0 0 j) : EReal) = ((A.F b (2 * p + 1) (256 * n + j.val) : ℝ) : EReal)) :
    Is2 (k0_pay3 Q u k0_pay30 K v w) (fun r j => Zr A b p q r (256 * n + j)) :=
  (logits (k := fun a d => A.K b (256 * n + a) (128 * p + d)) (u := fun e a => A.F b (2 * p + e) (512 * q + a)) (g := fun e j => A.F b (2 * p + e) (256 * n + j)) hQ hu hK hv hw).congr fun r j hr hj => by
    rw [Zr, zr]
    refine congrArg (fun x => x * _ + _ - _) (Finset.sum_congr rfl fun e he => ?_)
    rw [show 128 * p + (64 * (r / 512) + e) = 64 * (2 * p + r / 512) + e by ring]

/-- What is carried when the first `n` blocks of keys have been added. -/
abbrev At (A : In) (b p q n : ℕ) (st : FVec Ideal S1024x128 .f32 × FVec Ideal S1024x1 .f32 × FVec Ideal S1024x1 .f32) : Prop :=
  Inv (Zr A b p q) (fun s d => A.V b s (128 * p + d)) (Tr q) n st

variable {A b p}
variable {x1 x2 : Vec Ideal S1x4096x128 .bf16} {x4 : Vec Ideal S1x1x2x4096 .f32}
  (h1 : Is3 (φ := .bf16) (A := 1) (B := 4096) (C := 128) x1 (fun _ a d => A.K b a (128 * p + d)))
  (h2 : Is3 (φ := .bf16) (A := 1) (B := 4096) (C := 128) x2 (fun _ a d => A.V b a (128 * p + d)))
  (h4 : ∀ (e : Fin 2) (j : Fin 4096), (x4 (ix4 0 0 e j) : EReal) = ((A.F b (2 * p + e.val) j.val : ℝ) : EReal))

include h1 h2 h4

theorem loop_inv (𝒱 : Variants) (c : Dev nD) (bd : Option 𝒱.V) (arg3 : Memref sig .tc .vmem S1x512x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512x2 .f32) (harg6 : arg6.IsWhole) (arg7 : Memref sig .tc .vmem S1x1x2x4096 .f32) (harg7 : arg7.IsWhole) (arg8 : Memref sig .tc .vmem S512x128 .f32) (harg8 : arg8.IsWhole) (arg9 : Memref sig .tc .vmem S1x512x128 .f32) (harg9 : arg9.IsWhole)
    {v0 : Vec Ideal S1x512x128 .bf16} {v13 : Vec Ideal S1x1x512x2 .f32}
    (h0 : Is3 (φ := .bf16) (A := 1) (B := 512) (C := 128) v0 (fun _ a d => A.Q b (512 * (i 2).val + a) (128 * p + d)))
    (h3 : ∀ (a : Fin 512) (e : Fin 2), (v13 (ix4 0 0 a e) : EReal) = ((A.F b (2 * p + e.val) (512 * (i 2).val + a.val) : ℝ) : EReal)) :
    ∀ k, k ≤ (i 2).val → At A b p (i 2).val (2 * k)
      (st_k0_t1 (F := Ideal) 𝒱 c bd i arg3 harg3 arg4 harg4 arg5 harg5 arg6 harg6 arg7 harg7 arg8 harg8 arg9 harg9 v0 v13 (harg4.unread x1) (harg5.unread x2) (harg7.unread x4) (k0_pay31, k0_pay32, k0_pay33) k)
  | 0, _ => init
  | k + 1, hk => by
    have hq : (i 2).val < 8 := (i 2).isLt
    have hlt : k < (k0_t1_loop i).trips := by rw [trips1]; omega
    have ih := loop_inv 𝒱 c bd arg3 harg3 arg4 harg4 arg5 harg5 arg6 harg6 arg7 harg7 arg8 harg8 arg9 harg9 h0 h3 k (by omega)
    rw [st_k0_t1_succ 𝒱 c bd i arg3 harg3 arg4 harg4 arg5 harg5 arg6 harg6 arg7 harg7 arg8 harg8 arg9 harg9 v0 v13 (harg4.unread x1) (harg5.unread x2) (harg7.unread x4) (k0_pay31, k0_pay32, k0_pay33) ⟨k, hlt⟩]
    generalize st_k0_t1 (F := Ideal) 𝒱 c bd i arg3 harg3 arg4 harg4 arg5 harg5 arg6 harg6 arg7 harg7 arg8 harg8 arg9 harg9 v0 v13 (harg4.unread x1) (harg5.unread x2) (harg7.unread x4) (k0_pay31, k0_pay32, k0_pay33) k = acc at ih ⊢
    unfold tripR_k0_t1 trip_k0_t1
    dsimp only
    frame_out
    have hQ := qs_at h0
    have hu := fcol_at (f := fun e a => A.F b (2 * p + e) (512 * (i 2).val + a)) h3
    have hL : ∀ r : Fin 2, Lg (k0_pay3 (k0_pay28 v0) (k0_pay29 v13) k0_pay30 (View.ld x1 (Rect.unit (k0_off1 i ⟨k, hlt⟩ (BitVec.ofNat 32 r.val)) ![1, 256, 128] (k0_off1_inb i ⟨k, hlt⟩ r)))
        (View.ld x4 (Rect.unit (k0_off2 i ⟨k, hlt⟩ (BitVec.ofNat 32 r.val)) ![1, 1, 1, 256] (k0_off2_inb i ⟨k, hlt⟩ r)))
        (View.ld x4 (Rect.unit (k0_off3 i ⟨k, hlt⟩ (BitVec.ofNat 32 r.val)) ![1, 1, 1, 256] (k0_off3_inb i ⟨k, hlt⟩ r)))) (Zr A b p (i 2).val) (Tr (i 2).val) (2 * k + r.val) := fun r =>
      open_logits (logits_at A b p hQ hu (ld_rows h1 (off1 i ⟨k, hlt⟩ r) _) (ld_sums (f := fun e s => A.F b (2 * p + e) s) h4 0 (off2 i ⟨k, hlt⟩ r) _) (ld_sums (f := fun e s => A.F b (2 * p + e) s) h4 1 (off3 i ⟨k, hlt⟩ r) _))
        fun a j _ _ => by rw [Tr]; omega
    have hV : ∀ r : Fin 2, Is2 (k0_pay2 (View.ld x2 (Rect.unit (k0_off1 i ⟨k, hlt⟩ (BitVec.ofNat 32 r.val)) ![1, 256, 128] (k0_off1_inb i ⟨k, hlt⟩ r)))) (fun j d => A.V b (256 * (2 * k + r.val) + j) (128 * p + d)) := fun r =>
      drop_at (ld_rows h2 (off1 i ⟨k, hlt⟩ r) _)
    exact step (V := fun s d => A.V b s (128 * p + d)) (hL 1) (hV 1) (step (V := fun s d => A.V b s (128 * p + d)) (hL 0) (hV 0) ih)

omit h1 h2 h4 in
/-- The columns of the two heads taken from the two stacked halves. -/
theorem pick {X : FVec Ideal S1024x128 .f32} {f : ℕ → ℕ → ℝ} (h : Is2 X f) :
    Is2 (select (broadcastTo S512x128 (shapeCast S1x128 (cmpi .slt (iota .tc S1x128 32 [1] iota_S1x128_d1_w32) (broadcast S1x128 64#32)) shapeCasts_S1x128_S1x128) broadcasts_S1x128_S512x128)
      (extractStridedSlice S512x128 ![0, 0] X slices_S1024x128_o0_0_S512x128) (extractStridedSlice S512x128 ![512, 0] X slices_S1024x128_o512_0_S512x128) : FVec Ideal S512x128 .f32)
      (fun r d => f (512 * (d / 64) + r) d) := fun r d => by
  simp only [pointwise]
  show (Scalar.select (IntOp.cmpi .slt (BitVec.ofNat 32 (0 * 128 + d.val)) 64#32) (X (ix2 ⟨0 + r.val, by omega⟩ ⟨0 + d.val, by omega⟩)) (X (ix2 ⟨512 + r.val, by omega⟩ ⟨0 + d.val, by omega⟩)) : EReal) = _
  rw [h, h]; simp only [zero_mul, zero_add]; rw [lane_words d.isLt]
  by_cases hd : d.val < 64
  · rw [show d.val / 64 = 0 by omega]; simp [Scalar.select, hd]
  · rw [show d.val / 64 = 1 by omega]; simp [Scalar.select, hd]

omit h1 h2 h4 in
theorem out_y {q : ℕ} (hq : q < 8) {v75 v89 : FVec Ideal S1024x1 .f32} {v85 : FVec Ideal S1024x128 .f32} {v90 v121 : BitVec 32} {v98 : FVec Ideal S256x128 .bf16} {v117 : FVec Ideal S1024x256 .f32} {v120 : IVec S1024x256 32}
    (h : At A b p q (2 * q + 2) (accN (k0_pay49 v90 v117 v120 v121) v75 v85 v98, mxN (k0_pay49 v90 v117 v120 v121) v75, denN (k0_pay49 v90 v117 v120 v121) v75 v89)) :
    Is2 (k0_pay54 v75 v85 v89 v90 v98 v117 v120 v121) (fun r d => y A b (512 * q + r) (128 * p + d)) := by
  rcases h with ⟨h, _⟩ | ⟨μ, ha, hm, hd⟩
  · omega
  dsimp only at ha hm hd
  have hdiv : Is2 (divf (accN (k0_pay49 v90 v117 v120 v121) v75 v85 v98) (broadcastTo S1024x128 (denN (k0_pay49 v90 v117 v120 v121) v75 v89) broadcasts_S1024x1_S1024x128))
      (fun r d => (∑ s ∈ Finset.range 4096, ex (Zr A b p q r) (Tr q r) s * A.V b s (128 * p + d)) / den (Zr A b p q r) (Tr q r)) := fun r d => by
    have hT : Tr q r.val < 256 * (2 * q + 2) := by rw [Tr]; omega
    have hp := den_pos (Zr A b p q r.val) (show Tr q r.val < 4096 by rw [Tr]; omega)
    refine (show _ = Ideal.div (accN (k0_pay49 v90 v117 v120 v121) v75 v85 v98 (ix2 r d) : EReal) (broadcastTo S1024x128 (denN (k0_pay49 v90 v117 v120 v121) v75 v89) broadcasts_S1024x1_S1024x128 (ix2 r d) : EReal) from rfl).trans ?_
    rw [ha r d, bcol128 hd r d]
    dsimp only
    rw [sum_ex _ _ hT (by omega), sum_ex' _ hT (by omega), Ideal.div_coe (mul_ne_zero (Real.exp_pos _).ne' hp.ne'), ← EReal.coe_mul, mul_one_div, quot_cancel (Real.exp_pos _).ne']
  refine (pick hdiv).congr fun r d hr hd => ?_
  rw [y_eq, Tr, show (512 * (d / 64) + r) % 512 = r by omega, show (128 * p + d) / 64 = 2 * p + d / 64 by omega]
  have hz : Zr A b p q (512 * (d / 64) + r) = zr A b (2 * p + d / 64) (512 * q + r) := funext fun s => by
    rw [Zr, show (512 * (d / 64) + r) % 512 = r by omega, show (512 * (d / 64) + r) / 512 = d / 64 by omega]
  rw [hz]

omit h1 h2 h4 in
theorem out_l {q : ℕ} (hq : q < 8) {v75 v89 : FVec Ideal S1024x1 .f32} {v85 : FVec Ideal S1024x128 .f32} {v90 v121 : BitVec 32} {v98 : FVec Ideal S256x128 .bf16} {v117 : FVec Ideal S1024x256 .f32} {v120 : IVec S1024x256 32}
    (h : At A b p q (2 * q + 2) (accN (k0_pay49 v90 v117 v120 v121) v75 v85 v98, mxN (k0_pay49 v90 v117 v120 v121) v75, denN (k0_pay49 v90 v117 v120 v121) v75 v89)) :
    Is3 (A := 1) (B := 512) (C := 128) (k0_pay1 (k0_pay55 v75 v89 v90 v117 v120 v121)) (fun _ r d => lse A b ((128 * p + d) / 64) (512 * q + r)) := by
  rcases h with ⟨h, _⟩ | ⟨μ, ha, hm, hd⟩
  · omega
  dsimp only at ha hm hd
  have hl : Is2 (addf (mxN (k0_pay49 v90 v117 v120 v121) v75) (log (denN (k0_pay49 v90 v117 v120 v121) v75 v89)))
      (fun r _ => Real.log (den (Zr A b p q r) (Tr q r))) := fun r e => by
    have hT : Tr q r.val < 256 * (2 * q + 2) := by rw [Tr]; omega
    have hp := den_pos (Zr A b p q r.val) (show Tr q r.val < 4096 by rw [Tr]; omega)
    refine (show _ = (mxN (k0_pay49 v90 v117 v120 v121) v75 (ix2 r e) : EReal) + Ideal.log (denN (k0_pay49 v90 v117 v120 v121) v75 v89 (ix2 r e) : EReal) from rfl).trans ?_
    rw [hm r e, hd r e]
    dsimp only
    rw [sum_ex' _ hT (by omega), Ideal.log_coe, if_neg (mul_pos (Real.exp_pos _) hp).not_ge, ← EReal.coe_add, Real.log_mul (Real.exp_pos _).ne' hp.ne', Real.log_exp]
    congr 1; ring
  have hb : Is2 (broadcastTo S1024x128 (shapeCast S1024x1 (addf (mxN (k0_pay49 v90 v117 v120 v121) v75) (log (denN (k0_pay49 v90 v117 v120 v121) v75 v89))) shapeCasts_S1024x1_S1024x1) broadcasts_S1024x1_S1024x128 : FVec Ideal S1024x128 .f32)
      (fun r _ => Real.log (den (Zr A b p q r) (Tr q r))) := of_col hl fun a b => by simp only [pointwise]; rfl
  have hk : Is2 (k0_pay55 v75 v89 v90 v117 v120 v121) _ := pick hb
  intro a r d
  refine (show (k0_pay1 (k0_pay55 v75 v89 v90 v117 v120 v121) (ix3 a r d) : EReal) = (k0_pay55 v75 v89 v90 v117 v120 v121 (ix2 r d) : EReal) from by simp only [k0_pay1, pointwise]).trans ((hk r d).trans (congrArg _ ?_))
  dsimp only
  rw [lse, Tr, show (512 * (d.val / 64) + r.val) % 512 = r.val by omega, show (128 * p + d.val) / 64 = 2 * p + d.val / 64 by omega]
  have hz : Zr A b p q (512 * (d.val / 64) + r.val) = zr A b (2 * p + d.val / 64) (512 * q + r.val) := funext fun s => by
    rw [Zr, show (512 * (d.val / 64) + r.val) % 512 = r.val by omega, show (512 * (d.val / 64) + r.val) / 512 = d.val / 64 by omega]
  rw [hz]

/-- The last two blocks, which hold the rows' own places. -/
theorem last {st : FVec Ideal S1024x128 .f32 × FVec Ideal S1024x1 .f32 × FVec Ideal S1024x1 .f32}
    {v0 : Vec Ideal S1x512x128 .bf16} {v13 : Vec Ideal S1x1x512x2 .f32}
    (h0 : Is3 (φ := .bf16) (A := 1) (B := 512) (C := 128) v0 (fun _ a d => A.Q b (512 * (i 2).val + a) (128 * p + d)))
    (h3 : ∀ (a : Fin 512) (e : Fin 2), (v13 (ix4 0 0 a e) : EReal) = ((A.F b (2 * p + e.val) (512 * (i 2).val + a.val) : ℝ) : EReal))
    (r : Fin 2) (hs : At A b p (i 2).val (2 * (i 2).val + r.val) st) (w : BitVec 32) (hw : w = BitVec.ofNat 32 (2 * (i 2).val + r.val)) :
    At A b p (i 2).val (2 * (i 2).val + r.val + 1)
      (let S := k0_pay49 w (k0_pay3 (k0_pay28 v0) (k0_pay29 v13) k0_pay30 (View.ld x1 (Rect.unit (k0_off7 i (BitVec.ofNat 32 r.val)) ![1, 256, 128] (k0_off7_inb i r)))
        (View.ld x4 (Rect.unit (k0_off8 i (BitVec.ofNat 32 r.val)) ![1, 1, 1, 256] (k0_off8_inb i r)))
        (View.ld x4 (Rect.unit (k0_off9 i (BitVec.ofNat 32 r.val)) ![1, 1, 1, 256] (k0_off9_inb i r)))) k0_pay48 (Scalar.muli (BitVec.ofNat 32 (i 2).val) 512#32)
       (accN S st.2.1 st.1 (k0_pay2 (View.ld x2 (Rect.unit (k0_off7 i (BitVec.ofNat 32 r.val)) ![1, 256, 128] (k0_off7_inb i r)))), mxN S st.2.1, denN S st.2.1 st.2.2)) := by
  have hq : (i 2).val < 8 := (i 2).isLt
  subst hw
  exact step (V := fun s d => A.V b s (128 * p + d)) (masked_logits hq (by omega) (logits_at A b p (qs_at h0) (fcol_at (f := fun e a => A.F b (2 * p + e) (512 * (i 2).val + a)) h3)
    (ld_rows h1 (off7 i r) _) (ld_sums (f := fun e s => A.F b (2 * p + e) s) h4 0 (off8 i r) _) (ld_sums (f := fun e s => A.F b (2 * p + e) s) h4 1 (off9 i r) _)))
    (drop_at (ld_rows h2 (off7 i r) _)) hs

omit h1 h2 h4
variable (c : Dev nD) (V : (c : Dev nD) → (b : Ref sig .tc) → Buf (Elt Ideal) ((c : Thread nD τ).loc b)) (t : Fin cfg0.N)

theorem word (q : Fin 8) (r : Fin 2) : Scalar.addi (Scalar.muli (BitVec.ofNat 32 q.val) 2#32) (BitVec.ofNat 32 r.val) = BitVec.ofNat 32 (2 * q.val + r.val) := by
  show BitVec.ofNat 32 q.val * BitVec.ofNat 32 2 + BitVec.ofNat 32 r.val = _
  rw [← BitVec.ofNat_mul, ← BitVec.ofNat_add]; congr 1; ring

theorem point_y (g0 : Is3 (φ := .bf16) (A := 1) (B := 512) (C := 128) (iblk0 V c 0 t) (fun _ a d => A.Q b (512 * (grid0.coords t 2).val + a) (128 * p + d)))
    (g1 : Is3 (φ := .bf16) (A := 1) (B := 4096) (C := 128) (iblk0 V c 1 t) (fun _ a d => A.K b a (128 * p + d)))
    (g2 : Is3 (φ := .bf16) (A := 1) (B := 4096) (C := 128) (iblk0 V c 2 t) (fun _ a d => A.V b a (128 * p + d)))
    (g3 : ∀ (a : Fin 512) (e : Fin 2), ((iblk0 V c 3 t : Vec Ideal S1x1x512x2 .f32) (ix4 0 0 a e) : EReal) = ((A.F b (2 * p + e.val) (512 * (grid0.coords t 2).val + a.val) : ℝ) : EReal))
    (g4 : ∀ (e : Fin 2) (j : Fin 4096), ((iblk0 V c 4 t : Vec Ideal S1x1x2x4096 .f32) (ix4 0 0 e j) : EReal) = ((A.F b (2 * p + e.val) j.val : ℝ) : EReal)) :
    Is2 (A := 512) (B := 128) (φ := .f32) ((dat0 V c).after 5 t) (fun r d => y A b (512 * (grid0.coords t 2).val + r) (128 * p + d)) := by
  rw [after0_5]
  frame_out
  have e2 := trips2 (grid0.coords t)
  have e1 := trips1 (grid0.coords t)
  unfold Scf.Loop.trips at e1 e2
  simp only [k0_t1_loop, k0_t2_loop] at e1 e2
  rw [e2, st_k0_t2_zero, e1]
  clear e1 e2
  have L := loop_inv (grid0.coords t) g1 g2 g4 Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) g0 g3 _ le_rfl
  exact out_y (p := p) (grid0.coords t 2).isLt (last (grid0.coords t) g1 g2 g4 g0 g3 1 (last (grid0.coords t) g1 g2 g4 g0 g3 0 L _ (word _ 0)) _ (word _ 1))

theorem point_l (g0 : Is3 (φ := .bf16) (A := 1) (B := 512) (C := 128) (iblk0 V c 0 t) (fun _ a d => A.Q b (512 * (grid0.coords t 2).val + a) (128 * p + d)))
    (g1 : Is3 (φ := .bf16) (A := 1) (B := 4096) (C := 128) (iblk0 V c 1 t) (fun _ a d => A.K b a (128 * p + d)))
    (g2 : Is3 (φ := .bf16) (A := 1) (B := 4096) (C := 128) (iblk0 V c 2 t) (fun _ a d => A.V b a (128 * p + d)))
    (g3 : ∀ (a : Fin 512) (e : Fin 2), ((iblk0 V c 3 t : Vec Ideal S1x1x512x2 .f32) (ix4 0 0 a e) : EReal) = ((A.F b (2 * p + e.val) (512 * (grid0.coords t 2).val + a.val) : ℝ) : EReal))
    (g4 : ∀ (e : Fin 2) (j : Fin 4096), ((iblk0 V c 4 t : Vec Ideal S1x1x2x4096 .f32) (ix4 0 0 e j) : EReal) = ((A.F b (2 * p + e.val) j.val : ℝ) : EReal)) :
    Is3 (A := 1) (B := 512) (C := 128) (φ := .f32) ((dat0 V c).after 6 t) (fun _ r d => lse A b ((128 * p + d) / 64) (512 * (grid0.coords t 2).val + r)) := by
  rw [after0_6]
  frame_out
  have e2 := trips2 (grid0.coords t)
  have e1 := trips1 (grid0.coords t)
  unfold Scf.Loop.trips at e1 e2
  simp only [k0_t1_loop, k0_t2_loop] at e1 e2
  rw [e2, st_k0_t2_zero, e1]
  clear e1 e2
  have L := loop_inv (grid0.coords t) g1 g2 g4 Variants.none c none (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) g0 g3 _ le_rfl
  exact out_l (p := p) (grid0.coords t 2).isLt (last (grid0.coords t) g1 g2 g4 g0 g3 1 (last (grid0.coords t) g1 g2 g4 g0 g3 0 L _ (word _ 0)) _ (word _ 1))

end Point

end Cert.FoxIdeal.Fwd

end
-- ==== Proof.FoxArr0.lean ====
/-
  What the forward kernel's grid leaves in its two arrays.
-/
module

public import proofs.«01_k».proof.Proof.FoxFwdRun

@[expose] public section

set_option maxRecDepth 16384

noncomputable section

open Idealize.ShloMosaic Idealize.ShloMosaic.TcCoe Idealize.SL.Sem
open Idealize.ShloMosaic.Pipeline (Dat)

namespace Cert.FoxIdeal.Fwd

open Cert.FoxIdeal.Gen Cert.FoxSpec Cert.Vals

theorem idx : ∀ t : Fin cfg0.N, win0_0.index t = ![t.val / 16, t.val % 8, t.val / 8 % 2] ∧ win0_1.index t = ![t.val / 16, 0, t.val / 8 % 2]
    ∧ win0_2.index t = ![t.val / 16, 0, 18 + t.val / 8 % 2] ∧ win0_3.index t = ![t.val / 16, t.val / 8 % 2, t.val % 8, 0]
    ∧ win0_4.index t = ![t.val / 16, t.val / 8 % 2, 0, 0] ∧ win0_5.index t = ![8 * (t.val / 16) + t.val % 8, t.val / 8 % 2]
    ∧ win0_6.index t = ![t.val / 8 % 2, 8 * (t.val / 16) + t.val % 8, 0] :=
  (by decide +kernel : ∀ t : Fin grid0.N, _)

theorem coord2 : ∀ t : Fin cfg0.N, (grid0.coords t 2).val = t.val % 8 := (by decide +kernel : ∀ t : Fin grid0.N, (grid0.coords t 2).val = t.val % 8)

/-- What both kernels are given: queries, keys, values and the running sums in their two layouts. -/
structure Given (A : In) (q k : FVec Ideal S2x4096x256 .bf16) (v : FVec Ideal S2x4096x2688 .bf16) (fc : FVec Ideal S2x2x4096x2 .f32) (fr : FVec Ideal S2x2x2x4096 .f32) : Prop where
  q : ∀ (a : Fin 2) (b : Fin 4096) (d : Fin 256), (q (ix3 a b d) : EReal) = ((A.Q a.val b.val d.val : ℝ) : EReal)
  k : ∀ (a : Fin 2) (b : Fin 4096) (d : Fin 256), (k (ix3 a b d) : EReal) = ((A.K a.val b.val d.val : ℝ) : EReal)
  v : ∀ (a : Fin 2) (b : Fin 4096) (d : Fin 256), (v (ix3 a b (⟨2304 + d.val, by omega⟩ : Fin 2688)) : EReal) = ((A.V a.val b.val d.val : ℝ) : EReal)
  fc : ∀ (a p : Fin 2) (b : Fin 4096) (e : Fin 2), (fc (ix4 a p b e) : EReal) = ((A.F a.val (2 * p.val + e.val) b.val : ℝ) : EReal)
  fr : ∀ (a p e : Fin 2) (b : Fin 4096), (fr (ix4 a p e b) : EReal) = ((A.F a.val (2 * p.val + e.val) b.val : ℝ) : EReal)

variable (c : Dev nD) (V : (c : Dev nD) → (b : Ref sig .tc) → Buf (Elt Ideal) ((c : Thread nD τ).loc b)) (t : Fin cfg0.N)
variable {A : In} (hG : Given A (V c main_v9) (V c main_v10) (V c main_v1) (V c main_v7) (V c main_v8))

include hG

theorem blk0 : Is3 (φ := .bf16) (A := 1) (B := 512) (C := 128) (iblk0 V c 0 t) (fun _ a d => A.Q (t.val / 16) (512 * (t.val % 8) + a) (128 * (t.val / 8 % 2) + d)) := fun a r d => by
  have ht : t.val < 32 := t.isLt
  refine Eq.trans ?_ (hG.q ⟨t.val / 16, by omega⟩ ⟨512 * (t.val % 8) + r.val, by omega⟩ ⟨128 * (t.val / 8 % 2) + d.val, by omega⟩)
  blk_simp [iblk0, idx t]
  blk_ext [idx t]

theorem blk1 : Is3 (φ := .bf16) (A := 1) (B := 4096) (C := 128) (iblk0 V c 1 t) (fun _ a d => A.K (t.val / 16) a (128 * (t.val / 8 % 2) + d)) := fun a r d => by
  have ht : t.val < 32 := t.isLt
  refine Eq.trans ?_ (hG.k ⟨t.val / 16, by omega⟩ ⟨r.val, by omega⟩ ⟨128 * (t.val / 8 % 2) + d.val, by omega⟩)
  blk_simp [iblk0, idx t]
  blk_ext [idx t]

theorem blk2 : Is3 (φ := .bf16) (A := 1) (B := 4096) (C := 128) (iblk0 V c 2 t) (fun _ a d => A.V (t.val / 16) a (128 * (t.val / 8 % 2) + d)) := fun a r d => by
  have ht : t.val < 32 := t.isLt
  refine Eq.trans ?_ (hG.v ⟨t.val / 16, by omega⟩ ⟨r.val, by omega⟩ ⟨128 * (t.val / 8 % 2) + d.val, by omega⟩)
  blk_simp [iblk0, idx t]
  blk_ext [idx t]

theorem blk3 (a : Fin 512) (e : Fin 2) : ((iblk0 V c 3 t : Vec Ideal S1x1x512x2 .f32) (ix4 0 0 a e) : EReal) = ((A.F (t.val / 16) (2 * (t.val / 8 % 2) + e.val) (512 * (t.val % 8) + a.val) : ℝ) : EReal) := by
  have ht : t.val < 32 := t.isLt
  refine Eq.trans ?_ (hG.fc ⟨t.val / 16, by omega⟩ ⟨t.val / 8 % 2, by omega⟩ ⟨512 * (t.val % 8) + a.val, by omega⟩ e)
  blk_simp [iblk0, idx t]
  blk_ext [idx t]

theorem blk4 (e : Fin 2) (j : Fin 4096) : ((iblk0 V c 4 t : Vec Ideal S1x1x2x4096 .f32) (ix4 0 0 e j) : EReal) = ((A.F (t.val / 16) (2 * (t.val / 8 % 2) + e.val) j.val : ℝ) : EReal) := by
  have ht : t.val < 32 := t.isLt
  refine Eq.trans ?_ (hG.fr ⟨t.val / 16, by omega⟩ ⟨t.val / 8 % 2, by omega⟩ e j)
  blk_simp [iblk0, idx t]
  blk_ext [idx t]

/-- The output array: the reference's output at every token and column. -/
theorem arr_y (r : Fin 8192) (d : Fin 256) : ((dat0 V c).arrAt 5 cfg0.N : FVec Ideal S8192x256 .f32) (ix2 r d) = ((y A (r.val / 4096) (r.val % 4096) d.val : ℝ) : EReal) := by
  refine (dat0 V c).arrAt_forall_of_covers 5 (fun (i : S8192x256.Idx) (v : EReal) => v = ((y A ((i 0).val / 4096) ((i 0).val % 4096) (i 1).val : ℝ) : EReal))
    (by decide +kernel) (fun t hf z => ?_) (ix2 r d)
  have ht : t.val < 32 := t.isLt
  obtain ⟨a, b, rfl⟩ : ∃ (a : Fin 512) (b : Fin 128), z = ix2 a b := ⟨z 0, z 1, eq_ix2 z⟩
  have h := point_y (b := t.val / 16) (p := t.val / 8 % 2) (A := A) c V t (by rw [coord2]; exact blk0 c V t hG) (blk1 c V t hG) (blk2 c V t hG)
    (by rw [coord2]; exact blk3 c V t hG) (blk4 c V t hG) a b
  rw [coord2] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega,
    show t.val / 8 % 2 * 128 + b.val = 128 * (t.val / 8 % 2) + b.val by ring]

/-- The array of the rows' logarithms of sums, one plane per pair of heads. -/
theorem arr_l (p : Fin 2) (r : Fin 8192) (d : Fin 128) : ((dat0 V c).arrAt 6 cfg0.N : FVec Ideal S2x8192x128 .f32) (ix3 p r d) = ((lse A (r.val / 4096) ((128 * p.val + d.val) / 64) (r.val % 4096) : ℝ) : EReal) := by
  refine (dat0 V c).arrAt_forall_of_covers 6 (fun (i : S2x8192x128.Idx) (v : EReal) => v = ((lse A ((i 1).val / 4096) ((128 * (i 0).val + (i 2).val) / 64) ((i 1).val % 4096) : ℝ) : EReal))
    (by decide +kernel) (fun t hf z => ?_) (ix3 p r d)
  have ht : t.val < 32 := t.isLt
  obtain ⟨e, a, b, rfl⟩ : ∃ (e : Fin 1) (a : Fin 512) (b : Fin 128), z = ix3 e a b := ⟨z 0, z 1, z 2, eq_ix3 z⟩
  have h := point_l (b := t.val / 16) (p := t.val / 8 % 2) (A := A) c V t (by rw [coord2]; exact blk0 c V t hG) (blk1 c V t hG) (blk2 c V t hG)
    (by rw [coord2]; exact blk3 c V t hG) (blk4 c V t hG) e a b
  rw [coord2] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega]
  done

end Cert.FoxIdeal.Fwd

end
-- ==== Proof.FoxStore.lean ====
/-
  Arrays that a tile adds its part to, block of keys by block of keys.
-/
module

public import proofs.«01_k».proof.Proof.FoxFwdRun

@[expose] public section

set_option maxRecDepth 16384

noncomputable section

open Idealize.ShloMosaic Idealize.ShloMosaic.TcCoe Idealize.SL.Sem

namespace Cert.FoxIdeal.Bwd

open Cert.FoxIdeal.Gen Cert.Vals

/-- The rows of a block read at a place. -/
theorem ld_rows32 {X : Vec Ideal S1x4096x128 .f32} {f : ℕ → ℕ → ℝ} (hX : Is3 (φ := .f32) (A := 1) (B := 4096) (C := 128) X (fun _ a b => f a b))
    {off : Fin 3 → ℕ} {o : ℕ} (ho : off = ![0, o, 0]) (h) :
    Is3 (φ := .f32) (A := 1) (B := 256) (C := 128) (View.ld X (Rect.unit off ![1, 256, 128] h)) (fun _ a b => f (o + a) b) := by
  subst ho
  intro a b d
  have ha : a = 0 := Subsingleton.elim _ _
  subst ha
  have hb : o + b.val < 4096 := by have := h 1; simp at this; omega
  refine Eq.trans (?_ : _ = (X (ix3 0 ⟨o + b.val, hb⟩ d) : EReal)) (hX 0 ⟨o + b.val, hb⟩ d)
  refine congrArg X (funext fun e => Fin.ext ?_)
  fin_cases e <;> simp [Rect.unit]

/-- The pieces of a result's stores. -/
abbrev Pcs : Type := List (View.Piece (Elt Ideal) S1x4096x128 .f32)
/-- How stores are laid over each other. -/
def Lay (R : Pcs → Vec Ideal S1x4096x128 .f32) : Prop := ∀ p L, R (p :: L) = p.1.overlay (R L) p.2

theorem lay_canon : Lay (View.canon (Val := Elt Ideal) (s := S1x4096x128) (e := .f32)) := fun p L => View.canon_cons p L

theorem lay_read {κ : Kind} {sp : Space} (v : View sig κ sp S1x4096x128 .f32) (f : v.ty.Contents (Elt Ideal)) : Lay (fun L => v.read (Elt Ideal) (v.writes (Elt Ideal) f L)) := fun p L => by
  funext y
  by_cases hy : y ∈ p.1.set
  · obtain ⟨x, rfl⟩ : ∃ x, p.1.emb x = y := p.1.exists_idx_of_mem hy
    rw [Rect.overlay_emb]
    exact View.read_writes_cons_emb v f p.1 p.2 L x
  · rw [Rect.overlay_of_not_mem _ _ _ hy]
    dsimp only
    rw [View.writes_cons]
    exact View.read_slice_write_of_not_mem _ _ _ _ (by rwa [Rect.map_emb_univ])

/-- What an array holds when a tile's part has been added to its rows before a block. -/
abbrev Upto (X : Vec Ideal S1x4096x128 .f32) (o g : ℕ → ℕ → ℝ) (n : ℕ) : Prop :=
  Is3 (φ := .f32) (A := 1) (B := 4096) (C := 128) X (fun _ a d => o a d + if a < 256 * n then g a d else 0)

/-- A block's store. -/
theorem stored {R : Pcs → Vec Ideal S1x4096x128 .f32} (hR : Lay R) {L : Pcs} {o g : ℕ → ℕ → ℝ} {n : ℕ} (h0 : Upto (R L) o g n)
    {off : Fin 3 → ℕ} (ho : off = ![0, 256 * n, 0]) (h) {w : Vec Ideal S1x256x128 .f32}
    (hw : Is3 (φ := .f32) (A := 1) (B := 256) (C := 128) w (fun _ a d => o (256 * n + a) d + g (256 * n + a) d)) :
    Upto (R (⟨Rect.unit off ![1, 256, 128] h, w⟩ :: L)) o g (n + 1) := by
  subst ho
  intro u a d
  rw [hR]
  have hu : u = 0 := Subsingleton.elim _ _
  subst hu
  by_cases ha : 256 * n ≤ a.val ∧ a.val < 256 * n + 256
  · have e : (ix3 0 a d : S1x4096x128.Idx) = (Rect.unit ![0, 256 * n, 0] ![1, 256, 128] h).emb (ix3 (0 : Fin 1) (⟨a.val - 256 * n, by omega⟩ : Fin 256) d) := by
      refine funext fun e => Fin.ext ?_
      fin_cases e <;> simp [Rect.unit, Rect.emb]
      omega
    rw [e, Rect.overlay_emb]
    refine (hw 0 ⟨a.val - 256 * n, by omega⟩ d).trans ?_
    dsimp only
    rw [if_pos (by omega), show 256 * n + (a.val - 256 * n) = a.val by omega]
  · rw [Rect.overlay_of_not_mem]
    · refine (h0 0 a d).trans ?_
      by_cases h1 : a.val < 256 * n
      · dsimp only
        rw [if_pos h1, if_pos (by omega)]
      · dsimp only
        rw [if_neg h1, if_neg (by omega)]
    · rw [Rect.mem_set_unit]
      intro hall
      have := hall 1
      exact ha this

theorem Upto.block {X : Vec Ideal S1x4096x128 .f32} {o g : ℕ → ℕ → ℝ} {n m : ℕ} (h : Upto X o g n) (hm : n ≤ m) {off : Fin 3 → ℕ} (ho : off = ![0, 256 * m, 0]) (hb) :
    Is3 (φ := .f32) (A := 1) (B := 256) (C := 128) (View.ld X (Rect.unit off ![1, 256, 128] hb)) (fun _ a d => o (256 * m + a) d) := fun u a d => by
  refine (ld_rows32 (f := fun a d => o a d + if a < 256 * n then g a d else 0) h ho hb u a d).trans ?_
  dsimp only
  rw [if_neg (by have := Nat.mul_le_mul_left 256 hm; omega), add_zero]

theorem init_zero {κ : Kind} {sp : Space} (v : View sig κ sp S1x4096x128 .f32) (g : ℕ → ℕ → ℝ) {hs} {w : Vec Ideal S1x4096x128 .f32}
    (hw : Is3 (φ := .f32) (A := 1) (B := 4096) (C := 128) w (fun _ _ _ => 0)) :
    Upto (v.read (Elt Ideal) (v.writes (Elt Ideal) v.junk [⟨Rect.unit ![0, 0, 0] ![1, 4096, 128] hs, w⟩])) (fun _ _ => 0) g 0 := fun u a d => by
  have e : (ix3 u a d : S1x4096x128.Idx) = (Rect.unit ![0, 0, 0] ![1, 4096, 128] hs).emb (ix3 u a d) := by
    refine funext fun e => Fin.ext ?_
    fin_cases e <;> simp [Rect.unit, Rect.emb]
  rw [View.read_writes_junk_eq_canon, View.canon_cons, e, Rect.overlay_emb]
  refine (hw u a d).trans ?_
  simp

theorem zero_out {w : FVec Ideal S1x4096x128 .f32} (h : ∀ i, w i = ((0 : ℝ) : EReal)) : Is3 (φ := .f32) (A := 1) (B := 4096) (C := 128) w (fun _ _ _ => 0) := fun _ _ _ => h _

theorem init_prev {κ : Kind} {sp : Space} {m : Memref sig κ sp S1x4096x128 .f32} (hm : m.IsWhole) (g : ℕ → ℕ → ℝ) {w : Vec Ideal S1x4096x128 .f32} {o : ℕ → ℕ → ℝ}
    (hw : Is3 (φ := .f32) (A := 1) (B := 4096) (C := 128) w (fun _ a d => o a d)) :
    Upto (m.view.read (Elt Ideal) (hm.unread w)) o g 0 := fun u a d => by
  rw [hm.read_unread]
  refine (hw u a d).trans ?_
  simp

/-- The pieces of the stores into the rows of key sums. -/
abbrev PcsR : Type := List (View.Piece (Elt Ideal) S1x1x8x4096 .f32)
def LayR (R : PcsR → Vec Ideal S1x1x8x4096 .f32) : Prop := ∀ p L, R (p :: L) = p.1.overlay (R L) p.2

theorem layR_canon : LayR (View.canon (Val := Elt Ideal) (s := S1x1x8x4096) (e := .f32)) := fun p L => View.canon_cons p L

theorem layR_read {κ : Kind} {sp : Space} (v : View sig κ sp S1x1x8x4096 .f32) (f : v.ty.Contents (Elt Ideal)) : LayR (fun L => v.read (Elt Ideal) (v.writes (Elt Ideal) f L)) := fun p L => by
  funext y
  by_cases hy : y ∈ p.1.set
  · obtain ⟨x, rfl⟩ : ∃ x, p.1.emb x = y := p.1.exists_idx_of_mem hy
    rw [Rect.overlay_emb]
    exact View.read_writes_cons_emb v f p.1 p.2 L x
  · rw [Rect.overlay_of_not_mem _ _ _ hy]
    dsimp only
    rw [View.writes_cons]
    exact View.read_slice_write_of_not_mem _ _ _ _ (by rwa [Rect.map_emb_univ])

/-- What the row `e` holds when a tile's part has been added to its places before a block. -/
def Row (X : Vec Ideal S1x1x8x4096 .f32) (e : Fin 8) (o g : ℕ → ℝ) (n : ℕ) : Prop :=
  ∀ j : Fin 4096, (X (ix4 0 0 e j) : EReal) = ((o j.val + if j.val < 256 * n then g j.val else 0 : ℝ) : EReal)

theorem Row.kept {R : PcsR → Vec Ideal S1x1x8x4096 .f32} (hR : LayR R) {L : PcsR} {e e' : Fin 8} (he : e.val ≠ e'.val) {o g : ℕ → ℝ} {n m : ℕ} (h0 : Row (R L) e o g n)
    {off : Fin 4 → ℕ} (ho : off = ![0, 0, e'.val, m]) (h) (w : Vec Ideal S1x1x1x256 .f32) :
    Row (R (⟨Rect.unit off ![1, 1, 1, 256] h, w⟩ :: L)) e o g n := by
  subst ho
  intro j
  rw [hR, Rect.overlay_of_not_mem]
  · exact h0 j
  · rw [Rect.mem_set_unit]
    intro hall
    have h2 := hall 2
    have h3 : e'.val ≤ e.val ∧ e.val < e'.val + 1 := h2
    omega

theorem Row.stored {R : PcsR → Vec Ideal S1x1x8x4096 .f32} (hR : LayR R) {L : PcsR} {e : Fin 8} {o g : ℕ → ℝ} {n : ℕ} (h0 : Row (R L) e o g n)
    {off : Fin 4 → ℕ} (ho : off = ![0, 0, e.val, 256 * n]) (h) {w : Vec Ideal S1x1x1x256 .f32}
    (hw : ∀ j : Fin 256, (w (ix4 0 0 0 j) : EReal) = ((o (256 * n + j.val) + g (256 * n + j.val) : ℝ) : EReal)) :
    Row (R (⟨Rect.unit off ![1, 1, 1, 256] h, w⟩ :: L)) e o g (n + 1) := by
  subst ho
  intro j
  rw [hR]
  by_cases ha : 256 * n ≤ j.val ∧ j.val < 256 * n + 256
  · have e : (ix4 0 0 e j : S1x1x8x4096.Idx) = (Rect.unit ![0, 0, e.val, 256 * n] ![1, 1, 1, 256] h).emb (ix4 (0 : Fin 1) (0 : Fin 1) (0 : Fin 1) (⟨j.val - 256 * n, by omega⟩ : Fin 256)) := by
      refine funext fun e => Fin.ext ?_
      fin_cases e <;> simp [Rect.unit, Rect.emb]
      omega
    rw [e, Rect.overlay_emb]
    refine (hw ⟨j.val - 256 * n, by omega⟩).trans ?_
    dsimp only
    rw [if_pos (by omega), show 256 * n + (j.val - 256 * n) = j.val by omega]
  · rw [Rect.overlay_of_not_mem]
    · refine (h0 j).trans ?_
      by_cases h1 : j.val < 256 * n
      · rw [if_pos h1, if_pos (by omega)]
      · rw [if_neg h1, if_neg (by omega)]
    · rw [Rect.mem_set_unit]
      intro hall
      have := hall 3
      exact ha this

theorem Row.block {X : Vec Ideal S1x1x8x4096 .f32} {e : Fin 8} {o g : ℕ → ℝ} {n m : ℕ} (h : Row X e o g n) (hm : n ≤ m) {off : Fin 4 → ℕ} (ho : off = ![0, 0, e.val, 256 * m]) (hb) (j : Fin 256) :
    ((View.ld X (Rect.unit off ![1, 1, 1, 256] hb) : Vec Ideal S1x1x1x256 .f32) (ix4 0 0 0 j) : EReal) = ((o (256 * m + j.val) : ℝ) : EReal) := by
  subst ho
  have hj : 256 * m + j.val < 4096 := by have := hb 3; simp at this; omega
  refine Eq.trans (?_ : _ = (X (ix4 0 0 e ⟨256 * m + j.val, hj⟩) : EReal)) ((h ⟨256 * m + j.val, hj⟩).trans ?_)
  · refine congrArg X (funext fun e => Fin.ext ?_)
    fin_cases e <;> simp [Rect.unit]
  · dsimp only
    rw [if_neg (by have := Nat.mul_le_mul_left 256 hm; omega), add_zero]

/-- Both rows. -/
def Rows (X : Vec Ideal S1x1x8x4096 .f32) (o g : ℕ → ℕ → ℝ) (n : ℕ) : Prop := Row X 0 (o 0) (g 0) n ∧ Row X 1 (o 1) (g 1) n

/-- A block's two stores. -/
theorem Rows.stored {R : PcsR → Vec Ideal S1x1x8x4096 .f32} (hR : LayR R) {L : PcsR} {o g : ℕ → ℕ → ℝ} {n : ℕ} (h : Rows (R L) o g n)
    {off off' : Fin 4 → ℕ} (ho : off = ![0, 0, 0, 256 * n]) (ho' : off' = ![0, 0, 1, 256 * n]) (hb) (hb') {w w' : Vec Ideal S1x1x1x256 .f32}
    (hw : ∀ j : Fin 256, (w (ix4 0 0 0 j) : EReal) = ((o 0 (256 * n + j.val) + g 0 (256 * n + j.val) : ℝ) : EReal))
    (hw' : ∀ j : Fin 256, (w' (ix4 0 0 0 j) : EReal) = ((o 1 (256 * n + j.val) + g 1 (256 * n + j.val) : ℝ) : EReal)) :
    Rows (R (⟨Rect.unit off' ![1, 1, 1, 256] hb', w'⟩ :: ⟨Rect.unit off ![1, 1, 1, 256] hb, w⟩ :: L)) o g (n + 1) :=
  ⟨(h.1.stored hR (off := off) ho hb hw).kept hR (e' := 1) (by decide) ho' hb' _, (h.2.kept hR (e' := 0) (by decide) (off := off) ho hb w).stored hR ho' hb' hw'⟩

theorem rows_zero {κ : Kind} {sp : Space} (v : View sig κ sp S1x1x8x4096 .f32) (g : ℕ → ℕ → ℝ) {hs} {w : Vec Ideal S1x1x8x4096 .f32} (hw : ∀ i, (w i : EReal) = ((0 : ℝ) : EReal)) :
    Rows (v.read (Elt Ideal) (v.writes (Elt Ideal) v.junk [⟨Rect.unit ![0, 0, 0, 0] ![1, 1, 8, 4096] hs, w⟩])) (fun _ _ => 0) g 0 := by
  have key : ∀ (e : Fin 8) (g : ℕ → ℝ), Row (v.read (Elt Ideal) (v.writes (Elt Ideal) v.junk [⟨Rect.unit ![0, 0, 0, 0] ![1, 1, 8, 4096] hs, w⟩])) e (fun _ => 0) g 0 := fun e g j => by
    have h : (ix4 0 0 e j : S1x1x8x4096.Idx) = (Rect.unit ![0, 0, 0, 0] ![1, 1, 8, 4096] hs).emb (ix4 0 0 e j) := by
      refine funext fun e => Fin.ext ?_
      fin_cases e <;> simp [Rect.unit, Rect.emb]
    rw [View.read_writes_junk_eq_canon, View.canon_cons, h, Rect.overlay_emb]
    refine (hw _).trans ?_
    simp
  exact ⟨key 0 _, key 1 _⟩

theorem rows_prev {κ : Kind} {sp : Space} {m : Memref sig κ sp S1x1x8x4096 .f32} (hm : m.IsWhole) {w : Vec Ideal S1x1x8x4096 .f32} {o g : ℕ → ℕ → ℝ}
    (hw : Rows w o g 0) : Rows (m.view.read (Elt Ideal) (hm.unread w)) o g 0 := by rwa [hm.read_unread]

end Cert.FoxIdeal.Bwd

end
-- ==== Proof.FoxBwd.lean ====
/-
  The backward kernel of attention with decaying logits over the real numbers: what each block of keys
  adds to the derivatives and to the sums of the logits' derivatives.
-/
module

public import proofs.«01_k».proof.Proof.FoxStore

@[expose] public section

set_option maxRecDepth 16384

noncomputable section

open Idealize.ShloMosaic Idealize.ShloMosaic.TcCoe Idealize.SL.Sem

namespace Cert.FoxIdeal.Bwd

open Cert.FoxIdeal.Gen Cert.FoxSpec Cert.Vals Cert.FoxIdeal.Fwd
open Cert.SbSpec (stk stk_dot stk_col block_range)

theorem tn_ok (l : (⟨2, ![1024, 256]⟩ : Shape).Idx → EReal) (r : (⟨2, ![1024, 128]⟩ : Shape).Idx → EReal) (acc : (⟨2, ![256, 128]⟩ : Shape).Idx → EReal) (i : Fin 256) (j : Fin 128) :
    Ideal.matmul dot_S1024x256_S1024x128_S256x128_0_0_1_1_n_n l r acc (ix2 i j) = acc (ix2 i j) + ∑ k : Fin 1024, l (ix2 k i) * r (ix2 k j) := by
  simp only [pointwise]

theorem dys_at {v : Vec Ideal S512x128 .f32} {f : ℕ → ℕ → ℝ} (h : Is2 (φ := .f32) (A := 512) (B := 128) v f) :
    Is2 (k1_pay61 (k1_pay59 v) (k1_pay60 v)) (stk f) := fun r d => by
  simp only [k1_pay61, k1_pay60, k1_pay59, k1_pay58, k1_pay57, k1_pay56, k1_pay52, pointwise]
  have e := lane_words d.isLt
  by_cases hr : r.val < 512
  · rw [dif_pos hr]
    have hh : (v (ix2 ⟨r.val, hr⟩ d) : EReal) = _ := h ⟨r.val, hr⟩ d
    show (Scalar.select (IntOp.cmpi .slt (BitVec.ofNat 32 (0 * 128 + d.val)) 64#32) (v (ix2 ⟨r.val, hr⟩ d)) (0 : EReal) : EReal) = _
    rw [show 0 * 128 + d.val = d.val by omega, e, hh, stk, if_pos hr]
    by_cases hd : d.val < 64 <;> simp [Scalar.select, hd]
  · rw [dif_neg hr]
    have hh : (v (ix2 ⟨r.val - 512, by omega⟩ d) : EReal) = _ := h ⟨r.val - 512, by omega⟩ d
    show (Scalar.select (IntOp.cmpi .slt (BitVec.ofNat 32 (0 * 128 + d.val)) 64#32) (0 : EReal) (v (ix2 ⟨r.val - 512, by omega⟩ d)) : EReal) = _
    rw [show 0 * 128 + d.val = d.val by omega, e, hh, stk, if_neg hr]
    by_cases hd : d.val < 64 <;> simp [Scalar.select, hd]

/-- The two heads' row sums of a derivative times an output, stacked. -/
theorem del_at {v w : Vec Ideal S512x128 .f32} {f g : ℕ → ℕ → ℝ} (hv : Is2 (φ := .f32) (A := 512) (B := 128) v f) (hw : Is2 (φ := .f32) (A := 512) (B := 128) w g) :
    Is2 (k1_pay62 k1_pay51 (k1_pay52 v) w) (fun r _ => ∑ e ∈ Finset.range 64, f (r % 512) (64 * (r / 512) + e) * g (r % 512) (64 * (r / 512) + e)) := fun r d => by
  have key : ∀ X : Fin 128 → EReal, (∀ k, X k = ((stk (fun a c => f a c * g a c) r.val k.val * 1 : ℝ) : EReal)) →
      ∑ k : Fin 128, X k = ((∑ e ∈ Finset.range 64, f (r.val % 512) (64 * (r.val / 512) + e) * g (r.val % 512) (64 * (r.val / 512) + e) : ℝ) : EReal) := fun X hX => by
    rw [Finset.sum_congr rfl fun k _ => hX k, sum_fin_coe (fun k => stk (fun a c => f a c * g a c) r.val k * 1), stk_dot _ (fun _ => 1) r.val r.isLt]
    simp only [mul_one]
  simp only [k1_pay62, k1_pay51, k1_pay52, pointwise]
  by_cases hr : r.val < 512
  · rw [dif_pos hr]
    refine key _ fun k => ?_
    have h1 : (v (ix2 ⟨r.val, hr⟩ k) : EReal) = _ := hv ⟨r.val, hr⟩ k
    have h2 : (w (ix2 ⟨r.val, hr⟩ k) : EReal) = _ := hw ⟨r.val, hr⟩ k
    show (Scalar.select (IntOp.cmpi .slt (BitVec.ofNat 32 (0 * 128 + k.val)) 64#32) ((v (ix2 ⟨r.val, hr⟩ k) : EReal) * (w (ix2 ⟨r.val, hr⟩ k) : EReal)) (0 : EReal) : EReal) = _
    rw [show 0 * 128 + k.val = k.val by omega, lane_words k.isLt, h1, h2, stk, if_pos hr, ← EReal.coe_mul, mul_one]
    by_cases hd : k.val < 64 <;> simp [Scalar.select, hd]
  · rw [dif_neg hr]
    refine key _ fun k => ?_
    have h1 : (v (ix2 ⟨r.val - 512, by omega⟩ k) : EReal) = _ := hv ⟨r.val - 512, by omega⟩ k
    have h2 : (w (ix2 ⟨r.val - 512, by omega⟩ k) : EReal) = _ := hw ⟨r.val - 512, by omega⟩ k
    show (Scalar.select (IntOp.cmpi .slt (BitVec.ofNat 32 (0 * 128 + k.val)) 64#32) (0 : EReal) ((v (ix2 ⟨r.val - 512, by omega⟩ k) : EReal) * (w (ix2 ⟨r.val - 512, by omega⟩ k) : EReal)) : EReal) = _
    rw [show 0 * 128 + k.val = k.val by omega, lane_words k.isLt, h1, h2, stk, if_neg hr, ← EReal.coe_mul, mul_one]
    by_cases hd : k.val < 64 <;> simp [Scalar.select, hd]

/-- The two heads' logarithms, stacked. -/
theorem lse_at {v : Vec Ideal S1x512x128 .f32} {f : ℕ → ℕ → ℝ} (h : Is3 (φ := .f32) (A := 1) (B := 512) (C := 128) v (fun _ a b => f a b)) :
    Is2 (k1_pay63 (k1_pay53 v)) (fun r _ => f (r % 512) (64 * (r / 512))) := fun r d => by
  simp only [k1_pay63, k1_pay53, pointwise]
  by_cases hr : r.val < 512
  · rw [dif_pos hr]
    refine (h 0 ⟨0 + r.val, by omega⟩ ⟨0, by omega⟩).trans ?_
    dsimp only
    rw [zero_add, show r.val % 512 = r.val by omega, show r.val / 512 = 0 by omega]
  · rw [dif_neg hr]
    refine (h 0 ⟨0 + (r.val - 512), by omega⟩ ⟨64, by omega⟩).trans ?_
    dsimp only
    rw [zero_add, show r.val % 512 = r.val - 512 by omega, show r.val / 512 = 1 by omega]

/-- A block of a derivative of the weights. -/
theorem grads {Q : FVec Ideal S1024x128 .bf16} {K : FVec Ideal S256x128 .bf16} {f k : ℕ → ℕ → ℝ} (hQ : Is2 Q (stk f)) (hK : Is2 K k) :
    Is2 (matmul dot_S1024x128_S256x128_S1024x256_1_1_0_0_n_n none Q K (constant S1024x256 .f32 0x00000000#32))
      (fun r j => ∑ e ∈ Finset.range 64, f (r % 512) (64 * (r / 512) + e) * k j (64 * (r / 512) + e)) :=
  (Is2.mmT nt_ok hQ hK (Is2.const zero_f32)).congr fun r j hr _ => by rw [zero_add, stk_dot _ _ r hr]

/-- A block of a result, with a stacked product added. -/
theorem add_block {L : FVec Ideal S1024x256 .bf16} {Q : FVec Ideal S1024x128 .bf16} {O : Vec Ideal S1x256x128 .f32} {l f o : ℕ → ℕ → ℝ}
    (hL : Is2 L l) (hQ : Is2 Q (stk f)) (hO : Is3 (φ := .f32) (A := 1) (B := 256) (C := 128) O (fun _ a d => o a d)) :
    Is3 (φ := .f32) (A := 1) (B := 256) (C := 128)
      (shapeCast S1x256x128 (addf (shapeCast S256x128 O shapeCasts_S1x256x128_S256x128)
        (matmul dot_S1024x256_S1024x128_S256x128_0_0_1_1_n_n none L Q (constant S256x128 .f32 0x00000000#32))) shapeCasts_S256x128_S1x256x128)
      (fun _ a d => o a d + ∑ r ∈ Finset.range 512, l (512 * (d / 64) + r) a * f r d) := fun u a d => by
  have h : Is2 (addf (shapeCast S256x128 O shapeCasts_S1x256x128_S256x128)
        (matmul dot_S1024x256_S1024x128_S256x128_0_0_1_1_n_n none L Q (constant S256x128 .f32 0x00000000#32)) : FVec Ideal S256x128 .f32)
      (fun a d => o a d + ∑ r ∈ Finset.range 512, l (512 * (d / 64) + r) a * f r d) :=
    ((of_drop hO fun a b => by simp only [pointwise]).add (Is2.Tmm tn_ok hL hQ (Is2.const zero_f32))).congr fun a d _ hd => by
      rw [zero_add, stk_col _ _ d hd]
  refine Eq.trans ?_ (h a d)
  generalize (addf (shapeCast S256x128 O shapeCasts_S1x256x128_S256x128)
        (matmul dot_S1024x256_S1024x128_S256x128_0_0_1_1_n_n none L Q (constant S256x128 .f32 0x00000000#32)) : FVec Ideal S256x128 .f32) = X
  simp only [pointwise]

/-- A row of key sums, less the column sums over the first head's queries. -/
theorem cols0 {X : FVec Ideal S1024x256 .f32} {f : ℕ → ℕ → ℝ} (hX : Is2 X f) (O : Vec Ideal S1x1x1x256 .f32) (o : ℕ → ℝ)
    (hO : ∀ j : Fin 256, (O (ix4 0 0 0 j) : EReal) = ((o j.val : ℝ) : EReal)) (j : Fin 256) :
    (k1_pay17 X O (ix4 0 0 0 j) : EReal) = ((o j.val - ∑ r ∈ Finset.range 512, f r j.val : ℝ) : EReal) := by
  simp only [k1_pay17, pointwise]
  refine (congrArg₂ (fun a b : EReal => a - b) (hO j) ((Finset.sum_congr rfl fun k _ => ?_).trans (sum_fin_coe (n := 512) (fun r => f r j.val)))).trans (EReal.coe_sub _ _).symm
  exact (congrArg₂ (fun a b => (X (ix2 a b) : EReal)) (Fin.ext (by simp)) (Fin.ext (by simp))).trans (hX ⟨k.val, by omega⟩ j)

/-- The same over the second head's. -/
theorem cols1 {X : FVec Ideal S1024x256 .f32} {f : ℕ → ℕ → ℝ} (hX : Is2 X f) (O : Vec Ideal S1x1x1x256 .f32) (o : ℕ → ℝ)
    (hO : ∀ j : Fin 256, (O (ix4 0 0 0 j) : EReal) = ((o j.val : ℝ) : EReal)) (j : Fin 256) :
    (k1_pay18 X O (ix4 0 0 0 j) : EReal) = ((o j.val - ∑ r ∈ Finset.range 512, f (512 + r) j.val : ℝ) : EReal) := by
  simp only [k1_pay18, pointwise]
  refine (congrArg₂ (fun a b : EReal => a - b) (hO j) ((Finset.sum_congr rfl fun k _ => ?_).trans (sum_fin_coe (n := 512) (fun r => f (512 + r) j.val)))).trans (EReal.coe_sub _ _).symm
  exact (congrArg₂ (fun a b => (X (ix2 a b) : EReal)) (Fin.ext (by simp)) (Fin.ext (by simp))).trans (hX ⟨512 + k.val, by omega⟩ j)

section Step

variable {Z G : ℕ → ℕ → ℝ} {K : ℕ → ℕ → ℝ} {T : ℕ → ℕ} {n : ℕ}
  {S D : FVec Ideal S1024x256 .f32} {lc dc rs : FVec Ideal S1024x1 .f32} {kb : FVec Ideal S256x128 .bf16} {acc : FVec Ideal S1024x128 .f32}
  (hT : ∀ r, T r < 4096) (hS : Is2 S (fun r j => Z r (256 * n + j))) (hD : Is2 D (fun r j => G r (256 * n + j)))
  (hl : Is2 lc (fun r _ => Real.log (den (Z r) (T r)))) (hd : Is2 dc (fun r _ => del (Z r) (G r) (T r)))

/-- A block's quotients of exponentials and row sums. -/
def pB (S : FVec Ideal S1024x256 .f32) (lc : FVec Ideal S1024x1 .f32) : FVec Ideal S1024x256 .f32 :=
  exp (subf S (broadcastTo S1024x256 lc broadcasts_S1024x1_S1024x256))
/-- The same where the mask holds. -/
def pM (q w : BitVec 32) (S : FVec Ideal S1024x256 .f32) (lc : FVec Ideal S1024x1 .f32) : FVec Ideal S1024x256 .f32 :=
  k1_pay91 q w S (broadcastTo S1024x256 lc broadcasts_S1024x1_S1024x256)
/-- A block of the logits' derivatives. -/
def dB (P D : FVec Ideal S1024x256 .f32) (dc : FVec Ideal S1024x1 .f32) : FVec Ideal S1024x256 .f32 :=
  mulf P (subf D (broadcastTo S1024x256 dc broadcasts_S1024x1_S1024x256))
/-- With the queries' scale. -/
def sB (X : FVec Ideal S1024x256 .f32) : FVec Ideal S1024x256 .bf16 :=
  truncf .bf16 (mulf X (broadcast S1024x256 (Scalar.ofBits .f32 0x3E000000#32))) bitsLt_bf16_f32

include hS hl hT

theorem p_open (ho : ∀ r j, r < 1024 → j < 256 → 256 * n + j ≤ T r) : Is2 (pB S lc) (fun r j => pw (Z r) (T r) (256 * n + j)) :=
  (hS.sub (bcol hl)).exp.congr fun r j hr hj => by
    rw [Real.exp_sub, Real.exp_log (den_pos _ (hT r)), pw, ex, if_pos (ho r j hr hj)]

theorem p_masked {q : ℕ} (hq : q < 8) (hn : n < 16) (hTq : ∀ r, T r = 512 * q + r % 512) :
    Is2 (pM (BitVec.ofNat 32 q) (BitVec.ofNat 32 n) S lc) (fun r j => pw (Z r) (T r) (256 * n + j)) := fun r j => by
  have hb : (exp (subf S (broadcastTo S1024x256 lc broadcasts_S1024x1_S1024x256)) (ix2 r j) : EReal) = ((Real.exp (Z r.val (256 * n + j.val)) / den (Z r.val) (T r.val) : ℝ) : EReal) :=
    ((hS.sub (bcol hl)).exp.congr (g := fun r j => Real.exp (Z r (256 * n + j)) / den (Z r) (T r)) fun r j _ _ => by
      rw [Real.exp_sub, Real.exp_log (den_pos _ (hT r))]) r j
  have e := sle_words (a := j.val) (c := r.val) (by omega) hn r.isLt hq
  have h : (pM (BitVec.ofNat 32 q) (BitVec.ofNat 32 n) S lc (ix2 r j) : EReal)
      = Scalar.select (IntOp.cmpi .sle (IntOp.addi (BitVec.ofNat 32 (0 * 256 + j.val)) (Scalar.muli (BitVec.ofNat 32 n) 256#32))
      (IntOp.addi (IntOp.andi (BitVec.ofNat 32 (0 * 1024 + r.val)) 511#32) (Scalar.muli (BitVec.ofNat 32 q) 512#32))) (exp (subf S (broadcastTo S1024x256 lc broadcasts_S1024x1_S1024x256)) (ix2 r j) : EReal)
        (FloatOps.ofBits (F := Ideal) .f32 0x00000000#32 : EReal) := by
    simp only [pM, k1_pay91, pointwise]
    rfl
  beta_reduce
  rw [h, hb, show 0 * 256 + j.val = j.val by omega, show 0 * 1024 + r.val = r.val by omega, e, zero_f32, pw, ex, hTq]
  by_cases hp : 256 * n + j.val ≤ 512 * q + r.val % 512
  · rw [if_pos hp, decide_eq_true hp]; rfl
  · rw [if_neg hp, decide_eq_false hp, zero_div]; rfl

omit hS hl hT

variable {P X : FVec Ideal S1024x256 .f32} (hP : Is2 P (fun r j => pw (Z r) (T r) (256 * n + j)))
  (hX : Is2 X (fun r j => ds (Z r) (G r) (T r) (256 * n + j)))

include hD hd hP in
theorem ds_at : Is2 (dB P D dc) (fun r j => ds (Z r) (G r) (T r) (256 * n + j)) := (hP.mul (hD.sub (bcol hd))).congr fun r j _ _ => by rw [ds]

include hX

theorem sds_at : Is2 (sB X) (fun r j => ds (Z r) (G r) (T r) (256 * n + j) * (1 / 8)) := (hX.mul (Is2.splat eighth_f32)).trunc bitsLt_bf16_f32

theorem acc_next (hk : Is2 kb (fun j d => K (256 * n + j) d)) (ha : Is2 acc (fun r d => ∑ s ∈ Finset.range (256 * n), ds (Z r) (G r) (T r) s * (1 / 8) * K s d)) :
    Is2 (addf acc (matmul dot_S1024x256_S256x128_S1024x128_1_0_0_1_n_n none (sB X) kb (constant S1024x128 .f32 0x00000000#32)))
      (fun r d => ∑ s ∈ Finset.range (256 * (n + 1)), ds (Z r) (G r) (T r) s * (1 / 8) * K s d) :=
  Is2.congr (ha.add (Is2.mm nn_ok (sds_at hX) hk (Is2.const zero_f32))) fun r d hr _ => by rw [block_range, zero_add]

theorem rs_next (h : Is2 rs (fun r _ => ∑ s ∈ Finset.range (256 * n), ds (Z r) (G r) (T r) s)) :
    Is2 (k1_pay86 rs X) (fun r _ => ∑ s ∈ Finset.range (256 * (n + 1)), ds (Z r) (G r) (T r) s) :=
  Is2.congr (h.add (rsum hX)) fun r d hr _ => by rw [block_range]

theorem rs_two {X' : FVec Ideal S1024x256 .f32} (hX' : Is2 X' (fun r j => ds (Z r) (G r) (T r) (256 * (n + 1) + j)))
    (h : Is2 rs (fun r _ => ∑ s ∈ Finset.range (256 * n), ds (Z r) (G r) (T r) s)) :
    Is2 (k1_pay70 rs X X') (fun r _ => ∑ s ∈ Finset.range (256 * (n + 1 + 1)), ds (Z r) (G r) (T r) s) :=
  Is2.congr (h.add (rsum (hX.add hX'))) fun r d hr _ => by rw [block_range, block_range, Finset.sum_add_distrib, add_assoc]

end Step

end Cert.FoxIdeal.Bwd

end
-- ==== Proof.FoxBwdRun.lean ====
/-
  The backward kernel's loop over the key blocks, and what a grid point leaves in its arrays.
-/
module

public import proofs.«01_k».proof.Proof.FoxBwd

@[expose] public section

set_option maxRecDepth 16384

noncomputable section

open Idealize.ShloMosaic Idealize.ShloMosaic.TcCoe Idealize.SL.Sem

namespace Cert.FoxIdeal.Bwd

open Cert.FoxIdeal.Gen Cert.FoxSpec Cert.Vals Cert.FoxIdeal.Fwd
open Cert.SbSpec (stk stk_dot stk_col block_range)

theorem trips1 (i : grid1.Coords) : (k1_t1_loop i).trips = (i 2).val :=
  (by decide +kernel : ∀ a : Fin 8, (Scf.trips 0#32 (Scalar.addi 0#32 (Scalar.muli (Scalar.divsi (Scalar.subi (BitVec.ofNat 32 a.val) 0#32) 1#32) 1#32)) 1#32) = a.val) (i 2)
theorem trips2 (i : grid1.Coords) : (k1_t2_loop i).trips = 0 := Nat.le_zero.mp (k1_t2_abs i).2.1

theorem trip_lt {i : grid1.Coords} (k : Fin (k1_t1_loop i).trips) : k.val < 8 := ((k.isLt.trans_eq (trips1 i) : k.val < (i 2).val)).trans (i 2).isLt

theorem off1 (i : grid1.Coords) (k : Fin (k1_t1_loop i).trips) (r : Fin 2) : k1_off1 i k (BitVec.ofNat 32 r.val) = ![0, 256 * (2 * k.val + r.val), 0] :=
  congrArg (fun n => ![0, n, 0]) (place_iv r ⟨k.val, trip_lt k⟩)
theorem off2 (i : grid1.Coords) (k : Fin (k1_t1_loop i).trips) (r : Fin 2) : k1_off2 i k (BitVec.ofNat 32 r.val) = ![0, 0, 0, 256 * (2 * k.val + r.val)] :=
  congrArg (fun n => ![0, 0, 0, n]) (place_iv r ⟨k.val, trip_lt k⟩)
theorem off3 (i : grid1.Coords) (k : Fin (k1_t1_loop i).trips) (r : Fin 2) : k1_off3 i k (BitVec.ofNat 32 r.val) = ![0, 0, 1, 256 * (2 * k.val + r.val)] :=
  congrArg (fun n => ![0, 0, 1, n]) (place_iv r ⟨k.val, trip_lt k⟩)
theorem off4 (i : grid1.Coords) (k : Fin (k1_t1_loop i).trips) (r : Fin 2) : k1_off4 i k (BitVec.ofNat 32 r.val) = ![0, 0, 0, 256 * (2 * k.val + r.val)] :=
  congrArg (fun n => ![0, 0, 0, n]) (place_iv r ⟨k.val, trip_lt k⟩)
theorem off5 (i : grid1.Coords) (k : Fin (k1_t1_loop i).trips) (r : Fin 2) : k1_off5 i k (BitVec.ofNat 32 r.val) = ![0, 0, 1, 256 * (2 * k.val + r.val)] :=
  congrArg (fun n => ![0, 0, 1, n]) (place_iv r ⟨k.val, trip_lt k⟩)
theorem off11 (i : grid1.Coords) (r : Fin 2) : k1_off11 i (BitVec.ofNat 32 r.val) = ![0, 256 * (2 * (i 2).val + r.val), 0] := congrArg (fun n => ![0, n, 0]) (place r (i 2))
theorem off12 (i : grid1.Coords) (r : Fin 2) : k1_off12 i (BitVec.ofNat 32 r.val) = ![0, 0, 0, 256 * (2 * (i 2).val + r.val)] := congrArg (fun n => ![0, 0, 0, n]) (place r (i 2))
theorem off13 (i : grid1.Coords) (r : Fin 2) : k1_off13 i (BitVec.ofNat 32 r.val) = ![0, 0, 1, 256 * (2 * (i 2).val + r.val)] := congrArg (fun n => ![0, 0, 1, n]) (place r (i 2))
theorem off14 (i : grid1.Coords) (r : Fin 2) : k1_off14 i (BitVec.ofNat 32 r.val) = ![0, 0, 0, 256 * (2 * (i 2).val + r.val)] := congrArg (fun n => ![0, 0, 0, n]) (place r (i 2))
theorem off15 (i : grid1.Coords) (r : Fin 2) : k1_off15 i (BitVec.ofNat 32 r.val) = ![0, 0, 1, 256 * (2 * (i 2).val + r.val)] := congrArg (fun n => ![0, 0, 1, n]) (place r (i 2))

section Point

variable (A : In) (b p : ℕ) (i : grid1.Coords)

/-- A query tile's part of the derivative by the keys. -/
def DK (q s d : ℕ) : ℝ := ∑ r ∈ Finset.range 512, dc A b (128 * p + d) (512 * q + r) s * (1 / 8) * A.Q b (512 * q + r) (128 * p + d)
/-- A query tile's part of the derivative by the values. -/
def DV (q s d : ℕ) : ℝ := ∑ r ∈ Finset.range 512, wc A b (128 * p + d) (512 * q + r) s * A.D b (512 * q + r) (128 * p + d)
/-- A query tile's part of the keys' sums of the logits' derivatives. -/
def DR (q e s : ℕ) : ℝ := -∑ r ∈ Finset.range 512, ds (zr A b (2 * p + e) (512 * q + r)) (gr A b (2 * p + e) (512 * q + r)) (512 * q + r) s

theorem z_row (q d r : ℕ) (hr : r < 512) : Zr A b p q (512 * (d / 64) + r) = zr A b ((128 * p + d) / 64) (512 * q + r) := funext fun s => by
  rw [Zr, show (512 * (d / 64) + r) % 512 = r by omega, show (512 * (d / 64) + r) / 512 = d / 64 by omega, show (128 * p + d) / 64 = 2 * p + d / 64 by omega]
theorem g_row (q d r : ℕ) (hr : r < 512) : Gr A b p q (512 * (d / 64) + r) = gr A b ((128 * p + d) / 64) (512 * q + r) := funext fun s => by
  rw [Gr, show (512 * (d / 64) + r) % 512 = r by omega, show (512 * (d / 64) + r) / 512 = d / 64 by omega, show (128 * p + d) / 64 = 2 * p + d / 64 by omega]
theorem t_row (q d r : ℕ) (hr : r < 512) : Tr q (512 * (d / 64) + r) = 512 * q + r := by
  rw [Tr, show (512 * (d / 64) + r) % 512 = r by omega]
theorem z_half (q e r : ℕ) (hr : r < 512) : Zr A b p q (512 * e + r) = zr A b (2 * p + e) (512 * q + r) := funext fun s => by
  rw [Zr, show (512 * e + r) % 512 = r by omega, show (512 * e + r) / 512 = e by omega]
theorem g_half (q e r : ℕ) (hr : r < 512) : Gr A b p q (512 * e + r) = gr A b (2 * p + e) (512 * q + r) := funext fun s => by
  rw [Gr, show (512 * e + r) % 512 = r by omega, show (512 * e + r) / 512 = e by omega]
theorem t_half (q e r : ℕ) (hr : r < 512) : Tr q (512 * e + r) = 512 * q + r := by
  rw [Tr, show (512 * e + r) % 512 = r by omega]

variable {A b p}

section Blocks

/-- A block of the keys' derivative with a tile's part added. -/
def kAdd (X : FVec Ideal S1024x256 .f32) (Q : FVec Ideal S1024x128 .bf16) (O : Vec Ideal S1x256x128 .f32) : Vec Ideal S1x256x128 .f32 :=
  shapeCast S1x256x128 (addf (shapeCast S256x128 O shapeCasts_S1x256x128_S256x128)
    (matmul dot_S1024x256_S1024x128_S256x128_0_0_1_1_n_n none (sB X) Q (constant S256x128 .f32 0x00000000#32))) shapeCasts_S256x128_S1x256x128
/-- A block of the values' derivative with a tile's part added. -/
def vAdd (L : FVec Ideal S1024x256 .f32) (Q : FVec Ideal S1024x128 .bf16) (O : Vec Ideal S1x256x128 .f32) : Vec Ideal S1x256x128 .f32 :=
  shapeCast S1x256x128 (addf (shapeCast S256x128 O shapeCasts_S1x256x128_S256x128)
    (matmul dot_S1024x256_S1024x128_S256x128_0_0_1_1_n_n none (truncf .bf16 L bitsLt_bf16_f32) Q (constant S256x128 .f32 0x00000000#32))) shapeCasts_S256x128_S1x256x128

variable {q n : ℕ} {X : FVec Ideal S1024x256 .f32} (hX : Is2 X (fun r j => ds (Zr A b p q r) (Gr A b p q r) (Tr q r) (256 * n + j)))

include hX in
theorem dk_block {Q : FVec Ideal S1024x128 .bf16} {O : Vec Ideal S1x256x128 .f32} {o : ℕ → ℕ → ℝ} (hQ : Is2 Q (stk fun a d => A.Q b (512 * q + a) (128 * p + d)))
    (hO : Is3 (φ := .f32) (A := 1) (B := 256) (C := 128) O (fun _ a d => o (256 * n + a) d)) :
    Is3 (φ := .f32) (A := 1) (B := 256) (C := 128)
      (shapeCast S1x256x128 (addf (shapeCast S256x128 O shapeCasts_S1x256x128_S256x128)
        (matmul dot_S1024x256_S1024x128_S256x128_0_0_1_1_n_n none (sB X) Q (constant S256x128 .f32 0x00000000#32))) shapeCasts_S256x128_S1x256x128)
      (fun _ a d => o (256 * n + a) d + DK A b p q (256 * n + a) d) := fun u a d => by
  refine (add_block (sds_at hX) hQ (o := fun a d => o (256 * n + a) d) hO u a d).trans (congrArg _ (congrArg _ (Finset.sum_congr rfl fun r hr => ?_)))
  have hr := Finset.mem_range.mp hr
  rw [z_row A b p q _ r hr, g_row A b p q _ r hr, t_row q _ r hr, dc]

theorem dv_block {L : FVec Ideal S1024x256 .f32} {Q : FVec Ideal S1024x128 .bf16} {O : Vec Ideal S1x256x128 .f32} {o : ℕ → ℕ → ℝ}
    (hL : Is2 L (fun r j => pw (Zr A b p q r) (Tr q r) (256 * n + j))) (hQ : Is2 Q (stk fun a d => A.D b (512 * q + a) (128 * p + d)))
    (hO : Is3 (φ := .f32) (A := 1) (B := 256) (C := 128) O (fun _ a d => o (256 * n + a) d)) :
    Is3 (φ := .f32) (A := 1) (B := 256) (C := 128)
      (shapeCast S1x256x128 (addf (shapeCast S256x128 O shapeCasts_S1x256x128_S256x128)
        (matmul dot_S1024x256_S1024x128_S256x128_0_0_1_1_n_n none (truncf .bf16 L bitsLt_bf16_f32) Q (constant S256x128 .f32 0x00000000#32))) shapeCasts_S256x128_S1x256x128)
      (fun _ a d => o (256 * n + a) d + DV A b p q (256 * n + a) d) := fun u a d => by
  refine (add_block (hL.trunc bitsLt_bf16_f32) hQ (o := fun a d => o (256 * n + a) d) hO u a d).trans (congrArg _ (congrArg _ (Finset.sum_congr rfl fun r hr => ?_)))
  have hr := Finset.mem_range.mp hr
  rw [z_row A b p q _ r hr, t_row q _ r hr, wc]

include hX in
theorem dr_0 {O : Vec Ideal S1x1x1x256 .f32} {o : ℕ → ℝ} (hO : ∀ j : Fin 256, (O (ix4 0 0 0 j) : EReal) = ((o (256 * n + j.val) : ℝ) : EReal)) (j : Fin 256) :
    (k1_pay17 X O (ix4 0 0 0 j) : EReal) = ((o (256 * n + j.val) + DR A b p q 0 (256 * n + j.val) : ℝ) : EReal) := by
  refine (cols0 hX O (fun j => o (256 * n + j)) hO j).trans (congrArg _ ?_)
  rw [DR, sub_eq_add_neg]
  refine congrArg _ (congrArg _ (Finset.sum_congr rfl fun r hr => ?_))
  have hr := Finset.mem_range.mp hr
  have h1 := z_half A b p q 0 r hr
  have h2 := g_half A b p q 0 r hr
  have h3 := t_half q 0 r hr
  rw [show 512 * 0 + r = r by omega] at h1 h2 h3
  rw [h1, h2, h3]

include hX in
theorem dr_1 {O : Vec Ideal S1x1x1x256 .f32} {o : ℕ → ℝ} (hO : ∀ j : Fin 256, (O (ix4 0 0 0 j) : EReal) = ((o (256 * n + j.val) : ℝ) : EReal)) (j : Fin 256) :
    (k1_pay18 X O (ix4 0 0 0 j) : EReal) = ((o (256 * n + j.val) + DR A b p q 1 (256 * n + j.val) : ℝ) : EReal) := by
  refine (cols1 hX O (fun j => o (256 * n + j)) hO j).trans (congrArg _ ?_)
  rw [DR, sub_eq_add_neg]
  refine congrArg _ (congrArg _ (Finset.sum_congr rfl fun r hr => ?_))
  have hr := Finset.mem_range.mp hr
  have h1 := z_half A b p q 1 r hr
  have h2 := g_half A b p q 1 r hr
  have h3 := t_half q 1 r hr
  rw [mul_one] at h1 h2 h3
  rw [h1, h2, h3]

/-- A store that takes a block's sums over the first head's rows from row 0. -/
def push0 (R : PcsR → Vec Ideal S1x1x8x4096 .f32) (X : FVec Ideal S1024x256 .f32) (off : Fin 4 → ℕ) (hb : ∀ a, off a + (![1, 1, 1, 256] : Fin 4 → ℕ) a ≤ S1x1x8x4096.size a) (L : PcsR) : PcsR :=
  ⟨Rect.unit off ![1, 1, 1, 256] hb, k1_pay17 X (View.ld (R L) (Rect.unit off ![1, 1, 1, 256] hb))⟩ :: L
/-- The same for the second head's and row 1. -/
def push1 (R : PcsR → Vec Ideal S1x1x8x4096 .f32) (X : FVec Ideal S1024x256 .f32) (off : Fin 4 → ℕ) (hb : ∀ a, off a + (![1, 1, 1, 256] : Fin 4 → ℕ) a ≤ S1x1x8x4096.size a) (L : PcsR) : PcsR :=
  ⟨Rect.unit off ![1, 1, 1, 256] hb, k1_pay18 X (View.ld (R L) (Rect.unit off ![1, 1, 1, 256] hb))⟩ :: L

include hX in
theorem push_rows {R : PcsR → Vec Ideal S1x1x8x4096 .f32} (hR : LayR R) {L : PcsR} {o : ℕ → ℕ → ℝ} (h : Rows (R L) o (DR A b p q) n)
    {off off' : Fin 4 → ℕ} (ho : off = ![0, 0, 0, 256 * n]) (ho' : off' = ![0, 0, 1, 256 * n]) (hb) (hb') :
    Rows (R (push1 R X off' hb' (push0 R X off hb L))) o (DR A b p q) (n + 1) :=
  Rows.stored hR h ho ho' hb hb' (dr_0 hX (h.1.block le_rfl ho hb))
    (dr_1 hX ((h.2.kept hR (e' := 0) (by decide) (off := off) ho hb _).block le_rfl ho' hb'))

end Blocks

theorem grads_at {q n : ℕ} {Q : FVec Ideal S1024x128 .bf16} {K : Vec Ideal S1x256x128 .bf16} (hQ : Is2 Q (stk fun a d => A.D b (512 * q + a) (128 * p + d)))
    (hK : Is3 (φ := .bf16) (A := 1) (B := 256) (C := 128) K (fun _ a d => A.V b (256 * n + a) (128 * p + d))) :
    Is2 (matmul dot_S1024x128_S256x128_S1024x256_1_1_0_0_n_n none Q (k0_pay2 K) (constant S1024x256 .f32 0x00000000#32)) (fun r j => Gr A b p q r (256 * n + j)) :=
  Is2.congr (grads (k := fun a d => A.V b (256 * n + a) (128 * p + d)) hQ (drop_at hK)) fun r j hr hj => by
    rw [Gr, gr]
    refine Finset.sum_congr rfl fun e he => ?_
    rw [show 128 * p + (64 * (r / 512) + e) = 64 * (2 * p + r / 512) + e by ring]

theorem tr_lt {q : ℕ} (hq : q < 8) (r : ℕ) : Tr q r < 4096 := by rw [Tr]; omega

/-- What the carried values hold when the keys before `256 n` have been added. -/
def Inv (A : In) (b p q n : ℕ) (st : FVec Ideal S1024x128 .f32 × FVec Ideal S1024x1 .f32) : Prop :=
  Is2 st.1 (fun r d => ∑ s ∈ Finset.range (256 * n), ds (Zr A b p q r) (Gr A b p q r) (Tr q r) s * (1 / 8) * A.K b s (128 * p + d)) ∧
  Is2 st.2 (fun r _ => ∑ s ∈ Finset.range (256 * n), ds (Zr A b p q r) (Gr A b p q r) (Tr q r) s)

theorem inv_zero (q : ℕ) : Inv A b p q 0 (k1_pay66, k1_pay67) :=
  ⟨(Is2.splat zero_f32).congr fun _ _ _ _ => by simp, (Is2.splat zero_f32).congr fun _ _ _ _ => by simp⟩

variable {x3 x4 : Vec Ideal S1x4096x128 .bf16} {x7 : Vec Ideal S1x1x2x4096 .f32}
  (h3 : Is3 (φ := .bf16) (A := 1) (B := 4096) (C := 128) x3 (fun _ a d => A.K b a (128 * p + d)))
  (h4 : Is3 (φ := .bf16) (A := 1) (B := 4096) (C := 128) x4 (fun _ a d => A.V b a (128 * p + d)))
  (h7 : ∀ (e : Fin 2) (j : Fin 4096), (x7 (ix4 0 0 e j) : EReal) = ((A.F b (2 * p + e.val) j.val : ℝ) : EReal))
  {v5 : IVec S1x128 1} {v8 v10 : FVec Ideal S512x128 .f32} {v12 : FVec Ideal S512x2 .f32} {v25 : FVec Ideal S1024x128 .bf16} {v33 v36 : FVec Ideal S512x128 .bf16} {v38 : Vec Ideal S512x128 .f32}
  (hQ : Is2 v25 (stk fun a d => A.Q b (512 * (i 2).val + a) (128 * p + d)))
  (hY : Is2 (k1_pay61 v33 v36) (stk fun a d => A.D b (512 * (i 2).val + a) (128 * p + d)))
  (hd : Is2 (k1_pay62 v5 v8 v38) (fun r _ => del (Zr A b p (i 2).val r) (Gr A b p (i 2).val r) (Tr (i 2).val r)))
  (hl : Is2 (k1_pay63 v10) (fun r _ => Real.log (den (Zr A b p (i 2).val r) (Tr (i 2).val r))))
  (hu : Is2 (k1_pay64 v12) (fun r _ => A.F b (2 * p + r / 512) (512 * (i 2).val + r % 512)))
  {o12 o13 o14 : ℕ → ℕ → ℝ}

include h3 h4 h7 hQ hY hd hl hu

set_option maxHeartbeats 400000 in
theorem loop_inv (𝒱 : Variants) (c : Dev nD) (bd : Option 𝒱.V) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x512x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x1x512x2 .f32) (harg9 : arg9.IsWhole) (arg10 : Memref sig .tc .vmem S1x1x2x4096 .f32) (harg10 : arg10.IsWhole) (arg11 : Memref sig .tc .vmem S512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x1x8x4096 .f32) (harg14 : arg14.IsWhole) (arg15 : Memref sig .tc .vmem S1x512x128 .f32) (harg15 : arg15.IsWhole)
    (arg2 : BitVec 32) (f12 : BufTy.Contents (Elt Ideal) arg12.view.ty) (f13 : BufTy.Contents (Elt Ideal) arg13.view.ty) (f14 : BufTy.Contents (Elt Ideal) arg14.view.ty)
    (g12 : Upto (arg12.view.read (Elt Ideal) f12) o12 (DK A b p (i 2).val) 0) (g13 : Upto (arg13.view.read (Elt Ideal) f13) o13 (DV A b p (i 2).val) 0)
    (g14 : Rows (arg14.view.read (Elt Ideal) f14) o14 (DR A b p (i 2).val) 0) :
    ∀ k, k ≤ (i 2).val →
      Inv A b p (i 2).val (2 * k) (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) k).1 ∧
      Upto (arg12.view.read (Elt Ideal) (arg12.view.writes (Elt Ideal) f12 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) k).2.1)) o12 (DK A b p (i 2).val) (2 * k) ∧
      Upto (arg13.view.read (Elt Ideal) (arg13.view.writes (Elt Ideal) f13 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) k).2.2.1)) o13 (DV A b p (i 2).val) (2 * k) ∧
      Rows (arg14.view.read (Elt Ideal) (arg14.view.writes (Elt Ideal) f14 (st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) k).2.2.2)) o14 (DR A b p (i 2).val) (2 * k)
  | 0, _ => ⟨inv_zero _, g12, g13, g14⟩
  | k + 1, hk => by
    have hq : (i 2).val < 8 := (i 2).isLt
    have hlt : k < (k1_t1_loop i).trips := by rw [trips1]; omega
    have ih := loop_inv 𝒱 c bd arg3 harg3 arg4 harg4 arg5 harg5 arg6 harg6 arg7 harg7 arg8 harg8 arg9 harg9 arg10 harg10 arg11 harg11 arg12 harg12 arg13 harg13 arg14 harg14 arg15 harg15 arg2 f12 f13 f14 g12 g13 g14 k (by omega)
    rw [st_k1_t1_succ 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) ⟨k, hlt⟩]
    generalize st_k1_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v8 v10 v12 v25 v33 v36 v38 (harg7.unread x3) (harg8.unread x4) (harg10.unread x7) f12 f13 f14 (k1_pay66, k1_pay67) k = st at ih ⊢
    obtain ⟨⟨ia, ir⟩, i12, i13, i14⟩ := ih
    dsimp only
    rw [View.writes_append, View.writes_append, View.writes_append]
    generalize arg12.view.writes (Elt Ideal) f12 st.2.1 = w12 at i12 ⊢
    generalize arg13.view.writes (Elt Ideal) f13 st.2.2.1 = w13 at i13 ⊢
    generalize arg14.view.writes (Elt Ideal) f14 st.2.2.2 = w14 at i14 ⊢
    unfold tripR_k1_t1 trip_k1_t1
    dsimp only
    frame_out
    have hK : ∀ r : Fin 2, _ := fun r => ld_rows h3 (off1 i ⟨k, hlt⟩ r) (k1_off1_inb i ⟨k, hlt⟩ r)
    have hG : ∀ r : Fin 2, _ := fun r => grads_at (n := 2 * k + r.val) hY (ld_rows h4 (off1 i ⟨k, hlt⟩ r) (k1_off1_inb i ⟨k, hlt⟩ r))
    have hP : ∀ r : Fin 2, _ := fun r => p_open (tr_lt hq)
      (logits_at A b p (n := 2 * k + r.val) hQ hu (hK r)
        (ld_sums (f := fun e s => A.F b (2 * p + e) s) h7 0 (off2 i ⟨k, hlt⟩ r) (k1_off2_inb i ⟨k, hlt⟩ r))
        (ld_sums (f := fun e s => A.F b (2 * p + e) s) h7 1 (off3 i ⟨k, hlt⟩ r) (k1_off3_inb i ⟨k, hlt⟩ r))) hl (fun a j _ _ => by rw [Tr]; omega)
    have hX : ∀ r : Fin 2, _ := fun r => ds_at (hG r) hd (hP r)
    rw [show 2 * (k + 1) = 2 * k + 1 + 1 by ring]
    refine ⟨⟨?_, ?_⟩, ?_, ?_, ?_⟩
    · exact acc_next (K := fun s d => A.K b s (128 * p + d)) (hX 1) (drop_at (hK 1)) (acc_next (K := fun s d => A.K b s (128 * p + d)) (hX 0) (drop_at (hK 0)) ia)
    · exact rs_two (hX 0) (hX 1) ir
    · refine stored (lay_read _ w12) (stored (lay_read _ w12) (L := []) i12 (off1 i ⟨k, hlt⟩ 0) _ ?_) (off1 i ⟨k, hlt⟩ 1) _ ?_
      · exact dk_block (hX 0) hQ (i12.block le_rfl (off1 i ⟨k, hlt⟩ 0) _)
      · exact dk_block (hX 1) hQ (i12.block (Nat.le_succ _) (off1 i ⟨k, hlt⟩ 1) _)
    · refine stored (lay_read _ w13) (stored (lay_read _ w13) (L := []) i13 (off1 i ⟨k, hlt⟩ 0) _ ?_) (off1 i ⟨k, hlt⟩ 1) _ ?_
      · exact dv_block (hP 0) hY (i13.block le_rfl (off1 i ⟨k, hlt⟩ 0) _)
      · exact dv_block (hP 1) hY (i13.block (Nat.le_succ _) (off1 i ⟨k, hlt⟩ 1) _)
    · refine Rows.stored (layR_read _ w14) (Rows.stored (layR_read _ w14) (L := []) i14 (off4 i ⟨k, hlt⟩ 0) (off5 i ⟨k, hlt⟩ 0) _ _ ?_ ?_) (off4 i ⟨k, hlt⟩ 1) (off5 i ⟨k, hlt⟩ 1) _ _ ?_ ?_
      · exact dr_0 (hX 0) (i14.1.block le_rfl (off4 i ⟨k, hlt⟩ 0) _)
      · exact dr_1 (hX 0) (i14.2.block le_rfl (off5 i ⟨k, hlt⟩ 0) _)
      · exact dr_0 (hX 1) (i14.1.block (Nat.le_succ _) (off4 i ⟨k, hlt⟩ 1) _)
      · exact dr_1 (hX 1) (i14.2.block (Nat.le_succ _) (off5 i ⟨k, hlt⟩ 1) _)

/-- The blocks the mask cuts. -/
theorem diag_p (r : Fin 2) :
    Is2 (pM (BitVec.ofNat 32 (i 2).val) (Scalar.addi (Scalar.muli (BitVec.ofNat 32 (i 2).val) 2#32) (BitVec.ofNat 32 r.val))
      (k0_pay3 v25 (k1_pay64 v12) k0_pay30 (View.ld x3 (Rect.unit (k1_off11 i (BitVec.ofNat 32 r.val)) ![1, 256, 128] (k1_off11_inb i r)))
        (View.ld x7 (Rect.unit (k1_off12 i (BitVec.ofNat 32 r.val)) ![1, 1, 1, 256] (k1_off12_inb i r))) (View.ld x7 (Rect.unit (k1_off13 i (BitVec.ofNat 32 r.val)) ![1, 1, 1, 256] (k1_off13_inb i r))))
      (k1_pay63 v10)) (fun a j => pw (Zr A b p (i 2).val a) (Tr (i 2).val a) (256 * (2 * (i 2).val + r.val) + j)) := by
  have hq : (i 2).val < 8 := (i 2).isLt
  rw [show Scalar.addi (Scalar.muli (BitVec.ofNat 32 (i 2).val) 2#32) (BitVec.ofNat 32 r.val) = BitVec.ofNat 32 (2 * (i 2).val + r.val) from word (i 2) r]
  exact p_masked (tr_lt hq) (logits_at A b p (n := 2 * (i 2).val + r.val) hQ hu (ld_rows h3 (off11 i r) (k1_off11_inb i r))
    (ld_sums (f := fun e s => A.F b (2 * p + e) s) h7 0 (off12 i r) (k1_off12_inb i r))
    (ld_sums (f := fun e s => A.F b (2 * p + e) s) h7 1 (off13 i r) (k1_off13_inb i r))) hl hq (by omega) (fun a => by rw [Tr])

theorem diag_x (r : Fin 2) :
    Is2 (dB (pM (BitVec.ofNat 32 (i 2).val) (Scalar.addi (Scalar.muli (BitVec.ofNat 32 (i 2).val) 2#32) (BitVec.ofNat 32 r.val))
      (k0_pay3 v25 (k1_pay64 v12) k0_pay30 (View.ld x3 (Rect.unit (k1_off11 i (BitVec.ofNat 32 r.val)) ![1, 256, 128] (k1_off11_inb i r)))
        (View.ld x7 (Rect.unit (k1_off12 i (BitVec.ofNat 32 r.val)) ![1, 1, 1, 256] (k1_off12_inb i r))) (View.ld x7 (Rect.unit (k1_off13 i (BitVec.ofNat 32 r.val)) ![1, 1, 1, 256] (k1_off13_inb i r))))
      (k1_pay63 v10)) (matmul dot_S1024x128_S256x128_S1024x256_1_1_0_0_n_n none (k1_pay61 v33 v36) (k0_pay2 (View.ld x4 (Rect.unit (k1_off11 i (BitVec.ofNat 32 r.val)) ![1, 256, 128] (k1_off11_inb i r)))) (constant S1024x256 .f32 0x00000000#32))
      (k1_pay62 v5 v8 v38)) (fun a j => ds (Zr A b p (i 2).val a) (Gr A b p (i 2).val a) (Tr (i 2).val a) (256 * (2 * (i 2).val + r.val) + j)) :=
  ds_at (grads_at hY (ld_rows h4 (off11 i r) (k1_off11_inb i r))) hd (diag_p i h3 h4 h7 hQ hY hd hl hu r)

omit h3 h4 h7 hQ hY hd hl hu

/-- A row's sum of the logits' derivatives. -/
def RS (A : In) (b h t : ℕ) : ℝ := ∑ s ∈ Finset.range 4096, ds (zr A b h t) (gr A b h t) t s

theorem ds_zero (z g : ℕ → ℝ) {t s : ℕ} (h : t < s) : ds z g t s = 0 := by rw [ds, pw, ex, if_neg (by omega), zero_div, zero_mul]

theorem out_dq {q : ℕ} {X : FVec Ideal S1024x128 .f32} (h : Is2 X (fun r d => ∑ s ∈ Finset.range (256 * (2 * q + 1 + 1)), ds (Zr A b p q r) (Gr A b p q r) (Tr q r) s * (1 / 8) * A.K b s (128 * p + d))) (hq : q < 8) :
    Is2 (select (broadcastTo S512x128 (shapeCast S1x128 (cmpi .slt (iota .tc S1x128 32 [1] iota_S1x128_d1_w32) (broadcast S1x128 64#32)) shapeCasts_S1x128_S1x128) broadcasts_S1x128_S512x128)
      (extractStridedSlice S512x128 ![0, 0] X slices_S1024x128_o0_0_S512x128) (extractStridedSlice S512x128 ![512, 0] X slices_S1024x128_o512_0_S512x128) : FVec Ideal S512x128 .f32)
      (fun r d => dq A b (512 * q + r) (128 * p + d)) :=
  Is2.congr (pick h) fun r d hr hd => by
    rw [dq, ← Finset.sum_subset (Finset.range_mono (show 256 * (2 * q + 1 + 1) ≤ 4096 by omega)) fun s _ hs => ?_]
    · refine Finset.sum_congr rfl fun s _ => ?_
      rw [z_row A b p q _ r hr, g_row A b p q _ r hr, t_row q _ r hr, dc]
    · rw [dc, ds_zero _ _ (by have := Finset.mem_range.not.mp hs; omega), zero_mul, zero_mul]

theorem lane_word {d : ℕ} (hd : d < 128) (e : ℕ) (he : e < 128) : IntOp.cmpi .eq (BitVec.ofNat 32 d) (BitVec.ofNat 32 e) = BitVec.ofBool (decide (d = e)) := by
  have h : (BitVec.ofNat 32 d = BitVec.ofNat 32 e) ↔ d = e := by
    constructor
    · intro h
      have := congrArg BitVec.toNat h
      simp only [BitVec.toNat_ofNat] at this
      omega
    · rintro rfl; rfl
  by_cases hde : d = e
  · subst hde; simp [IntOp.cmpi]
  · have := h.not.mpr hde
    show BitVec.ofBool (BitVec.ofNat 32 d == BitVec.ofNat 32 e) = _
    rw [beq_eq_false_iff_ne.mpr this, decide_eq_false hde]

theorem out_rs {q : ℕ} {X : FVec Ideal S1024x1 .f32} (h : Is2 X (fun r _ => ∑ s ∈ Finset.range (256 * (2 * q + 1 + 1)), ds (Zr A b p q r) (Gr A b p q r) (Tr q r) s)) (hq : q < 8) :
    Is3 (φ := .f32) (A := 1) (B := 512) (C := 128) (k1_pay1 (iota .tc S1x128 32 [1] iota_S1x128_d1_w32) X (k1_pay100 (iota .tc S1x128 32 [1] iota_S1x128_d1_w32)))
      (fun _ r d => if d < 2 then RS A b (2 * p + d) (512 * q + r) else 0) := fun u r d => by
  have key : ∀ e : ℕ, e < 2 → (∑ s ∈ Finset.range (256 * (2 * q + 1 + 1)), ds (Zr A b p q (512 * e + r.val)) (Gr A b p q (512 * e + r.val)) (Tr q (512 * e + r.val)) s) = RS A b (2 * p + e) (512 * q + r.val) := fun e he => by
    rw [RS, z_half A b p q e _ r.isLt, g_half A b p q e _ r.isLt, t_half q e _ r.isLt]
    exact Finset.sum_subset (Finset.range_mono (show 256 * (2 * q + 1 + 1) ≤ 4096 by omega)) fun s _ hs => ds_zero _ _ (by have := Finset.mem_range.not.mp hs; omega)
  have hw : (k1_pay1 (iota .tc S1x128 32 [1] iota_S1x128_d1_w32) X (k1_pay100 (iota .tc S1x128 32 [1] iota_S1x128_d1_w32)) (ix3 u r d) : EReal)
      = Scalar.select (IntOp.cmpi .eq (BitVec.ofNat 32 (0 * 128 + d.val)) (BitVec.ofNat 32 0)) (X (ix2 ⟨0 + r.val, by omega⟩ 0)) (Scalar.select (IntOp.cmpi .eq (BitVec.ofNat 32 (0 * 128 + d.val)) (BitVec.ofNat 32 1)) (X (ix2 ⟨512 + r.val, by omega⟩ 0)) (FloatOps.ofBits (F := Ideal) .f32 0x00000000#32 : EReal)) := by
    simp only [k1_pay1, k1_pay100, pointwise]
    rfl
  rw [hw, zero_mul, zero_add, lane_word d.isLt 0 (by omega), lane_word d.isLt 1 (by omega), h, h, zero_f32]
  have k0 := key 0 (by omega)
  have k1 := key 1 (by omega)
  rw [mul_zero] at k0
  rw [mul_one] at k1
  dsimp only
  rw [k0, k1]
  by_cases h0 : d.val = 0
  · simp [Scalar.select, h0]
  · by_cases h1 : d.val = 1
    · simp [Scalar.select, h1]
    · rw [if_neg (by omega)]
      simp [Scalar.select, h0, h1]

/-- The two blocks the mask cuts, added to what the loop left. -/
theorem tail {q : ℕ} (hq : q < 8) {st : FVec Ideal S1024x128 .f32 × FVec Ideal S1024x1 .f32} (iv : Inv A b p q (2 * q) st) {Q G : FVec Ideal S1024x128 .bf16}
    (hQ : Is2 Q (stk fun a d => A.Q b (512 * q + a) (128 * p + d))) (hG : Is2 G (stk fun a d => A.D b (512 * q + a) (128 * p + d))) {P0 P1 X0 X1 : FVec Ideal S1024x256 .f32} {K0 K1 : Vec Ideal S1x256x128 .bf16}
    (hP0 : Is2 P0 (fun r j => pw (Zr A b p q r) (Tr q r) (256 * (2 * q) + j))) (hP1 : Is2 P1 (fun r j => pw (Zr A b p q r) (Tr q r) (256 * (2 * q + 1) + j)))
    (hX0 : Is2 X0 (fun r j => ds (Zr A b p q r) (Gr A b p q r) (Tr q r) (256 * (2 * q) + j))) (hX1 : Is2 X1 (fun r j => ds (Zr A b p q r) (Gr A b p q r) (Tr q r) (256 * (2 * q + 1) + j)))
    (hK0 : Is3 (φ := .bf16) (A := 1) (B := 256) (C := 128) K0 (fun _ a d => A.K b (256 * (2 * q) + a) (128 * p + d))) (hK1 : Is3 (φ := .bf16) (A := 1) (B := 256) (C := 128) K1 (fun _ a d => A.K b (256 * (2 * q + 1) + a) (128 * p + d)))
    {R12 R13 : Pcs → Vec Ideal S1x4096x128 .f32} {R14 : PcsR → Vec Ideal S1x1x8x4096 .f32} (l12 : Lay R12) (l13 : Lay R13) (l14 : LayR R14) {L12 L13 : Pcs} {L14 : PcsR}
    (g12 : Upto (R12 L12) o12 (DK A b p q) (2 * q)) (g13 : Upto (R13 L13) o13 (DV A b p q) (2 * q)) {o14 : ℕ → ℕ → ℝ} (g14 : Rows (R14 L14) o14 (DR A b p q) (2 * q))
    {w0 w1 : Fin 3 → ℕ} (e0 : w0 = ![0, 256 * (2 * q), 0]) (e1 : w1 = ![0, 256 * (2 * q + 1), 0]) (b0) (b1)
    {u0 u1 u2 u3 : Fin 4 → ℕ} (f0 : u0 = ![0, 0, 0, 256 * (2 * q)]) (f1 : u1 = ![0, 0, 1, 256 * (2 * q)]) (f2 : u2 = ![0, 0, 0, 256 * (2 * q + 1)]) (f3 : u3 = ![0, 0, 1, 256 * (2 * q + 1)]) (b2) (b3) (b4) (b5) :
    Is2 (k1_pay99 (k1_pay85 st.1 (k0_pay2 K0) (sB X0)) (k0_pay2 K1) (sB X1)) (fun r d => dq A b (512 * q + r) (128 * p + d)) ∧
    Upto (R12 (⟨Rect.unit w1 ![1, 256, 128] b1, kAdd X1 Q (View.ld (R12 (⟨Rect.unit w0 ![1, 256, 128] b0, kAdd X0 Q (View.ld (R12 L12) (Rect.unit w0 ![1, 256, 128] b0))⟩ :: L12)) (Rect.unit w1 ![1, 256, 128] b1))⟩ ::
      ⟨Rect.unit w0 ![1, 256, 128] b0, kAdd X0 Q (View.ld (R12 L12) (Rect.unit w0 ![1, 256, 128] b0))⟩ :: L12)) o12 (DK A b p q) (2 * q + 1 + 1) ∧
    Upto (R13 (⟨Rect.unit w1 ![1, 256, 128] b1, vAdd P1 G (View.ld (R13 (⟨Rect.unit w0 ![1, 256, 128] b0, vAdd P0 G (View.ld (R13 L13) (Rect.unit w0 ![1, 256, 128] b0))⟩ :: L13)) (Rect.unit w1 ![1, 256, 128] b1))⟩ ::
      ⟨Rect.unit w0 ![1, 256, 128] b0, vAdd P0 G (View.ld (R13 L13) (Rect.unit w0 ![1, 256, 128] b0))⟩ :: L13)) o13 (DV A b p q) (2 * q + 1 + 1) ∧
    Rows (R14 (push1 R14 X1 u3 b5 (push0 R14 X1 u2 b4 (push1 R14 X0 u1 b3 (push0 R14 X0 u0 b2 L14))))) o14 (DR A b p q) (2 * q + 1 + 1) ∧
    Is3 (φ := .f32) (A := 1) (B := 512) (C := 128) (k1_pay1 (iota .tc S1x128 32 [1] iota_S1x128_d1_w32) (k1_pay98 (k1_pay86 st.2 X0) X1) (k1_pay100 (iota .tc S1x128 32 [1] iota_S1x128_d1_w32)))
      (fun _ r d => if d < 2 then RS A b (2 * p + d) (512 * q + r) else 0) := by
  refine ⟨out_dq (acc_next (K := fun s d => A.K b s (128 * p + d)) hX1 (drop_at hK1) (acc_next (K := fun s d => A.K b s (128 * p + d)) hX0 (drop_at hK0) iv.1)) hq, ?_, ?_, ?_, ?_⟩
  · have s0 := stored l12 g12 e0 b0 (dk_block hX0 hQ (g12.block le_rfl e0 b0))
    exact stored l12 s0 e1 b1 (dk_block hX1 hQ (s0.block le_rfl e1 b1))
  · have s0 := stored l13 g13 e0 b0 (dv_block hP0 hG (g13.block le_rfl e0 b0))
    exact stored l13 s0 e1 b1 (dv_block hP1 hG (s0.block le_rfl e1 b1))
  · have s0 := push_rows hX0 l14 g14 f0 f1 b2 b3
    exact push_rows hX1 l14 s0 f2 f3 b4 b5
  · exact out_rs (rs_next hX1 (rs_next hX0 iv.2)) hq

variable (A b p) in
/-- What a grid point leaves in its five arrays. -/
def Pt (c : Dev nD) (V : (c : Dev nD) → (b : Ref sig .tc) → Buf (Elt Ideal) ((c : Thread nD τ).loc b)) (t : Fin cfg1.N) (o12 o13 o14 : ℕ → ℕ → ℝ) : Prop :=
  Is2 (A := 512) (B := 128) (φ := .f32) (outsAt1 V c t.val t.isLt).1 (fun r d => dq A b (512 * (grid1.coords t 2).val + r) (128 * p + d)) ∧
  Upto (outsAt1 V c t.val t.isLt).2.1 o12 (DK A b p (grid1.coords t 2).val) (2 * (grid1.coords t 2).val + 1 + 1) ∧
  Upto (outsAt1 V c t.val t.isLt).2.2.1 o13 (DV A b p (grid1.coords t 2).val) (2 * (grid1.coords t 2).val + 1 + 1) ∧
  Rows (outsAt1 V c t.val t.isLt).2.2.2.1 o14 (DR A b p (grid1.coords t 2).val) (2 * (grid1.coords t 2).val + 1 + 1) ∧
  Is3 (A := 1) (B := 512) (C := 128) (φ := .f32) (outsAt1 V c t.val t.isLt).2.2.2.2 (fun _ r d => if d < 2 then RS A b (2 * p + d) (512 * (grid1.coords t 2).val + r) else 0)

variable (A b p) in
/-- What a grid point is given. -/
structure Blk (c : Dev nD) (V : (c : Dev nD) → (b : Ref sig .tc) → Buf (Elt Ideal) ((c : Thread nD τ).loc b)) (t : Fin cfg1.N) : Prop where
  d : Is2 (φ := .f32) (A := 512) (B := 128) (iblk1 V c 0 t) (fun a d => A.D b (512 * (grid1.coords t 2).val + a) (128 * p + d))
  y : Is2 (φ := .f32) (A := 512) (B := 128) (iblk1 V c 1 t) (fun a d => y A b (512 * (grid1.coords t 2).val + a) (128 * p + d))
  l : Is3 (φ := .f32) (A := 1) (B := 512) (C := 128) (iblk1 V c 2 t) (fun _ a d => Real.log (den (zr A b ((128 * p + d) / 64) (512 * (grid1.coords t 2).val + a)) (512 * (grid1.coords t 2).val + a)))
  q : Is3 (φ := .bf16) (A := 1) (B := 512) (C := 128) (iblk1 V c 3 t) (fun _ a d => A.Q b (512 * (grid1.coords t 2).val + a) (128 * p + d))
  k : Is3 (φ := .bf16) (A := 1) (B := 4096) (C := 128) (iblk1 V c 4 t) (fun _ a d => A.K b a (128 * p + d))
  v : Is3 (φ := .bf16) (A := 1) (B := 4096) (C := 128) (iblk1 V c 5 t) (fun _ a d => A.V b a (128 * p + d))
  fc : ∀ (a : Fin 512) (e : Fin 2), ((iblk1 V c 6 t : Vec Ideal S1x1x512x2 .f32) (ix4 0 0 a e) : EReal) = ((A.F b (2 * p + e.val) (512 * (grid1.coords t 2).val + a.val) : ℝ) : EReal)
  fr : ∀ (e : Fin 2) (j : Fin 4096), ((iblk1 V c 7 t : Vec Ideal S1x1x2x4096 .f32) (ix4 0 0 e j) : EReal) = ((A.F b (2 * p + e.val) j.val : ℝ) : EReal)

variable (c : Dev nD) (V : (c : Dev nD) → (b : Ref sig .tc) → Buf (Elt Ideal) ((c : Thread nD τ).loc b)) (t : Fin cfg1.N) (B : Blk A b p c V t)

include B

theorem del_col : Is2 (k1_pay62 k1_pay51 (k1_pay52 (iblk1 V c 0 t)) (iblk1 V c 1 t)) (fun r _ => del (Zr A b p (grid1.coords t 2).val r) (Gr A b p (grid1.coords t 2).val r) (Tr (grid1.coords t 2).val r)) :=
  Is2.congr (del_at B.d B.y) fun r _ hr _ => by
    refine Eq.trans ?_ (del_eq A b (2 * p + r / 512) (512 * (grid1.coords t 2).val + r % 512))
    refine Finset.sum_congr rfl fun e _ => ?_
    rw [show 128 * p + (64 * (r / 512) + e) = 64 * (2 * p + r / 512) + e by ring]

theorem log_col : Is2 (k1_pay63 (k1_pay53 (iblk1 V c 2 t))) (fun r _ => Real.log (den (Zr A b p (grid1.coords t 2).val r) (Tr (grid1.coords t 2).val r))) :=
  Is2.congr (lse_at B.l) fun r _ hr _ => by
    dsimp only
    rw [show (128 * p + 64 * (r / 512)) / 64 = 2 * p + r / 512 by omega]
    rfl

set_option maxHeartbeats 400000 in
theorem point_A (h : t.val % 8 = 0) :
    Pt A b p c V t (fun _ _ => 0) (fun _ _ => 0) (fun _ _ => 0) := by
  rw [Pt, outsAt1_A V c t h]
  frame_out
  have e2 := trips2 (grid1.coords t)
  have e1 := trips1 (grid1.coords t)
  unfold Scf.Loop.trips at e1 e2
  simp only [k1_t1_loop, k1_t2_loop] at e1 e2
  rw [e2, e1]
  clear e1 e2
  have i12 := init_zero (hs := inb_S1x4096x128_S1x4096x128_0_0_0) (ms1_9 t).view (DK A b p (grid1.coords t 2).val) (zero_out (w := k1_pay48 (F := Ideal)) fun _ => zero_f32)
  have i13 := init_zero (hs := inb_S1x4096x128_S1x4096x128_0_0_0) (ms1_10 t).view (DV A b p (grid1.coords t 2).val) (zero_out (w := k1_pay49 (F := Ideal)) fun _ => zero_f32)
  have i14 := rows_zero (hs := inb_S1x1x8x4096_S1x1x8x4096_0_0_0_0) (ms1_11 t).view (DR A b p (grid1.coords t 2).val) (w := k1_pay50 (F := Ideal)) fun _ => zero_f32
  have hQ := qs_at B.q
  have hG := dys_at B.d
  have hd := del_col c V t B
  have hl := log_col c V t B
  have hu := fcol_at (f := fun e a => A.F b (2 * p + e) (512 * (grid1.coords t 2).val + a)) B.fc
  obtain ⟨iv, r12, r13, r14⟩ := loop_inv (grid1.coords t) B.k B.v B.fr hQ hG hd hl hu Variants.none c none (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (BitVec.ofNat 32 (grid1.coords t 2).val) ((ms1_9 t).view.writes (Elt Ideal) (ms1_9 t).view.junk [⟨Rect.unit ![0, 0, 0] ![1, 4096, 128] inb_S1x4096x128_S1x4096x128_0_0_0, k1_pay48 (F := Ideal)⟩]) ((ms1_10 t).view.writes (Elt Ideal) (ms1_10 t).view.junk [⟨Rect.unit ![0, 0, 0] ![1, 4096, 128] inb_S1x4096x128_S1x4096x128_0_0_0, k1_pay49 (F := Ideal)⟩]) ((ms1_11 t).view.writes (Elt Ideal) (ms1_11 t).view.junk [⟨Rect.unit ![0, 0, 0, 0] ![1, 1, 8, 4096] inb_S1x1x8x4096_S1x1x8x4096_0_0_0_0, k1_pay50 (F := Ideal)⟩]) i12 i13 i14 _ le_rfl
  rw [← View.writes_append, View.read_writes_junk_eq_canon] at r12 r13 r14
  have P := diag_p (grid1.coords t) B.k B.v B.fr hQ hG hd hl hu
  have X := diag_x (grid1.coords t) B.k B.v B.fr hQ hG hd hl hu
  obtain ⟨t1, t2, t3, t4, t5⟩ := tail (grid1.coords t 2).isLt iv hQ hG (P 0) (P 1) (X 0) (X 1) (ld_rows B.k (off11 (grid1.coords t) 0) (k1_off11_inb (grid1.coords t) 0)) (ld_rows B.k (off11 (grid1.coords t) 1) (k1_off11_inb (grid1.coords t) 1))
    lay_canon lay_canon layR_canon r12 r13 r14
    (off11 (grid1.coords t) 0) (off11 (grid1.coords t) 1) (k1_off11_inb (grid1.coords t) 0) (k1_off11_inb (grid1.coords t) 1)
    (off14 (grid1.coords t) 0) (off15 (grid1.coords t) 0) (off14 (grid1.coords t) 1) (off15 (grid1.coords t) 1) (k1_off14_inb (grid1.coords t) 0) (k1_off15_inb (grid1.coords t) 0) (k1_off14_inb (grid1.coords t) 1) (k1_off15_inb (grid1.coords t) 1)
  refine ⟨?_, ?_, ?_, ?_, ?_⟩
  · exact t1
  · exact t2
  · exact t3
  · exact t4
  · exact t5

set_option maxHeartbeats 400000 in
theorem point_B (h : ¬ t.val % 8 = 0)
    (w12 : Is3 (φ := .f32) (A := 1) (B := 4096) (C := 128) (outsAt1 V c (t.val - 1) (Nat.lt_of_le_of_lt (Nat.sub_le _ _) t.isLt)).2.1 (fun _ a d => o12 a d))
    (w13 : Is3 (φ := .f32) (A := 1) (B := 4096) (C := 128) (outsAt1 V c (t.val - 1) (Nat.lt_of_le_of_lt (Nat.sub_le _ _) t.isLt)).2.2.1 (fun _ a d => o13 a d))
    (w14 : Rows (outsAt1 V c (t.val - 1) (Nat.lt_of_le_of_lt (Nat.sub_le _ _) t.isLt)).2.2.2.1 o14 (DR A b p (grid1.coords t 2).val) 0) :
    Pt A b p c V t o12 o13 o14 := by
  rw [Pt, outsAt1_B V c t h]
  frame_out
  have e2 := trips2 (grid1.coords t)
  have e1 := trips1 (grid1.coords t)
  unfold Scf.Loop.trips at e1 e2
  simp only [k1_t1_loop, k1_t2_loop] at e1 e2
  rw [e2, e1]
  clear e1 e2
  have i12 := init_prev (hs1_9 t) (DK A b p (grid1.coords t 2).val) w12
  have i13 := init_prev (hs1_10 t) (DV A b p (grid1.coords t 2).val) w13
  have i14 := rows_prev (hs1_11 t) w14
  have hQ := qs_at B.q
  have hG := dys_at B.d
  have hd := del_col c V t B
  have hl := log_col c V t B
  have hu := fcol_at (f := fun e a => A.F b (2 * p + e) (512 * (grid1.coords t 2).val + a)) B.fc
  obtain ⟨iv, r12, r13, r14⟩ := loop_inv (grid1.coords t) B.k B.v B.fr hQ hG hd hl hu Variants.none c none (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t)
    (BitVec.ofNat 32 (grid1.coords t 2).val) ((hs1_9 t).unread (outsAt1 V c (t.val - 1) (Nat.lt_of_le_of_lt (Nat.sub_le _ _) t.isLt)).2.1) ((hs1_10 t).unread (outsAt1 V c (t.val - 1) (Nat.lt_of_le_of_lt (Nat.sub_le _ _) t.isLt)).2.2.1) ((hs1_11 t).unread (outsAt1 V c (t.val - 1) (Nat.lt_of_le_of_lt (Nat.sub_le _ _) t.isLt)).2.2.2.1) i12 i13 i14 _ le_rfl
  have P := diag_p (grid1.coords t) B.k B.v B.fr hQ hG hd hl hu
  have X := diag_x (grid1.coords t) B.k B.v B.fr hQ hG hd hl hu
  obtain ⟨t1, t2, t3, t4, t5⟩ := tail (grid1.coords t 2).isLt iv hQ hG (P 0) (P 1) (X 0) (X 1) (ld_rows B.k (off11 (grid1.coords t) 0) (k1_off11_inb (grid1.coords t) 0)) (ld_rows B.k (off11 (grid1.coords t) 1) (k1_off11_inb (grid1.coords t) 1))
    (lay_read (ms1_9 t).view ((hs1_9 t).unread (outsAt1 V c (t.val - 1) (Nat.lt_of_le_of_lt (Nat.sub_le _ _) t.isLt)).2.1)) (lay_read (ms1_10 t).view ((hs1_10 t).unread (outsAt1 V c (t.val - 1) (Nat.lt_of_le_of_lt (Nat.sub_le _ _) t.isLt)).2.2.1)) (layR_read (ms1_11 t).view ((hs1_11 t).unread (outsAt1 V c (t.val - 1) (Nat.lt_of_le_of_lt (Nat.sub_le _ _) t.isLt)).2.2.2.1)) r12 r13 r14
    (off11 (grid1.coords t) 0) (off11 (grid1.coords t) 1) (k1_off11_inb (grid1.coords t) 0) (k1_off11_inb (grid1.coords t) 1)
    (off14 (grid1.coords t) 0) (off15 (grid1.coords t) 0) (off14 (grid1.coords t) 1) (off15 (grid1.coords t) 1) (k1_off14_inb (grid1.coords t) 0) (k1_off15_inb (grid1.coords t) 0) (k1_off14_inb (grid1.coords t) 1) (k1_off15_inb (grid1.coords t) 1)
  refine ⟨?_, ?_, ?_, ?_, ?_⟩
  · exact t1
  · exact t2
  · exact t3
  · exact t4
  · exact t5

end Point

end Cert.FoxIdeal.Bwd

end
-- ==== Proof.FoxArr1.lean ====
/-
  What the backward kernel's grid leaves in its five arrays.
-/
module

public import proofs.«01_k».proof.Proof.FoxArr0
public import proofs.«01_k».proof.Proof.FoxBwdRun

@[expose] public section

set_option maxRecDepth 16384

noncomputable section

open Idealize.ShloMosaic Idealize.ShloMosaic.TcCoe Idealize.SL.Sem
open Idealize.ShloMosaic.Pipeline (Dat)

namespace Cert.FoxIdeal.Bwd

open Cert.FoxIdeal.Gen Cert.FoxSpec Cert.Vals
open Cert.FoxIdeal.Fwd (Given)

theorem idx : ∀ t : Fin cfg1.N, win1_0.index t = ![8 * (t.val / 16) + t.val % 8, t.val / 8 % 2] ∧ win1_1.index t = ![8 * (t.val / 16) + t.val % 8, t.val / 8 % 2]
    ∧ win1_2.index t = ![t.val / 8 % 2, 8 * (t.val / 16) + t.val % 8, 0] ∧ win1_3.index t = ![t.val / 16, t.val % 8, t.val / 8 % 2]
    ∧ win1_4.index t = ![t.val / 16, 0, t.val / 8 % 2] ∧ win1_5.index t = ![t.val / 16, 0, 18 + t.val / 8 % 2]
    ∧ win1_6.index t = ![t.val / 16, t.val / 8 % 2, t.val % 8, 0] ∧ win1_7.index t = ![t.val / 16, t.val / 8 % 2, 0, 0]
    ∧ win1_8.index t = ![8 * (t.val / 16) + t.val % 8, t.val / 8 % 2] ∧ win1_9.index t = ![t.val / 16, 0, t.val / 8 % 2]
    ∧ win1_10.index t = ![t.val / 16, 0, t.val / 8 % 2] ∧ win1_11.index t = ![t.val / 16, t.val / 8 % 2, 0, 0]
    ∧ win1_12.index t = ![t.val / 8 % 2, 8 * (t.val / 16) + t.val % 8, 0] :=
  (by decide +kernel : ∀ t : Fin grid1.N, _)

theorem coord2 : ∀ t : Fin cfg1.N, (grid1.coords t 2).val = t.val % 8 := (by decide +kernel : ∀ t : Fin grid1.N, (grid1.coords t 2).val = t.val % 8)

/-- The carried results are written back at a pair's last point. -/
theorem flush9 : ∀ t : Fin cfg1.N, win1_9.flush t = true → t.val % 8 = 7 := (by decide +kernel : ∀ t : Fin grid1.N, win1_9.flush t = true → t.val % 8 = 7)
theorem flush10 : ∀ t : Fin cfg1.N, win1_10.flush t = true → t.val % 8 = 7 := (by decide +kernel : ∀ t : Fin grid1.N, win1_10.flush t = true → t.val % 8 = 7)
theorem flush11 : ∀ t : Fin cfg1.N, win1_11.flush t = true → t.val % 8 = 7 := (by decide +kernel : ∀ t : Fin grid1.N, win1_11.flush t = true → t.val % 8 = 7)

variable (A : In)

/-- A sum over tiles of 512. -/
theorem tiles (f : ℕ → ℝ) : ∀ n, ∑ q ∈ Finset.range n, ∑ r ∈ Finset.range 512, f (512 * q + r) = ∑ t ∈ Finset.range (512 * n), f t
  | 0 => by simp
  | n + 1 => by rw [Finset.sum_range_succ, tiles f n, show 512 * (n + 1) = 512 * n + 512 by ring, Finset.sum_range_add]

/-- The part of the tiles before `n`. -/
def sumK (b p n s d : ℕ) : ℝ := ∑ q ∈ Finset.range n, DK A b p q s d
def sumV (b p n s d : ℕ) : ℝ := ∑ q ∈ Finset.range n, DV A b p q s d
def sumR (b p n e s : ℕ) : ℝ := ∑ q ∈ Finset.range n, DR A b p q e s

/-- A key's sum of the logits' derivatives, with its sign. -/
def CS (b h s : ℕ) : ℝ := -∑ t ∈ Finset.range 4096, ds (zr A b h t) (gr A b h t) t s

theorem sumK_all (b p s d : ℕ) : sumK A b p 8 s d = dk A b s (128 * p + d) :=
  tiles (fun t => dc A b (128 * p + d) t s * (1 / 8) * A.Q b t (128 * p + d)) 8
theorem sumV_all (b p s d : ℕ) : sumV A b p 8 s d = dv A b s (128 * p + d) :=
  tiles (fun t => wc A b (128 * p + d) t s * A.D b t (128 * p + d)) 8
theorem sumR_all (b p e s : ℕ) : sumR A b p 8 e s = CS A b (2 * p + e) s := by
  rw [CS, ← tiles (fun t => ds (zr A b (2 * p + e) t) (gr A b (2 * p + e) t) t s) 8, sumR, ← Finset.sum_neg_distrib]
  rfl

theorem DK_zero (b p q s d : ℕ) (h : 512 * (q + 1) ≤ s) : DK A b p q s d = 0 :=
  Finset.sum_eq_zero fun r hr => by rw [dc, ds_zero _ _ (by have := Finset.mem_range.mp hr; omega), zero_mul, zero_mul]
theorem DV_zero (b p q s d : ℕ) (h : 512 * (q + 1) ≤ s) : DV A b p q s d = 0 :=
  Finset.sum_eq_zero fun r hr => by rw [wc, pw, ex, if_neg (by have := Finset.mem_range.mp hr; omega), zero_div, zero_mul]
theorem DR_zero (b p q e s : ℕ) (h : 512 * (q + 1) ≤ s) : DR A b p q e s = 0 := by
  rw [DR, neg_eq_zero]
  exact Finset.sum_eq_zero fun r hr => ds_zero _ _ (by have := Finset.mem_range.mp hr; omega)

variable {A}

theorem Upto.all {X : Vec Ideal S1x4096x128 .f32} {o g : ℕ → ℕ → ℝ} {q : ℕ} (h : Upto X o g (2 * q + 1 + 1)) (hg : ∀ s d, 512 * (q + 1) ≤ s → g s d = 0) :
    Is3 (φ := .f32) (A := 1) (B := 4096) (C := 128) X (fun _ a d => o a d + g a d) := fun u a d => by
  refine (h u a d).trans ?_
  dsimp only
  by_cases ha : a.val < 256 * (2 * q + 1 + 1)
  · rw [if_pos ha]
  · rw [if_neg ha, hg _ _ (by omega)]

/-- The two rows in use of a pair's row sums. -/
def Two (X : Vec Ideal S1x1x8x4096 .f32) (f : ℕ → ℕ → ℝ) : Prop :=
  (∀ j : Fin 4096, (X (ix4 0 0 0 j) : EReal) = ((f 0 j.val : ℝ) : EReal)) ∧ ∀ j : Fin 4096, (X (ix4 0 0 1 j) : EReal) = ((f 1 j.val : ℝ) : EReal)

theorem Row.all {X : Vec Ideal S1x1x8x4096 .f32} {e : Fin 8} {o g : ℕ → ℝ} {q : ℕ} (h : Row X e o g (2 * q + 1 + 1)) (hg : ∀ s, 512 * (q + 1) ≤ s → g s = 0) (j : Fin 4096) :
    (X (ix4 0 0 e j) : EReal) = ((o j.val + g j.val : ℝ) : EReal) := by
  refine (h j).trans ?_
  by_cases ha : j.val < 256 * (2 * q + 1 + 1)
  · rw [if_pos ha]
  · rw [if_neg ha, hg _ (by omega)]

theorem Two.rows {X : Vec Ideal S1x1x8x4096 .f32} {f : ℕ → ℕ → ℝ} (h : Two X f) (g : ℕ → ℕ → ℝ) : Rows X f g 0 :=
  ⟨fun j => (h.1 j).trans (by rw [if_neg (by omega), add_zero]), fun j => (h.2 j).trans (by rw [if_neg (by omega), add_zero])⟩

variable (c : Dev nD) (V : (c : Dev nD) → (b : Ref sig .tc) → Buf (Elt Ideal) ((c : Thread nD τ).loc b)) (t : Fin cfg1.N)

/-- The backward kernel's own arguments: the output's cotangent, the output and the rows' logarithms. -/
structure More (A : In) (g o : FVec Ideal S8192x256 .f32) (l : FVec Ideal S2x8192x128 .f32) : Prop where
  g : ∀ (r : Fin 8192) (d : Fin 256), (g (ix2 r d) : EReal) = ((A.D (r.val / 4096) (r.val % 4096) d.val : ℝ) : EReal)
  o : ∀ (r : Fin 8192) (d : Fin 256), (o (ix2 r d) : EReal) = ((y A (r.val / 4096) (r.val % 4096) d.val : ℝ) : EReal)
  l : ∀ (p : Fin 2) (r : Fin 8192) (d : Fin 128), (l (ix3 p r d) : EReal) = ((lse A (r.val / 4096) ((128 * p.val + d.val) / 64) (r.val % 4096) : ℝ) : EReal)

variable (hG : Given A (V c main_v9) (V c main_v10) (V c main_v1) (V c main_v7) (V c main_v8)) (hM : More A (V c main_v12) (V c main_v11_0) (V c main_v11_1))

include hM

theorem blk0 : Is2 (φ := .f32) (A := 512) (B := 128) (iblk1 V c 0 t) (fun a d => A.D (t.val / 16) (512 * (t.val % 8) + a) (128 * (t.val / 8 % 2) + d)) := by
  have ht : t.val < 32 := t.isLt
  intro r d
  refine Eq.trans ?_ ((hM.g ⟨4096 * (t.val / 16) + (512 * (t.val % 8) + r.val), by omega⟩ ⟨128 * (t.val / 8 % 2) + d.val, by omega⟩).trans ?_)
  · blk_simp [iblk1, idx t]
    blk_ext [idx t]
  · dsimp only
    rw [show (4096 * (t.val / 16) + (512 * (t.val % 8) + r.val)) / 4096 = t.val / 16 by omega, show (4096 * (t.val / 16) + (512 * (t.val % 8) + r.val)) % 4096 = 512 * (t.val % 8) + r.val by omega]

theorem blk1 : Is2 (φ := .f32) (A := 512) (B := 128) (iblk1 V c 1 t) (fun a d => y A (t.val / 16) (512 * (t.val % 8) + a) (128 * (t.val / 8 % 2) + d)) := by
  have ht : t.val < 32 := t.isLt
  intro r d
  refine Eq.trans ?_ ((hM.o ⟨4096 * (t.val / 16) + (512 * (t.val % 8) + r.val), by omega⟩ ⟨128 * (t.val / 8 % 2) + d.val, by omega⟩).trans ?_)
  · blk_simp [iblk1, idx t]
    blk_ext [idx t]
  · dsimp only
    rw [show (4096 * (t.val / 16) + (512 * (t.val % 8) + r.val)) / 4096 = t.val / 16 by omega, show (4096 * (t.val / 16) + (512 * (t.val % 8) + r.val)) % 4096 = 512 * (t.val % 8) + r.val by omega]

theorem blk2 : Is3 (φ := .f32) (A := 1) (B := 512) (C := 128) (iblk1 V c 2 t) (fun _ a d => Real.log (den (zr A (t.val / 16) ((128 * (t.val / 8 % 2) + d) / 64) (512 * (t.val % 8) + a)) (512 * (t.val % 8) + a))) := by
  have ht : t.val < 32 := t.isLt
  intro a r d
  refine Eq.trans ?_ ((hM.l ⟨t.val / 8 % 2, by omega⟩ ⟨4096 * (t.val / 16) + (512 * (t.val % 8) + r.val), by omega⟩ d).trans ?_)
  · blk_simp [iblk1, idx t]
    blk_ext [idx t]
  · dsimp only
    rw [show (4096 * (t.val / 16) + (512 * (t.val % 8) + r.val)) / 4096 = t.val / 16 by omega, show (4096 * (t.val / 16) + (512 * (t.val % 8) + r.val)) % 4096 = 512 * (t.val % 8) + r.val by omega, lse]

omit hM
include hG

theorem blk3 : Is3 (φ := .bf16) (A := 1) (B := 512) (C := 128) (iblk1 V c 3 t) (fun _ a d => A.Q (t.val / 16) (512 * (t.val % 8) + a) (128 * (t.val / 8 % 2) + d)) := by
  have ht : t.val < 32 := t.isLt
  intro a r d
  refine Eq.trans ?_ (hG.q ⟨t.val / 16, by omega⟩ ⟨512 * (t.val % 8) + r.val, by omega⟩ ⟨128 * (t.val / 8 % 2) + d.val, by omega⟩)
  blk_simp [iblk1, idx t]
  blk_ext [idx t]

theorem blk4 : Is3 (φ := .bf16) (A := 1) (B := 4096) (C := 128) (iblk1 V c 4 t) (fun _ a d => A.K (t.val / 16) a (128 * (t.val / 8 % 2) + d)) := by
  have ht : t.val < 32 := t.isLt
  intro a r d
  refine Eq.trans ?_ (hG.k ⟨t.val / 16, by omega⟩ ⟨r.val, by omega⟩ ⟨128 * (t.val / 8 % 2) + d.val, by omega⟩)
  blk_simp [iblk1, idx t]
  blk_ext [idx t]

theorem blk5 : Is3 (φ := .bf16) (A := 1) (B := 4096) (C := 128) (iblk1 V c 5 t) (fun _ a d => A.V (t.val / 16) a (128 * (t.val / 8 % 2) + d)) := by
  have ht : t.val < 32 := t.isLt
  intro a r d
  refine Eq.trans ?_ (hG.v ⟨t.val / 16, by omega⟩ ⟨r.val, by omega⟩ ⟨128 * (t.val / 8 % 2) + d.val, by omega⟩)
  blk_simp [iblk1, idx t]
  blk_ext [idx t]

theorem blk6 : ∀ (a : Fin 512) (e : Fin 2), ((iblk1 V c 6 t : Vec Ideal S1x1x512x2 .f32) (ix4 0 0 a e) : EReal) = ((A.F (t.val / 16) (2 * (t.val / 8 % 2) + e.val) (512 * (t.val % 8) + a.val) : ℝ) : EReal) := by
  have ht : t.val < 32 := t.isLt
  intro a e
  refine Eq.trans ?_ (hG.fc ⟨t.val / 16, by omega⟩ ⟨t.val / 8 % 2, by omega⟩ ⟨512 * (t.val % 8) + a.val, by omega⟩ e)
  blk_simp [iblk1, idx t]
  blk_ext [idx t]

theorem blk7 : ∀ (e : Fin 2) (j : Fin 4096), ((iblk1 V c 7 t : Vec Ideal S1x1x2x4096 .f32) (ix4 0 0 e j) : EReal) = ((A.F (t.val / 16) (2 * (t.val / 8 % 2) + e.val) j.val : ℝ) : EReal) := by
  have ht : t.val < 32 := t.isLt
  intro e j
  refine Eq.trans ?_ (hG.fr ⟨t.val / 16, by omega⟩ ⟨t.val / 8 % 2, by omega⟩ e j)
  blk_simp [iblk1, idx t]
  blk_ext [idx t]

include hM

theorem blk : Blk A (t.val / 16) (t.val / 8 % 2) c V t :=
  { d := by rw [coord2]; exact blk0 c V t hM
    y := by rw [coord2]; exact blk1 c V t hM
    l := by rw [coord2]; exact blk2 c V t hM
    q := by rw [coord2]; exact blk3 c V t hG
    k := blk4 c V t hG
    v := blk5 c V t hG
    fc := by rw [coord2]; exact blk6 c V t hG
    fr := blk7 c V t hG }

/-- What every grid point leaves: its own tile of the queries' results, and the tiles up to its own in the other three. -/
theorem point : ∀ (n : ℕ) (hn : n < cfg1.N),
    Is2 (A := 512) (B := 128) (φ := .f32) (outsAt1 V c n hn).1 (fun r d => dq A (n / 16) (512 * (n % 8) + r) (128 * (n / 8 % 2) + d)) ∧
    (Is3 (φ := .f32) (A := 1) (B := 4096) (C := 128) (outsAt1 V c n hn).2.1 (fun _ a d => sumK A (n / 16) (n / 8 % 2) (n % 8 + 1) a d) ∧
      Is3 (φ := .f32) (A := 1) (B := 4096) (C := 128) (outsAt1 V c n hn).2.2.1 (fun _ a d => sumV A (n / 16) (n / 8 % 2) (n % 8 + 1) a d) ∧
      Two (outsAt1 V c n hn).2.2.2.1 (sumR A (n / 16) (n / 8 % 2) (n % 8 + 1))) ∧
    Is3 (A := 1) (B := 512) (C := 128) (φ := .f32) (outsAt1 V c n hn).2.2.2.2 (fun _ r d => if d < 2 then RS A (n / 16) (2 * (n / 8 % 2) + d) (512 * (n % 8) + r) else 0) := fun n => by
  induction n with
  | zero => intro hn; exact step 0 hn (fun h => absurd rfl h)
  | succ n ih =>
    intro hn
    exact step (n + 1) hn fun h => by
      obtain ⟨-, h, -⟩ := ih (by omega)
      rw [show (n + 1) / 16 = n / 16 by omega, show (n + 1) / 8 % 2 = n / 8 % 2 by omega, show (n + 1) % 8 = n % 8 + 1 by omega]
      exact h
where
  step (n : ℕ) (hn : n < cfg1.N) (ih : n % 8 ≠ 0 →
      Is3 (φ := .f32) (A := 1) (B := 4096) (C := 128) (outsAt1 V c (n - 1) (Nat.lt_of_le_of_lt (Nat.sub_le _ _) hn)).2.1 (fun _ a d => sumK A (n / 16) (n / 8 % 2) (n % 8) a d) ∧
      Is3 (φ := .f32) (A := 1) (B := 4096) (C := 128) (outsAt1 V c (n - 1) (Nat.lt_of_le_of_lt (Nat.sub_le _ _) hn)).2.2.1 (fun _ a d => sumV A (n / 16) (n / 8 % 2) (n % 8) a d) ∧
      Two (outsAt1 V c (n - 1) (Nat.lt_of_le_of_lt (Nat.sub_le _ _) hn)).2.2.2.1 (sumR A (n / 16) (n / 8 % 2) (n % 8))) :
    Is2 (A := 512) (B := 128) (φ := .f32) (outsAt1 V c n hn).1 (fun r d => dq A (n / 16) (512 * (n % 8) + r) (128 * (n / 8 % 2) + d)) ∧
    (Is3 (φ := .f32) (A := 1) (B := 4096) (C := 128) (outsAt1 V c n hn).2.1 (fun _ a d => sumK A (n / 16) (n / 8 % 2) (n % 8 + 1) a d) ∧
      Is3 (φ := .f32) (A := 1) (B := 4096) (C := 128) (outsAt1 V c n hn).2.2.1 (fun _ a d => sumV A (n / 16) (n / 8 % 2) (n % 8 + 1) a d) ∧
      Two (outsAt1 V c n hn).2.2.2.1 (sumR A (n / 16) (n / 8 % 2) (n % 8 + 1))) ∧
    Is3 (A := 1) (B := 512) (C := 128) (φ := .f32) (outsAt1 V c n hn).2.2.2.2 (fun _ r d => if d < 2 then RS A (n / 16) (2 * (n / 8 % 2) + d) (512 * (n % 8) + r) else 0) := by
    have B := blk c V ⟨n, hn⟩ hG hM
    by_cases h : n % 8 = 0
    · obtain ⟨ha, hb, hc, hr, hs⟩ := point_A c V ⟨n, hn⟩ B h
      rw [coord2 ⟨n, hn⟩] at ha hb hc hr hs
      refine ⟨ha, ⟨fun u a d => (Upto.all hb (fun s d => DK_zero A _ _ _ s d) u a d).trans ?_, fun u a d => (Upto.all hc (fun s d => DV_zero A _ _ _ s d) u a d).trans ?_,
        fun j => (Row.all hr.1 (fun s => DR_zero A _ _ _ _ s) j).trans ?_, fun j => (Row.all hr.2 (fun s => DR_zero A _ _ _ _ s) j).trans ?_⟩, hs⟩
      · dsimp only
        rw [sumK, Finset.sum_range_succ, h, Finset.sum_range_zero]
      · dsimp only
        rw [sumV, Finset.sum_range_succ, h, Finset.sum_range_zero]
      · rw [sumR, Finset.sum_range_succ, h, Finset.sum_range_zero]
      · rw [sumR, Finset.sum_range_succ, h, Finset.sum_range_zero]
    · obtain ⟨w12, w13, w14⟩ := ih h
      obtain ⟨ha, hb, hc, hr, hs⟩ := point_B c V ⟨n, hn⟩ B h w12 w13 (w14.rows _)
      rw [coord2 ⟨n, hn⟩] at ha hb hc hr hs
      refine ⟨ha, ⟨fun u a d => (Upto.all hb (fun s d => DK_zero A _ _ _ s d) u a d).trans ?_, fun u a d => (Upto.all hc (fun s d => DV_zero A _ _ _ s d) u a d).trans ?_,
        fun j => (Row.all hr.1 (fun s => DR_zero A _ _ _ _ s) j).trans ?_, fun j => (Row.all hr.2 (fun s => DR_zero A _ _ _ _ s) j).trans ?_⟩, hs⟩
      · dsimp only
        rw [sumK, sumK, Finset.sum_range_succ]
      · dsimp only
        rw [sumV, sumV, Finset.sum_range_succ]
      · rw [sumR, sumR, Finset.sum_range_succ]
      · rw [sumR, sumR, Finset.sum_range_succ]

/-- The derivative by the queries. -/
theorem arr_dq (r : Fin 8192) (d : Fin 256) : ((dat1 V c).arrAt 8 cfg1.N : FVec Ideal S8192x256 .f32) (ix2 r d) = ((dq A (r.val / 4096) (r.val % 4096) d.val : ℝ) : EReal) := by
  refine (dat1 V c).arrAt_forall_of_covers 8 (fun (i : S8192x256.Idx) (v : EReal) => v = ((dq A ((i 0).val / 4096) ((i 0).val % 4096) (i 1).val : ℝ) : EReal))
    (by decide +kernel) (fun t hf z => ?_) (ix2 r d)
  have ht : t.val < 32 := t.isLt
  obtain ⟨a, b, rfl⟩ : ∃ (a : Fin 512) (b : Fin 128), z = ix2 a b := ⟨z 0, z 1, eq_ix2 z⟩
  have h := (point c V hG hM t.val t.isLt).1 a b
  rw [← after1_8] at h
  blk_simp [idx t]
  refine h.trans ?_
  blk_simp [idx t]
  rw [show ((8 * (t.val / 16) + t.val % 8) * 512 + a.val) / 4096 = t.val / 16 by omega, show ((8 * (t.val / 16) + t.val % 8) * 512 + a.val) % 4096 = 512 * (t.val % 8) + a.val by omega,
    show t.val / 8 % 2 * 128 + b.val = 128 * (t.val / 8 % 2) + b.val by ring]

/-- The derivative by the keys. -/
theorem arr_dk (b : Fin 2) (s : Fin 4096) (d : Fin 256) : ((dat1 V c).arrAt 9 cfg1.N : FVec Ideal S2x4096x256 .f32) (ix3 b s d) = ((dk A b.val s.val d.val : ℝ) : EReal) := by
  refine (dat1 V c).arrAt_forall_of_covers 9 (fun (i : S2x4096x256.Idx) (v : EReal) => v = ((dk A (i 0).val (i 1).val (i 2).val : ℝ) : EReal))
    (by decide +kernel) (fun t hf z => ?_) (ix3 b s d)
  have ht : t.val < 32 := t.isLt
  obtain ⟨e, a, b, rfl⟩ : ∃ (e : Fin 1) (a : Fin 4096) (b : Fin 128), z = ix3 e a b := ⟨z 0, z 1, z 2, eq_ix3 z⟩
  have h := (point c V hG hM t.val t.isLt).2.1.1 e a b
  rw [← after1_9] at h
  dsimp only at h
  rw [flush9 t hf, sumK_all] at h
  blk_simp [idx t]
  refine h.trans ?_
  rw [show t.val / 8 % 2 * 128 + b.val = 128 * (t.val / 8 % 2) + b.val by ring]

/-- The derivative by the values. -/
theorem arr_dv (b : Fin 2) (s : Fin 4096) (d : Fin 256) : ((dat1 V c).arrAt 10 cfg1.N : FVec Ideal S2x4096x256 .f32) (ix3 b s d) = ((dv A b.val s.val d.val : ℝ) : EReal) := by
  refine (dat1 V c).arrAt_forall_of_covers 10 (fun (i : S2x4096x256.Idx) (v : EReal) => v = ((dv A (i 0).val (i 1).val (i 2).val : ℝ) : EReal))
    (by decide +kernel) (fun t hf z => ?_) (ix3 b s d)
  have ht : t.val < 32 := t.isLt
  obtain ⟨e, a, b, rfl⟩ : ∃ (e : Fin 1) (a : Fin 4096) (b : Fin 128), z = ix3 e a b := ⟨z 0, z 1, z 2, eq_ix3 z⟩
  have h := (point c V hG hM t.val t.isLt).2.1.2.1 e a b
  rw [← after1_10] at h
  dsimp only at h
  rw [flush10 t hf, sumV_all] at h
  blk_simp [idx t]
  refine h.trans ?_
  rw [show t.val / 8 % 2 * 128 + b.val = 128 * (t.val / 8 % 2) + b.val by ring]

/-- The keys' sums: rows 0 and 1 of a pair's eight. -/
theorem arr_dfr (b p : Fin 2) (e : Fin 8) (he : e.val < 2) (s : Fin 4096) : ((dat1 V c).arrAt 11 cfg1.N : FVec Ideal S2x2x8x4096 .f32) (ix4 b p e s) = ((CS A b.val (2 * p.val + e.val) s.val : ℝ) : EReal) := by
  revert he
  refine (dat1 V c).arrAt_forall_of_covers 11 (fun (i : S2x2x8x4096.Idx) (v : EReal) => (i 2).val < 2 → v = ((CS A (i 0).val (2 * (i 1).val + (i 2).val) (i 3).val : ℝ) : EReal))
    (by decide +kernel) (fun t hf z => ?_) (ix4 b p e s)
  have ht : t.val < 32 := t.isLt
  obtain ⟨x, w, e, s, rfl⟩ : ∃ (x w : Fin 1) (e : Fin 8) (s : Fin 4096), z = ix4 x w e s := ⟨z 0, z 1, z 2, z 3, eq_ix4 z⟩
  have h := (point c V hG hM t.val t.isLt).2.1.2.2
  rw [← after1_11, flush11 t hf] at h
  obtain rfl : x = 0 := Subsingleton.elim _ _
  obtain rfl : w = 0 := Subsingleton.elim _ _
  blk_simp [idx t]
  intro he
  rcases (show e = 0 ∨ e = 1 from by have : e.val < 2 := by simpa using he
                                     rcases (show e.val = 0 ∨ e.val = 1 by omega) with h | h
                                     · exact .inl (Fin.ext h)
                                     · exact .inr (Fin.ext h)) with rfl | rfl
  · refine (h.1 s).trans ?_
    rw [sumR_all]
    simp
  · refine (h.2 s).trans ?_
    rw [sumR_all]
    simp

/-- The rows' sums: lanes 0 and 1. -/
theorem arr_dfc (p : Fin 2) (r : Fin 8192) (d : Fin 128) (hd : d.val < 2) : ((dat1 V c).arrAt 12 cfg1.N : FVec Ideal S2x8192x128 .f32) (ix3 p r d) = ((RS A (r.val / 4096) (2 * p.val + d.val) (r.val % 4096) : ℝ) : EReal) := by
  revert hd
  refine (dat1 V c).arrAt_forall_of_covers 12 (fun (i : S2x8192x128.Idx) (v : EReal) => (i 2).val < 2 → v = ((RS A ((i 1).val / 4096) (2 * (i 0).val + (i 2).val) ((i 1).val % 4096) : ℝ) : EReal))
    (by decide +kernel) (fun t hf z => ?_) (ix3 p r d)
  have ht : t.val < 32 := t.isLt
  obtain ⟨e, a, b, rfl⟩ : ∃ (e : Fin 1) (a : Fin 512) (b : Fin 128), z = ix3 e a b := ⟨z 0, z 1, z 2, eq_ix3 z⟩
  have h := (point c V hG hM t.val t.isLt).2.2 e a b
  rw [← after1_12] at h
  blk_simp [idx t]
  intro hb
  have hb : b.val < 2 := by simpa using hb
  refine h.trans ?_
  blk_simp [idx t]
  rw [if_pos hb, show ((8 * (t.val / 16) + t.val % 8) * 512 + a.val) / 4096 = t.val / 16 by omega, show ((8 * (t.val / 16) + t.val % 8) * 512 + a.val) % 4096 = 512 * (t.val % 8) + a.val by omega]

end Cert.FoxIdeal.Bwd

end
-- ==== Proof.FoxHost.lean ====
/-
  The host's layouts around the forget-gate pair of calls, read at an index.
-/
module

public import proofs.«01_k».proof.Proof.FoxArr1
public import Idealize.ShloMosaic.Lib.KernelVsHost

@[expose] public section

set_option maxRecDepth 16384

noncomputable section

open Idealize.ShloMosaic Idealize.ShloMosaic.TcCoe Idealize.SL.Sem

namespace Cert.FoxIdeal.Val

open Cert.FoxIdeal.Gen

/-- An array of reals as a function of three coordinates. -/
def reals {A B C : ℕ} (X : (⟨3, ![A, B, C]⟩ : Shape).Idx → EReal) (a b c : ℕ) : ℝ :=
  if h : a < A ∧ b < B ∧ c < C then EReal.toReal (X (ix3 ⟨a, h.1⟩ ⟨b, h.2.1⟩ ⟨c, h.2.2⟩)) else 0

theorem reals_eq {A B C : ℕ} {X : (⟨3, ![A, B, C]⟩ : Shape).Idx → EReal} (h : ∀ i, ∃ v : ℝ, X i = (v : EReal)) (i : (⟨3, ![A, B, C]⟩ : Shape).Idx) :
    X i = ((reals X (i 0).val (i 1).val (i 2).val : ℝ) : EReal) := by
  obtain ⟨a, b, d, rfl⟩ : ∃ (a : Fin A) (b : Fin B) (d : Fin C), i = ix3 a b d := ⟨i 0, i 1, i 2, eq_ix3 i⟩
  obtain ⟨v, hv⟩ := h (ix3 a b d)
  rw [reals, dif_pos ⟨a.isLt, b.isLt, d.isLt⟩]
  refine hv.trans ?_
  exact (congrArg (fun x : EReal => ((x.toReal : ℝ) : EReal)) hv).symm

/-- The running sums with a token's pair of heads side by side. -/
def pairs (T : FVec Ideal S2x4x4096 .f32) : FVec Ideal S2x4096x2x2 .f32 :=
  shapeCast S2x4096x2x2 (shapeCast S8192x4 (transpose S2x4096x4 [0, 2, 1] T transposes_S2x4x4096_S2x4096x4_0_2_1) shapeCasts_S2x4096x4_S8192x4) shapeCasts_S8192x4_S2x4096x2x2

theorem pairs_at (T : FVec Ideal S2x4x4096 .f32) (a : Fin 2) (b : Fin 4096) (p e : Fin 2) :
    pairs T (ix4 a b p e) = T (ix3 a (⟨2 * p.val + e.val, by omega⟩ : Fin 4) b) := by
  have ha := a.isLt
  have hb := b.isLt
  unfold pairs
  refine (shapeCast_apply (s := S8192x4) (t := S2x4096x2x2) _ _ _ (ix2 (⟨4096 * a.val + b.val, by omega⟩ : Fin 8192) (⟨2 * p.val + e.val, by omega⟩ : Fin 4)) ?_).trans
    ((shapeCast_apply (s := S2x4096x4) (t := S8192x4) _ _ _ (ix3 a b (⟨2 * p.val + e.val, by omega⟩ : Fin 4)) ?_).trans
      (transpose_apply _ _ _ _ (ix3 a (⟨2 * p.val + e.val, by omega⟩ : Fin 4) b) (fun x => by fin_cases x <;> rfl)))
  · refine (Shape.rowMajor_val_two _).trans (Eq.trans ?_ (Shape.rowMajor_val_four _).symm)
    show (4096 * a.val + b.val) * 4 + (2 * p.val + e.val) = ((a.val * 4096 + b.val) * 2 + p.val) * 2 + e.val
    omega
  · refine (Shape.rowMajor_val_three _).trans (Eq.trans ?_ (Shape.rowMajor_val_two _).symm)
    show (a.val * 4096 + b.val) * 4 + (2 * p.val + e.val) = (4096 * a.val + b.val) * 4 + (2 * p.val + e.val)
    omega

theorem cols_at (T : FVec Ideal S2x4x4096 .f32) (a p : Fin 2) (b : Fin 4096) (e : Fin 2) :
    transpose S2x2x4096x2 [0, 2, 1, 3] (pairs T) transposes_S2x4096x2x2_S2x2x4096x2_0_2_1_3 (ix4 a p b e) = T (ix3 a (⟨2 * p.val + e.val, by omega⟩ : Fin 4) b) :=
  (transpose_apply _ _ _ _ (ix4 a b p e) (fun x => by fin_cases x <;> rfl)).trans (pairs_at T a b p e)

theorem rows_at (T : FVec Ideal S2x4x4096 .f32) (a p e : Fin 2) (b : Fin 4096) :
    transpose S2x2x2x4096 [0, 2, 3, 1] (pairs T) transposes_S2x4096x2x2_S2x2x2x4096_0_2_3_1 (ix4 a p e b) = T (ix3 a (⟨2 * p.val + e.val, by omega⟩ : Fin 4) b) :=
  (transpose_apply _ _ _ _ (ix4 a b p e) (fun x => by fin_cases x <;> rfl)).trans (pairs_at T a b p e)

/-- The keys' sums back in token rows. -/
def keys (R : FVec Ideal S2x2x8x4096 .f32) : FVec Ideal S8192x4 .f32 :=
  shapeCast S8192x4 (transpose S2x4096x2x2 [0, 3, 1, 2] (extractStridedSlice S2x2x2x4096 ![0, 0, 0, 0] R slices_S2x2x8x4096_S2x2x2x4096_0_0_0_0) transposes_S2x2x2x4096_S2x4096x2x2_0_3_1_2)
    shapeCasts_S2x4096x2x2_S8192x4

theorem keys_at (R : FVec Ideal S2x2x8x4096 .f32) (r : Fin 8192) (h : Fin 4) :
    keys R (ix2 r h) = R (ix4 (⟨r.val / 4096, by omega⟩ : Fin 2) (⟨h.val / 2, by omega⟩ : Fin 2) (⟨h.val % 2, by omega⟩ : Fin 8) (⟨r.val % 4096, by omega⟩ : Fin 4096)) := by
  have hr := r.isLt
  have hh := h.isLt
  unfold keys
  refine (shapeCast_apply (s := S2x4096x2x2) (t := S8192x4) _ _ _ (ix4 (⟨r.val / 4096, by omega⟩ : Fin 2) (⟨r.val % 4096, by omega⟩ : Fin 4096) (⟨h.val / 2, by omega⟩ : Fin 2) (⟨h.val % 2, by omega⟩ : Fin 2)) ?_).trans
    ((transpose_apply _ _ _ _ (ix4 (⟨r.val / 4096, by omega⟩ : Fin 2) (⟨h.val / 2, by omega⟩ : Fin 2) (⟨h.val % 2, by omega⟩ : Fin 2) (⟨r.val % 4096, by omega⟩ : Fin 4096)) (fun x => by fin_cases x <;> rfl)).trans
      (extractStridedSlice_apply _ _ _ _ _ (fun x => by fin_cases x <;> simp [ix4])))
  refine (Shape.rowMajor_val_four _).trans (Eq.trans ?_ (Shape.rowMajor_val_two _).symm)
  show ((r.val / 4096 * 4096 + r.val % 4096) * 2 + h.val / 2) * 2 + h.val % 2 = r.val * 4 + h.val
  omega

/-- The rows' sums back in token rows. -/
def queries (C : FVec Ideal S2x8192x128 .f32) : FVec Ideal S8192x4 .f32 :=
  shapeCast S8192x4 (transpose S8192x2x2 [1, 0, 2] (extractStridedSlice S2x8192x2 ![0, 0, 0] C slices_S2x8192x128_S2x8192x2_0_0_0) transposes_S2x8192x2_S8192x2x2_1_0_2)
    shapeCasts_S8192x2x2_S8192x4

theorem queries_at (C : FVec Ideal S2x8192x128 .f32) (r : Fin 8192) (h : Fin 4) :
    queries C (ix2 r h) = C (ix3 (⟨h.val / 2, by omega⟩ : Fin 2) r (⟨h.val % 2, by omega⟩ : Fin 128)) := by
  have hr := r.isLt
  have hh := h.isLt
  unfold queries
  refine (shapeCast_apply (s := S8192x2x2) (t := S8192x4) _ _ _ (ix3 r (⟨h.val / 2, by omega⟩ : Fin 2) (⟨h.val % 2, by omega⟩ : Fin 2)) ?_).trans
    ((transpose_apply _ _ _ _ (ix3 (⟨h.val / 2, by omega⟩ : Fin 2) r (⟨h.val % 2, by omega⟩ : Fin 2)) (fun x => by fin_cases x <;> rfl)).trans
      (extractStridedSlice_apply _ _ _ _ _ (fun x => by fin_cases x <;> simp [ix3])))
  refine (Shape.rowMajor_val_three _).trans (Eq.trans ?_ (Shape.rowMajor_val_two _).symm)
  show (r.val * 2 + h.val / 2) * 2 + h.val % 2 = r.val * 4 + h.val
  omega

/-- The gate's column: the keys' sums and the rows' sums, padded to a lane tile and cut back. -/
def gates (R : FVec Ideal S2x2x8x4096 .f32) (C : FVec Ideal S2x8192x128 .f32) (v : FVec Ideal S_ .f32) : FVec Ideal S8192x4 .f32 :=
  extractStridedSlice S8192x4 ![0, 0] (pad S8192x128 ![0, 0] ![0, 124] ![0, 0] (addf (keys R) (queries C)) v pads_S8192x4_S8192x128_000_01240 h_S_) slices_S8192x128_S8192x4_0_0

theorem gates_at (R : FVec Ideal S2x2x8x4096 .f32) (C : FVec Ideal S2x8192x128 .f32) (v : FVec Ideal S_ .f32) (r : Fin 8192) (h : Fin 4) :
    (gates R C v (ix2 r h) : EReal) = (R (ix4 (⟨r.val / 4096, by omega⟩ : Fin 2) (⟨h.val / 2, by omega⟩ : Fin 2) (⟨h.val % 2, by omega⟩ : Fin 8) (⟨r.val % 4096, by omega⟩ : Fin 4096)) : EReal)
      + (C (ix3 (⟨h.val / 2, by omega⟩ : Fin 2) r (⟨h.val % 2, by omega⟩ : Fin 128)) : EReal) := by
  have hh := h.isLt
  refine Eq.trans ?_ (congrArg₂ (fun a b : EReal => a + b) (keys_at R r h) (queries_at C r h))
  unfold gates
  refine (extractStridedSlice_apply _ _ _ _ (ix2 r (⟨h.val, by omega⟩ : Fin 128)) (fun x => by fin_cases x <;> simp [ix2])).trans ?_
  exact pad_apply_of_inside _ _ _ _ _ _ _ _ (ix2 r h) (fun x => by fin_cases x <;> simp [ix2])

end Cert.FoxIdeal.Val

end
-- ==== Proof.FoxRef.lean ====
/-
  The reference of forgetting attention: its output and its gradients, at finite arguments, are the real
  functions of `FoxSpec`.
-/
module

public import proofs.«01_k».proof.Proof.Gen.FoxRefIdeal.Read
public import proofs.«01_k».proof.Proof.FoxSpec
public import Idealize.ShloMosaic.Lib.WordCmp
public import Idealize.ShloMosaic.Lib.KernelVsHost

@[expose] public section

set_option maxRecDepth 16384

noncomputable section

open Idealize.ShloMosaic

namespace Cert.FoxRefIdeal.At

open Cert.FoxRefIdeal.Read Cert.FoxSpec Cert.Vals

theorem at3 (f : ℕ → ℕ → ℕ → ℝ) {a b c a' b' c' : ℕ} (ha : a = a') (hb : b = b') (hc : c = c') :
    ((f a b c : ℝ) : EReal) = ((f a' b' c' : ℝ) : EReal) := by rw [ha, hb, hc]

theorem at4 (f : ℕ → ℕ → ℕ → ℕ → ℝ) {a b c d a' b' c' d' : ℕ} (ha : a = a') (hb : b = b') (hc : c = c') (hd : d = d') :
    ((f a b c d : ℝ) : EReal) = ((f a' b' c' d' : ℝ) : EReal) := by rw [ha, hb, hc, hd]

theorem dot_coe {n : ℕ} (f g : ℕ → ℝ) :
    ∑ k : Fin n, ((f k.val : ℝ) : EReal) * ((g k.val : ℝ) : EReal) = ((∑ k ∈ Finset.range n, f k * g k : ℝ) : EReal) := by
  simp only [← EReal.coe_mul]
  exact sum_fin_coe (fun k => f k * g k)

theorem zero_bits : (FloatOps.ofBits (F := Ideal) .f32 0x00000000#32 : EReal) = 0 := by
  rw [Ideal.ofBits_def, Ideal.ofBits_zero_f32]

theorem ite_coe (p : Prop) [Decidable p] (a b : ℝ) : (if p then (a : EReal) else (b : EReal)) = ((if p then a else b : ℝ) : EReal) := by
  split_ifs <;> rfl

theorem ds_congr (A : In) {b h t s b' h' t' s' : ℕ} (hb : b = b') (hh : h = h') (ht : t = t') (hs : s = s') :
    ds (zr A b h t) (gr A b h t) t s = ds (zr A b' h' t') (gr A b' h' t') t' s' := by rw [hb, hh, ht, hs]

theorem div_real {a b : EReal} {x y : ℝ} (ha : a = (x : EReal)) (hb : b = (y : EReal)) (hy : y ≠ 0) : Ideal.div a b = ((x / y : ℝ) : EReal) := by
  rw [ha, hb, Ideal.div_coe hy, ← EReal.coe_mul, mul_one_div]

variable {x0 x1 x2 : (⟨S2x4096x256, .f32⟩ : BufTy).Contents (Elt Ideal)} {x3 : (⟨S2x4096x2564, .f32⟩ : BufTy).Contents (Elt Ideal)}
  {x4 : (⟨S2x4096x4, .f32⟩ : BufTy).Contents (Elt Ideal)} {A : In}
  (hD : ∀ i : S2x4096x256.Idx, (x0 i : EReal) = ((A.D (i 0).val (i 1).val (i 2).val : ℝ) : EReal))
  (hQ : ∀ i : S2x4096x256.Idx, (x1 i : EReal) = ((A.Q (i 0).val (i 1).val (i 2).val : ℝ) : EReal))
  (hK : ∀ i : S2x4096x256.Idx, (x2 i : EReal) = ((A.K (i 0).val (i 1).val (i 2).val : ℝ) : EReal))
  (hV : ∀ i : S2x4096x256.Idx, (val_main_v2 (F := Ideal) x3 i : EReal) = ((A.V (i 0).val (i 1).val (i 2).val : ℝ) : EReal))
  (hF : ∀ i : S2x4x4096.Idx, (val_main_v1 (F := Ideal) x4 i : EReal) = ((A.F (i 0).val (i 1).val (i 2).val : ℝ) : EReal))

include hQ in
theorem q_at (i : S2x4x4096x64.Idx) :
    (val_main_v4 (F := Ideal) x1 i : EReal) = ((A.Q (i 0).val (i 2).val (64 * (i 1).val + (i 3).val) : ℝ) : EReal) := by
  have h0 : (i 0).val < 2 := (i 0).isLt
  have h1 : (i 1).val < 4 := (i 1).isLt
  have h2 : (i 2).val < 4096 := (i 2).isLt
  have h3 : (i 3).val < 64 := (i 3).isLt
  rw [val_main_v4_apply, val_main_v3_apply, hQ]
  exact at3 A.Q
    (show ((((i 0).val * 4096 + (i 2).val) * 4 + (i 1).val) * 64 + (i 3).val) / 1048576 = (i 0).val by omega)
    (show ((((i 0).val * 4096 + (i 2).val) * 4 + (i 1).val) * 64 + (i 3).val) / 256 % 4096 = (i 2).val by omega)
    (show ((((i 0).val * 4096 + (i 2).val) * 4 + (i 1).val) * 64 + (i 3).val) % 256 = _ by omega)

include hK in
theorem k_at (i : S2x4x4096x64.Idx) :
    (val_main_v6 (F := Ideal) x2 i : EReal) = ((A.K (i 0).val (i 2).val (64 * (i 1).val + (i 3).val) : ℝ) : EReal) := q_at (A := ⟨A.K, A.K, A.V, A.D, A.F⟩) hK i

include hV in
theorem v_at (i : S2x4x4096x64.Idx) :
    (val_main_v8 (F := Ideal) x3 i : EReal) = ((A.V (i 0).val (i 2).val (64 * (i 1).val + (i 3).val) : ℝ) : EReal) := q_at (A := ⟨A.V, A.K, A.V, A.D, A.F⟩) hV i

include hD in
theorem d_at (i : S2x4x4096x64.Idx) :
    (val_main_v57 (F := Ideal) x0 i : EReal) = ((A.D (i 0).val (i 2).val (64 * (i 1).val + (i 3).val) : ℝ) : EReal) := q_at (A := ⟨A.D, A.K, A.V, A.D, A.F⟩) hD i

section Logits
include hQ hK hF

/-- The logits. -/
theorem z_at (i : S2x4x4096x4096.Idx) :
    (val_main_v17 (F := Ideal) x1 x2 x4 i : EReal) = ((zr A (i 0).val (i 1).val (i 2).val (i 3).val : ℝ) : EReal) := by
  have e : ∀ k : Fin 64, (val_main_v4 (F := Ideal) x1 (lidx_main_v9 i k) : EReal) * (val_main_v6 (F := Ideal) x2 (ridx_main_v9 i k) : EReal)
      = ((A.Q (i 0).val (i 2).val (64 * (i 1).val + k.val) : ℝ) : EReal) * ((A.K (i 0).val (i 3).val (64 * (i 1).val + k.val) : ℝ) : EReal) :=
    fun k => Ideal.mul_congr (q_at hQ _) (k_at hK _)
  have e1 : (val_main_v13 (F := Ideal) x4 i : EReal) = ((A.F (i 0).val (i 1).val (i 2).val : ℝ) : EReal) := by
    rw [val_main_v13_apply, val_main_v12_apply, hF]
  have e2 : (val_main_v16 (F := Ideal) x4 i : EReal) = ((A.F (i 0).val (i 1).val (i 3).val : ℝ) : EReal) := by
    rw [val_main_v16_apply, val_main_v15_apply, hF]
  rw [val_main_v17_apply, val_main_v14_apply, val_main_v11_apply, val_main_v10_apply, val_main_cst_apply, eighth_f32, val_main_v9_apply, e1, e2]
  show (∑ k : Fin 64, (val_main_v4 (F := Ideal) x1 (lidx_main_v9 i k) : EReal) * (val_main_v6 (F := Ideal) x2 (ridx_main_v9 i k) : EReal)) * _ + _ - _ = _
  rw [Finset.sum_congr rfl fun k _ => e k, dot_coe (fun k => A.Q (i 0).val (i 2).val (64 * (i 1).val + k)) (fun k => A.K (i 0).val (i 3).val (64 * (i 1).val + k)), ← EReal.coe_mul, ← EReal.coe_add, ← EReal.coe_sub]
  rfl

omit hQ hK hF in
/-- The mask of the keys not after the query. -/
theorem mask_at {α : Type} (i : S2x4x4096x4096.Idx) (a b : α) :
    Scalar.select (val_main_v24_1 (F := Ideal) i) a b = if (i 3).val ≤ (i 2).val then a else b := by
  have h2 : (i 2).val < 4096 := (i 2).isLt
  have h3 : (i 3).val < 4096 := (i 3).isLt
  rw [val_main_v24_1_apply, val_main_v23_apply, val_main_v21_apply, val_main_v19_apply, val_main_v22_apply, val_main_v20_apply, val_main_v18_apply, val_main_v18_apply]
  show Scalar.select (IntOp.cmpi .sle (BitVec.ofNat 32 (i 3).val) (BitVec.ofNat 32 (i 2).val)) a b = _
  rw [WordCmp.cmpi_sle_ofNat (by omega) (by omega)]
  by_cases h : (i 3).val ≤ (i 2).val <;> simp [h, Scalar.select]

/-- The masked logits. -/
theorem zm_at (i : S2x4x4096x4096.Idx) :
    (val_main_v24_0 (F := Ideal) x1 x2 x4 i : EReal) = if (i 3).val ≤ (i 2).val then ((zr A (i 0).val (i 1).val (i 2).val (i 3).val : ℝ) : EReal) else ⊥ := by
  rw [val_main_v24_0_apply, mask_at, val_main_call1_v2_apply, val_main_call1_v0_apply, val_main_cst_0_apply, neg_inf, z_at hQ hK hF]

/-- The row's greatest logit is a real number. -/
theorem mx_at (b : Fin 2) (h : Fin 4) (t : Fin 4096) :
    ∃ m : ℝ, (val_main_v32 (F := Ideal) x1 x2 x4 (ix3 b h t) : EReal) = (m : EReal) := by
  have hr : S2x4x4096x4096.Reduces [3] S2x4x4096 := by decide
  have e : (val_main_v25 (F := Ideal) x1 x2 x4 : FVec Ideal S2x4x4096 .f32) = multiReduction (F := Ideal) .maximumf [3] S2x4x4096 (val_main_v24_0 (F := Ideal) x1 x2 x4 : FVec Ideal S2x4x4096x4096 .f32) 0xFF800000#32 hr (.inl rfl) rfl := by
    unfold val_main_v25
    exact hostReduce_maximumf_eq_multiReduction (F := Ideal) (φ := .f32) (u := S_) (val_main_v24_0 (F := Ideal) x1 x2 x4 : FVec Ideal S2x4x4096x4096 .f32) 0xFF800000#32 _ _ hr (.inl rfl) rfl
  have hl : ∀ k : Fin 4096, hr.lift (ix3 b h t) k = ix4 b h t k := fun k => by
    funext a
    match a with
    | ⟨0, _⟩ => rfl
    | ⟨1, _⟩ => rfl
    | ⟨2, _⟩ => rfl
    | ⟨3, _⟩ => rfl
  obtain ⟨m, hm⟩ := fold_real (n := 4096) (fun k => (val_main_v24_0 (F := Ideal) x1 x2 x4 (hr.lift (ix3 b h t) k) : EReal))
    (fun k => by
      rw [hl k, zm_at hQ hK hF]
      split_ifs
      · exact EReal.coe_ne_top _
      · exact bot_ne_top) t
    (by
      rw [hl t, zm_at hQ hK hF]
      rw [if_pos (show ((ix4 b h t t : S2x4x4096x4096.Idx) 3).val ≤ ((ix4 b h t t : S2x4x4096x4096.Idx) 2).val from le_rfl)]
      exact EReal.coe_ne_bot _)
  refine ⟨m, ?_⟩
  rw [val_main_v32_apply, val_main_v31_apply, val_main_cst_3_apply, e]
  show max (FloatOps.ofBits (F := Ideal) .f32 0xFF800000#32 : EReal) _ = _
  rw [neg_inf, bot_sup_eq]
  refine (Ideal.multiReduction_maximumf_single _ _ hr _ _ _).trans ?_
  rw [neg_inf]
  exact hm

/-- A row's greatest logit. -/
theorem mx_ex : ∃ m : ℕ → ℕ → ℕ → ℝ, ∀ (b : Fin 2) (h : Fin 4) (t : Fin 4096), (val_main_v32 (F := Ideal) x1 x2 x4 (ix3 b h t) : EReal) = ((m b.val h.val t.val : ℝ) : EReal) :=
  ⟨fun b h t => if hb : b < 2 ∧ h < 4 ∧ t < 4096 then (mx_at hQ hK hF ⟨b, hb.1⟩ ⟨h, hb.2.1⟩ ⟨t, hb.2.2⟩).choose else 0, fun b h t => by
    dsimp only
    rw [dif_pos ⟨b.isLt, h.isLt, t.isLt⟩]
    exact (mx_at hQ hK hF b h t).choose_spec⟩

section Max

variable {m : ℕ → ℕ → ℕ → ℝ} (hm : ∀ (b : Fin 2) (h : Fin 4) (t : Fin 4096), (val_main_v32 (F := Ideal) x1 x2 x4 (ix3 b h t) : EReal) = ((m b.val h.val t.val : ℝ) : EReal))
include hm

/-- The exponentials. -/
theorem e_at (i : S2x4x4096x4096.Idx) :
    (val_main_v45 (F := Ideal) x1 x2 x4 i : EReal)
      = ((Real.exp (-m (i 0).val (i 1).val (i 2).val) * ex (zr A (i 0).val (i 1).val (i 2).val) (i 2).val (i 3).val : ℝ) : EReal) := by
  have e1 : (val_main_v43 (F := Ideal) x1 x2 x4 i : EReal) = ((m (i 0).val (i 1).val (i 2).val : ℝ) : EReal) := by
    rw [val_main_v43_apply, val_main_v42_apply]
    refine Eq.trans (congrArg (val_main_v32 (F := Ideal) x1 x2 x4) ?_) (hm (i 0) (i 1) (i 2))
    funext a
    match a with
    | ⟨0, _⟩ => rfl
    | ⟨1, _⟩ => rfl
    | ⟨2, _⟩ => rfl
  rw [val_main_v45_apply, val_main_v44_apply]
  show Ideal.exp ((val_main_v24_0 (F := Ideal) x1 x2 x4 i : EReal) - (val_main_v43 (F := Ideal) x1 x2 x4 i : EReal)) = _
  rw [e1, zm_at hQ hK hF, ex]
  split_ifs with h
  · rw [← EReal.coe_sub, Ideal.exp_coe, sub_eq_neg_add, Real.exp_add]
  · rw [EReal.bot_sub, mul_zero]; rfl

/-- The row sums. -/
theorem s_at (i : S2x4x4096.Idx) :
    (val_main_v46 (F := Ideal) x1 x2 x4 i : EReal)
      = ((Real.exp (-m (i 0).val (i 1).val (i 2).val) * den (zr A (i 0).val (i 1).val (i 2).val) (i 2).val : ℝ) : EReal) := by
  rw [val_main_v46_apply, val_main_cst_9_apply, zero_bits, zero_add, den, Finset.mul_sum, ← sum_fin_coe (fun k => Real.exp (-m (i 0).val (i 1).val (i 2).val) * ex (zr A (i 0).val (i 1).val (i 2).val) (i 2).val k)]
  exact Finset.sum_congr rfl fun k _ => e_at hQ hK hF hm _

/-- The weights. -/
theorem p_at (i : S2x4x4096x4096.Idx) :
    (val_main_v49 (F := Ideal) x1 x2 x4 i : EReal) = ((pw (zr A (i 0).val (i 1).val (i 2).val) (i 2).val (i 3).val : ℝ) : EReal) := by
  have h2 : (i 2).val < 4096 := (i 2).isLt
  rw [val_main_v49_apply, val_main_v48_apply, val_main_v47_apply]
  have hd := den_pos (zr A (i 0).val (i 1).val (i 2).val) h2
  have hn : (val_main_v46 (F := Ideal) x1 x2 x4 (idx_main_v47 (idx_main_v48 i)) : EReal)
      = ((Real.exp (-m (i 0).val (i 1).val (i 2).val) * den (zr A (i 0).val (i 1).val (i 2).val) (i 2).val : ℝ) : EReal) := s_at hQ hK hF hm _
  refine (div_real (e_at hQ hK hF hm i) hn (mul_pos (Real.exp_pos _) hd).ne').trans ?_
  rw [mul_div_mul_left _ _ (Real.exp_pos _).ne', pw]

include hV

/-- The output, by heads. -/
theorem yh_at (i : S2x4x4096x64.Idx) :
    (val_main_v53 (F := Ideal) x1 x2 x3 x4 i : EReal)
      = ((∑ s ∈ Finset.range 4096, pw (zr A (i 0).val (i 1).val (i 2).val) (i 2).val s * A.V (i 0).val s (64 * (i 1).val + (i 3).val) : ℝ) : EReal) := by
  rw [val_main_v53_apply]
  exact (Finset.sum_congr rfl fun k _ => Ideal.mul_congr (p_at hQ hK hF hm _) (v_at hV _)).trans
    (dot_coe (fun k => pw (zr A (i 0).val (i 1).val (i 2).val) (i 2).val k) (fun k => A.V (i 0).val k (64 * (i 1).val + (i 3).val)))

end Max

omit hQ hK hF in
/-- Rows of four heads laid side by side. -/
theorem flat {f : ℕ → ℕ → ℕ → ℕ → ℝ} {X : S2x4x4096x64.Idx → EReal}
    (hX : ∀ i : S2x4x4096x64.Idx, X i = ((f (i 0).val (i 1).val (i 2).val (i 3).val : ℝ) : EReal)) (i : S2x4096x256.Idx) :
    X (idx_main_v54 (idx_main_v55 i)) = ((f (i 0).val ((i 2).val / 64) (i 1).val ((i 2).val % 64) : ℝ) : EReal) := by
  have h0 : (i 0).val < 2 := (i 0).isLt
  have h1 : (i 1).val < 4096 := (i 1).isLt
  have h2 : (i 2).val < 256 := (i 2).isLt
  rw [hX]
  exact at4 f
    (show (((i 0).val * 4096 + (i 1).val) * 256 + (i 2).val) / 1048576 = _ by omega)
    (show (((i 0).val * 4096 + (i 1).val) * 256 + (i 2).val) / 64 % 4 = _ by omega)
    (show (((i 0).val * 4096 + (i 1).val) * 256 + (i 2).val) / 256 % 4096 = _ by omega)
    (show (((i 0).val * 4096 + (i 1).val) * 256 + (i 2).val) % 64 = _ by omega)

omit hQ hK hF in
/-- The two batches laid one below the other. -/
theorem tall {f : ℕ → ℕ → ℕ → ℝ} {X : S2x4096x256.Idx → EReal}
    (hX : ∀ i : S2x4096x256.Idx, X i = ((f (i 0).val (i 1).val (i 2).val : ℝ) : EReal)) (i : S8192x256.Idx) :
    X (idx_main_v92 i) = ((f ((i 0).val / 4096) ((i 0).val % 4096) (i 1).val : ℝ) : EReal) := by
  have h0 : (i 0).val < 8192 := (i 0).isLt
  have h1 : (i 1).val < 256 := (i 1).isLt
  rw [hX]
  exact at3 f
    (show ((i 0).val * 256 + (i 1).val) / 1048576 = _ by omega)
    (show ((i 0).val * 256 + (i 1).val) / 256 % 4096 = _ by omega)
    (show ((i 0).val * 256 + (i 1).val) % 256 = _ by omega)

omit hQ hK hF in
/-- A column of a row of heads is its head's column. -/
theorem col (c : ℕ) : 64 * (c / 64) + c % 64 = c := Nat.div_add_mod c 64

include hV in
/-- The output. -/
theorem y_at (i : S8192x256.Idx) :
    (val_main_v92 (F := Ideal) x1 x2 x3 x4 i : EReal) = ((y A ((i 0).val / 4096) ((i 0).val % 4096) (i 1).val : ℝ) : EReal) := by
  obtain ⟨m, hm⟩ := mx_ex hQ hK hF
  rw [val_main_v92_apply]
  refine tall (f := y A) (fun i => ?_) i
  rw [val_main_v55_apply, val_main_v54_apply]
  refine (flat (f := fun b h t d => ∑ s ∈ Finset.range 4096, pw (zr A b h t) t s * A.V b s (64 * h + d)) (fun i => yh_at hQ hK hV hF hm i) i).trans ?_
  simp only [col]
  rfl

include hD in
/-- The derivative by the values. -/
theorem dv_at (i : S2x4096x256.Idx) :
    (val_main_v87 (F := Ideal) x0 x1 x2 x4 i : EReal) = ((dv A (i 0).val (i 1).val (i 2).val : ℝ) : EReal) := by
  obtain ⟨m, hm⟩ := mx_ex hQ hK hF
  rw [val_main_v87_apply, val_main_v86_apply]
  refine (flat (f := fun b h s d => ∑ t ∈ Finset.range 4096, pw (zr A b h t) t s * A.D b t (64 * h + d)) (fun i => ?_) i).trans ?_
  · rw [val_main_v59_apply, val_main_v58_apply]
    refine (Finset.sum_congr rfl fun k _ => Ideal.mul_congr (d_at hD _) (p_at hQ hK hF hm _)).trans ?_
    refine (dot_coe (fun k => A.D (i 0).val k (64 * (i 1).val + (i 3).val)) (fun k => pw (zr A (i 0).val (i 1).val k) k (i 2).val)).trans ?_
    exact congrArg _ (Finset.sum_congr rfl fun k _ => mul_comm _ _)
  · simp only [col]
    rfl

section Grad

include hV hD

omit hQ hK hF in
/-- The derivative by the weights. -/
theorem gr_at (i : S2x4x4096x4096.Idx) :
    (val_main_v60 (F := Ideal) x0 x3 i : EReal) = ((gr A (i 0).val (i 1).val (i 2).val (i 3).val : ℝ) : EReal) := by
  rw [val_main_v60_apply]
  exact (Finset.sum_congr rfl fun k _ => Ideal.mul_congr (d_at hD _) (v_at hV _)).trans
    (dot_coe (fun k => A.D (i 0).val (i 2).val (64 * (i 1).val + k)) (fun k => A.V (i 0).val (i 3).val (64 * (i 1).val + k)))

/-- The derivative by the logits. -/
theorem ds_at (i : S2x4x4096x4096.Idx) :
    (val_main_v73 (F := Ideal) x0 x1 x2 x3 x4 i : EReal)
      = ((ds (zr A (i 0).val (i 1).val (i 2).val) (gr A (i 0).val (i 1).val (i 2).val) (i 2).val (i 3).val : ℝ) : EReal) := by
  obtain ⟨m, hm⟩ := mx_ex hQ hK hF
  have h2 : (i 2).val < 4096 := (i 2).isLt
  set z := zr A (i 0).val (i 1).val (i 2).val with hz
  set g := gr A (i 0).val (i 1).val (i 2).val with hg
  set u := Real.exp (-m (i 0).val (i 1).val (i 2).val) with hu
  have hu0 : u ≠ 0 := (Real.exp_pos _).ne'
  have hd : den z (i 2).val ≠ 0 := (den_pos z h2).ne'
  have n : ∀ j : S2x4x4096x1.Idx, (val_main_v47 (F := Ideal) x1 x2 x4 j : EReal)
      = ((Real.exp (-m (j 0).val (j 1).val (j 2).val) * den (zr A (j 0).val (j 1).val (j 2).val) (j 2).val : ℝ) : EReal) := fun j => by
    rw [val_main_v47_apply]
    exact s_at hQ hK hF hm _
  have sq : ∀ j : S2x4x4096x1.Idx, (j 0).val = (i 0).val → (j 1).val = (i 1).val → (j 2).val = (i 2).val →
      (val_main_v52 (F := Ideal) x1 x2 x4 j : EReal) = ((1 / ((u * den z (i 2).val) * (u * den z (i 2).val)) : ℝ) : EReal) := fun j e0 e1 e2 => by
    rw [val_main_v52_apply]
    refine div_real ?_ ?_ (mul_ne_zero (mul_ne_zero hu0 hd) (mul_ne_zero hu0 hd))
    · rw [val_main_v51_apply, val_main_cst_10_apply]; exact one_f32
    · rw [val_main_v50_apply]
      show (val_main_v47 (F := Ideal) x1 x2 x4 j : EReal) * (val_main_v47 (F := Ideal) x1 x2 x4 j : EReal) = _
      rw [n j, e0, e1, e2, ← EReal.coe_mul]
  have a : (val_main_v68 (F := Ideal) x0 x1 x2 x3 x4 i : EReal) = ((g (i 3).val / (u * den z (i 2).val) : ℝ) : EReal) := by
    rw [val_main_v68_apply]
    refine div_real (gr_at hD hV i) ?_ (mul_ne_zero hu0 hd)
    rw [val_main_v67_apply]
    exact n _
  have w : ∀ k : Fin 4096, (val_main_v63 (F := Ideal) x0 x1 x2 x3 x4 (ix4 (i 0) (i 1) (i 2) k) : EReal)
      = ((g k.val * (1 / ((u * den z (i 2).val) * (u * den z (i 2).val))) * (u * ex z (i 2).val k.val) : ℝ) : EReal) := fun k => by
    rw [val_main_v63_apply, val_main_v62_apply, val_main_v61_apply]
    show (val_main_v60 (F := Ideal) x0 x3 (ix4 (i 0) (i 1) (i 2) k) : EReal) * (val_main_v52 (F := Ideal) x1 x2 x4 _ : EReal) * (val_main_v45 (F := Ideal) x1 x2 x4 _ : EReal) = _
    rw [gr_at hD hV, sq _ rfl rfl rfl, e_at hQ hK hF hm, ← EReal.coe_mul, ← EReal.coe_mul]
    rfl
  have t : ∀ j : S2x4x4096x1.Idx, (j 0).val = (i 0).val → (j 1).val = (i 1).val → (j 2).val = (i 2).val →
      (val_main_v66 (F := Ideal) x0 x1 x2 x3 x4 j : EReal)
        = ((-∑ k ∈ Finset.range 4096, g k * (1 / ((u * den z (i 2).val) * (u * den z (i 2).val))) * (u * ex z (i 2).val k) : ℝ) : EReal) := fun j e0 e1 e2 => by
    rw [val_main_v66_apply, val_main_v65_apply, val_main_v64_apply, val_main_cst_11_apply, zero_bits, zero_add]
    have j0 : (j 0).val < 2 := (j 0).isLt
    have j1 : (j 1).val < 4 := (j 1).isLt
    have j2 : (j 2).val < 4096 := (j 2).isLt
    have j3 : (j 3).val < 1 := (j 3).isLt
    have ej : ∀ k : Fin 4096, idx_main_v64 (idx_main_v65 j) k = ix4 (i 0) (i 1) (i 2) k := fun k => by
      funext b
      match b with
      | ⟨0, _⟩ => exact Fin.ext (show ((((j 0).val * 4 + (j 1).val) * 4096 + (j 2).val) * 1 + (j 3).val) / 16384 = (i 0).val by omega)
      | ⟨1, _⟩ => exact Fin.ext (show ((((j 0).val * 4 + (j 1).val) * 4096 + (j 2).val) * 1 + (j 3).val) / 4096 % 4 = (i 1).val by omega)
      | ⟨2, _⟩ => exact Fin.ext (show ((((j 0).val * 4 + (j 1).val) * 4096 + (j 2).val) * 1 + (j 3).val) % 4096 = (i 2).val by omega)
      | ⟨3, _⟩ => rfl
    show -(∑ k : Fin 4096, (val_main_v63 (F := Ideal) x0 x1 x2 x3 x4 (idx_main_v64 (idx_main_v65 j) k) : EReal)) = _
    rw [Finset.sum_congr rfl fun k _ => (congrArg (val_main_v63 (F := Ideal) x0 x1 x2 x3 x4) (ej k)).trans (w k), sum_fin_coe (fun k => g k * (1 / ((u * den z (i 2).val) * (u * den z (i 2).val))) * (u * ex z (i 2).val k)), ← EReal.coe_neg]
  have b : (val_main_v70 (F := Ideal) x0 x1 x2 x3 x4 i : EReal)
      = ((-∑ k ∈ Finset.range 4096, g k * (1 / ((u * den z (i 2).val) * (u * den z (i 2).val))) * (u * ex z (i 2).val k) : ℝ) : EReal) := by
    rw [val_main_v70_apply, val_main_v69_apply, val_main_cst_12_apply, zero_bits, zero_add, Fin.sum_univ_one]
    exact t _ rfl rfl rfl
  rw [val_main_v73_apply, mask_at, val_main_v72_apply, val_main_v71_apply]
  show (if _ then ((val_main_v68 (F := Ideal) x0 x1 x2 x3 x4 i : EReal) + (val_main_v70 (F := Ideal) x0 x1 x2 x3 x4 i : EReal)) * (val_main_v45 (F := Ideal) x1 x2 x4 i : EReal)
    else (FloatOps.ofBits (F := Ideal) .f32 0x00000000#32 : EReal)) = _
  rw [a, b, e_at hQ hK hF hm, zero_bits, ← EReal.coe_add, ← EReal.coe_mul, ← EReal.coe_zero, ite_coe]
  refine congrArg _ ?_
  have hs : ∑ k ∈ Finset.range 4096, g k * (1 / ((u * den z (i 2).val) * (u * den z (i 2).val))) * (u * ex z (i 2).val k) = del z g (i 2).val / (u * den z (i 2).val) := by
    rw [del, Finset.sum_div]
    refine Finset.sum_congr rfl fun k _ => ?_
    rw [pw]
    field_simp
  rw [hs, ds, pw, ← hz, ← hu]
  split_ifs with h
  · field_simp
    ring
  · rw [ex, if_neg h, zero_div, zero_mul]

/-- The derivative by the queries. -/
theorem dq_at (i : S8192x256.Idx) :
    (val_main_v93 (F := Ideal) x0 x1 x2 x3 x4 i : EReal) = ((dq A ((i 0).val / 4096) ((i 0).val % 4096) (i 1).val : ℝ) : EReal) := by
  rw [val_main_v93_apply]
  refine tall (f := dq A) (fun i => ?_) i
  rw [val_main_v91_apply, val_main_v90_apply]
  refine (flat (f := fun b h t d => ∑ s ∈ Finset.range 4096, ds (zr A b h t) (gr A b h t) t s * (1 / 8) * A.K b s (64 * h + d)) (fun i => ?_) i).trans ?_
  · rw [val_main_v85_apply]
    have e : ∀ j : S2x4x4096x4096.Idx, (val_main_v83 (F := Ideal) x0 x1 x2 x3 x4 j : EReal)
        = ((ds (zr A (j 0).val (j 1).val (j 2).val) (gr A (j 0).val (j 1).val (j 2).val) (j 2).val (j 3).val * (1 / 8) : ℝ) : EReal) := fun j => by
      rw [val_main_v83_apply, val_main_v82_apply, val_main_cst_17_apply, eighth_f32]
      show (val_main_v73 (F := Ideal) x0 x1 x2 x3 x4 j : EReal) * _ = _
      rw [ds_at hD hQ hK hV hF, ← EReal.coe_mul]
    exact (Finset.sum_congr rfl fun k _ => Ideal.mul_congr (e _) (k_at hK _)).trans
      (dot_coe (fun k => ds (zr A (i 0).val (i 1).val (i 2).val) (gr A (i 0).val (i 1).val (i 2).val) (i 2).val k * (1 / 8)) (fun k => A.K (i 0).val k (64 * (i 1).val + (i 3).val)))
  · simp only [col]
    rfl

/-- The derivative by the keys. -/
theorem dk_at (i : S2x4096x256.Idx) :
    (val_main_v89 (F := Ideal) x0 x1 x2 x3 x4 i : EReal) = ((dk A (i 0).val (i 1).val (i 2).val : ℝ) : EReal) := by
  rw [val_main_v89_apply, val_main_v88_apply]
  refine (flat (f := fun b h s d => ∑ t ∈ Finset.range 4096, ds (zr A b h t) (gr A b h t) t s * (1 / 8) * A.Q b t (64 * h + d)) (fun i => ?_) i).trans ?_
  · rw [val_main_v84_apply]
    have e : ∀ j : S2x4x4096x4096.Idx, (val_main_v83 (F := Ideal) x0 x1 x2 x3 x4 j : EReal)
        = ((ds (zr A (j 0).val (j 1).val (j 2).val) (gr A (j 0).val (j 1).val (j 2).val) (j 2).val (j 3).val * (1 / 8) : ℝ) : EReal) := fun j => by
      rw [val_main_v83_apply, val_main_v82_apply, val_main_cst_17_apply, eighth_f32]
      show (val_main_v73 (F := Ideal) x0 x1 x2 x3 x4 j : EReal) * _ = _
      rw [ds_at hD hQ hK hV hF, ← EReal.coe_mul]
    exact (Finset.sum_congr rfl fun k _ => Ideal.mul_congr (e _) (q_at hQ _)).trans
      (dot_coe (fun k => ds (zr A (i 0).val (i 1).val k) (gr A (i 0).val (i 1).val k) k (i 2).val * (1 / 8)) (fun k => A.Q (i 0).val k (64 * (i 1).val + (i 3).val)))
  · simp only [col]
    rfl

/-- The derivative by the running sum. -/
theorem df_at (i : S8192x4.Idx) :
    (val_main_v95 (F := Ideal) x0 x1 x2 x3 x4 i : EReal) = ((df A ((i 0).val / 4096) (i 1).val ((i 0).val % 4096) : ℝ) : EReal) := by
  have h0 : (i 0).val < 8192 := (i 0).isLt
  have h1 : (i 1).val < 4 := (i 1).isLt
  have key : ∀ j : S2x4x4096.Idx, (val_main_v81 (F := Ideal) x0 x1 x2 x3 x4 j : EReal) = ((df A (j 0).val (j 1).val (j 2).val : ℝ) : EReal) := fun j => by
    have j0 : (j 0).val < 2 := (j 0).isLt
    have j1 : (j 1).val < 4 := (j 1).isLt
    have j2 : (j 2).val < 4096 := (j 2).isLt
    have e1 : (val_main_v77 (F := Ideal) x0 x1 x2 x3 x4 j : EReal)
        = ((-∑ t ∈ Finset.range 4096, ds (zr A (j 0).val (j 1).val t) (gr A (j 0).val (j 1).val t) t (j 2).val : ℝ) : EReal) := by
      rw [val_main_v77_apply, val_main_cst_14_apply, zero_bits, zero_add, Fin.sum_univ_one, val_main_v76_apply, val_main_v75_apply, val_main_cst_13_apply, zero_bits, zero_add,
        ← Finset.sum_neg_distrib, ← sum_fin_coe (fun t => -ds (zr A (j 0).val (j 1).val t) (gr A (j 0).val (j 1).val t) t (j 2).val)]
      refine Finset.sum_congr rfl fun k _ => ?_
      rw [val_main_v74_apply]
      show -(val_main_v73 (F := Ideal) x0 x1 x2 x3 x4 _ : EReal) = _
      rw [ds_at hD hQ hK hV hF, ← EReal.coe_neg]
      refine congrArg _ (congrArg _ ?_)
      exact ds_congr A
        (show ((((j 0).val * 4 + (j 1).val) * 1 + 0) * 4096 + (j 2).val) / 16384 = _ by omega)
        (show ((((j 0).val * 4 + (j 1).val) * 1 + 0) * 4096 + (j 2).val) / 4096 % 4 = _ by omega)
        rfl
        (show ((((j 0).val * 4 + (j 1).val) * 1 + 0) * 4096 + (j 2).val) % 4096 = _ by omega)
    have e2 : (val_main_v80 (F := Ideal) x0 x1 x2 x3 x4 j : EReal)
        = ((∑ s ∈ Finset.range 4096, ds (zr A (j 0).val (j 1).val (j 2).val) (gr A (j 0).val (j 1).val (j 2).val) (j 2).val s : ℝ) : EReal) := by
      rw [val_main_v80_apply, val_main_cst_16_apply, zero_bits, zero_add, Fin.sum_univ_one, val_main_v79_apply, val_main_v78_apply, val_main_cst_15_apply, zero_bits, zero_add,
        ← sum_fin_coe (fun s => ds (zr A (j 0).val (j 1).val (j 2).val) (gr A (j 0).val (j 1).val (j 2).val) (j 2).val s)]
      refine Finset.sum_congr rfl fun k _ => (ds_at hD hQ hK hV hF _).trans (congrArg _ ?_)
      exact ds_congr A
        (show ((((j 0).val * 4 + (j 1).val) * 4096 + (j 2).val) * 1 + 0) / 16384 = _ by omega)
        (show ((((j 0).val * 4 + (j 1).val) * 4096 + (j 2).val) * 1 + 0) / 4096 % 4 = _ by omega)
        (show ((((j 0).val * 4 + (j 1).val) * 4096 + (j 2).val) * 1 + 0) % 4096 = _ by omega)
        rfl
    rw [val_main_v81_apply]
    show (val_main_v77 (F := Ideal) x0 x1 x2 x3 x4 j : EReal) + (val_main_v80 (F := Ideal) x0 x1 x2 x3 x4 j : EReal) = _
    rw [e1, e2, ← EReal.coe_add, df, neg_add_eq_sub]
  rw [val_main_v95_apply, val_main_v94_apply, key]
  exact at3 (df A)
    (show ((i 0).val * 4 + (i 1).val) / 16384 = _ by omega)
    (show ((i 0).val * 4 + (i 1).val) % 4 = _ by omega)
    (show ((i 0).val * 4 + (i 1).val) / 4 % 4096 = _ by omega)

end Grad

end Logits

/-- A window sum of real numbers is a real number. -/
theorem window_real {s u r : Shape} {w st lo hi : Fin s.rank → ℕ} (x : FVec Ideal s .f32) (init : u.Idx → Ideal .f32)
    (h : s.ReduceWindows w st lo hi r) (hu : 0 < u.numel) (hinit : ∀ i, init i = (0 : EReal)) (hx : ∀ i, ∃ v : ℝ, x i = (v : EReal)) (j : r.Idx) :
    ∃ v : ℝ, (Host.reduceWindowAdd w st lo hi x init h hu j : EReal) = (v : EReal) := by
  unfold Host.reduceWindowAdd
  rw [Ideal.hostReduceWindowAdd_def, hinit]
  unfold Ideal.hostReduceWindowAdd Host.reduceWindow
  dsimp only
  have fold : ∀ (l : List (Fin (⟨s.rank, w⟩ : Shape).numel)) (g : Fin (⟨s.rank, w⟩ : Shape).numel → EReal) (v : ℝ), (∀ n, ∃ v : ℝ, g n = (v : EReal)) →
      ∃ v' : ℝ, l.foldl (fun r n => r + g n) (v : EReal) = (v' : EReal) := fun l => by
    induction l with
    | nil => exact fun g v _ => ⟨v, rfl⟩
    | cons a l ih =>
      intro g v hg
      obtain ⟨b, hb⟩ := hg a
      rw [List.foldl_cons, hb, ← EReal.coe_add]
      exact ih g _ hg
  refine fold _ _ 0 fun n => ?_
  split_ifs
  · exact hx _
  · exact ⟨0, rfl⟩

end Cert.FoxRefIdeal.At

end
-- ==== Proof.FoxRun.lean ====
/-
  The forget-gate pair of calls, run: its five results as functions of the five arguments.
-/
module

public import proofs.«01_k».proof.Proof.FoxArr1
public import proofs.«01_k».proof.Proof.FoxHost
public import proofs.«01_k».proof.Proof.FoxRef
public import proofs.«01_k».proof.Pre_fox_finite
public import Idealize.ShloMosaic.Lib.KernelVsHost

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

namespace Cert.FoxIdeal.Val

open Idealize.ShloMosaic.Rounds
local notation "𝕄" => MT nD τ sig Unit (Elt Ideal) ℕ (UR sig nD τ) ℕ

open Cert.FoxIdeal.Gen Cert.FoxSpec Cert.Vals Cert.FoxRefIdeal.Read
open Cert.FoxIdeal.Fwd (Given arr_y arr_l)
open Cert.FoxIdeal.Bwd (More arr_dq arr_dk arr_dv arr_dfr arr_dfc RS CS)

variable (m : (ℓ : Loc nD τ sig) → Buf (Elt Ideal) ℓ) (ρ : Dev nD → PrngReg)

/-- The arguments as the kernel finds them. -/
abbrev A0 (c : Dev nD) : FVec Ideal S2x4096x256 .f32 := m (c.tc.loc main_arg0)
abbrev A1 (c : Dev nD) : FVec Ideal S2x4096x256 .f32 := m (c.tc.loc main_arg1)
abbrev A2 (c : Dev nD) : FVec Ideal S2x4096x256 .f32 := m (c.tc.loc main_arg2)
abbrev A3 (c : Dev nD) : FVec Ideal S2x4096x2564 .f32 := m (c.tc.loc main_arg3)
abbrev A4 (c : Dev nD) : FVec Ideal S2x4096x4 .f32 := m (c.tc.loc main_arg4)

set_option backward.isDefEq.respectTransparency.types false in
/-- Every unscoped buffer at the end of the run. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iassumption⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

/-- An extended real of magnitude below infinity is a real. -/
theorem real_of {x : EReal} (h : Ideal.cmp .olt (max x (-x)) ⊤ = 1) : x = ((x.toReal : ℝ) : EReal) := by
  have h := (Ideal.cmp_olt_eq_one (max x (-x)) ⊤).mp h
  refine (EReal.coe_toReal ?_ ?_).symm
  · rintro rfl; simp at h
  · rintro rfl; simp at h

theorem top_f32 : Ideal.ofBits .f32 0x7F800000#32 = ⊤ := by simp [Ideal.ofBits, Ideal.ieee]

theorem finite_at {s : Shape} (X : s.Idx → EReal) (i : s.Idx) (h : Ideal.cmp .olt (max (X i) (-(X i))) (Ideal.ofBits .f32 0x7F800000#32) = 1) : ∃ v : ℝ, X i = (v : EReal) := by
  rw [top_f32] at h
  exact ⟨_, real_of h⟩

variable [hPre : Cert.Pre_fox_finite.Facts] (c : Dev nD)

abbrev pc := Cert.Pre_fox_finite.fn (F := Ideal) (A0 m c) (A1 m c) (A2 m c) (A3 m c) (A4 m c)

/-- Every argument finite. -/
abbrev Finite : Prop := (pc m c).1 = (fun _ => 1#1) ∧ (pc m c).2.1 = (fun _ => 1#1) ∧ (pc m c).2.2.1 = (fun _ => 1#1) ∧ (pc m c).2.2.2.1 = (fun _ => 1#1) ∧ (pc m c).2.2.2.2 = (fun _ => 1#1)

/-- The arguments as reals. -/
abbrev input : In where
  Q a b d := reals (A := 2) (B := 4096) (C := 256) (A1 m c) a b d
  K a b d := reals (A := 2) (B := 4096) (C := 256) (A2 m c) a b d
  V a b d := reals (A := 2) (B := 4096) (C := 2564) (A3 m c) a b (2304 + d)
  D a b d := reals (A := 2) (B := 4096) (C := 256) (A0 m c) a b d
  F a b d := reals (A := 2) (B := 4) (C := 4096) (val_main_v1 (F := Ideal) (A4 m c)) a b d

variable {m} {c} (h : Finite m c)

include h

theorem fin0 (i : S2x4096x256.Idx) : ∃ v : ℝ, ((A0 m c) i : EReal) = (v : EReal) := by
  exact finite_at (s := S2x4096x256) (A0 m c) i (congrFun h.1 i)

theorem fin1 (i : S2x4096x256.Idx) : ∃ v : ℝ, ((A1 m c) i : EReal) = (v : EReal) := by
  exact finite_at (s := S2x4096x256) (A1 m c) i (congrFun h.2.1 i)

theorem fin2 (i : S2x4096x256.Idx) : ∃ v : ℝ, ((A2 m c) i : EReal) = (v : EReal) := by
  exact finite_at (s := S2x4096x256) (A2 m c) i (congrFun h.2.2.1 i)

theorem fin3 (i : S2x4096x2564.Idx) : ∃ v : ℝ, ((A3 m c) i : EReal) = (v : EReal) := by
  exact finite_at (s := S2x4096x2564) (A3 m c) i (congrFun h.2.2.2.1 i)

theorem fin4 (i : S2x4096x4.Idx) : ∃ v : ℝ, ((A4 m c) i : EReal) = (v : EReal) := by
  exact finite_at (s := S2x4096x4) (A4 m c) i (congrFun h.2.2.2.2 i)

theorem total_fin (i : S2x4x4096.Idx) : ∃ v : ℝ, (val_main_v1 (F := Ideal) (A4 m c) i : EReal) = (v : EReal) := by
  unfold val_main_v1
  refine Cert.FoxRefIdeal.At.window_real _ _ _ _ (fun i => ?_) (fun i => ?_) i
  · rw [val_main_call0_call0_v0_apply]
    exact zero_f32
  · rw [val_main_v0_apply]
    exact fin4 h _

theorem in_D (i : S2x4096x256.Idx) : ((A0 m c) i : EReal) = (((input m c).D (i 0).val (i 1).val (i 2).val : ℝ) : EReal) := reals_eq (fin0 h) i
theorem in_Q (i : S2x4096x256.Idx) : ((A1 m c) i : EReal) = (((input m c).Q (i 0).val (i 1).val (i 2).val : ℝ) : EReal) := reals_eq (fin1 h) i
theorem in_K (i : S2x4096x256.Idx) : ((A2 m c) i : EReal) = (((input m c).K (i 0).val (i 1).val (i 2).val : ℝ) : EReal) := reals_eq (fin2 h) i
theorem in_V (a : Fin 2) (b : Fin 4096) (d : Fin 256) : ((A3 m c) (ix3 a b (⟨2304 + d.val, by omega⟩ : Fin 2564)) : EReal)
    = (((input m c).V a.val b.val d.val : ℝ) : EReal) := reals_eq (fin3 h) _
theorem in_F (i : S2x4x4096.Idx) : (val_main_v1 (F := Ideal) (A4 m c) i : EReal) = (((input m c).F (i 0).val (i 1).val (i 2).val : ℝ) : EReal) :=
  reals_eq (A := 2) (B := 4) (C := 4096) (total_fin h) i
theorem in_V' (i : S2x4096x256.Idx) : (val_main_v2 (F := Ideal) (A3 m c) i : EReal) = (((input m c).V (i 0).val (i 1).val (i 2).val : ℝ) : EReal) := by
  obtain ⟨a, b, d, rfl⟩ : ∃ (a : Fin 2) (b : Fin 4096) (d : Fin 256), i = ix3 a b d := ⟨i 0, i 1, i 2, eq_ix3 i⟩
  rw [val_main_v2_apply]
  refine Eq.trans ?_ (in_V h a b d)
  exact congrArg (A3 m c) (funext fun x => by fin_cases x <;> rfl)

omit h

variable (m) (c)

omit hPre in
theorem host_q : (V5 m ρ c main_v9 : FVec Ideal S2x4096x256 .bf16) = (truncf (F := Ideal) .bf16 (A1 m c) bitsLt_bf16_f32 : FVec Ideal S2x4096x256 .bf16) := by
  show StableHlo.after hostOps0_4 (StableHlo.after hostOps0_3 (StableHlo.after hostOps0_2 (StableHlo.after hostOps0_1 (StableHlo.after hostOps0 (W0 m ρ c))))) main_v9 = _
  simp only [hostOps0, hostOps0_1, hostOps0_2, hostOps0_3, hostOps0_4]
  after_results

omit hPre in
theorem host_k : (V5 m ρ c main_v10 : FVec Ideal S2x4096x256 .bf16) = (truncf (F := Ideal) .bf16 (A2 m c) bitsLt_bf16_f32 : FVec Ideal S2x4096x256 .bf16) := by
  show StableHlo.after hostOps0_4 (StableHlo.after hostOps0_3 (StableHlo.after hostOps0_2 (StableHlo.after hostOps0_1 (StableHlo.after hostOps0 (W0 m ρ c))))) main_v10 = _
  simp only [hostOps0, hostOps0_1, hostOps0_2, hostOps0_3, hostOps0_4]
  after_results

omit hPre in
theorem host_p : (V5 m ρ c main_v1 : FVec Ideal S2x4096x2688 .bf16) = (truncf (F := Ideal) .bf16 ((pad S2x4096x2688 ![0, 0, 0] ![0, 0, 124] ![0, 0, 0]
      (A3 m c) (sitofp (F := Ideal) .f32 (constantI S_ 32 0#32)) pads_S2x4096x2564_S2x4096x2688_000_000_01240 h_S_ : FVec Ideal S2x4096x2688 .f32)) bitsLt_bf16_f32 : FVec Ideal S2x4096x2688 .bf16) := by
  show StableHlo.after hostOps0_4 (StableHlo.after hostOps0_3 (StableHlo.after hostOps0_2 (StableHlo.after hostOps0_1 (StableHlo.after hostOps0 (W0 m ρ c))))) main_v1 = _
  simp only [hostOps0, hostOps0_1, hostOps0_2, hostOps0_3, hostOps0_4]
  after_results
  rfl

omit hPre in
theorem host_c : (V5 m ρ c main_v7 : FVec Ideal S2x2x4096x2 .f32) = transpose S2x2x4096x2 [0, 2, 1, 3] (pairs (val_main_v1 (F := Ideal) (A4 m c))) transposes_S2x4096x2x2_S2x2x4096x2_0_2_1_3 := by
  show StableHlo.after hostOps0_4 (StableHlo.after hostOps0_3 (StableHlo.after hostOps0_2 (StableHlo.after hostOps0_1 (StableHlo.after hostOps0 (W0 m ρ c))))) main_v7 = _
  simp only [hostOps0, hostOps0_1, hostOps0_2, hostOps0_3, hostOps0_4]
  after_results
  rfl

omit hPre in
theorem host_r : (V5 m ρ c main_v8 : FVec Ideal S2x2x2x4096 .f32) = transpose S2x2x2x4096 [0, 2, 3, 1] (pairs (val_main_v1 (F := Ideal) (A4 m c))) transposes_S2x4096x2x2_S2x2x2x4096_0_2_3_1 := by
  show StableHlo.after hostOps0_4 (StableHlo.after hostOps0_3 (StableHlo.after hostOps0_2 (StableHlo.after hostOps0_1 (StableHlo.after hostOps0 (W0 m ρ c))))) main_v8 = _
  simp only [hostOps0, hostOps0_1, hostOps0_2, hostOps0_3, hostOps0_4]
  after_results
  rfl

variable {m} {c}

include h

/-- What the forward call finds in its arrays. -/
theorem given : Given (input m c) (V5 m ρ c main_v9) (V5 m ρ c main_v10) (V5 m ρ c main_v1) (V5 m ρ c main_v7) (V5 m ρ c main_v8) where
  q a b d := (congrFun (host_q m ρ c) (ix3 a b d)).trans (in_Q h (ix3 a b d))
  k a b d := (congrFun (host_k m ρ c) (ix3 a b d)).trans (in_K h (ix3 a b d))
  v a b d := by
    refine (congrFun (host_p m ρ c) _).trans (Eq.trans ?_ (in_V h a b d))
    show pad S2x4096x2688 ![0, 0, 0] ![0, 0, 124] ![0, 0, 0] (A3 m c) (sitofp (F := Ideal) .f32 (constantI S_ 32 0#32)) pads_S2x4096x2564_S2x4096x2688_000_000_01240 h_S_ _ = _
    exact pad_apply_of_inside _ _ _ _ _ _ _ _ (ix3 a b (⟨2304 + d.val, by omega⟩ : Fin 2564)) (fun e => by fin_cases e <;> simp [ix3])
  fc a p b e := (congrFun (host_c m ρ c) (ix4 a p b e)).trans ((cols_at _ a p b e).trans (in_F h _))
  fr a p e b := (congrFun (host_r m ρ c) (ix4 a p e b)).trans ((rows_at _ a p e b).trans (in_F h _))

omit h hPre in
theorem keep_main_v9 : V7 m ρ c main_v9 = V5 m ρ c main_v9 := (W7_of m ρ c main_v9 (by decide)).trans (W6_of m ρ c main_v9 (by decide))
omit h hPre in
theorem keep_main_v10 : V7 m ρ c main_v10 = V5 m ρ c main_v10 := (W7_of m ρ c main_v10 (by decide)).trans (W6_of m ρ c main_v10 (by decide))
omit h hPre in
theorem keep_main_v1 : V7 m ρ c main_v1 = V5 m ρ c main_v1 := (W7_of m ρ c main_v1 (by decide)).trans (W6_of m ρ c main_v1 (by decide))
omit h hPre in
theorem keep_main_v7 : V7 m ρ c main_v7 = V5 m ρ c main_v7 := (W7_of m ρ c main_v7 (by decide)).trans (W6_of m ρ c main_v7 (by decide))
omit h hPre in
theorem keep_main_v8 : V7 m ρ c main_v8 = V5 m ρ c main_v8 := (W7_of m ρ c main_v8 (by decide)).trans (W6_of m ρ c main_v8 (by decide))

/-- The backward call finds the same. -/
theorem given7 : Given (input m c) (V7 m ρ c main_v9) (V7 m ρ c main_v10) (V7 m ρ c main_v1) (V7 m ρ c main_v7) (V7 m ρ c main_v8) := by
  rw [keep_main_v9, keep_main_v10, keep_main_v1, keep_main_v7, keep_main_v8]
  exact given ρ h

omit h hPre in
theorem rows_pos (r : Fin 8192) (d : Fin 256) :
    (Shape.rowMajor S2x4096x256 (ix3 (⟨r.val / 4096, by omega⟩ : Fin 2) (⟨r.val % 4096, by omega⟩ : Fin 4096) d)).val = (Shape.rowMajor S8192x256 (ix2 r d)).val := by
  refine (Shape.rowMajor_val_three _).trans (Eq.trans ?_ (Shape.rowMajor_val_two _).symm)
  show (r.val / 4096 * 4096 + r.val % 4096) * 256 + d.val = r.val * 256 + d.val
  omega

/-- And the cotangent's rows, and the forward call's own results. -/
theorem more : More (input m c) (V7 m ρ c main_v12) (V7 m ρ c main_v11_0) (V7 m ρ c main_v11_1) where
  g r d := by
    have e : (V7 m ρ c main_v12 : FVec Ideal S8192x256 .f32) = shapeCast S8192x256 (m (c.tc.loc main_arg0) : FVec Ideal S2x4096x256 .f32) shapeCasts_S2x4096x256_S8192x256 := by
      rw [← W6_args m ρ c main_arg0 (by decide)]
      show StableHlo.after hostOps1 (W6 m ρ c) main_v12 = _
      simp only [hostOps1]
      after_results
      rfl
    rw [e]
    refine Eq.trans ?_ (in_D h (ix3 (⟨r.val / 4096, by omega⟩ : Fin 2) (⟨r.val % 4096, by omega⟩ : Fin 4096) d))
    exact shapeCast_apply (s := S2x4096x256) (t := S8192x256) _ _ _ _ (rows_pos r d)
  o r d := by
    have e : (V7 m ρ c main_v11_0 : FVec Ideal S8192x256 .f32) = ((dat0 (V5 m ρ) c).arrAt 5 cfg0.N : FVec Ideal S8192x256 .f32) :=
      (W7_of m ρ c main_v11_0 (by decide)).trans (W6_arr m ρ c 5)
    rw [e]
    exact arr_y c (V5 m ρ) (given ρ h) r d
  l p r d := by
    have e : (V7 m ρ c main_v11_1 : FVec Ideal S2x8192x128 .f32) = ((dat0 (V5 m ρ) c).arrAt 6 cfg0.N : FVec Ideal S2x8192x128 .f32) :=
      (W7_of m ρ c main_v11_1 (by decide)).trans (W6_arr m ρ c 6)
    rw [e]
    exact arr_l c (V5 m ρ) (given ρ h) p r d

theorem end_y : (W11 m ρ c main_v11_0 : FVec Ideal S8192x256 .f32) = val_main_v92 (F := Ideal) (A1 m c) (A2 m c) (A3 m c) (A4 m c) := by
  have e : (W11 m ρ c main_v11_0 : FVec Ideal S8192x256 .f32) = ((dat0 (V5 m ρ) c).arrAt 5 cfg0.N : FVec Ideal S8192x256 .f32) :=
    ((W11_of m ρ c main_v11_0 (by decide)).trans ((W10_of m ρ c main_v11_0 (by decide)).trans ((W9_of m ρ c main_v11_0 (by decide)).trans ((W8_of m ρ c main_v11_0 (by decide)).trans (W7_of m ρ c main_v11_0 (by decide)))))).trans (W6_arr m ρ c 5)
  rw [e]
  funext i
  refine Eq.trans ?_ (Cert.FoxRefIdeal.At.y_at (A := input m c) (in_Q h) (in_K h) (in_V' h) (in_F h) i).symm
  obtain ⟨r, d, rfl⟩ : ∃ (r : Fin 8192) (d : Fin 256), i = ix2 r d := ⟨i 0, i 1, eq_ix2 i⟩
  exact arr_y c (V5 m ρ) (given ρ h) r d

theorem end_dq : (W11 m ρ c main_v13_0 : FVec Ideal S8192x256 .f32) = val_main_v93 (F := Ideal) (A0 m c) (A1 m c) (A2 m c) (A3 m c) (A4 m c) := by
  have e : (W11 m ρ c main_v13_0 : FVec Ideal S8192x256 .f32) = ((dat1 (V7 m ρ) c).arrAt 8 cfg1.N : FVec Ideal S8192x256 .f32) :=
    ((W11_of m ρ c main_v13_0 (by decide)).trans ((W10_of m ρ c main_v13_0 (by decide)).trans (W9_of m ρ c main_v13_0 (by decide)))).trans (W8_arr m ρ c 8)
  rw [e]
  funext i
  refine Eq.trans ?_ (Cert.FoxRefIdeal.At.dq_at (A := input m c) (in_D h) (in_Q h) (in_K h) (in_V' h) (in_F h) i).symm
  obtain ⟨r, d, rfl⟩ : ∃ (r : Fin 8192) (d : Fin 256), i = ix2 r d := ⟨i 0, i 1, eq_ix2 i⟩
  exact arr_dq c (V7 m ρ) (given7 ρ h) (more ρ h) r d

theorem end_dk : (W11 m ρ c main_v13_1 : FVec Ideal S2x4096x256 .f32) = val_main_v89 (F := Ideal) (A0 m c) (A1 m c) (A2 m c) (A3 m c) (A4 m c) := by
  have e : (W11 m ρ c main_v13_1 : FVec Ideal S2x4096x256 .f32) = ((dat1 (V7 m ρ) c).arrAt 9 cfg1.N : FVec Ideal S2x4096x256 .f32) :=
    ((W11_of m ρ c main_v13_1 (by decide)).trans ((W10_of m ρ c main_v13_1 (by decide)).trans (W9_of m ρ c main_v13_1 (by decide)))).trans (W8_arr m ρ c 9)
  rw [e]
  funext i
  refine Eq.trans ?_ (Cert.FoxRefIdeal.At.dk_at (A := input m c) (in_D h) (in_Q h) (in_K h) (in_V' h) (in_F h) i).symm
  obtain ⟨b, r, d, rfl⟩ : ∃ (b : Fin 2) (r : Fin 4096) (d : Fin 256), i = ix3 b r d := ⟨i 0, i 1, i 2, eq_ix3 i⟩
  exact arr_dk c (V7 m ρ) (given7 ρ h) (more ρ h) b r d

theorem end_dv : (W11 m ρ c main_v13_2 : FVec Ideal S2x4096x256 .f32) = val_main_v87 (F := Ideal) (A0 m c) (A1 m c) (A2 m c) (A4 m c) := by
  have e : (W11 m ρ c main_v13_2 : FVec Ideal S2x4096x256 .f32) = ((dat1 (V7 m ρ) c).arrAt 10 cfg1.N : FVec Ideal S2x4096x256 .f32) :=
    ((W11_of m ρ c main_v13_2 (by decide)).trans ((W10_of m ρ c main_v13_2 (by decide)).trans (W9_of m ρ c main_v13_2 (by decide)))).trans (W8_arr m ρ c 10)
  rw [e]
  funext i
  refine Eq.trans ?_ (Cert.FoxRefIdeal.At.dv_at (A := input m c) (in_D h) (in_Q h) (in_K h) (in_F h) i).symm
  obtain ⟨b, r, d, rfl⟩ : ∃ (b : Fin 2) (r : Fin 4096) (d : Fin 256), i = ix3 b r d := ⟨i 0, i 1, i 2, eq_ix3 i⟩
  exact arr_dv c (V7 m ρ) (given7 ρ h) (more ρ h) b r d

omit h hPre in
/-- The gate's column out of the backward call's two arrays. -/
theorem gate_column : (W11 m ρ c main_v22 : FVec Ideal S8192x4 .f32) = gates ((dat1 (V7 m ρ) c).arrAt 11 cfg1.N : FVec Ideal S2x2x8x4096 .f32) ((dat1 (V7 m ρ) c).arrAt 12 cfg1.N : FVec Ideal S2x8192x128 .f32)
    (sitofp (F := Ideal) .f32 (constantI S_ 32 0#32)) := by
  rw [show ((dat1 (V7 m ρ) c).arrAt 11 cfg1.N : FVec Ideal S2x2x8x4096 .f32) = W8 m ρ c main_v13_3 from (W8_arr m ρ c 11).symm,
    show ((dat1 (V7 m ρ) c).arrAt 12 cfg1.N : FVec Ideal S2x8192x128 .f32) = W8 m ρ c main_v13_4 from (W8_arr m ρ c 12).symm]
  show StableHlo.after hostOps2_2 (StableHlo.after hostOps2_1 (StableHlo.after hostOps2 (W8 m ρ c))) main_v22 = _
  simp only [hostOps2, hostOps2_1, hostOps2_2]
  after_results
  rfl

theorem end_df : (W11 m ρ c main_v22 : FVec Ideal S8192x4 .f32) = val_main_v95 (F := Ideal) (A0 m c) (A1 m c) (A2 m c) (A3 m c) (A4 m c) := by
  rw [gate_column]
  funext i
  refine Eq.trans ?_ (Cert.FoxRefIdeal.At.df_at (A := input m c) (in_D h) (in_Q h) (in_K h) (in_V' h) (in_F h) i).symm
  obtain ⟨r, k, rfl⟩ : ∃ (r : Fin 8192) (k : Fin 4), i = ix2 r k := ⟨i 0, i 1, eq_ix2 i⟩
  have hk := k.isLt
  refine (gates_at _ _ _ r k).trans ?_
  refine (congrArg₂ (fun a b : EReal => a + b) (arr_dfr c (V7 m ρ) (given7 ρ h) (more ρ h) _ _ _ (by show k.val % 2 < 2; omega) _)
    (arr_dfc c (V7 m ρ) (given7 ρ h) (more ρ h) _ r _ (by show k.val % 2 < 2; omega))).trans ?_
  show ((CS (input m c) (r.val / 4096) (2 * (k.val / 2) + k.val % 2) (r.val % 4096) : ℝ) : EReal) + ((RS (input m c) (r.val / 4096) (2 * (k.val / 2) + k.val % 2) (r.val % 4096) : ℝ) : EReal)
    = ((df (input m c) (r.val / 4096) k.val (r.val % 4096) : ℝ) : EReal)
  rw [← EReal.coe_add, show 2 * (k.val / 2) + k.val % 2 = k.val by omega, CS, RS, df, neg_add_eq_sub]

omit h

/-- The pair of calls ends with the reference's five terms in its results, and its arguments as they were. -/
theorem run (h : ∀ c : Dev nD, Finite m c) :
    θ_run (defs (F := Ideal)) (onTc (τ := τ) (main (F := Ideal))) ⟨m, fun _ => 0, ρ⟩ (fun r => ∀ c : Dev nD,
      r.2.mem (c.tc.loc main_v11_0) = val_main_v92 (F := Ideal) (A1 m c) (A2 m c) (A3 m c) (A4 m c)
      ∧ r.2.mem (c.tc.loc main_v13_0) = val_main_v93 (F := Ideal) (A0 m c) (A1 m c) (A2 m c) (A3 m c) (A4 m c)
      ∧ r.2.mem (c.tc.loc main_v13_1) = val_main_v89 (F := Ideal) (A0 m c) (A1 m c) (A2 m c) (A3 m c) (A4 m c)
      ∧ r.2.mem (c.tc.loc main_v13_2) = val_main_v87 (F := Ideal) (A0 m c) (A1 m c) (A2 m c) (A4 m c)
      ∧ r.2.mem (c.tc.loc main_v22) = val_main_v95 (F := Ideal) (A0 m c) (A1 m c) (A2 m c) (A3 m c) (A4 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run (defs (F := Ideal)) _ _).mono (fun r k c =>
    ⟨(k c _ (mem_uc main_v11_0 (by decide))).trans (end_y ρ (h c)),
     (k c _ (mem_uc main_v13_0 (by decide))).trans (end_dq ρ (h c)),
     (k c _ (mem_uc main_v13_1 (by decide))).trans (end_dk ρ (h c)),
     (k c _ (mem_uc main_v13_2 (by decide))).trans (end_dv ρ (h c)),
     (k c _ (mem_uc main_v22 (by decide))).trans (end_df ρ (h c)),
     (k c _ (mem_uc main_arg0 (by decide))).trans (W11_main_arg0 m ρ c),
     (k c _ (mem_uc main_arg1 (by decide))).trans (W11_main_arg1 m ρ c),
     (k c _ (mem_uc main_arg2 (by decide))).trans (W11_main_arg2 m ρ c),
     (k c _ (mem_uc main_arg3 (by decide))).trans (W11_main_arg3 m ρ c),
     (k c _ (mem_uc main_arg4 (by decide))).trans (W11_main_arg4 m ρ c)⟩) (ends m ρ)

end Cert.FoxIdeal.Val

end
-- ==== Proof.Head.lean ====
module

public import proofs.«01_k».proof.Proof.Gen.HeadIdeal.Frame
public import proofs.«01_k».proof.Proof.Gen.HeadRefIdeal.Read
public import proofs.«01_k».proof.Proof.Gen.HeadRefIdeal.Run
public import proofs.«01_k».proof.Proof.Kit

@[expose] public section

set_option maxRecDepth 16384

noncomputable section

open Idealize.ShloMosaic Idealize.ShloMosaic.TcCoe Idealize.SL.Sem
open Idealize.ShloMosaic.Pipeline (Dat)

namespace Cert.HeadIdeal.Val

open Cert.HeadIdeal Cert.HeadIdeal.Gen
open Cert.HeadRefIdeal.Read

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0, 0] :=
  (by decide +kernel : ∀ t : Fin grid0.N, _)

/-- The squared error of token `n`, averaged over the features. -/
def err (X Y : FVec Ideal S8192x1024 .f32) (n : Fin 8192) : EReal :=
  Ideal.div (∑ d : Fin 1024, (X (ix2 n d) - Y (ix2 n d)) * (X (ix2 n d) - Y (ix2 n d))) (Ideal.ofBits .f32 1149239296#32)

theorem lit_1024 : Ideal.ofBits .f32 1149239296#32 = ((1024 : ℝ) : EReal) := by
  simp [Ideal.ofBits, Ideal.ieee, -EReal.coe_mul]; norm_num

theorem point2 (c : Dev nD) (t : Fin cfg0.N) (y) : k0_pay2 (iblk m c 0 t) (iblk m c 1 t) y
    = val_main_v14 (F := Ideal) (m (c.tc.loc main_arg0)) (m (c.tc.loc main_arg1))
      (((cfg0.win 2).blk t).view.emb y) := by
  unfold val_main_v14 val_main_v13 val_main_v12 val_main_v11 val_main_v10 val_main_v9 val_main_v3 val_main_v2 val_main_v0 val_main_cst val_main_cst_4 val_main_cst_5 val_main_cst_6
  pointwise [k0_pay2, k0_pay1]
  have hx : ∀ e : EReal, e * Ideal.ofBits FTy.f32 981467136#32 =
      Ideal.div (Ideal.ofBits FTy.f32 1056964608#32) (Ideal.ofBits FTy.f32 1149239296#32) * (Ideal.ofBits FTy.f32 1073741824#32 * e) := by
    intro e
    rw [lit_1024, Kit.half_f32, Ideal.div_coe (by norm_num), ← mul_assoc, mul_comm e]
    refine congrArg (· * e) ?_
    simp [Ideal.ofBits, Ideal.ieee, -EReal.coe_mul]
    norm_cast
    norm_num
  rw [← hx]
  refine congrArg (· * _) ?_
  reads_congr
  · blk_ext! [iblk, V, idx t]
  · blk_ext! [iblk, V, idx t]

theorem point3 (c : Dev nD) (t : Fin cfg0.N) (n : Fin 16) (hn : n.val = t.val) (y) : k0_pay3 (iblk m c 0 t) (iblk m c 1 t) y
    = Ideal.ofBits .f32 1056964608#32 * ∑ r : Fin 512, err (m (c.tc.loc main_arg0)) (m (c.tc.loc main_arg1)) ⟨n.val * 512 + r.val, by omega⟩ := by
  unfold err
  pointwise [k0_pay3, k0_pay1]
  blk_point [iblk, V, idx t]

theorem ref8 (X Y : FVec Ideal S8192x1024 .f32) (i) : val_main_v8 (F := Ideal) X Y i
    = Ideal.ofBits .f32 1056964608#32 * ∑ n : Fin 8192, err X Y n := by
  unfold val_main_v8 val_main_v7 val_main_v6 val_main_v5 val_main_v4 val_main_v1 val_main_v0 val_main_cst_0 val_main_cst_1 val_main_cst_2 val_main_cst_3
  pointwise
  rfl

/-- The host lines after the grid: one entry of every tile's block, summed. -/
def tailTerm (X : FVec Ideal S16x8x128 .f32) : FVec Ideal S_ .f32 :=
  Host.reduceAdd (shapeCast S16 (extractStridedSlice S16x1x1 ![0, 0, 0] X slices_S16x8x128_S16x1x1_0_0_0)
    shapeCasts_S16x1x1_S16) (constant S_ FTy.f32 0#32) reducesTo_S16_S_d0 h_S_

theorem tail3 (c : Dev nD) : Pipeline.afterTail₀ cfgs (dats m) 0 (V0 m) [hostOps1] c main_v3 = tailTerm ((dats m 0 c).arrAt 3 (cfgs 0).N) := by
  unfold Pipeline.afterTail₀
  simp only [hostOps1, List.flatten_cons, List.flatten_nil, List.append_nil]
  after_results
  exact congrArg tailTerm (Pipeline.withArrays_arr spec0 (by decide) c (V0 m c) (fun w => (dats m 0 c).arrAt w (cfgs 0).N) 3)

theorem tail_at (X : FVec Ideal S16x8x128 .f32) (i) : tailTerm X i = ∑ n : Fin 16, X (ix3 n 0 0) := by
  pointwise [tailTerm]

theorem final2 (c : Dev nD) : (dats m 0 c).arrAt 2 (cfgs 0).N
    = val_main_v14 (F := Ideal) (m (c.tc.loc main_arg0)) (m (c.tc.loc main_arg1)) := by
  refine (dats m 0 c).arrAt_eq_of_covers 2 _ (by decide +kernel) fun t _ y => ?_
  blk_simp
  rw [after0_2]; frame_out
  exact point2 m c t y

theorem arr3 (c : Dev nD) (n : Fin 16) : ((dats m 0 c).arrAt 3 (cfgs 0).N : FVec Ideal S16x8x128 .f32) (ix3 n 0 0)
    = Ideal.ofBits .f32 1056964608#32 * ∑ r : Fin 512, err (m (c.tc.loc main_arg0)) (m (c.tc.loc main_arg1)) ⟨n.val * 512 + r.val, by omega⟩ := by
  refine ((dats m 0 c).arrAt_forall_of_covers 3 (fun (i : S16x8x128.Idx) (v : EReal) => ∀ (n : Fin 16), (i 0).val = n.val →
    v = Ideal.ofBits .f32 1056964608#32 * ∑ r : Fin 512, err (m (c.tc.loc main_arg0)) (m (c.tc.loc main_arg1)) ⟨n.val * 512 + r.val, by omega⟩)
    (by decide +kernel) (fun t hf y => ?_) (ix3 n 0 0)) n rfl
  blk_simp [idx t]
  rw [after0_3]; frame_out
  intro n' hn
  exact point3 m c t n' (by rw [← hn]) y

theorem tail_eq (X Y : FVec Ideal S8192x1024 .f32) (A : FVec Ideal S16x8x128 .f32)
    (ha : ∀ n : Fin 16, A (ix3 n 0 0) = Ideal.ofBits .f32 1056964608#32 * ∑ r : Fin 512, err X Y ⟨n.val * 512 + r.val, by omega⟩) :
    tailTerm A = val_main_v8 (F := Ideal) X Y := by
  funext i
  rw [tail_at, ref8, Finset.sum_congr rfl fun n _ => ha n, Kit.half_f32, Kit.coe_mul_sum _ _ (by norm_num)]
  rw [Finset.sum_congr rfl fun n _ => Kit.coe_mul_sum _ _ (by norm_num) _]
  exact Fin.sum_mul_add_congr (S := 16) (n := 512) (L := 8192) (fun s k hl => rfl) (by norm_num)

theorem final3 (c : Dev nD) : Pipeline.afterTail₀ cfgs (dats m) 0 (V0 m) [hostOps1] c main_v3
    = val_main_v8 (F := Ideal) (m (c.tc.loc main_arg0)) (m (c.tc.loc main_arg1)) :=
  (tail3 m c).trans (tail_eq _ _ _ (arr3 m c))

/-- The kernel's run: both results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v3) = val_main_v8 (F := Ideal) (m (c.tc.loc main_arg0)) (m (c.tc.loc main_arg1))
      ∧ r.2.mem (c.tc.loc main_v0_0) = val_main_v14 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) := by
  refine (θ_run defs _ _).mono (fun r h c => ?_) (θ_run_and (run_main m g) (unchanged m g))
  exact ⟨((h.1 c).2 main_v3 (Pipeline.mem_restRefs_of main_v3 (by decide) (by decide))).trans (final3 m c), ((h.1 c).1 2).trans (final2 m c), h.2 c⟩

end Cert.HeadIdeal.Val

end
-- ==== Proof.Rms.lean ====
module

public import Idealize.ShloMosaic.Lib.Pipeline.ValueKit
public import proofs.«01_k».proof.Proof.Kit

@[expose] public section

noncomputable section

open Idealize.ShloMosaic

namespace Cert.Rms

theorem lit_256 : Ideal.ofBits .f32 1132462080#32 = ((256 : ℝ) : EReal) := by
  simp [Ideal.ofBits, Ideal.ieee, -EReal.coe_mul]; norm_num
theorem lit_512 : Ideal.ofBits .f32 1140850688#32 = ((512 : ℝ) : EReal) := by
  simp [Ideal.ofBits, Ideal.ieee, -EReal.coe_mul]; norm_num
theorem lit_1024 : Ideal.ofBits .f32 1149239296#32 = ((1024 : ℝ) : EReal) := by
  simp [Ideal.ofBits, Ideal.ieee, -EReal.coe_mul]; norm_num
theorem lit_eps : Ideal.ofBits .f32 897988541#32 = ((8796093 / 8796093022208 : ℝ) : EReal) := by
  simp [Ideal.ofBits, Ideal.ieee, -EReal.coe_mul]; norm_num
theorem lit_nhalf : Ideal.ofBits .f32 3204448256#32 = ((-(1 / 2) : ℝ) : EReal) := by
  simp [Ideal.ofBits, Ideal.ieee, -EReal.coe_mul]; norm_num

variable {n : ℕ}

/-- The mean of the squares of a row plus the small constant. -/
def ms (X : Fin n → EReal) (N e : ℝ) : EReal := Ideal.div (∑ k, X k * X k) (N : EReal) + (e : EReal)

/-- The reciprocal root of the mean of the squares. -/
def rs (X : Fin n → EReal) (N e : ℝ) : EReal := Ideal.rsqrt (ms X N e)

/-- An entry of the normed row, scaled and shifted. -/
def nrm (X : Fin n → EReal) (g s b : EReal) (j : Fin n) : EReal := X j * rs X 1024 (8796093 / 8796093022208) * g * ((1 : EReal) + s) + b

/-- The gradient of the root mean square norm: the cotangent less its part along the normed row. -/
def dx (X D : Fin n → EReal) (N e : ℝ) (j : Fin n) : EReal :=
  rs X N e * (D j - X j * rs X N e * Ideal.div (∑ k, D k * (X k * rs X N e)) (N : EReal))

/-- The factor by which the row enters its own gradient through the mean of its squares. -/
def fac (X D : Fin n → EReal) (N e : ℝ) : EReal :=
  Ideal.div ((∑ k, X k * D k) * (((-(1 / 2) : ℝ) : EReal) * Ideal.div (rs X N e) (ms X N e))) (N : EReal)

theorem mul_self_nonneg' (x : EReal) : 0 ≤ x * x := by
  induction x using EReal.rec with
  | bot => simp
  | coe r => rw [← EReal.coe_mul]; exact_mod_cast mul_self_nonneg r
  | top => simp

theorem ms_cases (X : Fin n → EReal) (N e : ℝ) (hN : 0 < N) (he : 0 < e) :
    ms X N e = ⊤ ∨ ∃ s : ℝ, 0 < s ∧ ms X N e = (s : EReal) := by
  have h0 : 0 ≤ ∑ k, X k * X k := Finset.sum_nonneg fun k _ => mul_self_nonneg' (X k)
  have hp : 0 < 1 / N := by positivity
  unfold ms
  rw [Ideal.div_coe hN.ne']
  generalize (∑ k, X k * X k) = A at h0 ⊢
  induction A using EReal.rec with
  | bot => simp at h0
  | coe r =>
    right
    have hr : 0 ≤ r := by exact_mod_cast h0
    exact ⟨r * (1 / N) + e, by positivity, by push_cast; first | done | rfl⟩
  | top =>
    left
    rw [EReal.top_mul_coe_of_pos hp, EReal.top_add_coe]

theorem two_same (w : EReal) : w + w = ((2 : ℝ) : EReal) * w := by
  have h : ((2 : ℝ) : EReal) = 1 + 1 := by norm_cast
  rw [h, EReal.right_distrib_of_nonneg (by norm_num) (by norm_num), one_mul]

/-- The two ways of writing the gradient agree, at every row and every cotangent. -/
theorem dx_eq (X D : Fin n → EReal) (N e : ℝ) (hN : 0 < N) (he : 0 < e) (j : Fin n) :
    dx X D N e j = D j * rs X N e + X j * fac X D N e + fac X D N e * X j := by
  unfold dx fac
  rcases ms_cases X N e hN he with h | ⟨s, hs, h⟩
  · have hr : rs X N e = 0 := by unfold rs; rw [h]; simp
    rw [hr, h]
    have : Ideal.div 0 ⊤ = 0 := by simp [Ideal.div]
    have h0 : Ideal.div 0 (N : EReal) = 0 := by rw [Ideal.div_coe hN.ne']; simp
    rw [this]; simp only [zero_mul, mul_zero, add_zero, h0]
  · have hr : rs X N e = (((√s)⁻¹ : ℝ) : EReal) := by unfold rs; rw [h, Ideal.rsqrt_coe]; simp [hs.not_gt, hs.ne']
    have hq : √s * √s = s := Real.mul_self_sqrt hs.le
    have hq0 : 0 < √s := Real.sqrt_pos.mpr hs
    rw [hr, h, Ideal.div_coe hN.ne', Ideal.div_coe hN.ne', Ideal.div_coe hs.ne']
    have hS : ∑ k, D k * (X k * (((√s)⁻¹ : ℝ) : EReal)) = (((√s)⁻¹ : ℝ) : EReal) * ∑ k, X k * D k := by
      rw [Kit.coe_mul_sum _ _ (by positivity)]
      exact Finset.sum_congr rfl fun k _ => by ac_rfl
    rw [hS]
    generalize (∑ k, X k * D k) = S
    have hc : S * (((-(1 / 2) : ℝ) : EReal) * ((((√s)⁻¹ : ℝ) : EReal) * ((1 / s : ℝ) : EReal))) * ((1 / N : ℝ) : EReal)
        = ((-(1 / 2) * ((√s)⁻¹ * (1 / s)) * (1 / N) : ℝ) : EReal) * S := by
      push_cast; ac_rfl
    rw [hc, mul_comm _ (X j), add_assoc, two_same, sub_eq_add_neg,
      EReal.left_distrib_of_nonneg_of_ne_top (by exact_mod_cast (by positivity : (0 : ℝ) ≤ (√s)⁻¹)) (EReal.coe_ne_top _), mul_comm (D j)]
    refine congrArg (fun e : EReal => (((√s)⁻¹ : ℝ) : EReal) * D j + e) ?_
    have h1 : ((2 : ℝ) : EReal) * (X j * (((-(1 / 2) * ((√s)⁻¹ * (1 / s)) * (1 / N) : ℝ) : EReal) * S))
        = ((2 * (-(1 / 2) * ((√s)⁻¹ * (1 / s)) * (1 / N)) : ℝ) : EReal) * (X j * S) := by
      rw [EReal.coe_mul 2]; ac_rfl
    have h2 : (((√s)⁻¹ : ℝ) : EReal) * -(X j * (((√s)⁻¹ : ℝ) : EReal) * ((((√s)⁻¹ : ℝ) : EReal) * S * ((1 / N : ℝ) : EReal)))
        = ((-((√s)⁻¹ * (√s)⁻¹ * (√s)⁻¹ * (1 / N)) : ℝ) : EReal) * (X j * S) := by
      rw [mul_neg, EReal.coe_neg, neg_mul]
      refine congrArg Neg.neg ?_
      push_cast; ac_rfl
    rw [h1, h2]
    refine congrArg (fun r : ℝ => (r : EReal) * (X j * S)) ?_
    have hi : 1 / s = (√s)⁻¹ * (√s)⁻¹ := by rw [← mul_inv, hq, one_div]
    rw [hi]; ring

section two
variable {n0 n1 n2 : ℕ} {t : Shape} (h : (⟨3, ![n0, n1, n2]⟩ : Shape).ReducesTo [0, 1] t)

include h in
theorem rank01 : t.rank = 1 := h.1
include h in
theorem lt01 : 0 < t.rank := by rw [rank01 h]; decide
theorem size01 : t.size ⟨0, lt01 h⟩ = n2 := h.2 ⟨0, lt01 h⟩

/-- The third coordinate an index of the sum stands for. -/
def third (j : t.Idx) : Fin n2 := ⟨(j ⟨0, lt01 h⟩).val, Shape.coordLt (j ⟨0, lt01 h⟩) (size01 h)⟩

theorem fiber01 (j : t.Idx) (i : (⟨3, ![n0, n1, n2]⟩ : Shape).Idx) : h.drop i = j ↔ ∃ k : Fin n0 × Fin n1, ix3 k.1 k.2 (third h j) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt01 h⟩)).symm
  · rintro ⟨k, rfl⟩
    funext b; apply Fin.ext
    match b with
    | ⟨0, _⟩ => rfl
    | ⟨_ + 1, hb⟩ => exact absurd hb (by have := rank01 h; omega)

/-- The host's sum over the first two of three axes, read at an index. -/
theorem sum01 (v : (⟨3, ![n0, n1, n2]⟩ : Shape).Idx → EReal) (init : EReal) (j : t.Idx) :
    Ideal.hostReduceAdd h v init j = init + ∑ a : Fin n0, ∑ b : Fin n1, v (ix3 a b (third h j)) := by
  refine congrArg (init + ·) ((Finset.sum_filter_eq_sum_of_fiber _ (fun k : Fin n0 × Fin n1 => ix3 k.1 k.2 (third h j))
    (fun _ _ e => Prod.ext (congrFun e 0) (congrFun e 1)) (fiber01 h j) v).trans ?_)
  simp only [Fintype.sum_prod_type]
end two

end Cert.Rms

end
-- ==== Proof.OutN.lean ====
module

public import proofs.«01_k».proof.Proof.Gen.OutNIdeal.Frame
public import proofs.«01_k».proof.Proof.Gen.OutNRefIdeal.Read
public import proofs.«01_k».proof.Proof.Gen.OutNRefIdeal.Run
public import proofs.«01_k».proof.Proof.Kit
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.OutNIdeal.Val

open Cert.OutNIdeal Cert.OutNIdeal.Gen
open Cert.OutNRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![t.val, 0] ∧ win0_8.index t = ![t.val, 0] ∧ win0_9.index t = ![t.val, 0, 0] :=
  (by decide +kernel : ∀ t : Fin grid0.N, _)

theorem V_v0 (c : Dev nD) : (V m c main_v0 : FVec Ideal S1024x1024 .bf16) = (m (c.tc.loc main_arg1) : FVec Ideal S1024x1024 .f32) := by
  show StableHlo.after (List.flatten [hostOps0]) _ _ = _
  simp only [hostOps0, List.flatten_cons, List.flatten_nil, List.append_nil]
  after_results
  rfl

theorem V_v1 (c : Dev nD) (j : Fin 1024) : (V m c main_v1 : FVec Ideal S1x1024 .f32) (ix2 0 j) = (m (c.tc.loc main_arg5) : FVec Ideal S1024 .f32) (ix1 j) := by
  have h : (V m c main_v1 : FVec Ideal S1x1024 .f32) = broadcastInDim S1x1024 ![1] bcast_S1024_S1x1024_1 (m (c.tc.loc main_arg5) : FVec Ideal S1024 .f32) := by
    show StableHlo.after (List.flatten [hostOps0]) _ _ = _
    simp only [hostOps0, List.flatten_cons, List.flatten_nil, List.append_nil]
    after_results
  rw [h]
  pointwise

/-- The cotangent of the joined output, one entry of the product with the transposed weight. -/
def pr (A : FVec Ideal S8192x1024 .bf16) (W : FVec Ideal S1024x1024 .f32) (n : Fin 8192) (j : Fin 1024) : EReal :=
  ∑ l : Fin 1024, A (ix2 n l) * W (ix2 j l)

/-- The small constant of the norm. -/
abbrev eps : ℝ := 8796093 / 8796093022208

theorem pay9_at (v0 : FVec Ideal S512x1024 .bf16) (v1 : FVec Ideal S1024x1024 .bf16) (v4 : FVec Ideal S1x1024 .f32) (v6 : FVec Ideal S512x512 .f32) (r j : Fin 512) :
    k0_pay9 (F := Ideal) v0 v1 v4 v6 (ix2 r j) = Rms.dx (fun k => v6 (ix2 r k)) (fun k : Fin 512 =>
      (∑ l : Fin 1024, v0 (ix2 r l) * v1 (ix2 (⟨0 + k.val, by omega⟩ : Fin 1024) l)) * v4 (ix2 0 (⟨0 + k.val, by omega⟩ : Fin 1024))) 512 eps j := by
  unfold Rms.dx Rms.rs Rms.ms
  rw [← Rms.lit_512, ← Rms.lit_eps]
  pointwise [k0_pay9, k0_pay7, k0_pay6, k0_pay5, k0_pay4, k0_pay3]

theorem ref96 (A : FVec Ideal S8192x1024 .bf16) (W : FVec Ideal S1024x1024 .f32) (X : FVec Ideal S8192x512 .f32) (G : FVec Ideal S1024 .f32) (n : Fin 8192) (j : Fin 512) :
    val_main_v96 (F := Ideal) A W X G (ix2 n j) = Rms.dx (fun k => X (ix2 n k)) (fun k : Fin 512 =>
      pr A W n ⟨0 + k.val, by omega⟩ * G (ix1 (⟨0 + k.val, by omega⟩ : Fin 1024))) 512 eps j := by
  rw [Rms.dx_eq _ _ _ _ (by norm_num) (by norm_num)]
  unfold Rms.fac Rms.rs Rms.ms pr
  rw [← Rms.lit_512, ← Rms.lit_eps, ← Rms.lit_nhalf]
  unfold val_main_v96 val_main_v95 val_main_v94 val_main_v93 val_main_v92 val_main_v91 val_main_cst_21 val_main_v90 val_main_v89 val_main_cst_20 val_main_v88 val_main_v87 val_main_v86 val_main_v85 val_main_v84 val_main_cst_19 val_main_v83 val_main_v52 val_main_v50 val_main_v49 val_main_v45 val_main_v44 val_main_v40 val_main_v10 val_main_v9 val_main_cst_2 val_main_v8 val_main_v7 val_main_v6 val_main_v5 val_main_cst_1 val_main_v4 val_main_v3 val_main_cst_0 val_main_v2 val_main_v1 val_main_cst val_main_v0
  pointwise
  simp only [Finset.univ_unique, Finset.sum_singleton]

theorem pay14_at (v0 : FVec Ideal S512x1024 .bf16) (v1 : FVec Ideal S1024x1024 .bf16) (v4 : FVec Ideal S1x1024 .f32) (v6 : FVec Ideal S512x256 .f32) (r : Fin 512) (j : Fin 256) :
    k0_pay14 (F := Ideal) (k0_pay4 v4) v6 (k0_pay10 v0 v1) (ix2 r j) = Rms.dx (fun k => v6 (ix2 r k)) (fun k : Fin 256 =>
      (∑ l : Fin 1024, v0 (ix2 r l) * v1 (ix2 (⟨512 + k.val, by omega⟩ : Fin 1024) l)) * v4 (ix2 0 (⟨512 + k.val, by omega⟩ : Fin 1024))) 256 eps j := by
  unfold Rms.dx Rms.rs Rms.ms
  rw [← Rms.lit_256, ← Rms.lit_eps]
  pointwise [k0_pay14, k0_pay4, k0_pay10, k0_pay12, k0_pay11, k0_pay3]

theorem ref82 (A : FVec Ideal S8192x1024 .bf16) (W : FVec Ideal S1024x1024 .f32) (X : FVec Ideal S8192x256 .f32) (G : FVec Ideal S1024 .f32) (n : Fin 8192) (j : Fin 256) :
    val_main_v82 (F := Ideal) A W X G (ix2 n j) = Rms.dx (fun k => X (ix2 n k)) (fun k : Fin 256 =>
      pr A W n ⟨512 + k.val, by omega⟩ * G (ix1 (⟨512 + k.val, by omega⟩ : Fin 1024))) 256 eps j := by
  rw [Rms.dx_eq _ _ _ _ (by norm_num) (by norm_num)]
  unfold Rms.fac Rms.rs Rms.ms pr
  rw [← Rms.lit_256, ← Rms.lit_eps, ← Rms.lit_nhalf]
  unfold val_main_v82 val_main_v81 val_main_v80 val_main_v79 val_main_v78 val_main_v77 val_main_cst_18 val_main_v76 val_main_v75 val_main_cst_17 val_main_v74 val_main_v73 val_main_v72 val_main_v71 val_main_v70 val_main_cst_16 val_main_v69 val_main_v53 val_main_v50 val_main_v49 val_main_v45 val_main_v44 val_main_v40 val_main_v23 val_main_v22 val_main_cst_6 val_main_v21 val_main_v20 val_main_v19 val_main_v18 val_main_cst_5 val_main_v17 val_main_v16 val_main_cst_4 val_main_v15 val_main_v14 val_main_cst_3 val_main_v13
  pointwise
  simp only [Finset.univ_unique, Finset.sum_singleton]

theorem pay1_at (v0 : FVec Ideal S512x1024 .bf16) (v1 : FVec Ideal S1024x1024 .bf16) (v4 : FVec Ideal S1x1024 .f32) (v6 : FVec Ideal S512x256 .f32) (r : Fin 512) (j : Fin 256) :
    k0_pay1 (F := Ideal) (k0_pay16 v6) (k0_pay17 v6) (k0_pay19 (k0_pay3 v0 v1) (k0_pay4 v4)) (ix2 r j) = Rms.dx (fun k => v6 (ix2 r k)) (fun k : Fin 256 =>
      (∑ l : Fin 1024, v0 (ix2 r l) * v1 (ix2 (⟨768 + k.val, by omega⟩ : Fin 1024) l)) * v4 (ix2 0 (⟨768 + k.val, by omega⟩ : Fin 1024))) 256 eps j := by
  unfold Rms.dx Rms.rs Rms.ms
  rw [← Rms.lit_256, ← Rms.lit_eps]
  pointwise [k0_pay1, k0_pay16, k0_pay17, k0_pay19, k0_pay15, k0_pay4, k0_pay3]

theorem ref68 (A : FVec Ideal S8192x1024 .bf16) (W : FVec Ideal S1024x1024 .f32) (X : FVec Ideal S8192x256 .f32) (G : FVec Ideal S1024 .f32) (n : Fin 8192) (j : Fin 256) :
    val_main_v68 (F := Ideal) A W X G (ix2 n j) = Rms.dx (fun k => X (ix2 n k)) (fun k : Fin 256 =>
      pr A W n ⟨768 + k.val, by omega⟩ * G (ix1 (⟨768 + k.val, by omega⟩ : Fin 1024))) 256 eps j := by
  rw [Rms.dx_eq _ _ _ _ (by norm_num) (by norm_num)]
  unfold Rms.fac Rms.rs Rms.ms pr
  rw [← Rms.lit_256, ← Rms.lit_eps, ← Rms.lit_nhalf]
  unfold val_main_v68 val_main_v67 val_main_v66 val_main_v65 val_main_v64 val_main_v63 val_main_cst_15 val_main_v62 val_main_v61 val_main_cst_14 val_main_v60 val_main_v59 val_main_v58 val_main_v57 val_main_v56 val_main_cst_13 val_main_v55 val_main_v54 val_main_v50 val_main_v49 val_main_v45 val_main_v44 val_main_v40 val_main_v36 val_main_v35 val_main_cst_10 val_main_v34 val_main_v33 val_main_v32 val_main_v31 val_main_cst_9 val_main_v30 val_main_v29 val_main_cst_8 val_main_v28 val_main_v27 val_main_cst_7 val_main_v26
  pointwise
  simp only [Finset.univ_unique, Finset.sum_singleton]

/-- The three groups of a token's row, each normed by its own root mean square, side by side. -/
def hat (x2 : Fin 512 → EReal) (x3 x4 : Fin 256 → EReal) (j : Fin 1024) : EReal :=
  if h : j.val < 512 then x2 ⟨j.val, h⟩ * Rms.rs x2 512 eps
  else if h' : j.val - 512 < 256 then x3 ⟨j.val - 512, h'⟩ * Rms.rs x3 256 eps
  else x4 ⟨j.val - 512 - 256, by omega⟩ * Rms.rs x4 256 eps

theorem pay2_at (v0 : FVec Ideal S512x1024 .bf16) (v1 : FVec Ideal S1024x1024 .bf16) (v6 : FVec Ideal S512x512 .f32) (v35 v64 : FVec Ideal S512x256 .f32) (j : Fin 1024) :
    k0_pay2 (F := Ideal) (k0_pay8 v0 v1 v6) (k0_pay13 v35 (k0_pay10 v0 v1)) (k0_pay18 (k0_pay3 v0 v1) v64) (ix3 0 0 j)
      = ∑ r : Fin 512, hat (fun k => v6 (ix2 r k)) (fun k => v35 (ix2 r k)) (fun k => v64 (ix2 r k)) j * ∑ l : Fin 1024, v0 (ix2 r l) * v1 (ix2 j l) := by
  unfold hat Rms.rs Rms.ms
  rw [← Rms.lit_256, ← Rms.lit_512, ← Rms.lit_eps]
  pointwise [k0_pay2, k0_pay8, k0_pay13, k0_pay18, k0_pay7, k0_pay6, k0_pay5, k0_pay10, k0_pay12, k0_pay11, k0_pay16, k0_pay17, k0_pay15, k0_pay3]
  by_cases h : j.val < 512
  · simp only [h, dite_true]
    exact Finset.sum_congr rfl fun r _ => mul_comm _ _
  · by_cases h' : j.val - 512 < 256
    · have e : (⟨512 + (j.val - 512), by omega⟩ : Fin 1024) = j := Fin.ext (by dsimp only; omega)
      simp only [h, h', dite_true, dite_false, e]
      exact Finset.sum_congr rfl fun r _ => mul_comm _ _
    · have e : (⟨768 + (j.val - 512 - 256), by omega⟩ : Fin 1024) = j := Fin.ext (by dsimp only; omega)
      simp only [h, h', dite_false, e]
      exact Finset.sum_congr rfl fun r _ => mul_comm _ _

/-- One token's part of the scale's gradient. -/
def part (A : FVec Ideal S8192x1024 .bf16) (W : FVec Ideal S1024x1024 .f32) (X2 : FVec Ideal S8192x512 .f32) (X3 X4 : FVec Ideal S8192x256 .f32) (j : Fin 1024) (n : Fin 8192) : EReal :=
  hat (fun k => X2 (ix2 n k)) (fun k => X3 (ix2 n k)) (fun k => X4 (ix2 n k)) j * pr A W n j

theorem ref51 (A : FVec Ideal S8192x1024 .bf16) (W : FVec Ideal S1024x1024 .f32) (X2 : FVec Ideal S8192x512 .f32) (X3 X4 : FVec Ideal S8192x256 .f32) (j : Fin 1024) :
    val_main_v51 (F := Ideal) A W X2 X3 X4 (ix1 j) = ∑ n : Fin 8192, part A W X2 X3 X4 j n := by
  unfold part hat pr Rms.rs Rms.ms
  rw [← Rms.lit_256, ← Rms.lit_512, ← Rms.lit_eps]
  unfold val_main_v51 val_main_cst_12 val_main_v48 val_main_v47 val_main_cst_11 val_main_v46 val_main_v45 val_main_v44 val_main_v39 val_main_v38 val_main_v37 val_main_v33 val_main_v32 val_main_v31 val_main_cst_9 val_main_v30 val_main_v29 val_main_cst_8 val_main_v28 val_main_v27 val_main_cst_7 val_main_v26 val_main_v25 val_main_v24 val_main_v20 val_main_v19 val_main_v18 val_main_cst_5 val_main_v17 val_main_v16 val_main_cst_4 val_main_v15 val_main_v14 val_main_cst_3 val_main_v13 val_main_v12 val_main_v11 val_main_v7 val_main_v6 val_main_v5 val_main_cst_1 val_main_v4 val_main_v3 val_main_cst_0 val_main_v2 val_main_v1 val_main_cst val_main_v0
  pointwise
  simp only [Finset.univ_unique, Finset.sum_singleton]

/-- The arguments as the kernel finds them. -/
abbrev A (c : Dev nD) : FVec Ideal S8192x1024 .bf16 := m (c.tc.loc main_arg0)
abbrev W (c : Dev nD) : FVec Ideal S1024x1024 .f32 := m (c.tc.loc main_arg1)
abbrev X2 (c : Dev nD) : FVec Ideal S8192x512 .f32 := m (c.tc.loc main_arg2)
abbrev X3 (c : Dev nD) : FVec Ideal S8192x256 .f32 := m (c.tc.loc main_arg3)
abbrev X4 (c : Dev nD) : FVec Ideal S8192x256 .f32 := m (c.tc.loc main_arg4)
abbrev G (c : Dev nD) : FVec Ideal S1024 .f32 := m (c.tc.loc main_arg5)

section blocks
variable (c : Dev nD) (t : Fin cfg0.N) (n : Fin 8192) (r : Fin 512) (hn : n.val = t.val * 512 + r.val)

include hn in
theorem blk0 (l : Fin 1024) : (iblk m c 0 t : FVec Ideal S512x1024 .bf16) (ix2 r l) = A m c (ix2 n l) := by
  blk_point [iblk, V, idx t]
include hn in
theorem blk2 (k : Fin 512) : (iblk m c 2 t : FVec Ideal S512x512 .f32) (ix2 r k) = X2 m c (ix2 n k) := by
  blk_point [iblk, V, idx t]
include hn in
theorem blk3 (k : Fin 256) : (iblk m c 3 t : FVec Ideal S512x256 .f32) (ix2 r k) = X3 m c (ix2 n k) := by
  blk_point [iblk, V, idx t]
include hn in
theorem blk4 (k : Fin 256) : (iblk m c 4 t : FVec Ideal S512x256 .f32) (ix2 r k) = X4 m c (ix2 n k) := by
  blk_point [iblk, V, idx t]
theorem blk1 (j l : Fin 1024) : (iblk m c 1 t : FVec Ideal S1024x1024 .bf16) (ix2 j l) = W m c (ix2 j l) := by
  refine Eq.trans ?_ (congrFun (V_v0 m c) (ix2 j l))
  blk_point [iblk, idx t]
theorem blk5 (j : Fin 1024) : (iblk m c 5 t : FVec Ideal S1x1024 .f32) (ix2 0 j) = G m c (ix1 j) := by
  refine Eq.trans ?_ (V_v1 m c j)
  blk_point [iblk, idx t]
end blocks

theorem ht (t : Fin cfg0.N) (r : Fin 512) : t.val * 512 + r.val < 8192 := by
  have h : t.val < 16 := t.isLt
  omega

theorem point6 (c : Dev nD) (t : Fin cfg0.N) (y : S512x512.Idx) : k0_pay9 (F := Ideal) (iblk m c 0 t) (iblk m c 1 t) (iblk m c 5 t) (iblk m c 2 t) y
    = val_main_v96 (F := Ideal) (A m c) (W m c) (X2 m c) (G m c) (((cfg0.win 6).blk t).view.emb y) := by
  obtain ⟨r, j, rfl⟩ : ∃ (r : Fin 512) (j : Fin 512), y = ix2 r j := ⟨y 0, y 1, eq_ix2 y⟩
  have he : ((cfg0.win 6).blk t).view.emb (ix2 r j : S512x512.Idx) = (ix2 ⟨t.val * 512 + r.val, ht t r⟩ j : S8192x512.Idx) := by
    blk_ext [idx t]
  have hx := blk2 m c t ⟨t.val * 512 + r.val, ht t r⟩ r rfl
  have ha := blk0 m c t ⟨t.val * 512 + r.val, ht t r⟩ r rfl
  rw [he, ref96, pay9_at]
  simp only [hx, ha, blk1 m c t, blk5 m c t]
  rfl

theorem final6 (c : Dev nD) : (dats m 0 c).arrAt 6 (cfgs 0).N = val_main_v96 (F := Ideal) (A m c) (W m c) (X2 m c) (G m c) := by
  refine (dats m 0 c).arrAt_eq_of_covers 6 _ (by decide +kernel) fun t _ y => ?_
  blk_simp
  rw [after0_6]; frame_out
  exact point6 m c t y

theorem point7 (c : Dev nD) (t : Fin cfg0.N) (y : S512x256.Idx) : k0_pay14 (F := Ideal) (k0_pay4 (iblk m c 5 t)) (iblk m c 3 t) (k0_pay10 (iblk m c 0 t) (iblk m c 1 t)) y
    = val_main_v82 (F := Ideal) (A m c) (W m c) (X3 m c) (G m c) (((cfg0.win 7).blk t).view.emb y) := by
  obtain ⟨r, j, rfl⟩ : ∃ (r : Fin 512) (j : Fin 256), y = ix2 r j := ⟨y 0, y 1, eq_ix2 y⟩
  have he : ((cfg0.win 7).blk t).view.emb (ix2 r j : S512x256.Idx) = (ix2 ⟨t.val * 512 + r.val, ht t r⟩ j : S8192x256.Idx) := by
    blk_ext [idx t]
  have hx := blk3 m c t ⟨t.val * 512 + r.val, ht t r⟩ r rfl
  have ha := blk0 m c t ⟨t.val * 512 + r.val, ht t r⟩ r rfl
  rw [he, ref82, pay14_at]
  simp only [hx, ha, blk1 m c t, blk5 m c t]
  rfl

theorem final7 (c : Dev nD) : (dats m 0 c).arrAt 7 (cfgs 0).N = val_main_v82 (F := Ideal) (A m c) (W m c) (X3 m c) (G m c) := by
  refine (dats m 0 c).arrAt_eq_of_covers 7 _ (by decide +kernel) fun t _ y => ?_
  blk_simp
  rw [after0_7]; unfold_out out0_7; frame_out
  exact point7 m c t y

theorem point8 (c : Dev nD) (t : Fin cfg0.N) (y : S512x256.Idx) : k0_pay1 (F := Ideal) (k0_pay16 (iblk m c 4 t)) (k0_pay17 (iblk m c 4 t)) (k0_pay19 (k0_pay3 (iblk m c 0 t) (iblk m c 1 t)) (k0_pay4 (iblk m c 5 t))) y
    = val_main_v68 (F := Ideal) (A m c) (W m c) (X4 m c) (G m c) (((cfg0.win 8).blk t).view.emb y) := by
  obtain ⟨r, j, rfl⟩ : ∃ (r : Fin 512) (j : Fin 256), y = ix2 r j := ⟨y 0, y 1, eq_ix2 y⟩
  have he : ((cfg0.win 8).blk t).view.emb (ix2 r j : S512x256.Idx) = (ix2 ⟨t.val * 512 + r.val, ht t r⟩ j : S8192x256.Idx) := by
    blk_ext [idx t]
  have hx := blk4 m c t ⟨t.val * 512 + r.val, ht t r⟩ r rfl
  have ha := blk0 m c t ⟨t.val * 512 + r.val, ht t r⟩ r rfl
  rw [he, ref68, pay1_at]
  simp only [hx, ha, blk1 m c t, blk5 m c t]
  rfl

theorem final8 (c : Dev nD) : (dats m 0 c).arrAt 8 (cfgs 0).N = val_main_v68 (F := Ideal) (A m c) (W m c) (X4 m c) (G m c) := by
  refine (dats m 0 c).arrAt_eq_of_covers 8 _ (by decide +kernel) fun t _ y => ?_
  blk_simp
  rw [after0_8]; unfold_out out0_8; frame_out
  exact point8 m c t y

/-- A tile's row of column sums. -/
theorem point9 (c : Dev nD) (t : Fin cfg0.N) (n : Fin 16) (hn : n.val = t.val) (j : Fin 1024) :
    k0_pay2 (F := Ideal) (k0_pay8 (iblk m c 0 t) (iblk m c 1 t) (iblk m c 2 t)) (k0_pay13 (iblk m c 3 t) (k0_pay10 (iblk m c 0 t) (iblk m c 1 t)))
      (k0_pay18 (k0_pay3 (iblk m c 0 t) (iblk m c 1 t)) (iblk m c 4 t)) (ix3 0 0 j)
    = ∑ r : Fin 512, part (A m c) (W m c) (X2 m c) (X3 m c) (X4 m c) j ⟨n.val * 512 + r.val, by omega⟩ := by
  rw [pay2_at]
  refine Finset.sum_congr rfl fun r _ => ?_
  have h2 := blk2 m c t ⟨n.val * 512 + r.val, by omega⟩ r (congrArg (· * 512 + r.val) hn)
  have h3 := blk3 m c t ⟨n.val * 512 + r.val, by omega⟩ r (congrArg (· * 512 + r.val) hn)
  have h4 := blk4 m c t ⟨n.val * 512 + r.val, by omega⟩ r (congrArg (· * 512 + r.val) hn)
  have ha := blk0 m c t ⟨n.val * 512 + r.val, by omega⟩ r (congrArg (· * 512 + r.val) hn)
  simp only [h2, h3, h4, ha, blk1 m c t]
  rfl

/-- The host lines after the grid: the first row of every tile's block, summed over the tiles. -/
def tailTerm (X : FVec Ideal S16x8x1024 .f32) : FVec Ideal S1024 .f32 :=
  Host.reduceAdd (shapeCast S16x1024 (extractStridedSlice S16x1x1024 ![0, 0, 0] X slices_S16x8x1024_S16x1x1024_0_0_0)
    shapeCasts_S16x1x1024_S16x1024) (constant S_ FTy.f32 0#32) reducesTo_S16x1024_S1024_d0 h_S_

theorem tail9 (c : Dev nD) : Pipeline.afterTail₀ cfgs (dats m) 0 (V0 m) [hostOps1] c main_v5 = tailTerm ((dats m 0 c).arrAt 9 (cfgs 0).N) := by
  unfold Pipeline.afterTail₀
  simp only [hostOps1, List.flatten_cons, List.flatten_nil, List.append_nil]
  after_results
  exact congrArg tailTerm (Pipeline.withArrays_arr spec0 (by decide) c (V0 m c) (fun w => (dats m 0 c).arrAt w (cfgs 0).N) 9)

theorem tail_at (X : FVec Ideal S16x8x1024 .f32) (j : Fin 1024) : tailTerm X (ix1 j) = ∑ n : Fin 16, X (ix3 n 0 j) := by
  pointwise [tailTerm]

theorem arr9 (c : Dev nD) (j : Fin 1024) (n : Fin 16) : ((dats m 0 c).arrAt 9 (cfgs 0).N : FVec Ideal S16x8x1024 .f32) (ix3 n 0 j)
    = ∑ r : Fin 512, part (A m c) (W m c) (X2 m c) (X3 m c) (X4 m c) j ⟨n.val * 512 + r.val, by omega⟩ := by
  refine ((dats m 0 c).arrAt_forall_of_covers 9 (fun (i : S16x8x1024.Idx) (v : EReal) => ∀ (n : Fin 16), (i 0).val = n.val → (i 1).val = 0 → (i 2).val = j.val →
    v = ∑ r : Fin 512, part (A m c) (W m c) (X2 m c) (X3 m c) (X4 m c) j ⟨n.val * 512 + r.val, by omega⟩)
    (by decide +kernel) (fun t hf y => ?_) (ix3 n 0 j)) n rfl rfl rfl
  blk_simp [idx t]
  rw [after0_9]; unfold_out out0_9; frame_out
  intro n' hn h1 h2
  have hy : y = (ix3 0 0 j : S1x8x1024.Idx) := by
    funext k
    fin_cases k
    · exact Fin.ext (Nat.lt_one_iff.mp (y 0).isLt)
    · exact Fin.ext h1
    · exact Fin.ext h2
  rw [hy]
  exact point9 m c t n' (by rw [← hn]) j

theorem tail_eq (A : FVec Ideal S8192x1024 .bf16) (W : FVec Ideal S1024x1024 .f32) (X2 : FVec Ideal S8192x512 .f32) (X3 X4 : FVec Ideal S8192x256 .f32)
    (B : FVec Ideal S16x8x1024 .f32) (hb : ∀ (j : Fin 1024) (n : Fin 16), B (ix3 n 0 j) = ∑ r : Fin 512, part A W X2 X3 X4 j ⟨n.val * 512 + r.val, by omega⟩) :
    tailTerm B = val_main_v51 (F := Ideal) A W X2 X3 X4 := by
  funext i
  obtain ⟨j, rfl⟩ : ∃ j : Fin 1024, i = ix1 j := ⟨i 0, eq_ix1 i⟩
  rw [tail_at, ref51, Finset.sum_congr rfl fun n _ => hb j n]
  exact Fin.sum_mul_add_congr (S := 16) (n := 512) (L := 8192) (fun s k hl => rfl) (by norm_num)

theorem final9 (c : Dev nD) : Pipeline.afterTail₀ cfgs (dats m) 0 (V0 m) [hostOps1] c main_v5
    = val_main_v51 (F := Ideal) (A m c) (W m c) (X2 m c) (X3 m c) (X4 m c) :=
  (tail9 m c).trans (tail_eq _ _ _ _ _ _ (arr9 m c))

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v2_0) = val_main_v96 (F := Ideal) (A m c) (W m c) (X2 m c) (G m c)
      ∧ r.2.mem (c.tc.loc main_v2_1) = val_main_v82 (F := Ideal) (A m c) (W m c) (X3 m c) (G m c)
      ∧ r.2.mem (c.tc.loc main_v2_2) = val_main_v68 (F := Ideal) (A m c) (W m c) (X4 m c) (G m c)
      ∧ r.2.mem (c.tc.loc main_v5) = val_main_v51 (F := Ideal) (A m c) (W m c) (X2 m c) (X3 m c) (X4 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  refine (θ_run defs _ _).mono (fun r h c => ?_) (θ_run_and (run_main m g) (unchanged m g))
  exact ⟨((h.1 c).1 6).trans (final6 m c), ((h.1 c).1 7).trans (final7 m c), ((h.1 c).1 8).trans (final8 m c),
    ((h.1 c).2 main_v5 (Pipeline.mem_restRefs_of main_v5 (by decide) (by decide))).trans (final9 m c), h.2 c⟩

end Cert.OutNIdeal.Val

end
-- ==== Proof.MixIn.lean ====
module

public import proofs.«01_k».proof.Proof.Gen.MixInIdeal.Frame
public import proofs.«01_k».proof.Proof.Gen.MixInRefIdeal.Read
public import proofs.«01_k».proof.Proof.Gen.MixInRefIdeal.Run
public import proofs.«01_k».proof.Proof.Rms
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.MixInIdeal.Val

open Cert.MixInIdeal Cert.MixInIdeal.Gen
open Cert.MixInRefIdeal.Read

variable (m : (ℓ : Loc nD τ sig) → Buf (Elt Ideal) ℓ)

theorem idx : ∀ t : Fin cfg0.N, win0_0.index t = ![t.val / 3, t.val % 3] ∧ win0_1.index t = ![0, t.val % 3] ∧ win0_2.index t = ![t.val / 3, 0]
    ∧ win0_3.index t = ![t.val / 3, 0] ∧ win0_4.index t = ![0, 0] ∧ win0_5.index t = ![t.val / 24, 0, 0] ∧ win0_6.index t = ![t.val / 3, 0]
    ∧ win0_7.index t = ![t.val / 3, 0, 0] :=
  (by decide +kernel : ∀ t : Fin grid0.N, _)

theorem flush6 : ∀ t : Fin cfg0.N, (cfg0.win 6).flush t = true → t.val % 3 = 2 := by decide +kernel
theorem flush7 : ∀ t : Fin cfg0.N, (cfg0.win 7).flush t = true → t.val % 3 = 2 := by decide +kernel

theorem read_scratch (h : (Memref.whole cc0_scratch0 : Memref sig .tc .vmem S512x1024 .f32).IsWhole) (w : FVec Ideal S512x1024 .f32) :
    View.read (Elt Ideal) (View.whole cc0_scratch0) (h.unread w) = w := h.read_unread (Val := Elt Ideal) w

theorem scr_A (c : Dev nD) (t : Fin cfg0.N) (h : t.val % 3 = 0) :
    (outsAt0 m c t.val t.isLt).2.2 = k0_pay2 (F := Ideal) (iblk m c 0 t) (iblk m c 1 t) := by
  rw [outsAt0_A m c t h (by omega) (by omega)]
  funext y
  frame_out

theorem scr_B (c : Dev nD) (t : Fin cfg0.N) (h : t.val % 3 = 1) :
    (outsAt0 m c t.val t.isLt).2.2 = k0_pay3 (F := Ideal) (iblk m c 0 t) (iblk m c 1 t) (outsAt0 m c (t.val - 1) (Nat.lt_of_le_of_lt (Nat.sub_le _ _) t.isLt)).2.2 := by
  rw [outsAt0_B m c t (by omega) (by omega) (by omega)]
  funext y
  frame_out
  simp only [read_scratch]

theorem out_C6 (c : Dev nD) (t : Fin cfg0.N) (h : t.val % 3 = 2) :
    (outsAt0 m c t.val t.isLt).1 = k0_pay9 (F := Ideal) (k0_pay3 (F := Ideal) (iblk m c 0 t) (iblk m c 1 t) (outsAt0 m c (t.val - 1) (Nat.lt_of_le_of_lt (Nat.sub_le _ _) t.isLt)).2.2)
      (iblk m c 2 t) (iblk m c 4 t) (iblk m c 5 t) (iblk m c 3 t) := by
  rw [outsAt0_C m c t (by omega) (by omega) (by omega)]
  funext y
  frame_out
  simp only [read_scratch]

theorem out_C7 (c : Dev nD) (t : Fin cfg0.N) (h : t.val % 3 = 2) (A : FVec Ideal S512x1024 .f32) (hA : k0_pay3 (F := Ideal) (iblk m c 0 t) (iblk m c 1 t) (outsAt0 m c (t.val - 1) (Nat.lt_of_le_of_lt (Nat.sub_le _ _) t.isLt)).2.2 = A) :
    (outsAt0 m c t.val t.isLt).2.1 = k0_pay4 (F := Ideal) (k0_pay8 (iblk m c 5 t)) (k0_pay10 A (iblk m c 2 t)) (k0_pay11 A) (k0_pay12 A (iblk m c 2 t) (iblk m c 4 t)) := by
  rw [outsAt0_C m c t (by omega) (by omega) (by omega), ← hA]
  funext y
  frame_out
  simp only [read_scratch]

theorem pay2_at (v0 : FVec Ideal S512x896 .bf16) (v2 : FVec Ideal S1024x896 .bf16) (r : Fin 512) (j : Fin 1024) :
    k0_pay2 (F := Ideal) v0 v2 (ix2 r j) = ∑ l : Fin 896, v0 (ix2 r l) * v2 (ix2 j l) := by
  pointwise [k0_pay2, k0_pay1]

theorem pay3_at (v0 : FVec Ideal S512x896 .bf16) (v2 : FVec Ideal S1024x896 .bf16) (w : FVec Ideal S512x1024 .f32) (r : Fin 512) (j : Fin 1024) :
    k0_pay3 (F := Ideal) v0 v2 w (ix2 r j) = w (ix2 r j) + ∑ l : Fin 896, v0 (ix2 r l) * v2 (ix2 j l) := by
  pointwise [k0_pay3, k0_pay1]

/-- The small constant of the norm. -/
abbrev eps : ℝ := 8796093 / 8796093022208

theorem pay9_at (P X : FVec Ideal S512x1024 .f32) (g : FVec Ideal S1x1024 .f32) (s : FVec Ideal S1x1x1024 .f32) (o : FVec Ideal S512x1024 .f32) (r : Fin 512) (j : Fin 1024) :
    k0_pay9 (F := Ideal) P X g s o (ix2 r j) = o (ix2 r j) + Rms.dx (fun k => X (ix2 r k)) (fun k => P (ix2 r k) * ((1 : EReal) + s (ix3 0 0 k)) * g (ix2 0 k)) 1024 eps j := by
  unfold Rms.dx Rms.rs Rms.ms
  rw [← Rms.lit_1024, ← Rms.lit_eps]
  have e : ∀ k, P (ix2 r k) * ((1 : EReal) + s (ix3 0 0 k)) * g (ix2 0 k) = P (ix2 r k) * (g (ix2 0 k) * ((1 : EReal) + s (ix3 0 0 k))) := fun k => by
    rw [mul_assoc, mul_comm (g _)]
  simp only [e]
  pointwise [k0_pay9, k0_pay8, k0_pay7, k0_pay6, k0_pay5]

theorem pay4_0 (P X : FVec Ideal S512x1024 .f32) (g : FVec Ideal S1x1024 .f32) (s : FVec Ideal S1x1x1024 .f32) (j : Fin 1024) :
    k0_pay4 (F := Ideal) (k0_pay8 s) (k0_pay10 P X) (k0_pay11 P) (k0_pay12 P X g) (ix3 0 0 j) = ∑ r : Fin 512, P (ix2 r j) := by
  pointwise [k0_pay4, k0_pay8, k0_pay10, k0_pay11, k0_pay12, k0_pay7, k0_pay6, k0_pay5]
  rw [show IntOp.cmpi CmpIPredicate.eq 0#32 2#32 = 0#1 from by decide, show IntOp.cmpi CmpIPredicate.eq 0#32 1#32 = 0#1 from by decide]
  rfl

theorem pay4_1 (P X : FVec Ideal S512x1024 .f32) (g : FVec Ideal S1x1024 .f32) (s : FVec Ideal S1x1x1024 .f32) (j : Fin 1024) :
    k0_pay4 (F := Ideal) (k0_pay8 s) (k0_pay10 P X) (k0_pay11 P) (k0_pay12 P X g) (ix3 0 1 j)
      = ∑ r : Fin 512, P (ix2 r j) * (X (ix2 r j) * Rms.rs (fun k => X (ix2 r k)) 1024 eps) * g (ix2 0 j) := by
  unfold Rms.rs Rms.ms
  rw [← Rms.lit_1024, ← Rms.lit_eps]
  pointwise [k0_pay4, k0_pay8, k0_pay10, k0_pay11, k0_pay12, k0_pay7, k0_pay6, k0_pay5]
  rw [show IntOp.cmpi CmpIPredicate.eq 1#32 2#32 = 0#1 from by decide]
  rfl

theorem pay4_2 (P X : FVec Ideal S512x1024 .f32) (g : FVec Ideal S1x1024 .f32) (s : FVec Ideal S1x1x1024 .f32) (j : Fin 1024) :
    k0_pay4 (F := Ideal) (k0_pay8 s) (k0_pay10 P X) (k0_pay11 P) (k0_pay12 P X g) (ix3 0 2 j)
      = ∑ r : Fin 512, P (ix2 r j) * (X (ix2 r j) * Rms.rs (fun k => X (ix2 r k)) 1024 eps) * ((1 : EReal) + s (ix3 0 0 j)) := by
  unfold Rms.rs Rms.ms
  rw [← Rms.lit_1024, ← Rms.lit_eps]
  pointwise [k0_pay4, k0_pay8, k0_pay10, k0_pay11, k0_pay12, k0_pay7, k0_pay6, k0_pay5]

section refs
variable (A : FVec Ideal S8192x2564 .bf16) (W : FVec Ideal S1024x2564 .f32) (X O : FVec Ideal S8192x1024 .f32) (G : FVec Ideal S1024 .f32) (S : FVec Ideal S2x1024 .f32)

/-- The cotangent of the modulated norm, one entry of the product with the transposed weight. -/
def pr (n : Fin 8192) (j : Fin 1024) : EReal := ∑ l : Fin 2564, A (ix2 n l) * W (ix2 j l)
/-- The normed row. -/
def hat (n : Fin 8192) (j : Fin 1024) : EReal := X (ix2 n j) * Rms.rs (fun k => X (ix2 n k)) 1024 eps
/-- The batch entry of a token. -/
abbrev bt (n : Fin 8192) : Fin 2 := ⟨n.val / 4096, by omega⟩

theorem refDX (n : Fin 8192) (j : Fin 1024) : val_main_v61 (F := Ideal) A W X O G S (ix2 n j)
    = O (ix2 n j) + Rms.dx (fun k => X (ix2 n k)) (fun k => pr A W n k * ((1 : EReal) + S (ix2 (bt n) k)) * G (ix1 k)) 1024 eps j := by
  rw [Rms.dx_eq _ _ _ _ (by norm_num) (by norm_num)]
  unfold Rms.fac Rms.rs Rms.ms pr
  rw [← Rms.lit_1024, ← Rms.lit_eps, ← Rms.lit_nhalf]
  unfold val_main_v61 val_main_v60 val_main_v59 val_main_v58 val_main_v57 val_main_v56 val_main_cst_13 val_main_v55 val_main_v54 val_main_cst_12 val_main_v53 val_main_v52 val_main_v51 val_main_v50 val_main_v49 val_main_v48 val_main_cst_11 val_main_v47 val_main_v46 val_main_v44 val_main_v43 val_main_v38 val_main_v37 val_main_v30 val_main_v29 val_main_v28 val_main_v20 val_main_v19 val_main_v18 val_main_cst_4 val_main_v15 val_main_v11 val_main_v10 val_main_cst_3 val_main_v9 val_main_v8 val_main_v7 val_main_v6 val_main_cst_2 val_main_v5 val_main_v4 val_main_cst_1 val_main_v3 val_main_v2 val_main_cst_0 val_main_v1
  pointwise
  simp only [Finset.univ_unique, Finset.sum_singleton, add_assoc]

theorem refDG (j : Fin 1024) : val_main_v45 (F := Ideal) A W X S (ix1 j)
    = ∑ n : Fin 8192, pr A W n j * hat X n j * ((1 : EReal) + S (ix2 (bt n) j)) := by
  unfold hat Rms.rs Rms.ms pr
  rw [← Rms.lit_1024, ← Rms.lit_eps]
  unfold val_main_v45 val_main_cst_10 val_main_v42 val_main_v41 val_main_cst_9 val_main_v40 val_main_v38 val_main_v37 val_main_v30 val_main_v29 val_main_v28 val_main_v20 val_main_v19 val_main_v18 val_main_cst_4 val_main_v14 val_main_v13 val_main_v12 val_main_v8 val_main_v7 val_main_v6 val_main_cst_2 val_main_v5 val_main_v4 val_main_cst_1 val_main_v3 val_main_v2 val_main_cst_0 val_main_v1
  pointwise [Rms.sum01, Rms.third]
  simp only [Finset.univ_unique, Finset.sum_singleton]
  refine Fin.sum_mul_add_congr (S := 2) (n := 4096) (L := 8192) (fun s k hl => ?_) (by norm_num)
  have e : bt ⟨s.val * 4096 + k.val, hl⟩ = s := Fin.ext (by dsimp only; omega)
  rw [e, mul_comm (X _ * _), mul_assoc, mul_comm ((1 : EReal) + _), ← mul_assoc]

theorem refDS (b : Fin 2) (j : Fin 1024) : val_main_v39 (F := Ideal) A W X G (ix2 b j)
    = ∑ n : Fin 4096, pr A W ⟨b.val * 4096 + n.val, by omega⟩ j * hat X ⟨b.val * 4096 + n.val, by omega⟩ j * G (ix1 j) := by
  unfold hat Rms.rs Rms.ms pr
  rw [← Rms.lit_1024, ← Rms.lit_eps]
  unfold val_main_v39 val_main_cst_8 val_main_v36 val_main_v35 val_main_cst_7 val_main_v34 val_main_v30 val_main_v29 val_main_v28 val_main_v17 val_main_v16 val_main_v15 val_main_v14 val_main_v13 val_main_v12 val_main_v8 val_main_v7 val_main_v6 val_main_cst_2 val_main_v5 val_main_v4 val_main_cst_1 val_main_v3 val_main_v2 val_main_cst_0 val_main_v1
  pointwise
  simp only [Finset.univ_unique, Finset.sum_singleton]
  exact Finset.sum_congr rfl fun n _ => by rw [mul_comm, mul_assoc, mul_assoc, mul_assoc]

theorem refDH (b : Fin 2) (j : Fin 1024) : val_main_v33 (F := Ideal) A W (ix2 b j)
    = ∑ n : Fin 4096, pr A W ⟨b.val * 4096 + n.val, by omega⟩ j := by
  unfold pr
  unfold val_main_v33 val_main_cst_6 val_main_v32 val_main_v31 val_main_cst_5 val_main_v30 val_main_v29 val_main_v28
  pointwise
  simp only [Finset.univ_unique, Finset.sum_singleton]
  done
end refs

theorem sitofp_zero {ft : FTy} (i : S_.Idx) : (sitofp ft (constantI S_ 32 0#32) : FVec Ideal S_ ft) i = (0 : EReal) := by
  show (((0#32 : BitVec 32).toInt : ℝ) : EReal) = 0
  simp

/-- One token's part of each of the three sums over tokens. -/
def partG (A : FVec Ideal S8192x2564 .bf16) (W : FVec Ideal S1024x2564 .f32) (X : FVec Ideal S8192x1024 .f32) (S : FVec Ideal S2x1024 .f32) (j : Fin 1024) (n : Fin 8192) : EReal :=
  pr A W n j * hat X n j * ((1 : EReal) + S (ix2 (bt n) j))
def partS (A : FVec Ideal S8192x2564 .bf16) (W : FVec Ideal S1024x2564 .f32) (X : FVec Ideal S8192x1024 .f32) (G : FVec Ideal S1024 .f32) (j : Fin 1024) (n : Fin 8192) : EReal :=
  pr A W n j * hat X n j * G (ix1 j)

/-- The arguments as the kernel finds them. -/
abbrev A (c : Dev nD) : FVec Ideal S8192x2564 .bf16 := m (c.tc.loc main_arg0)
abbrev W (c : Dev nD) : FVec Ideal S1024x2564 .f32 := m (c.tc.loc main_arg1)
abbrev X (c : Dev nD) : FVec Ideal S8192x1024 .f32 := m (c.tc.loc main_arg2)
abbrev O (c : Dev nD) : FVec Ideal S8192x1024 .f32 := m (c.tc.loc main_arg3)
abbrev G (c : Dev nD) : FVec Ideal S1024 .f32 := m (c.tc.loc main_arg4)
abbrev S (c : Dev nD) : FVec Ideal S2x1024 .f32 := m (c.tc.loc main_arg5)

theorem V_all (c : Dev nD) : (V m c main_v3 : FVec Ideal S1x1024 .f32) = broadcastInDim S1x1024 ![1] bcast_S1024_S1x1024_1 (G m c) ∧
    (V m c main_v4 : FVec Ideal S2x1x1024 .f32) = broadcastInDim S2x1x1024 ![0, 2] bcast_S2x1024_S2x1x1024_0_2 (S m c) ∧
    (V m c main_v0 : FVec Ideal S8192x2688 .bf16) = pad S8192x2688 ![0, 0] ![0, 124] ![0, 0] (A m c) (sitofp .bf16 (constantI S_ 32 0#32)) pads_S8192x2564_S8192x2688_000_01240 h_S_ ∧
    (V m c main_v2 : FVec Ideal S1024x2688 .bf16) = (pad S1024x2688 ![0, 0] ![0, 124] ![0, 0] (W m c) (sitofp .f32 (constantI S_ 32 0#32)) pads_S1024x2564_S1024x2688_000_01240 h_S_ : FVec Ideal S1024x2688 .f32) := by
  refine ⟨?_, ?_, ?_, ?_⟩ <;> (show StableHlo.after (List.flatten [hostOps0, hostOps0_1, hostOps0_2, hostOps0_3, hostOps0_4]) (fun b => m (c, b)) _ = _; dsimp only [hostOps0, hostOps0_1, hostOps0_2, hostOps0_3, hostOps0_4, List.flatten_cons, List.flatten_nil, List.append_nil, List.cons_append, List.nil_append]; after_results <;> rfl)

theorem V_g (c : Dev nD) (j : Fin 1024) : (V m c main_v3 : FVec Ideal S1x1024 .f32) (ix2 0 j) = G m c (ix1 j) := by
  rw [(V_all m c).1]
  pointwise

theorem V_s (c : Dev nD) (b : Fin 2) (j : Fin 1024) : (V m c main_v4 : FVec Ideal S2x1x1024 .f32) (ix3 b 0 j) = S m c (ix2 b j) := by
  rw [(V_all m c).2.1]
  pointwise

/-- The padded arguments: zero past the last column. -/
def AP (A : FVec Ideal S8192x2564 .bf16) (n : Fin 8192) (q : Fin 2688) : EReal := if h : q.val < 2564 then A (ix2 n ⟨q.val, h⟩) else 0
def WP (W : FVec Ideal S1024x2564 .f32) (j : Fin 1024) (q : Fin 2688) : EReal := if h : q.val < 2564 then W (ix2 j ⟨q.val, h⟩) else 0

theorem V_a (c : Dev nD) (n : Fin 8192) (q : Fin 2688) : (V m c main_v0 : FVec Ideal S8192x2688 .bf16) (ix2 n q) = AP (A m c) n q := by
  rw [(V_all m c).2.2.1]
  unfold AP
  by_cases hq : q.val < 2564
  · rw [dif_pos hq]
    exact pad_apply_of_inside _ _ _ _ _ _ _ _ (ix2 n ⟨q.val, hq⟩) (fun x => by fin_cases x <;> simp [ix2])
  · rw [dif_neg hq, pad_apply_of_not_inside _ _ _ _ _ _ _ _ (1 : Fin 2) (fun e => hq (by simpa [ix2] using e.2.2))]
    exact sitofp_zero _

theorem V_w (c : Dev nD) (j : Fin 1024) (q : Fin 2688) : (V m c main_v2 : FVec Ideal S1024x2688 .bf16) (ix2 j q) = WP (W m c) j q := by
  rw [(V_all m c).2.2.2]
  unfold WP
  by_cases hq : q.val < 2564
  · rw [dif_pos hq]
    exact pad_apply_of_inside _ _ _ _ _ _ _ _ (ix2 j ⟨q.val, hq⟩) (fun x => by fin_cases x <;> simp [ix2])
  · rw [dif_neg hq, pad_apply_of_not_inside _ _ _ _ _ _ _ _ (1 : Fin 2) (fun e => hq (by simpa [ix2] using e.2.2))]
    exact sitofp_zero _

/-- The three column blocks of the padded product make the product. -/
theorem pr_split (A : FVec Ideal S8192x2564 .bf16) (W : FVec Ideal S1024x2564 .f32) (n : Fin 8192) (j : Fin 1024) (h0 : ∀ l : Fin 896, 0 * 896 + l.val < 2688) (h1 : ∀ l : Fin 896, 1 * 896 + l.val < 2688) (h2 : ∀ l : Fin 896, 2 * 896 + l.val < 2688) :
    (∑ l : Fin 896, AP A n ⟨0 * 896 + l.val, h0 l⟩ * WP W j ⟨0 * 896 + l.val, h0 l⟩ + ∑ l : Fin 896, AP A n ⟨1 * 896 + l.val, h1 l⟩ * WP W j ⟨1 * 896 + l.val, h1 l⟩)
      + ∑ l : Fin 896, AP A n ⟨2 * 896 + l.val, h2 l⟩ * WP W j ⟨2 * 896 + l.val, h2 l⟩ = pr A W n j := by
  have e : ∑ s : Fin 3, ∑ k : Fin 896, AP A n ⟨s.val * 896 + k.val, by omega⟩ * WP W j ⟨s.val * 896 + k.val, by omega⟩ = ∑ q : Fin 2688, AP A n q * WP W j q :=
    Fin.sum_mul_add_congr (S := 3) (n := 896) (L := 2688) (fun s k hl => rfl) (by norm_num)
  rw [Fin.sum_univ_three] at e
  refine Eq.trans e ((Fin.sum_univ_add (a := 2564) (b := 124) fun q => AP A n q * WP W j q).trans ?_)
  have z : ∀ i : Fin 124, AP A n (Fin.natAdd 2564 i) = 0 := fun i => dif_neg (by simp)
  simp only [z, zero_mul, Finset.sum_const_zero, add_zero]
  refine Finset.sum_congr rfl fun l _ => ?_
  have ha : AP A n (Fin.castAdd 124 l) = A (ix2 n l) := dif_pos l.isLt
  have hw : WP W j (Fin.castAdd 124 l) = W (ix2 j l) := dif_pos l.isLt
  rw [ha, hw]

section blocks
variable (c : Dev nD) (t : Fin cfg0.N) (n : Fin 8192) (r : Fin 512) (hn : n.val = t.val / 3 * 512 + r.val)

include hn in
theorem blk2 (k : Fin 1024) : (iblk m c 2 t : FVec Ideal S512x1024 .f32) (ix2 r k) = X m c (ix2 n k) := by
  blk_point [iblk, V, idx t]
include hn in
theorem blk3 (k : Fin 1024) : (iblk m c 3 t : FVec Ideal S512x1024 .f32) (ix2 r k) = O m c (ix2 n k) := by
  blk_point [iblk, V, idx t]
theorem blk4 (j : Fin 1024) : (iblk m c 4 t : FVec Ideal S1x1024 .f32) (ix2 0 j) = G m c (ix1 j) := by
  refine Eq.trans ?_ (V_g m c j)
  blk_point [iblk, idx t]
include hn in
theorem blk5 (j : Fin 1024) : (iblk m c 5 t : FVec Ideal S1x1x1024 .f32) (ix3 0 0 j) = S m c (ix2 (bt n) j) := by
  refine Eq.trans ?_ (V_s m c (bt n) j)
  blk_point [iblk, idx t]
end blocks

theorem ht (t : Fin cfg0.N) (r : Fin 512) : t.val / 3 * 512 + r.val < 8192 := by
  have h : t.val < 48 := t.isLt
  omega

theorem blk0 (c : Dev nD) (t : Fin cfg0.N) (n : Fin 8192) (r : Fin 512) (hn : n.val = t.val / 3 * 512 + r.val) (q : Fin 2688) (l : Fin 896) (hq : q.val = t.val % 3 * 896 + l.val) :
    (iblk m c 0 t : FVec Ideal S512x896 .bf16) (ix2 r l) = AP (A m c) n q := by
  refine Eq.trans ?_ (V_a m c n q)
  blk_point [iblk, idx t]
theorem blk1 (c : Dev nD) (t : Fin cfg0.N) (j : Fin 1024) (q : Fin 2688) (l : Fin 896) (hq : q.val = t.val % 3 * 896 + l.val) :
    (iblk m c 1 t : FVec Ideal S1024x896 .bf16) (ix2 j l) = WP (W m c) j q := by
  refine Eq.trans ?_ (V_w m c j q)
  blk_point [iblk, idx t]

/-- One step's product. -/
def dot (a : FVec Ideal S512x896 .bf16) (b : FVec Ideal S1024x896 .bf16) (r : Fin 512) (j : Fin 1024) : EReal := ∑ l : Fin 896, a (ix2 r l) * b (ix2 j l)

theorem pay2_dot (a : FVec Ideal S512x896 .bf16) (b : FVec Ideal S1024x896 .bf16) (r : Fin 512) (j : Fin 1024) : k0_pay2 (F := Ideal) a b (ix2 r j) = dot a b r j := pay2_at a b r j
theorem pay3_dot (a : FVec Ideal S512x896 .bf16) (b : FVec Ideal S1024x896 .bf16) (w : FVec Ideal S512x1024 .f32) (r : Fin 512) (j : Fin 1024) :
    k0_pay3 (F := Ideal) a b w (ix2 r j) = w (ix2 r j) + dot a b r j := pay3_at a b w r j

theorem dot_eq (A : FVec Ideal S8192x2564 .bf16) (W : FVec Ideal S1024x2564 .f32) (a : FVec Ideal S512x896 .bf16) (b : FVec Ideal S1024x896 .bf16) (r : Fin 512) (j : Fin 1024) (n : Fin 8192) (f : Fin 896 → Fin 2688)
    (ha : ∀ l, a (ix2 r l) = AP A n (f l)) (hb : ∀ l, b (ix2 j l) = WP W j (f l)) : dot a b r j = ∑ l : Fin 896, AP A n (f l) * WP W j (f l) :=
  Finset.sum_congr rfl fun l _ => by rw [ha, hb]

theorem step (c : Dev nD) (t : Fin cfg0.N) (k : ℕ) (hk : t.val % 3 = k) (n : Fin 8192) (r : Fin 512) (hn : n.val = t.val / 3 * 512 + r.val) (j : Fin 1024) (h : ∀ l : Fin 896, k * 896 + l.val < 2688) :
    dot (iblk m c 0 t) (iblk m c 1 t) r j = ∑ l : Fin 896, AP (A m c) n ⟨k * 896 + l.val, h l⟩ * WP (W m c) j ⟨k * 896 + l.val, h l⟩ :=
  dot_eq (A m c) (W m c) _ _ r j n (fun l => ⟨k * 896 + l.val, h l⟩) (fun l => blk0 m c t n r hn ⟨k * 896 + l.val, h l⟩ l (congrArg (· * 896 + l.val) hk.symm))
    (fun l => blk1 m c t j ⟨k * 896 + l.val, h l⟩ l (congrArg (· * 896 + l.val) hk.symm))

/-- At the last step of a tile the accumulator holds the whole product. -/
theorem acc (c : Dev nD) (t : Fin cfg0.N) (h : t.val % 3 = 2) (n : Fin 8192) (r : Fin 512) (hn : n.val = t.val / 3 * 512 + r.val) (j : Fin 1024) :
    k0_pay3 (F := Ideal) (iblk m c 0 t) (iblk m c 1 t) (outsAt0 m c (t.val - 1) (Nat.lt_of_le_of_lt (Nat.sub_le _ _) t.isLt)).2.2 (ix2 r j) = pr (A m c) (W m c) n j := by
  have l1 : t.val - 1 < cfg0.N := Nat.lt_of_le_of_lt (Nat.sub_le _ _) t.isLt
  have l2 : t.val - 1 - 1 < cfg0.N := Nat.lt_of_le_of_lt (Nat.sub_le _ _) l1
  have hB := scr_B m c ⟨t.val - 1, l1⟩ (by dsimp only; omega)
  have hA := scr_A m c ⟨t.val - 1 - 1, l2⟩ (by dsimp only; omega)
  dsimp only at hA hB
  rw [pay3_dot, hB, pay3_dot, hA, pay2_dot, step m c t 2 h n r hn j (fun l => by omega),
    step m c ⟨t.val - 1, l1⟩ 1 (by dsimp only; omega) n r (by dsimp only; omega) j (fun l => by omega),
    step m c ⟨t.val - 1 - 1, l2⟩ 0 (by dsimp only; omega) n r (by dsimp only; omega) j (fun l => by omega)]
  exact pr_split (A m c) (W m c) n j _ _ _

theorem point6 (c : Dev nD) (t : Fin cfg0.N) (P : FVec Ideal S512x1024 .f32) (hP : ∀ (r : Fin 512) (j : Fin 1024), P (ix2 r j) = pr (A m c) (W m c) ⟨t.val / 3 * 512 + r.val, ht t r⟩ j) (y : S512x1024.Idx) :
    k0_pay9 (F := Ideal) P (iblk m c 2 t) (iblk m c 4 t) (iblk m c 5 t) (iblk m c 3 t) y
    = val_main_v61 (F := Ideal) (A m c) (W m c) (X m c) (O m c) (G m c) (S m c) (((cfg0.win 6).blk t).view.emb y) := by
  obtain ⟨r, j, rfl⟩ : ∃ (r : Fin 512) (j : Fin 1024), y = ix2 r j := ⟨y 0, y 1, eq_ix2 y⟩
  have he : ((cfg0.win 6).blk t).view.emb (ix2 r j : S512x1024.Idx) = (ix2 ⟨t.val / 3 * 512 + r.val, ht t r⟩ j : S8192x1024.Idx) := by
    blk_ext [idx t]
  have h2 := blk2 m c t ⟨t.val / 3 * 512 + r.val, ht t r⟩ r rfl
  have h3 := blk3 m c t ⟨t.val / 3 * 512 + r.val, ht t r⟩ r rfl
  have h5 := blk5 m c t ⟨t.val / 3 * 512 + r.val, ht t r⟩ r rfl
  rw [he, refDX, pay9_at]
  simp only [h2, h3, h5, blk4 m c t, hP]

theorem final6 (c : Dev nD) : (dats m 0 c).arrAt 6 (cfgs 0).N = val_main_v61 (F := Ideal) (A m c) (W m c) (X m c) (O m c) (G m c) (S m c) := by
  refine (dats m 0 c).arrAt_eq_of_covers 6 _ (by decide +kernel) fun t hf y => ?_
  blk_simp
  rw [after0_6, out_C6 m c t (flush6 t hf)]
  exact point6 m c t _ (fun r j => acc m c t (flush6 t hf) ⟨t.val / 3 * 512 + r.val, ht t r⟩ r rfl j) y

/-- A tile's three rows of column sums. -/
theorem point7 (c : Dev nD) (t : Fin cfg0.N) (P : FVec Ideal S512x1024 .f32) (n : Fin 16) (hn : n.val = t.val / 3)
    (hP : ∀ (r : Fin 512) (j : Fin 1024), P (ix2 r j) = pr (A m c) (W m c) ⟨n.val * 512 + r.val, by omega⟩ j) (j : Fin 1024) :
    k0_pay4 (F := Ideal) (k0_pay8 (iblk m c 5 t)) (k0_pay10 P (iblk m c 2 t)) (k0_pay11 P) (k0_pay12 P (iblk m c 2 t) (iblk m c 4 t)) (ix3 0 0 j) = ∑ r : Fin 512, pr (A m c) (W m c) ⟨n.val * 512 + r.val, by omega⟩ j
    ∧ k0_pay4 (F := Ideal) (k0_pay8 (iblk m c 5 t)) (k0_pay10 P (iblk m c 2 t)) (k0_pay11 P) (k0_pay12 P (iblk m c 2 t) (iblk m c 4 t)) (ix3 0 1 j) = ∑ r : Fin 512, partS (A m c) (W m c) (X m c) (G m c) j ⟨n.val * 512 + r.val, by omega⟩
    ∧ k0_pay4 (F := Ideal) (k0_pay8 (iblk m c 5 t)) (k0_pay10 P (iblk m c 2 t)) (k0_pay11 P) (k0_pay12 P (iblk m c 2 t) (iblk m c 4 t)) (ix3 0 2 j) = ∑ r : Fin 512, partG (A m c) (W m c) (X m c) (S m c) j ⟨n.val * 512 + r.val, by omega⟩ := by
  have h2 : ∀ r : Fin 512, _ := fun r => blk2 m c t ⟨n.val * 512 + r.val, by omega⟩ r (congrArg (· * 512 + r.val) hn)
  have h5 : ∀ r : Fin 512, _ := fun r => blk5 m c t ⟨n.val * 512 + r.val, by omega⟩ r (congrArg (· * 512 + r.val) hn)
  refine ⟨?_, ?_, ?_⟩
  · rw [pay4_0]
    exact Finset.sum_congr rfl fun r _ => hP r j
  · rw [pay4_1]
    refine Finset.sum_congr rfl fun r _ => ?_
    simp only [h2 r, hP, blk4 m c t]
    rfl
  · rw [pay4_2]
    refine Finset.sum_congr rfl fun r _ => ?_
    simp only [h2 r, hP, h5 r]
    rfl

/-- The host lines after the grid: a row of every tile's block, summed over all tiles or over each batch entry's. -/
def tailG (B : FVec Ideal S16x8x1024 .f32) : FVec Ideal S1024 .f32 :=
  Host.reduceAdd (shapeCast S16x1024 (extractStridedSlice S16x1x1024 ![0, 2, 0] B slices_S16x8x1024_S16x1x1024_0_2_0)
    shapeCasts_S16x1x1024_S16x1024) (constant S_ FTy.f32 0#32) reducesTo_S16x1024_S1024_d0 h_S_
def tailS (B : FVec Ideal S16x8x1024 .f32) : FVec Ideal S2x1024 .f32 :=
  Host.reduceAdd (shapeCast S2x8x1024 (shapeCast S16x1024 (extractStridedSlice S16x1x1024 ![0, 1, 0] B slices_S16x8x1024_S16x1x1024_0_1_0)
    shapeCasts_S16x1x1024_S16x1024) shapeCasts_S16x1024_S2x8x1024) (constant S_ FTy.f32 0#32) reducesTo_S2x8x1024_S2x1024_d1 h_S_
def tailH (B : FVec Ideal S16x8x1024 .f32) : FVec Ideal S2x1024 .f32 :=
  Host.reduceAdd (shapeCast S2x8x1024 (shapeCast S16x1024 (extractStridedSlice S16x1x1024 ![0, 0, 0] B slices_S16x8x1024_S16x1x1024_0_0_0)
    shapeCasts_S16x1x1024_S16x1024) shapeCasts_S16x1024_S2x8x1024) (constant S_ FTy.f32 0#32) reducesTo_S2x8x1024_S2x1024_d1 h_S_

theorem tailG_arr (c : Dev nD) : Pipeline.afterTail₀ cfgs (dats m) 0 (V0 m) [hostOps1] c main_v8 = tailG ((dats m 0 c).arrAt 7 (cfgs 0).N) := by
  unfold Pipeline.afterTail₀
  simp only [hostOps1, List.flatten_cons, List.flatten_nil, List.append_nil]
  after_results
  exact congrArg tailG (Pipeline.withArrays_arr spec0 (by decide) c (V0 m c) (fun w => (dats m 0 c).arrAt w (cfgs 0).N) 7)
theorem tailS_arr (c : Dev nD) : Pipeline.afterTail₀ cfgs (dats m) 0 (V0 m) [hostOps1] c main_v12 = tailS ((dats m 0 c).arrAt 7 (cfgs 0).N) := by
  unfold Pipeline.afterTail₀
  simp only [hostOps1, List.flatten_cons, List.flatten_nil, List.append_nil]
  after_results
  exact congrArg tailS (Pipeline.withArrays_arr spec0 (by decide) c (V0 m c) (fun w => (dats m 0 c).arrAt w (cfgs 0).N) 7)
theorem tailH_arr (c : Dev nD) : Pipeline.afterTail₀ cfgs (dats m) 0 (V0 m) [hostOps1] c main_v16 = tailH ((dats m 0 c).arrAt 7 (cfgs 0).N) := by
  unfold Pipeline.afterTail₀
  simp only [hostOps1, List.flatten_cons, List.flatten_nil, List.append_nil]
  after_results
  exact congrArg tailH (Pipeline.withArrays_arr spec0 (by decide) c (V0 m c) (fun w => (dats m 0 c).arrAt w (cfgs 0).N) 7)

theorem tailG_at (B : FVec Ideal S16x8x1024 .f32) (j : Fin 1024) : tailG B (ix1 j) = ∑ n : Fin 16, B (ix3 n 2 j) := by
  pointwise [tailG]
theorem tailS_at (B : FVec Ideal S16x8x1024 .f32) (b : Fin 2) (j : Fin 1024) : tailS B (ix2 b j) = ∑ k : Fin 8, B (ix3 ⟨b.val * 8 + k.val, by omega⟩ 1 j) := by
  pointwise [tailS]
theorem tailH_at (B : FVec Ideal S16x8x1024 .f32) (b : Fin 2) (j : Fin 1024) : tailH B (ix2 b j) = ∑ k : Fin 8, B (ix3 ⟨b.val * 8 + k.val, by omega⟩ 0 j) := by
  pointwise [tailH]

theorem arr7 (c : Dev nD) (j : Fin 1024) (n : Fin 16) (k : Fin 8) :
    (k.val = 0 → ((dats m 0 c).arrAt 7 (cfgs 0).N : FVec Ideal S16x8x1024 .f32) (ix3 n k j) = ∑ r : Fin 512, pr (A m c) (W m c) ⟨n.val * 512 + r.val, by omega⟩ j)
    ∧ (k.val = 1 → ((dats m 0 c).arrAt 7 (cfgs 0).N : FVec Ideal S16x8x1024 .f32) (ix3 n k j) = ∑ r : Fin 512, partS (A m c) (W m c) (X m c) (G m c) j ⟨n.val * 512 + r.val, by omega⟩)
    ∧ (k.val = 2 → ((dats m 0 c).arrAt 7 (cfgs 0).N : FVec Ideal S16x8x1024 .f32) (ix3 n k j) = ∑ r : Fin 512, partG (A m c) (W m c) (X m c) (S m c) j ⟨n.val * 512 + r.val, by omega⟩) := by
  refine ((dats m 0 c).arrAt_forall_of_covers 7 (fun (i : S16x8x1024.Idx) (v : EReal) => ∀ (n : Fin 16), (i 0).val = n.val → (i 2).val = j.val →
    ((i 1).val = 0 → v = ∑ r : Fin 512, pr (A m c) (W m c) ⟨n.val * 512 + r.val, by omega⟩ j)
    ∧ ((i 1).val = 1 → v = ∑ r : Fin 512, partS (A m c) (W m c) (X m c) (G m c) j ⟨n.val * 512 + r.val, by omega⟩)
    ∧ ((i 1).val = 2 → v = ∑ r : Fin 512, partG (A m c) (W m c) (X m c) (S m c) j ⟨n.val * 512 + r.val, by omega⟩))
    (by decide +kernel) (fun t hf y => ?_) (ix3 n k j)) n rfl rfl
  blk_simp [idx t]
  rw [after0_7, out_C7 m c t (flush7 t hf) _ rfl]
  intro n' hn h2
  have hn' : n'.val = t.val / 3 := by rw [← hn]
  have hy : ∀ k : Fin 8, (y 1).val = k.val → y = (ix3 0 k j : S1x8x1024.Idx) := fun k hk => by
    funext x
    fin_cases x
    · exact Fin.ext (Nat.lt_one_iff.mp (y 0).isLt)
    · exact Fin.ext hk
    · exact Fin.ext h2
  obtain ⟨p0, p1, p2⟩ := point7 m c t _ n' hn' (fun r j => acc m c t (flush7 t hf) ⟨n'.val * 512 + r.val, by omega⟩ r (congrArg (· * 512 + r.val) hn') j) j
  exact ⟨fun h => by rw [hy 0 h]; exact p0, fun h => by rw [hy 1 h]; exact p1, fun h => by rw [hy 2 h]; exact p2⟩

section tails
variable (A : FVec Ideal S8192x2564 .bf16) (W : FVec Ideal S1024x2564 .f32) (X : FVec Ideal S8192x1024 .f32) (G : FVec Ideal S1024 .f32) (S : FVec Ideal S2x1024 .f32)
  (B : FVec Ideal S16x8x1024 .f32)

theorem tailG_eq (hb : ∀ (j : Fin 1024) (n : Fin 16), B (ix3 n 2 j) = ∑ r : Fin 512, partG A W X S j ⟨n.val * 512 + r.val, by omega⟩) :
    tailG B = val_main_v45 (F := Ideal) A W X S := by
  funext i
  obtain ⟨j, rfl⟩ : ∃ j : Fin 1024, i = ix1 j := ⟨i 0, eq_ix1 i⟩
  rw [tailG_at, refDG, Finset.sum_congr rfl fun n _ => hb j n]
  exact Fin.sum_mul_add_congr (S := 16) (n := 512) (L := 8192) (fun s k hl => rfl) (by norm_num)

theorem tailS_eq (hb : ∀ (j : Fin 1024) (n : Fin 16), B (ix3 n 1 j) = ∑ r : Fin 512, partS A W X G j ⟨n.val * 512 + r.val, by omega⟩) :
    tailS B = val_main_v39 (F := Ideal) A W X G := by
  funext i
  obtain ⟨b, j, rfl⟩ : ∃ (b : Fin 2) (j : Fin 1024), i = ix2 b j := ⟨i 0, i 1, eq_ix2 i⟩
  rw [tailS_at, refDS, Finset.sum_congr rfl fun k _ => hb j _]
  exact Fin.sum_mul_add_congr (S := 8) (n := 512) (L := 4096) (fun s k hl => congrArg (partS A W X G j) (Fin.ext (by dsimp only; omega))) (by norm_num)

theorem tailH_eq (hb : ∀ (j : Fin 1024) (n : Fin 16), B (ix3 n 0 j) = ∑ r : Fin 512, pr A W ⟨n.val * 512 + r.val, by omega⟩ j) :
    tailH B = val_main_v33 (F := Ideal) A W := by
  funext i
  obtain ⟨b, j, rfl⟩ : ∃ (b : Fin 2) (j : Fin 1024), i = ix2 b j := ⟨i 0, i 1, eq_ix2 i⟩
  rw [tailH_at, refDH, Finset.sum_congr rfl fun k _ => hb j _]
  exact Fin.sum_mul_add_congr (S := 8) (n := 512) (L := 4096) (fun s k hl => congrArg (fun n => pr A W n j) (Fin.ext (by dsimp only; omega))) (by norm_num)
end tails

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v5_0) = val_main_v61 (F := Ideal) (A m c) (W m c) (X m c) (O m c) (G m c) (S m c)
      ∧ r.2.mem (c.tc.loc main_v8) = val_main_v45 (F := Ideal) (A m c) (W m c) (X m c) (S m c)
      ∧ r.2.mem (c.tc.loc main_v12) = val_main_v39 (F := Ideal) (A m c) (W m c) (X m c) (G m c)
      ∧ r.2.mem (c.tc.loc main_v16) = val_main_v33 (F := Ideal) (A m c) (W m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  refine (θ_run defs _ _).mono (fun r h c => ?_) (θ_run_and (run_main m g) (unchanged m g))
  exact ⟨((h.1 c).1 6).trans (final6 m c),
    (((h.1 c).2 main_v8 (Pipeline.mem_restRefs_of main_v8 (by decide) (by decide))).trans (tailG_arr m c)).trans (tailG_eq _ _ _ _ _ fun j n => (arr7 m c j n 2).2.2 rfl),
    (((h.1 c).2 main_v12 (Pipeline.mem_restRefs_of main_v12 (by decide) (by decide))).trans (tailS_arr m c)).trans (tailS_eq _ _ _ _ _ fun j n => (arr7 m c j n 1).2.1 rfl),
    (((h.1 c).2 main_v16 (Pipeline.mem_restRefs_of main_v16 (by decide) (by decide))).trans (tailH_arr m c)).trans (tailH_eq _ _ _ fun j n => (arr7 m c j n 0).1 rfl), h.2 c⟩

end Cert.MixInIdeal.Val

end
-- ==== Proof.FfUp.lean ====
module

public import proofs.«01_k».proof.Proof.Gen.FfUpIdeal.Frame
public import proofs.«01_k».proof.Proof.Gen.FfUpRefIdeal.Read
public import proofs.«01_k».proof.Proof.Gen.FfUpRefIdeal.Run
public import proofs.«01_k».proof.Proof.MixIn

@[expose] public section

set_option maxRecDepth 16384

noncomputable section

open Idealize.ShloMosaic Idealize.ShloMosaic.TcCoe Idealize.SL.Sem
open Idealize.ShloMosaic.Pipeline (Dat)

namespace Cert.FfUpIdeal.Val

open Cert.FfUpIdeal Cert.FfUpIdeal.Gen
open Cert.FfUpRefIdeal.Read
open Cert.MixInIdeal.Val (eps bt tailG tailS tailH tailG_at tailS_at tailH_at)

variable (m : (ℓ : Loc nD τ sig) → Buf (Elt Ideal) ℓ)

theorem idx : ∀ t : Fin cfg0.N, win0_0.index t = ![t.val % 2, t.val / 2, 0] ∧ win0_1.index t = ![t.val % 2, 0, 0] ∧ win0_2.index t = ![t.val / 2, 0]
    ∧ win0_3.index t = ![t.val / 2, 0] ∧ win0_4.index t = ![0, 0] ∧ win0_5.index t = ![t.val / 16, 0, 0] ∧ win0_6.index t = ![t.val / 2, 0]
    ∧ win0_7.index t = ![t.val / 2, 0, 0] :=
  (by decide +kernel : ∀ t : Fin grid0.N, _)

theorem flush6 : ∀ t : Fin cfg0.N, (cfg0.win 6).flush t = true → t.val % 2 = 1 := by decide +kernel
theorem flush7 : ∀ t : Fin cfg0.N, (cfg0.win 7).flush t = true → t.val % 2 = 1 := by decide +kernel

theorem read_scratch (h : (Memref.whole cc0_scratch0 : Memref sig .tc .vmem S512x1024 .f32).IsWhole) (w : FVec Ideal S512x1024 .f32) :
    View.read (Elt Ideal) (View.whole cc0_scratch0) (h.unread w) = w := h.read_unread (Val := Elt Ideal) w

/-- One step's four products, of the four shards a block holds. -/
def quad (a : FVec Ideal S4x512x704 .bf16) (b : FVec Ideal S4x1024x704 .bf16) : FVec Ideal S512x1024 .f32 :=
  k0_pay11 (F := Ideal) (View.ld (Val := Elt Ideal) (S := S4x512x704) (e' := .bf16) a (Rect.unit (s := S4x512x704) ![0, 0, 0] ![1, 512, 704] inb_S4x512x704_S1x512x704_0_0_0)) (View.ld (Val := Elt Ideal) (S := S4x1024x704) (e' := .bf16) b (Rect.unit (s := S4x1024x704) ![0, 0, 0] ![1, 1024, 704] inb_S4x1024x704_S1x1024x704_0_0_0)) (View.ld (Val := Elt Ideal) (S := S4x512x704) (e' := .bf16) a (Rect.unit (s := S4x512x704) ![1, 0, 0] ![1, 512, 704] inb_S4x512x704_S1x512x704_1_0_0)) (View.ld (Val := Elt Ideal) (S := S4x1024x704) (e' := .bf16) b (Rect.unit (s := S4x1024x704) ![1, 0, 0] ![1, 1024, 704] inb_S4x1024x704_S1x1024x704_1_0_0)) (View.ld (Val := Elt Ideal) (S := S4x512x704) (e' := .bf16) a (Rect.unit (s := S4x512x704) ![2, 0, 0] ![1, 512, 704] inb_S4x512x704_S1x512x704_2_0_0)) (View.ld (Val := Elt Ideal) (S := S4x1024x704) (e' := .bf16) b (Rect.unit (s := S4x1024x704) ![2, 0, 0] ![1, 1024, 704] inb_S4x1024x704_S1x1024x704_2_0_0)) (View.ld (Val := Elt Ideal) (S := S4x512x704) (e' := .bf16) a (Rect.unit (s := S4x512x704) ![3, 0, 0] ![1, 512, 704] inb_S4x512x704_S1x512x704_3_0_0)) (View.ld (Val := Elt Ideal) (S := S4x1024x704) (e' := .bf16) b (Rect.unit (s := S4x1024x704) ![3, 0, 0] ![1, 1024, 704] inb_S4x1024x704_S1x1024x704_3_0_0))

theorem quad_at (a : FVec Ideal S4x512x704 .bf16) (b : FVec Ideal S4x1024x704 .bf16) (r : Fin 512) (j : Fin 1024) :
    quad a b (ix2 r j) = ((∑ l : Fin 704, a (ix3 0 r l) * b (ix3 0 j l) + ∑ l : Fin 704, a (ix3 1 r l) * b (ix3 1 j l))
      + ∑ l : Fin 704, a (ix3 2 r l) * b (ix3 2 j l)) + ∑ l : Fin 704, a (ix3 3 r l) * b (ix3 3 j l) := by
  pointwise [quad, k0_pay11, View.ld]

theorem scr_A (c : Dev nD) (t : Fin cfg0.N) (h : t.val % 2 = 0) (r : Fin 512) (j : Fin 1024) :
    (outsAt0 m c t.val t.isLt).2.2 (ix2 r j) = quad (iblk m c 0 t) (iblk m c 1 t) (ix2 r j) := by
  rw [outsAt0_A m c t h (by omega) (by omega)]
  frame_out
  unfold quad
  pointwise [k0_pay12]

/-- The whole product of a tile, at its second step. -/
def full (a : FVec Ideal S4x512x704 .bf16) (b : FVec Ideal S4x1024x704 .bf16) (w : FVec Ideal S512x1024 .f32) : FVec Ideal S512x1024 .f32 := k0_pay1 (F := Ideal) (quad a b) w

theorem full_at (a : FVec Ideal S4x512x704 .bf16) (b : FVec Ideal S4x1024x704 .bf16) (w : FVec Ideal S512x1024 .f32) (r : Fin 512) (j : Fin 1024) :
    full a b w (ix2 r j) = w (ix2 r j) + quad a b (ix2 r j) := by
  pointwise [full, k0_pay1]

theorem out_C6 (c : Dev nD) (t : Fin cfg0.N) (h : t.val % 2 = 1) :
    (outsAt0 m c t.val t.isLt).1 = k0_pay7 (F := Ideal) (full (iblk m c 0 t) (iblk m c 1 t) (outsAt0 m c (t.val - 1) (Nat.lt_of_le_of_lt (Nat.sub_le _ _) t.isLt)).2.2)
      (iblk m c 2 t) (iblk m c 4 t) (iblk m c 5 t) (iblk m c 3 t) := by
  rw [outsAt0_B m c t (by omega) (by omega) (by omega)]
  funext y
  frame_out
  simp only [read_scratch]
  unfold full quad
  rfl

theorem out_C7 (c : Dev nD) (t : Fin cfg0.N) (h : t.val % 2 = 1) (A : FVec Ideal S512x1024 .f32) (hA : full (iblk m c 0 t) (iblk m c 1 t) (outsAt0 m c (t.val - 1) (Nat.lt_of_le_of_lt (Nat.sub_le _ _) t.isLt)).2.2 = A) :
    (outsAt0 m c t.val t.isLt).2.1 = k0_pay2 (F := Ideal) (k0_pay6 (iblk m c 5 t)) (k0_pay8 A (iblk m c 2 t)) (k0_pay9 A) (k0_pay10 A (iblk m c 2 t) (iblk m c 4 t)) := by
  rw [outsAt0_B m c t (by omega) (by omega) (by omega), ← hA]
  funext y
  frame_out
  simp only [read_scratch]
  unfold full quad
  rfl

theorem pay9_at (P X : FVec Ideal S512x1024 .f32) (g : FVec Ideal S1x1024 .f32) (s : FVec Ideal S1x1x1024 .f32) (o : FVec Ideal S512x1024 .f32) (r : Fin 512) (j : Fin 1024) :
    k0_pay7 (F := Ideal) P X g s o (ix2 r j) = o (ix2 r j) + Rms.dx (fun k => X (ix2 r k)) (fun k => P (ix2 r k) * ((1 : EReal) + s (ix3 0 0 k)) * g (ix2 0 k)) 1024 eps j := by
  unfold Rms.dx Rms.rs Rms.ms
  rw [← Rms.lit_1024, ← Rms.lit_eps]
  have e : ∀ k, P (ix2 r k) * ((1 : EReal) + s (ix3 0 0 k)) * g (ix2 0 k) = P (ix2 r k) * (g (ix2 0 k) * ((1 : EReal) + s (ix3 0 0 k))) := fun k => by
    rw [mul_assoc, mul_comm (g _)]
  simp only [e]
  pointwise [k0_pay7, k0_pay6, k0_pay5, k0_pay4, k0_pay3]

theorem pay4_0 (P X : FVec Ideal S512x1024 .f32) (g : FVec Ideal S1x1024 .f32) (s : FVec Ideal S1x1x1024 .f32) (j : Fin 1024) :
    k0_pay2 (F := Ideal) (k0_pay6 s) (k0_pay8 P X) (k0_pay9 P) (k0_pay10 P X g) (ix3 0 0 j) = ∑ r : Fin 512, P (ix2 r j) := by
  pointwise [k0_pay2, k0_pay6, k0_pay8, k0_pay9, k0_pay10, k0_pay5, k0_pay4, k0_pay3]
  rw [show IntOp.cmpi CmpIPredicate.eq 0#32 2#32 = 0#1 from by decide, show IntOp.cmpi CmpIPredicate.eq 0#32 1#32 = 0#1 from by decide]
  rfl

theorem pay4_1 (P X : FVec Ideal S512x1024 .f32) (g : FVec Ideal S1x1024 .f32) (s : FVec Ideal S1x1x1024 .f32) (j : Fin 1024) :
    k0_pay2 (F := Ideal) (k0_pay6 s) (k0_pay8 P X) (k0_pay9 P) (k0_pay10 P X g) (ix3 0 1 j)
      = ∑ r : Fin 512, P (ix2 r j) * (X (ix2 r j) * Rms.rs (fun k => X (ix2 r k)) 1024 eps) * g (ix2 0 j) := by
  unfold Rms.rs Rms.ms
  rw [← Rms.lit_1024, ← Rms.lit_eps]
  pointwise [k0_pay2, k0_pay6, k0_pay8, k0_pay9, k0_pay10, k0_pay5, k0_pay4, k0_pay3]
  rw [show IntOp.cmpi CmpIPredicate.eq 1#32 2#32 = 0#1 from by decide]
  rfl

theorem pay4_2 (P X : FVec Ideal S512x1024 .f32) (g : FVec Ideal S1x1024 .f32) (s : FVec Ideal S1x1x1024 .f32) (j : Fin 1024) :
    k0_pay2 (F := Ideal) (k0_pay6 s) (k0_pay8 P X) (k0_pay9 P) (k0_pay10 P X g) (ix3 0 2 j)
      = ∑ r : Fin 512, P (ix2 r j) * (X (ix2 r j) * Rms.rs (fun k => X (ix2 r k)) 1024 eps) * ((1 : EReal) + s (ix3 0 0 j)) := by
  unfold Rms.rs Rms.ms
  rw [← Rms.lit_1024, ← Rms.lit_eps]
  pointwise [k0_pay2, k0_pay6, k0_pay8, k0_pay9, k0_pay10, k0_pay5, k0_pay4, k0_pay3]

section refs
variable (A : FVec Ideal S8192x5632 .bf16) (W : FVec Ideal S1024x5632 .f32) (X O : FVec Ideal S8192x1024 .f32) (G : FVec Ideal S1024 .f32) (S : FVec Ideal S2x1024 .f32)

/-- The cotangent of the modulated norm, one entry of the product with the transposed weight. -/
def pr (n : Fin 8192) (j : Fin 1024) : EReal := ∑ l : Fin 5632, A (ix2 n l) * W (ix2 j l)
/-- The normed row. -/
def hat (n : Fin 8192) (j : Fin 1024) : EReal := X (ix2 n j) * Rms.rs (fun k => X (ix2 n k)) 1024 eps
theorem refDX (n : Fin 8192) (j : Fin 1024) : val_main_v61 (F := Ideal) A W X O G S (ix2 n j)
    = O (ix2 n j) + Rms.dx (fun k => X (ix2 n k)) (fun k => pr A W n k * ((1 : EReal) + S (ix2 (bt n) k)) * G (ix1 k)) 1024 eps j := by
  rw [Rms.dx_eq _ _ _ _ (by norm_num) (by norm_num)]
  unfold Rms.fac Rms.rs Rms.ms pr
  rw [← Rms.lit_1024, ← Rms.lit_eps, ← Rms.lit_nhalf]
  unfold val_main_v61 val_main_v60 val_main_v59 val_main_v58 val_main_v57 val_main_v56 val_main_cst_13 val_main_v55 val_main_v54 val_main_cst_12 val_main_v53 val_main_v52 val_main_v51 val_main_v50 val_main_v49 val_main_v48 val_main_cst_11 val_main_v47 val_main_v46 val_main_v44 val_main_v43 val_main_v38 val_main_v37 val_main_v30 val_main_v29 val_main_v28 val_main_v20 val_main_v19 val_main_v18 val_main_cst_4 val_main_v15 val_main_v11 val_main_v10 val_main_cst_3 val_main_v9 val_main_v8 val_main_v7 val_main_v6 val_main_cst_2 val_main_v5 val_main_v4 val_main_cst_1 val_main_v3 val_main_v2 val_main_cst_0 val_main_v1
  pointwise
  simp only [Finset.univ_unique, Finset.sum_singleton, add_assoc]

theorem refDG (j : Fin 1024) : val_main_v45 (F := Ideal) A W X S (ix1 j)
    = ∑ n : Fin 8192, pr A W n j * hat X n j * ((1 : EReal) + S (ix2 (bt n) j)) := by
  unfold hat Rms.rs Rms.ms pr
  rw [← Rms.lit_1024, ← Rms.lit_eps]
  unfold val_main_v45 val_main_cst_10 val_main_v42 val_main_v41 val_main_cst_9 val_main_v40 val_main_v38 val_main_v37 val_main_v30 val_main_v29 val_main_v28 val_main_v20 val_main_v19 val_main_v18 val_main_cst_4 val_main_v14 val_main_v13 val_main_v12 val_main_v8 val_main_v7 val_main_v6 val_main_cst_2 val_main_v5 val_main_v4 val_main_cst_1 val_main_v3 val_main_v2 val_main_cst_0 val_main_v1
  pointwise [Rms.sum01, Rms.third]
  simp only [Finset.univ_unique, Finset.sum_singleton]
  refine Fin.sum_mul_add_congr (S := 2) (n := 4096) (L := 8192) (fun s k hl => ?_) (by norm_num)
  have e : bt ⟨s.val * 4096 + k.val, hl⟩ = s := Fin.ext (by dsimp only; omega)
  rw [e, mul_comm (X _ * _), mul_assoc, mul_comm ((1 : EReal) + _), ← mul_assoc]

theorem refDS (b : Fin 2) (j : Fin 1024) : val_main_v39 (F := Ideal) A W X G (ix2 b j)
    = ∑ n : Fin 4096, pr A W ⟨b.val * 4096 + n.val, by omega⟩ j * hat X ⟨b.val * 4096 + n.val, by omega⟩ j * G (ix1 j) := by
  unfold hat Rms.rs Rms.ms pr
  rw [← Rms.lit_1024, ← Rms.lit_eps]
  unfold val_main_v39 val_main_cst_8 val_main_v36 val_main_v35 val_main_cst_7 val_main_v34 val_main_v30 val_main_v29 val_main_v28 val_main_v17 val_main_v16 val_main_v15 val_main_v14 val_main_v13 val_main_v12 val_main_v8 val_main_v7 val_main_v6 val_main_cst_2 val_main_v5 val_main_v4 val_main_cst_1 val_main_v3 val_main_v2 val_main_cst_0 val_main_v1
  pointwise
  simp only [Finset.univ_unique, Finset.sum_singleton]
  exact Finset.sum_congr rfl fun n _ => by rw [mul_comm, mul_assoc, mul_assoc, mul_assoc]

theorem refDH (b : Fin 2) (j : Fin 1024) : val_main_v33 (F := Ideal) A W (ix2 b j)
    = ∑ n : Fin 4096, pr A W ⟨b.val * 4096 + n.val, by omega⟩ j := by
  unfold pr
  unfold val_main_v33 val_main_cst_6 val_main_v32 val_main_v31 val_main_cst_5 val_main_v30 val_main_v29 val_main_v28
  pointwise
  simp only [Finset.univ_unique, Finset.sum_singleton]
  done
end refs

/-- One token's part of each of the three sums over tokens. -/
def partG (A : FVec Ideal S8192x5632 .bf16) (W : FVec Ideal S1024x5632 .f32) (X : FVec Ideal S8192x1024 .f32) (S : FVec Ideal S2x1024 .f32) (j : Fin 1024) (n : Fin 8192) : EReal :=
  pr A W n j * hat X n j * ((1 : EReal) + S (ix2 (bt n) j))
def partS (A : FVec Ideal S8192x5632 .bf16) (W : FVec Ideal S1024x5632 .f32) (X : FVec Ideal S8192x1024 .f32) (G : FVec Ideal S1024 .f32) (j : Fin 1024) (n : Fin 8192) : EReal :=
  pr A W n j * hat X n j * G (ix1 j)

/-- The arguments as the kernel finds them. -/
abbrev A (c : Dev nD) : FVec Ideal S8192x5632 .bf16 := m (c.tc.loc main_arg0)
abbrev W (c : Dev nD) : FVec Ideal S1024x5632 .f32 := m (c.tc.loc main_arg1)
abbrev X (c : Dev nD) : FVec Ideal S8192x1024 .f32 := m (c.tc.loc main_arg2)
abbrev O (c : Dev nD) : FVec Ideal S8192x1024 .f32 := m (c.tc.loc main_arg3)
abbrev G (c : Dev nD) : FVec Ideal S1024 .f32 := m (c.tc.loc main_arg4)
abbrev S (c : Dev nD) : FVec Ideal S2x1024 .f32 := m (c.tc.loc main_arg5)

theorem V_all (c : Dev nD) : (V m c main_v5 : FVec Ideal S1x1024 .f32) = broadcastInDim S1x1024 ![1] bcast_S1024_S1x1024_1 (G m c) ∧
    (V m c main_v6 : FVec Ideal S2x1x1024 .f32) = broadcastInDim S2x1x1024 ![0, 2] bcast_S2x1024_S2x1x1024_0_2 (S m c) ∧
    (V m c main_v1 : FVec Ideal S8x8192x704 .bf16) = transpose S8x8192x704 [1, 0, 2] (shapeCast S8192x8x704 (A m c) shapeCasts_S8192x5632_S8192x8x704) transposes_S8192x8x704_S8x8192x704_1_0_2 ∧
    (V m c main_v4 : FVec Ideal S8x1024x704 .bf16) = transpose S8x1024x704 [1, 0, 2] (shapeCast S1024x8x704 (W m c) shapeCasts_S1024x5632_S1024x8x704) transposes_S1024x8x704_S8x1024x704_1_0_2 := by
  refine ⟨?_, ?_, ?_, ?_⟩ <;> (show StableHlo.after (List.flatten [hostOps0]) (fun b => m (c, b)) _ = _; dsimp only [hostOps0, List.flatten_cons, List.flatten_nil, List.append_nil, List.cons_append, List.nil_append]; after_results <;> rfl)

theorem V_g (c : Dev nD) (j : Fin 1024) : (V m c main_v5 : FVec Ideal S1x1024 .f32) (ix2 0 j) = G m c (ix1 j) := by
  rw [(V_all m c).1]
  pointwise

theorem V_s (c : Dev nD) (b : Fin 2) (j : Fin 1024) : (V m c main_v6 : FVec Ideal S2x1x1024 .f32) (ix3 b 0 j) = S m c (ix2 b j) := by
  rw [(V_all m c).2.1]
  pointwise

theorem V_a (c : Dev nD) (n : Fin 8192) (s : Fin 8) (l : Fin 704) (q : Fin 5632) (hq : q.val = s.val * 704 + l.val) : (V m c main_v1 : FVec Ideal S8x8192x704 .bf16) (ix3 s n l) = A m c (ix2 n q) := by
  rw [(V_all m c).2.2.1, show q = ⟨s.val * 704 + l.val, by omega⟩ from Fin.ext hq]
  pointwise

theorem V_w (c : Dev nD) (j : Fin 1024) (s : Fin 8) (l : Fin 704) (q : Fin 5632) (hq : q.val = s.val * 704 + l.val) : (V m c main_v4 : FVec Ideal S8x1024x704 .bf16) (ix3 s j l) = W m c (ix2 j q) := by
  rw [(V_all m c).2.2.2, show q = ⟨s.val * 704 + l.val, by omega⟩ from Fin.ext hq]
  pointwise

/-- One shard's part of the product. -/
def sh (A : FVec Ideal S8192x5632 .bf16) (W : FVec Ideal S1024x5632 .f32) (n : Fin 8192) (j : Fin 1024) (s : Fin 8) : EReal :=
  ∑ l : Fin 704, A (ix2 n ⟨s.val * 704 + l.val, by omega⟩) * W (ix2 j ⟨s.val * 704 + l.val, by omega⟩)

theorem pr_split (A : FVec Ideal S8192x5632 .bf16) (W : FVec Ideal S1024x5632 .f32) (n : Fin 8192) (j : Fin 1024) :
    (((sh A W n j 0 + sh A W n j 1) + sh A W n j 2) + sh A W n j 3) + (((sh A W n j 4 + sh A W n j 5) + sh A W n j 6) + sh A W n j 7) = pr A W n j := by
  have e : ∑ s : Fin 8, sh A W n j s = pr A W n j :=
    Fin.sum_mul_add_congr (S := 8) (n := 704) (L := 5632) (fun s k hl => rfl) (by norm_num)
  rw [← e, Fin.sum_univ_eight]
  simp only [add_assoc]

section blocks
variable (c : Dev nD) (t : Fin cfg0.N) (n : Fin 8192) (r : Fin 512) (hn : n.val = t.val / 2 * 512 + r.val)

include hn in
theorem blk2 (k : Fin 1024) : (iblk m c 2 t : FVec Ideal S512x1024 .f32) (ix2 r k) = X m c (ix2 n k) := by
  blk_point [iblk, V, idx t]
include hn in
theorem blk3 (k : Fin 1024) : (iblk m c 3 t : FVec Ideal S512x1024 .f32) (ix2 r k) = O m c (ix2 n k) := by
  blk_point [iblk, V, idx t]
theorem blk4 (j : Fin 1024) : (iblk m c 4 t : FVec Ideal S1x1024 .f32) (ix2 0 j) = G m c (ix1 j) := by
  refine Eq.trans ?_ (V_g m c j)
  blk_point [iblk, idx t]
include hn in
theorem blk5 (j : Fin 1024) : (iblk m c 5 t : FVec Ideal S1x1x1024 .f32) (ix3 0 0 j) = S m c (ix2 (bt n) j) := by
  refine Eq.trans ?_ (V_s m c (bt n) j)
  blk_point [iblk, idx t]
end blocks

theorem ht (t : Fin cfg0.N) (r : Fin 512) : t.val / 2 * 512 + r.val < 8192 := by
  have h : t.val < 32 := t.isLt
  omega

theorem blk0 (c : Dev nD) (t : Fin cfg0.N) (n : Fin 8192) (r : Fin 512) (hn : n.val = t.val / 2 * 512 + r.val) (s : Fin 4) (u : Fin 8) (hu : u.val = t.val % 2 * 4 + s.val) (l : Fin 704) (q : Fin 5632) (hq : q.val = u.val * 704 + l.val) :
    (iblk m c 0 t : FVec Ideal S4x512x704 .bf16) (ix3 s r l) = A m c (ix2 n q) := by
  refine Eq.trans ?_ (V_a m c n u l q hq)
  blk_point [iblk, idx t]
theorem blk1 (c : Dev nD) (t : Fin cfg0.N) (j : Fin 1024) (s : Fin 4) (u : Fin 8) (hu : u.val = t.val % 2 * 4 + s.val) (l : Fin 704) (q : Fin 5632) (hq : q.val = u.val * 704 + l.val) :
    (iblk m c 1 t : FVec Ideal S4x1024x704 .bf16) (ix3 s j l) = W m c (ix2 j q) := by
  refine Eq.trans ?_ (V_w m c j u l q hq)
  blk_point [iblk, idx t]

theorem quad_eq (A : FVec Ideal S8192x5632 .bf16) (W : FVec Ideal S1024x5632 .f32) (a : FVec Ideal S4x512x704 .bf16) (b : FVec Ideal S4x1024x704 .bf16) (r : Fin 512) (j : Fin 1024) (n : Fin 8192) (u : Fin 4 → Fin 8)
    (ha : ∀ (s : Fin 4) (l : Fin 704), a (ix3 s r l) = A (ix2 n ⟨(u s).val * 704 + l.val, by omega⟩)) (hb : ∀ (s : Fin 4) (l : Fin 704), b (ix3 s j l) = W (ix2 j ⟨(u s).val * 704 + l.val, by omega⟩)) :
    quad a b (ix2 r j) = ((sh A W n j (u 0) + sh A W n j (u 1)) + sh A W n j (u 2)) + sh A W n j (u 3) := by
  rw [quad_at]
  simp only [ha, hb]
  rfl

theorem step (c : Dev nD) (t : Fin cfg0.N) (k : ℕ) (hk : t.val % 2 = k) (n : Fin 8192) (r : Fin 512) (hn : n.val = t.val / 2 * 512 + r.val) (j : Fin 1024) (u : Fin 4 → Fin 8) (hu : ∀ s : Fin 4, (u s).val = k * 4 + s.val) :
    quad (iblk m c 0 t) (iblk m c 1 t) (ix2 r j) = ((sh (A m c) (W m c) n j (u 0) + sh (A m c) (W m c) n j (u 1)) + sh (A m c) (W m c) n j (u 2)) + sh (A m c) (W m c) n j (u 3) :=
  quad_eq (A m c) (W m c) _ _ r j n u (fun s l => blk0 m c t n r hn s (u s) ((hu s).trans (congrArg (· * 4 + s.val) hk.symm)) l _ rfl)
    (fun s l => blk1 m c t j s (u s) ((hu s).trans (congrArg (· * 4 + s.val) hk.symm)) l _ rfl)

/-- At the last step of a tile the accumulator holds the whole product. -/
theorem acc (c : Dev nD) (t : Fin cfg0.N) (h : t.val % 2 = 1) (n : Fin 8192) (r : Fin 512) (hn : n.val = t.val / 2 * 512 + r.val) (j : Fin 1024) :
    full (iblk m c 0 t) (iblk m c 1 t) (outsAt0 m c (t.val - 1) (Nat.lt_of_le_of_lt (Nat.sub_le _ _) t.isLt)).2.2 (ix2 r j) = pr (A m c) (W m c) n j := by
  have l1 : t.val - 1 < cfg0.N := Nat.lt_of_le_of_lt (Nat.sub_le _ _) t.isLt
  have hA := scr_A m c ⟨t.val - 1, l1⟩ (by dsimp only; omega) r j
  dsimp only at hA
  rw [full_at, hA, step m c t 1 h n r hn j ![4, 5, 6, 7] (fun s => by fin_cases s <;> rfl),
    step m c ⟨t.val - 1, l1⟩ 0 (by dsimp only; omega) n r (by dsimp only; omega) j ![0, 1, 2, 3] (fun s => by fin_cases s <;> rfl)]
  exact pr_split (A m c) (W m c) n j

theorem point6 (c : Dev nD) (t : Fin cfg0.N) (P : FVec Ideal S512x1024 .f32) (hP : ∀ (r : Fin 512) (j : Fin 1024), P (ix2 r j) = pr (A m c) (W m c) ⟨t.val / 2 * 512 + r.val, ht t r⟩ j) (y : S512x1024.Idx) :
    k0_pay7 (F := Ideal) P (iblk m c 2 t) (iblk m c 4 t) (iblk m c 5 t) (iblk m c 3 t) y
    = val_main_v61 (F := Ideal) (A m c) (W m c) (X m c) (O m c) (G m c) (S m c) (((cfg0.win 6).blk t).view.emb y) := by
  obtain ⟨r, j, rfl⟩ : ∃ (r : Fin 512) (j : Fin 1024), y = ix2 r j := ⟨y 0, y 1, eq_ix2 y⟩
  have he : ((cfg0.win 6).blk t).view.emb (ix2 r j : S512x1024.Idx) = (ix2 ⟨t.val / 2 * 512 + r.val, ht t r⟩ j : S8192x1024.Idx) := by
    blk_ext [idx t]
  have h2 := blk2 m c t ⟨t.val / 2 * 512 + r.val, ht t r⟩ r rfl
  have h3 := blk3 m c t ⟨t.val / 2 * 512 + r.val, ht t r⟩ r rfl
  have h5 := blk5 m c t ⟨t.val / 2 * 512 + r.val, ht t r⟩ r rfl
  rw [he, refDX, pay9_at]
  simp only [h2, h3, h5, blk4 m c t, hP]

theorem final6 (c : Dev nD) : (dats m 0 c).arrAt 6 (cfgs 0).N = val_main_v61 (F := Ideal) (A m c) (W m c) (X m c) (O m c) (G m c) (S m c) := by
  refine (dats m 0 c).arrAt_eq_of_covers 6 _ (by decide +kernel) fun t hf y => ?_
  blk_simp
  rw [after0_6, out_C6 m c t (flush6 t hf)]
  exact point6 m c t _ (fun r j => acc m c t (flush6 t hf) ⟨t.val / 2 * 512 + r.val, ht t r⟩ r rfl j) y

/-- A tile's three rows of column sums. -/
theorem point7 (c : Dev nD) (t : Fin cfg0.N) (P : FVec Ideal S512x1024 .f32) (n : Fin 16) (hn : n.val = t.val / 2)
    (hP : ∀ (r : Fin 512) (j : Fin 1024), P (ix2 r j) = pr (A m c) (W m c) ⟨n.val * 512 + r.val, by omega⟩ j) (j : Fin 1024) :
    k0_pay2 (F := Ideal) (k0_pay6 (iblk m c 5 t)) (k0_pay8 P (iblk m c 2 t)) (k0_pay9 P) (k0_pay10 P (iblk m c 2 t) (iblk m c 4 t)) (ix3 0 0 j) = ∑ r : Fin 512, pr (A m c) (W m c) ⟨n.val * 512 + r.val, by omega⟩ j
    ∧ k0_pay2 (F := Ideal) (k0_pay6 (iblk m c 5 t)) (k0_pay8 P (iblk m c 2 t)) (k0_pay9 P) (k0_pay10 P (iblk m c 2 t) (iblk m c 4 t)) (ix3 0 1 j) = ∑ r : Fin 512, partS (A m c) (W m c) (X m c) (G m c) j ⟨n.val * 512 + r.val, by omega⟩
    ∧ k0_pay2 (F := Ideal) (k0_pay6 (iblk m c 5 t)) (k0_pay8 P (iblk m c 2 t)) (k0_pay9 P) (k0_pay10 P (iblk m c 2 t) (iblk m c 4 t)) (ix3 0 2 j) = ∑ r : Fin 512, partG (A m c) (W m c) (X m c) (S m c) j ⟨n.val * 512 + r.val, by omega⟩ := by
  have h2 : ∀ r : Fin 512, _ := fun r => blk2 m c t ⟨n.val * 512 + r.val, by omega⟩ r (congrArg (· * 512 + r.val) hn)
  have h5 : ∀ r : Fin 512, _ := fun r => blk5 m c t ⟨n.val * 512 + r.val, by omega⟩ r (congrArg (· * 512 + r.val) hn)
  refine ⟨?_, ?_, ?_⟩
  · rw [pay4_0]
    exact Finset.sum_congr rfl fun r _ => hP r j
  · rw [pay4_1]
    refine Finset.sum_congr rfl fun r _ => ?_
    simp only [h2 r, hP, blk4 m c t]
    rfl
  · rw [pay4_2]
    refine Finset.sum_congr rfl fun r _ => ?_
    simp only [h2 r, hP, h5 r]
    rfl

theorem tailG_arr (c : Dev nD) : Pipeline.afterTail₀ cfgs (dats m) 0 (V0 m) [hostOps1] c main_v10 = tailG ((dats m 0 c).arrAt 7 (cfgs 0).N) := by
  unfold Pipeline.afterTail₀
  simp only [hostOps1, List.flatten_cons, List.flatten_nil, List.append_nil]
  after_results
  exact congrArg tailG (Pipeline.withArrays_arr spec0 (by decide) c (V0 m c) (fun w => (dats m 0 c).arrAt w (cfgs 0).N) 7)
theorem tailS_arr (c : Dev nD) : Pipeline.afterTail₀ cfgs (dats m) 0 (V0 m) [hostOps1] c main_v14 = tailS ((dats m 0 c).arrAt 7 (cfgs 0).N) := by
  unfold Pipeline.afterTail₀
  simp only [hostOps1, List.flatten_cons, List.flatten_nil, List.append_nil]
  after_results
  exact congrArg tailS (Pipeline.withArrays_arr spec0 (by decide) c (V0 m c) (fun w => (dats m 0 c).arrAt w (cfgs 0).N) 7)
theorem tailH_arr (c : Dev nD) : Pipeline.afterTail₀ cfgs (dats m) 0 (V0 m) [hostOps1] c main_v18 = tailH ((dats m 0 c).arrAt 7 (cfgs 0).N) := by
  unfold Pipeline.afterTail₀
  simp only [hostOps1, List.flatten_cons, List.flatten_nil, List.append_nil]
  after_results
  exact congrArg tailH (Pipeline.withArrays_arr spec0 (by decide) c (V0 m c) (fun w => (dats m 0 c).arrAt w (cfgs 0).N) 7)

theorem arr7 (c : Dev nD) (j : Fin 1024) (n : Fin 16) (k : Fin 8) :
    (k.val = 0 → ((dats m 0 c).arrAt 7 (cfgs 0).N : FVec Ideal S16x8x1024 .f32) (ix3 n k j) = ∑ r : Fin 512, pr (A m c) (W m c) ⟨n.val * 512 + r.val, by omega⟩ j)
    ∧ (k.val = 1 → ((dats m 0 c).arrAt 7 (cfgs 0).N : FVec Ideal S16x8x1024 .f32) (ix3 n k j) = ∑ r : Fin 512, partS (A m c) (W m c) (X m c) (G m c) j ⟨n.val * 512 + r.val, by omega⟩)
    ∧ (k.val = 2 → ((dats m 0 c).arrAt 7 (cfgs 0).N : FVec Ideal S16x8x1024 .f32) (ix3 n k j) = ∑ r : Fin 512, partG (A m c) (W m c) (X m c) (S m c) j ⟨n.val * 512 + r.val, by omega⟩) := by
  refine ((dats m 0 c).arrAt_forall_of_covers 7 (fun (i : S16x8x1024.Idx) (v : EReal) => ∀ (n : Fin 16), (i 0).val = n.val → (i 2).val = j.val →
    ((i 1).val = 0 → v = ∑ r : Fin 512, pr (A m c) (W m c) ⟨n.val * 512 + r.val, by omega⟩ j)
    ∧ ((i 1).val = 1 → v = ∑ r : Fin 512, partS (A m c) (W m c) (X m c) (G m c) j ⟨n.val * 512 + r.val, by omega⟩)
    ∧ ((i 1).val = 2 → v = ∑ r : Fin 512, partG (A m c) (W m c) (X m c) (S m c) j ⟨n.val * 512 + r.val, by omega⟩))
    (by decide +kernel) (fun t hf y => ?_) (ix3 n k j)) n rfl rfl
  blk_simp [idx t]
  rw [after0_7, out_C7 m c t (flush7 t hf) _ rfl]
  intro n' hn h2
  have hn' : n'.val = t.val / 2 := by rw [← hn]
  have hy : ∀ k : Fin 8, (y 1).val = k.val → y = (ix3 0 k j : S1x8x1024.Idx) := fun k hk => by
    funext x
    fin_cases x
    · exact Fin.ext (Nat.lt_one_iff.mp (y 0).isLt)
    · exact Fin.ext hk
    · exact Fin.ext h2
  obtain ⟨p0, p1, p2⟩ := point7 m c t _ n' hn' (fun r j => acc m c t (flush7 t hf) ⟨n'.val * 512 + r.val, by omega⟩ r (congrArg (· * 512 + r.val) hn') j) j
  exact ⟨fun h => by rw [hy 0 h]; exact p0, fun h => by rw [hy 1 h]; exact p1, fun h => by rw [hy 2 h]; exact p2⟩

section tails
variable (A : FVec Ideal S8192x5632 .bf16) (W : FVec Ideal S1024x5632 .f32) (X : FVec Ideal S8192x1024 .f32) (G : FVec Ideal S1024 .f32) (S : FVec Ideal S2x1024 .f32)
  (B : FVec Ideal S16x8x1024 .f32)

theorem tailG_eq (hb : ∀ (j : Fin 1024) (n : Fin 16), B (ix3 n 2 j) = ∑ r : Fin 512, partG A W X S j ⟨n.val * 512 + r.val, by omega⟩) :
    tailG B = val_main_v45 (F := Ideal) A W X S := by
  funext i
  obtain ⟨j, rfl⟩ : ∃ j : Fin 1024, i = ix1 j := ⟨i 0, eq_ix1 i⟩
  rw [tailG_at, refDG, Finset.sum_congr rfl fun n _ => hb j n]
  exact Fin.sum_mul_add_congr (S := 16) (n := 512) (L := 8192) (fun s k hl => rfl) (by norm_num)

theorem tailS_eq (hb : ∀ (j : Fin 1024) (n : Fin 16), B (ix3 n 1 j) = ∑ r : Fin 512, partS A W X G j ⟨n.val * 512 + r.val, by omega⟩) :
    tailS B = val_main_v39 (F := Ideal) A W X G := by
  funext i
  obtain ⟨b, j, rfl⟩ : ∃ (b : Fin 2) (j : Fin 1024), i = ix2 b j := ⟨i 0, i 1, eq_ix2 i⟩
  rw [tailS_at, refDS, Finset.sum_congr rfl fun k _ => hb j _]
  exact Fin.sum_mul_add_congr (S := 8) (n := 512) (L := 4096) (fun s k hl => congrArg (partS A W X G j) (Fin.ext (by dsimp only; omega))) (by norm_num)

theorem tailH_eq (hb : ∀ (j : Fin 1024) (n : Fin 16), B (ix3 n 0 j) = ∑ r : Fin 512, pr A W ⟨n.val * 512 + r.val, by omega⟩ j) :
    tailH B = val_main_v33 (F := Ideal) A W := by
  funext i
  obtain ⟨b, j, rfl⟩ : ∃ (b : Fin 2) (j : Fin 1024), i = ix2 b j := ⟨i 0, i 1, eq_ix2 i⟩
  rw [tailH_at, refDH, Finset.sum_congr rfl fun k _ => hb j _]
  exact Fin.sum_mul_add_congr (S := 8) (n := 512) (L := 4096) (fun s k hl => congrArg (fun n => pr A W n j) (Fin.ext (by dsimp only; omega))) (by norm_num)
end tails

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v7_0) = val_main_v61 (F := Ideal) (A m c) (W m c) (X m c) (O m c) (G m c) (S m c)
      ∧ r.2.mem (c.tc.loc main_v10) = val_main_v45 (F := Ideal) (A m c) (W m c) (X m c) (S m c)
      ∧ r.2.mem (c.tc.loc main_v14) = val_main_v39 (F := Ideal) (A m c) (W m c) (X m c) (G m c)
      ∧ r.2.mem (c.tc.loc main_v18) = val_main_v33 (F := Ideal) (A m c) (W m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  refine (θ_run defs _ _).mono (fun r h c => ?_) (θ_run_and (run_main m g) (unchanged m g))
  exact ⟨((h.1 c).1 6).trans (final6 m c),
    (((h.1 c).2 main_v10 (Pipeline.mem_restRefs_of main_v10 (by decide) (by decide))).trans (tailG_arr m c)).trans (tailG_eq _ _ _ _ _ fun j n => (arr7 m c j n 2).2.2 rfl),
    (((h.1 c).2 main_v14 (Pipeline.mem_restRefs_of main_v14 (by decide) (by decide))).trans (tailS_arr m c)).trans (tailS_eq _ _ _ _ _ fun j n => (arr7 m c j n 1).2.1 rfl),
    (((h.1 c).2 main_v18 (Pipeline.mem_restRefs_of main_v18 (by decide) (by decide))).trans (tailH_arr m c)).trans (tailH_eq _ _ _ fun j n => (arr7 m c j n 0).1 rfl), h.2 c⟩

end Cert.FfUpIdeal.Val

end
-- ==== Proof.ActFwd.lean ====
module

public import proofs.«01_k».proof.Proof.Gen.ActIdeal.Frame
public import proofs.«01_k».proof.Proof.Kit

@[expose] public section

set_option maxRecDepth 16384

noncomputable section

open Idealize.ShloMosaic Idealize.ShloMosaic.TcCoe Idealize.SL.Sem
open Idealize.ShloMosaic.Pipeline (Dat)

namespace Cert.ActIdeal.Val

open Cert.ActIdeal Cert.ActIdeal.Gen

variable (m : (ℓ : Loc nD τ sig) → Buf (Elt Ideal) ℓ) (ρ : Dev nD → PrngReg)

theorem idx0 : ∀ t : Fin cfg0.N, win0_0.index t = ![t.val % 16, 0] ∧ win0_1.index t = ![t.val / 16, 0, 0] ∧ win0_2.index t = ![t.val / 16 + 4, 0, 0]
    ∧ win0_3.index t = ![t.val / 16, t.val % 16, 0] ∧ win0_4.index t = ![0, t.val / 16, t.val % 16, 0] :=
  (by decide +kernel : ∀ t : Fin grid0.N, _)

theorem idx1 : ∀ t : Fin cfg1.N, win1_0.index t = ![t.val / 4, 0] ∧ win1_1.index t = ![t.val % 4, 0]
    ∧ win1_2.index t = ![0, t.val % 4, t.val / 4, 0] ∧ win1_3.index t = ![0, t.val % 4, t.val / 4, 0] :=
  (by decide +kernel : ∀ t : Fin grid1.N, _)

/-- The logistic function, as both programs write it. -/
def sg (g : EReal) : EReal := Ideal.div (1 : EReal) ((1 : EReal) + Ideal.exp ((0 : EReal) - g))
/-- The gate's value times itself. -/
def act (g : EReal) : EReal := g * sg g
/-- The derivative by the gate's input, as the forward call leaves it. -/
def dact (g u : EReal) : EReal := u * (sg g * ((1 : EReal) + g * ((1 : EReal) - sg g)))

def gdot (a : FVec Ideal S512x1024 .bf16) (b : FVec Ideal S1x1024x704 .bf16) (r : Fin 512) (l : Fin 704) : EReal := ∑ k : Fin 1024, a (ix2 r k) * b (ix3 0 k l)

theorem pay6_at (a : FVec Ideal S512x1024 .bf16) (b b' : FVec Ideal S1x1024x704 .bf16) (r : Fin 512) (l : Fin 704) :
    k0_pay6 (F := Ideal) a b b' (ix3 0 r l) = act (gdot a b r l) * gdot a b' r l := by
  unfold act sg gdot
  pointwise [k0_pay6, k0_pay5, k0_pay4, k0_pay3, k0_pay2]

theorem pay7_at (a : FVec Ideal S512x1024 .bf16) (b b' : FVec Ideal S1x1024x704 .bf16) (r : Fin 512) (l : Fin 704) :
    k0_pay7 (F := Ideal) a b b' (ix4 0 0 r l) = dact (gdot a b r l) (gdot a b' r l) := by
  unfold dact sg gdot
  pointwise [k0_pay7, k0_pay5, k0_pay4, k0_pay3, k0_pay2]

theorem pay8_at (a : FVec Ideal S512x1024 .bf16) (b : FVec Ideal S1x1024x704 .bf16) (r : Fin 512) (l : Fin 704) :
    k0_pay1 (F := Ideal) (k0_pay8 a b) (ix4 0 0 r l) = act (gdot a b r l) := by
  unfold act sg gdot
  pointwise [k0_pay1, k0_pay8, k0_pay5, k0_pay4, k0_pay3, k0_pay2]

def pdot (a : FVec Ideal S512x1024 .bf16) (b : FVec Ideal S704x1024 .bf16) (r : Fin 512) (l : Fin 704) : EReal := ∑ k : Fin 1024, a (ix2 r k) * b (ix2 l k)

theorem pay2_at (a : FVec Ideal S512x1024 .bf16) (b : FVec Ideal S704x1024 .bf16) (v : FVec Ideal S1x1x512x704 .bf16) (r : Fin 512) (l : Fin 704) :
    k1_pay2 (F := Ideal) a b v (ix4 0 0 r l) = pdot a b r l * v (ix4 0 0 r l) := by
  unfold pdot
  pointwise [k1_pay2, k1_pay1]

theorem pay3_at (a : FVec Ideal S512x1024 .bf16) (b : FVec Ideal S704x1024 .bf16) (v : FVec Ideal S1x1x512x704 .bf16) (r : Fin 512) (l : Fin 704) :
    k1_pay3 (F := Ideal) a b v (ix4 0 0 r l) = pdot a b r l * v (ix4 0 0 r l) := by
  unfold pdot
  pointwise [k1_pay3, k1_pay1]

/-- Two planes stored one after the other are read back as stored. -/
theorem plane1 (p q : FVec Ideal S1x1x512x704 .bf16) (r : Fin 512) (l : Fin 704) :
    View.canon (Val := Elt Ideal) (e := .bf16) [⟨r0_4, q⟩, ⟨r0_3, p⟩] (ix4 1 0 r l : S2x1x512x704.Idx) = q (ix4 0 0 r l) := by
  have e : (ix4 1 0 r l : S2x1x512x704.Idx) = r0_4.emb (ix4 0 0 r l : S1x1x512x704.Idx) := by
    refine funext fun e => Fin.ext ?_
    fin_cases e <;> simp [Rect.unit, Rect.emb]
  rw [View.canon_cons, e, Rect.overlay_emb]

theorem plane0 (p q : FVec Ideal S1x1x512x704 .bf16) (r : Fin 512) (l : Fin 704) :
    View.canon (Val := Elt Ideal) (e := .bf16) [⟨r0_4, q⟩, ⟨r0_3, p⟩] (ix4 0 0 r l : S2x1x512x704.Idx) = p (ix4 0 0 r l) := by
  have e : (ix4 0 0 r l : S2x1x512x704.Idx) = r0_3.emb (ix4 0 0 r l : S1x1x512x704.Idx) := by
    refine funext fun e => Fin.ext ?_
    fin_cases e <;> simp [Rect.unit, Rect.emb]
  rw [View.canon_cons, Rect.overlay_of_not_mem, View.canon_cons, e, Rect.overlay_emb]
  rw [Rect.mem_set_unit]
  intro hall
  have h : 1 ≤ 0 ∧ 0 < 1 + 1 := hall 0
  omega

/-- What the forward call's blocks hold after a step. -/
theorem out3_at (a : FVec Ideal S512x1024 .bf16) (b b' : FVec Ideal S1x1024x704 .bf16) (r : Fin 512) (l : Fin 704) :
    out0_3 (F := Ideal) a b b' (ix3 0 r l) = act (gdot a b r l) * gdot a b' r l := by
  unfold out0_3
  frame_out
  exact pay6_at a b b' r l

theorem out4_0 (a : FVec Ideal S512x1024 .bf16) (b b' : FVec Ideal S1x1024x704 .bf16) (r : Fin 512) (l : Fin 704) :
    out0_4 (F := Ideal) a b b' (ix4 0 0 r l) = dact (gdot a b r l) (gdot a b' r l) := by
  unfold out0_4
  frame_out
  exact (plane0 _ _ r l).trans (pay7_at a b b' r l)

theorem out4_1 (a : FVec Ideal S512x1024 .bf16) (b b' : FVec Ideal S1x1024x704 .bf16) (r : Fin 512) (l : Fin 704) :
    out0_4 (F := Ideal) a b b' (ix4 1 0 r l) = act (gdot a b r l) := by
  unfold out0_4
  frame_out
  exact (plane1 _ _ r l).trans (pay8_at a b r l)

/-- And the backward call's. -/
theorem out3_0 (a : FVec Ideal S512x1024 .bf16) (b : FVec Ideal S704x1024 .bf16) (v : FVec Ideal S2x1x512x704 .bf16) (r : Fin 512) (l : Fin 704) :
    out1_3 (F := Ideal) a b v (ix4 0 0 r l) = pdot a b r l * v (ix4 0 0 r l) := by
  unfold out1_3
  frame_out
  refine (plane0 _ _ r l).trans ((pay2_at a b _ r l).trans ?_)
  pointwise [View.ld]

theorem out3_1 (a : FVec Ideal S512x1024 .bf16) (b : FVec Ideal S704x1024 .bf16) (v : FVec Ideal S2x1x512x704 .bf16) (r : Fin 512) (l : Fin 704) :
    out1_3 (F := Ideal) a b v (ix4 1 0 r l) = pdot a b r l * v (ix4 1 0 r l) := by
  unfold out1_3
  frame_out
  refine (plane1 _ _ r l).trans ((pay3_at a b _ r l).trans ?_)
  pointwise [View.ld]

end Cert.ActIdeal.Val
-- ==== Proof.Act.lean ====
module

public import proofs.«01_k».proof.Proof.ActFwd
public import proofs.«01_k».proof.Proof.Vals
public import proofs.«01_k».proof.Proof.Gen.ActRefIdeal.Read
public import proofs.«01_k».proof.Proof.Gen.ActRefIdeal.Run
public import proofs.«01_k».proof.Pre_act_finite

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode

namespace Cert.ActIdeal.Val

open Idealize.ShloMosaic.Rounds
local notation "𝕄" => MT nD τ sig Unit (Elt Ideal) ℕ (UR sig nD τ) ℕ

open Cert.ActIdeal.Gen
open Cert.ActRefIdeal.Read

variable (m : (ℓ : Loc nD τ sig) → Buf (Elt Ideal) ℓ) (ρ : Dev nD → PrngReg)

/-! ## The reference -/

section refs
variable (D H : FVec Ideal S8192x1024 .bf16) (W : FVec Ideal S1024x5632 .f32) (U : FVec Ideal S2816x1024 .f32)

/-- The two products: the gate's input and the cotangent of the activation. -/
def gv (n : Fin 8192) (l : Fin 5632) : EReal := ∑ k : Fin 1024, H (ix2 n k) * W (ix2 k l)
def pv (n : Fin 8192) (l : Fin 2816) : EReal := ∑ k : Fin 1024, D (ix2 n k) * U (ix2 l k)
/-- A column of the first and of the second half. -/
abbrev lo (l : Fin 2816) : Fin 5632 := ⟨l.val, by omega⟩
abbrev hi (l : Fin 2816) : Fin 5632 := ⟨2816 + l.val, by omega⟩

theorem refA (n : Fin 8192) (l : Fin 2816) : val_main_v9 (F := Ideal) H W (ix2 n l) = act (gv H W n (lo l)) * gv H W n (hi l) := by
  unfold act sg gv
  rw [zero_sub]
  unfold val_main_v9 val_main_v5 val_main_v4_0 val_main_v4_2 val_main_call0_v4 val_main_call0_cst_0 val_main_call0_v3 val_main_call0_v2 val_main_call0_cst val_main_call0_v1 val_main_call0_v0 val_main_v3 val_main_v2 val_main_v1 val_main_v0
  pointwise

theorem refU (n : Fin 8192) (l : Fin 2816) : val_main_v10 (F := Ideal) D H W U (ix2 n l) = act (gv H W n (lo l)) * pv D U n l := by
  unfold act sg gv pv
  rw [zero_sub]
  unfold val_main_v10 val_main_v8 val_main_v7 val_main_v4_0 val_main_v4_2 val_main_call0_v4 val_main_call0_cst_0 val_main_call0_v3 val_main_call0_v2 val_main_call0_cst val_main_call0_v1 val_main_call0_v0 val_main_v2 val_main_v1 val_main_v0
  pointwise

theorem refG (n : Fin 8192) (l : Fin 2816) : val_main_v12 (F := Ideal) D H W U (ix2 n l)
    = pv D U n l * gv H W n (hi l) * sg (gv H W n (lo l)) + gv H W n (lo l) * (pv D U n l * gv H W n (hi l)) * (sg (gv H W n (lo l)) * ((1 : EReal) - sg (gv H W n (lo l)))) := by
  unfold sg gv pv
  rw [zero_sub]
  unfold val_main_v12 val_main_call1_v2 val_main_call1_v1 val_main_call1_v0 val_main_v11 val_main_v8 val_main_v7 val_main_v4_1 val_main_call0_v7 val_main_call0_v6 val_main_call0_cst_1 val_main_v4_2 val_main_call0_v4 val_main_call0_cst_0 val_main_call0_v3 val_main_call0_v2 val_main_call0_cst val_main_call0_v1 val_main_call0_v0 val_main_v3 val_main_v2 val_main_v1 val_main_v0
  pointwise

theorem ref_lo (n : Fin 8192) (l : Fin 2816) : val_main_v14 (F := Ideal) D H W U (ix2 n (lo l)) = val_main_v12 (F := Ideal) D H W U (ix2 n l) := by
  unfold val_main_v14 val_main_v13
  pointwise

theorem ref_hi (n : Fin 8192) (l : Fin 2816) : val_main_v14 (F := Ideal) D H W U (ix2 n (hi l)) = val_main_v10 (F := Ideal) D H W U (ix2 n l) := by
  unfold val_main_v14 val_main_v13
  pointwise

/-- Where an array holds reals only. -/
abbrev Fin' {s : Shape} (X : s.Idx → EReal) : Prop := ∀ i, ∃ v : ℝ, X i = (v : EReal)

theorem real_dot {n : ℕ} (f g : Fin n → EReal) (hf : ∀ k, ∃ v : ℝ, f k = (v : EReal)) (hg : ∀ k, ∃ v : ℝ, g k = (v : EReal)) : ∃ v : ℝ, ∑ k : Fin n, f k * g k = (v : EReal) := by
  choose a ha using hf
  choose b hb using hg
  refine ⟨∑ k : Fin n, a k * b k, ?_⟩
  rw [← Cert.Vals.coe_sum]
  exact Finset.sum_congr rfl fun k _ => by rw [ha, hb, ← EReal.coe_mul]

theorem sg_real (g : ℝ) : ∃ v : ℝ, sg (g : EReal) = (v : EReal) := by
  have h : ((1 : EReal) + Ideal.exp ((0 : EReal) - (g : EReal))) = ((1 + Real.exp (-g) : ℝ) : EReal) := by
    rw [zero_sub, ← EReal.coe_neg, Ideal.exp_coe, ← EReal.coe_one, ← EReal.coe_add]
  have hp : (1 + Real.exp (-g)) ≠ 0 := by positivity
  refine ⟨1 * (1 / (1 + Real.exp (-g))), ?_⟩
  rw [sg, h, Ideal.div_coe hp, ← EReal.coe_one, ← EReal.coe_mul]

/-- The kernel's form of the gate's derivative is the reference's, over the reals. -/
theorem gate (p g u : ℝ) : (p : EReal) * dact (g : EReal) (u : EReal) = (p : EReal) * (u : EReal) * sg (g : EReal) + (g : EReal) * ((p : EReal) * (u : EReal)) * (sg (g : EReal) * ((1 : EReal) - sg (g : EReal))) := by
  obtain ⟨s, hs⟩ := sg_real g
  rw [dact, hs, ← EReal.coe_one]
  simp only [← EReal.coe_mul, ← EReal.coe_add, ← EReal.coe_sub]
  exact congrArg _ (by ring)

variable {D H W U} (hD : Fin' D) (hH : Fin' H) (hW : Fin' W) (hU : Fin' U)
include hD hH hW hU

theorem gate_at (n : Fin 8192) (l : Fin 2816) : pv D U n l * dact (gv H W n (lo l)) (gv H W n (hi l)) = val_main_v14 (F := Ideal) D H W U (ix2 n (lo l)) := by
  rw [ref_lo, refG]
  obtain ⟨p, hp⟩ : ∃ v : ℝ, pv D U n l = (v : EReal) := real_dot _ _ (fun _ => hD _) (fun _ => hU _)
  obtain ⟨g, hg⟩ : ∃ v : ℝ, gv H W n (lo l) = (v : EReal) := real_dot _ _ (fun _ => hH _) (fun _ => hW _)
  obtain ⟨u, hu⟩ : ∃ v : ℝ, gv H W n (hi l) = (v : EReal) := real_dot _ _ (fun _ => hH _) (fun _ => hW _)
  rw [hp, hg, hu]
  exact gate p g u

end refs

/-! ## The arrays -/

section arrays
variable (c : Dev nD)

abbrev D : FVec Ideal S8192x1024 .bf16 := m (c.tc.loc main_arg0)
abbrev H : FVec Ideal S8192x1024 .bf16 := m (c.tc.loc main_arg1)
abbrev W : FVec Ideal S1024x5632 .f32 := m (c.tc.loc main_arg2)
abbrev U : FVec Ideal S2816x1024 .f32 := m (c.tc.loc main_arg3)

theorem V1_w (j : Fin 1024) (s : Fin 8) (l : Fin 704) (q : Fin 5632) (hq : q.val = s.val * 704 + l.val) : (V1 m ρ c main_v2 : FVec Ideal S8x1024x704 .bf16) (ix3 s j l) = W m c (ix2 j q) := by
  have h : (V1 m ρ c main_v2 : FVec Ideal S8x1024x704 .bf16) = transpose S8x1024x704 [1, 0, 2] (shapeCast S1024x8x704 (W m c) shapeCasts_S1024x5632_S1024x8x704) transposes_S1024x8x704_S8x1024x704_1_0_2 := by
    show StableHlo.after hostOps0 (W0 m ρ c) main_v2 = _
    simp only [hostOps0]
    after_results
    rfl
  rw [h, show q = ⟨s.val * 704 + l.val, by omega⟩ from Fin.ext hq]
  pointwise

theorem V1_h : V1 m ρ c main_arg1 = H m c := W1_args m ρ c main_arg1 (by decide)
theorem V3_d : V3 m ρ c main_arg0 = D m c := W3_args m ρ c main_arg0 (by decide)
theorem V3_u (l : Fin 2816) (k : Fin 1024) : (V3 m ρ c main_v4 : FVec Ideal S2816x1024 .bf16) (ix2 l k) = U m c (ix2 l k) := by
  have h : (V3 m ρ c main_v4 : FVec Ideal S2816x1024 .bf16) = truncf (F := Ideal) .bf16 (W2 m ρ c main_arg3 : FVec Ideal S2816x1024 .f32) bitsLt_bf16_f32 := by
    show StableHlo.after hostOps1 (W2 m ρ c) main_v4 = _
    simp only [hostOps1]
    after_results
  rw [h, W2_args m ρ c main_arg3 (by decide)]
  pointwise

theorem b0 (t : Fin cfg0.N) (r : Fin 512) (n : Fin 8192) (hn : n.val = t.val % 16 * 512 + r.val) (k : Fin 1024) : (iblk0 (V1 m ρ) c 0 t : FVec Ideal S512x1024 .bf16) (ix2 r k) = H m c (ix2 n k) := by
  refine Eq.trans ?_ (congrFun (V1_h m ρ c) (ix2 n k))
  blk_point [iblk0, idx0 t]
theorem b1 (t : Fin cfg0.N) (l : Fin 704) (q : Fin 5632) (hq : q.val = t.val / 16 * 704 + l.val) (k : Fin 1024) : (iblk0 (V1 m ρ) c 1 t : FVec Ideal S1x1024x704 .bf16) (ix3 0 k l) = W m c (ix2 k q) := by
  have ht : t.val < 64 := t.isLt
  refine Eq.trans ?_ (V1_w m ρ c k ⟨t.val / 16, by omega⟩ l q hq)
  blk_point [iblk0, idx0 t]
theorem b2 (t : Fin cfg0.N) (l : Fin 704) (q : Fin 5632) (hq : q.val = (t.val / 16 + 4) * 704 + l.val) (k : Fin 1024) : (iblk0 (V1 m ρ) c 2 t : FVec Ideal S1x1024x704 .bf16) (ix3 0 k l) = W m c (ix2 k q) := by
  have ht : t.val < 64 := t.isLt
  refine Eq.trans ?_ (V1_w m ρ c k ⟨t.val / 16 + 4, by omega⟩ l q hq)
  blk_point [iblk0, idx0 t]

/-- A block's product is the whole product's. -/
theorem gdot_eq (Hh : FVec Ideal S8192x1024 .bf16) (Ww : FVec Ideal S1024x5632 .f32) (a : FVec Ideal S512x1024 .bf16) (b : FVec Ideal S1x1024x704 .bf16) (r : Fin 512) (l : Fin 704) (n : Fin 8192) (q : Fin 5632)
    (ha : ∀ k, a (ix2 r k) = Hh (ix2 n k)) (hb : ∀ k, b (ix3 0 k l) = Ww (ix2 k q)) : gdot a b r l = gv Hh Ww n q :=
  Finset.sum_congr rfl fun k _ => congrArg₂ (fun x y : EReal => x * y) (ha k) (hb k)
theorem pdot_eq (Dd : FVec Ideal S8192x1024 .bf16) (Uu : FVec Ideal S2816x1024 .f32) (a : FVec Ideal S512x1024 .bf16) (b : FVec Ideal S704x1024 .bf16) (r : Fin 512) (l : Fin 704) (n : Fin 8192) (q : Fin 2816)
    (ha : ∀ k, a (ix2 r k) = Dd (ix2 n k)) (hb : ∀ k, b (ix2 l k) = Uu (ix2 q k)) : pdot a b r l = pv Dd Uu n q :=
  Finset.sum_congr rfl fun k _ => congrArg₂ (fun x y : EReal => x * y) (ha k) (hb k)

/-- The column of a shard's place. -/
abbrev col (j : Fin 4) (l : Fin 704) : Fin 2816 := ⟨j.val * 704 + l.val, by omega⟩

theorem arr3 (j : Fin 4) (n : Fin 8192) (l : Fin 704) : ((dat0 (V1 m ρ) c).arrAt 3 cfg0.N : FVec Ideal S4x8192x704 .bf16) (ix3 j n l) = act (gv (H m c) (W m c) n (lo (col j l))) * gv (H m c) (W m c) n (hi (col j l)) := by
  refine (dat0 (V1 m ρ) c).arrAt_forall_of_covers 3 (fun (i : S4x8192x704.Idx) (v : EReal) => v = act (gv (H m c) (W m c) (i 1) (lo (col (i 0) (i 2)))) * gv (H m c) (W m c) (i 1) (hi (col (i 0) (i 2)))) (by decide +kernel) (fun t hf z => ?_) (ix3 j n l)
  have ht : t.val < 64 := t.isLt
  obtain ⟨x, r, q, rfl⟩ : ∃ (x : Fin 1) (r : Fin 512) (q : Fin 704), z = (ix3 x r q : S1x512x704.Idx) := ⟨z 0, z 1, z 2, eq_ix3 z⟩
  obtain rfl : x = 0 := Subsingleton.elim _ _
  have he : ((cfg0.win 3).blk t).view.emb (ix3 0 r q : S1x512x704.Idx) = (ix3 ⟨t.val / 16, by omega⟩ ⟨t.val % 16 * 512 + r.val, by omega⟩ q : S4x8192x704.Idx) := by
    blk_ext [idx0 t]
  blk_simp
  rw [after0_3, he]
  refine (out3_at _ _ _ r q).trans ?_
  refine congrArg₂ (fun x y : EReal => act x * y) ?_ ?_
  · exact gdot_eq (H m c) (W m c) _ _ r q _ _ (b0 m ρ c t r _ rfl) (b1 m ρ c t q _ rfl)
  · exact gdot_eq (H m c) (W m c) _ _ r q _ _ (b0 m ρ c t r _ rfl) (b2 m ρ c t q _ (by dsimp only [ix3]; omega))

theorem arr4 (e : Fin 2) (j : Fin 4) (n : Fin 8192) (l : Fin 704) :
    (e.val = 0 → ((dat0 (V1 m ρ) c).arrAt 4 cfg0.N : FVec Ideal S2x4x8192x704 .bf16) (ix4 e j n l) = dact (gv (H m c) (W m c) n (lo (col j l))) (gv (H m c) (W m c) n (hi (col j l))))
    ∧ (e.val = 1 → ((dat0 (V1 m ρ) c).arrAt 4 cfg0.N : FVec Ideal S2x4x8192x704 .bf16) (ix4 e j n l) = act (gv (H m c) (W m c) n (lo (col j l)))) := by
  refine (dat0 (V1 m ρ) c).arrAt_forall_of_covers 4 (fun (i : S2x4x8192x704.Idx) (v : EReal) =>
    ((i 0).val = 0 → v = dact (gv (H m c) (W m c) (i 2) (lo (col (i 1) (i 3)))) (gv (H m c) (W m c) (i 2) (hi (col (i 1) (i 3)))))
    ∧ ((i 0).val = 1 → v = act (gv (H m c) (W m c) (i 2) (lo (col (i 1) (i 3)))))) (by decide +kernel) (fun t hf z => ?_) (ix4 e j n l)
  have ht : t.val < 64 := t.isLt
  obtain ⟨f, x, r, q, rfl⟩ : ∃ (f : Fin 2) (x : Fin 1) (r : Fin 512) (q : Fin 704), z = (ix4 f x r q : S2x1x512x704.Idx) := ⟨z 0, z 1, z 2, z 3, eq_ix4 z⟩
  obtain rfl : x = 0 := Subsingleton.elim _ _
  have he : ((cfg0.win 4).blk t).view.emb (ix4 f 0 r q : S2x1x512x704.Idx) = (ix4 f ⟨t.val / 16, by omega⟩ ⟨t.val % 16 * 512 + r.val, by omega⟩ q : S2x4x8192x704.Idx) := by
    blk_ext [idx0 t]
  have hg := gdot_eq (H m c) (W m c) (iblk0 (V1 m ρ) c 0 t) (iblk0 (V1 m ρ) c 1 t) r q ⟨t.val % 16 * 512 + r.val, by omega⟩ (lo (col ⟨t.val / 16, by omega⟩ q)) (b0 m ρ c t r _ rfl) (b1 m ρ c t q _ rfl)
  have hu := gdot_eq (H m c) (W m c) (iblk0 (V1 m ρ) c 0 t) (iblk0 (V1 m ρ) c 2 t) r q ⟨t.val % 16 * 512 + r.val, by omega⟩ (hi (col ⟨t.val / 16, by omega⟩ q)) (b0 m ρ c t r _ rfl) (b2 m ρ c t q _ (by dsimp only; omega))
  blk_simp
  rw [after0_4, he]
  have h0 : win0_4.index t 0 = 0 := congrFun (idx0 t).2.2.2.2 0
  refine ⟨fun k0 => ?_, fun k1 => ?_⟩
  · have hf0 : f.val = 0 := by
      rw [h0] at k0
      omega
    obtain rfl : f = 0 := Fin.ext hf0
    exact (out4_0 _ _ _ r q).trans (congrArg₂ dact hg hu)
  · have hf1 : f.val = 1 := by
      rw [h0] at k1
      omega
    obtain rfl : f = 1 := Fin.ext hf1
    exact (out4_1 _ _ _ r q).trans (congrArg act hg)

theorem V3_gu : (V3 m ρ c main_v3_1 : FVec Ideal S2x4x8192x704 .bf16) = ((dat0 (V1 m ρ) c).arrAt 4 cfg0.N : FVec Ideal S2x4x8192x704 .bf16) :=
  (W3_of m ρ c main_v3_1 (by decide)).trans (W2_arr m ρ c 4)

theorem d0 (t : Fin cfg1.N) (r : Fin 512) (n : Fin 8192) (hn : n.val = t.val / 4 * 512 + r.val) (k : Fin 1024) : (iblk1 (V3 m ρ) c 0 t : FVec Ideal S512x1024 .bf16) (ix2 r k) = D m c (ix2 n k) := by
  refine Eq.trans ?_ (congrFun (V3_d m ρ c) (ix2 n k))
  blk_point [iblk1, idx1 t]
theorem d1 (t : Fin cfg1.N) (l : Fin 704) (q : Fin 2816) (hq : q.val = t.val % 4 * 704 + l.val) (k : Fin 1024) : (iblk1 (V3 m ρ) c 1 t : FVec Ideal S704x1024 .bf16) (ix2 l k) = U m c (ix2 q k) := by
  refine Eq.trans ?_ (V3_u m ρ c q k)
  blk_point [iblk1, idx1 t]
theorem d2 (t : Fin cfg1.N) (e : Fin 2) (r : Fin 512) (n : Fin 8192) (hn : n.val = t.val / 4 * 512 + r.val) (j : Fin 4) (hj : j.val = t.val % 4) (l : Fin 704) :
    (iblk1 (V3 m ρ) c 2 t : FVec Ideal S2x1x512x704 .bf16) (ix4 e 0 r l) = ((dat0 (V1 m ρ) c).arrAt 4 cfg0.N : FVec Ideal S2x4x8192x704 .bf16) (ix4 e j n l) := by
  refine Eq.trans ?_ (congrFun (V3_gu m ρ c) (ix4 e j n l))
  blk_point [iblk1, idx1 t]

/-- The backward call's array: the cotangent times what the forward call left. -/
theorem arr1_3 (e : Fin 2) (j : Fin 4) (n : Fin 8192) (l : Fin 704) :
    (e.val = 0 → ((dat1 (V3 m ρ) c).arrAt 3 cfg1.N : FVec Ideal S2x4x8192x704 .bf16) (ix4 e j n l) = pv (D m c) (U m c) n (col j l) * dact (gv (H m c) (W m c) n (lo (col j l))) (gv (H m c) (W m c) n (hi (col j l))))
    ∧ (e.val = 1 → ((dat1 (V3 m ρ) c).arrAt 3 cfg1.N : FVec Ideal S2x4x8192x704 .bf16) (ix4 e j n l) = pv (D m c) (U m c) n (col j l) * act (gv (H m c) (W m c) n (lo (col j l)))) := by
  refine (dat1 (V3 m ρ) c).arrAt_forall_of_covers 3 (fun (i : S2x4x8192x704.Idx) (v : EReal) =>
    ((i 0).val = 0 → v = pv (D m c) (U m c) (i 2) (col (i 1) (i 3)) * dact (gv (H m c) (W m c) (i 2) (lo (col (i 1) (i 3)))) (gv (H m c) (W m c) (i 2) (hi (col (i 1) (i 3)))))
    ∧ ((i 0).val = 1 → v = pv (D m c) (U m c) (i 2) (col (i 1) (i 3)) * act (gv (H m c) (W m c) (i 2) (lo (col (i 1) (i 3)))))) (by decide +kernel) (fun t hf z => ?_) (ix4 e j n l)
  have ht : t.val < 64 := t.isLt
  obtain ⟨f, x, r, q, rfl⟩ : ∃ (f : Fin 2) (x : Fin 1) (r : Fin 512) (q : Fin 704), z = (ix4 f x r q : S2x1x512x704.Idx) := ⟨z 0, z 1, z 2, z 3, eq_ix4 z⟩
  obtain rfl : x = 0 := Subsingleton.elim _ _
  have he : ((cfg1.win 3).blk t).view.emb (ix4 f 0 r q : S2x1x512x704.Idx) = (ix4 f ⟨t.val % 4, by omega⟩ ⟨t.val / 4 * 512 + r.val, by omega⟩ q : S2x4x8192x704.Idx) := by
    blk_ext [idx1 t]
  have hp := pdot_eq (D m c) (U m c) (iblk1 (V3 m ρ) c 0 t) (iblk1 (V3 m ρ) c 1 t) r q ⟨t.val / 4 * 512 + r.val, by omega⟩ (col ⟨t.val % 4, by omega⟩ q) (d0 m ρ c t r _ rfl) (d1 m ρ c t q _ rfl)
  have hv := d2 m ρ c t f r ⟨t.val / 4 * 512 + r.val, by omega⟩ rfl ⟨t.val % 4, by omega⟩ rfl q
  have hA := arr4 m ρ c f ⟨t.val % 4, by omega⟩ ⟨t.val / 4 * 512 + r.val, by omega⟩ q
  blk_simp
  rw [after1_3, he]
  have h0 : win1_3.index t 0 = 0 := congrFun (idx1 t).2.2.2 0
  refine ⟨fun k0 => ?_, fun k1 => ?_⟩
  · have hf0 : f.val = 0 := by
      rw [h0] at k0
      omega
    have hB := hv.trans (hA.1 hf0)
    obtain rfl : f = 0 := Fin.ext hf0
    exact (out3_0 _ _ _ r q).trans (congrArg₂ (fun x y : EReal => x * y) hp hB)
  · have hf1 : f.val = 1 := by
      rw [h0] at k1
      omega
    have hB := hv.trans (hA.2 hf1)
    obtain rfl : f = 1 := Fin.ext hf1
    exact (out3_1 _ _ _ r q).trans (congrArg₂ (fun x y : EReal => x * y) hp hB)

/-! ## The host lines after the calls -/

theorem end_v8 : (W5 m ρ c main_v8 : FVec Ideal S8192x2816 .bf16) = shapeCast S8192x2816 (transpose S8192x4x704 [1, 0, 2] ((dat0 (V1 m ρ) c).arrAt 3 cfg0.N : FVec Ideal S4x8192x704 .bf16) transposes_S4x8192x704_S8192x4x704_1_0_2) shapeCasts_S8192x4x704_S8192x2816 := by
  rw [show ((dat0 (V1 m ρ) c).arrAt 3 cfg0.N : FVec Ideal S4x8192x704 .bf16) = W4 m ρ c main_v3_0 from ((W4_of m ρ c main_v3_0 (by decide)).trans ((W3_of m ρ c main_v3_0 (by decide)).trans (W2_arr m ρ c 3))).symm]
  show StableHlo.after hostOps2 (W4 m ρ c) main_v8 = _
  simp only [hostOps2]
  after_results
  rfl

theorem end_v10 : (W5 m ρ c main_v10 : FVec Ideal S8192x5632 .bf16) = shapeCast S8192x5632 (transpose S8192x8x704 [1, 0, 2] (shapeCast S8x8192x704 ((dat1 (V3 m ρ) c).arrAt 3 cfg1.N : FVec Ideal S2x4x8192x704 .bf16) shapeCasts_S2x4x8192x704_S8x8192x704) transposes_S8x8192x704_S8192x8x704_1_0_2) shapeCasts_S8192x8x704_S8192x5632 := by
  rw [show ((dat1 (V3 m ρ) c).arrAt 3 cfg1.N : FVec Ideal S2x4x8192x704 .bf16) = W4 m ρ c main_v5 from (W4_arr m ρ c 3).symm]
  show StableHlo.after hostOps2 (W4 m ρ c) main_v10 = _
  simp only [hostOps2]
  after_results
  rfl

theorem tailA (B : FVec Ideal S4x8192x704 .bf16) (n : Fin 8192) (l : Fin 2816) :
    shapeCast S8192x2816 (transpose S8192x4x704 [1, 0, 2] B transposes_S4x8192x704_S8192x4x704_1_0_2) shapeCasts_S8192x4x704_S8192x2816 (ix2 n l) = B (ix3 ⟨l.val / 704, by omega⟩ n ⟨l.val % 704, by omega⟩) := by
  pointwise

theorem tailD (B : FVec Ideal S2x4x8192x704 .bf16) (n : Fin 8192) (l : Fin 5632) :
    shapeCast S8192x5632 (transpose S8192x8x704 [1, 0, 2] (shapeCast S8x8192x704 B shapeCasts_S2x4x8192x704_S8x8192x704) transposes_S8x8192x704_S8192x8x704_1_0_2) shapeCasts_S8192x8x704_S8192x5632 (ix2 n l)
      = B (ix4 ⟨l.val / 704 / 4, by omega⟩ ⟨l.val / 704 % 4, by omega⟩ n ⟨l.val % 704, by omega⟩) := by
  pointwise

end arrays

/-! ## The precondition -/

section finite

theorem finite_at {s : Shape} (X : s.Idx → EReal) (i : s.Idx) (h : Ideal.cmp .olt (max (X i) (-(X i))) (Ideal.ofBits .f32 0x7F800000#32) = 1) : ∃ v : ℝ, X i = (v : EReal) := by
  rw [show Ideal.ofBits .f32 0x7F800000#32 = ⊤ by simp [Ideal.ofBits, Ideal.ieee]] at h
  have h := (Ideal.cmp_olt_eq_one (max (X i) (-(X i))) ⊤).mp h
  refine ⟨(X i).toReal, (EReal.coe_toReal ?_ ?_).symm⟩
  · intro e
    rw [e] at h
    simp at h
  · intro e
    rw [e] at h
    simp at h

variable [hPre : Cert.Pre_act_finite.Facts] (c : Dev nD)

abbrev pc := Cert.Pre_act_finite.fn (F := Ideal) (D m c) (H m c) (W m c) (U m c)

/-- Every argument finite. -/
abbrev Finite : Prop := (pc m c).1 = (fun _ => 1#1) ∧ (pc m c).2.1 = (fun _ => 1#1)
  ∧ (pc m c).2.2.1 = (fun _ => 1#1) ∧ (pc m c).2.2.2 = (fun _ => 1#1)

variable {m} {c} (h : Finite m c)
include h

theorem fin0 : Fin' (D m c) := fun i =>
  finite_at (s := S8192x1024) (D m c) i (congrFun h.1 i)

theorem fin1 : Fin' (H m c) := fun i =>
  finite_at (s := S8192x1024) (H m c) i (congrFun h.2.1 i)

theorem fin2 : Fin' (W m c) := fun i =>
  finite_at (s := S1024x5632) (W m c) i (congrFun h.2.2.1 i)

theorem fin3 : Fin' (U m c) := fun i =>
  finite_at (s := S2816x1024) (U m c) i (congrFun h.2.2.2 i)

theorem result_dgu : (W5 m ρ c main_v10 : FVec Ideal S8192x5632 .bf16) = val_main_v14 (F := Ideal) (D m c) (H m c) (W m c) (U m c) := by
  rw [end_v10]
  funext i
  obtain ⟨n, l, rfl⟩ : ∃ (n : Fin 8192) (l : Fin 5632), i = ix2 n l := ⟨i 0, i 1, eq_ix2 i⟩
  have hl : l.val < 5632 := l.isLt
  refine (tailD _ n l).trans ?_
  have hA := arr1_3 m ρ c ⟨l.val / 704 / 4, by omega⟩ ⟨l.val / 704 % 4, by omega⟩ n ⟨l.val % 704, by omega⟩
  by_cases hc : l.val < 2816
  · obtain ⟨q, rfl⟩ : ∃ q : Fin 2816, l = lo q := ⟨⟨l.val, hc⟩, rfl⟩
    refine (hA.1 (by dsimp only; omega)).trans (Eq.trans ?_ (gate_at (fin0 h) (fin1 h) (fin2 h) (fin3 h) n q))
    rw [show col ⟨(lo q).val / 704 % 4, by omega⟩ ⟨(lo q).val % 704, by omega⟩ = q from Fin.ext (by dsimp only; omega)]
  · obtain ⟨q, rfl⟩ : ∃ q : Fin 2816, l = hi q := ⟨⟨l.val - 2816, by omega⟩, Fin.ext (by dsimp only; omega)⟩
    refine (hA.2 (by dsimp only; omega)).trans (Eq.trans ?_ ((ref_hi _ _ _ _ n q).trans (refU _ _ _ _ n q)).symm)
    rw [show col ⟨(hi q).val / 704 % 4, by omega⟩ ⟨(hi q).val % 704, by omega⟩ = q from Fin.ext (by dsimp only; omega), mul_comm]

end finite

section finish

variable (c : Dev nD)

theorem result_a : (W5 m ρ c main_v8 : FVec Ideal S8192x2816 .bf16) = val_main_v9 (F := Ideal) (H m c) (W m c) := by
  rw [end_v8]
  funext i
  obtain ⟨n, l, rfl⟩ : ∃ (n : Fin 8192) (l : Fin 2816), i = ix2 n l := ⟨i 0, i 1, eq_ix2 i⟩
  refine (tailA _ n l).trans ((arr3 m ρ c _ n _).trans (Eq.trans ?_ (refA _ _ n l).symm))
  rw [show col ⟨l.val / 704, by omega⟩ ⟨l.val % 704, by omega⟩ = l from Fin.ext (by dsimp only; omega)]

variable [hPre : Cert.Pre_act_finite.Facts]

omit hPre in
set_option backward.isDefEq.respectTransparency.types false in
/-- Every unscoped buffer at the end of the run. -/
theorem ends : θ_run (defs (F := Ideal)) (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iassumption⟩)
    (hinit := by
      refine Pipeline.initEach L lv fun c => ?_
      rw [show unscopedBufs c (fun b => m (c.tc.loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The two calls end with the reference's terms in their results, and their arguments as they were. -/
theorem run (h : ∀ c : Dev nD, Finite m c) :
    θ_run (defs (F := Ideal)) (onTc (τ := τ) (main (F := Ideal))) ⟨m, fun _ => 0, ρ⟩ (fun r => ∀ c : Dev nD,
      r.2.mem (c.tc.loc main_v8) = val_main_v9 (F := Ideal) (H m c) (W m c)
      ∧ r.2.mem (c.tc.loc main_v10) = val_main_v14 (F := Ideal) (D m c) (H m c) (W m c) (U m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run (defs (F := Ideal)) _ _).mono (fun r k c =>
    ⟨(k c _ (mem_uc main_v8 (by decide))).trans (result_a m ρ c),
     (k c _ (mem_uc main_v10 (by decide))).trans (result_dgu ρ (h c)),
     (k c _ (mem_uc main_arg0 (by decide))).trans (W5_main_arg0 m ρ c),
     (k c _ (mem_uc main_arg1 (by decide))).trans (W5_main_arg1 m ρ c),
     (k c _ (mem_uc main_arg2 (by decide))).trans (W5_main_arg2 m ρ c),
     (k c _ (mem_uc main_arg3 (by decide))).trans (W5_main_arg3 m ρ c)⟩) (ends m ρ)

end finish

end Cert.ActIdeal.Val
-- ==== Proof.PostReal.lean ====
/-
  The sums the gradient of the queries' and keys' norms is made of: the mean over one head's columns as a
  product with a block matrix, the running sum from the last token down, tile by tile, and the log gate.
-/
module

public import Idealize.ShloMosaic.Lib.Pipeline.ValueKit
public import proofs.«01_k».proof.Proof.Kit
public import proofs.«01_k».proof.Proof.Cumsum
public import proofs.«01_k».proof.Proof.Rms
public import proofs.«01_k».proof.Proof.SbSpec

@[expose] public section

noncomputable section

open Idealize.ShloMosaic

namespace Cert.PostReal

theorem lit_64 : Ideal.ofBits .f32 1115684864#32 = ((64 : ℝ) : EReal) := by
  simp [Ideal.ofBits, Ideal.ieee, -EReal.coe_mul]; norm_num
theorem lit_inf : Ideal.ofBits .f32 2139095040#32 = (⊤ : EReal) := by
  simp [Ideal.ofBits, Ideal.ieee]

theorem coe_sub_self (r : ℝ) : (r : EReal) - (r : EReal) = 0 := by
  rw [← EReal.coe_sub, sub_self]; rfl

theorem sum_coe {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, EReal.coe_add, ih]

/-- The block matrix's entry: one over the head's width within a head, zero across heads. -/
def gmv (k j : Fin 256) : EReal := if k.val / 64 = j.val / 64 then ((1 / 64 : ℝ) : EReal) else 0

/-- The product with the block matrix is the mean over the head's columns. -/
theorem group_mean (f : Fin 256 → EReal) (j : Fin 256) :
    ∑ k, f k * gmv k j = Ideal.div (∑ x : Fin 64, f ⟨j.val / 64 * 64 + x.val, by omega⟩) ((64 : ℝ) : EReal) := by
  have e : ∑ s : Fin 4, ∑ x : Fin 64, f ⟨s.val * 64 + x.val, by omega⟩ * gmv ⟨s.val * 64 + x.val, by omega⟩ j = ∑ k, f k * gmv k j :=
    Fin.sum_mul_add_congr (S := 4) (n := 64) (L := 256) (fun s k hl => rfl) (by norm_num)
  rw [← e, Ideal.div_coe (by norm_num), mul_comm, Kit.coe_mul_sum _ _ (by norm_num)]
  rw [Finset.sum_eq_single (⟨j.val / 64, by omega⟩ : Fin 4)]
  · refine Finset.sum_congr rfl fun x _ => ?_
    have : gmv ⟨j.val / 64 * 64 + x.val, by omega⟩ j = ((1 / 64 : ℝ) : EReal) := if_pos (by dsimp only; omega)
    rw [this, mul_comm]
  · intro s _ hs
    refine Finset.sum_eq_zero fun x _ => ?_
    have : gmv ⟨s.val * 64 + x.val, by omega⟩ j = 0 := if_neg (by
      have h : s.val ≠ j.val / 64 := fun h => hs (Fin.ext h)
      dsimp only; omega)
    rw [this, mul_zero]
  · intro h; exact absurd (Finset.mem_univ _) h

/-- The second part of a split real value is zero. -/
theorem rest_zero {n : ℕ} (f g : Fin n → EReal) (hf : ∀ k, ∃ r : ℝ, f k = r) : ∑ k, (f k - f k) * g k = 0 := by
  refine Finset.sum_eq_zero fun k _ => ?_
  obtain ⟨r, hr⟩ := hf k
  rw [hr, coe_sub_self, zero_mul]

theorem sitofp_bool (p : Prop) [Decidable p] :
    (FloatOps.sitofp FTy.f32 (BitVec.setWidth 32 (BitVec.ofBool (decide p))) : Ideal .f32) = ((if p then 1 else 0 : ℝ) : EReal) := by
  show (((BitVec.setWidth 32 (BitVec.ofBool (decide p))).toInt : ℝ) : EReal) = _
  by_cases h : p <;> simp [h]

/-- The triangular product with one tile, and what the tiles above it summed to. -/
theorem tri_sum (T X : Fin 512 → EReal) (f : ℕ → ℝ) (w : ℝ) (p : ℕ → Prop) [DecidablePred p] (s : Finset ℕ)
    (hs : ∀ n, n ∈ s ↔ n < 512 ∧ p n) (hT : ∀ k : Fin 512, T k = ((if p k.val then 1 else 0 : ℝ) : EReal)) (hX : ∀ k : Fin 512, X k = ((f k.val : ℝ) : EReal)) :
    ∑ k, T k * X k + ∑ k, T k * (X k - X k) + ∑ k, T k * (X k - X k - (X k - X k)) + (w : EReal)
      = ((∑ k ∈ s, f k + w : ℝ) : EReal) := by
  have z1 : ∑ k, T k * (X k - X k) = 0 := Finset.sum_eq_zero fun k _ => by rw [hX, coe_sub_self, mul_zero]
  have z2 : ∑ k, T k * (X k - X k - (X k - X k)) = 0 := Finset.sum_eq_zero fun k _ => by rw [hX, coe_sub_self]; simp
  have e : ∑ k, T k * X k = ((∑ k ∈ s, f k : ℝ) : EReal) := by
    have e : ∀ k : Fin 512, T k * X k = ((fun n => (((if p n then f n else 0 : ℝ)) : EReal)) k.val) := fun k => by
      rw [hT, hX, ← EReal.coe_mul, ite_mul, one_mul, zero_mul]
    rw [Finset.sum_congr rfl fun k _ => e k, Fin.sum_univ_eq_sum_range (fun n => (((if p n then f n else 0 : ℝ)) : EReal)) 512,
      sum_coe, ← Finset.sum_filter]
    refine congrArg _ (Finset.sum_congr (Finset.ext fun n => ?_) fun _ _ => rfl)
    rw [Finset.mem_filter, Finset.mem_range, hs]
  rw [z1, z2, e, add_zero, add_zero, EReal.coe_add]

/-- A tile's suffix and the tiles above it are one suffix. -/
theorem suffix_tile (f : ℕ → ℝ) (i r : ℕ) (hi : i < 8) (hr : r < 512) :
    ∑ k ∈ Finset.Ico r 512, f (i * 512 + k) + ∑ k ∈ Finset.Ico ((i + 1) * 512) 4096, f k = ∑ k ∈ Finset.Ico (i * 512 + r) 4096, f k := by
  rw [← Finset.sum_Ico_consecutive f (show i * 512 + r ≤ (i + 1) * 512 by omega) (show (i + 1) * 512 ≤ 4096 by omega),
    show (i + 1) * 512 = i * 512 + 512 by ring, Finset.sum_Ico_add f r 512 (i * 512), add_comm r, add_comm 512]

theorem sub_sub_self (z : ℝ) : 0 - (0 - (z : EReal)) = (z : EReal) := by
  rw [zero_sub, zero_sub, neg_neg]

/-- The logistic function of minus a logit, as the reference's gradient of the log gate writes it. -/
theorem gate (z : ℝ) :
    Ideal.exp (-(z : EReal) - (max (-(z : EReal)) 0 + Ideal.log (1 + Ideal.exp (0 - max (-(z : EReal)) (-(-(z : EReal)))))))
      = Ideal.div 1 (1 + Ideal.exp (z : EReal)) := by
  have hp := Real.exp_pos z
  rw [← EReal.coe_neg, SbSpec.sp_coe, ← EReal.coe_sub, Ideal.exp_coe, Ideal.exp_coe, show (1 : EReal) = ((1 : ℝ) : EReal) from rfl,
    ← EReal.coe_add, Ideal.div_coe (by positivity), ← EReal.coe_mul, Real.exp_sub, SbSpec.exp_sp, Real.exp_neg]
  refine congrArg _ ?_
  field_simp
  ring

/-- One head's columns of a row. -/
def hrow (R : Fin 256 → EReal) (j : Fin 256) : Fin 64 → EReal := fun x => R ⟨j.val / 64 * 64 + x.val, by omega⟩
/-- The normed row. -/
def hx (e : ℝ) (R : Fin 256 → EReal) (j : Fin 256) : EReal := R j * Rms.rs (hrow R j) 64 e
/-- The gradient of the norm of each head's columns. -/
def gdx (e : ℝ) (R D : Fin 256 → EReal) (j : Fin 256) : EReal := Rms.dx (hrow R j) (hrow D j) 64 e ⟨j.val % 64, by omega⟩

theorem hrow_head (R : Fin 256 → EReal) (j : Fin 256) (x : Fin 64) : hrow R ⟨j.val / 64 * 64 + x.val, by omega⟩ = hrow R j := by
  funext y
  unfold hrow
  exact congrArg R (Fin.ext (by dsimp only; omega))
theorem hrow_mod (R : Fin 256 → EReal) (j : Fin 256) : hrow R j ⟨j.val % 64, by omega⟩ = R j := by
  unfold hrow
  exact congrArg R (Fin.ext (by dsimp only; omega))

theorem rs_real {n : ℕ} (X : Fin n → EReal) (N e : ℝ) (hN : 0 < N) (he : 0 < e) : ∃ r : ℝ, Rms.rs X N e = r := by
  rcases Rms.ms_cases X N e hN he with h | ⟨s, hs, h⟩
  · exact ⟨0, by unfold Rms.rs; rw [h]; simp⟩
  · exact ⟨(√s)⁻¹, by unfold Rms.rs; rw [h, Ideal.rsqrt_coe]; simp [hs.not_gt, hs.ne']⟩

theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

section split
variable (e : ℝ) (he : 0 < e) (R D : Fin 256 → EReal) (hR : ∀ k, ∃ r : ℝ, R k = r) (hD : ∀ k, ∃ r : ℝ, D k = r)

include hR in
/-- The reciprocal root from the split product with the block matrix. -/
theorem split_rs (j : Fin 256) : Ideal.rsqrt (∑ x, R x * R x * gmv x j + ∑ x, (R x * R x - R x * R x) * gmv x j + (e : EReal)) = Rms.rs (hrow R j) 64 e := by
  rw [rest_zero (fun x => R x * R x) _ fun k => mul_real (hR k) (hR k), add_zero, group_mean (fun x => R x * R x)]
  rfl

include hR in
theorem split_hx (j : Fin 256) : R j * Ideal.rsqrt (∑ x, R x * R x * gmv x j + ∑ x, (R x * R x - R x * R x) * gmv x j + (e : EReal)) = hx e R j := by
  rw [split_rs e R hR]; rfl

include he hR hD in
/-- The gradient from the split products with the block matrix. -/
theorem split_dx (j : Fin 256) :
    Ideal.rsqrt (∑ x, R x * R x * gmv x j + ∑ x, (R x * R x - R x * R x) * gmv x j + (e : EReal))
      * (D j - R j * Ideal.rsqrt (∑ x, R x * R x * gmv x j + ∑ x, (R x * R x - R x * R x) * gmv x j + (e : EReal))
        * (∑ x, D x * (R x * Ideal.rsqrt (∑ y, R y * R y * gmv y x + ∑ y, (R y * R y - R y * R y) * gmv y x + (e : EReal))) * gmv x j
          + ∑ x, (D x * (R x * Ideal.rsqrt (∑ y, R y * R y * gmv y x + ∑ y, (R y * R y - R y * R y) * gmv y x + (e : EReal)))
              - D x * (R x * Ideal.rsqrt (∑ y, R y * R y * gmv y x + ∑ y, (R y * R y - R y * R y) * gmv y x + (e : EReal)))) * gmv x j))
      = gdx e R D j := by
  simp only [split_rs e R hR]
  rw [rest_zero (fun x => D x * (R x * Rms.rs (hrow R x) 64 e)) _ fun k => mul_real (hD k) (mul_real (hR k) (rs_real _ _ _ (by norm_num) he)),
    add_zero, group_mean (fun x => D x * (R x * Rms.rs (hrow R x) 64 e))]
  simp only [hrow_head]
  unfold gdx Rms.dx
  rw [hrow_mod, hrow_mod]
  rfl
end split

/-- The one row of indices of a window one wide on two axes. -/
def row (N : ℕ) : Fin N ≃ Shape.Idx ⟨3, ![1, N, 1]⟩ where
  toFun k := ix3 (0 : Fin 1) k (0 : Fin 1)
  invFun q := q 1
  left_inv k := rfl
  right_inv q := by
    funext a
    match a with
    | ⟨0, _⟩ => exact Subsingleton.elim (α := Fin 1) _ _
    | ⟨1, _⟩ => rfl
    | ⟨2, _⟩ => exact Subsingleton.elim (α := Fin 1) _ _

/-- The host's running sum from the last token down: the sum of a suffix. -/
theorem suffix {A N C hi : ℕ} (x : FVec Ideal ⟨3, ![A, N, C]⟩ .f32) (init : (⟨0, ![]⟩ : Shape).Idx → Ideal .f32)
    (h : (⟨3, ![A, N, C]⟩ : Shape).ReduceWindows (![1, N, 1] : Fin 3 → ℕ) ![1, 1, 1] ![0, 0, 0] ![0, hi, 0] ⟨3, ![A, N, C]⟩)
    (hu : 0 < (⟨0, ![]⟩ : Shape).numel) (hinit : ∀ i, init i = (0 : EReal)) (a : Fin A) (j : Fin N) (c : Fin C)
    (f : ℕ → ℝ) (hf : ∀ k : Fin N, x (ix3 a k c) = ((f k.val : ℝ) : EReal)) :
    Host.reduceWindowAdd ![1, N, 1] ![1, 1, 1] ![0, 0, 0] ![0, hi, 0] x init h hu (ix3 a j c)
      = ((∑ k ∈ Finset.Ico j.val N, f k : ℝ) : EReal) := by
  have e : Host.reduceWindowAdd ![1, N, 1] ![1, 1, 1] ![0, 0, 0] ![0, hi, 0] x init h hu (ix3 a j c)
      = ∑ k : Fin N, ((fun n => (((if j.val + n < N then f (j.val + n) else 0 : ℝ)) : EReal)) k.val) := by
    unfold Host.reduceWindowAdd
    rw [Ideal.hostReduceWindowAdd_def, hinit]
    unfold Ideal.hostReduceWindowAdd Host.reduceWindow
    dsimp only
    rw [Cumsum.foldl_add, zero_add, ← Fin.sum_univ_def]
    rw [← Equiv.sum_comp ((row N).trans (Shape.rowMajor ⟨3, ![1, N, 1]⟩))]
    refine Finset.sum_congr rfl fun k _ => ?_
    have e := Equiv.symm_apply_apply (Shape.rowMajor ⟨3, ![1, N, 1]⟩) (row N k)
    rw [Equiv.trans_apply]
    set q := (Shape.rowMajor ⟨3, ![1, N, 1]⟩).symm ((Shape.rowMajor ⟨3, ![1, N, 1]⟩) (row N k)) with hq
    have e0 : (q 0).val = 0 := by rw [e]; rfl
    have e1 : (q 1).val = k.val := by rw [e]; rfl
    have e2 : (q 2).val = 0 := by rw [e]; rfl
    have ha := a.isLt
    have hc := c.isLt
    by_cases hk : j.val + k.val < N
    · rw [dif_pos (fun e => by
        match e with
        | ⟨0, _⟩ => show 0 ≤ a.val * 1 + (q 0).val ∧ a.val * 1 + (q 0).val - 0 < A; omega
        | ⟨1, _⟩ => show 0 ≤ j.val * 1 + (q 1).val ∧ j.val * 1 + (q 1).val - 0 < N; omega
        | ⟨2, _⟩ => show 0 ≤ c.val * 1 + (q 2).val ∧ c.val * 1 + (q 2).val - 0 < C; omega)]
      rw [if_pos hk, ← hf ⟨j.val + k.val, hk⟩]
      refine congrArg x (funext fun e => Fin.ext ?_)
      match e with
      | ⟨0, _⟩ => show a.val * 1 + (q 0).val - 0 = a.val; omega
      | ⟨1, _⟩ => show j.val * 1 + (q 1).val - 0 = j.val + k.val; omega
      | ⟨2, _⟩ => show c.val * 1 + (q 2).val - 0 = c.val; omega
    · rw [if_neg hk, dif_neg fun hin => hk (by
        have h3 : 0 ≤ j.val * 1 + (q 1).val ∧ j.val * 1 + (q 1).val - 0 < N := hin 1
        omega)]
      rfl
  rw [e, Fin.sum_univ_eq_sum_range (fun n => (((if j.val + n < N then f (j.val + n) else 0 : ℝ)) : EReal)) N, sum_coe,
    ← Finset.sum_filter, Finset.sum_Ico_eq_sum_range]
  congr 1
  refine Finset.sum_congr (Finset.ext fun n => ?_) fun _ _ => rfl
  rw [Finset.mem_filter, Finset.mem_range, Finset.mem_range]
  have := j.isLt
  omega

end Cert.PostReal

end
-- ==== Proof.PostRefs.lean ====
module

public import proofs.«01_k».proof.Proof.Gen.PostIdeal.Frame
public import proofs.«01_k».proof.Proof.Gen.PostRefIdeal.Read
public import proofs.«01_k».proof.Proof.Gen.PostRefIdeal.Run
public import proofs.«01_k».proof.Proof.PostReal

@[expose] public section

set_option maxRecDepth 16384

noncomputable section

open Idealize.ShloMosaic Idealize.ShloMosaic.TcCoe Idealize.SL.Sem
open Idealize.ShloMosaic.Pipeline (Dat)

namespace Cert.PostIdeal.Val

open Cert.PostIdeal Cert.PostIdeal.Gen
local notation "eps" => ((8796093 / 8796093022208 : ℝ))

open Cert.PostRefIdeal.Read

variable (m : (ℓ : Loc nD τ sig) → Buf (Elt Ideal) ℓ)

theorem heps : (0 : ℝ) < eps := by norm_num

section payloads
variable (gm : FVec Ideal S256x256 .bf16) (v dv : FVec Ideal S512x256 .f32) (g : FVec Ideal S1x256 .f32)
  (hg : ∀ k j, gm (ix2 k j) = PostReal.gmv k j)

include hg in
theorem p10 (r : Fin 512) (hv : ∀ k : Fin 256, ∃ x : ℝ, v (ix2 r k) = x) (hd : ∀ k : Fin 256, ∃ x : ℝ, dv (ix2 r k) * g (ix2 0 k) = x) (j : Fin 256) :
    k0_pay10 (F := Ideal) gm v dv g (ix2 r j) = PostReal.gdx eps (fun k => v (ix2 r k)) (fun k => dv (ix2 r k) * g (ix2 0 k)) j := by
  rw [← PostReal.split_dx eps heps _ _ hv hd]
  pointwise [k0_pay10, k0_pay9, k0_pay8, k0_pay7, k0_pay6, k0_pay5]
  simp only [hg, Rms.lit_eps]

theorem p15 : k0_pay15 (F := Ideal) (k0_pay5 gm) v dv g = k0_pay10 (F := Ideal) gm v dv g := rfl

include hg in
theorem p19_0 (v' dv' : FVec Ideal S512x256 .f32) (hv : ∀ (r : Fin 512) (k : Fin 256), ∃ x : ℝ, v' (ix2 r k) = x) (j : Fin 256) :
    k0_pay19 (F := Ideal) (k0_pay14 (k0_pay5 gm) v dv) (iota Kind.tc S8x256 32 [0] iota_S8x256_d0_w32) k0_pay16 k0_pay17 (k0_pay18 (k0_pay9 gm v' dv')) (ix3 0 0 j)
      = ∑ r : Fin 512, dv' (ix2 r j) * PostReal.hx eps (fun k => v' (ix2 r k)) j := by
  pointwise [k0_pay10, k0_pay9, k0_pay8, k0_pay7, k0_pay6, k0_pay5, k0_pay19, k0_pay14, k0_pay13, k0_pay12, k0_pay11, k0_pay16, k0_pay17, k0_pay18]
  rw [show IntOp.cmpi CmpIPredicate.eq 0#32 1#32 = 0#1 from by decide, show ∀ a b : EReal, Scalar.select (0#1) a b = b from fun _ _ => rfl]
  refine Finset.sum_congr rfl fun r _ => ?_
  rw [← PostReal.split_hx eps _ (hv r)]
  simp only [hg, Rms.lit_eps]

include hg in
theorem p19_1 (v' dv' : FVec Ideal S512x256 .f32) (hv : ∀ (r : Fin 512) (k : Fin 256), ∃ x : ℝ, v (ix2 r k) = x) (j : Fin 256) :
    k0_pay19 (F := Ideal) (k0_pay14 (k0_pay5 gm) v dv) (iota Kind.tc S8x256 32 [0] iota_S8x256_d0_w32) k0_pay16 k0_pay17 (k0_pay18 (k0_pay9 gm v' dv')) (ix3 0 1 j)
      = ∑ r : Fin 512, dv (ix2 r j) * PostReal.hx eps (fun k => v (ix2 r k)) j := by
  pointwise [k0_pay10, k0_pay9, k0_pay8, k0_pay7, k0_pay6, k0_pay5, k0_pay19, k0_pay14, k0_pay13, k0_pay12, k0_pay11, k0_pay16, k0_pay17, k0_pay18]
  refine Finset.sum_congr rfl fun r _ => ?_
  rw [← PostReal.split_hx eps _ (hv r)]
  simp only [hg, Rms.lit_eps]
end payloads

theorem p21 (x : FVec Ideal S512x128 .f32) (w : FVec Ideal S1x128 .f32) (j : Fin 128) : k0_pay21 (F := Ideal) x w (ix2 0 j) = k0_pay20 (F := Ideal) x w (ix2 0 j) := by
  pointwise [k0_pay21]

theorem p4 (j : Fin 128) : k0_pay4 (F := Ideal) (ix2 0 j) = 0 := by
  pointwise [k0_pay4]

theorem tri_at (r k : Fin 512) : (FloatOps.sitofp FTy.f32 (BitVec.setWidth 32 (IntOp.cmpi CmpIPredicate.sle (BitVec.ofNat 32 r.val) (BitVec.ofNat 32 k.val))) : Ideal .f32)
    = ((if r.val ≤ k.val then 1 else 0 : ℝ) : EReal) := by
  rw [WordCmp.cmpi_sle_ofNat (by omega) (by omega)]
  exact PostReal.sitofp_bool _

theorem p20 (x : FVec Ideal S512x128 .f32) (w : FVec Ideal S1x128 .f32) (r : Fin 512) (j : Fin 128) (f : ℕ → ℝ) (w0 : ℝ)
    (hf : ∀ k : Fin 512, x (ix2 k j) = ((f k.val : ℝ) : EReal)) (hw : w (ix2 0 j) = (w0 : EReal)) :
    k0_pay20 (F := Ideal) x w (ix2 r j) = ((∑ k ∈ Finset.Ico r.val 512, f k + w0 : ℝ) : EReal) := by
  rw [← PostReal.tri_sum _ (fun k => x (ix2 k j)) f w0 (r.val ≤ ·) _ (fun n => by rw [Finset.mem_Ico]; omega) (fun k => rfl) hf, ← hw]
  pointwise [k0_pay20]
  simp only [tri_at]

theorem p2 (d x : FVec Ideal S512x128 .f32) (w : FVec Ideal S1x128 .f32) (r : Fin 512) (j : Fin 128) :
    k0_pay2 (F := Ideal) d (k0_pay22 x) (k0_pay23 w) (ix2 r j) = d (ix2 r j) * Ideal.div 1 (1 + Ideal.exp (0 - (0 - (x (ix2 r j) + w (ix2 0 j))))) := by
  pointwise [k0_pay2, k0_pay1, k0_pay22, k0_pay23]

theorem p3 (d x : FVec Ideal S512x128 .f32) (w : FVec Ideal S1x128 .f32) (j : Fin 128) :
    k0_pay3 (F := Ideal) d (k0_pay22 x) (k0_pay23 w) (ix3 0 0 j) = ∑ r : Fin 512, k0_pay2 (F := Ideal) d (k0_pay22 x) (k0_pay23 w) (ix2 r j) := by
  pointwise [k0_pay3, k0_pay2, k0_pay1, k0_pay22, k0_pay23]

section refs
variable (DQ DK : FVec Ideal S8192x256 .f32) (DC : FVec Ideal S8192x4 .f32) (P : FVec Ideal S8192x2564 .f32) (G : FVec Ideal S2x64 .f32) (Bf : FVec Ideal S4 .f32)

/-- The queries' and the keys' columns of a token's projection, and their cotangents with the gain. -/
def Rq (n : Fin 8192) : Fin 256 → EReal := fun k => P (ix2 n ⟨1792 + k.val, by omega⟩)
def Rk (n : Fin 8192) : Fin 256 → EReal := fun k => P (ix2 n ⟨2048 + k.val, by omega⟩)
def Dq (n : Fin 8192) : Fin 256 → EReal := fun k => DQ (ix2 n k) * G (ix2 0 ⟨k.val % 64, by omega⟩)
def Dk (n : Fin 8192) : Fin 256 → EReal := fun k => DK (ix2 n k) * G (ix2 1 ⟨k.val % 64, by omega⟩)

theorem mod_head (j : Fin 256) (x : Fin 64) (h : (j.val / 64 * 64 + x.val) % 64 < 64) : (⟨(j.val / 64 * 64 + x.val) % 64, h⟩ : Fin 64) = x := Fin.ext (by dsimp only; omega)

theorem ref_DQ (n : Fin 8192) (j : Fin 256) : val_main_v103 (F := Ideal) DQ P G (ix2 n j) = PostReal.gdx eps (Rq P n) (Dq DQ G n) j := by
  unfold PostReal.gdx
  rw [Rms.dx_eq _ _ _ _ (by norm_num) heps]
  unfold Rms.fac Rms.rs Rms.ms
  rw [PostReal.hrow_mod, PostReal.hrow_mod, ← PostReal.lit_64, ← Rms.lit_eps, ← Rms.lit_nhalf]
  unfold PostReal.hrow Rq Dq
  simp only [mod_head]
  unfold val_main_v103 val_main_v102 val_main_v101 val_main_v100 val_main_v99 val_main_v98 val_main_v97 val_main_v96 val_main_cst_20 val_main_v95 val_main_v94 val_main_cst_19 val_main_v93 val_main_v92 val_main_v91 val_main_v90 val_main_v89 val_main_cst_18 val_main_v88 val_main_v83 val_main_v82 val_main_v22 val_main_v21 val_main_v20 val_main_v17 val_main_v16 val_main_cst_2 val_main_v15 val_main_v14 val_main_v13 val_main_v12 val_main_cst_1 val_main_v11 val_main_v10 val_main_cst_0 val_main_v9 val_main_v8 val_main_cst val_main_v7 val_main_v6 val_main_v3 val_main_v0
  pointwise
  simp only [Finset.univ_unique, Finset.sum_singleton]

theorem ref_DK (n : Fin 8192) (j : Fin 256) : val_main_v104 (F := Ideal) DK P G (ix2 n j) = PostReal.gdx eps (Rk P n) (Dk DK G n) j := by
  unfold PostReal.gdx
  rw [Rms.dx_eq _ _ _ _ (by norm_num) heps]
  unfold Rms.fac Rms.rs Rms.ms
  rw [PostReal.hrow_mod, PostReal.hrow_mod, ← PostReal.lit_64, ← Rms.lit_eps, ← Rms.lit_nhalf]
  unfold PostReal.hrow Rk Dk
  simp only [mod_head]
  unfold val_main_v104 val_main_v78 val_main_v77 val_main_v76 val_main_v75 val_main_v74 val_main_v73 val_main_v72 val_main_cst_14 val_main_v71 val_main_v70 val_main_cst_13 val_main_v69 val_main_v68 val_main_v67 val_main_v66 val_main_v65 val_main_cst_12 val_main_v64 val_main_v60 val_main_v59 val_main_v41 val_main_v40 val_main_v39 val_main_v36 val_main_v35 val_main_cst_6 val_main_v34 val_main_v33 val_main_v32 val_main_v31 val_main_cst_5 val_main_v30 val_main_v29 val_main_cst_4 val_main_v28 val_main_v27 val_main_cst_3 val_main_v26 val_main_v25 val_main_v4 val_main_v1
  pointwise
  simp only [Finset.univ_unique, Finset.sum_singleton]

theorem ref_G (j : Fin 64) : val_main_v87 (F := Ideal) DQ DK P (ix2 0 j) = ∑ n : Fin 8192, ∑ h : Fin 4, DQ (ix2 n ⟨h.val * 64 + j.val, by omega⟩) * PostReal.hx eps (Rq P n) ⟨h.val * 64 + j.val, by omega⟩
    ∧ val_main_v87 (F := Ideal) DQ DK P (ix2 1 j) = ∑ n : Fin 8192, ∑ h : Fin 4, DK (ix2 n ⟨h.val * 64 + j.val, by omega⟩) * PostReal.hx eps (Rk P n) ⟨h.val * 64 + j.val, by omega⟩ := by
  unfold PostReal.hx Rms.rs Rms.ms PostReal.hrow Rq Rk
  rw [← PostReal.lit_64, ← Rms.lit_eps]
  unfold val_main_v87 val_main_v86 val_main_cst_17 val_main_v85 val_main_v84 val_main_cst_16 val_main_v81 val_main_v80 val_main_cst_15 val_main_v79 val_main_v63 val_main_cst_11 val_main_v62 val_main_v61 val_main_cst_10 val_main_v58 val_main_v57 val_main_cst_9 val_main_v56 val_main_v38 val_main_v37 val_main_v33 val_main_v32 val_main_v31 val_main_cst_5 val_main_v30 val_main_v29 val_main_cst_4 val_main_v28 val_main_v27 val_main_cst_3 val_main_v26 val_main_v25 val_main_v19 val_main_v18 val_main_v14 val_main_v13 val_main_v12 val_main_cst_1 val_main_v11 val_main_v10 val_main_cst_0 val_main_v9 val_main_v8 val_main_cst val_main_v7 val_main_v6 val_main_v4 val_main_v3 val_main_v1 val_main_v0
  constructor <;> pointwise [Rms.sum01, Rms.third]
  all_goals
    simp only [Finset.univ_unique, Finset.sum_singleton]
    refine Finset.sum_congr rfl fun n _ => Finset.sum_congr rfl fun h _ => ?_
    have e : (h.val * 64 + j.val) / 64 * 64 = h.val * 64 := by omega
    simp only [e]
    rw [mul_comm]

/-- The logistic function of minus the gate's logit. -/
def gt (n : Fin 8192) (h : Fin 4) : EReal := Ideal.div 1 (1 + Ideal.exp (P (ix2 n ⟨2560 + h.val, by omega⟩) + Bf (ix1 h)))

theorem gate_ref (z : EReal) (hz : ∃ r : ℝ, z = r) :
    Ideal.exp ((if -z = Ideal.ofBits .f32 2139095040#32 then 0 else -z)
      - if (if -z ≠ -z then -z else max (-z) 0 + Ideal.log1p (Ideal.exp (-FloatOps.absf (F := Ideal) (φ := .f32) (-z)))) = Ideal.ofBits .f32 2139095040#32 then 0
        else if -z ≠ -z then -z else max (-z) 0 + Ideal.log1p (Ideal.exp (-FloatOps.absf (F := Ideal) (φ := .f32) (-z)))) = Ideal.div 1 (1 + Ideal.exp z) := by
  obtain ⟨r, rfl⟩ := hz
  have e : max (-(r : EReal)) 0 + Ideal.log1p (Ideal.exp (-FloatOps.absf (F := Ideal) (φ := .f32) (-(r : EReal))))
      = max (-(r : EReal)) 0 + Ideal.log (1 + Ideal.exp (0 - max (-(r : EReal)) (-(-(r : EReal))))) := by
    rw [zero_sub]; rfl
  have n1 : -(r : EReal) ≠ ⊤ := by rw [← EReal.coe_neg]; exact EReal.coe_ne_top _
  have n2 : max (-(r : EReal)) 0 + Ideal.log (1 + Ideal.exp (0 - max (-(r : EReal)) (-(-(r : EReal))))) ≠ ⊤ := by
    rw [← EReal.coe_neg, SbSpec.sp_coe]; exact EReal.coe_ne_top _
  rw [if_neg (not_not.mpr rfl), e, PostReal.lit_inf, if_neg n1, if_neg n2]
  exact PostReal.gate r

/-- One head's cotangents of the running sum, over one batch entry's tokens. -/
def cf (b : ℕ) (h : Fin 4) (k : ℕ) : ℝ := if hk : b * 4096 + k < 8192 then (DC (ix2 ⟨b * 4096 + k, hk⟩ h)).toReal else 0

theorem cf_at (hC : ∀ i, ∃ r : ℝ, DC i = r) (b : ℕ) (h : Fin 4) (k : ℕ) (n : Fin 8192) (hn : n.val = b * 4096 + k) : DC (ix2 n h) = ((cf DC b h k : ℝ) : EReal) := by
  have hk : b * 4096 + k < 8192 := hn ▸ n.isLt
  unfold cf
  rw [dif_pos hk, show n = ⟨b * 4096 + k, hk⟩ from Fin.ext hn]
  obtain ⟨r, hr⟩ := hC (ix2 ⟨b * 4096 + k, hk⟩ h)
  rw [hr, EReal.toReal_coe]

/-- The gradient of the gate's logit. -/
def dl (n : Fin 8192) (h : Fin 4) : EReal := ((∑ k ∈ Finset.Ico (n.val % 4096) 4096, cf DC (n.val / 4096) h k : ℝ) : EReal) * gt P Bf n h

theorem win (hC : ∀ i, ∃ r : ℝ, DC i = r) (n : Fin 8192) (h : Fin 4) :
    Host.reduceWindowAdd ![1, 4096, 1] ![1, 1, 1] ![0, 0, 0] ![0, 4095, 0]
            (shapeCast PostRefIdeal.S2x4096x4 DC PostRefIdeal.Gen.shapeCasts_S8192x4_S2x4096x4)
            (broadcastInDim PostRefIdeal.S_ ![] PostRefIdeal.Gen.bcast_S_S_ (constant PostRefIdeal.S_ FTy.f32 0#32))
            PostRefIdeal.Gen.reduceWindows_S2x4096x4_S2x4096x4_w1s1p0_0_w4096s1p0_4095_w1s1p0_0 PostRefIdeal.Gen.h_S_
            (ix3 ⟨n.val / 4096, by omega⟩ ⟨n.val % 4096, by omega⟩ h)
      = ((∑ k ∈ Finset.Ico (n.val % 4096) 4096, cf DC (n.val / 4096) h k : ℝ) : EReal) := by
  refine PostReal.suffix _ _ _ _ (fun i => ?_) _ _ _ _ fun k => ?_
  · pointwise
  · pointwise
    exact cf_at DC hC _ h k.val _ rfl

theorem ref_DC (hC : ∀ i, ∃ r : ℝ, DC i = r) (n : Fin 8192) (h : Fin 4) (hz : ∃ r : ℝ, P (ix2 n ⟨2560 + h.val, by omega⟩) + Bf (ix1 h) = r) :
    val_main_v105 (F := Ideal) DC P Bf (ix2 n h) = dl DC P Bf n h := by
  unfold val_main_v105 val_main_v52 val_main_call3_v1 val_main_call3_v0 val_main_v51 val_main_v50 val_main_call2_call0_v0 val_main_call2_call0_cst val_main_v47_1 val_main_call0_call0_v21 val_main_call0_call0_v20 val_main_call0_call0_v19 val_main_call0_call0_cst_3 val_main_call0_call0_v18 val_main_call0_call0_v17 val_main_call0_call0_cst_2 val_main_call0_call0_v16 val_main_call0_call0_v15 val_main_call0_call0_cst_1 val_main_call0_call0_v14 val_main_call0_call0_v13 val_main_call0_call0_cst_0 val_main_call0_v1_0 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v46 val_main_v45 val_main_v44 val_main_v5 val_main_v2
  pointwise
  rw [gate_ref _ hz, win DC hC n h, neg_mul, neg_neg]
  rfl

theorem ref_B (hC : ∀ i, ∃ r : ℝ, DC i = r) (h : Fin 4) (hz : ∀ n : Fin 8192, ∃ r : ℝ, P (ix2 n ⟨2560 + h.val, by omega⟩) + Bf (ix1 h) = r) :
    val_main_v55 (F := Ideal) DC P Bf (ix1 h) = ∑ n : Fin 8192, dl DC P Bf n h := by
  unfold val_main_v55 val_main_cst_8 val_main_v54 val_main_v53 val_main_cst_7
  pointwise
  simp only [Finset.univ_unique, Finset.sum_singleton]
  exact Finset.sum_congr rfl fun n _ => ref_DC DC P Bf hC n h (hz n)
end refs

end Cert.PostIdeal.Val
-- ==== Proof.Post.lean ====
module

public import proofs.«01_k».proof.Proof.Gen.PostIdeal.Frame
public import proofs.«01_k».proof.Proof.Gen.PostRefIdeal.Read
public import proofs.«01_k».proof.Proof.Gen.PostRefIdeal.Run
public import proofs.«01_k».proof.Proof.PostRefs
public import Idealize.ShloMosaic.Lib.KernelVsHost
public import proofs.«01_k».proof.Pre_post_finite

@[expose] public section

set_option maxRecDepth 16384

noncomputable section

open Idealize.ShloMosaic Idealize.ShloMosaic.TcCoe Idealize.SL.Sem
open Idealize.ShloMosaic.Pipeline (Dat)

namespace Cert.PostIdeal.Val

open Cert.PostIdeal Cert.PostIdeal.Gen
local notation "eps" => ((8796093 / 8796093022208 : ℝ))

open PostRefIdeal.Read (val_main_v103 val_main_v104 val_main_v105 val_main_v87 val_main_v55)

variable (m : (ℓ : Loc nD τ sig) → Buf (Elt Ideal) ℓ)

/-- The arguments as the kernel finds them. -/
abbrev DQ (c : Dev nD) : FVec Ideal S8192x256 .f32 := m (c.tc.loc main_arg0)
abbrev DK (c : Dev nD) : FVec Ideal S8192x256 .f32 := m (c.tc.loc main_arg1)
abbrev DC (c : Dev nD) : FVec Ideal S8192x4 .f32 := m (c.tc.loc main_arg2)
abbrev P (c : Dev nD) : FVec Ideal S8192x2564 .f32 := m (c.tc.loc main_arg3)
abbrev G (c : Dev nD) : FVec Ideal S2x64 .f32 := m (c.tc.loc main_arg4)
abbrev Bf (c : Dev nD) : FVec Ideal S4 .f32 := m (c.tc.loc main_arg5)

theorem idx : ∀ t : Fin cfg0.N, win0_0.index t = ![t.val / 8 * 8 + (7 - t.val % 8), 0] ∧ win0_1.index t = ![t.val / 8 * 8 + (7 - t.val % 8), 0] ∧ win0_2.index t = ![t.val / 8 * 8 + (7 - t.val % 8), 0]
    ∧ win0_3.index t = ![t.val / 8 * 8 + (7 - t.val % 8), 7] ∧ win0_4.index t = ![t.val / 8 * 8 + (7 - t.val % 8), 8] ∧ win0_5.index t = ![t.val / 8 * 8 + (7 - t.val % 8), 20] ∧ win0_6.index t = ![0, 0]
    ∧ win0_7.index t = ![0, 0] ∧ win0_8.index t = ![0, 0] ∧ win0_9.index t = ![0, 0] ∧ win0_10.index t = ![t.val / 8 * 8 + (7 - t.val % 8), 0] ∧ win0_11.index t = ![t.val / 8 * 8 + (7 - t.val % 8), 0]
    ∧ win0_12.index t = ![t.val / 8 * 8 + (7 - t.val % 8), 0] ∧ win0_13.index t = ![t.val / 8 * 8 + (7 - t.val % 8), 0, 0] ∧ win0_14.index t = ![t.val / 8 * 8 + (7 - t.val % 8), 0, 0] :=
  (by decide +kernel : ∀ t : Fin grid0.N, _)

/-- The tile of a point: the tiles of a batch entry from the last one down. -/
def tl (t : Fin cfg0.N) : ℕ := t.val / 8 * 8 + (7 - t.val % 8)
theorem tl_lt (t : Fin cfg0.N) : tl t < 16 := by
  have h : t.val < 16 := t.isLt
  unfold tl; omega
theorem ht (t : Fin cfg0.N) (r : Fin 512) : tl t * 512 + r.val < 8192 := by have := tl_lt t; omega
/-- A row of a tile. -/
def rw' (t : Fin cfg0.N) (r : Fin 512) : Fin 8192 := ⟨tl t * 512 + r.val, ht t r⟩

/-- The host lines before the grid: the block matrix, the gains over the heads, and the padded arrays. -/
def gmA : FVec Ideal S256x256 .bf16 := shapeCast S256x256 (mulf (broadcastInDim S4x64x4x64 ![0, 1, 2, 3] bcast_S4x1x4x1_S4x64x4x64_0_1_2_3 (broadcastInDim S4x1x4x1 ![0, 2] bcast_S4x4_S4x1x4x1_0_2 (uitofp FTy.bf16 (cmpi CmpIPredicate.eq (addi (iotaInDim S4x4 32 0) (broadcastInDim S4x4 ![] bcast_S_S4x4 (constantI S_ 32 0#32))) (iotaInDim S4x4 32 1))))) (broadcastInDim S4x64x4x64 ![0, 1, 2, 3] bcast_S4x64x1x64_S4x64x4x64_0_1_2_3 (broadcastInDim S4x64x1x64 ![0, 1, 3] bcast_S4x64x64_S4x64x1x64_0_1_3 (broadcastInDim S4x64x64 ![] bcast_S_S4x64x64 (constant S_ FTy.bf16 15488#16))))) shapeCasts_S4x64x4x64_S256x256
def gA0 (G : FVec Ideal S2x64 .f32) : FVec Ideal S1x256 .f32 := broadcastInDim S1x256 ![1] bcast_S256_S1x256_1 (shapeCast S256 (broadcastInDim S4x64 ![0, 1] bcast_S1x64_S4x64_0_1 (shapeCast S1x64 (shapeCast S64 (extractStridedSlice S1x64 ![0, 0] G slices_S2x64_S1x64_0_0) shapeCasts_S1x64_S64) shapeCasts_S64_S1x64)) shapeCasts_S4x64_S256)
def gA1 (G : FVec Ideal S2x64 .f32) : FVec Ideal S1x256 .f32 := broadcastInDim S1x256 ![1] bcast_S256_S1x256_1 (shapeCast S256 (broadcastInDim S4x64 ![0, 1] bcast_S1x64_S4x64_0_1 (shapeCast S1x64 (shapeCast S64 (extractStridedSlice S1x64 ![1, 0] G slices_S2x64_S1x64_1_0) shapeCasts_S1x64_S64) shapeCasts_S64_S1x64)) shapeCasts_S4x64_S256)
def bfA (B : FVec Ideal S4 .f32) : FVec Ideal S1x128 .f32 := broadcastInDim S1x128 ![1] bcast_S128_S1x128_1 (pad S128 ![0] ![124] ![0] B (sitofp .f32 (constantI S_ 32 0#32)) pads_S4_S128_01240 h_S_)
def prA (P : FVec Ideal S8192x2564 .f32) : FVec Ideal S8192x2688 .f32 := pad S8192x2688 ![0, 0] ![0, 124] ![0, 0] P (sitofp .f32 (constantI S_ 32 0#32)) pads_S8192x2564_S8192x2688_000_01240 h_S_

theorem gm_at (k j : Fin 256) : gmA (ix2 k j) = PostReal.gmv k j := by
  pointwise [gmA]
  rw [show IntOp.addi (BitVec.ofNat 32 (k.val / 64)) 0#32 = BitVec.ofNat 32 (k.val / 64) from BitVec.add_zero _,
    WordCmp.cmpi_eq_ofNat (by omega) (by omega), show Ideal.ofBits .bf16 15488#16 = ((1 / 64 : ℝ) : EReal) by simp [Ideal.ofBits, Ideal.ieee, -EReal.coe_mul]; norm_num]
  unfold PostReal.gmv
  by_cases e : k.val / 64 = j.val / 64
  · rw [if_pos e, decide_eq_true e, show (FloatOps.uitofp FTy.bf16 (BitVec.ofBool true) : Ideal .bf16) = ((1 : ℝ) : EReal) from ?_, ← EReal.coe_mul, one_mul]
    show (((BitVec.ofBool true).toNat : ℝ) : EReal) = _
    simp
  · rw [if_neg e, decide_eq_false e, show (FloatOps.uitofp FTy.bf16 (BitVec.ofBool false) : Ideal .bf16) = (0 : EReal) from ?_, zero_mul]
    show (((BitVec.ofBool false).toNat : ℝ) : EReal) = _
    simp

theorem g0_at (G : FVec Ideal S2x64 .f32) (k : Fin 256) : gA0 G (ix2 0 k) = G (ix2 0 ⟨k.val % 64, by omega⟩) := by
  pointwise [gA0]
theorem g1_at (G : FVec Ideal S2x64 .f32) (k : Fin 256) : gA1 G (ix2 0 k) = G (ix2 1 ⟨k.val % 64, by omega⟩) := by
  pointwise [gA1]

theorem bf_at (B : FVec Ideal S4 .f32) (h : Fin 4) (q : Fin 128) (hq : q.val = h.val) : bfA B (ix2 0 q) = B (ix1 h) := by
  pointwise [bfA]
  rw [dif_pos (show q.val < 4 by omega)]
  exact congrArg (fun i => B (ix1 i)) (Fin.ext hq)

theorem pr_at (P : FVec Ideal S8192x2564 .f32) (n : Fin 8192) (q : Fin 2688) (l : Fin 2564) (hq : q.val = l.val) : prA P (ix2 n q) = P (ix2 n l) :=
  pad_apply_of_inside _ _ _ _ _ _ _ _ (ix2 n l) (fun x => by fin_cases x <;> simp [ix2, hq])

def dcA (D : FVec Ideal S8192x4 .f32) : FVec Ideal S8192x128 .f32 := pad S8192x128 ![0, 0] ![0, 124] ![0, 0] D (sitofp .f32 (constantI S_ 32 0#32)) pads_S8192x4_S8192x128_000_01240 h_S_
theorem dc_at (D : FVec Ideal S8192x4 .f32) (n : Fin 8192) (q : Fin 128) (h : Fin 4) (hq : q.val = h.val) : dcA D (ix2 n q) = D (ix2 n h) :=
  pad_apply_of_inside _ _ _ _ _ _ _ _ (ix2 n h) (fun x => by fin_cases x <;> simp [ix2, hq])

theorem V_all (c : Dev nD) : (V m c main_v12 : FVec Ideal S256x256 .bf16) = gmA ∧ (V m c main_v18 : FVec Ideal S1x256 .f32) = gA0 (G m c)
    ∧ (V m c main_v24 : FVec Ideal S1x256 .f32) = gA1 (G m c) ∧ (V m c main_v26 : FVec Ideal S1x128 .f32) = bfA (Bf m c) ∧ (V m c main_v27 : FVec Ideal S8192x2688 .f32) = prA (P m c)
    ∧ (V m c main_v28 : FVec Ideal S8192x128 .f32) = dcA (DC m c) := by
  refine ⟨?_, ?_, ?_, ?_, ?_, ?_⟩
  all_goals
    show StableHlo.after (List.flatten [hostOps0, hostOps0_1, hostOps0_2, hostOps0_3, hostOps0_4, hostOps0_5]) (fun b => m (c, b)) _ = _
    dsimp only [hostOps0, hostOps0_1, hostOps0_2, hostOps0_3, hostOps0_4, hostOps0_5, List.flatten_cons, List.flatten_nil, List.append_nil, List.cons_append, List.nil_append]
    after_results
    rfl

section blocks
variable (c : Dev nD) (t : Fin cfg0.N) (r : Fin 512)

theorem blk0 (k : Fin 256) : (iblk m c 0 t : FVec Ideal S512x256 .f32) (ix2 r k) = DQ m c (ix2 (rw' t r) k) := by
  blk_point [iblk, V, idx t, rw', tl]
theorem blk1 (k : Fin 256) : (iblk m c 1 t : FVec Ideal S512x256 .f32) (ix2 r k) = DK m c (ix2 (rw' t r) k) := by
  blk_point [iblk, V, idx t, rw', tl]
theorem blk2 (h : Fin 4) (q : Fin 128) (hq : q.val = h.val) : (iblk m c 2 t : FVec Ideal S512x128 .f32) (ix2 r q) = DC m c (ix2 (rw' t r) h) := by
  refine Eq.trans ?_ ((congrFun (V_all m c).2.2.2.2.2 _).trans (dc_at _ (rw' t r) q h hq))
  blk_point [iblk, idx t, rw', tl]
theorem blk3 (k : Fin 256) : (X0_3 m c t : FVec Ideal S512x256 .f32) (ix2 r k) = Rq (P m c) (rw' t r) k := by
  refine Eq.trans ?_ ((congrFun (V_all m c).2.2.2.2.1 _).trans (pr_at _ (rw' t r) ⟨1792 + k.val, by omega⟩ ⟨1792 + k.val, by omega⟩ rfl))
  unfold X0_3 Pipeline.Window.fill
  rw [dif_pos (moved0_3 t _)]
  blk_point [iblk, idx t, rw', tl]
theorem blk4 (k : Fin 256) : (X0_4 m c t : FVec Ideal S512x256 .f32) (ix2 r k) = Rk (P m c) (rw' t r) k := by
  refine Eq.trans ?_ ((congrFun (V_all m c).2.2.2.2.1 _).trans (pr_at _ (rw' t r) ⟨2048 + k.val, by omega⟩ ⟨2048 + k.val, by omega⟩ rfl))
  unfold X0_4 Pipeline.Window.fill
  rw [dif_pos (moved0_4 t _)]
  blk_point [iblk, idx t, rw', tl]
theorem blk5 (h : Fin 4) (q : Fin 128) (hq : q.val = h.val) : (iblk m c 5 t : FVec Ideal S512x128 .f32) (ix2 r q) = P m c (ix2 (rw' t r) ⟨2560 + h.val, by omega⟩) := by
  refine Eq.trans ?_ ((congrFun (V_all m c).2.2.2.2.1 _).trans (pr_at _ (rw' t r) ⟨2560 + h.val, by omega⟩ ⟨2560 + h.val, by omega⟩ rfl))
  blk_point [iblk, idx t, rw', tl]
theorem blk6 (k : Fin 256) : (iblk m c 6 t : FVec Ideal S1x256 .f32) (ix2 0 k) = G m c (ix2 0 ⟨k.val % 64, by omega⟩) := by
  refine Eq.trans ?_ ((congrFun (V_all m c).2.1 _).trans (g0_at _ k))
  blk_point [iblk, idx t]
theorem blk7 (k : Fin 256) : (iblk m c 7 t : FVec Ideal S1x256 .f32) (ix2 0 k) = G m c (ix2 1 ⟨k.val % 64, by omega⟩) := by
  refine Eq.trans ?_ ((congrFun (V_all m c).2.2.1 _).trans (g1_at _ k))
  blk_point [iblk, idx t]
theorem blk8 (h : Fin 4) (q : Fin 128) (hq : q.val = h.val) : (iblk m c 8 t : FVec Ideal S1x128 .f32) (ix2 0 q) = Bf m c (ix1 h) := by
  refine Eq.trans ?_ ((congrFun (V_all m c).2.2.2.1 _).trans (bf_at _ h q hq))
  blk_point [iblk, idx t]
theorem blk9 (k j : Fin 256) : (iblk m c 9 t : FVec Ideal S256x256 .bf16) (ix2 k j) = PostReal.gmv k j := by
  refine Eq.trans ?_ ((congrFun (V_all m c).1 _).trans (gm_at k j))
  blk_point [iblk, idx t]
end blocks

theorem read_scratch (h : (Memref.whole cc0_scratch0 : Memref sig .tc .vmem S1x128 .f32).IsWhole) (w : FVec Ideal S1x128 .f32) : View.read (Elt Ideal) (View.whole cc0_scratch0) (h.unread w) = w :=
  h.read_unread (Val := Elt Ideal) w

section outs
variable (c : Dev nD) (t : Fin cfg0.N)

theorem out10 : (outsAt0 m c t.val t.isLt).1 = k0_pay10 (iblk m c 9 t) (X0_3 m c t) (iblk m c 0 t) (iblk m c 6 t) := by
  by_cases h : t.val % 8 = 0
  · rw [outsAt0_A m c t h]; funext y; frame_out
  · rw [outsAt0_B m c t h]; funext y; frame_out

theorem out11 : (outsAt0 m c t.val t.isLt).2.1 = k0_pay15 (k0_pay5 (iblk m c 9 t)) (X0_4 m c t) (iblk m c 1 t) (iblk m c 7 t) := by
  by_cases h : t.val % 8 = 0
  · rw [outsAt0_A m c t h]; funext y; frame_out
  · rw [outsAt0_B m c t h]; funext y; frame_out

theorem out13 : (outsAt0 m c t.val t.isLt).2.2.2.1 = k0_pay19 (k0_pay14 (k0_pay5 (iblk m c 9 t)) (X0_4 m c t) (iblk m c 1 t)) (iota Kind.tc S8x256 32 [0] iota_S8x256_d0_w32) k0_pay16 k0_pay17 (k0_pay18 (k0_pay9 (iblk m c 9 t) (X0_3 m c t) (iblk m c 0 t))) := by
  by_cases h : t.val % 8 = 0
  · rw [outsAt0_A m c t h]; funext y; frame_out
  · rw [outsAt0_B m c t h]; funext y; frame_out
end outs

/-- A point's results and scratch, from what its scratch held before. -/
def St (c : Dev nD) (t : Fin cfg0.N) (C : FVec Ideal S1x128 .f32) : Prop :=
  (outsAt0 m c t.val t.isLt).2.2.1 = k0_pay2 (k0_pay20 (iblk m c 2 t) C) (k0_pay22 (iblk m c 5 t)) (k0_pay23 (iblk m c 8 t))
  ∧ (outsAt0 m c t.val t.isLt).2.2.2.2.1 = k0_pay3 (k0_pay20 (iblk m c 2 t) C) (k0_pay22 (iblk m c 5 t)) (k0_pay23 (iblk m c 8 t))
  ∧ (outsAt0 m c t.val t.isLt).2.2.2.2.2 = k0_pay21 (iblk m c 2 t) C

theorem outA (c : Dev nD) (t : Fin cfg0.N) (h : t.val % 8 = 0) : St m c t k0_pay4 := by
  unfold St
  rw [outsAt0_A m c t h]
  refine ⟨?_, ?_, ?_⟩ <;> (funext y; frame_out)

theorem outB (c : Dev nD) (t : Fin cfg0.N) (h : ¬t.val % 8 = 0) : St m c t (outsAt0 m c (t.val - 1) (Nat.lt_of_le_of_lt (Nat.sub_le _ _) t.isLt)).2.2.2.2.2 := by
  unfold St
  rw [outsAt0_B m c t h]
  refine ⟨?_, ?_, ?_⟩ <;> (funext y; frame_out; simp only [read_scratch])

/-- What the running sum's scratch holds when the point's body reads it: the sums over the later tiles' tokens. -/
theorem carry (c : Dev nD) (hC : ∀ i, ∃ r : ℝ, DC m c i = r) : ∀ (N : ℕ) (t : Fin cfg0.N), t.val = N →
    ∃ C : FVec Ideal S1x128 .f32, (∀ (h : Fin 4) (q : Fin 128), q.val = h.val → C (ix2 0 q) = ((∑ k ∈ Finset.Ico ((7 - t.val % 8 + 1) * 512) 4096, cf (DC m c) (t.val / 8) h k : ℝ) : EReal))
      ∧ St m c t C := by
  intro N
  induction N with
  | zero =>
    intro t h0
    have h : t.val % 8 = 0 := by omega
    refine ⟨k0_pay4, fun h' q hq => ?_, outA m c t h⟩
    rw [p4, h]; simp
  | succ N ih =>
    intro t hN
    by_cases h : t.val % 8 = 0
    · refine ⟨k0_pay4, fun h' q hq => ?_, outA m c t h⟩
      rw [p4, h]; simp
    · have l1 : t.val - 1 < cfg0.N := Nat.lt_of_le_of_lt (Nat.sub_le _ _) t.isLt
      obtain ⟨C, hc, -, -, hs⟩ := ih ⟨t.val - 1, l1⟩ (by dsimp only; omega)
      refine ⟨_, fun h' q hq => ?_, outB m c t h⟩
      dsimp only at hs hc
      rw [hs, p21, p20 (iblk m c 2 ⟨t.val - 1, l1⟩) C 0 q (fun k => cf (DC m c) ((t.val - 1) / 8) h' ((7 - (t.val - 1) % 8) * 512 + k)) _ (fun k => ?_) (hc h' q hq)]
      · have := PostReal.suffix_tile (cf (DC m c) ((t.val - 1) / 8) h') (7 - (t.val - 1) % 8) 0 (by omega) (by omega)
        rw [show ((0 : Fin 512).val) = 0 from rfl, this, show 7 - (t.val - 1) % 8 = 7 - t.val % 8 + 1 by omega, show (t.val - 1) / 8 = t.val / 8 by omega, add_zero]
      · exact (blk2 m c _ k h' q hq).trans (cf_at (DC m c) hC _ h' _ _ (by unfold rw' tl; dsimp only; omega))

/-- The gradient of the gate's logit at one row of a tile. -/
theorem gate_row (c : Dev nD) (t : Fin cfg0.N) (hC : ∀ i, ∃ r : ℝ, DC m c i = r) (hP : ∀ i, ∃ r : ℝ, P m c i = r) (hB : ∀ i, ∃ r : ℝ, Bf m c i = r)
    (C : FVec Ideal S1x128 .f32) (h : Fin 4) (q : Fin 128) (hq : q.val = h.val)
    (hc : C (ix2 0 q) = ((∑ k ∈ Finset.Ico ((7 - t.val % 8 + 1) * 512) 4096, cf (DC m c) (t.val / 8) h k : ℝ) : EReal)) (r : Fin 512) :
    k0_pay2 (F := Ideal) (k0_pay20 (iblk m c 2 t) C) (k0_pay22 (iblk m c 5 t)) (k0_pay23 (iblk m c 8 t)) (ix2 r q) = dl (DC m c) (P m c) (Bf m c) (rw' t r) h := by
  have b5 := blk5 m c t r h q hq
  have b8 := blk8 m c t h q hq
  obtain ⟨x, hx⟩ := hP (ix2 (rw' t r) ⟨2560 + h.val, by omega⟩)
  obtain ⟨y, hy⟩ := hB (ix1 h)
  rw [p2, p20 (iblk m c 2 t) C r q (fun k => cf (DC m c) (t.val / 8) h ((7 - t.val % 8) * 512 + k)) _ (fun k => ?_) hc, b5, b8]
  · unfold dl gt
    rw [hx, hy, ← EReal.coe_add, PostReal.sub_sub_self, PostReal.suffix_tile _ _ _ (by omega) r.isLt]
    have e1 : (rw' t r).val % 4096 = (7 - t.val % 8) * 512 + r.val := by unfold rw' tl; dsimp only; omega
    have e2 : (rw' t r).val / 4096 = t.val / 8 := by unfold rw' tl; dsimp only; omega
    rw [e1, e2]
  · exact (blk2 m c _ k h q hq).trans (cf_at (DC m c) hC _ h _ _ (by unfold rw' tl; dsimp only; omega))

/-- Every argument real. -/
structure Real6 (c : Dev nD) : Prop where
  q : ∀ i, ∃ r : ℝ, DQ m c i = r
  k : ∀ i, ∃ r : ℝ, DK m c i = r
  dc : ∀ i, ∃ r : ℝ, DC m c i = r
  p : ∀ i, ∃ r : ℝ, P m c i = r
  g : ∀ i, ∃ r : ℝ, G m c i = r
  b : ∀ i, ∃ r : ℝ, Bf m c i = r

theorem zreal {c : Dev nD} (hF : Real6 m c) (n : Fin 8192) (h : Fin 4) : ∃ r : ℝ, P m c (ix2 n ⟨2560 + h.val, by omega⟩) + Bf m c (ix1 h) = r := by
  obtain ⟨x, hx⟩ := hF.p (ix2 n ⟨2560 + h.val, by omega⟩)
  obtain ⟨y, hy⟩ := hF.b (ix1 h)
  exact ⟨x + y, by rw [hx, hy, EReal.coe_add]⟩

theorem point10 {c : Dev nD} (hF : Real6 m c) (t : Fin cfg0.N) (y : S512x256.Idx) :
    k0_pay10 (F := Ideal) (iblk m c 9 t) (X0_3 m c t) (iblk m c 0 t) (iblk m c 6 t) y
    = val_main_v103 (F := Ideal) (DQ m c) (P m c) (G m c) (((cfg0.win 10).blk t).view.emb y) := by
  obtain ⟨r, j, rfl⟩ : ∃ (r : Fin 512) (j : Fin 256), y = ix2 r j := ⟨y 0, y 1, eq_ix2 y⟩
  have he : ((cfg0.win 10).blk t).view.emb (ix2 r j : S512x256.Idx) = (ix2 (rw' t r) j : S8192x256.Idx) := by
    blk_ext [idx t, rw', tl]
  have bv := blk3 m c t r
  have bd := blk0 m c t r
  have bg := blk6 m c t
  rw [he, ref_DQ, p10 (iblk m c 9 t) (X0_3 m c t) (iblk m c 0 t) (iblk m c 6 t) (blk9 m c t) r (fun k => ?_) (fun k => ?_)]
  · exact congrArg₂ (fun a b => PostReal.gdx eps a b j) (funext bv) (funext fun k => congrArg₂ (· * ·) (bd k) (bg k))
  · rw [bv]; exact hF.p _
  · rw [bd, bg]; exact PostReal.mul_real (hF.q _) (hF.g _)

theorem final10 {c : Dev nD} (hF : Real6 m c) : (dats m 0 c).arrAt 10 (cfgs 0).N = val_main_v103 (F := Ideal) (DQ m c) (P m c) (G m c) := by
  refine (dats m 0 c).arrAt_eq_of_covers 10 _ (by decide +kernel) fun t hf y => ?_
  blk_simp
  rw [after0_10, out10]
  exact point10 m hF t y

theorem point11 {c : Dev nD} (hF : Real6 m c) (t : Fin cfg0.N) (y : S512x256.Idx) :
    k0_pay10 (F := Ideal) (iblk m c 9 t) (X0_4 m c t) (iblk m c 1 t) (iblk m c 7 t) y
    = val_main_v104 (F := Ideal) (DK m c) (P m c) (G m c) (((cfg0.win 11).blk t).view.emb y) := by
  obtain ⟨r, j, rfl⟩ : ∃ (r : Fin 512) (j : Fin 256), y = ix2 r j := ⟨y 0, y 1, eq_ix2 y⟩
  have he : ((cfg0.win 11).blk t).view.emb (ix2 r j : S512x256.Idx) = (ix2 (rw' t r) j : S8192x256.Idx) := by
    blk_ext [idx t, rw', tl]
  have bv := blk4 m c t r
  have bd := blk1 m c t r
  have bg := blk7 m c t
  rw [he, ref_DK, p10 (iblk m c 9 t) (X0_4 m c t) (iblk m c 1 t) (iblk m c 7 t) (blk9 m c t) r (fun k => ?_) (fun k => ?_)]
  · exact congrArg₂ (fun a b => PostReal.gdx eps a b j) (funext bv) (funext fun k => congrArg₂ (· * ·) (bd k) (bg k))
  · rw [bv]; exact hF.p _
  · rw [bd, bg]; exact PostReal.mul_real (hF.k _) (hF.g _)

theorem final11 {c : Dev nD} (hF : Real6 m c) : (dats m 0 c).arrAt 11 (cfgs 0).N = val_main_v104 (F := Ideal) (DK m c) (P m c) (G m c) := by
  refine (dats m 0 c).arrAt_eq_of_covers 11 _ (by decide +kernel) fun t hf y => ?_
  blk_simp
  rw [after0_11, out11]
  exact point11 m hF t y

theorem arr12 {c : Dev nD} (hF : Real6 m c) (n : Fin 8192) (h : Fin 4) (q : Fin 128) (hq : q.val = h.val) :
    ((dats m 0 c).arrAt 12 (cfgs 0).N : FVec Ideal S8192x128 .f32) (ix2 n q) = dl (DC m c) (P m c) (Bf m c) n h := by
  refine ((dats m 0 c).arrAt_forall_of_covers 12 (fun (i : S8192x128.Idx) (v : EReal) => ∀ (n : Fin 8192), (i 0).val = n.val → (i 1).val = h.val →
    v = dl (DC m c) (P m c) (Bf m c) n h) (by decide +kernel) (fun t hf y => ?_) (ix2 n q)) n rfl hq
  blk_simp [idx t]
  obtain ⟨C, hc, h12, -, -⟩ := carry m c hF.dc t.val t rfl
  rw [after0_12, h12]
  intro n' hn h1
  obtain ⟨r, j, rfl⟩ : ∃ (r : Fin 512) (j : Fin 128), y = ix2 r j := ⟨y 0, y 1, eq_ix2 y⟩
  have hj : j.val = h.val := h1
  have e : n' = rw' t r := Fin.ext hn.symm
  rw [e]
  exact gate_row m c t hF.dc hF.p hF.b C h j hj (hc h j hj) r

theorem arr14 {c : Dev nD} (hF : Real6 m c) (n : Fin 16) (h : Fin 4) (q : Fin 128) (hq : q.val = h.val) :
    ((dats m 0 c).arrAt 14 (cfgs 0).N : FVec Ideal S16x8x128 .f32) (ix3 n 0 q) = ∑ r : Fin 512, dl (DC m c) (P m c) (Bf m c) ⟨n.val * 512 + r.val, by omega⟩ h := by
  refine ((dats m 0 c).arrAt_forall_of_covers 14 (fun (i : S16x8x128.Idx) (v : EReal) => ∀ (n : Fin 16), (i 0).val = n.val → (i 1).val = 0 → (i 2).val = h.val →
    v = ∑ r : Fin 512, dl (DC m c) (P m c) (Bf m c) ⟨n.val * 512 + r.val, by omega⟩ h) (by decide +kernel) (fun t hf y => ?_) (ix3 n 0 q)) n rfl rfl hq
  blk_simp [idx t]
  obtain ⟨C, hc, -, h14, -⟩ := carry m c hF.dc t.val t rfl
  rw [after0_14, h14]
  intro n' hn h1 h2
  have hn' : n'.val = tl t := by unfold tl; rw [← hn]
  obtain ⟨q', hq'⟩ : ∃ q' : Fin 128, q'.val = h.val := ⟨⟨h.val, by omega⟩, rfl⟩
  have hy : y = (ix3 0 0 q' : S1x8x128.Idx) := by
    funext x
    fin_cases x
    · exact Fin.ext (Nat.lt_one_iff.mp (y 0).isLt)
    · exact Fin.ext h1
    · exact Fin.ext (h2.trans hq'.symm)
  rw [hy, p3]
  refine Finset.sum_congr rfl fun r _ => ?_
  rw [gate_row m c t hF.dc hF.p hF.b C h q' hq' (hc h q' hq') r]
  exact congrArg (fun n => dl (DC m c) (P m c) (Bf m c) n h) (Fin.ext (congrArg (· * 512 + r.val) hn'.symm))

/-- A token's part of the two gains' gradients. -/
def gq (DQ : FVec Ideal S8192x256 .f32) (P : FVec Ideal S8192x2564 .f32) (j : Fin 256) (n : Fin 8192) : EReal := DQ (ix2 n j) * PostReal.hx eps (Rq P n) j
def gk (DK : FVec Ideal S8192x256 .f32) (P : FVec Ideal S8192x2564 .f32) (j : Fin 256) (n : Fin 8192) : EReal := DK (ix2 n j) * PostReal.hx eps (Rk P n) j

theorem arr13 {c : Dev nD} (hF : Real6 m c) (j : Fin 256) (n : Fin 16) (k : Fin 8) :
    (k.val = 0 → ((dats m 0 c).arrAt 13 (cfgs 0).N : FVec Ideal S16x8x256 .f32) (ix3 n k j) = ∑ r : Fin 512, gq (DQ m c) (P m c) j ⟨n.val * 512 + r.val, by omega⟩)
    ∧ (k.val = 1 → ((dats m 0 c).arrAt 13 (cfgs 0).N : FVec Ideal S16x8x256 .f32) (ix3 n k j) = ∑ r : Fin 512, gk (DK m c) (P m c) j ⟨n.val * 512 + r.val, by omega⟩) := by
  refine ((dats m 0 c).arrAt_forall_of_covers 13 (fun (i : S16x8x256.Idx) (v : EReal) => ∀ (n : Fin 16), (i 0).val = n.val → (i 2).val = j.val →
    ((i 1).val = 0 → v = ∑ r : Fin 512, gq (DQ m c) (P m c) j ⟨n.val * 512 + r.val, by omega⟩)
    ∧ ((i 1).val = 1 → v = ∑ r : Fin 512, gk (DK m c) (P m c) j ⟨n.val * 512 + r.val, by omega⟩))
    (by decide +kernel) (fun t hf y => ?_) (ix3 n k j)) n rfl rfl
  blk_simp [idx t]
  rw [after0_13, out13]
  intro n' hn h2
  have hn' : n'.val = tl t := by unfold tl; rw [← hn]
  have hy : ∀ k : Fin 8, (y 1).val = k.val → y = (ix3 0 k j : S1x8x256.Idx) := fun k hk => by
    funext x
    fin_cases x
    · exact Fin.ext (Nat.lt_one_iff.mp (y 0).isLt)
    · exact Fin.ext hk
    · exact Fin.ext h2
  have hr : ∀ r : Fin 512, rw' t r = ⟨n'.val * 512 + r.val, by omega⟩ := fun r => Fin.ext (congrArg (· * 512 + r.val) hn'.symm)
  refine ⟨fun h => ?_, fun h => ?_⟩
  · rw [hy 0 h, p19_0 (iblk m c 9 t) (X0_4 m c t) (iblk m c 1 t) (blk9 m c t) (X0_3 m c t) (iblk m c 0 t) fun r k => by rw [blk3]; exact hF.p _]
    refine Finset.sum_congr rfl fun r _ => ?_
    rw [← hr r]
    exact congrArg₂ (· * ·) (blk0 m c t r j) (congrArg (fun a => PostReal.hx eps a j) (funext (blk3 m c t r)))
  · rw [hy 1 h, p19_1 (iblk m c 9 t) (X0_4 m c t) (iblk m c 1 t) (blk9 m c t) (X0_3 m c t) (iblk m c 0 t) fun r k => by rw [blk4]; exact hF.p _]
    refine Finset.sum_congr rfl fun r _ => ?_
    rw [← hr r]
    exact congrArg₂ (· * ·) (blk1 m c t r j) (congrArg (fun a => PostReal.hx eps a j) (funext (blk4 m c t r)))

/-- The host lines after the grid. -/
def tailF (B : FVec Ideal S8192x128 .f32) : FVec Ideal S8192x4 .f32 := extractStridedSlice S8192x4 ![0, 0] B slices_S8192x128_S8192x4_0_0
def tailG (B : FVec Ideal S16x8x256 .f32) : FVec Ideal S2x64 .f32 :=
  Host.reduceAdd (shapeCast S2x4x64 (Host.reduceAdd (extractStridedSlice S16x2x256 ![0, 0, 0] B slices_S16x8x256_S16x2x256_0_0_0)
    (constant S_ FTy.f32 0#32) reducesTo_S16x2x256_S2x256_d0 h_S_) shapeCasts_S2x256_S2x4x64) (constant S_ FTy.f32 0#32) reducesTo_S2x4x64_S2x64_d1 h_S_
def tailB (B : FVec Ideal S16x8x128 .f32) : FVec Ideal S4 .f32 :=
  Host.reduceAdd (shapeCast S16x4 (extractStridedSlice S16x1x4 ![0, 0, 0] B slices_S16x8x128_S16x1x4_0_0_0)
    shapeCasts_S16x1x4_S16x4) (constant S_ FTy.f32 0#32) reducesTo_S16x4_S4_d0 h_S_

/-- An array that one window alone names holds that window's contents after the grid. -/
theorem arr_of_one (c : Dev nD) (A : (w : Fin 15) → Buf (Elt Ideal) ((spec0 w).arr.view.loc (c.tc : Thread nD τ))) (w : Fin 15)
    (hw : ∀ w' : Fin 15, Pipeline.arrRef spec0 w' = Pipeline.arrRef spec0 w → w' = w) : Pipeline.withArrays spec0 c (V0 m c) A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  have e : h.choose = w := hw _ (Proc.devRef_injective _ h.choose_spec)
  rw [dif_pos h]
  exact eq_of_heq ((cast_heq _ _).trans (by rw [e]))

theorem tailF_arr (c : Dev nD) : Pipeline.afterTail₀ cfgs (dats m) 0 (V0 m) [hostOps1] c main_v34 = tailF ((dats m 0 c).arrAt 12 (cfgs 0).N) := by
  unfold Pipeline.afterTail₀
  simp only [hostOps1, List.flatten_cons, List.flatten_nil, List.append_nil]
  after_results
  exact congrArg tailF (arr_of_one m c (fun w => (dats m 0 c).arrAt w (cfgs 0).N) 12 (by decide))
theorem tailG_arr (c : Dev nD) : Pipeline.afterTail₀ cfgs (dats m) 0 (V0 m) [hostOps1] c main_v33 = tailG ((dats m 0 c).arrAt 13 (cfgs 0).N) := by
  unfold Pipeline.afterTail₀
  simp only [hostOps1, List.flatten_cons, List.flatten_nil, List.append_nil]
  after_results
  exact congrArg tailG (arr_of_one m c (fun w => (dats m 0 c).arrAt w (cfgs 0).N) 13 (by decide))
theorem tailB_arr (c : Dev nD) : Pipeline.afterTail₀ cfgs (dats m) 0 (V0 m) [hostOps1] c main_v37 = tailB ((dats m 0 c).arrAt 14 (cfgs 0).N) := by
  unfold Pipeline.afterTail₀
  simp only [hostOps1, List.flatten_cons, List.flatten_nil, List.append_nil]
  after_results
  exact congrArg tailB (arr_of_one m c (fun w => (dats m 0 c).arrAt w (cfgs 0).N) 14 (by decide))

theorem tailF_at (B : FVec Ideal S8192x128 .f32) (n : Fin 8192) (h : Fin 4) : tailF B (ix2 n h) = B (ix2 n ⟨h.val, by omega⟩) := by
  pointwise [tailF]
theorem tailG_at (B : FVec Ideal S16x8x256 .f32) (k : Fin 2) (j : Fin 64) : tailG B (ix2 k j) = ∑ h : Fin 4, ∑ n : Fin 16, B (ix3 n ⟨k.val, by omega⟩ ⟨h.val * 64 + j.val, by omega⟩) := by
  pointwise [tailG]
theorem tailB_at (B : FVec Ideal S16x8x128 .f32) (h : Fin 4) : tailB B (ix1 h) = ∑ n : Fin 16, B (ix3 n 0 ⟨h.val, by omega⟩) := by
  pointwise [tailB]

theorem result_F {c : Dev nD} (hF : Real6 m c) : tailF ((dats m 0 c).arrAt 12 (cfgs 0).N) = val_main_v105 (F := Ideal) (DC m c) (P m c) (Bf m c) := by
  funext i
  obtain ⟨n, h, rfl⟩ : ∃ (n : Fin 8192) (h : Fin 4), i = ix2 n h := ⟨i 0, i 1, eq_ix2 i⟩
  rw [tailF_at, arr12 m hF n h _ rfl, ref_DC _ _ _ hF.dc n h (zreal m hF n h)]

section sums
variable (DQ DK : FVec Ideal S8192x256 .f32) (DC : FVec Ideal S8192x4 .f32) (P : FVec Ideal S8192x2564 .f32) (Bf : FVec Ideal S4 .f32)

theorem tailB_eq (B : FVec Ideal S16x8x128 .f32) (hC : ∀ i, ∃ r : ℝ, DC i = r) (hz : ∀ (n : Fin 8192) (h : Fin 4), ∃ r : ℝ, P (ix2 n ⟨2560 + h.val, by omega⟩) + Bf (ix1 h) = r)
    (hb : ∀ (n : Fin 16) (h : Fin 4), B (ix3 n 0 ⟨h.val, by omega⟩) = ∑ r : Fin 512, dl DC P Bf ⟨n.val * 512 + r.val, by omega⟩ h) :
    tailB B = val_main_v55 (F := Ideal) DC P Bf := by
  funext i
  obtain ⟨h, rfl⟩ : ∃ h : Fin 4, i = ix1 h := ⟨i 0, eq_ix1 i⟩
  rw [tailB_at, ref_B _ _ _ hC h (fun n => hz n h), Finset.sum_congr rfl fun n _ => hb n h]
  exact Fin.sum_mul_add_congr (S := 16) (n := 512) (L := 8192) (fun s k hl => rfl) (by norm_num)

theorem tailG_eq (B : FVec Ideal S16x8x256 .f32) (h0 : ∀ (j : Fin 256) (n : Fin 16), B (ix3 n 0 j) = ∑ r : Fin 512, gq DQ P j ⟨n.val * 512 + r.val, by omega⟩)
    (h1 : ∀ (j : Fin 256) (n : Fin 16), B (ix3 n 1 j) = ∑ r : Fin 512, gk DK P j ⟨n.val * 512 + r.val, by omega⟩) :
    tailG B = val_main_v87 (F := Ideal) DQ DK P := by
  funext i
  obtain ⟨k, j, rfl⟩ : ∃ (k : Fin 2) (j : Fin 64), i = ix2 k j := ⟨i 0, i 1, eq_ix2 i⟩
  rw [tailG_at]
  match k with
  | ⟨0, _⟩ =>
    refine Eq.trans ?_ (ref_G DQ DK P j).1.symm
    rw [Finset.sum_comm (s := (Finset.univ : Finset (Fin 8192)))]
    refine Finset.sum_congr rfl fun h _ => ?_
    refine (Finset.sum_congr rfl fun n _ => h0 ⟨h.val * 64 + j.val, by omega⟩ n).trans ?_
    exact Fin.sum_mul_add_congr (S := 16) (n := 512) (L := 8192) (fun s k hl => rfl) (by norm_num)
  | ⟨1, _⟩ =>
    refine Eq.trans ?_ (ref_G DQ DK P j).2.symm
    rw [Finset.sum_comm (s := (Finset.univ : Finset (Fin 8192)))]
    refine Finset.sum_congr rfl fun h _ => ?_
    refine (Finset.sum_congr rfl fun n _ => h1 ⟨h.val * 64 + j.val, by omega⟩ n).trans ?_
    exact Fin.sum_mul_add_congr (S := 16) (n := 512) (L := 8192) (fun s k hl => rfl) (by norm_num)
end sums

theorem result_B {c : Dev nD} (hF : Real6 m c) : tailB ((dats m 0 c).arrAt 14 (cfgs 0).N) = val_main_v55 (F := Ideal) (DC m c) (P m c) (Bf m c) :=
  tailB_eq _ _ _ _ hF.dc (zreal m hF) fun n h => arr14 m hF n h _ rfl

theorem result_G {c : Dev nD} (hF : Real6 m c) : tailG ((dats m 0 c).arrAt 13 (cfgs 0).N) = val_main_v87 (F := Ideal) (DQ m c) (DK m c) (P m c) :=
  tailG_eq _ _ _ _ (fun j n => (arr13 m hF j n 0).1 rfl) fun j n => (arr13 m hF j n 1).2 rfl

/-! ## The precondition -/

theorem finite_at {s : Shape} (X : s.Idx → EReal) (i : s.Idx) (h : Ideal.cmp .olt (max (X i) (-(X i))) (Ideal.ofBits .f32 0x7F800000#32) = 1) : ∃ v : ℝ, X i = (v : EReal) := by
  rw [show Ideal.ofBits .f32 0x7F800000#32 = ⊤ by simp [Ideal.ofBits, Ideal.ieee]] at h
  have h := (Ideal.cmp_olt_eq_one (max (X i) (-(X i))) ⊤).mp h
  refine ⟨(X i).toReal, (EReal.coe_toReal ?_ ?_).symm⟩
  · intro e
    rw [e] at h
    simp at h
  · intro e
    rw [e] at h
    simp at h

section finish
variable [hPre : Cert.Pre_post_finite.Facts]

/-- The precondition over the kernel's own arguments. -/
abbrev pc (c : Dev nD) := Cert.Pre_post_finite.fn (F := Ideal) (DQ m c) (DK m c) (DC m c) (P m c) (G m c) (Bf m c)
abbrev Finite (c : Dev nD) : Prop := (pc m c).1 = (fun _ => 1#1) ∧ (pc m c).2.1 = (fun _ => 1#1) ∧ (pc m c).2.2.1 = (fun _ => 1#1)
  ∧ (pc m c).2.2.2.1 = (fun _ => 1#1) ∧ (pc m c).2.2.2.2.1 = (fun _ => 1#1) ∧ (pc m c).2.2.2.2.2 = (fun _ => 1#1)

theorem real6 {c : Dev nD} (h : Finite m c) : Real6 m c where
  q := fun i => finite_at (s := S8192x256) (DQ m c) i (congrFun h.1 i)
  k := fun i => finite_at (s := S8192x256) (DK m c) i (congrFun h.2.1 i)
  dc := fun i => finite_at (s := S8192x4) (DC m c) i (congrFun h.2.2.1 i)
  p := fun i => finite_at (s := S8192x2564) (P m c) i (congrFun h.2.2.2.1 i)
  g := fun i => finite_at (s := S2x64) (G m c) i (congrFun h.2.2.2.2.1 i)
  b := fun i => finite_at (s := S4) (Bf m c) i (congrFun h.2.2.2.2.2 i)

/-- The kernel's run: the results are the reference's terms over the kernel's own arguments, which end unchanged. -/
theorem run (g : Dev nD → PrngReg) (h : ∀ c : Dev nD, Finite m c) : θ_run (defs (F := Ideal)) (onTc (τ := τ) (main (F := Ideal))) ⟨m, fun _ => 0, g⟩ (fun r => ∀ c : Dev nD,
      r.2.mem (c.tc.loc main_v29_0) = val_main_v103 (F := Ideal) (DQ m c) (P m c) (G m c)
      ∧ r.2.mem (c.tc.loc main_v29_1) = val_main_v104 (F := Ideal) (DK m c) (P m c) (G m c)
      ∧ r.2.mem (c.tc.loc main_v34) = val_main_v105 (F := Ideal) (DC m c) (P m c) (Bf m c)
      ∧ r.2.mem (c.tc.loc main_v33) = val_main_v87 (F := Ideal) (DQ m c) (DK m c) (P m c)
      ∧ r.2.mem (c.tc.loc main_v37) = val_main_v55 (F := Ideal) (DC m c) (P m c) (Bf m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) := by
  refine (θ_run defs _ _).mono (fun r k c => ?_) (θ_run_and (run_main m g) (unchanged m g))
  have hF := real6 m (h c)
  exact ⟨((k.1 c).1 10).trans (final10 m hF), ((k.1 c).1 11).trans (final11 m hF),
    (((k.1 c).2 main_v34 (Pipeline.mem_restRefs_of main_v34 (by decide) (by decide))).trans (tailF_arr m c)).trans (result_F m hF),
    (((k.1 c).2 main_v33 (Pipeline.mem_restRefs_of main_v33 (by decide) (by decide))).trans (tailG_arr m c)).trans (result_G m hF),
    (((k.1 c).2 main_v37 (Pipeline.mem_restRefs_of main_v37 (by decide) (by decide))).trans (tailB_arr m c)).trans (result_B m hF), k.2 c⟩
end finish

end Cert.PostIdeal.Val

end
-- ==== Proof.FoxPre.lean ====
module

public import proofs.«01_k».proof.Proof.Gen.FoxPreIdeal.Frame
public import proofs.«01_k».proof.Proof.Gen.FoxPreRefIdeal.Read
public import proofs.«01_k».proof.Proof.Gen.FoxPreRefIdeal.Run
public import proofs.«01_k».proof.Proof.Post
public import proofs.«01_k».proof.Pre_pre_finite

@[expose] public section

set_option maxRecDepth 16384

noncomputable section

open Idealize.ShloMosaic Idealize.ShloMosaic.TcCoe Idealize.SL.Sem
open Idealize.ShloMosaic.Pipeline (Dat)

namespace Cert.FoxPreIdeal.Val

open Cert.FoxPreIdeal Cert.FoxPreIdeal.Gen Cert.FoxPreRefIdeal.Read
open PostIdeal.Val (Rq Rk gmA gA0 gA1 bfA prA)
local notation "eps" => ((8796093 / 8796093022208 : ℝ))

variable (m : (ℓ : Loc nD τ sig) → Buf (Elt Ideal) ℓ)

/-- The logarithm of a real logit's logistic function. -/
theorem lsig (z : ℝ) : min (z : EReal) 0 - Ideal.log (1 + Ideal.exp (0 - max (z : EReal) (-(z : EReal)))) = ((-SbSpec.sp (-z) : ℝ) : EReal) := by
  have hp : (0 : ℝ) < 1 + Real.exp (-|z|) := by positivity
  rw [show (0 : EReal) = ((0 : ℝ) : EReal) from rfl, ← EReal.coe_neg, SbSpec.coe_max, ← EReal.coe_strictMono.monotone.map_min, ← EReal.coe_sub, Ideal.exp_coe,
    show (1 : EReal) = ((1 : ℝ) : EReal) from rfl, ← EReal.coe_add, show (0 : ℝ) - max z (-z) = -|z| by rw [zero_sub]; rfl,
    Ideal.log_coe, if_neg (not_le.mpr hp), ← EReal.coe_sub]
  unfold SbSpec.sp
  rw [abs_neg, neg_add, ← sub_eq_add_neg, ← min_neg_neg, neg_neg, neg_zero]

theorem lsig_ref (z : EReal) (r : ℝ) (hz : z = r) :
    -(if -z ≠ -z then -z else max (-z) 0 + Ideal.log1p (Ideal.exp (-FloatOps.absf (F := Ideal) (φ := .f32) (-z)))) = ((-SbSpec.sp (-r) : ℝ) : EReal) := by
  subst hz
  rw [if_neg (not_not.mpr rfl), EReal.coe_neg, ← SbSpec.sp_coe, zero_sub, ← EReal.coe_neg]
  rfl

section payloads
variable (gm : FVec Ideal S256x256 .bf16) (v : FVec Ideal S512x256 .f32) (g : FVec Ideal S1x256 .f32) (hg : ∀ k j, gm (ix2 k j) = PostReal.gmv k j)

include hg in
theorem p5 (r : Fin 512) (hv : ∀ k : Fin 256, ∃ x : ℝ, v (ix2 r k) = x) (j : Fin 256) :
    k0_pay5 (F := Ideal) gm v g (ix2 r j) = PostReal.hx eps (fun k => v (ix2 r k)) j * g (ix2 0 j) := by
  rw [← PostReal.split_hx eps _ hv]
  pointwise [k0_pay5, k0_pay4]
  simp only [hg, Rms.lit_eps]
end payloads

theorem p1 (x : FVec Ideal S512x128 .f32) (b w : FVec Ideal S1x128 .f32) (r : Fin 512) (j : Fin 128) (f : ℕ → ℝ) (w0 : ℝ)
    (hf : ∀ k : Fin 512, ∃ z : ℝ, x (ix2 k j) + b (ix2 0 j) = z ∧ -SbSpec.sp (-z) = f k.val) (hw : w (ix2 0 j) = (w0 : EReal)) :
    k0_pay1 (F := Ideal) (k0_pay9 x b) (k0_pay10 w) (ix2 r j) = ((∑ k ∈ Finset.range (r.val + 1), f k + w0 : ℝ) : EReal) := by
  rw [← PostReal.tri_sum (fun k => (FloatOps.sitofp FTy.f32 (BitVec.setWidth 32 (IntOp.cmpi CmpIPredicate.sge (BitVec.ofNat 32 r.val) (BitVec.ofNat 32 k.val))) : Ideal .f32))
    (fun k => min (x (ix2 k j) + b (ix2 0 j)) 0 - Ideal.log (1 + Ideal.exp (0 - max (x (ix2 k j) + b (ix2 0 j)) (-(x (ix2 k j) + b (ix2 0 j))))))
    f w0 (· ≤ r.val) _ (fun n => by rw [Finset.mem_range]; omega) (fun k => ?_) (fun k => ?_), ← hw]
  · pointwise [k0_pay1, k0_pay9, k0_pay10]
    rfl
  · rw [WordCmp.cmpi_sge_ofNat (by omega) (by omega)]
    exact PostReal.sitofp_bool _
  · obtain ⟨z, hz, e⟩ := hf k
    rw [hz, lsig, e]

theorem p2 (x : FVec Ideal S512x128 .f32) (b w : FVec Ideal S1x128 .f32) (j : Fin 128) :
    k0_pay2 (F := Ideal) (k0_pay9 x b) (k0_pay10 w) (ix2 0 j) = k0_pay1 (F := Ideal) (k0_pay9 x b) (k0_pay10 w) (ix2 511 j) := by
  pointwise [k0_pay2]

theorem p3 (j : Fin 128) : k0_pay3 (F := Ideal) (ix2 0 j) = 0 := by
  pointwise [k0_pay3]

section refs
variable (P : FVec Ideal S8192x2564 .f32) (G : FVec Ideal S2x64 .f32) (Bf : FVec Ideal S4 .f32)

theorem ref_Q (n : Fin 8192) (j : Fin 256) : val_main_v43 (F := Ideal) P G (ix2 n j) = PostReal.hx eps (Rq P n) j * G (ix2 0 ⟨j.val % 64, by omega⟩) := by
  unfold PostReal.hx Rms.rs Rms.ms PostReal.hrow Rq
  rw [← PostReal.lit_64, ← Rms.lit_eps]
  unfold val_main_v43 val_main_v42 val_main_v16 val_main_v15 val_main_v14 val_main_v13 val_main_v12 val_main_v11 val_main_v10 val_main_v9 val_main_v8 val_main_v7 val_main_cst_1 val_main_v6 val_main_v5 val_main_cst_0 val_main_v4 val_main_v3 val_main_cst val_main_v2 val_main_v1 val_main_v0
  pointwise

theorem ref_K (n : Fin 8192) (j : Fin 256) : val_main_v45 (F := Ideal) P G (ix2 n j) = PostReal.hx eps (Rk P n) j * G (ix2 1 ⟨j.val % 64, by omega⟩) := by
  unfold PostReal.hx Rms.rs Rms.ms PostReal.hrow Rk
  rw [← PostReal.lit_64, ← Rms.lit_eps]
  unfold val_main_v45 val_main_v44 val_main_v33 val_main_v32 val_main_v31 val_main_v30 val_main_v29 val_main_v28 val_main_v27 val_main_v26 val_main_v25 val_main_v24 val_main_cst_4 val_main_v23 val_main_v22 val_main_cst_3 val_main_v21 val_main_v20 val_main_cst_2 val_main_v19 val_main_v18 val_main_v17
  pointwise

/-- The log gates of one head over one batch entry's tokens. -/
def lf (b : ℕ) (h : Fin 4) (k : ℕ) : ℝ := if hk : b * 4096 + k < 8192 then -SbSpec.sp (-(P (ix2 ⟨b * 4096 + k, hk⟩ ⟨2560 + h.val, by omega⟩) + Bf (ix1 h)).toReal) else 0

theorem lf_at (hP : ∀ i, ∃ r : ℝ, P i = r) (hB : ∀ i, ∃ r : ℝ, Bf i = r) (b : ℕ) (h : Fin 4) (k : ℕ) (n : Fin 8192) (hn : n.val = b * 4096 + k) :
    ∃ z : ℝ, P (ix2 n ⟨2560 + h.val, by omega⟩) + Bf (ix1 h) = z ∧ -SbSpec.sp (-z) = lf P Bf b h k := by
  have hk : b * 4096 + k < 8192 := hn ▸ n.isLt
  obtain ⟨x, hx⟩ := hP (ix2 n ⟨2560 + h.val, by omega⟩)
  obtain ⟨y, hy⟩ := hB (ix1 h)
  have e : P (ix2 n ⟨2560 + h.val, by omega⟩) + Bf (ix1 h) = ((x + y : ℝ) : EReal) := by rw [hx, hy, EReal.coe_add]
  refine ⟨x + y, e, ?_⟩
  unfold lf
  rw [dif_pos hk, ← show n = ⟨b * 4096 + k, hk⟩ from Fin.ext hn, e, EReal.toReal_coe]

theorem ref_C (hP : ∀ i, ∃ r : ℝ, P i = r) (hB : ∀ i, ∃ r : ℝ, Bf i = r) (n : Fin 8192) (h : Fin 4) :
    val_main_v47 (F := Ideal) P Bf (ix2 n h) = ((∑ k ∈ Finset.range (n.val % 4096 + 1), lf P Bf (n.val / 4096) h k : ℝ) : EReal) := by
  unfold val_main_v47 val_main_v46 val_main_v41
  pointwise
  refine Cumsum.prefix_sum (by norm_num) _ _ _ _ (fun i => ?_) 0 ⟨n.val / 4096, by omega⟩ h ⟨n.val % 4096, by omega⟩ _ fun k => ?_
  · pointwise [val_main_call1_call0_v0, val_main_call1_call0_cst]
  · unfold val_main_v40 val_main_v39 val_main_v38 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v37 val_main_v36 val_main_v35 val_main_v34
    pointwise
    obtain ⟨z, hz, e⟩ := lf_at P Bf hP hB (n.val / 4096) h k.val ⟨n.val / 4096 * 4096 + k.val, by omega⟩ rfl
    rw [← e]
    exact lsig_ref _ z hz
end refs

/-- The arguments as the kernel finds them. -/
abbrev P (c : Dev nD) : FVec Ideal S8192x2564 .f32 := m (c.tc.loc main_arg0)
abbrev G (c : Dev nD) : FVec Ideal S2x64 .f32 := m (c.tc.loc main_arg1)
abbrev Bf (c : Dev nD) : FVec Ideal S4 .f32 := m (c.tc.loc main_arg2)

theorem idx : ∀ t : Fin cfg0.N, win0_0.index t = ![t.val, 7] ∧ win0_1.index t = ![t.val, 8] ∧ win0_2.index t = ![t.val, 20] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

/-- A row of a tile. -/
def row (t : Fin cfg0.N) (r : Fin 512) : Fin 8192 := ⟨t.val * 512 + r.val, by have h : t.val < 16 := t.isLt; omega⟩

theorem V_all (c : Dev nD) : (V m c main_v12 : FVec Ideal S256x256 .bf16) = gmA ∧ (V m c main_v18 : FVec Ideal S1x256 .f32) = gA0 (G m c)
    ∧ (V m c main_v24 : FVec Ideal S1x256 .f32) = gA1 (G m c) ∧ (V m c main_v26 : FVec Ideal S1x128 .f32) = bfA (Bf m c) ∧ (V m c main_v27 : FVec Ideal S8192x2688 .f32) = prA (P m c) := by
  refine ⟨?_, ?_, ?_, ?_, ?_⟩
  all_goals
    show StableHlo.after (List.flatten [hostOps0, hostOps0_1, hostOps0_2, hostOps0_3]) (fun b => m (c, b)) _ = _
    dsimp only [hostOps0, hostOps0_1, hostOps0_2, hostOps0_3, List.flatten_cons, List.flatten_nil, List.append_nil, List.cons_append, List.nil_append]
    after_results
    rfl

section blocks
variable (c : Dev nD) (t : Fin cfg0.N) (r : Fin 512)

theorem blk0 (k : Fin 256) : (X0_0 m c t : FVec Ideal S512x256 .f32) (ix2 r k) = Rq (P m c) (row t r) k := by
  refine Eq.trans ?_ ((congrFun (V_all m c).2.2.2.2 _).trans (PostIdeal.Val.pr_at _ (row t r) ⟨1792 + k.val, by omega⟩ ⟨1792 + k.val, by omega⟩ rfl))
  unfold X0_0 Pipeline.Window.fill
  rw [dif_pos (moved0_0 t _)]
  blk_point [iblk, idx t, row]
theorem blk1 (k : Fin 256) : (X0_1 m c t : FVec Ideal S512x256 .f32) (ix2 r k) = Rk (P m c) (row t r) k := by
  refine Eq.trans ?_ ((congrFun (V_all m c).2.2.2.2 _).trans (PostIdeal.Val.pr_at _ (row t r) ⟨2048 + k.val, by omega⟩ ⟨2048 + k.val, by omega⟩ rfl))
  unfold X0_1 Pipeline.Window.fill
  rw [dif_pos (moved0_1 t _)]
  blk_point [iblk, idx t, row]
theorem blk2 (h : Fin 4) (q : Fin 128) (hq : q.val = h.val) : (iblk m c 2 t : FVec Ideal S512x128 .f32) (ix2 r q) = P m c (ix2 (row t r) ⟨2560 + h.val, by omega⟩) := by
  refine Eq.trans ?_ ((congrFun (V_all m c).2.2.2.2 _).trans (PostIdeal.Val.pr_at _ (row t r) ⟨2560 + h.val, by omega⟩ ⟨2560 + h.val, by omega⟩ rfl))
  blk_point [iblk, idx t, row]
theorem blk3 (k : Fin 256) : (iblk m c 3 t : FVec Ideal S1x256 .f32) (ix2 0 k) = G m c (ix2 0 ⟨k.val % 64, by omega⟩) := by
  refine Eq.trans ?_ ((congrFun (V_all m c).2.1 _).trans (PostIdeal.Val.g0_at _ k))
  blk_point [iblk, idx t]
theorem blk4 (k : Fin 256) : (iblk m c 4 t : FVec Ideal S1x256 .f32) (ix2 0 k) = G m c (ix2 1 ⟨k.val % 64, by omega⟩) := by
  refine Eq.trans ?_ ((congrFun (V_all m c).2.2.1 _).trans (PostIdeal.Val.g1_at _ k))
  blk_point [iblk, idx t]
theorem blk5 (h : Fin 4) (q : Fin 128) (hq : q.val = h.val) : (iblk m c 5 t : FVec Ideal S1x128 .f32) (ix2 0 q) = Bf m c (ix1 h) := by
  refine Eq.trans ?_ ((congrFun (V_all m c).2.2.2.1 _).trans (PostIdeal.Val.bf_at _ h q hq))
  blk_point [iblk, idx t]
theorem blk6 (k j : Fin 256) : (iblk m c 6 t : FVec Ideal S256x256 .bf16) (ix2 k j) = PostReal.gmv k j := by
  refine Eq.trans ?_ ((congrFun (V_all m c).1 _).trans (PostIdeal.Val.gm_at k j))
  blk_point [iblk, idx t]

theorem out7 : (outsAt0 m c t.val t.isLt).1 = k0_pay5 (iblk m c 6 t) (X0_0 m c t) (iblk m c 3 t) := by
  by_cases h : t.val % 8 = 0
  · rw [outsAt0_A m c t h]; funext y; frame_out
  · rw [outsAt0_B m c t h]; funext y; frame_out
theorem out8 : (outsAt0 m c t.val t.isLt).2.1 = k0_pay5 (iblk m c 6 t) (X0_1 m c t) (iblk m c 4 t) := by
  by_cases h : t.val % 8 = 0
  · rw [outsAt0_A m c t h]; funext y; frame_out; rfl
  · rw [outsAt0_B m c t h]; funext y; frame_out; rfl
end blocks

theorem read_scratch (h : (Memref.whole cc0_scratch0 : Memref sig .tc .vmem S1x128 .f32).IsWhole) (w : FVec Ideal S1x128 .f32) : View.read (Elt Ideal) (View.whole cc0_scratch0) (h.unread w) = w :=
  h.read_unread (Val := Elt Ideal) w

theorem outA (c : Dev nD) (t : Fin cfg0.N) (h : t.val % 8 = 0) : (outsAt0 m c t.val t.isLt).2.2 = (k0_pay1 (k0_pay9 (iblk m c 2 t) (iblk m c 5 t)) (k0_pay10 (k0_pay3 (F := Ideal))), k0_pay2 (k0_pay9 (iblk m c 2 t) (iblk m c 5 t)) (k0_pay10 (k0_pay3 (F := Ideal)))) := by
  rw [outsAt0_A m c t h]
  refine Prod.ext ?_ ?_ <;> (funext y; frame_out)

theorem outB (c : Dev nD) (t : Fin cfg0.N) (h : ¬t.val % 8 = 0) (C : FVec Ideal S1x128 .f32) (hC : C = (outsAt0 m c (t.val - 1) (Nat.lt_of_le_of_lt (Nat.sub_le _ _) t.isLt)).2.2.2) :
    (outsAt0 m c t.val t.isLt).2.2 = (k0_pay1 (k0_pay9 (iblk m c 2 t) (iblk m c 5 t)) (k0_pay10 C), k0_pay2 (k0_pay9 (iblk m c 2 t) (iblk m c 5 t)) (k0_pay10 C)) := by
  rw [outsAt0_B m c t h, hC]
  refine Prod.ext ?_ ?_ <;> (funext y; frame_out; simp only [read_scratch])

section final
variable {c : Dev nD} (hP : ∀ i, ∃ r : ℝ, P m c i = r) (hB : ∀ i, ∃ r : ℝ, Bf m c i = r)

include hP hB in
/-- One row of a tile's running sums, over what the earlier tiles summed to. -/
theorem sum_row (t : Fin cfg0.N) (C : FVec Ideal S1x128 .f32) (h : Fin 4) (q : Fin 128) (hq : q.val = h.val)
    (hc : C (ix2 0 q) = ((∑ k ∈ Finset.range (t.val % 8 * 512), lf (P m c) (Bf m c) (t.val / 8) h k : ℝ) : EReal)) (r : Fin 512) :
    k0_pay1 (F := Ideal) (k0_pay9 (iblk m c 2 t) (iblk m c 5 t)) (k0_pay10 C) (ix2 r q)
      = ((∑ k ∈ Finset.range (t.val % 8 * 512 + (r.val + 1)), lf (P m c) (Bf m c) (t.val / 8) h k : ℝ) : EReal) := by
  rw [p1 (iblk m c 2 t) (iblk m c 5 t) C r q (fun k => lf (P m c) (Bf m c) (t.val / 8) h (t.val % 8 * 512 + k)) _ (fun k => ?_) hc, Finset.sum_range_add _ (t.val % 8 * 512), add_comm]
  rw [blk2 m c t k h q hq, blk5 m c t h q hq]
  exact lf_at _ _ hP hB _ h _ _ (by unfold row; dsimp only; omega)

include hP hB in
/-- What the running sum's scratch holds when the point's body reads it: the sums over the earlier tiles' tokens. -/
theorem carry : ∀ (N : ℕ) (t : Fin cfg0.N), t.val = N →
    ∃ C : FVec Ideal S1x128 .f32, (∀ (h : Fin 4) (q : Fin 128), q.val = h.val → C (ix2 0 q) = ((∑ k ∈ Finset.range (t.val % 8 * 512), lf (P m c) (Bf m c) (t.val / 8) h k : ℝ) : EReal))
      ∧ (outsAt0 m c t.val t.isLt).2.2 = (k0_pay1 (k0_pay9 (iblk m c 2 t) (iblk m c 5 t)) (k0_pay10 C), k0_pay2 (k0_pay9 (iblk m c 2 t) (iblk m c 5 t)) (k0_pay10 C)) := by
  intro N
  induction N with
  | zero =>
    intro t h0
    have h : t.val % 8 = 0 := by omega
    refine ⟨k0_pay3, fun h' q hq => ?_, outA m c t h⟩
    rw [p3, h]; simp
  | succ N ih =>
    intro t hN
    by_cases h : t.val % 8 = 0
    · refine ⟨k0_pay3, fun h' q hq => ?_, outA m c t h⟩
      rw [p3, h]; simp
    · have l1 : t.val - 1 < cfg0.N := Nat.lt_of_le_of_lt (Nat.sub_le _ _) t.isLt
      obtain ⟨C, hc, hs⟩ := ih ⟨t.val - 1, l1⟩ (by dsimp only; omega)
      refine ⟨_, fun h' q hq => ?_, outB m c t h _ rfl⟩
      dsimp only at hs hc
      rw [hs]
      dsimp only
      rw [p2, sum_row m hP hB ⟨t.val - 1, l1⟩ C h' q hq (hc h' q hq)]
      dsimp only
      rw [show (t.val - 1) % 8 * 512 + ((511 : Fin 512).val + 1) = t.val % 8 * 512 by show _ + (511 + 1) = _; omega, show (t.val - 1) / 8 = t.val / 8 by omega]

include hP in
theorem final7 : (dats m 0 c).arrAt 7 (cfgs 0).N = val_main_v43 (F := Ideal) (P m c) (G m c) := by
  refine (dats m 0 c).arrAt_eq_of_covers 7 _ (by decide +kernel) fun t hf y => ?_
  blk_simp
  rw [after0_7, out7]
  obtain ⟨r, j, rfl⟩ : ∃ (r : Fin 512) (j : Fin 256), y = ix2 r j := ⟨y 0, y 1, eq_ix2 y⟩
  have he : ((cfg0.win 7).blk t).view.emb (ix2 r j : S512x256.Idx) = (ix2 (row t r) j : S8192x256.Idx) := by
    blk_ext [idx t, row]
  have bv := blk0 m c t r
  refine Eq.trans ?_ (congrArg (val_main_v43 (F := Ideal) (P m c) (G m c)) he).symm
  rw [ref_Q]
  refine (p5 (iblk m c 6 t) (X0_0 m c t) (iblk m c 3 t) (blk6 m c t) r (fun k => ?_) j).trans ?_
  · rw [bv]; exact hP _
  · exact congrArg₂ (fun a b => PostReal.hx eps a j * b) (funext bv) (blk3 m c t j)

include hP in
theorem final8 : (dats m 0 c).arrAt 8 (cfgs 0).N = val_main_v45 (F := Ideal) (P m c) (G m c) := by
  refine (dats m 0 c).arrAt_eq_of_covers 8 _ (by decide +kernel) fun t hf y => ?_
  blk_simp
  rw [after0_8, out8]
  obtain ⟨r, j, rfl⟩ : ∃ (r : Fin 512) (j : Fin 256), y = ix2 r j := ⟨y 0, y 1, eq_ix2 y⟩
  have he : ((cfg0.win 8).blk t).view.emb (ix2 r j : S512x256.Idx) = (ix2 (row t r) j : S8192x256.Idx) := by
    blk_ext [idx t, row]
  have bv := blk1 m c t r
  refine Eq.trans ?_ (congrArg (val_main_v45 (F := Ideal) (P m c) (G m c)) he).symm
  rw [ref_K]
  refine (p5 (iblk m c 6 t) (X0_1 m c t) (iblk m c 4 t) (blk6 m c t) r (fun k => ?_) j).trans ?_
  · rw [bv]; exact hP _
  · exact congrArg₂ (fun a b => PostReal.hx eps a j * b) (funext bv) (blk4 m c t j)

include hP hB in
theorem arr9 (n : Fin 8192) (h : Fin 4) (q : Fin 128) (hq : q.val = h.val) :
    ((dats m 0 c).arrAt 9 (cfgs 0).N : FVec Ideal S8192x128 .f32) (ix2 n q) = val_main_v47 (F := Ideal) (P m c) (Bf m c) (ix2 n h) := by
  refine ((dats m 0 c).arrAt_forall_of_covers 9 (fun (i : S8192x128.Idx) (v : EReal) => ∀ (n : Fin 8192), (i 0).val = n.val → (i 1).val = h.val →
    v = val_main_v47 (F := Ideal) (P m c) (Bf m c) (ix2 n h)) (by decide +kernel) (fun t hf y => ?_) (ix2 n q)) n rfl hq
  blk_simp [idx t]
  obtain ⟨C, hc, ho⟩ := carry m hP hB t.val t rfl
  rw [after0_9, ho]
  intro n' hn h1
  obtain ⟨r, j, rfl⟩ : ∃ (r : Fin 512) (j : Fin 128), y = ix2 r j := ⟨y 0, y 1, eq_ix2 y⟩
  have hj : j.val = h.val := h1
  have hn' : n'.val = t.val * 512 + r.val := hn.symm
  rw [ref_C _ _ hP hB, show n'.val % 4096 + 1 = t.val % 8 * 512 + (r.val + 1) by omega, show n'.val / 4096 = t.val / 8 by omega]
  exact sum_row m hP hB t C h j hj (hc h j hj) r

include hP hB in
/-- The running sums' four columns. -/
theorem final9 : Pipeline.afterTail₀ cfgs (dats m) 0 (V0 m) [hostOps1] c main_v29 = val_main_v47 (F := Ideal) (P m c) (Bf m c) := by
  have e : Pipeline.withArrays spec0 c (V0 m c) (fun w => (dats m 0 c).arrAt w (cfgs 0).N) (Proc.devRef .tc (Pipeline.arrRef spec0 9)) = (dats m 0 c).arrAt 9 (cfgs 0).N := by
    unfold Pipeline.withArrays
    have h : ∃ w', Proc.devRef .tc (Pipeline.arrRef spec0 w') = Proc.devRef (τ := τ) .tc (Pipeline.arrRef spec0 9) := ⟨9, rfl⟩
    have e : h.choose = 9 := (by decide : ∀ w', Pipeline.arrRef spec0 w' = Pipeline.arrRef spec0 9 → w' = 9) _ (Proc.devRef_injective _ h.choose_spec)
    rw [dif_pos h]
    exact eq_of_heq ((cast_heq _ _).trans (by rw [e]))
  have e' : Pipeline.afterTail₀ cfgs (dats m) 0 (V0 m) [hostOps1] c main_v29
      = (extractStridedSlice S8192x4 ![0, 0] ((dats m 0 c).arrAt 9 (cfgs 0).N : FVec Ideal S8192x128 .f32) slices_S8192x128_S8192x4_0_0 : FVec Ideal S8192x4 .f32) := by
    unfold Pipeline.afterTail₀
    simp only [hostOps1, List.flatten_cons, List.flatten_nil, List.append_nil]
    after_results
    exact congrArg (fun B => (extractStridedSlice S8192x4 ![0, 0] B slices_S8192x128_S8192x4_0_0 : FVec Ideal S8192x4 .f32)) e
  rw [e']
  funext i
  obtain ⟨n, h, rfl⟩ : ∃ (n : Fin 8192) (h : Fin 4), i = ix2 n h := ⟨i 0, i 1, eq_ix2 i⟩
  pointwise
  exact arr9 m hP hB n h ⟨h.val, by omega⟩ rfl
end final

section finish
variable [hPre : Cert.Pre_pre_finite.Facts]

/-- The kernel's run: the results are the reference's terms over the kernel's own arguments, which end unchanged. -/
theorem run (g : Dev nD → PrngReg) (h : ∀ c : Dev nD, (Cert.Pre_pre_finite.fn (F := Ideal) (P m c) (G m c) (Bf m c)).1 = (fun _ => 1#1) ∧ (Cert.Pre_pre_finite.fn (F := Ideal) (P m c) (G m c) (Bf m c)).2 = (fun _ => 1#1)) :
    θ_run (defs (F := Ideal)) (onTc (τ := τ) (main (F := Ideal))) ⟨m, fun _ => 0, g⟩ (fun r => ∀ c : Dev nD,
      r.2.mem (c.tc.loc main_v28_0) = val_main_v43 (F := Ideal) (P m c) (G m c)
      ∧ r.2.mem (c.tc.loc main_v28_1) = val_main_v45 (F := Ideal) (P m c) (G m c)
      ∧ r.2.mem (c.tc.loc main_v29) = val_main_v47 (F := Ideal) (P m c) (Bf m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) := by
  refine (θ_run defs _ _).mono (fun r k c => ?_) (θ_run_and (run_main m g) (unchanged m g))
  have hP := fun i => PostIdeal.Val.finite_at (s := S8192x2564) (P m c) i (congrFun (h c).1 i)
  have hB := fun i => PostIdeal.Val.finite_at (s := S4) (Bf m c) i (congrFun (h c).2 i)
  exact ⟨((k.1 c).1 7).trans (final7 m hP), ((k.1 c).1 8).trans (final8 m hP),
    ((k.1 c).2 main_v29 (Pipeline.mem_restRefs_of main_v29 (by decide) (by decide))).trans (final9 m hP hB), k.2 c⟩
end finish

end Cert.FoxPreIdeal.Val

end
-- ==== Proof.NormMod.lean ====
module

public import proofs.«01_k».proof.Proof.Gen.NormModIdeal.Frame
public import proofs.«01_k».proof.Proof.Gen.NormModRefIdeal.Read
public import proofs.«01_k».proof.Proof.Gen.NormModRefIdeal.Run
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.NormModIdeal.Val

open Cert.NormModIdeal Cert.NormModIdeal.Gen Cert.NormModRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val / 8, 0, 0] ∧ win0_3.index t = ![t.val / 8, 0, 0] ∧ win0_4.index t = ![t.val, 0] :=
  (by decide +kernel : ∀ t : Fin grid0.N, _)

abbrev X (c : Dev nD) : FVec Ideal S8192x1024 .f32 := m (c.tc.loc main_arg0)
abbrev G (c : Dev nD) : FVec Ideal S1024 .f32 := m (c.tc.loc main_arg1)
abbrev S (c : Dev nD) : FVec Ideal S2x1024 .f32 := m (c.tc.loc main_arg2)
abbrev B (c : Dev nD) : FVec Ideal S2x1024 .f32 := m (c.tc.loc main_arg3)
abbrev row (t : Fin cfg0.N) (r : Fin 512) : Fin 8192 := ⟨t.val * 512 + r.val, by have h : t.val < 16 := t.isLt; omega⟩

theorem V_rows (c : Dev nD) : (V m c main_v0 : FVec Ideal S1x1024 .f32) = broadcastInDim S1x1024 ![1] bcast_S1024_S1x1024_1 (G m c)
    ∧ (V m c main_v1 : FVec Ideal S2x1x1024 .f32) = broadcastInDim S2x1x1024 ![0, 2] bcast_S2x1024_S2x1x1024_0_2 (S m c)
    ∧ (V m c main_v2 : FVec Ideal S2x1x1024 .f32) = broadcastInDim S2x1x1024 ![0, 2] bcast_S2x1024_S2x1x1024_0_2 (B m c) := by
  refine ⟨?_, ?_, ?_⟩
  all_goals
    show StableHlo.after (List.flatten [hostOps0]) _ _ = _
    simp only [hostOps0, List.flatten_cons, List.flatten_nil, List.append_nil]
    after_results

/-- The batch entry of a token. -/
abbrev bt (n : Fin 8192) : Fin 2 := ⟨n.val / 4096, by omega⟩

theorem b1 (c : Dev nD) (t : Fin cfg0.N) (j : Fin 1024) : (iblk m c 1 t : FVec Ideal S1x1024 .f32) (ix2 0 j) = G m c (ix1 j) := by
  blk_simp [iblk]; rw [(V_rows m c).1]; pointwise; blk_point [idx t]

theorem b2 (c : Dev nD) (t : Fin cfg0.N) (r : Fin 512) (j : Fin 1024) : (iblk m c 2 t : FVec Ideal S1x1x1024 .f32) (ix3 0 0 j) = S m c (ix2 (bt (row t r)) j) := by
  blk_simp [iblk]; rw [(V_rows m c).2.1]; pointwise; blk_point [idx t]

theorem b3 (c : Dev nD) (t : Fin cfg0.N) (r : Fin 512) (j : Fin 1024) : (iblk m c 3 t : FVec Ideal S1x1x1024 .f32) (ix3 0 0 j) = B m c (ix2 (bt (row t r)) j) := by
  blk_simp [iblk]; rw [(V_rows m c).2.2]; pointwise; blk_point [idx t]

theorem pay_at (X : FVec Ideal S512x1024 .f32) (G : FVec Ideal S1x1024 .f32) (S B : FVec Ideal S1x1x1024 .f32) (r : Fin 512) (j : Fin 1024) :
    k0_pay1 (F := Ideal) X G S B (ix2 r j) = Rms.nrm (fun k => X (ix2 r k)) (G (ix2 0 j)) (S (ix3 0 0 j)) (B (ix3 0 0 j)) j := by
  unfold Rms.nrm Rms.rs Rms.ms
  rw [← Rms.lit_1024, ← Rms.lit_eps]
  pointwise [k0_pay1]

theorem ref_at (X : FVec Ideal S8192x1024 .f32) (G : FVec Ideal S1024 .f32) (S B : FVec Ideal S2x1024 .f32) (n : Fin 8192) (j : Fin 1024) :
    val_main_v23 (F := Ideal) X G S B (ix2 n j) = Rms.nrm (fun k => X (ix2 n k)) (G (ix1 j)) (S (ix2 (bt n) j)) (B (ix2 (bt n) j)) j := by
  unfold Rms.nrm Rms.rs Rms.ms
  rw [← Rms.lit_1024, ← Rms.lit_eps]
  unfold val_main_v23 val_main_v22 val_main_v21 val_main_v20 val_main_v19 val_main_v18 val_main_v17 val_main_v16 val_main_v15 val_main_cst_2 val_main_v14 val_main_v13 val_main_v12 val_main_v11 val_main_v10 val_main_v9 val_main_v8 val_main_v7 val_main_v6 val_main_v5 val_main_cst_1 val_main_v4 val_main_v3 val_main_cst_0 val_main_v2 val_main_v1 val_main_cst val_main_v0
  pointwise

theorem point4 (c : Dev nD) (t : Fin cfg0.N) (y : S512x1024.Idx) : k0_pay1 (F := Ideal) (iblk m c 0 t) (iblk m c 1 t) (iblk m c 2 t) (iblk m c 3 t) y = val_main_v23 (F := Ideal) (X m c) (G m c) (S m c) (B m c) (((cfg0.win 4).blk t).view.emb y) := by
  obtain ⟨r, j, rfl⟩ : ∃ (r : Fin 512) (j : Fin 1024), y = ix2 r j := ⟨y 0, y 1, eq_ix2 y⟩
  have he : ((cfg0.win 4).blk t).view.emb (ix2 r j : S512x1024.Idx) = (ix2 (row t r) j : S8192x1024.Idx) := by
    blk_ext [idx t]
  refine Eq.trans ?_ (congrArg (val_main_v23 (F := Ideal) (X m c) (G m c) (S m c) (B m c)) he.symm)
  rw [pay_at, ref_at, b1, b2 m c t r, b3 m c t r]
  congr 1
  funext k; blk_point [iblk, V, idx t]

theorem final4 (c : Dev nD) : (dats m 0 c).arrAt 4 (cfgs 0).N = val_main_v23 (F := Ideal) (X m c) (G m c) (S m c) (B m c) := by
  refine (dats m 0 c).arrAt_eq_of_covers 4 _ (by decide +kernel) fun t _ y => ?_
  blk_simp
  rw [after0_4]; frame_out
  exact point4 m c t y

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v3) = val_main_v23 (F := Ideal) (X m c) (G m c) (S m c) (B m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run defs _ _).mono (fun r h c => ?_) (θ_run_and (run_main m g) (unchanged m g))
  exact ⟨((h.1 c).1 4).trans (final4 m c), h.2 c⟩

end Cert.NormModIdeal.Val

end
-- ==== Proof.OutNorm.lean ====
module

public import proofs.«01_k».proof.Proof.Gen.OutNormIdeal.Frame
public import proofs.«01_k».proof.Proof.Gen.OutNormRefIdeal.Read
public import proofs.«01_k».proof.Proof.Gen.OutNormRefIdeal.Run
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.OutNormIdeal.Val

open Cert.OutNormIdeal Cert.OutNormIdeal.Gen Cert.OutNormRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

abbrev X (c : Dev nD) : FVec Ideal S8192x512 .f32 := m (c.tc.loc main_arg0)
abbrev Y (c : Dev nD) : FVec Ideal S8192x256 .f32 := m (c.tc.loc main_arg1)
abbrev Z (c : Dev nD) : FVec Ideal S8192x256 .f32 := m (c.tc.loc main_arg2)
abbrev G (c : Dev nD) : FVec Ideal S1024 .f32 := m (c.tc.loc main_arg3)
abbrev row (t : Fin cfg0.N) (r : Fin 512) : Fin 8192 := ⟨t.val * 512 + r.val, by have h : t.val < 16 := t.isLt; omega⟩

theorem V_v0 (c : Dev nD) : (V m c main_v0 : FVec Ideal S1x1024 .f32)
    = broadcastInDim S1x1024 ![1] bcast_S1024_S1x1024_1 (m (c.tc.loc main_arg3) : FVec Ideal S1024 .f32) := by
  show StableHlo.after (List.flatten [hostOps0]) _ _ = _
  simp only [hostOps0, List.flatten_cons, List.flatten_nil, List.append_nil]
  after_results

theorem b3 (c : Dev nD) (t : Fin cfg0.N) (j : Fin 1024) : (iblk m c 3 t : FVec Ideal S1x1024 .f32) (ix2 0 j) = G m c (ix1 j) := by
  blk_simp [iblk]; rw [V_v0]; pointwise; blk_point [idx t]

/-- A row of the three groups, each divided by its own root mean square, at column `j`. -/
def cat (X : Fin 512 → EReal) (Y Z : Fin 256 → EReal) (j : Fin 1024) : EReal :=
  if h : j.val < 512 then X ⟨j.val, h⟩ * Rms.rs X 512 (8796093 / 8796093022208)
  else if h : j.val - 512 < 256 then Y ⟨j.val - 512, h⟩ * Rms.rs Y 256 (8796093 / 8796093022208)
  else Z ⟨j.val - 512 - 256, by omega⟩ * Rms.rs Z 256 (8796093 / 8796093022208)

theorem pay_at (X : FVec Ideal S512x512 .f32) (Y Z : FVec Ideal S512x256 .f32) (G : FVec Ideal S1x1024 .f32) (r : Fin 512) (j : Fin 1024) :
    k0_pay1 (F := Ideal) X Y Z G (ix2 r j) = cat (fun k => X (ix2 r k)) (fun k => Y (ix2 r k)) (fun k => Z (ix2 r k)) j * G (ix2 0 j) := by
  unfold cat Rms.rs Rms.ms
  rw [← Rms.lit_512, ← Rms.lit_256, ← Rms.lit_eps]
  pointwise [k0_pay1]

theorem ref_at (X : FVec Ideal S8192x512 .f32) (Y Z : FVec Ideal S8192x256 .f32) (G : FVec Ideal S1024 .f32) (n : Fin 8192) (j : Fin 1024) :
    val_main_v34 (F := Ideal) X Y Z G (ix2 n j) = cat (fun k => X (ix2 n k)) (fun k => Y (ix2 n k)) (fun k => Z (ix2 n k)) j * G (ix1 j) := by
  unfold cat Rms.rs Rms.ms
  rw [← Rms.lit_512, ← Rms.lit_256, ← Rms.lit_eps]
  unfold val_main_v34 val_main_v33 val_main_v32 val_main_v31 val_main_v30 val_main_v29 val_main_v28 val_main_v27 val_main_v26 val_main_v25 val_main_cst_7 val_main_v24 val_main_v23 val_main_cst_6 val_main_v22 val_main_v21 val_main_cst_5 val_main_v20 val_main_v19 val_main_v18 val_main_v17 val_main_v16 val_main_v15 val_main_cst_4 val_main_v14 val_main_v13 val_main_cst_3 val_main_v12 val_main_v11 val_main_cst_2 val_main_v10 val_main_v9 val_main_v8 val_main_v7 val_main_v6 val_main_v5 val_main_cst_1 val_main_v4 val_main_v3 val_main_cst_0 val_main_v2 val_main_v1 val_main_cst val_main_v0
  pointwise

theorem point4 (c : Dev nD) (t : Fin cfg0.N) (y : S512x1024.Idx) : k0_pay1 (F := Ideal) (iblk m c 0 t) (iblk m c 1 t) (iblk m c 2 t) (iblk m c 3 t) y = val_main_v34 (F := Ideal) (X m c) (Y m c) (Z m c) (G m c) (((cfg0.win 4).blk t).view.emb y) := by
  obtain ⟨r, j, rfl⟩ : ∃ (r : Fin 512) (j : Fin 1024), y = ix2 r j := ⟨y 0, y 1, eq_ix2 y⟩
  have he : ((cfg0.win 4).blk t).view.emb (ix2 r j : S512x1024.Idx) = (ix2 (row t r) j : S8192x1024.Idx) := by
    blk_ext [idx t]
  refine Eq.trans ?_ (congrArg (val_main_v34 (F := Ideal) (X m c) (Y m c) (Z m c) (G m c)) he.symm)
  rw [pay_at, ref_at, b3]
  congr 2 <;> (funext k; blk_point [iblk, V, idx t])

theorem final4 (c : Dev nD) : (dats m 0 c).arrAt 4 (cfgs 0).N = val_main_v34 (F := Ideal) (X m c) (Y m c) (Z m c) (G m c) := by
  refine (dats m 0 c).arrAt_eq_of_covers 4 _ (by decide +kernel) fun t _ y => ?_
  blk_simp
  rw [after0_4]; frame_out
  exact point4 m c t y

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v1) = val_main_v34 (F := Ideal) (X m c) (Y m c) (Z m c) (G m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run defs _ _).mono (fun r h c => ?_) (θ_run_and (run_main m g) (unchanged m g))
  exact ⟨((h.1 c).1 4).trans (final4 m c), h.2 c⟩

end Cert.OutNormIdeal.Val

end
-- ==== Proof.MixOut.lean ====
module

public import proofs.«01_k».proof.Proof.Gen.MixOutIdeal.Frame
public import proofs.«01_k».proof.Proof.Gen.MixOutRefIdeal.Read
public import proofs.«01_k».proof.Proof.Gen.MixOutRefIdeal.Run
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.MixOutIdeal.Val

open Cert.MixOutIdeal Cert.MixOutIdeal.Gen Cert.MixOutRefIdeal.Read

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val / 8, 0, 0] ∧ win0_4.index t = ![0, 0] ∧ win0_5.index t = ![t.val / 8, 0, 0] ∧ win0_6.index t = ![t.val / 8, 0, 0] ∧ win0_7.index t = ![t.val, 0] ∧ win0_8.index t = ![t.val, 0] ∧ win0_9.index t = ![t.val, 0] :=
  (by decide +kernel : ∀ t : Fin grid0.N, _)

abbrev A (c : Dev nD) : FVec Ideal S8192x1024 .bf16 := m (c.tc.loc main_arg0)
abbrev W (c : Dev nD) : FVec Ideal S1024x1024 .f32 := m (c.tc.loc main_arg1)
abbrev X (c : Dev nD) : FVec Ideal S8192x1024 .f32 := m (c.tc.loc main_arg2)
abbrev T (c : Dev nD) : FVec Ideal S2x1024 .f32 := m (c.tc.loc main_arg3)
abbrev G (c : Dev nD) : FVec Ideal S1024 .f32 := m (c.tc.loc main_arg4)
abbrev S (c : Dev nD) : FVec Ideal S2x1024 .f32 := m (c.tc.loc main_arg5)
abbrev B (c : Dev nD) : FVec Ideal S2x1024 .f32 := m (c.tc.loc main_arg6)
abbrev row (t : Fin cfg0.N) (r : Fin 512) : Fin 8192 := ⟨t.val * 512 + r.val, by have h : t.val < 16 := t.isLt; omega⟩

theorem V_rows (c : Dev nD) : (V m c main_v0 : FVec Ideal S1x1024 .f32) = broadcastInDim S1x1024 ![1] bcast_S1024_S1x1024_1 (G m c)
    ∧ (V m c main_v1 : FVec Ideal S2x1x1024 .f32) = broadcastInDim S2x1x1024 ![0, 2] bcast_S2x1024_S2x1x1024_0_2 (S m c)
    ∧ (V m c main_v2 : FVec Ideal S2x1x1024 .f32) = broadcastInDim S2x1x1024 ![0, 2] bcast_S2x1024_S2x1x1024_0_2 (B m c)
    ∧ (V m c main_v4 : FVec Ideal S2x1x1024 .f32) = broadcastInDim S2x1x1024 ![0, 2] bcast_S2x1024_S2x1x1024_0_2 (T m c) := by
  refine ⟨?_, ?_, ?_, ?_⟩
  all_goals
    show StableHlo.after (List.flatten [hostOps0]) _ _ = _
    simp only [hostOps0, List.flatten_cons, List.flatten_nil, List.append_nil]
    after_results

/-- The batch entry of a token. -/
abbrev bt (n : Fin 8192) : Fin 2 := ⟨n.val / 4096, by omega⟩

theorem V_v3 (c : Dev nD) : (V m c main_v3 : FVec Ideal S1024x1024 .bf16) = W m c := by
  show StableHlo.after (List.flatten [hostOps0]) _ _ = _
  simp only [hostOps0, List.flatten_cons, List.flatten_nil, List.append_nil]
  after_results
  rfl

theorem b3 (c : Dev nD) (t : Fin cfg0.N) (r : Fin 512) (j : Fin 1024) : (iblk m c 3 t : FVec Ideal S1x1x1024 .f32) (ix3 0 0 j) = T m c (ix2 (bt (row t r)) j) := by
  blk_simp [iblk]; rw [(V_rows m c).2.2.2]; pointwise; blk_point [idx t]

theorem b4 (c : Dev nD) (t : Fin cfg0.N) (j : Fin 1024) : (iblk m c 4 t : FVec Ideal S1x1024 .f32) (ix2 0 j) = G m c (ix1 j) := by
  blk_simp [iblk]; rw [(V_rows m c).1]; pointwise; blk_point [idx t]

theorem b5 (c : Dev nD) (t : Fin cfg0.N) (r : Fin 512) (j : Fin 1024) : (iblk m c 5 t : FVec Ideal S1x1x1024 .f32) (ix3 0 0 j) = S m c (ix2 (bt (row t r)) j) := by
  blk_simp [iblk]; rw [(V_rows m c).2.1]; pointwise; blk_point [idx t]

theorem b6 (c : Dev nD) (t : Fin cfg0.N) (r : Fin 512) (j : Fin 1024) : (iblk m c 6 t : FVec Ideal S1x1x1024 .f32) (ix3 0 0 j) = B m c (ix2 (bt (row t r)) j) := by
  blk_simp [iblk]; rw [(V_rows m c).2.2.1]; pointwise; blk_point [idx t]

theorem b2 (c : Dev nD) (t : Fin cfg0.N) (r : Fin 512) (j : Fin 1024) : (iblk m c 2 t : FVec Ideal S512x1024 .f32) (ix2 r j) = X m c (ix2 (row t r) j) := by
  blk_point [iblk, V, idx t]

/-- An entry of the product. -/
def pr (A : FVec Ideal S8192x1024 .bf16) (W : FVec Ideal S1024x1024 .f32) (n : Fin 8192) (j : Fin 1024) : EReal := ∑ l : Fin 1024, A (ix2 n l) * W (ix2 l j)

theorem prod_at (c : Dev nD) (t : Fin cfg0.N) (r : Fin 512) (j : Fin 1024) : k0_pay2 (F := Ideal) (iblk m c 0 t) (iblk m c 1 t) (ix2 r j) = pr (A m c) (W m c) (row t r) j := by
  unfold pr
  pointwise [k0_pay2]
  refine Finset.sum_congr rfl fun l _ => congrArg₂ (· * ·) ?_ ?_
  · blk_point [iblk, V, idx t]
  · blk_simp [iblk]; rw [V_v3]; blk_point [idx t]

theorem payx_at (v0 : FVec Ideal S512x1024 .bf16) (v1 : FVec Ideal S1024x1024 .bf16) (x : FVec Ideal S512x1024 .f32) (q : FVec Ideal S1x1x1024 .f32) (r : Fin 512) (j : Fin 1024) :
    k0_pay3 (F := Ideal) v0 v1 x q (ix2 r j) = x (ix2 r j) + ((1 : EReal) + q (ix3 0 0 j)) * k0_pay2 (F := Ideal) v0 v1 (ix2 r j) := by
  pointwise [k0_pay3]

theorem payh_at (v0 : FVec Ideal S512x1024 .bf16) (v1 : FVec Ideal S1024x1024 .bf16) (x : FVec Ideal S512x1024 .f32) (q : FVec Ideal S1x1x1024 .f32) (g : FVec Ideal S1x1024 .f32) (s b : FVec Ideal S1x1x1024 .f32) (r : Fin 512) (j : Fin 1024) :
    k0_pay1 (F := Ideal) (k0_pay5 v0 v1 x q g) s b (ix2 r j) = Rms.nrm (fun k => k0_pay3 (F := Ideal) v0 v1 x q (ix2 r k)) (g (ix2 0 j)) (s (ix3 0 0 j)) (b (ix3 0 0 j)) j := by
  unfold Rms.nrm Rms.rs Rms.ms
  rw [← Rms.lit_1024, ← Rms.lit_eps]
  pointwise [k0_pay1, k0_pay5]

section refs
variable (A : FVec Ideal S8192x1024 .bf16) (W : FVec Ideal S1024x1024 .f32) (X : FVec Ideal S8192x1024 .f32) (T : FVec Ideal S2x1024 .f32) (G : FVec Ideal S1024 .f32) (S B : FVec Ideal S2x1024 .f32)

/-- The residual stream after the product. -/
def xo (n : Fin 8192) (j : Fin 1024) : EReal := X (ix2 n j) + ((1 : EReal) + T (ix2 (bt n) j)) * pr A W n j

theorem refx_at (n : Fin 8192) (j : Fin 1024) : val_main_v31 (F := Ideal) A W X T (ix2 n j) = xo A W X T n j := by
  unfold xo pr
  unfold val_main_v31 val_main_v9 val_main_v8 val_main_v7 val_main_v6 val_main_v5 val_main_v4 val_main_v3 val_main_cst val_main_v2 val_main_v1 val_main_v0
  pointwise

theorem reff_at (n : Fin 8192) (j : Fin 1024) : val_main_v32 (F := Ideal) A W (ix2 n j) = pr A W n j := by
  unfold pr
  unfold val_main_v32 val_main_v1 val_main_v0
  pointwise

theorem refh_at (n : Fin 8192) (j : Fin 1024) : val_main_v34 (F := Ideal) A W X T G S B (ix2 n j)
    = Rms.nrm (xo A W X T n) (G (ix1 j)) (S (ix2 (bt n) j)) (B (ix2 (bt n) j)) j := by
  unfold Rms.nrm Rms.rs Rms.ms xo pr
  rw [← Rms.lit_1024, ← Rms.lit_eps]
  unfold val_main_v34 val_main_v33 val_main_v30 val_main_v29 val_main_v28 val_main_v27 val_main_v26 val_main_v25 val_main_v24 val_main_cst_3 val_main_v23 val_main_v22 val_main_v21 val_main_v20 val_main_v19 val_main_v18 val_main_v17 val_main_v16 val_main_v15 val_main_cst_2 val_main_v14 val_main_v13 val_main_cst_1 val_main_v12 val_main_v11 val_main_cst_0 val_main_v10 val_main_v9 val_main_v8 val_main_v7 val_main_v6 val_main_v5 val_main_v4 val_main_v3 val_main_cst val_main_v2 val_main_v1 val_main_v0
  pointwise
end refs

theorem x_at (c : Dev nD) (t : Fin cfg0.N) (r : Fin 512) (j : Fin 1024) : k0_pay3 (F := Ideal) (iblk m c 0 t) (iblk m c 1 t) (iblk m c 2 t) (iblk m c 3 t) (ix2 r j) = xo (A m c) (W m c) (X m c) (T m c) (row t r) j := by
  rw [payx_at, prod_at, b2, b3 m c t r]
  rfl

theorem point7 (c : Dev nD) (t : Fin cfg0.N) (y : S512x1024.Idx) : k0_pay3 (F := Ideal) (iblk m c 0 t) (iblk m c 1 t) (iblk m c 2 t) (iblk m c 3 t) y = val_main_v31 (F := Ideal) (A m c) (W m c) (X m c) (T m c) (((cfg0.win 7).blk t).view.emb y) := by
  obtain ⟨r, j, rfl⟩ : ∃ (r : Fin 512) (j : Fin 1024), y = ix2 r j := ⟨y 0, y 1, eq_ix2 y⟩
  have he : ((cfg0.win 7).blk t).view.emb (ix2 r j : S512x1024.Idx) = (ix2 (row t r) j : S8192x1024.Idx) := by
    blk_ext [idx t]
  refine Eq.trans ?_ (congrArg (val_main_v31 (F := Ideal) (A m c) (W m c) (X m c) (T m c)) he.symm)
  exact (x_at m c t r j).trans (refx_at _ _ _ _ _ _).symm

theorem final7 (c : Dev nD) : (dats m 0 c).arrAt 7 (cfgs 0).N = val_main_v31 (F := Ideal) (A m c) (W m c) (X m c) (T m c) := by
  refine (dats m 0 c).arrAt_eq_of_covers 7 _ (by decide +kernel) fun t _ y => ?_
  blk_simp
  rw [after0_7]; frame_out
  exact point7 m c t y

theorem point8 (c : Dev nD) (t : Fin cfg0.N) (y : S512x1024.Idx) : k0_pay4 (F := Ideal) (iblk m c 0 t) (iblk m c 1 t) y = val_main_v32 (F := Ideal) (A m c) (W m c) (((cfg0.win 8).blk t).view.emb y) := by
  obtain ⟨r, j, rfl⟩ : ∃ (r : Fin 512) (j : Fin 1024), y = ix2 r j := ⟨y 0, y 1, eq_ix2 y⟩
  have he : ((cfg0.win 8).blk t).view.emb (ix2 r j : S512x1024.Idx) = (ix2 (row t r) j : S8192x1024.Idx) := by
    blk_ext [idx t]
  refine Eq.trans ?_ (congrArg (val_main_v32 (F := Ideal) (A m c) (W m c)) he.symm)
  exact (prod_at m c t r j).trans (reff_at _ _ _ _).symm

theorem final8 (c : Dev nD) : (dats m 0 c).arrAt 8 (cfgs 0).N = val_main_v32 (F := Ideal) (A m c) (W m c) := by
  refine (dats m 0 c).arrAt_eq_of_covers 8 _ (by decide +kernel) fun t _ y => ?_
  blk_simp
  rw [after0_8]; frame_out
  exact point8 m c t y

theorem point9 (c : Dev nD) (t : Fin cfg0.N) (y : S512x1024.Idx) : k0_pay1 (F := Ideal) (k0_pay5 (iblk m c 0 t) (iblk m c 1 t) (iblk m c 2 t) (iblk m c 3 t) (iblk m c 4 t)) (iblk m c 5 t) (iblk m c 6 t) y = val_main_v34 (F := Ideal) (A m c) (W m c) (X m c) (T m c) (G m c) (S m c) (B m c) (((cfg0.win 9).blk t).view.emb y) := by
  obtain ⟨r, j, rfl⟩ : ∃ (r : Fin 512) (j : Fin 1024), y = ix2 r j := ⟨y 0, y 1, eq_ix2 y⟩
  have he : ((cfg0.win 9).blk t).view.emb (ix2 r j : S512x1024.Idx) = (ix2 (row t r) j : S8192x1024.Idx) := by
    blk_ext [idx t]
  refine Eq.trans ?_ (congrArg (val_main_v34 (F := Ideal) (A m c) (W m c) (X m c) (T m c) (G m c) (S m c) (B m c)) he.symm)
  rw [payh_at, refh_at, b4, b5 m c t r, b6 m c t r]
  exact congrArg (fun f => Rms.nrm f _ _ _ j) (funext fun k => x_at m c t r k)

theorem final9 (c : Dev nD) : (dats m 0 c).arrAt 9 (cfgs 0).N = val_main_v34 (F := Ideal) (A m c) (W m c) (X m c) (T m c) (G m c) (S m c) (B m c) := by
  refine (dats m 0 c).arrAt_eq_of_covers 9 _ (by decide +kernel) fun t _ y => ?_
  blk_simp
  rw [after0_9]; frame_out
  exact point9 m c t y

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v5_0) = val_main_v31 (F := Ideal) (A m c) (W m c) (X m c) (T m c)
      ∧ r.2.mem (c.tc.loc main_v5_1) = val_main_v32 (F := Ideal) (A m c) (W m c)
      ∧ r.2.mem (c.tc.loc main_v5_2) = val_main_v34 (F := Ideal) (A m c) (W m c) (X m c) (T m c) (G m c) (S m c) (B m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) := by
  refine (θ_run defs _ _).mono (fun r h c => ?_) (θ_run_and (run_main m g) (unchanged m g))
  exact ⟨((h.1 c).1 7).trans (final7 m c), ((h.1 c).1 8).trans (final8 m c), ((h.1 c).1 9).trans (final9 m c), h.2 c⟩

end Cert.MixOutIdeal.Val

end
-- ==== Proof.FfDown.lean ====
module

public import proofs.«01_k».proof.Proof.Gen.FfDownIdeal.Frame
public import proofs.«01_k».proof.Proof.Gen.FfDownRefIdeal.Read
public import proofs.«01_k».proof.Proof.Gen.FfDownRefIdeal.Run
public import proofs.«01_k».proof.Proof.Rms

@[expose] public section

set_option maxRecDepth 16384

noncomputable section

open Idealize.ShloMosaic Idealize.ShloMosaic.TcCoe Idealize.SL.Sem
open Idealize.ShloMosaic.Pipeline (Dat)

namespace Cert.FfDownIdeal.Val

open Cert.FfDownIdeal Cert.FfDownIdeal.Gen Cert.FfDownRefIdeal.Read

variable (m : (ℓ : Loc nD τ sig) → Buf (Elt Ideal) ℓ)

theorem idx : ∀ t : Fin cfg0.N, win0_0.index t = ![0, t.val, 0] ∧ win0_1.index t = ![0, 0, 0] ∧ win0_2.index t = ![t.val, 0] ∧ win0_3.index t = ![t.val / 8, 0, 0] ∧ win0_4.index t = ![0, 0] ∧ win0_5.index t = ![t.val / 8, 0, 0] ∧ win0_6.index t = ![t.val / 8, 0, 0] ∧ win0_7.index t = ![t.val, 0] ∧ win0_8.index t = ![t.val, 0] ∧ win0_9.index t = ![t.val, 0] :=
  (by decide +kernel : ∀ t : Fin grid0.N, _)

abbrev A (c : Dev nD) : FVec Ideal S8192x2816 .bf16 := m (c.tc.loc main_arg0)
abbrev W (c : Dev nD) : FVec Ideal S2816x1024 .f32 := m (c.tc.loc main_arg1)
abbrev X (c : Dev nD) : FVec Ideal S8192x1024 .f32 := m (c.tc.loc main_arg2)
abbrev T (c : Dev nD) : FVec Ideal S2x1024 .f32 := m (c.tc.loc main_arg3)
abbrev G (c : Dev nD) : FVec Ideal S1024 .f32 := m (c.tc.loc main_arg4)
abbrev S (c : Dev nD) : FVec Ideal S2x1024 .f32 := m (c.tc.loc main_arg5)
abbrev B (c : Dev nD) : FVec Ideal S2x1024 .f32 := m (c.tc.loc main_arg6)
abbrev row (t : Fin cfg0.N) (r : Fin 512) : Fin 8192 := ⟨t.val * 512 + r.val, by have h : t.val < 16 := t.isLt; omega⟩

theorem V_rows (c : Dev nD) : (V m c main_v0 : FVec Ideal S1x1024 .f32) = broadcastInDim S1x1024 ![1] bcast_S1024_S1x1024_1 (G m c)
    ∧ (V m c main_v1 : FVec Ideal S2x1x1024 .f32) = broadcastInDim S2x1x1024 ![0, 2] bcast_S2x1024_S2x1x1024_0_2 (S m c)
    ∧ (V m c main_v2 : FVec Ideal S2x1x1024 .f32) = broadcastInDim S2x1x1024 ![0, 2] bcast_S2x1024_S2x1x1024_0_2 (B m c)
    ∧ (V m c main_v6 : FVec Ideal S2x1x1024 .f32) = broadcastInDim S2x1x1024 ![0, 2] bcast_S2x1024_S2x1x1024_0_2 (T m c) := by
  refine ⟨?_, ?_, ?_, ?_⟩
  all_goals
    show StableHlo.after (List.flatten [hostOps0]) _ _ = _
    simp only [hostOps0, List.flatten_cons, List.flatten_nil, List.append_nil]
    after_results

/-- The batch entry of a token. -/
abbrev bt (n : Fin 8192) : Fin 2 := ⟨n.val / 4096, by omega⟩

theorem V_v4 (c : Dev nD) : (V m c main_v4 : FVec Ideal S4x8192x704 .bf16)
    = transpose S4x8192x704 [1, 0, 2] (shapeCast S8192x4x704 (A m c) shapeCasts_S8192x2816_S8192x4x704) transposes_S8192x4x704_S4x8192x704_1_0_2 := by
  show StableHlo.after (List.flatten [hostOps0]) _ _ = _
  simp only [hostOps0, List.flatten_cons, List.flatten_nil, List.append_nil]
  after_results
  rfl

theorem V_v7 (c : Dev nD) : (V m c main_v7 : FVec Ideal S4x704x1024 .bf16) = shapeCast S4x704x1024 (W m c) shapeCasts_S2816x1024_S4x704x1024 := by
  show StableHlo.after (List.flatten [hostOps0]) _ _ = _
  simp only [hostOps0, List.flatten_cons, List.flatten_nil, List.append_nil]
  after_results
  rfl

theorem b3 (c : Dev nD) (t : Fin cfg0.N) (r : Fin 512) (j : Fin 1024) : (iblk m c 3 t : FVec Ideal S1x1x1024 .f32) (ix3 0 0 j) = T m c (ix2 (bt (row t r)) j) := by
  blk_simp [iblk]; rw [(V_rows m c).2.2.2]; pointwise; blk_point [idx t]

theorem b4 (c : Dev nD) (t : Fin cfg0.N) (j : Fin 1024) : (iblk m c 4 t : FVec Ideal S1x1024 .f32) (ix2 0 j) = G m c (ix1 j) := by
  blk_simp [iblk]; rw [(V_rows m c).1]; pointwise; blk_point [idx t]

theorem b5 (c : Dev nD) (t : Fin cfg0.N) (r : Fin 512) (j : Fin 1024) : (iblk m c 5 t : FVec Ideal S1x1x1024 .f32) (ix3 0 0 j) = S m c (ix2 (bt (row t r)) j) := by
  blk_simp [iblk]; rw [(V_rows m c).2.1]; pointwise; blk_point [idx t]

theorem b6 (c : Dev nD) (t : Fin cfg0.N) (r : Fin 512) (j : Fin 1024) : (iblk m c 6 t : FVec Ideal S1x1x1024 .f32) (ix3 0 0 j) = B m c (ix2 (bt (row t r)) j) := by
  blk_simp [iblk]; rw [(V_rows m c).2.2.1]; pointwise; blk_point [idx t]

theorem b2 (c : Dev nD) (t : Fin cfg0.N) (r : Fin 512) (j : Fin 1024) : (iblk m c 2 t : FVec Ideal S512x1024 .f32) (ix2 r j) = X m c (ix2 (row t r) j) := by
  blk_point [iblk, V, idx t]

/-- An entry of the product. -/
def pr (A : FVec Ideal S8192x2816 .bf16) (W : FVec Ideal S2816x1024 .f32) (n : Fin 8192) (j : Fin 1024) : EReal := ∑ l : Fin 2816, A (ix2 n l) * W (ix2 l j)

theorem pay5_at (x0 : FVec Ideal S4x512x704 .bf16) (x1 : FVec Ideal S4x704x1024 .bf16) (x2 : FVec Ideal S512x1024 .f32) (x3 : FVec Ideal S1x1x1024 .f32) (x4 : FVec Ideal S1x1024 .f32)
    (x5 x6 : FVec Ideal S1x1x1024 .f32) (r : Fin 512) (j : Fin 1024) : k0_pay5 (F := Ideal) x0 x1 x2 x3 x4 x5 x6 (ix2 r j) = ∑ s : Fin 4, ∑ l : Fin 704, x0 (ix3 s r l) * x1 (ix3 s l j) := by
  rw [Fin.sum_univ_four]
  pointwise [k0_pay5, k0_pay1]

/-- A block's product. -/
abbrev P (c : Dev nD) (t : Fin cfg0.N) : FVec Ideal S512x1024 .f32 := k0_pay5 (F := Ideal) (iblk m c 0 t) (iblk m c 1 t) (iblk m c 2 t) (iblk m c 3 t) (iblk m c 4 t) (iblk m c 5 t) (iblk m c 6 t)

theorem prod_at (c : Dev nD) (t : Fin cfg0.N) (r : Fin 512) (j : Fin 1024) : P m c t (ix2 r j) = pr (A m c) (W m c) (row t r) j := by
  rw [P, pay5_at]
  refine Fin.sum_mul_add_congr (S := 4) (n := 704) (L := 2816) (fun s l hl => congrArg₂ (· * ·) ?_ ?_) (by norm_num)
  · blk_simp [iblk]; rw [V_v4]; pointwise; blk_point [idx t]
  · blk_simp [iblk]; rw [V_v7]; pointwise; blk_point [idx t]

theorem payx_at (P : FVec Ideal S512x1024 .f32) (x : FVec Ideal S512x1024 .f32) (q : FVec Ideal S1x1x1024 .f32) (r : Fin 512) (j : Fin 1024) :
    k0_pay2 (F := Ideal) P x q (ix2 r j) = x (ix2 r j) + (Ideal.ofBits .f32 1056964608#32 * ((1 : EReal) + q (ix3 0 0 j))) * P (ix2 r j) := by
  pointwise [k0_pay2]

theorem payh_at (P : FVec Ideal S512x1024 .f32) (x : FVec Ideal S512x1024 .f32) (q : FVec Ideal S1x1x1024 .f32) (g : FVec Ideal S1x1024 .f32) (s b : FVec Ideal S1x1x1024 .f32) (r : Fin 512) (j : Fin 1024) :
    k0_pay4 (F := Ideal) P x q g s b (ix2 r j) = Rms.nrm (fun k => k0_pay2 (F := Ideal) P x q (ix2 r k)) (g (ix2 0 j)) (s (ix3 0 0 j)) (b (ix3 0 0 j)) j := by
  unfold Rms.nrm Rms.rs Rms.ms
  rw [← Rms.lit_1024, ← Rms.lit_eps]
  pointwise [k0_pay4]

section refs
variable (A : FVec Ideal S8192x2816 .bf16) (W : FVec Ideal S2816x1024 .f32) (X : FVec Ideal S8192x1024 .f32) (T : FVec Ideal S2x1024 .f32) (G : FVec Ideal S1024 .f32) (S B : FVec Ideal S2x1024 .f32)

/-- The residual stream after the product. -/
def xo (n : Fin 8192) (j : Fin 1024) : EReal := X (ix2 n j) + (Ideal.ofBits .f32 1056964608#32 * ((1 : EReal) + T (ix2 (bt n) j))) * pr A W n j

theorem refx_at (n : Fin 8192) (j : Fin 1024) : val_main_v33 (F := Ideal) A W X T (ix2 n j) = xo A W X T n j := by
  unfold xo pr
  unfold val_main_v33 val_main_v11 val_main_v10 val_main_v9 val_main_v8 val_main_v7 val_main_v6 val_main_cst_0 val_main_v5 val_main_v4 val_main_v3 val_main_cst val_main_v2 val_main_v1 val_main_v0
  pointwise

theorem reff_at (n : Fin 8192) (j : Fin 1024) : val_main_v34 (F := Ideal) A W (ix2 n j) = pr A W n j := by
  unfold pr
  unfold val_main_v34 val_main_v1 val_main_v0
  pointwise

theorem refh_at (n : Fin 8192) (j : Fin 1024) : val_main_v36 (F := Ideal) A W X T G S B (ix2 n j)
    = Rms.nrm (xo A W X T n) (G (ix1 j)) (S (ix2 (bt n) j)) (B (ix2 (bt n) j)) j := by
  unfold Rms.nrm Rms.rs Rms.ms xo pr
  rw [← Rms.lit_1024, ← Rms.lit_eps]
  unfold val_main_v36 val_main_v35 val_main_v32 val_main_v31 val_main_v30 val_main_v29 val_main_v28 val_main_v27 val_main_v26 val_main_cst_4 val_main_v25 val_main_v24 val_main_v23 val_main_v22 val_main_v21 val_main_v20 val_main_v19 val_main_v18 val_main_v17 val_main_cst_3 val_main_v16 val_main_v15 val_main_cst_2 val_main_v14 val_main_v13 val_main_cst_1 val_main_v12 val_main_v11 val_main_v10 val_main_v9 val_main_v8 val_main_v7 val_main_v6 val_main_cst_0 val_main_v5 val_main_v4 val_main_v3 val_main_cst val_main_v2 val_main_v1 val_main_v0
  pointwise
end refs

theorem x_at (c : Dev nD) (t : Fin cfg0.N) (r : Fin 512) (j : Fin 1024) : k0_pay2 (F := Ideal) (P m c t) (iblk m c 2 t) (iblk m c 3 t) (ix2 r j) = xo (A m c) (W m c) (X m c) (T m c) (row t r) j := by
  rw [payx_at, prod_at, b2, b3 m c t r]
  rfl

theorem point7 (c : Dev nD) (t : Fin cfg0.N) (y : S512x1024.Idx) : k0_pay2 (F := Ideal) (P m c t) (iblk m c 2 t) (iblk m c 3 t) y = val_main_v33 (F := Ideal) (A m c) (W m c) (X m c) (T m c) (((cfg0.win 7).blk t).view.emb y) := by
  obtain ⟨r, j, rfl⟩ : ∃ (r : Fin 512) (j : Fin 1024), y = ix2 r j := ⟨y 0, y 1, eq_ix2 y⟩
  have he : ((cfg0.win 7).blk t).view.emb (ix2 r j : S512x1024.Idx) = (ix2 (row t r) j : S8192x1024.Idx) := by
    blk_ext [idx t]
  refine Eq.trans ?_ (congrArg (val_main_v33 (F := Ideal) (A m c) (W m c) (X m c) (T m c)) he.symm)
  exact (x_at m c t r j).trans (refx_at _ _ _ _ _ _).symm

theorem final7 (c : Dev nD) : (dats m 0 c).arrAt 7 (cfgs 0).N = val_main_v33 (F := Ideal) (A m c) (W m c) (X m c) (T m c) := by
  refine (dats m 0 c).arrAt_eq_of_covers 7 _ (by decide +kernel) fun t _ y => ?_
  blk_simp
  rw [after0_7]; frame_out
  exact point7 m c t y

theorem point8 (c : Dev nD) (t : Fin cfg0.N) (y : S512x1024.Idx) : k0_pay3 (F := Ideal) (P m c t) y = val_main_v34 (F := Ideal) (A m c) (W m c) (((cfg0.win 8).blk t).view.emb y) := by
  obtain ⟨r, j, rfl⟩ : ∃ (r : Fin 512) (j : Fin 1024), y = ix2 r j := ⟨y 0, y 1, eq_ix2 y⟩
  have he : ((cfg0.win 8).blk t).view.emb (ix2 r j : S512x1024.Idx) = (ix2 (row t r) j : S8192x1024.Idx) := by
    blk_ext [idx t]
  refine Eq.trans ?_ (congrArg (val_main_v34 (F := Ideal) (A m c) (W m c)) he.symm)
  exact (prod_at m c t r j).trans (reff_at _ _ _ _).symm

theorem final8 (c : Dev nD) : (dats m 0 c).arrAt 8 (cfgs 0).N = val_main_v34 (F := Ideal) (A m c) (W m c) := by
  refine (dats m 0 c).arrAt_eq_of_covers 8 _ (by decide +kernel) fun t _ y => ?_
  blk_simp
  rw [after0_8]; frame_out
  exact point8 m c t y

theorem point9 (c : Dev nD) (t : Fin cfg0.N) (y : S512x1024.Idx) : k0_pay4 (F := Ideal) (P m c t) (iblk m c 2 t) (iblk m c 3 t) (iblk m c 4 t) (iblk m c 5 t) (iblk m c 6 t) y = val_main_v36 (F := Ideal) (A m c) (W m c) (X m c) (T m c) (G m c) (S m c) (B m c) (((cfg0.win 9).blk t).view.emb y) := by
  obtain ⟨r, j, rfl⟩ : ∃ (r : Fin 512) (j : Fin 1024), y = ix2 r j := ⟨y 0, y 1, eq_ix2 y⟩
  have he : ((cfg0.win 9).blk t).view.emb (ix2 r j : S512x1024.Idx) = (ix2 (row t r) j : S8192x1024.Idx) := by
    blk_ext [idx t]
  refine Eq.trans ?_ (congrArg (val_main_v36 (F := Ideal) (A m c) (W m c) (X m c) (T m c) (G m c) (S m c) (B m c)) he.symm)
  rw [payh_at, refh_at, b4, b5 m c t r, b6 m c t r]
  exact congrArg (fun f => Rms.nrm f _ _ _ j) (funext fun k => x_at m c t r k)

theorem final9 (c : Dev nD) : (dats m 0 c).arrAt 9 (cfgs 0).N = val_main_v36 (F := Ideal) (A m c) (W m c) (X m c) (T m c) (G m c) (S m c) (B m c) := by
  refine (dats m 0 c).arrAt_eq_of_covers 9 _ (by decide +kernel) fun t _ y => ?_
  blk_simp
  rw [after0_9]; frame_out
  exact point9 m c t y

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v8_0) = val_main_v33 (F := Ideal) (A m c) (W m c) (X m c) (T m c)
      ∧ r.2.mem (c.tc.loc main_v8_1) = val_main_v34 (F := Ideal) (A m c) (W m c)
      ∧ r.2.mem (c.tc.loc main_v8_2) = val_main_v36 (F := Ideal) (A m c) (W m c) (X m c) (T m c) (G m c) (S m c) (B m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) := by
  refine (θ_run defs _ _).mono (fun r h c => ?_) (θ_run_and (run_main m g) (unchanged m g))
  exact ⟨((h.1 c).1 7).trans (final7 m c), ((h.1 c).1 8).trans (final8 m c), ((h.1 c).1 9).trans (final9 m c), h.2 c⟩

end Cert.FfDownIdeal.Val

end
-- ==== Proof.Adam.lean ====
module

public import proofs.«01_k».proof.Proof.Gen.AdamIdeal.Frame
public import proofs.«01_k».proof.Proof.Gen.AdamRefIdeal.Read
public import proofs.«01_k».proof.Proof.Gen.AdamRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamIdeal.Val

open Cert.AdamIdeal Cert.AdamIdeal.Gen Cert.AdamRefIdeal.Read

variable (m : (ℓ : Loc nD τ sig) → Buf (Elt Ideal) ℓ) (c : Dev nD) (t : Fin cfg0.N)

theorem idx : ∀ t : Fin cfg0.N, win0_0.index t = ![t.val / 8, 0, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] :=
  (by decide +kernel : ∀ t : Fin grid0.N, _)

abbrev P : FVec Ideal S4x8x1024x704 .bf16 := m (c.tc.loc main_arg0)
abbrev W : FVec Ideal S4x1024x704 .f32 := m (c.tc.loc main_arg1)
abbrev M : FVec Ideal S4x1024x704 .f32 := m (c.tc.loc main_arg2)
abbrev Q : FVec Ideal S4x1024x704 .f32 := m (c.tc.loc main_arg3)

section tile
variable (r : Fin 128) (k : Fin 704)
/-- The group and the row of row `r` of tile `t`. -/
abbrev gr : Fin 4 := ⟨t.val / 8, by have h : t.val < 32 := t.isLt; omega⟩
abbrev row : Fin 1024 := ⟨t.val % 8 * 128 + r.val, by omega⟩
abbrev sum7 := k0_pay10 (F := Ideal) (iblk m c 0 t) (iblk m c 1 t) (iblk m c 2 t) (iblk m c 3 t)
abbrev last := View.ld (iblk m c 0 t : FVec Ideal S1x8x128x704 .bf16) r0_7

theorem b0 (s : Fin 8) : (iblk m c 0 t : FVec Ideal S1x8x128x704 .bf16) (ix4 0 s r k) = P m c (ix4 (gr t) s (row t r) k) := by
  blk_point [iblk, V, idx t]
theorem b1 : (iblk m c 1 t : FVec Ideal S1x128x704 .f32) (ix3 0 r k) = W m c (ix3 (gr t) (row t r) k) := by
  blk_point [iblk, V, idx t]
theorem b2 : (iblk m c 2 t : FVec Ideal S1x128x704 .f32) (ix3 0 r k) = M m c (ix3 (gr t) (row t r) k) := by
  blk_point [iblk, V, idx t]
theorem b3 : (iblk m c 3 t : FVec Ideal S1x128x704 .f32) (ix3 0 r k) = Q m c (ix3 (gr t) (row t r) k) := by
  blk_point [iblk, V, idx t]

theorem grad_at : k0_pay5 (sum7 m c t) (last m c t) (ix2 r k) = val_main_v1 (F := Ideal) (P m c) (ix3 (gr t) (row t r) k) := by
  unfold val_main_v1 val_main_v0 val_main_cst sum7 last k0_pay10
  pointwise [k0_pay5, k0_pay4]
  rw [Fin.sum_univ_eight]
  simp only [b0]

theorem m_at : k0_pay6 (sum7 m c t) (last m c t) (iblk m c 2 t) (ix2 r k) = val_main_v6 (F := Ideal) (P m c) (M m c) (ix3 (gr t) (row t r) k) := by
  unfold val_main_v6 val_main_v5 val_main_v4 val_main_v3 val_main_v2 val_main_cst_0 val_main_cst_1
  pointwise [k0_pay6]
  rw [grad_at, b2]

theorem v_at : k0_pay7 (sum7 m c t) (last m c t) (iblk m c 3 t) (ix2 r k) = val_main_v12 (F := Ideal) (P m c) (Q m c) (ix3 (gr t) (row t r) k) := by
  unfold val_main_v12 val_main_v11 val_main_v10 val_main_v9 val_main_v8 val_main_v7 val_main_cst_2 val_main_cst_3
  pointwise [k0_pay7]
  rw [grad_at, b3]

theorem d_at : k0_pay9 (sum7 m c t) (last m c t) (iblk m c 2 t) (iblk m c 3 t) (iblk m c 1 t) (ix2 r k) = val_main_v25 (F := Ideal) (P m c) (W m c) (M m c) (Q m c) (ix3 (gr t) (row t r) k) := by
  unfold val_main_v25 val_main_v24 val_main_v23 val_main_v22 val_main_v21 val_main_v20 val_main_v19 val_main_v18 val_main_v17 val_main_v16 val_main_v15 val_main_v14 val_main_v13 val_main_cst_4 val_main_cst_5 val_main_cst_6 val_main_cst_7 val_main_cst_8
  pointwise [k0_pay9]
  rw [m_at, v_at, b1]
end tile

theorem final4 : (dats m 0 c).arrAt 4 (cfgs 0).N = val_main_v1 (F := Ideal) (P m c) := by
  refine (dats m 0 c).arrAt_eq_of_covers 4 _ (by decide +kernel) fun t _ y => ?_
  blk_simp
  rw [after0_4]; frame_out
  obtain ⟨s, r, k, rfl⟩ : ∃ (s : Fin 1) (r : Fin 128) (k : Fin 704), y = ix3 s r k := ⟨y 0, y 1, y 2, eq_ix3 y⟩
  have he : ((cfg0.win 4).blk t).view.emb (ix3 s r k : S1x128x704.Idx) = (ix3 (gr t) (row t r) k : S4x1024x704.Idx) := by blk_ext [idx t]
  refine Eq.trans ?_ (congrArg (val_main_v1 (F := Ideal) (P m c)) he.symm)
  pointwise [k0_pay8]
  exact grad_at m c t r k

theorem final5 : (dats m 0 c).arrAt 5 (cfgs 0).N = val_main_v25 (F := Ideal) (P m c) (W m c) (M m c) (Q m c) := by
  refine (dats m 0 c).arrAt_eq_of_covers 5 _ (by decide +kernel) fun t _ y => ?_
  blk_simp
  rw [after0_5]; frame_out
  obtain ⟨s, r, k, rfl⟩ : ∃ (s : Fin 1) (r : Fin 128) (k : Fin 704), y = ix3 s r k := ⟨y 0, y 1, y 2, eq_ix3 y⟩
  have he : ((cfg0.win 5).blk t).view.emb (ix3 s r k : S1x128x704.Idx) = (ix3 (gr t) (row t r) k : S4x1024x704.Idx) := by blk_ext [idx t]
  refine Eq.trans ?_ (congrArg (val_main_v25 (F := Ideal) (P m c) (W m c) (M m c) (Q m c)) he.symm)
  pointwise [k0_pay1]
  exact d_at m c t r k

theorem final6 : (dats m 0 c).arrAt 6 (cfgs 0).N = val_main_v6 (F := Ideal) (P m c) (M m c) := by
  refine (dats m 0 c).arrAt_eq_of_covers 6 _ (by decide +kernel) fun t _ y => ?_
  blk_simp
  rw [after0_6]; frame_out
  obtain ⟨s, r, k, rfl⟩ : ∃ (s : Fin 1) (r : Fin 128) (k : Fin 704), y = ix3 s r k := ⟨y 0, y 1, y 2, eq_ix3 y⟩
  have he : ((cfg0.win 6).blk t).view.emb (ix3 s r k : S1x128x704.Idx) = (ix3 (gr t) (row t r) k : S4x1024x704.Idx) := by blk_ext [idx t]
  refine Eq.trans ?_ (congrArg (val_main_v6 (F := Ideal) (P m c) (M m c)) he.symm)
  pointwise [k0_pay2]
  exact m_at m c t r k

theorem final7 : (dats m 0 c).arrAt 7 (cfgs 0).N = val_main_v12 (F := Ideal) (P m c) (Q m c) := by
  refine (dats m 0 c).arrAt_eq_of_covers 7 _ (by decide +kernel) fun t _ y => ?_
  blk_simp
  rw [after0_7]; frame_out
  obtain ⟨s, r, k, rfl⟩ : ∃ (s : Fin 1) (r : Fin 128) (k : Fin 704), y = ix3 s r k := ⟨y 0, y 1, y 2, eq_ix3 y⟩
  have he : ((cfg0.win 7).blk t).view.emb (ix3 s r k : S1x128x704.Idx) = (ix3 (gr t) (row t r) k : S4x1024x704.Idx) := by blk_ext [idx t]
  refine Eq.trans ?_ (congrArg (val_main_v12 (F := Ideal) (P m c) (Q m c)) he.symm)
  pointwise [k0_pay3]
  exact v_at m c t r k

/-- The kernel's run: the results are the reference's terms over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v0_0) = val_main_v1 (F := Ideal) (P m c)
      ∧ r.2.mem (c.tc.loc main_v0_1) = val_main_v25 (F := Ideal) (P m c) (W m c) (M m c) (Q m c)
      ∧ r.2.mem (c.tc.loc main_v0_2) = val_main_v6 (F := Ideal) (P m c) (M m c)
      ∧ r.2.mem (c.tc.loc main_v0_3) = val_main_v12 (F := Ideal) (P m c) (Q m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run defs _ _).mono (fun r h c => ?_) (θ_run_and (run_main m g) (unchanged m g))
  exact ⟨((h.1 c).1 4).trans (final4 m c), ((h.1 c).1 5).trans (final5 m c), ((h.1 c).1 6).trans (final6 m c), ((h.1 c).1 7).trans (final7 m c), h.2 c⟩

end Cert.AdamIdeal.Val

end
-- ==== Proof.Sums.lean ====
module

public import proofs.«01_k».proof.Proof.Gen.SumsIdeal.Frame
public import proofs.«01_k».proof.Proof.Gen.SumsRefIdeal.Read
public import proofs.«01_k».proof.Proof.Gen.SumsRefIdeal.Run
public import Idealize.ShloMosaic.Lib.Pipeline.ValueKit

@[expose] public section

set_option maxRecDepth 16384

noncomputable section

open Idealize.ShloMosaic Idealize.ShloMosaic.TcCoe Idealize.SL.Sem

namespace Cert.SumsIdeal.Val

open Cert.SumsIdeal Cert.SumsIdeal.Gen Cert.SumsRefIdeal.Read

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

theorem final1 (c : Dev nD) : (dats m 0 c).arrAt 1 (cfgs 0).N = val_main_v0 (F := Ideal) (m (c.tc.loc main_arg0)) := by
  refine (dats m 0 c).arrAt_eq_of_covers 1 _ (by decide +kernel) fun t _ y => ?_
  blk_simp
  rw [after0_1]; frame_out
  obtain ⟨i, j, rfl⟩ : ∃ (i : Fin 1376) (j : Fin 128), y = ix2 i j := ⟨y 0, y 1, eq_ix2 y⟩
  have he : ((cfg0.win 1).blk t).view.emb (ix2 i j : S1376x128.Idx) = (ix2 i j : S1376x128.Idx) := by
    blk_ext [idx t]
  refine Eq.trans ?_ (congrArg (val_main_v0 (F := Ideal) (m (c.tc.loc main_arg0))) he.symm)
  have b (s : Fin 8) : (iblk m c 0 t : FVec Ideal S8x1376x128 .f32) (ix3 s i j) = (m (c.tc.loc main_arg0) : FVec Ideal S8x1376x128 .f32) (ix3 s i j) := by
    blk_point [iblk, V, idx t]
  unfold val_main_v0 val_main_cst
  pointwise [k0_pay1]
  rw [Fin.sum_univ_eight, b 0, b 1, b 2, b 3, b 4, b 5, b 6, b 7]

/-- The kernel's run: the result is the reference's term over the kernel's own argument, which ends unchanged. -/
theorem run (g : Dev nD → PrngReg) : θ_run (defs (F := Ideal)) (onTc (τ := τ) (main (F := Ideal))) ⟨m, fun _ => 0, g⟩ (fun r => ∀ c : Dev nD,
      r.2.mem (c.tc.loc main_v0) = val_main_v0 (F := Ideal) (m (c.tc.loc main_arg0))
      ∧ r.2.mem (c.tc.loc main_arg0) = m (c.tc.loc main_arg0)) :=
  (θ_run defs _ _).mono (fun r h c => ⟨((h.1 c).1 1).trans (final1 m c), h.2 c⟩) (θ_run_and (run_main m g) (unchanged m g))

end Cert.SumsIdeal.Val

end
-- ==== Proof.Dwup.lean ====
module

public import proofs.«01_k».proof.Proof.Gen.DwupIdeal.Frame
public import proofs.«01_k».proof.Proof.Gen.DwupRefIdeal.Read
public import proofs.«01_k».proof.Proof.Gen.DwupRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.DwupIdeal.Val

open Cert.DwupIdeal Cert.DwupIdeal.Gen Cert.DwupRefIdeal.Read

variable (m : (ℓ : Loc nD τ sig) → Buf (Elt Ideal) ℓ) (c : Dev nD) (t : Fin cfg0.N)

theorem idx : ∀ t : Fin cfg0.N, win0_0.index t = ![t.val % 2, 0] ∧ win0_1.index t = ![t.val / 2, t.val % 2, 0] ∧ win0_2.index t = ![t.val / 2, 0, 0] :=
  (by decide +kernel : ∀ t : Fin grid0.N, _)

theorem flush2 : ∀ t : Fin cfg0.N, (cfg0.win 2).flush t = true → t.val % 2 = 1 := by decide +kernel

abbrev H : FVec Ideal S8192x1024 .bf16 := m (c.tc.loc main_arg0)
abbrev D : FVec Ideal S8x8192x704 .bf16 := m (c.tc.loc main_arg1)

/-- The column shard of a grid point. -/
abbrev sh : Fin 8 := ⟨t.val / 2, by have h : t.val < 16 := t.isLt; omega⟩
/-- The token of row `l` of a grid point's tile. -/
abbrev tok (l : Fin 4096) : Fin 8192 := ⟨t.val % 2 * 4096 + l.val, by omega⟩

theorem read_scratch (h : (Memref.whole cc0_scratch0 : Memref sig .tc .vmem S1024x704 .f32).IsWhole) (w : FVec Ideal S1024x704 .f32) :
    View.read (Elt Ideal) (View.whole cc0_scratch0) (h.unread w) = w := h.read_unread (Val := Elt Ideal) w

theorem scr_A (h : t.val % 2 = 0) : (outsAt0 m c t.val t.isLt).2 = k0_pay2 (F := Ideal) (iblk m c 0 t) (iblk m c 1 t) := by
  rw [outsAt0_A m c t h (by omega) (by omega)]
  funext y
  frame_out

theorem out_B (h : t.val % 2 = 1) :
    (outsAt0 m c t.val t.isLt).1 = k0_pay4 (F := Ideal) (k0_pay3 (F := Ideal) (iblk m c 0 t) (iblk m c 1 t) (outsAt0 m c (t.val - 1) (Nat.lt_of_le_of_lt (Nat.sub_le _ _) t.isLt)).2) := by
  rw [outsAt0_B m c t (by omega) (by omega) (by omega)]
  funext y
  frame_out
  simp only [read_scratch]

theorem b0 (l : Fin 4096) (r : Fin 1024) : (iblk m c 0 t : FVec Ideal S4096x1024 .bf16) (ix2 l r) = H m c (ix2 (tok t l) r) := by
  blk_point [iblk, V, idx t]
theorem b1 (l : Fin 4096) (k : Fin 704) : (iblk m c 1 t : FVec Ideal S1x4096x704 .bf16) (ix3 0 l k) = D m c (ix3 (sh t) (tok t l) k) := by
  blk_point [iblk, V, idx t]

theorem pay1_at (v0 : FVec Ideal S4096x1024 .bf16) (v1 : FVec Ideal S1x4096x704 .bf16) (r : Fin 1024) (k : Fin 704) :
    k0_pay1 (F := Ideal) v0 v1 (ix2 r k) = ∑ l : Fin 4096, v0 (ix2 l r) * v1 (ix3 0 l k) := by
  pointwise [k0_pay1]

/-- One tile's part of an entry. -/
theorem part (r : Fin 1024) (k : Fin 704) : k0_pay1 (F := Ideal) (iblk m c 0 t) (iblk m c 1 t) (ix2 r k)
    = ∑ l : Fin 4096, H m c (ix2 (tok t l) r) * D m c (ix3 (sh t) (tok t l) k) := by
  rw [pay1_at]
  simp only [b0, b1]

theorem ref_at (A : FVec Ideal S8192x1024 .bf16) (B : FVec Ideal S8x8192x704 .bf16) (s : Fin 8) (r : Fin 1024) (k : Fin 704) :
    val_main_v2 (F := Ideal) A B (ix3 s r k) = ∑ n : Fin 8192, A (ix2 n r) * B (ix3 s n k) := by
  unfold val_main_v2 val_main_v1 val_main_v0
  simp only [mul_comm (A _)]
  pointwise

theorem acc (h : t.val % 2 = 1) (r : Fin 1024) (k : Fin 704) :
    k0_pay3 (F := Ideal) (iblk m c 0 t) (iblk m c 1 t) (outsAt0 m c (t.val - 1) (Nat.lt_of_le_of_lt (Nat.sub_le _ _) t.isLt)).2 (ix2 r k)
      = val_main_v2 (F := Ideal) (H m c) (D m c) (ix3 (sh t) r k) := by
  have hp : t.val - 1 < cfg0.N := Nat.lt_of_le_of_lt (Nat.sub_le _ _) t.isLt
  have e := scr_A m c ⟨t.val - 1, hp⟩ (by dsimp only; omega)
  dsimp only at e
  rw [e, ref_at]
  pointwise [k0_pay3, k0_pay2]
  rw [part, part]
  have hs : sh ⟨t.val - 1, hp⟩ = sh t := Fin.ext (by dsimp only; omega)
  have e0 : ∀ l : Fin 4096, tok ⟨t.val - 1, hp⟩ l = ⟨0 * 4096 + l.val, by omega⟩ := fun l => Fin.ext (by dsimp only; omega)
  have e1 : ∀ l : Fin 4096, tok t l = ⟨1 * 4096 + l.val, by omega⟩ := fun l => Fin.ext (by dsimp only; omega)
  simp only [hs, e0, e1]
  have q : ∑ s : Fin 2, ∑ l : Fin 4096, H m c (ix2 ⟨s.val * 4096 + l.val, by omega⟩ r) * D m c (ix3 (sh t) ⟨s.val * 4096 + l.val, by omega⟩ k)
      = ∑ n : Fin 8192, H m c (ix2 n r) * D m c (ix3 (sh t) n k) :=
    Fin.sum_mul_add_congr (S := 2) (n := 4096) (L := 8192) (fun s l hl => rfl) (by norm_num)
  rw [Fin.sum_univ_two] at q
  exact q

theorem final2 : (dats m 0 c).arrAt 2 (cfgs 0).N = val_main_v2 (F := Ideal) (H m c) (D m c) := by
  refine (dats m 0 c).arrAt_eq_of_covers 2 _ (by decide +kernel) fun t hf y => ?_
  blk_simp
  rw [after0_2, out_B m c t (flush2 t hf)]
  obtain ⟨s, r, k, rfl⟩ : ∃ (s : Fin 1) (r : Fin 1024) (k : Fin 704), y = ix3 s r k := ⟨y 0, y 1, y 2, eq_ix3 y⟩
  have he : ((cfg0.win 2).blk t).view.emb (ix3 s r k : S1x1024x704.Idx) = (ix3 (sh t) r k : S8x1024x704.Idx) := by blk_ext [idx t]
  refine Eq.trans ?_ (congrArg (val_main_v2 (F := Ideal) (H m c) (D m c)) he.symm)
  pointwise [k0_pay4]
  exact acc m c t (flush2 t hf) r k

/-- The kernel's run: the result is the reference's term over the kernel's own arguments, which end unchanged. -/
theorem run (g : Dev nD → PrngReg) : θ_run (defs (F := Ideal)) (onTc (τ := τ) (main (F := Ideal))) ⟨m, fun _ => 0, g⟩ (fun r => ∀ c : Dev nD,
      r.2.mem (c.tc.loc main_v0) = val_main_v2 (F := Ideal) (H m c) (D m c)
      ∧ r.2.mem (c.tc.loc main_arg0) = m (c.tc.loc main_arg0)
      ∧ r.2.mem (c.tc.loc main_arg1) = m (c.tc.loc main_arg1)) := by
  refine (θ_run defs _ _).mono (fun r h c => ?_) (θ_run_and (run_main m g) (unchanged m g))
  exact ⟨((h.1 c).1 2).trans (final2 m c), h.2 c⟩

end Cert.DwupIdeal.Val

end
-- ==== Proof.lean ====
/- What is claimed of a training step's calls, proved. -/
module

public import proofs.«01_k».proof.Defs
public import proofs.«01_k».proof.Proof.Gen.ResBwd.Frame
public import proofs.«01_k».proof.Proof.Res
public import proofs.«01_k».proof.Proof.Gen.Sb.Frame
public import proofs.«01_k».proof.Proof.Gen.Pre_sb_finite
public import proofs.«01_k».proof.Proof.SbRun
public import proofs.«01_k».proof.Proof.Gen.Fox.Frame
public import proofs.«01_k».proof.Proof.Gen.Pre_fox_finite
public import proofs.«01_k».proof.Proof.FoxRun
public import proofs.«01_k».proof.Proof.Gen.Head.Frame
public import proofs.«01_k».proof.Proof.Head
public import proofs.«01_k».proof.Proof.Gen.OutN.Frame
public import proofs.«01_k».proof.Proof.OutN
public import proofs.«01_k».proof.Proof.Gen.MixIn.Frame
public import proofs.«01_k».proof.Proof.MixIn
public import proofs.«01_k».proof.Proof.Gen.FfUp.Frame
public import proofs.«01_k».proof.Proof.FfUp
public import proofs.«01_k».proof.Proof.Gen.Act.Frame
public import proofs.«01_k».proof.Proof.Gen.Pre_act_finite
public import proofs.«01_k».proof.Proof.Act
public import proofs.«01_k».proof.Proof.Gen.Post.Frame
public import proofs.«01_k».proof.Proof.Gen.Pre_post_finite
public import proofs.«01_k».proof.Proof.Post
public import proofs.«01_k».proof.Proof.Gen.FoxPre.Frame
public import proofs.«01_k».proof.Proof.Gen.Pre_pre_finite
public import proofs.«01_k».proof.Proof.FoxPre
public import proofs.«01_k».proof.Proof.Gen.NormMod.Frame
public import proofs.«01_k».proof.Proof.NormMod
public import proofs.«01_k».proof.Proof.Gen.OutNorm.Frame
public import proofs.«01_k».proof.Proof.OutNorm
public import proofs.«01_k».proof.Proof.Gen.MixOut.Frame
public import proofs.«01_k».proof.Proof.MixOut
public import proofs.«01_k».proof.Proof.Gen.FfDown.Frame
public import proofs.«01_k».proof.Proof.FfDown
public import proofs.«01_k».proof.Proof.Gen.Adam.Frame
public import proofs.«01_k».proof.Proof.Adam
public import proofs.«01_k».proof.Proof.Gen.Sums.Frame
public import proofs.«01_k».proof.Proof.Sums
public import proofs.«01_k».proof.Proof.Gen.Dwup.Frame
public import proofs.«01_k».proof.Proof.Dwup
public import Idealize.ShloMosaic.Adequacy
public import Idealize.ShloMosaic.Init

@[expose] public section

noncomputable section

namespace Cert.Proof

open Idealize.ShloMosaic Idealize.SL.Sem

theorem res_value : algebraic_ResBwdIdeal_ResRefIdeal (hResBwdIdeal := ResBwdIdeal.Gen.facts) (hResRefIdeal := ResRefIdeal.Gen.facts) := by
  intro m g m' g' _ hargs
  refine ⟨_, _, ResBwdIdeal.Val.run m g, ?_⟩
  refine (θ_run _ _ _).mono (fun r h c => ?_) (ResRefIdeal.Value.run m' g')
  obtain ⟨h0, h1, h2⟩ := hargs c
  obtain ⟨r0, r1, ra⟩ := h c
  refine ⟨?_, ?_, ra⟩
  · exact r0.trans ((ResRefIdeal.Read.val_main_v16_eq _ _).trans (by rw [h0, h2]))
  · exact r1.trans ((ResRefIdeal.Read.val_main_v19_eq _ _).trans (by rw [h0, h1]))

theorem sb_value : algebraic_SbIdeal_SbRefIdeal_pre_sb_finite (hSbIdeal := SbIdeal.Gen.facts) (hSbRefIdeal := SbRefIdeal.Gen.facts)
    (hPre_sb_finite := Pre_sb_finite.Gen.facts) := by
  intro m g m' g' hpre hargs
  refine ⟨_, _, _, _, SbIdeal.Val.run (hPre := Pre_sb_finite.Gen.facts) m g hpre, ?_⟩
  refine (θ_run _ _ _).mono (fun r h c => ?_) (SbRefIdeal.Value.run m' g')
  obtain ⟨h0, h1⟩ := hargs c
  obtain ⟨r0, r1, r2, r3, ra⟩ := h c
  refine ⟨?_, ?_, ?_, ?_, ra⟩
  · exact r0.trans ((SbRefIdeal.Read.val_main_v55_eq _ _).trans (by rw [h1]))
  · exact r1.trans ((SbRefIdeal.Read.val_main_v56_eq _ _).trans (by rw [h0, h1]))
  · exact r2.trans ((SbRefIdeal.Read.val_main_v52_eq _ _).trans (by rw [h0, h1]))
  · exact r3.trans ((SbRefIdeal.Read.val_main_v50_eq _ _).trans (by rw [h0, h1]))

theorem fox_value : algebraic_FoxIdeal_FoxRefIdeal_pre_fox_finite (hFoxIdeal := FoxIdeal.Gen.facts) (hFoxRefIdeal := FoxRefIdeal.Gen.facts)
    (hPre_fox_finite := Pre_fox_finite.Gen.facts) := by
  intro m g m' g' hpre hargs
  refine ⟨_, _, _, _, _, FoxIdeal.Val.run (hPre := Pre_fox_finite.Gen.facts) (m := m) g hpre, ?_⟩
  refine (θ_run _ _ _).mono (fun r h c => ?_) (FoxRefIdeal.Value.run m' g')
  obtain ⟨h0, h1, h2, h3, h4⟩ := hargs c
  obtain ⟨r0, r1, r2, r3, r4, ra⟩ := h c
  refine ⟨?_, ?_, ?_, ?_, ?_, ra⟩
  · exact r0.trans ((FoxRefIdeal.Read.val_main_v92_eq _ _).trans (by rw [h1, h2, h3, h4]))
  · exact r1.trans ((FoxRefIdeal.Read.val_main_v93_eq _ _).trans (by rw [h0, h1, h2, h3, h4]))
  · exact r2.trans ((FoxRefIdeal.Read.val_main_v89_eq _ _).trans (by rw [h0, h1, h2, h3, h4]))
  · exact r3.trans ((FoxRefIdeal.Read.val_main_v87_eq _ _).trans (by rw [h0, h1, h2, h4]))
  · exact r4.trans ((FoxRefIdeal.Read.val_main_v95_eq _ _).trans (by rw [h0, h1, h2, h3, h4]))

theorem head_value : algebraic_HeadIdeal_HeadRefIdeal (hHeadIdeal := HeadIdeal.Gen.facts) (hHeadRefIdeal := HeadRefIdeal.Gen.facts) := by
  intro m g m' g' _ hargs
  refine ⟨_, _, HeadIdeal.Val.run m g, ?_⟩
  refine (θ_run _ _ _).mono (fun r h c => ?_) (HeadRefIdeal.Value.run m' g')
  obtain ⟨h0, h1⟩ := hargs c
  obtain ⟨r0, r1, ra⟩ := h c
  refine ⟨?_, ?_, ra⟩
  · exact r0.trans ((HeadRefIdeal.Read.val_main_v8_eq _ _).trans (by rw [h0, h1]))
  · exact r1.trans ((HeadRefIdeal.Read.val_main_v14_eq _ _).trans (by rw [h0, h1]))

theorem outn_value : algebraic_OutNIdeal_OutNRefIdeal (hOutNIdeal := OutNIdeal.Gen.facts) (hOutNRefIdeal := OutNRefIdeal.Gen.facts) := by
  intro m g m' g' _ hargs
  refine ⟨_, _, _, _, OutNIdeal.Val.run m g, ?_⟩
  refine (θ_run _ _ _).mono (fun r h c => ?_) (OutNRefIdeal.Value.run m' g')
  obtain ⟨h0, h1, h2, h3, h4, h5⟩ := hargs c
  obtain ⟨r0, r1, r2, r3, ra⟩ := h c
  refine ⟨?_, ?_, ?_, ?_, ra⟩
  · exact r0.trans ((OutNRefIdeal.Read.val_main_v96_eq _ _).trans (by rw [h0, h1, h2, h5]))
  · exact r1.trans ((OutNRefIdeal.Read.val_main_v82_eq _ _).trans (by rw [h0, h1, h3, h5]))
  · exact r2.trans ((OutNRefIdeal.Read.val_main_v68_eq _ _).trans (by rw [h0, h1, h4, h5]))
  · exact r3.trans ((OutNRefIdeal.Read.val_main_v51_eq _ _ _ _ _).trans (by rw [h0, h1, h2, h3, h4]))

theorem nrm_value : algebraic_MixInIdeal_MixInRefIdeal (hMixInIdeal := MixInIdeal.Gen.facts) (hMixInRefIdeal := MixInRefIdeal.Gen.facts) := by
  intro m g m' g' _ hargs
  refine ⟨_, _, _, _, MixInIdeal.Val.run m g, ?_⟩
  refine (θ_run _ _ _).mono (fun r h c => ?_) (MixInRefIdeal.Value.run m' g')
  obtain ⟨h0, h1, h2, h3, h4, h5⟩ := hargs c
  obtain ⟨r0, r1, r2, r3, ra⟩ := h c
  refine ⟨?_, ?_, ?_, ?_, ra⟩
  · exact r0.trans ((MixInRefIdeal.Read.val_main_v61_eq _ _).trans (by rw [h0, h1, h2, h3, h4, h5]))
  · exact r1.trans ((MixInRefIdeal.Read.val_main_v45_eq _ _ _ _).trans (by rw [h0, h1, h2, h5]))
  · exact r2.trans ((MixInRefIdeal.Read.val_main_v39_eq _ _ _ _).trans (by rw [h0, h1, h2, h4]))
  · exact r3.trans ((MixInRefIdeal.Read.val_main_v33_eq _ _).trans (by rw [h0, h1]))

theorem ffup_value : algebraic_FfUpIdeal_FfUpRefIdeal (hFfUpIdeal := FfUpIdeal.Gen.facts) (hFfUpRefIdeal := FfUpRefIdeal.Gen.facts) := by
  intro m g m' g' _ hargs
  refine ⟨_, _, _, _, FfUpIdeal.Val.run m g, ?_⟩
  refine (θ_run _ _ _).mono (fun r h c => ?_) (FfUpRefIdeal.Value.run m' g')
  obtain ⟨h0, h1, h2, h3, h4, h5⟩ := hargs c
  obtain ⟨r0, r1, r2, r3, ra⟩ := h c
  refine ⟨?_, ?_, ?_, ?_, ra⟩
  · exact r0.trans ((FfUpRefIdeal.Read.val_main_v61_eq _ _).trans (by rw [h0, h1, h2, h3, h4, h5]))
  · exact r1.trans ((FfUpRefIdeal.Read.val_main_v45_eq _ _ _ _).trans (by rw [h0, h1, h2, h5]))
  · exact r2.trans ((FfUpRefIdeal.Read.val_main_v39_eq _ _ _ _).trans (by rw [h0, h1, h2, h4]))
  · exact r3.trans ((FfUpRefIdeal.Read.val_main_v33_eq _ _).trans (by rw [h0, h1]))

theorem act_value : algebraic_ActIdeal_ActRefIdeal_pre_act_finite (hActIdeal := ActIdeal.Gen.facts) (hActRefIdeal := ActRefIdeal.Gen.facts)
    (hPre_act_finite := Pre_act_finite.Gen.facts) := by
  intro m g m' g' hpre hargs
  refine ⟨_, _, ActIdeal.Val.run (hPre := Pre_act_finite.Gen.facts) m g hpre, ?_⟩
  refine (θ_run _ _ _).mono (fun r h c => ?_) (ActRefIdeal.Value.run m' g')
  obtain ⟨h0, h1, h2, h3⟩ := hargs c
  obtain ⟨r0, r1, ra⟩ := h c
  refine ⟨?_, ?_, ra⟩
  · exact r0.trans ((ActRefIdeal.Read.val_main_v9_eq _ _).trans (by rw [h1, h2]))
  · exact r1.trans ((ActRefIdeal.Read.val_main_v14_eq _ _ _ _).trans (by rw [h0, h1, h2, h3]))

theorem post_value : algebraic_PostIdeal_PostRefIdeal_pre_post_finite (hPostIdeal := PostIdeal.Gen.facts) (hPostRefIdeal := PostRefIdeal.Gen.facts)
    (hPre_post_finite := Pre_post_finite.Gen.facts) := by
  intro m g m' g' hpre hargs
  refine ⟨_, _, _, _, _, PostIdeal.Val.run (hPre := Pre_post_finite.Gen.facts) m g hpre, ?_⟩
  refine (θ_run _ _ _).mono (fun r h c => ?_) (PostRefIdeal.Value.run m' g')
  obtain ⟨h0, h1, h2, h3, h4, h5⟩ := hargs c
  obtain ⟨r0, r1, r2, r3, r4, ra⟩ := h c
  refine ⟨?_, ?_, ?_, ?_, ?_, ra⟩
  · exact r0.trans ((PostRefIdeal.Read.val_main_v103_eq _).trans (by exact congr (congr (congrArg _ h0) h3) h4))
  · exact r1.trans ((PostRefIdeal.Read.val_main_v104_eq _).trans (by exact congr (congr (congrArg _ h1) h3) h4))
  · exact r2.trans ((PostRefIdeal.Read.val_main_v105_eq _).trans (by exact congr (congr (congrArg _ h2) h3) h5))
  · exact r3.trans ((PostRefIdeal.Read.val_main_v87_eq _).trans (by exact congr (congr (congrArg _ h0) h1) h3))
  · exact r4.trans ((PostRefIdeal.Read.val_main_v55_eq _).trans (by exact congr (congr (congrArg _ h2) h3) h5))

theorem pre_value : algebraic_FoxPreIdeal_FoxPreRefIdeal_pre_pre_finite (hFoxPreIdeal := FoxPreIdeal.Gen.facts) (hFoxPreRefIdeal := FoxPreRefIdeal.Gen.facts)
    (hPre_pre_finite := Pre_pre_finite.Gen.facts) := by
  intro m g m' g' hpre hargs
  refine ⟨_, _, _, FoxPreIdeal.Val.run (hPre := Pre_pre_finite.Gen.facts) m g hpre, ?_⟩
  refine (θ_run _ _ _).mono (fun r h c => ?_) (FoxPreRefIdeal.Value.run m' g')
  obtain ⟨h0, h1, h2⟩ := hargs c
  obtain ⟨r0, r1, r2, ra⟩ := h c
  refine ⟨?_, ?_, ?_, ra⟩
  · exact r0.trans ((FoxPreRefIdeal.Read.val_main_v43_eq _ _).trans (by rw [h0, h1]))
  · exact r1.trans ((FoxPreRefIdeal.Read.val_main_v45_eq _ _).trans (by rw [h0, h1]))
  · exact r2.trans ((FoxPreRefIdeal.Read.val_main_v47_eq _ _).trans (by rw [h0, h2]))

theorem nm0_value : algebraic_NormModIdeal_NormModRefIdeal (hNormModIdeal := NormModIdeal.Gen.facts) (hNormModRefIdeal := NormModRefIdeal.Gen.facts) := by
  intro m g m' g' _ hargs
  refine ⟨_, NormModIdeal.Val.run m g, ?_⟩
  refine (θ_run _ _ _).mono (fun r h c => ?_) (NormModRefIdeal.Value.run m' g')
  obtain ⟨h0, h1, h2, h3⟩ := hargs c
  obtain ⟨r0, ra⟩ := h c
  refine ⟨?_, ra⟩
  · exact r0.trans ((NormModRefIdeal.Read.val_main_v23_eq _ _ _ _).trans (by rw [h0, h1, h2, h3]))

theorem outf_value : algebraic_OutNormIdeal_OutNormRefIdeal (hOutNormIdeal := OutNormIdeal.Gen.facts) (hOutNormRefIdeal := OutNormRefIdeal.Gen.facts) := by
  intro m g m' g' _ hargs
  refine ⟨_, OutNormIdeal.Val.run m g, ?_⟩
  refine (θ_run _ _ _).mono (fun r h c => ?_) (OutNormRefIdeal.Value.run m' g')
  obtain ⟨h0, h1, h2, h3⟩ := hargs c
  obtain ⟨r0, ra⟩ := h c
  refine ⟨?_, ra⟩
  · exact r0.trans ((OutNormRefIdeal.Read.val_main_v34_eq _ _ _ _).trans (by rw [h0, h1, h2, h3]))

theorem mixo_value : algebraic_MixOutIdeal_MixOutRefIdeal (hMixOutIdeal := MixOutIdeal.Gen.facts) (hMixOutRefIdeal := MixOutRefIdeal.Gen.facts) := by
  intro m g m' g' _ hargs
  refine ⟨_, _, _, MixOutIdeal.Val.run m g, ?_⟩
  refine (θ_run _ _ _).mono (fun r h c => ?_) (MixOutRefIdeal.Value.run m' g')
  obtain ⟨h0, h1, h2, h3, h4, h5, h6⟩ := hargs c
  obtain ⟨r0, r1, r2, ra⟩ := h c
  refine ⟨?_, ?_, ?_, ra⟩
  · exact r0.trans ((MixOutRefIdeal.Read.val_main_v31_eq _ _ _ _).trans (by rw [h0, h1, h2, h3]))
  · exact r1.trans ((MixOutRefIdeal.Read.val_main_v32_eq _ _).trans (by rw [h0, h1]))
  · exact r2.trans ((MixOutRefIdeal.Read.val_main_v34_eq _ _ _ _ _ _ _).trans (by rw [h0, h1, h2, h3, h4, h5, h6]))

theorem ffdn_value : algebraic_FfDownIdeal_FfDownRefIdeal (hFfDownIdeal := FfDownIdeal.Gen.facts) (hFfDownRefIdeal := FfDownRefIdeal.Gen.facts) := by
  intro m g m' g' _ hargs
  refine ⟨_, _, _, FfDownIdeal.Val.run m g, ?_⟩
  refine (θ_run _ _ _).mono (fun r h c => ?_) (FfDownRefIdeal.Value.run m' g')
  obtain ⟨h0, h1, h2, h3, h4, h5, h6⟩ := hargs c
  obtain ⟨r0, r1, r2, ra⟩ := h c
  refine ⟨?_, ?_, ?_, ra⟩
  · exact r0.trans ((FfDownRefIdeal.Read.val_main_v33_eq _ _ _ _).trans (by rw [h0, h1, h2, h3]))
  · exact r1.trans ((FfDownRefIdeal.Read.val_main_v34_eq _ _).trans (by rw [h0, h1]))
  · exact r2.trans ((FfDownRefIdeal.Read.val_main_v36_eq _ _ _ _ _ _ _).trans (by rw [h0, h1, h2, h3, h4, h5, h6]))

theorem adam_value : algebraic_AdamIdeal_AdamRefIdeal (hAdamIdeal := AdamIdeal.Gen.facts) (hAdamRefIdeal := AdamRefIdeal.Gen.facts) := by
  intro m g m' g' _ hargs
  refine ⟨_, _, _, _, AdamIdeal.Val.run m g, ?_⟩
  refine (θ_run _ _ _).mono (fun r h c => ?_) (AdamRefIdeal.Value.run m' g')
  obtain ⟨h0, h1, h2, h3⟩ := hargs c
  obtain ⟨r0, r1, r2, r3, ra⟩ := h c
  refine ⟨?_, ?_, ?_, ?_, ra⟩
  · exact r0.trans ((AdamRefIdeal.Read.val_main_v1_eq _).trans (by rw [h0]))
  · exact r1.trans ((AdamRefIdeal.Read.val_main_v25_eq _ _ _ _).trans (by rw [h0, h1, h2, h3]))
  · exact r2.trans ((AdamRefIdeal.Read.val_main_v6_eq _ _).trans (by rw [h0, h2]))
  · exact r3.trans ((AdamRefIdeal.Read.val_main_v12_eq _ _).trans (by rw [h0, h3]))

theorem sump_value : algebraic_SumsIdeal_SumsRefIdeal (hSumsIdeal := SumsIdeal.Gen.facts) (hSumsRefIdeal := SumsRefIdeal.Gen.facts) := by
  intro m g m' g' _ hargs
  refine ⟨_, SumsIdeal.Val.run m g, ?_⟩
  refine (θ_run _ _ _).mono (fun r h c => ?_) (SumsRefIdeal.Value.run m' g')
  have h0 := hargs c
  obtain ⟨r0, ra⟩ := h c
  refine ⟨?_, ra⟩
  · exact r0.trans ((SumsRefIdeal.Read.val_main_v0_eq _).trans (by rw [h0]))

theorem dwup_value : algebraic_DwupIdeal_DwupRefIdeal (hDwupIdeal := DwupIdeal.Gen.facts) (hDwupRefIdeal := DwupRefIdeal.Gen.facts) := by
  intro m g m' g' _ hargs
  refine ⟨_, DwupIdeal.Val.run m g, ?_⟩
  refine (θ_run _ _ _).mono (fun r h c => ?_) (DwupRefIdeal.Value.run m' g')
  obtain ⟨h0, h1⟩ := hargs c
  obtain ⟨r0, ra⟩ := h c
  refine ⟨?_, ra⟩
  · exact r0.trans ((DwupRefIdeal.Read.val_main_v2_eq _ _).trans (by rw [h0, h1]))

theorem claim : Claim := ⟨ResBwd.Gen.facts, ResBwdIdeal.Gen.facts, ResRefIdeal.Gen.facts, Sb.Gen.facts, SbIdeal.Gen.facts, SbRefIdeal.Gen.facts, Fox.Gen.facts, FoxIdeal.Gen.facts, FoxRefIdeal.Gen.facts, Head.Gen.facts, HeadIdeal.Gen.facts, HeadRefIdeal.Gen.facts, OutN.Gen.facts, OutNIdeal.Gen.facts, OutNRefIdeal.Gen.facts, MixIn.Gen.facts, MixInIdeal.Gen.facts, MixInRefIdeal.Gen.facts, FfUp.Gen.facts, FfUpIdeal.Gen.facts, FfUpRefIdeal.Gen.facts, Act.Gen.facts, ActIdeal.Gen.facts, ActRefIdeal.Gen.facts, Post.Gen.facts, PostIdeal.Gen.facts, PostRefIdeal.Gen.facts, FoxPre.Gen.facts, FoxPreIdeal.Gen.facts, FoxPreRefIdeal.Gen.facts, NormMod.Gen.facts, NormModIdeal.Gen.facts, NormModRefIdeal.Gen.facts, OutNorm.Gen.facts, OutNormIdeal.Gen.facts, OutNormRefIdeal.Gen.facts, MixOut.Gen.facts, MixOutIdeal.Gen.facts, MixOutRefIdeal.Gen.facts, FfDown.Gen.facts, FfDownIdeal.Gen.facts, FfDownRefIdeal.Gen.facts, Adam.Gen.facts, AdamIdeal.Gen.facts, AdamRefIdeal.Gen.facts, Sums.Gen.facts, SumsIdeal.Gen.facts, SumsRefIdeal.Gen.facts, Dwup.Gen.facts, DwupIdeal.Gen.facts, DwupRefIdeal.Gen.facts, Pre_sb_finite.Gen.facts, Pre_fox_finite.Gen.facts, Pre_act_finite.Gen.facts, Pre_post_finite.Gen.facts, Pre_pre_finite.Gen.facts,
  fun m g _ => ResBwd.Gen.frame m g,
  fun m g _ => ResBwdIdeal.Gen.frame m g,
  fun m g _ => (θ_run _ _ _).mono (fun r h => ⟨fun c => (h c).2.2, sem_eq_zero_of_no_sems (by decide) r.2⟩) (ResRefIdeal.Value.run m g),
  fun m g _ => Sb.Gen.frame m g,
  fun m g _ => SbIdeal.Gen.frame m g,
  fun m g _ => SbIdeal.Gen.frame m g,
  fun m g _ => (θ_run _ _ _).mono (fun r h => ⟨fun c => (h c).2.2.2.2, sem_eq_zero_of_no_sems (by decide) r.2⟩) (SbRefIdeal.Value.run m g),
  fun m g _ => (θ_run _ _ _).mono (fun r h => ⟨fun c => (h c).2.2.2.2, sem_eq_zero_of_no_sems (by decide) r.2⟩) (SbRefIdeal.Value.run m g),
  fun m g _ => Fox.Gen.frame m g,
  fun m g _ => FoxIdeal.Gen.frame m g,
  fun m g _ => FoxIdeal.Gen.frame m g,
  fun m g _ => (θ_run _ _ _).mono (fun r h => ⟨fun c => (h c).2.2.2.2.2, sem_eq_zero_of_no_sems (by decide) r.2⟩) (FoxRefIdeal.Value.run m g),
  fun m g _ => (θ_run _ _ _).mono (fun r h => ⟨fun c => (h c).2.2.2.2.2, sem_eq_zero_of_no_sems (by decide) r.2⟩) (FoxRefIdeal.Value.run m g),
  fun m g _ => Head.Gen.frame m g,
  fun m g _ => HeadIdeal.Gen.frame m g,
  fun m g _ => (θ_run _ _ _).mono (fun r h => ⟨fun c => (h c).2.2, sem_eq_zero_of_no_sems (by decide) r.2⟩) (HeadRefIdeal.Value.run m g),
  fun m g _ => OutN.Gen.frame m g,
  fun m g _ => OutNIdeal.Gen.frame m g,
  fun m g _ => (θ_run _ _ _).mono (fun r h => ⟨fun c => (h c).2.2.2.2, sem_eq_zero_of_no_sems (by decide) r.2⟩) (OutNRefIdeal.Value.run m g),
  fun m g _ => MixIn.Gen.frame m g,
  fun m g _ => MixInIdeal.Gen.frame m g,
  fun m g _ => (θ_run _ _ _).mono (fun r h => ⟨fun c => (h c).2.2.2.2, sem_eq_zero_of_no_sems (by decide) r.2⟩) (MixInRefIdeal.Value.run m g),
  fun m g _ => FfUp.Gen.frame m g,
  fun m g _ => FfUpIdeal.Gen.frame m g,
  fun m g _ => (θ_run _ _ _).mono (fun r h => ⟨fun c => (h c).2.2.2.2, sem_eq_zero_of_no_sems (by decide) r.2⟩) (FfUpRefIdeal.Value.run m g),
  fun m g _ => Act.Gen.frame m g,
  fun m g _ => ActIdeal.Gen.frame m g,
  fun m g _ => ActIdeal.Gen.frame m g,
  fun m g _ => (θ_run _ _ _).mono (fun r h => ⟨fun c => (h c).2.2, sem_eq_zero_of_no_sems (by decide) r.2⟩) (ActRefIdeal.Value.run m g),
  fun m g _ => (θ_run _ _ _).mono (fun r h => ⟨fun c => (h c).2.2, sem_eq_zero_of_no_sems (by decide) r.2⟩) (ActRefIdeal.Value.run m g),
  fun m g _ => Post.Gen.frame m g,
  fun m g _ => PostIdeal.Gen.frame m g,
  fun m g _ => PostIdeal.Gen.frame m g,
  fun m g _ => (θ_run _ _ _).mono (fun r h => ⟨fun c => (h c).2.2.2.2.2, sem_eq_zero_of_no_sems (by decide) r.2⟩) (PostRefIdeal.Value.run m g),
  fun m g _ => (θ_run _ _ _).mono (fun r h => ⟨fun c => (h c).2.2.2.2.2, sem_eq_zero_of_no_sems (by decide) r.2⟩) (PostRefIdeal.Value.run m g),
  fun m g _ => FoxPre.Gen.frame m g,
  fun m g _ => FoxPreIdeal.Gen.frame m g,
  fun m g _ => FoxPreIdeal.Gen.frame m g,
  fun m g _ => (θ_run _ _ _).mono (fun r h => ⟨fun c => (h c).2.2.2, sem_eq_zero_of_no_sems (by decide) r.2⟩) (FoxPreRefIdeal.Value.run m g),
  fun m g _ => (θ_run _ _ _).mono (fun r h => ⟨fun c => (h c).2.2.2, sem_eq_zero_of_no_sems (by decide) r.2⟩) (FoxPreRefIdeal.Value.run m g),
  fun m g _ => NormMod.Gen.frame m g,
  fun m g _ => NormModIdeal.Gen.frame m g,
  fun m g _ => (θ_run _ _ _).mono (fun r h => ⟨fun c => (h c).2, sem_eq_zero_of_no_sems (by decide) r.2⟩) (NormModRefIdeal.Value.run m g),
  fun m g _ => OutNorm.Gen.frame m g,
  fun m g _ => OutNormIdeal.Gen.frame m g,
  fun m g _ => (θ_run _ _ _).mono (fun r h => ⟨fun c => (h c).2, sem_eq_zero_of_no_sems (by decide) r.2⟩) (OutNormRefIdeal.Value.run m g),
  fun m g _ => MixOut.Gen.frame m g,
  fun m g _ => MixOutIdeal.Gen.frame m g,
  fun m g _ => (θ_run _ _ _).mono (fun r h => ⟨fun c => (h c).2.2.2, sem_eq_zero_of_no_sems (by decide) r.2⟩) (MixOutRefIdeal.Value.run m g),
  fun m g _ => FfDown.Gen.frame m g,
  fun m g _ => FfDownIdeal.Gen.frame m g,
  fun m g _ => (θ_run _ _ _).mono (fun r h => ⟨fun c => (h c).2.2.2, sem_eq_zero_of_no_sems (by decide) r.2⟩) (FfDownRefIdeal.Value.run m g),
  fun m g _ => Adam.Gen.frame m g,
  fun m g _ => AdamIdeal.Gen.frame m g,
  fun m g _ => (θ_run _ _ _).mono (fun r h => ⟨fun c => (h c).2.2.2.2, sem_eq_zero_of_no_sems (by decide) r.2⟩) (AdamRefIdeal.Value.run m g),
  fun m g _ => Sums.Gen.frame m g,
  fun m g _ => SumsIdeal.Gen.frame m g,
  fun m g _ => (θ_run _ _ _).mono (fun r h => ⟨fun c => (h c).2, sem_eq_zero_of_no_sems (by decide) r.2⟩) (SumsRefIdeal.Value.run m g),
  fun m g _ => Dwup.Gen.frame m g,
  fun m g _ => DwupIdeal.Gen.frame m g,
  fun m g _ => (θ_run _ _ _).mono (fun r h => ⟨fun c => (h c).2, sem_eq_zero_of_no_sems (by decide) r.2⟩) (DwupRefIdeal.Value.run m g),
  trivial, res_value, trivial, sb_value, IdealRules.named_const.statement FoxIdeal.κ "no_key" .f32 0xF149F2CA#32 ⊥ rfl, fox_value, trivial, head_value, trivial, outn_value, trivial, nrm_value, trivial, ffup_value, trivial, act_value, trivial, post_value, trivial, pre_value, trivial, nm0_value, trivial, outf_value, trivial, mixo_value, trivial, ffdn_value, trivial, adam_value, trivial, sump_value, trivial, dwup_value⟩

end Cert.Proof

end
